-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lse_finite [hPre_lse_finite : Cert.Pre_lse_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lse_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_lse_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lse_finite [hPre_lse_finite : Cert.Pre_lse_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lse_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_lse_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_lse_finite [hKernelIdeal : Cert.KernelIdeal.Facts] [hPre_lse_finite : Cert.Pre_lse_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lse_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_lse_finite [hReferenceIdeal : Cert.ReferenceIdeal.Facts] [hPre_lse_finite : Cert.Pre_lse_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lse_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "neg_inv_sm" .f32 0xC15DB3D7#32 ((-(Real.sqrt 192) : ℝ) : EReal)
  ∧ IdealRules.named_const.Statement Cert.KernelIdeal.κ "sm_log2e" .f32 0x3DD53B95#32 (((Real.sqrt 192)⁻¹ * (Real.log 2)⁻¹ : ℝ) : EReal)
  ∧ IdealRules.named_const.Statement Cert.KernelIdeal.κ "sm" .f32 0x3D93CD3A#32 (((Real.sqrt 192)⁻¹ : ℝ) : EReal)

def algebraic_KernelIdeal_ReferenceIdeal_pre_lse_finite [hKernelIdeal : Cert.KernelIdeal.Facts] [hReferenceIdeal : Cert.ReferenceIdeal.Facts] [hPre_lse_finite : Cert.Pre_lse_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lse_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_lse_finite : Cert.Pre_lse_finite.Facts),
    quiescent_Kernel (hKernel := hKernel)
    ∧ quiescent_KernelIdeal (hKernelIdeal := hKernelIdeal)
    ∧ quiescent_KernelIdeal_pre_lse_finite (hKernelIdeal := hKernelIdeal) (hPre_lse_finite := hPre_lse_finite)
    ∧ quiescent_ReferenceIdeal (hReferenceIdeal := hReferenceIdeal)
    ∧ quiescent_ReferenceIdeal_pre_lse_finite (hReferenceIdeal := hReferenceIdeal) (hPre_lse_finite := hPre_lse_finite)
    ∧ preserves_Kernel_KernelIdeal
    ∧ algebraic_KernelIdeal_ReferenceIdeal_pre_lse_finite (hKernelIdeal := hKernelIdeal) (hReferenceIdeal := hReferenceIdeal) (hPre_lse_finite := hPre_lse_finite)
-- ==== Pre_lse_finite.lean ====
abbrev S8x12288x512 : Shape := ⟨3, ![8, 12288, 512]⟩
abbrev S8x12288x64 : Shape := ⟨3, ![8, 12288, 64]⟩
abbrev S8x12x1x1024 : Shape := ⟨4, ![8, 12, 1, 1024]⟩
abbrev S8x12800x512 : Shape := ⟨3, ![8, 12800, 512]⟩
abbrev S8x576x12800 : Shape := ⟨3, ![8, 576, 12800]⟩
abbrev S8x12800x128 : Shape := ⟨3, ![8, 12800, 128]⟩
abbrev S8x3x12800x128 : Shape := ⟨4, ![8, 3, 12800, 128]⟩
abbrev S_ : Shape := ⟨0, ![]⟩
abbrev S8x12800x1 : Shape := ⟨3, ![8, 12800, 1]⟩

class Facts : Prop where
  bcast_S_S8x12x1x1024 : S_.BroadcastsInDim S8x12x1x1024 (![] : Fin 0 → Fin S8x12x1x1024.rank)
  slices_S8x12800x128_S8x12800x1_0_0_64 : S8x12800x128.Slices ![0, 0, 64] S8x12800x1
  bcast_S_S8x12800x1 : S_.BroadcastsInDim S8x12800x1 (![] : Fin 0 → Fin S8x12800x1.rank)

variable [Facts]

def fn {F : FTy → Type} [FloatOps F] (main_arg0 : FVec F S8x12288x512 .bf16) (main_arg1 : FVec F S8x12288x64 .bf16) (main_arg2 : FVec F S8x12288x512 .bf16) (main_arg3 : FVec F S8x12288x512 .fp8e5m2) (main_arg4 : FVec F S8x12x1x1024 .f32) (main_arg5 : FVec F S8x12x1x1024 .f32) (main_arg6 : FVec F S8x12800x512 .bf16) (main_arg7 : FVec F S8x576x12800 .bf16) (main_arg8 : FVec F S8x12800x128 .bf16) (main_arg9 : FVec F S8x3x12800x128 .bf16) : IVec S8x12x1x1024 1 × IVec S8x12800x1 1 :=
  let main_v0 : FVec F S8x12x1x1024 .f32 := Host.absf main_arg5
  let main_cst : FVec F S_ .f32 := constant S_ .f32 0x7F800000#32
  let main_v1 : FVec F S8x12x1x1024 .f32 := broadcastInDim S8x12x1x1024 ![] bcast_S_S8x12x1x1024 main_cst
  let main_v2 : IVec S8x12x1x1024 1 := cmpf .olt main_v0 main_v1
  let main_v3 : FVec F S8x12800x1 .bf16 := (extractStridedSlice S8x12800x1 ![0, 0, 64] · slices_S8x12800x128_S8x12800x1_0_0_64) main_arg8
  let main_cst_0 : FVec F S_ .bf16 := constant S_ .bf16 0x3F80#16
  let main_v4 : FVec F S8x12800x1 .bf16 := broadcastInDim S8x12800x1 ![] bcast_S_S8x12800x1 main_cst_0
  let main_v5 : IVec S8x12800x1 1 := cmpf .oeq main_v3 main_v4
  (main_v2, main_v5)
-- ==== Kernel.lean ====
abbrev S8x12288x512 : Shape := ⟨3, ![8, 12288, 512]⟩
abbrev S8x12288x64 : Shape := ⟨3, ![8, 12288, 64]⟩
abbrev S8x12x1x1024 : Shape := ⟨4, ![8, 12, 1, 1024]⟩
abbrev S8x12800x512 : Shape := ⟨3, ![8, 12800, 512]⟩
abbrev S8x576x12800 : Shape := ⟨3, ![8, 576, 12800]⟩
abbrev S8x12800x128 : Shape := ⟨3, ![8, 12800, 128]⟩
abbrev S8x3x12800x128 : Shape := ⟨4, ![8, 3, 12800, 128]⟩
abbrev S8x12672x512 : Shape := ⟨3, ![8, 12672, 512]⟩
abbrev S8x64x12672 : Shape := ⟨3, ![8, 64, 12672]⟩
abbrev S1x1024x512 : Shape := ⟨3, ![1, 1024, 512]⟩
abbrev S1x1024x64 : Shape := ⟨3, ![1, 1024, 64]⟩
abbrev S1x1x1x1024 : Shape := ⟨4, ![1, 1, 1, 1024]⟩
abbrev S1x512x512 : Shape := ⟨3, ![1, 512, 512]⟩
abbrev S1x512x128 : Shape := ⟨3, ![1, 512, 128]⟩
abbrev S1x1x512x128 : Shape := ⟨4, ![1, 1, 512, 128]⟩
abbrev S1x576x256 : Shape := ⟨3, ![1, 576, 256]⟩
abbrev S768x1024 : Shape := ⟨2, ![768, 1024]⟩
abbrev S512x1024 : Shape := ⟨2, ![512, 1024]⟩
abbrev S1024x512 : Shape := ⟨2, ![1024, 512]⟩
abbrev S8x1024 : Shape := ⟨2, ![8, 1024]⟩
abbrev S256x1024 : Shape := ⟨2, ![256, 1024]⟩
abbrev S576x1024 : Shape := ⟨2, ![576, 1024]⟩
abbrev S12800x512 : Shape := ⟨2, ![12800, 512]⟩
abbrev S64x12800 : Shape := ⟨2, ![64, 12800]⟩
abbrev S25 : Shape := ⟨1, ![25]⟩
abbrev S1 : Shape := ⟨1, ![1]⟩
abbrev S_ : Shape := ⟨0, ![]⟩
abbrev S512x512 : Shape := ⟨2, ![512, 512]⟩
abbrev S1x64x512 : Shape := ⟨3, ![1, 64, 512]⟩
abbrev S64x512 : Shape := ⟨2, ![64, 512]⟩
abbrev S1x384x512 : Shape := ⟨3, ![1, 384, 512]⟩
abbrev S384x512 : Shape := ⟨2, ![384, 512]⟩
abbrev S1x64x384 : Shape := ⟨3, ![1, 64, 384]⟩
abbrev S64x384 : Shape := ⟨2, ![64, 384]⟩
abbrev S1024x64 : Shape := ⟨2, ![1024, 64]⟩
abbrev S64x1024 : Shape := ⟨2, ![64, 1024]⟩
abbrev S1x1024 : Shape := ⟨2, ![1, 1024]⟩
abbrev S16x1024 : Shape := ⟨2, ![16, 1024]⟩
abbrev S48x1024 : Shape := ⟨2, ![48, 1024]⟩
abbrev S128x1024 : Shape := ⟨2, ![128, 1024]⟩
abbrev S1024x8 : Shape := ⟨2, ![1024, 8]⟩
abbrev S1024x1 : Shape := ⟨2, ![1024, 1]⟩
abbrev S1024 : Shape := ⟨1, ![1024]⟩
abbrev S1x256x512 : Shape := ⟨3, ![1, 256, 512]⟩
abbrev S256x512 : Shape := ⟨2, ![256, 512]⟩
abbrev S1x256x128 : Shape := ⟨3, ![1, 256, 128]⟩
abbrev S256x128 : Shape := ⟨2, ![256, 128]⟩
abbrev S1x1x256x128 : Shape := ⟨4, ![1, 1, 256, 128]⟩
abbrev S256x768 : Shape := ⟨2, ![256, 768]⟩
abbrev S576x256 : Shape := ⟨2, ![576, 256]⟩
abbrev S64x256 : Shape := ⟨2, ![64, 256]⟩

abbrev nBuf : Space → Nat
  | .hbm => 14
  | .vmem => 38
  | .smem => 0
  | _ => 0

abbrev bufTy : (tb : Table) → Fin (tcTables nBuf tb) → BufTy
  | .hbm, ⟨0, _⟩ => ⟨S8x12288x512, .bf16⟩
  | .hbm, ⟨1, _⟩ => ⟨S8x12288x64, .bf16⟩
  | .hbm, ⟨2, _⟩ => ⟨S8x12288x512, .bf16⟩
  | .hbm, ⟨3, _⟩ => ⟨S8x12288x512, .fp8e5m2⟩
  | .hbm, ⟨4, _⟩ => ⟨S8x12x1x1024, .f32⟩
  | .hbm, ⟨5, _⟩ => ⟨S8x12x1x1024, .f32⟩
  | .hbm, ⟨6, _⟩ => ⟨S8x12800x512, .bf16⟩
  | .hbm, ⟨7, _⟩ => ⟨S8x576x12800, .bf16⟩
  | .hbm, ⟨8, _⟩ => ⟨S8x12800x128, .bf16⟩
  | .hbm, ⟨9, _⟩ => ⟨S8x3x12800x128, .bf16⟩
  | .hbm, ⟨10, _⟩ => ⟨S8x12288x512, .bf16⟩
  | .hbm, ⟨11, _⟩ => ⟨S8x12288x64, .bf16⟩
  | .hbm, ⟨12, _⟩ => ⟨S8x12672x512, .f32⟩
  | .hbm, ⟨13, _⟩ => ⟨S8x64x12672, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .fp8e5m2⟩
  | .local _ .vmem, ⟨7, _⟩ => ⟨S1x1024x512, .fp8e5m2⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x512x512, .bf16⟩
  | .local _ .vmem, ⟨13, _⟩ => ⟨S1x512x512, .bf16⟩
  | .local _ .vmem, ⟨14, _⟩ => ⟨S1x512x128, .bf16⟩
  | .local _ .vmem, ⟨15, _⟩ => ⟨S1x512x128, .bf16⟩
  | .local _ .vmem, ⟨16, _⟩ => ⟨S1x1x512x128, .bf16⟩
  | .local _ .vmem, ⟨17, _⟩ => ⟨S1x1x512x128, .bf16⟩
  | .local _ .vmem, ⟨18, _⟩ => ⟨S1x576x256, .bf16⟩
  | .local _ .vmem, ⟨19, _⟩ => ⟨S1x576x256, .bf16⟩
  | .local _ .vmem, ⟨20, _⟩ => ⟨S1x576x256, .bf16⟩
  | .local _ .vmem, ⟨21, _⟩ => ⟨S1x576x256, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x64, .bf16⟩
  | .local _ .vmem, ⟨25, _⟩ => ⟨S1x1024x64, .bf16⟩
  | .local _ .vmem, ⟨26, _⟩ => ⟨S768x1024, .bf16⟩
  | .local _ .vmem, ⟨27, _⟩ => ⟨S512x1024, .bf16⟩
  | .local _ .vmem, ⟨28, _⟩ => ⟨S1024x512, .bf16⟩
  | .local _ .vmem, ⟨29, _⟩ => ⟨S1024x512, .bf16⟩
  | .local _ .vmem, ⟨30, _⟩ => ⟨S8x1024, .f32⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S576x1024, .f32⟩
  | .local _ .vmem, ⟨36, _⟩ => ⟨S12800x512, .f32⟩
  | .local _ .vmem, ⟨37, _⟩ => ⟨S64x12800, .f32⟩
  | _, _ => ⟨S8x12288x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 12, 26], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c25_i32 : BitVec 32 := 25#32
  let v1 : BitVec 1 := Scalar.cmpi .slt arg2 c25_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c0_i32_14 : BitVec 32 := 0#32
  let v28 : BitVec 1 := Scalar.cmpi .sgt arg0 c0_i32_14
  let arg2 : BitVec 32 := BitVec.ofNat 32 (i 2).val
  let c24_i32 : BitVec 32 := 24#32
  let v29 : BitVec 1 := Scalar.cmpi .slt arg2 c24_i32
  let v30 : BitVec 1 := Scalar.andi v28 v29
  let v31 : BitVec 32 := Scalar.extui v30
  let c0_i32_15 : BitVec 32 := 0#32
  let v32 : BitVec 1 := Scalar.cmpi .ne v31 c0_i32_15
  v32

def k0_mult1 (i : grid0.Coords) : BitVec 32 :=
  let arg2 : BitVec 32 := BitVec.ofNat 32 (i 2).val
  let c512_i32_21 : BitVec 32 := 512#32
  let v51 : BitVec 32 := Scalar.muli arg2 c512_i32_21
  v51
def k0_off1 (i : grid0.Coords) : Fin 1 → Nat :=
  let arg2 : BitVec 32 := BitVec.ofNat 32 (i 2).val
  ![arg2.toNat]
def k0_off2 (i : grid0.Coords) : Fin 3 → Nat :=
  let arg0 : BitVec 32 := BitVec.ofNat 32 (i 0).val
  let c1_i32 : BitVec 32 := 1#32
  let v50 : BitVec 32 := Scalar.subi arg0 c1_i32
  let arg2 : BitVec 32 := BitVec.ofNat 32 (i 2).val
  let c512_i32_21 : BitVec 32 := 512#32
  let v51 : BitVec 32 := Scalar.muli arg2 c512_i32_21
  let v52 : BitVec 32 := v51
  let c0_i32_22 : BitVec 32 := 0#32
  ![v50.toNat, v52.toNat, 0]
def k0_off3 (i : grid0.Coords) : Fin 2 → Nat :=
  let arg2 : BitVec 32 := BitVec.ofNat 32 (i 2).val
  let c512_i32_21 : BitVec 32 := 512#32
  let v51 : BitVec 32 := Scalar.muli arg2 c512_i32_21
  let v52 : BitVec 32 := v51
  let c0_i32_23 : BitVec 32 := 0#32
  ![v52.toNat, 0]
def k0_off4 (i : grid0.Coords) : Fin 3 → Nat :=
  let arg0 : BitVec 32 := BitVec.ofNat 32 (i 0).val
  let c1_i32 : BitVec 32 := 1#32
  let v50 : BitVec 32 := Scalar.subi arg0 c1_i32
  let c0_i32_24 : BitVec 32 := 0#32
  let arg2 : BitVec 32 := BitVec.ofNat 32 (i 2).val
  let c512_i32_21 : BitVec 32 := 512#32
  let v51 : BitVec 32 := Scalar.muli arg2 c512_i32_21
  let v52 : BitVec 32 := v51
  ![v50.toNat, 0, v52.toNat]
def k0_off5 (i : grid0.Coords) : Fin 2 → Nat :=
  let c0_i32_25 : BitVec 32 := 0#32
  let arg2 : BitVec 32 := BitVec.ofNat 32 (i 2).val
  let c512_i32_21 : BitVec 32 := 512#32
  let v51 : BitVec 32 := Scalar.muli arg2 c512_i32_21
  let v52 : BitVec 32 := v51
  ![0, v52.toNat]
def k0_cond3 (i : grid0.Coords) : BitVec 1 :=
  let arg0 : BitVec 32 := BitVec.ofNat 32 (i 0).val
  let c0_i32_16 : BitVec 32 := 0#32
  let v33 : BitVec 1 := Scalar.cmpi .sgt arg0 c0_i32_16
  let arg2 : BitVec 32 := BitVec.ofNat 32 (i 2).val
  let c24_i32_17 : BitVec 32 := 24#32
  let v34 : BitVec 1 := Scalar.cmpi .eq arg2 c24_i32_17
  let v35 : BitVec 1 := Scalar.andi v33 v34
  let v36 : BitVec 32 := Scalar.extui v35
  let c0_i32_18 : BitVec 32 := 0#32
  let v37 : BitVec 1 := Scalar.cmpi .ne v36 c0_i32_18
  v37

def k0_off6 (i : grid0.Coords) : Fin 3 → Nat :=
  let arg0 : BitVec 32 := BitVec.ofNat 32 (i 0).val
  let c1_i32 : BitVec 32 := 1#32
  let v50 : BitVec 32 := Scalar.subi arg0 c1_i32
  let c12288_i32 : BitVec 32 := 12288#32
  let c0_i32_22 : BitVec 32 := 0#32
  ![v50.toNat, 12288, 0]
def k0_off7 (i : grid0.Coords) : Fin 3 → Nat :=
  let arg0 : BitVec 32 := BitVec.ofNat 32 (i 0).val
  let c1_i32 : BitVec 32 := 1#32
  let v50 : BitVec 32 := Scalar.subi arg0 c1_i32
  let c0_i32_26 : BitVec 32 := 0#32
  let c12288_i32_27 : BitVec 32 := 12288#32
  ![v50.toNat, 0, 12288]
def k0_mult2 (i : grid0.Coords) : BitVec 32 :=
  let arg2 : BitVec 32 := BitVec.ofNat 32 (i 2).val
  let c512_i32 : BitVec 32 := 512#32
  let v38 : BitVec 32 := Scalar.muli arg2 c512_i32
  v38
def k0_off8 (i : grid0.Coords) : Fin 2 → Nat :=
  let arg2 : BitVec 32 := BitVec.ofNat 32 (i 2).val
  let c512_i32 : BitVec 32 := 512#32
  let v38 : BitVec 32 := Scalar.muli arg2 c512_i32
  let v39 : BitVec 32 := v38
  let v41 : Index := Scalar.indexCast v39
  let c0 : Index := 0#32
  ![v41.toNat, 0]
def k0_off9 (i : grid0.Coords) : Fin 2 → Nat :=
  let c0_20 : Index := 0#32
  let arg2 : BitVec 32 := BitVec.ofNat 32 (i 2).val
  let c512_i32 : BitVec 32 := 512#32
  let v38 : BitVec 32 := Scalar.muli arg2 c512_i32
  let v39 : BitVec 32 := v38
  let v46 : Index := Scalar.indexCast v39
  ![0, v46.toNat]
def k0_cond4 (i : grid0.Coords) : BitVec 1 :=
  let arg2 : BitVec 32 := BitVec.ofNat 32 (i 2).val
  let c0_i32_1 : BitVec 32 := 0#32
  let v5 : BitVec 1 := Scalar.cmpi .eq arg2 c0_i32_1
  let v6 : BitVec 32 := Scalar.extui v5
  let c0_i32_2 : BitVec 32 := 0#32
  let v7 : BitVec 1 := Scalar.cmpi .ne v6 c0_i32_2
  v7

def k0_mult3 : BitVec 32 :=
  let c0_i32_116 : BitVec 32 := 0#32
  c0_i32_116
def k0_cond5 (i : grid0.Coords) : BitVec 1 :=
  let arg2 : BitVec 32 := BitVec.ofNat 32 (i 2).val
  let c0_i32_3 : BitVec 32 := 0#32
  let v8 : BitVec 1 := Scalar.cmpi .sgt arg2 c0_i32_3
  let c25_i32_4 : BitVec 32 := 25#32
  let v9 : BitVec 1 := Scalar.cmpi .slt arg2 c25_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_mult4 (i : grid0.Coords) : BitVec 32 :=
  let arg2 : BitVec 32 := BitVec.ofNat 32 (i 2).val
  let c512_i32 : BitVec 32 := 512#32
  let v54 : BitVec 32 := Scalar.muli arg2 c512_i32
  let c256_i32 : BitVec 32 := 256#32
  let v55 : BitVec 32 := Scalar.subi v54 c256_i32
  v55
def k0_off10 (i : grid0.Coords) : Fin 2 → Nat :=
  let arg2 : BitVec 32 := BitVec.ofNat 32 (i 2).val
  let c512_i32 : BitVec 32 := 512#32
  let v54 : BitVec 32 := Scalar.muli arg2 c512_i32
  let c256_i32 : BitVec 32 := 256#32
  let v55 : BitVec 32 := Scalar.subi v54 c256_i32
  let v58 : BitVec 32 := v55
  let v67 : Index := Scalar.indexCast v58
  let c0_47 : Index := 0#32
  ![v67.toNat, 0]
def k0_off11 (i : grid0.Coords) : Fin 2 → Nat :=
  let c0_56 : Index := 0#32
  let arg2 : BitVec 32 := BitVec.ofNat 32 (i 2).val
  let c512_i32 : BitVec 32 := 512#32
  let v54 : BitVec 32 := Scalar.muli arg2 c512_i32
  let c256_i32 : BitVec 32 := 256#32
  let v55 : BitVec 32 := Scalar.subi v54 c256_i32
  let v58 : BitVec 32 := v55
  let v81 : Index := Scalar.indexCast v58
  ![0, v81.toNat]
def k0_mult5 (i : grid0.Coords) : BitVec 32 :=
  let arg2 : BitVec 32 := BitVec.ofNat 32 (i 2).val
  let c512_i32_83 : BitVec 32 := 512#32
  let v118 : BitVec 32 := Scalar.muli arg2 c512_i32_83
  v118
def k0_off12 (i : grid0.Coords) : Fin 2 → Nat :=
  let arg2 : BitVec 32 := BitVec.ofNat 32 (i 2).val
  let c512_i32_83 : BitVec 32 := 512#32
  let v118 : BitVec 32 := Scalar.muli arg2 c512_i32_83
  let v121 : BitVec 32 := v118
  let v130 : Index := Scalar.indexCast v121
  let c0_96 : Index := 0#32
  ![v130.toNat, 0]
def k0_off13 (i : grid0.Coords) : Fin 2 → Nat :=
  let c0_105 : Index := 0#32
  let arg2 : BitVec 32 := BitVec.ofNat 32 (i 2).val
  let c512_i32_83 : BitVec 32 := 512#32
  let v118 : BitVec 32 := Scalar.muli arg2 c512_i32_83
  let v121 : BitVec 32 := v118
  let v144 : Index := Scalar.indexCast v121
  ![0, v144.toNat]
def k0_cond6 (i : grid0.Coords) : BitVec 1 :=
  let arg2 : BitVec 32 := BitVec.ofNat 32 (i 2).val
  let c25_i32_6 : BitVec 32 := 25#32
  let v13 : BitVec 1 := Scalar.cmpi .eq arg2 c25_i32_6
  let v14 : BitVec 32 := Scalar.extui v13
  let c0_i32_7 : BitVec 32 := 0#32
  let v15 : BitVec 1 := Scalar.cmpi .ne v14 c0_i32_7
  v15

def k0_mult6 (i : grid0.Coords) : BitVec 32 :=
  let arg2 : BitVec 32 := BitVec.ofNat 32 (i 2).val
  let c512_i32 : BitVec 32 := 512#32
  let v28 : BitVec 32 := Scalar.muli arg2 c512_i32
  let c256_i32 : BitVec 32 := 256#32
  let v29 : BitVec 32 := Scalar.subi v28 c256_i32
  v29
def k0_off14 (i : grid0.Coords) : Fin 2 → Nat :=
  let arg2 : BitVec 32 := BitVec.ofNat 32 (i 2).val
  let c512_i32 : BitVec 32 := 512#32
  let v28 : BitVec 32 := Scalar.muli arg2 c512_i32
  let c256_i32 : BitVec 32 := 256#32
  let v29 : BitVec 32 := Scalar.subi v28 c256_i32
  let v32 : BitVec 32 := v29
  let v41 : Index := Scalar.indexCast v32
  let c0_24 : Index := 0#32
  ![v41.toNat, 0]
def k0_off15 (i : grid0.Coords) : Fin 2 → Nat :=
  let c0_33 : Index := 0#32
  let arg2 : BitVec 32 := BitVec.ofNat 32 (i 2).val
  let c512_i32 : BitVec 32 := 512#32
  let v28 : BitVec 32 := Scalar.muli arg2 c512_i32
  let c256_i32 : BitVec 32 := 256#32
  let v29 : BitVec 32 := Scalar.subi v28 c256_i32
  let v32 : BitVec 32 := v29
  let v55 : Index := Scalar.indexCast v32
  ![0, v55.toNat]
def k0_cond7 (i : grid0.Coords) : BitVec 1 :=
  let arg1 : BitVec 32 := BitVec.ofNat 32 (i 1).val
  let c11_i32 : BitVec 32 := 11#32
  let v16 : BitVec 1 := Scalar.cmpi .eq arg1 c11_i32
  let arg2 : BitVec 32 := BitVec.ofNat 32 (i 2).val
  let c0_i32_8 : BitVec 32 := 0#32
  let v17 : BitVec 1 := Scalar.cmpi .sgt arg2 c0_i32_8
  let v18 : BitVec 1 := Scalar.andi v16 v17
  let c25_i32_9 : BitVec 32 := 25#32
  let v19 : BitVec 1 := Scalar.cmpi .slt arg2 c25_i32_9
  let v20 : BitVec 1 := Scalar.andi v18 v19
  let v21 : BitVec 32 := Scalar.extui v20
  let c0_i32_10 : BitVec 32 := 0#32
  let v22 : BitVec 1 := Scalar.cmpi .ne v21 c0_i32_10
  v22

def k0_mult7 (i : grid0.Coords) : BitVec 32 :=
  let arg2 : BitVec 32 := BitVec.ofNat 32 (i 2).val
  let c1_i32 : BitVec 32 := 1#32
  let v28 : BitVec 32 := Scalar.subi arg2 c1_i32
  let c512_i32 : BitVec 32 := 512#32
  let v29 : BitVec 32 := Scalar.muli v28 c512_i32
  v29
def k0_off16 (i : grid0.Coords) : Fin 1 → Nat :=
  let arg2 : BitVec 32 := BitVec.ofNat 32 (i 2).val
  let c1_i32 : BitVec 32 := 1#32
  let v28 : BitVec 32 := Scalar.subi arg2 c1_i32
  ![v28.toNat]
def k0_off17 (i : grid0.Coords) : Fin 3 → Nat :=
  let arg0 : BitVec 32 := BitVec.ofNat 32 (i 0).val
  let arg2 : BitVec 32 := BitVec.ofNat 32 (i 2).val
  let c1_i32 : BitVec 32 := 1#32
  let v28 : BitVec 32 := Scalar.subi arg2 c1_i32
  let c512_i32 : BitVec 32 := 512#32
  let v29 : BitVec 32 := Scalar.muli v28 c512_i32
  let v30 : BitVec 32 := v29
  let c0_i32_14 : BitVec 32 := 0#32
  ![arg0.toNat, v30.toNat, 0]
def k0_off18 (i : grid0.Coords) : Fin 2 → Nat :=
  let arg2 : BitVec 32 := BitVec.ofNat 32 (i 2).val
  let c1_i32 : BitVec 32 := 1#32
  let v28 : BitVec 32 := Scalar.subi arg2 c1_i32
  let c512_i32 : BitVec 32 := 512#32
  let v29 : BitVec 32 := Scalar.muli v28 c512_i32
  let v30 : BitVec 32 := v29
  let c0_i32_15 : BitVec 32 := 0#32
  ![v30.toNat, 0]
def k0_off19 (i : grid0.Coords) : Fin 3 → Nat :=
  let arg0 : BitVec 32 := BitVec.ofNat 32 (i 0).val
  let c0_i32_16 : BitVec 32 := 0#32
  let arg2 : BitVec 32 := BitVec.ofNat 32 (i 2).val
  let c1_i32 : BitVec 32 := 1#32
  let v28 : BitVec 32 := Scalar.subi arg2 c1_i32
  let c512_i32 : BitVec 32 := 512#32
  let v29 : BitVec 32 := Scalar.muli v28 c512_i32
  let v30 : BitVec 32 := v29
  ![arg0.toNat, 0, v30.toNat]
def k0_off20 (i : grid0.Coords) : Fin 2 → Nat :=
  let c0_i32_17 : BitVec 32 := 0#32
  let arg2 : BitVec 32 := BitVec.ofNat 32 (i 2).val
  let c1_i32 : BitVec 32 := 1#32
  let v28 : BitVec 32 := Scalar.subi arg2 c1_i32
  let c512_i32 : BitVec 32 := 512#32
  let v29 : BitVec 32 := Scalar.muli v28 c512_i32
  let v30 : BitVec 32 := v29
  ![0, v30.toNat]
def k0_cond8 (i : grid0.Coords) : BitVec 1 :=
  let arg1 : BitVec 32 := BitVec.ofNat 32 (i 1).val
  let c11_i32_11 : BitVec 32 := 11#32
  let v23 : BitVec 1 := Scalar.cmpi .eq arg1 c11_i32_11
  let arg2 : BitVec 32 := BitVec.ofNat 32 (i 2).val
  let c25_i32_12 : BitVec 32 := 25#32
  let v24 : BitVec 1 := Scalar.cmpi .eq arg2 c25_i32_12
  let v25 : BitVec 1 := Scalar.andi v23 v24
  let v26 : BitVec 32 := Scalar.extui v25
  let c0_i32_13 : BitVec 32 := 0#32
  let v27 : BitVec 1 := Scalar.cmpi .ne v26 c0_i32_13
  v27

def k0_off21 (i : grid0.Coords) : Fin 3 → Nat :=
  let arg0 : BitVec 32 := BitVec.ofNat 32 (i 0).val
  let c12288_i32 : BitVec 32 := 12288#32
  let c0_i32_14 : BitVec 32 := 0#32
  ![arg0.toNat, 12288, 0]
def k0_off22 (i : grid0.Coords) : Fin 3 → Nat :=
  let arg0 : BitVec 32 := BitVec.ofNat 32 (i 0).val
  let c0_i32_18 : BitVec 32 := 0#32
  let c12288_i32_19 : BitVec 32 := 12288#32
  ![arg0.toNat, 0, 12288]
def k0_cond9 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_22 : BitVec 32 := 0#32
  let v40 : BitVec 1 := Scalar.cmpi .ne v39 c0_i32_22
  v40

def k0_off23 (i : grid0.Coords) : Fin 3 → Nat :=
  let arg0 : BitVec 32 := BitVec.ofNat 32 (i 0).val
  let c0_i32_24 : BitVec 32 := 0#32
  let c0_i32_25 : BitVec 32 := 0#32
  ![arg0.toNat, 0, 0]
def k0_off24 (i : grid0.Coords) : Fin 3 → Nat :=
  let arg0 : BitVec 32 := BitVec.ofNat 32 (i 0).val
  let c0_i32_29 : BitVec 32 := 0#32
  let c0_i32_30 : BitVec 32 := 0#32
  ![arg0.toNat, 0, 0]
def k0_off25 (i : grid0.Coords) : Fin 3 → Nat :=
  let arg0 : BitVec 32 := BitVec.ofNat 32 (i 0).val
  let c512_i32 : BitVec 32 := 512#32
  let c0_i32_33 : BitVec 32 := 0#32
  ![arg0.toNat, 512, 0]
def k0_off26 (i : grid0.Coords) : Fin 3 → Nat :=
  let arg0 : BitVec 32 := BitVec.ofNat 32 (i 0).val
  let c0_i32_37 : BitVec 32 := 0#32
  let c512_i32_38 : BitVec 32 := 512#32
  ![arg0.toNat, 0, 512]
def k0_off27 (i : grid0.Coords) : Fin 3 → Nat :=
  let arg0 : BitVec 32 := BitVec.ofNat 32 (i 0).val
  let c1024_i32 : BitVec 32 := 1024#32
  let c0_i32_41 : BitVec 32 := 0#32
  ![arg0.toNat, 1024, 0]
def k0_off28 (i : grid0.Coords) : Fin 3 → Nat :=
  let arg0 : BitVec 32 := BitVec.ofNat 32 (i 0).val
  let c0_i32_45 : BitVec 32 := 0#32
  let c1024_i32_46 : BitVec 32 := 1024#32
  ![arg0.toNat, 0, 1024]
def k0_off29 (i : grid0.Coords) : Fin 3 → Nat :=
  let arg0 : BitVec 32 := BitVec.ofNat 32 (i 0).val
  let c1536_i32 : BitVec 32 := 1536#32
  let c0_i32_49 : BitVec 32 := 0#32
  ![arg0.toNat, 1536, 0]
def k0_off30 (i : grid0.Coords) : Fin 3 → Nat :=
  let arg0 : BitVec 32 := BitVec.ofNat 32 (i 0).val
  let c0_i32_53 : BitVec 32 := 0#32
  let c1536_i32_54 : BitVec 32 := 1536#32
  ![arg0.toNat, 0, 1536]
def k0_off31 (i : grid0.Coords) : Fin 3 → Nat :=
  let arg0 : BitVec 32 := BitVec.ofNat 32 (i 0).val
  let c2048_i32 : BitVec 32 := 2048#32
  let c0_i32_57 : BitVec 32 := 0#32
  ![arg0.toNat, 2048, 0]
def k0_off32 (i : grid0.Coords) : Fin 3 → Nat :=
  let arg0 : BitVec 32 := BitVec.ofNat 32 (i 0).val
  let c0_i32_61 : BitVec 32 := 0#32
  let c2048_i32_62 : BitVec 32 := 2048#32
  ![arg0.toNat, 0, 2048]
def k0_off33 (i : grid0.Coords) : Fin 3 → Nat :=
  let arg0 : BitVec 32 := BitVec.ofNat 32 (i 0).val
  let c2560_i32 : BitVec 32 := 2560#32
  let c0_i32_65 : BitVec 32 := 0#32
  ![arg0.toNat, 2560, 0]
def k0_off34 (i : grid0.Coords) : Fin 3 → Nat :=
  let arg0 : BitVec 32 := BitVec.ofNat 32 (i 0).val
  let c0_i32_69 : BitVec 32 := 0#32
  let c2560_i32_70 : BitVec 32 := 2560#32
  ![arg0.toNat, 0, 2560]
def k0_off35 (i : grid0.Coords) : Fin 3 → Nat :=
  let arg0 : BitVec 32 := BitVec.ofNat 32 (i 0).val
  let c3072_i32 : BitVec 32 := 3072#32
  let c0_i32_73 : BitVec 32 := 0#32
  ![arg0.toNat, 3072, 0]
def k0_off36 (i : grid0.Coords) : Fin 3 → Nat :=
  let arg0 : BitVec 32 := BitVec.ofNat 32 (i 0).val
  let c0_i32_77 : BitVec 32 := 0#32
  let c3072_i32_78 : BitVec 32 := 3072#32
  ![arg0.toNat, 0, 3072]
def k0_off37 (i : grid0.Coords) : Fin 3 → Nat :=
  let arg0 : BitVec 32 := BitVec.ofNat 32 (i 0).val
  let c3584_i32 : BitVec 32 := 3584#32
  let c0_i32_82 : BitVec 32 := 0#32
  ![arg0.toNat, 3584, 0]
def k0_off38 (i : grid0.Coords) : Fin 3 → Nat :=
  let arg0 : BitVec 32 := BitVec.ofNat 32 (i 0).val
  let c0_i32_86 : BitVec 32 := 0#32
  let c3584_i32_87 : BitVec 32 := 3584#32
  ![arg0.toNat, 0, 3584]
def k0_off39 (i : grid0.Coords) : Fin 3 → Nat :=
  let arg0 : BitVec 32 := BitVec.ofNat 32 (i 0).val
  let c4096_i32 : BitVec 32 := 4096#32
  let c0_i32_90 : BitVec 32 := 0#32
  ![arg0.toNat, 4096, 0]
def k0_off40 (i : grid0.Coords) : Fin 3 → Nat :=
  let arg0 : BitVec 32 := BitVec.ofNat 32 (i 0).val
  let c0_i32_94 : BitVec 32 := 0#32
  let c4096_i32_95 : BitVec 32 := 4096#32
  ![arg0.toNat, 0, 4096]
def k0_off41 (i : grid0.Coords) : Fin 3 → Nat :=
  let arg0 : BitVec 32 := BitVec.ofNat 32 (i 0).val
  let c4608_i32 : BitVec 32 := 4608#32
  let c0_i32_98 : BitVec 32 := 0#32
  ![arg0.toNat, 4608, 0]
def k0_off42 (i : grid0.Coords) : Fin 3 → Nat :=
  let arg0 : BitVec 32 := BitVec.ofNat 32 (i 0).val
  let c0_i32_102 : BitVec 32 := 0#32
  let c4608_i32_103 : BitVec 32 := 4608#32
  ![arg0.toNat, 0, 4608]
def k0_off43 (i : grid0.Coords) : Fin 3 → Nat :=
  let arg0 : BitVec 32 := BitVec.ofNat 32 (i 0).val
  let c5120_i32 : BitVec 32 := 5120#32
  let c0_i32_106 : BitVec 32 := 0#32
  ![arg0.toNat, 5120, 0]
def k0_off44 (i : grid0.Coords) : Fin 3 → Nat :=
  let arg0 : BitVec 32 := BitVec.ofNat 32 (i 0).val
  let c0_i32_110 : BitVec 32 := 0#32
  let c5120_i32_111 : BitVec 32 := 5120#32
  ![arg0.toNat, 0, 5120]
def k0_off45 (i : grid0.Coords) : Fin 3 → Nat :=
  let arg0 : BitVec 32 := BitVec.ofNat 32 (i 0).val
  let c5632_i32 : BitVec 32 := 5632#32
  let c0_i32_115 : BitVec 32 := 0#32
  ![arg0.toNat, 5632, 0]
def k0_off46 (i : grid0.Coords) : Fin 3 → Nat :=
  let arg0 : BitVec 32 := BitVec.ofNat 32 (i 0).val
  let c0_i32_119 : BitVec 32 := 0#32
  let c5632_i32_120 : BitVec 32 := 5632#32
  ![arg0.toNat, 0, 5632]
def k0_off47 (i : grid0.Coords) : Fin 3 → Nat :=
  let arg0 : BitVec 32 := BitVec.ofNat 32 (i 0).val
  let c6144_i32 : BitVec 32 := 6144#32
  let c0_i32_123 : BitVec 32 := 0#32
  ![arg0.toNat, 6144, 0]
def k0_off48 (i : grid0.Coords) : Fin 3 → Nat :=
  let arg0 : BitVec 32 := BitVec.ofNat 32 (i 0).val
  let c0_i32_127 : BitVec 32 := 0#32
  let c6144_i32_128 : BitVec 32 := 6144#32
  ![arg0.toNat, 0, 6144]
def k0_off49 (i : grid0.Coords) : Fin 3 → Nat :=
  let arg0 : BitVec 32 := BitVec.ofNat 32 (i 0).val
  let c6656_i32 : BitVec 32 := 6656#32
  let c0_i32_131 : BitVec 32 := 0#32
  ![arg0.toNat, 6656, 0]
def k0_off50 (i : grid0.Coords) : Fin 3 → Nat :=
  let arg0 : BitVec 32 := BitVec.ofNat 32 (i 0).val
  let c0_i32_135 : BitVec 32 := 0#32
  let c6656_i32_136 : BitVec 32 := 6656#32
  ![arg0.toNat, 0, 6656]
def k0_off51 (i : grid0.Coords) : Fin 3 → Nat :=
  let arg0 : BitVec 32 := BitVec.ofNat 32 (i 0).val
  let c7168_i32 : BitVec 32 := 7168#32
  let c0_i32_139 : BitVec 32 := 0#32
  ![arg0.toNat, 7168, 0]
def k0_off52 (i : grid0.Coords) : Fin 3 → Nat :=
  let arg0 : BitVec 32 := BitVec.ofNat 32 (i 0).val
  let c0_i32_143 : BitVec 32 := 0#32
  let c7168_i32_144 : BitVec 32 := 7168#32
  ![arg0.toNat, 0, 7168]
def k0_off53 (i : grid0.Coords) : Fin 3 → Nat :=
  let arg0 : BitVec 32 := BitVec.ofNat 32 (i 0).val
  let c7680_i32 : BitVec 32 := 7680#32
  let c0_i32_147 : BitVec 32 := 0#32
  ![arg0.toNat, 7680, 0]
def k0_off54 (i : grid0.Coords) : Fin 3 → Nat :=
  let arg0 : BitVec 32 := BitVec.ofNat 32 (i 0).val
  let c0_i32_151 : BitVec 32 := 0#32
  let c7680_i32_152 : BitVec 32 := 7680#32
  ![arg0.toNat, 0, 7680]
def k0_off55 (i : grid0.Coords) : Fin 3 → Nat :=
  let arg0 : BitVec 32 := BitVec.ofNat 32 (i 0).val
  let c8192_i32 : BitVec 32 := 8192#32
  let c0_i32_155 : BitVec 32 := 0#32
  ![arg0.toNat, 8192, 0]
def k0_off56 (i : grid0.Coords) : Fin 3 → Nat :=
  let arg0 : BitVec 32 := BitVec.ofNat 32 (i 0).val
  let c0_i32_159 : BitVec 32 := 0#32
  let c8192_i32_160 : BitVec 32 := 8192#32
  ![arg0.toNat, 0, 8192]
def k0_off57 (i : grid0.Coords) : Fin 3 → Nat :=
  let arg0 : BitVec 32 := BitVec.ofNat 32 (i 0).val
  let c8704_i32 : BitVec 32 := 8704#32
  let c0_i32_163 : BitVec 32 := 0#32
  ![arg0.toNat, 8704, 0]
def k0_off58 (i : grid0.Coords) : Fin 3 → Nat :=
  let arg0 : BitVec 32 := BitVec.ofNat 32 (i 0).val
  let c0_i32_167 : BitVec 32 := 0#32
  let c8704_i32_168 : BitVec 32 := 8704#32
  ![arg0.toNat, 0, 8704]
def k0_off59 (i : grid0.Coords) : Fin 3 → Nat :=
  let arg0 : BitVec 32 := BitVec.ofNat 32 (i 0).val
  let c9216_i32 : BitVec 32 := 9216#32
  let c0_i32_171 : BitVec 32 := 0#32
  ![arg0.toNat, 9216, 0]
def k0_off60 (i : grid0.Coords) : Fin 3 → Nat :=
  let arg0 : BitVec 32 := BitVec.ofNat 32 (i 0).val
  let c0_i32_175 : BitVec 32 := 0#32
  let c9216_i32_176 : BitVec 32 := 9216#32
  ![arg0.toNat, 0, 9216]
def k0_off61 (i : grid0.Coords) : Fin 3 → Nat :=
  let arg0 : BitVec 32 := BitVec.ofNat 32 (i 0).val
  let c9728_i32 : BitVec 32 := 9728#32
  let c0_i32_179 : BitVec 32 := 0#32
  ![arg0.toNat, 9728, 0]
def k0_off62 (i : grid0.Coords) : Fin 3 → Nat :=
  let arg0 : BitVec 32 := BitVec.ofNat 32 (i 0).val
  let c0_i32_183 : BitVec 32 := 0#32
  let c9728_i32_184 : BitVec 32 := 9728#32
  ![arg0.toNat, 0, 9728]
def k0_off63 (i : grid0.Coords) : Fin 3 → Nat :=
  let arg0 : BitVec 32 := BitVec.ofNat 32 (i 0).val
  let c10240_i32 : BitVec 32 := 10240#32
  let c0_i32_187 : BitVec 32 := 0#32
  ![arg0.toNat, 10240, 0]
def k0_off64 (i : grid0.Coords) : Fin 3 → Nat :=
  let arg0 : BitVec 32 := BitVec.ofNat 32 (i 0).val
  let c0_i32_191 : BitVec 32 := 0#32
  let c10240_i32_192 : BitVec 32 := 10240#32
  ![arg0.toNat, 0, 10240]
def k0_off65 (i : grid0.Coords) : Fin 3 → Nat :=
  let arg0 : BitVec 32 := BitVec.ofNat 32 (i 0).val
  let c10752_i32 : BitVec 32 := 10752#32
  let c0_i32_195 : BitVec 32 := 0#32
  ![arg0.toNat, 10752, 0]
def k0_off66 (i : grid0.Coords) : Fin 3 → Nat :=
  let arg0 : BitVec 32 := BitVec.ofNat 32 (i 0).val
  let c0_i32_199 : BitVec 32 := 0#32
  let c10752_i32_200 : BitVec 32 := 10752#32
  ![arg0.toNat, 0, 10752]
def k0_off67 (i : grid0.Coords) : Fin 3 → Nat :=
  let arg0 : BitVec 32 := BitVec.ofNat 32 (i 0).val
  let c11264_i32 : BitVec 32 := 11264#32
  let c0_i32_203 : BitVec 32 := 0#32
  ![arg0.toNat, 11264, 0]
def k0_off68 (i : grid0.Coords) : Fin 3 → Nat :=
  let arg0 : BitVec 32 := BitVec.ofNat 32 (i 0).val
  let c0_i32_207 : BitVec 32 := 0#32
  let c11264_i32_208 : BitVec 32 := 11264#32
  ![arg0.toNat, 0, 11264]
def k0_off69 (i : grid0.Coords) : Fin 3 → Nat :=
  let arg0 : BitVec 32 := BitVec.ofNat 32 (i 0).val
  let c11776_i32 : BitVec 32 := 11776#32
  let c0_i32_211 : BitVec 32 := 0#32
  ![arg0.toNat, 11776, 0]
def k0_off70 (i : grid0.Coords) : Fin 3 → Nat :=
  let arg0 : BitVec 32 := BitVec.ofNat 32 (i 0).val
  let c0_i32_215 : BitVec 32 := 0#32
  let c11776_i32_216 : BitVec 32 := 11776#32
  ![arg0.toNat, 0, 11776]
def k0_off71 (i : grid0.Coords) : Fin 3 → Nat :=
  let arg0 : BitVec 32 := BitVec.ofNat 32 (i 0).val
  let c12288_i32_220 : BitVec 32 := 12288#32
  let c0_i32_221 : BitVec 32 := 0#32
  ![arg0.toNat, 12288, 0]
def k0_off72 (i : grid0.Coords) : Fin 3 → Nat :=
  let arg0 : BitVec 32 := BitVec.ofNat 32 (i 0).val
  let c0_i32_225 : BitVec 32 := 0#32
  let c12288_i32_226 : BitVec 32 := 12288#32
  ![arg0.toNat, 0, 12288]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.minsi arg2 c24_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.minsi arg2 c24_i32
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.minsi arg2 c24_i32
  let c0_i32_4 : BitVec 32 := 0#32
  let c0_i32_5 : BitVec 32 := 0#32
  ![arg0.toNat, v16.toNat, v17.toNat, c0_i32_4.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.minsi arg2 c24_i32
  let c2_i32 : BitVec 32 := 2#32
  let v1 : BitVec 32 := Scalar.muli c2_i32 v0
  let c0_i32 : BitVec 32 := 0#32
  let c0_i32_0 : BitVec 32 := 0#32
  ![arg0.toNat, c0_i32.toNat, v1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x576x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x576x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1024x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "neg_inv_sm" => some ((-(Real.sqrt 192) : ℝ) : EReal)
  | "sm" => some (((Real.sqrt 192)⁻¹ : ℝ) : EReal)
  | "sm_log2e" => some (((Real.sqrt 192)⁻¹ * (Real.log 2)⁻¹ : ℝ) : EReal)
  | _ => none
-- ==== ReferenceIdeal.lean ====
abbrev S8x12288x512 : Shape := ⟨3, ![8, 12288, 512]⟩
abbrev S8x12288x64 : Shape := ⟨3, ![8, 12288, 64]⟩
abbrev S8x12x1x1024 : Shape := ⟨4, ![8, 12, 1, 1024]⟩
abbrev S8x12800x512 : Shape := ⟨3, ![8, 12800, 512]⟩
abbrev S8x576x12800 : Shape := ⟨3, ![8, 576, 12800]⟩
abbrev S8x12800x128 : Shape := ⟨3, ![8, 12800, 128]⟩
abbrev S8x3x12800x128 : Shape := ⟨4, ![8, 3, 12800, 128]⟩
abbrev S8x12672x512 : Shape := ⟨3, ![8, 12672, 512]⟩
abbrev S8x64x12672 : Shape := ⟨3, ![8, 64, 12672]⟩
abbrev S8x12800x64 : Shape := ⟨3, ![8, 12800, 64]⟩
abbrev S8x12288x1 : Shape := ⟨3, ![8, 12288, 1]⟩
abbrev S8x12288 : Shape := ⟨2, ![8, 12288]⟩
abbrev S8x3x128x12800 : Shape := ⟨4, ![8, 3, 128, 12800]⟩
abbrev S8x384x1x12800 : Shape := ⟨4, ![8, 384, 1, 12800]⟩
abbrev S8x384x32x12800 : Shape := ⟨4, ![8, 384, 32, 12800]⟩
abbrev S8x12288x12800 : Shape := ⟨3, ![8, 12288, 12800]⟩
abbrev S8x512x12800 : Shape := ⟨3, ![8, 512, 12800]⟩
abbrev S8x64x12800 : Shape := ⟨3, ![8, 64, 12800]⟩
abbrev S8x12672x64 : Shape := ⟨3, ![8, 12672, 64]⟩

abbrev nBuf : Space → Nat
  | .hbm => 14
  | .vmem => 14
  | .smem => 0
  | _ => 0

abbrev bufTy : (tb : Table) → Fin (tcTables nBuf tb) → BufTy
  | .hbm, ⟨0, _⟩ => ⟨S8x12288x512, .bf16⟩
  | .hbm, ⟨1, _⟩ => ⟨S8x12288x64, .bf16⟩
  | .hbm, ⟨2, _⟩ => ⟨S8x12288x512, .bf16⟩
  | .hbm, ⟨3, _⟩ => ⟨S8x12288x512, .fp8e5m2⟩
  | .hbm, ⟨4, _⟩ => ⟨S8x12x1x1024, .f32⟩
  | .hbm, ⟨5, _⟩ => ⟨S8x12x1x1024, .f32⟩
  | .hbm, ⟨6, _⟩ => ⟨S8x12800x512, .bf16⟩
  | .hbm, ⟨7, _⟩ => ⟨S8x576x12800, .bf16⟩
  | .hbm, ⟨8, _⟩ => ⟨S8x12800x128, .bf16⟩
  | .hbm, ⟨9, _⟩ => ⟨S8x3x12800x128, .bf16⟩
  | .hbm, ⟨10, _⟩ => ⟨S8x12288x512, .bf16⟩
  | .hbm, ⟨11, _⟩ => ⟨S8x12288x64, .bf16⟩
  | .hbm, ⟨12, _⟩ => ⟨S8x12672x512, .f32⟩
  | .hbm, ⟨13, _⟩ => ⟨S8x64x12672, .f32⟩
  | .local _ .vmem, ⟨0, _⟩ => ⟨S8x12288x512, .bf16⟩
  | .local _ .vmem, ⟨1, _⟩ => ⟨S8x12288x64, .bf16⟩
  | .local _ .vmem, ⟨2, _⟩ => ⟨S8x12288x512, .bf16⟩
  | .local _ .vmem, ⟨3, _⟩ => ⟨S8x12288x512, .fp8e5m2⟩
  | .local _ .vmem, ⟨4, _⟩ => ⟨S8x12x1x1024, .f32⟩
  | .local _ .vmem, ⟨5, _⟩ => ⟨S8x12x1x1024, .f32⟩
  | .local _ .vmem, ⟨6, _⟩ => ⟨S8x12800x512, .bf16⟩
  | .local _ .vmem, ⟨7, _⟩ => ⟨S8x576x12800, .bf16⟩
  | .local _ .vmem, ⟨8, _⟩ => ⟨S8x12800x128, .bf16⟩
  | .local _ .vmem, ⟨9, _⟩ => ⟨S8x3x12800x128, .bf16⟩
  | .local _ .vmem, ⟨10, _⟩ => ⟨S8x12288x512, .bf16⟩
  | .local _ .vmem, ⟨11, _⟩ => ⟨S8x12288x64, .bf16⟩
  | .local _ .vmem, ⟨12, _⟩ => ⟨S8x12672x512, .f32⟩
  | .local _ .vmem, ⟨13, _⟩ => ⟨S8x64x12672, .f32⟩
  | _, _ => ⟨S8x12288x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "sm" => some (((Real.sqrt 192)⁻¹ : ℝ) : EReal)
  | _ => none

abbrev grid0 : Pipeline.Grid := .none

abbrev stage0_0 : Fin 1 → Memref sig .tc .vmem S8x12288x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x12288x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x12288x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x12288x512 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x12x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x12x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x12800x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x576x12800 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x12800x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x3x12800x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x12288x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x12288x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x12672x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x64x12672 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Phases.lean ====
module

public import proofs.«01_k».proof.Proof.Gen.Kernel.Skeleton

@[expose] public section

noncomputable section

namespace Cert.Kernel.Gen

open Idealize.ShloMosaic Idealize.SL.Sem

variable {F : FTy → Type} [FloatOps F]

noncomputable def phaseA (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h1 : k0_cond1 i = 1#1 then do
    if k0_h2 : k0_cond2 i = 1#1 then do
      let v53 : DmaSems sig S1 := arg30.slice (Rect.unit (s := S25) (k0_off1 i) S1.size (k0_off1_inb i k0_h1 k0_h2))
      let v54 : DmaSems sig S_ := v53.squeeze S_ squeezes_S1_S_
      let v55 : Memref sig .tc .hbm S1x512x512 .f32 := arg16.slice (Rect.unit (s := S8x12672x512) (k0_off2 i) S1x512x512.size (k0_off2_inb i k0_h1 k0_h2)) (fun _ => rfl)
      let v56 : Memref sig .tc .hbm S512x512 .f32 := v55.squeeze S512x512 squeezes_S1x512x512_S512x512
      let v57 : Memref sig .tc .vmem S512x512 .f32 := arg28.slice (Rect.unit (s := S12800x512) (k0_off3 i) S512x512.size (k0_off3_inb i k0_h1 k0_h2)) (fun _ => rfl)
      Prog.lift (.waitDma2 v54.sem v57 v56 (View.wordExact_bits rfl) ((View.wordExact_bits rfl).reshape _ _))
      let v58 : DmaSems sig S1 := arg31.slice (Rect.unit (s := S25) (k0_off1 i) S1.size (k0_off1_inb i k0_h1 k0_h2))
      let v59 : DmaSems sig S_ := v58.squeeze S_ squeezes_S1_S_
      let v60 : Memref sig .tc .hbm S1x64x512 .f32 := arg17.slice (Rect.unit (s := S8x64x12672) (k0_off4 i) S1x64x512.size (k0_off4_inb i k0_h1 k0_h2)) (fun _ => rfl)
      let v61 : Memref sig .tc .hbm S64x512 .f32 := v60.squeeze S64x512 squeezes_S1x64x512_S64x512
      let v62 : Memref sig .tc .vmem S64x512 .f32 := arg29.slice (Rect.unit (s := S64x12800) (k0_off5 i) S64x512.size (k0_off5_inb i k0_h1 k0_h2)) (fun _ => rfl)
      Prog.lift (.waitDma2 v59.sem v62 v61 (View.wordExact_bits rfl) ((View.wordExact_bits rfl).reshape _ _))
      pure ⟨⟩
    else do
      pure ⟨⟩
    if k0_h3 : k0_cond3 i = 1#1 then do
      let v51 : DmaSems sig S1 := arg30.slice (Rect.unit (s := S25) ![24] S1.size inb_S25_S1_24)
      let v52 : DmaSems sig S_ := v51.squeeze S_ squeezes_S1_S_
      let v53 : Memref sig .tc .hbm S1x384x512 .f32 := arg16.slice (Rect.unit (s := S8x12672x512) (k0_off6 i) S1x384x512.size (k0_off6_inb i k0_h1 k0_h3)) (fun _ => rfl)
      let v54 : Memref sig .tc .hbm S384x512 .f32 := v53.squeeze S384x512 squeezes_S1x384x512_S384x512
      let v55 : Memref sig .tc .vmem S384x512 .f32 := arg28.slice (Rect.unit (s := S12800x512) ![12288, 0] S384x512.size inb_S12800x512_S384x512_12288_0) (fun _ => rfl)
      Prog.lift (.waitDma2 v52.sem v55 v54 (View.wordExact_bits rfl) ((View.wordExact_bits rfl).reshape _ _))
      let v56 : DmaSems sig S1 := arg31.slice (Rect.unit (s := S25) ![24] S1.size inb_S25_S1_24)
      let v57 : DmaSems sig S_ := v56.squeeze S_ squeezes_S1_S_
      let v58 : Memref sig .tc .hbm S1x64x384 .f32 := arg17.slice (Rect.unit (s := S8x64x12672) (k0_off7 i) S1x64x384.size (k0_off7_inb i k0_h1 k0_h3)) (fun _ => rfl)
      let v59 : Memref sig .tc .hbm S64x384 .f32 := v58.squeeze S64x384 squeezes_S1x64x384_S64x384
      let v60 : Memref sig .tc .vmem S64x384 .f32 := arg29.slice (Rect.unit (s := S64x12800) ![0, 12288] S64x384.size inb_S64x12800_S64x384_0_12288) (fun _ => rfl)
      Prog.lift (.waitDma2 v57.sem v60 v59 (View.wordExact_bits rfl) ((View.wordExact_bits rfl).reshape _ _))
      pure ⟨⟩
    else do
      pure ⟨⟩
    let v42 : Vec F S512x512 .f32 ← Prog.lift (.load arg28 (Rect.unit (s := S12800x512) (k0_off8 i) S512x512.size (k0_off8_inb i k0_h1)).toLoadRect (View.loadsAt_vmem h_S512x512))
    Prog.lift (.store arg28 (Rect.unit (s := S12800x512) (k0_off8 i) S512x512.size (k0_off8_inb i k0_h1)) (k0_pay1 (F := F)) Finset.univ (View.stores_vmem_bits_univ h_S512x512 rfl) (.inl rfl))
    let v47 : Vec F S64x512 .f32 ← Prog.lift (.load arg29 (Rect.unit (s := S64x12800) (k0_off9 i) S64x512.size (k0_off9_inb i k0_h1)).toLoadRect (View.loadsAt_vmem h_S64x512))
    Prog.lift (.store arg29 (Rect.unit (s := S64x12800) (k0_off9 i) S64x512.size (k0_off9_inb i k0_h1)) (k0_pay2 (F := F)) Finset.univ (View.stores_vmem_bits_univ h_S64x512 rfl) (.inl rfl))
    pure ⟨⟩
  else do
    pure ⟨⟩
  K

noncomputable def phaseB (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h4 : k0_cond4 i = 1#1 then do
    let ⟨v48, v51, v56, v58, v60, v62, v63⟩ : Σ' (v48 : FVec F S1x1024 .f32) (v51 : FVec F S1x1024 .f32) (v56 : IVec S16x1024 1) (v58 : IVec S16x1024 1) (v60 : IVec S16x1024 1) (v62 : FVec F S16x1024 .f32), FVec F S16x1024 .f32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
    let ⟨v106, v107, c128_i32⟩ : Σ' (v106 : IVec S128x1024 32) (v107 : IVec S128x1024 32), BitVec 32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 1).val) v48 v51 v56 v58 v60 v62 v63
    let ⟨v142, v147⟩ : Σ' (v142 : FVec F S1024x512 .f32), FVec F S1024x512 .bf16 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v106 v107 c128_i32
    let ⟨v169, v179⟩ : Σ' (v169 : FVec F S256x512 .bf16), FVec F S256x1024 .f32 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v142 v147
    let ⟨v205, v207, v208, v209⟩ : Σ' (v205 : FVec F S256x1024 .f32) (v207 : FVec F S256x1024 .f32) (v208 : FVec F S256x1024 .bf16), Vec F S256x1024 .bf16 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v169 v179
    let ⟨v221, v222, v240⟩ : Σ' (v221 : Vec F S256x1024 .bf16) (v222 : BitVec 32), FVec F S256x512 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v205 v207 v208 v209
    let v242 : Vec F S256x512 .f32 ← Prog.lift (.load arg28 (Rect.unit (s := S12800x512) ![0, 0] S256x512.size inb_S12800x512_S256x512_0_0).toLoadRect (View.loadsAt_vmem h_S256x512))
    Prog.lift (.store arg28 (Rect.unit (s := S12800x512) ![0, 0] S256x512.size inb_S12800x512_S256x512_0_0) (k0_pay3 v240) Finset.univ (View.stores_vmem_bits_univ h_S256x512 rfl) (.inl rfl))
    let v246 : Vec F S64x256 .f32 ← Prog.lift (.load arg29 (Rect.unit (s := S64x12800) ![0, 0] S64x256.size inb_S64x12800_S64x256_0_0).toLoadRect (View.loadsAt_vmem h_S64x256))
    let v247 : Vec F S64x1024 .bf16 ← Prog.lift (.load arg18 (Rect.unit (s := S768x1024) ![512, 0] S64x1024.size inb_S768x1024_S64x1024_512_0).toLoadRect (View.loadsAt_vmem h_S64x1024))
    let v253 : Vec F S64x256 .f32 ← Prog.lift (.load arg29 (Rect.unit (s := S64x12800) ![0, 0] S64x256.size inb_S64x12800_S64x256_0_0).toLoadRect (View.loadsAt_vmem h_S64x256))
    Prog.lift (.store arg29 (Rect.unit (s := S64x12800) ![0, 0] S64x256.size inb_S64x12800_S64x256_0_0) (k0_pay4 v221 v246 v247) Finset.univ (View.stores_vmem_bits_univ h_S64x256 rfl) (.inl rfl))
    pure ⟨⟩
  else do
    pure ⟨⟩
  K

noncomputable def phaseC (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h5 : k0_cond5 i = 1#1 then do
    let ⟨v55, v56⟩ : Σ' (v55 : BitVec 32), Vec F S256x1024 .bf16 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 2).val)
    let v91 : FVec F S64x256 .f32 ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h5 v55 v56
    let ⟨v118, v119, v120⟩ : Σ' (v118 : BitVec 32) (v119 : Vec F S256x1024 .bf16), Vec F S256x1024 .bf16 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 2).val) k0_h5 v91
    k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h5 v118 v119 v120
    pure ⟨⟩
  else do
    pure ⟨⟩
  K

noncomputable def phaseD (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h6 : k0_cond6 i = 1#1 then do
    let ⟨v32, v56, v58⟩ : Σ' (v32 : BitVec 32) (v56 : Vec F S64x256 .f32), FVec F S64x256 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 2).val) k0_h6
    let v63 : Vec F S64x256 .f32 ← Prog.lift (.load arg29 (Rect.unit (s := S64x12800) (k0_off15 i) S64x256.size (k0_off15_inb i k0_h6)).toLoadRect (View.loadsAt_vmem h_S64x256))
    Prog.lift (.store arg29 (Rect.unit (s := S64x12800) (k0_off15 i) S64x256.size (k0_off15_inb i k0_h6)) (k0_pay5 v56 v58) Finset.univ (View.stores_vmem_bits_univ h_S64x256 rfl) (.inl rfl))
    let v66 : Vec F S512x1024 .f32 ← Prog.lift (.load arg27 (Rect.unit (s := S576x1024) ![0, 0] S512x1024.size inb_S576x1024_S512x1024_0_0).toLoadRect (View.loadsAt_vmem h_S512x1024))
    let v71 : Vec F S1x1024x512 .bf16 ← Prog.lift (.load arg14 (Rect.unit (s := S1x1024x512) ![0, 0, 0] S1x1024x512.size inb_S1x1024x512_S1x1024x512_0_0_0).toLoadRect (View.loadsAt_vmem h_S1x1024x512))
    Prog.lift (.store arg14 (Rect.unit (s := S1x1024x512) ![0, 0, 0] S1x1024x512.size inb_S1x1024x512_S1x1024x512_0_0_0) (k0_pay6 v66) Finset.univ (View.stores_vmem h_S1x1024x512 (harg14.storeExact_slice rfl _ packedbf16_S1x1024x512_S1x1024x512_0_0_0) (fun _ => rfl)) (.inl rfl))
    let v74 : Vec F S64x1024 .f32 ← Prog.lift (.load arg27 (Rect.unit (s := S576x1024) ![512, 0] S64x1024.size inb_S576x1024_S64x1024_512_0).toLoadRect (View.loadsAt_vmem h_S64x1024))
    let v79 : Vec F S1x1024x64 .bf16 ← Prog.lift (.load arg15 (Rect.unit (s := S1x1024x64) ![0, 0, 0] S1x1024x64.size inb_S1x1024x64_S1x1024x64_0_0_0).toLoadRect (View.loadsAt_vmem h_S1x1024x64))
    Prog.lift (.store arg15 (Rect.unit (s := S1x1024x64) ![0, 0, 0] S1x1024x64.size inb_S1x1024x64_S1x1024x64_0_0_0) (k0_pay7 v74) Finset.univ (View.stores_vmem h_S1x1024x64 (harg15.storeExact_slice rfl _ packedbf16_S1x1024x64_S1x1024x64_0_0_0) (fun _ => rfl)) (.inl rfl))
    pure ⟨⟩
  else do
    pure ⟨⟩
  K

noncomputable def phaseE (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h7 : k0_cond7 i = 1#1 then do
    let v31 : DmaSems sig S1 := arg30.slice (Rect.unit (s := S25) (k0_off16 i) S1.size (k0_off16_inb i k0_h7))
    let v32 : DmaSems sig S_ := v31.squeeze S_ squeezes_S1_S_
    let v33 : Memref sig .tc .hbm S1x512x512 .f32 := arg16.slice (Rect.unit (s := S8x12672x512) (k0_off17 i) S1x512x512.size (k0_off17_inb i k0_h7)) (fun _ => rfl)
    let v34 : Memref sig .tc .hbm S512x512 .f32 := v33.squeeze S512x512 squeezes_S1x512x512_S512x512
    let v35 : Memref sig .tc .vmem S512x512 .f32 := arg28.slice (Rect.unit (s := S12800x512) (k0_off18 i) S512x512.size (k0_off18_inb i k0_h7)) (fun _ => rfl)
    Prog.lift (.enqueueDma v35 (.here v34) (.dma v32.sem) (View.wordExact_bits rfl) ((View.wordExact_bits rfl).reshape _ _) ⟨Or.inl rfl, trivial⟩)
    let v36 : DmaSems sig S1 := arg31.slice (Rect.unit (s := S25) (k0_off16 i) S1.size (k0_off16_inb i k0_h7))
    let v37 : DmaSems sig S_ := v36.squeeze S_ squeezes_S1_S_
    let v38 : Memref sig .tc .hbm S1x64x512 .f32 := arg17.slice (Rect.unit (s := S8x64x12672) (k0_off19 i) S1x64x512.size (k0_off19_inb i k0_h7)) (fun _ => rfl)
    let v39 : Memref sig .tc .hbm S64x512 .f32 := v38.squeeze S64x512 squeezes_S1x64x512_S64x512
    let v40 : Memref sig .tc .vmem S64x512 .f32 := arg29.slice (Rect.unit (s := S64x12800) (k0_off20 i) S64x512.size (k0_off20_inb i k0_h7)) (fun _ => rfl)
    Prog.lift (.enqueueDma v40 (.here v39) (.dma v37.sem) (View.wordExact_bits rfl) ((View.wordExact_bits rfl).reshape _ _) ⟨Or.inl rfl, trivial⟩)
    pure ⟨⟩
  else do
    pure ⟨⟩
  K

noncomputable def phaseF (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h8 : k0_cond8 i = 1#1 then do
    let v28 : DmaSems sig S1 := arg30.slice (Rect.unit (s := S25) ![24] S1.size inb_S25_S1_24)
    let v29 : DmaSems sig S_ := v28.squeeze S_ squeezes_S1_S_
    let v30 : Memref sig .tc .hbm S1x384x512 .f32 := arg16.slice (Rect.unit (s := S8x12672x512) (k0_off21 i) S1x384x512.size (k0_off21_inb i k0_h8)) (fun _ => rfl)
    let v31 : Memref sig .tc .hbm S384x512 .f32 := v30.squeeze S384x512 squeezes_S1x384x512_S384x512
    let v32 : Memref sig .tc .vmem S384x512 .f32 := arg28.slice (Rect.unit (s := S12800x512) ![12288, 0] S384x512.size inb_S12800x512_S384x512_12288_0) (fun _ => rfl)
    Prog.lift (.enqueueDma v32 (.here v31) (.dma v29.sem) (View.wordExact_bits rfl) ((View.wordExact_bits rfl).reshape _ _) ⟨Or.inl rfl, trivial⟩)
    let v33 : DmaSems sig S1 := arg31.slice (Rect.unit (s := S25) ![24] S1.size inb_S25_S1_24)
    let v34 : DmaSems sig S_ := v33.squeeze S_ squeezes_S1_S_
    let v35 : Memref sig .tc .hbm S1x64x384 .f32 := arg17.slice (Rect.unit (s := S8x64x12672) (k0_off22 i) S1x64x384.size (k0_off22_inb i k0_h8)) (fun _ => rfl)
    let v36 : Memref sig .tc .hbm S64x384 .f32 := v35.squeeze S64x384 squeezes_S1x64x384_S64x384
    let v37 : Memref sig .tc .vmem S64x384 .f32 := arg29.slice (Rect.unit (s := S64x12800) ![0, 12288] S64x384.size inb_S64x12800_S64x384_0_12288) (fun _ => rfl)
    Prog.lift (.enqueueDma v37 (.here v36) (.dma v34.sem) (View.wordExact_bits rfl) ((View.wordExact_bits rfl).reshape _ _) ⟨Or.inl rfl, trivial⟩)
    if k0_h9 : k0_cond9 i = 1#1 then do
      k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      let v286 : DmaSems sig S1 := arg31.slice (Rect.unit (s := S25) ![24] S1.size inb_S25_S1_24)
      let v287 : DmaSems sig S_ := v286.squeeze S_ squeezes_S1_S_
      let v288 : Memref sig .tc .hbm S1x64x384 .f32 := arg17.slice (Rect.unit (s := S8x64x12672) (k0_off72 i) S1x64x384.size (k0_off72_inb i k0_h8 k0_h9)) (fun _ => rfl)
      let v289 : Memref sig .tc .hbm S64x384 .f32 := v288.squeeze S64x384 squeezes_S1x64x384_S64x384
      let v290 : Memref sig .tc .vmem S64x384 .f32 := arg29.slice (Rect.unit (s := S64x12800) ![0, 12288] S64x384.size inb_S64x12800_S64x384_0_12288) (fun _ => rfl)
      Prog.lift (.waitDma2 v287.sem v290 v289 (View.wordExact_bits rfl) ((View.wordExact_bits rfl).reshape _ _))
      pure ⟨⟩
    else do
      pure ⟨⟩
    pure ⟨⟩
  else do
    pure ⟨⟩
  K

set_option maxRecDepth 65536 in
theorem body_eq_phases (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) :
    cc0_mla_backward_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 =
      phaseA (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseB (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseC (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseD (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseE (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseF (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (pure ⟨⟩)))))) := rfl

end Cert.Kernel.Gen

end
-- ==== Proof.Model.lean ====
/-
  What the blocks of one grid point become in the working buffers, as functions of the values read: the
  forms in which every later module names the contents. No memory is mentioned here.
-/
module

public import proofs.«01_k».proof.Proof.Gen.Kernel.Skeleton
public import Idealize.ShloMosaic.Lib.Pipeline.FrameBody

@[expose] public section

noncomputable section

namespace Cert.Kernel.Gen

open Idealize.ShloMosaic Idealize.SL.Sem

variable {F : FTy → Type} [FloatOps F]

/-- Rows 0–255 and rows 256–511 of a point's key block, of its extended columns and of its bias columns. -/
abbrev kR0 : Rect S1x512x512 := Rect.unit (s := S1x512x512) ![0, 0, 0] S1x256x512.size inb_S1x512x512_S1x256x512_0_0_0
abbrev kR1 : Rect S1x512x512 := Rect.unit (s := S1x512x512) ![0, 256, 0] S1x256x512.size inb_S1x512x512_S1x256x512_0_256_0
abbrev kxR0 : Rect S1x512x128 := Rect.unit (s := S1x512x128) ![0, 0, 0] S1x256x128.size inb_S1x512x128_S1x256x128_0_0_0
abbrev kxR1 : Rect S1x512x128 := Rect.unit (s := S1x512x128) ![0, 256, 0] S1x256x128.size inb_S1x512x128_S1x256x128_0_256_0
abbrev bR0 : Rect S1x1x512x128 := Rect.unit (s := S1x1x512x128) ![0, 0, 0, 0] S1x1x256x128.size inb_S1x1x512x128_S1x1x256x128_0_0_0_0
abbrev bR1 : Rect S1x1x512x128 := Rect.unit (s := S1x1x512x128) ![0, 0, 256, 0] S1x1x256x128.size inb_S1x1x512x128_S1x1x256x128_0_0_256_0
/-- The rows of the stacked transposed queries that the rotary part occupies. -/
abbrev qrR : Rect S768x1024 := Rect.unit (s := S768x1024) ![512, 0] S64x1024.size inb_S768x1024_S64x1024_512_0
/-- One row of the row-sum buffer (its eight rows are equal). -/
abbrev dR : Rect S8x1024 := Rect.unit (s := S8x1024) ![0, 0] S1x1024.size inb_S8x1024_S1x1024_0_0

/-- The probabilities of key half `0` or `1` of a block, transposed: keys by queries. -/
def pOf (half : Bool) (xk : Vec F S1x512x512 .bf16) (xkx : Vec F S1x512x128 .bf16) (xb : Vec F S1x1x512x128 .bf16)
    (qt : Vec F S768x1024 .bf16) : Vec F S256x1024 .bf16 :=
  match half with
  | false => k0_pay44 (View.ld xk kR0) (View.ld xkx kxR0) (View.ld xb bR0) qt
  | true => k0_pay44 (View.ld xk kR1) (View.ld xkx kxR1) (View.ld xb bR1) qt

/-- The score gradients of key half `0` or `1` of a block, transposed. -/
def dsOf (half : Bool) (xk : Vec F S1x512x512 .bf16) (xkx : Vec F S1x512x128 .bf16) (xb : Vec F S1x1x512x128 .bf16)
    (qt : Vec F S768x1024 .bf16) (dot : Vec F S512x1024 .bf16) (delta : Vec F S8x1024 .f32) : Vec F S256x1024 .bf16 :=
  match half with
  | false => k0_pay45 (View.ld xk kR0) (View.ld xkx kxR0) (View.ld xb bR0) qt dot (View.ld delta dR)
  | true => k0_pay45 (View.ld xk kR1) (View.ld xkx kxR1) (View.ld xb bR1) qt dot (View.ld delta dR)

/-- The query gradient (transposed) with one key half added. -/
def dqStep (acc : Vec F S576x1024 .f32) (ds : Vec F S256x1024 .bf16) (kt : Vec F S1x576x256 .bf16) : Vec F S576x1024 .f32 :=
  k0_pay46 ds acc kt

/-- A key half's compressed-key gradient with one query tile added. -/
def dcStep (acc : Vec F S256x512 .f32) (p ds : Vec F S256x1024 .bf16) (dov q : Vec F S1024x512 .bf16) : Vec F S256x512 .f32 :=
  k0_pay47 p ds acc dov q

/-- A key half's rotary-key gradient (transposed) with one query tile added. -/
def dkStep (acc : Vec F S64x256 .f32) (ds : Vec F S256x1024 .bf16) (qt : Vec F S768x1024 .bf16) : Vec F S64x256 .f32 :=
  k0_pay48 ds acc (View.ld qt qrR)

/-- The stacked transposed queries of a query tile: the queries, the rotary queries, the three parts of the scaled
    log-sum, zeros, and the rows that pick each query's token. -/
def qtPieces (qi : BitVec 32) (xq : Vec F S1x1024x512 .bf16) (xqr : Vec F S1x1024x64 .bf16) (xlse : Vec F S1x1x1x1024 .f32) :
    List (View.Piece (Elt F) S768x1024 .bf16) :=
  [⟨Rect.unit (s := S768x1024) ![640, 0] S128x1024.size inb_S768x1024_S128x1024_640_0,
      k0_pay23 (F := F) (k0_pay22 qi) (iota .tc S128x1024 32 [0] iota_S128x1024_d0_w32) 128#32⟩,
   ⟨Rect.unit (s := S768x1024) ![592, 0] S48x1024.size inb_S768x1024_S48x1024_592_0, k0_pay21 (F := F)⟩,
   ⟨Rect.unit (s := S768x1024) ![576, 0] S16x1024.size inb_S768x1024_S16x1024_576_0,
      k0_pay20 (k0_pay13 xlse) (k0_pay14 xlse) k0_pay15 k0_pay16 k0_pay17 (k0_pay18 xlse) (k0_pay19 (F := F))⟩,
   ⟨Rect.unit (s := S768x1024) ![512, 0] S64x1024.size inb_S768x1024_S64x1024_512_0, k0_pay11 xqr⟩,
   ⟨Rect.unit (s := S768x1024) ![0, 0] S512x1024.size inb_S768x1024_S512x1024_0_0, k0_pay9 xq⟩]

def qtOf [∀ e, Nonempty (Elt F e)] (qi : BitVec 32) (xq : Vec F S1x1024x512 .bf16) (xqr : Vec F S1x1024x64 .bf16) (xlse : Vec F S1x1x1x1024 .f32) :
    Vec F S768x1024 .bf16 := View.canon (qtPieces qi xq xqr xlse)

/-- The queries, the output gradient, its transpose and the row sums of a query tile. -/
def qOf (xq : Vec F S1x1024x512 .bf16) : Vec F S1024x512 .bf16 := k0_pay10 xq
def doOf (xdos : Vec F S1x1x1x1024 .f32) (xdo : Vec F S1x1024x512 .fp8e5m2) : Vec F S1024x512 .bf16 := k0_pay25 xdos xdo
def dotOf (xdos : Vec F S1x1x1x1024 .f32) (xdo : Vec F S1x1024x512 .fp8e5m2) : Vec F S512x1024 .bf16 := k0_pay27 (k0_pay26 xdos xdo)
def deltaOf (xdos : Vec F S1x1x1x1024 .f32) (xdo : Vec F S1x1024x512 .fp8e5m2) (xo : Vec F S1x1024x512 .bf16) : Vec F S8x1024 .f32 :=
  k0_pay28 (k0_pay24 xdos xdo) xo
def dqZero : Vec F S576x1024 .f32 := k0_pay29

/-- The blocks of query gradients a query tile ends with. -/
def dqOut (acc : Vec F S576x1024 .f32) : Vec F S1x1024x512 .bf16 :=
  k0_pay6 (View.ld acc (Rect.unit (s := S576x1024) ![0, 0] S512x1024.size inb_S576x1024_S512x1024_0_0))
def dqrOut (acc : Vec F S576x1024 .f32) : Vec F S1x1024x64 .bf16 :=
  k0_pay7 (View.ld acc (Rect.unit (s := S576x1024) ![512, 0] S64x1024.size inb_S576x1024_S64x1024_512_0))

/-! ## The payloads the program spells several times are one function -/

theorem pay51_eq : @k0_pay51 F _ = @k0_pay44 F _ := rfl
theorem pay52_eq : @k0_pay52 F _ = @k0_pay45 F _ := rfl
theorem pay53_eq : @k0_pay53 F _ = @k0_pay46 F _ := rfl
theorem pay54_eq : @k0_pay54 F _ = @k0_pay47 F _ := rfl
theorem pay55_eq : @k0_pay55 F _ = @k0_pay48 F _ := rfl
theorem pay56_eq : @k0_pay56 F _ = @k0_pay46 F _ := rfl
theorem pay57_eq : @k0_pay57 F _ = @k0_pay47 F _ := rfl
theorem pay5_58_eq (a : Vec F S256x1024 .bf16) (b : Vec F S64x256 .f32) (d : Vec F S64x1024 .bf16) : k0_pay5 b (k0_pay58 a d) = k0_pay48 a b d := rfl
theorem pay40_eq : @k0_pay40 F _ = @k0_pay46 F _ := rfl
theorem pay3_41_eq (a b : Vec F S256x1024 .bf16) (x : Vec F S256x512 .f32) (d e : Vec F S1024x512 .bf16) :
    k0_pay3 (k0_pay41 a b x d e) = k0_pay47 a b x d e := rfl
theorem pay4_eq : @k0_pay4 F _ = @k0_pay48 F _ := rfl
theorem pay32_eq (a : Vec F S1x256x512 .bf16) (b : Vec F S1x256x128 .bf16) (d : Vec F S1x1x256x128 .bf16) (e : Vec F S768x1024 .bf16) :
    k0_pay32 (k0_pay31 a b d e) = k0_pay44 a b d e := rfl
theorem pay33_eq (a : Vec F S1x256x512 .bf16) (b : Vec F S1x256x128 .bf16) (d : Vec F S1x1x256x128 .bf16) (e : Vec F S768x1024 .bf16)
    (x : Vec F S512x1024 .bf16) (y : Vec F S1x1024 .f32) :
    k0_pay33 (k0_pay30 a) (k0_pay31 a b d e) x y = k0_pay45 a b d e x y := rfl
theorem pay38_eq (a : Vec F S1x256x512 .bf16) (b : Vec F S1x256x128 .bf16) (d : Vec F S1x1x256x128 .bf16) (e : Vec F S768x1024 .bf16) :
    k0_pay38 (k0_pay37 a b d e) = k0_pay44 a b d e := rfl
theorem pay39_eq (a : Vec F S1x256x512 .bf16) (b : Vec F S1x256x128 .bf16) (d : Vec F S1x1x256x128 .bf16) (e : Vec F S768x1024 .bf16)
    (x : Vec F S512x1024 .bf16) (y : Vec F S1x1024 .f32) :
    k0_pay39 (k0_pay35 a b d e) (k0_pay36 a x) y = k0_pay45 a b d e x y := rfl

end Cert.Kernel.Gen

end
-- ==== Proof.Runs.lean ====
/-
  What each phase of the body does to the buffers it touches: the reads and stores of a phase run once, over
  any memory references, with the contents before and after named by the functions of Model.
-/
module

public import proofs.«01_k».proof.Proof.Phases
public import proofs.«01_k».proof.Proof.Model
public import Idealize.ShloMosaic.Lib.Tactic
public import Idealize.ShloMosaic.Lib.Pipeline.FrameBody
public import Idealize.ShloMosaic.Lib.VecWindow

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ
/-! ## Whole loads and whole stores, at the shapes of the buffers -/

section

variable {κ : Kind} {sp : Space} {e : EltTy}

theorem rwF_S768x1024 (v : View sig κ sp S768x1024 e) (f : v.ty.Contents (Elt F)) {off : Fin 2 → ℕ} (inb : ∀ a, off a + ![768, 1024] a ≤ S768x1024.size a)
    (w : (Rect.unit (s := S768x1024) off ![768, 1024] inb).shape.Idx → Elt F e) (L : List (View.Piece (Elt F) S768x1024 e)) :
    v.read (Elt F) (v.writes (Elt F) f (⟨Rect.unit (s := S768x1024) off ![768, 1024] inb, w⟩ :: L)) = w := View.read_writes_full v f inb w L
theorem raF_S768x1024 (v : View sig κ sp S768x1024 e) (f : v.ty.Contents (Elt F)) {off : Fin 2 → ℕ} (inb : ∀ a, off a + ![768, 1024] a ≤ S768x1024.size a) :
    v.readAt (Elt F) (Rect.unit (s := S768x1024) off ![768, 1024] inb).toLoadRect f = v.read (Elt F) f := View.readAt_full v f inb
theorem rcF_S768x1024 (v : View sig κ sp S768x1024 e) {off off' : Fin 2 → ℕ} (inb : ∀ a, off a + ![768, 1024] a ≤ S768x1024.size a) (inb' : ∀ a, off' a + ![768, 1024] a ≤ S768x1024.size a)
    (w : (Rect.unit (s := S768x1024) off' ![768, 1024] inb').shape.Idx → Elt F e) (L : List (View.Piece (Elt F) S768x1024 e)) :
    v.readCov (⟨Rect.unit (s := S768x1024) off' ![768, 1024] inb', w⟩ :: L) (Rect.unit (s := S768x1024) off ![768, 1024] inb).toLoadRect = w := View.readCov_full v inb inb' w L
theorem cnF_S768x1024 {off : Fin 2 → ℕ} (inb : ∀ a, off a + ![768, 1024] a ≤ S768x1024.size a)
    (w : (Rect.unit (s := S768x1024) off ![768, 1024] inb).shape.Idx → Elt F e) (L : List (View.Piece (Elt F) S768x1024 e)) :
    View.canon (⟨Rect.unit (s := S768x1024) off ![768, 1024] inb, w⟩ :: L) = w := by
  funext y
  have e := View.canon_cons_emb (Val := Elt F) (Rect.unit (s := S768x1024) off ![768, 1024] inb) w L y
  rwa [Rect.emb_unit_full (s := S768x1024) inb y] at e
theorem rcC_S768x1024 (v : View sig κ sp S768x1024 e) {off : Fin 2 → ℕ} (inb : ∀ a, off a + ![768, 1024] a ≤ S768x1024.size a) (L : List (View.Piece (Elt F) S768x1024 e)) :
    v.readCov L (Rect.unit (s := S768x1024) off ![768, 1024] inb).toLoadRect = View.canon L :=
  (View.readCov_eq_canon' v L _).trans (funext fun y => congrArg (View.canon L) (Rect.emb_unit_full (s := S768x1024) inb y))
theorem rwF_S512x1024 (v : View sig κ sp S512x1024 e) (f : v.ty.Contents (Elt F)) {off : Fin 2 → ℕ} (inb : ∀ a, off a + ![512, 1024] a ≤ S512x1024.size a)
    (w : (Rect.unit (s := S512x1024) off ![512, 1024] inb).shape.Idx → Elt F e) (L : List (View.Piece (Elt F) S512x1024 e)) :
    v.read (Elt F) (v.writes (Elt F) f (⟨Rect.unit (s := S512x1024) off ![512, 1024] inb, w⟩ :: L)) = w := View.read_writes_full v f inb w L
theorem raF_S512x1024 (v : View sig κ sp S512x1024 e) (f : v.ty.Contents (Elt F)) {off : Fin 2 → ℕ} (inb : ∀ a, off a + ![512, 1024] a ≤ S512x1024.size a) :
    v.readAt (Elt F) (Rect.unit (s := S512x1024) off ![512, 1024] inb).toLoadRect f = v.read (Elt F) f := View.readAt_full v f inb
theorem rcF_S512x1024 (v : View sig κ sp S512x1024 e) {off off' : Fin 2 → ℕ} (inb : ∀ a, off a + ![512, 1024] a ≤ S512x1024.size a) (inb' : ∀ a, off' a + ![512, 1024] a ≤ S512x1024.size a)
    (w : (Rect.unit (s := S512x1024) off' ![512, 1024] inb').shape.Idx → Elt F e) (L : List (View.Piece (Elt F) S512x1024 e)) :
    v.readCov (⟨Rect.unit (s := S512x1024) off' ![512, 1024] inb', w⟩ :: L) (Rect.unit (s := S512x1024) off ![512, 1024] inb).toLoadRect = w := View.readCov_full v inb inb' w L
theorem cnF_S512x1024 {off : Fin 2 → ℕ} (inb : ∀ a, off a + ![512, 1024] a ≤ S512x1024.size a)
    (w : (Rect.unit (s := S512x1024) off ![512, 1024] inb).shape.Idx → Elt F e) (L : List (View.Piece (Elt F) S512x1024 e)) :
    View.canon (⟨Rect.unit (s := S512x1024) off ![512, 1024] inb, w⟩ :: L) = w := by
  funext y
  have e := View.canon_cons_emb (Val := Elt F) (Rect.unit (s := S512x1024) off ![512, 1024] inb) w L y
  rwa [Rect.emb_unit_full (s := S512x1024) inb y] at e
theorem rcC_S512x1024 (v : View sig κ sp S512x1024 e) {off : Fin 2 → ℕ} (inb : ∀ a, off a + ![512, 1024] a ≤ S512x1024.size a) (L : List (View.Piece (Elt F) S512x1024 e)) :
    v.readCov L (Rect.unit (s := S512x1024) off ![512, 1024] inb).toLoadRect = View.canon L :=
  (View.readCov_eq_canon' v L _).trans (funext fun y => congrArg (View.canon L) (Rect.emb_unit_full (s := S512x1024) inb y))
theorem rwF_S1024x512 (v : View sig κ sp S1024x512 e) (f : v.ty.Contents (Elt F)) {off : Fin 2 → ℕ} (inb : ∀ a, off a + ![1024, 512] a ≤ S1024x512.size a)
    (w : (Rect.unit (s := S1024x512) off ![1024, 512] inb).shape.Idx → Elt F e) (L : List (View.Piece (Elt F) S1024x512 e)) :
    v.read (Elt F) (v.writes (Elt F) f (⟨Rect.unit (s := S1024x512) off ![1024, 512] inb, w⟩ :: L)) = w := View.read_writes_full v f inb w L
theorem raF_S1024x512 (v : View sig κ sp S1024x512 e) (f : v.ty.Contents (Elt F)) {off : Fin 2 → ℕ} (inb : ∀ a, off a + ![1024, 512] a ≤ S1024x512.size a) :
    v.readAt (Elt F) (Rect.unit (s := S1024x512) off ![1024, 512] inb).toLoadRect f = v.read (Elt F) f := View.readAt_full v f inb
theorem rcF_S1024x512 (v : View sig κ sp S1024x512 e) {off off' : Fin 2 → ℕ} (inb : ∀ a, off a + ![1024, 512] a ≤ S1024x512.size a) (inb' : ∀ a, off' a + ![1024, 512] a ≤ S1024x512.size a)
    (w : (Rect.unit (s := S1024x512) off' ![1024, 512] inb').shape.Idx → Elt F e) (L : List (View.Piece (Elt F) S1024x512 e)) :
    v.readCov (⟨Rect.unit (s := S1024x512) off' ![1024, 512] inb', w⟩ :: L) (Rect.unit (s := S1024x512) off ![1024, 512] inb).toLoadRect = w := View.readCov_full v inb inb' w L
theorem cnF_S1024x512 {off : Fin 2 → ℕ} (inb : ∀ a, off a + ![1024, 512] a ≤ S1024x512.size a)
    (w : (Rect.unit (s := S1024x512) off ![1024, 512] inb).shape.Idx → Elt F e) (L : List (View.Piece (Elt F) S1024x512 e)) :
    View.canon (⟨Rect.unit (s := S1024x512) off ![1024, 512] inb, w⟩ :: L) = w := by
  funext y
  have e := View.canon_cons_emb (Val := Elt F) (Rect.unit (s := S1024x512) off ![1024, 512] inb) w L y
  rwa [Rect.emb_unit_full (s := S1024x512) inb y] at e
theorem rcC_S1024x512 (v : View sig κ sp S1024x512 e) {off : Fin 2 → ℕ} (inb : ∀ a, off a + ![1024, 512] a ≤ S1024x512.size a) (L : List (View.Piece (Elt F) S1024x512 e)) :
    v.readCov L (Rect.unit (s := S1024x512) off ![1024, 512] inb).toLoadRect = View.canon L :=
  (View.readCov_eq_canon' v L _).trans (funext fun y => congrArg (View.canon L) (Rect.emb_unit_full (s := S1024x512) inb y))
theorem rwF_S8x1024 (v : View sig κ sp S8x1024 e) (f : v.ty.Contents (Elt F)) {off : Fin 2 → ℕ} (inb : ∀ a, off a + ![8, 1024] a ≤ S8x1024.size a)
    (w : (Rect.unit (s := S8x1024) off ![8, 1024] inb).shape.Idx → Elt F e) (L : List (View.Piece (Elt F) S8x1024 e)) :
    v.read (Elt F) (v.writes (Elt F) f (⟨Rect.unit (s := S8x1024) off ![8, 1024] inb, w⟩ :: L)) = w := View.read_writes_full v f inb w L
theorem raF_S8x1024 (v : View sig κ sp S8x1024 e) (f : v.ty.Contents (Elt F)) {off : Fin 2 → ℕ} (inb : ∀ a, off a + ![8, 1024] a ≤ S8x1024.size a) :
    v.readAt (Elt F) (Rect.unit (s := S8x1024) off ![8, 1024] inb).toLoadRect f = v.read (Elt F) f := View.readAt_full v f inb
theorem rcF_S8x1024 (v : View sig κ sp S8x1024 e) {off off' : Fin 2 → ℕ} (inb : ∀ a, off a + ![8, 1024] a ≤ S8x1024.size a) (inb' : ∀ a, off' a + ![8, 1024] a ≤ S8x1024.size a)
    (w : (Rect.unit (s := S8x1024) off' ![8, 1024] inb').shape.Idx → Elt F e) (L : List (View.Piece (Elt F) S8x1024 e)) :
    v.readCov (⟨Rect.unit (s := S8x1024) off' ![8, 1024] inb', w⟩ :: L) (Rect.unit (s := S8x1024) off ![8, 1024] inb).toLoadRect = w := View.readCov_full v inb inb' w L
theorem cnF_S8x1024 {off : Fin 2 → ℕ} (inb : ∀ a, off a + ![8, 1024] a ≤ S8x1024.size a)
    (w : (Rect.unit (s := S8x1024) off ![8, 1024] inb).shape.Idx → Elt F e) (L : List (View.Piece (Elt F) S8x1024 e)) :
    View.canon (⟨Rect.unit (s := S8x1024) off ![8, 1024] inb, w⟩ :: L) = w := by
  funext y
  have e := View.canon_cons_emb (Val := Elt F) (Rect.unit (s := S8x1024) off ![8, 1024] inb) w L y
  rwa [Rect.emb_unit_full (s := S8x1024) inb y] at e
theorem rcC_S8x1024 (v : View sig κ sp S8x1024 e) {off : Fin 2 → ℕ} (inb : ∀ a, off a + ![8, 1024] a ≤ S8x1024.size a) (L : List (View.Piece (Elt F) S8x1024 e)) :
    v.readCov L (Rect.unit (s := S8x1024) off ![8, 1024] inb).toLoadRect = View.canon L :=
  (View.readCov_eq_canon' v L _).trans (funext fun y => congrArg (View.canon L) (Rect.emb_unit_full (s := S8x1024) inb y))
theorem rwF_S256x1024 (v : View sig κ sp S256x1024 e) (f : v.ty.Contents (Elt F)) {off : Fin 2 → ℕ} (inb : ∀ a, off a + ![256, 1024] a ≤ S256x1024.size a)
    (w : (Rect.unit (s := S256x1024) off ![256, 1024] inb).shape.Idx → Elt F e) (L : List (View.Piece (Elt F) S256x1024 e)) :
    v.read (Elt F) (v.writes (Elt F) f (⟨Rect.unit (s := S256x1024) off ![256, 1024] inb, w⟩ :: L)) = w := View.read_writes_full v f inb w L
theorem raF_S256x1024 (v : View sig κ sp S256x1024 e) (f : v.ty.Contents (Elt F)) {off : Fin 2 → ℕ} (inb : ∀ a, off a + ![256, 1024] a ≤ S256x1024.size a) :
    v.readAt (Elt F) (Rect.unit (s := S256x1024) off ![256, 1024] inb).toLoadRect f = v.read (Elt F) f := View.readAt_full v f inb
theorem rcF_S256x1024 (v : View sig κ sp S256x1024 e) {off off' : Fin 2 → ℕ} (inb : ∀ a, off a + ![256, 1024] a ≤ S256x1024.size a) (inb' : ∀ a, off' a + ![256, 1024] a ≤ S256x1024.size a)
    (w : (Rect.unit (s := S256x1024) off' ![256, 1024] inb').shape.Idx → Elt F e) (L : List (View.Piece (Elt F) S256x1024 e)) :
    v.readCov (⟨Rect.unit (s := S256x1024) off' ![256, 1024] inb', w⟩ :: L) (Rect.unit (s := S256x1024) off ![256, 1024] inb).toLoadRect = w := View.readCov_full v inb inb' w L
theorem cnF_S256x1024 {off : Fin 2 → ℕ} (inb : ∀ a, off a + ![256, 1024] a ≤ S256x1024.size a)
    (w : (Rect.unit (s := S256x1024) off ![256, 1024] inb).shape.Idx → Elt F e) (L : List (View.Piece (Elt F) S256x1024 e)) :
    View.canon (⟨Rect.unit (s := S256x1024) off ![256, 1024] inb, w⟩ :: L) = w := by
  funext y
  have e := View.canon_cons_emb (Val := Elt F) (Rect.unit (s := S256x1024) off ![256, 1024] inb) w L y
  rwa [Rect.emb_unit_full (s := S256x1024) inb y] at e
theorem rcC_S256x1024 (v : View sig κ sp S256x1024 e) {off : Fin 2 → ℕ} (inb : ∀ a, off a + ![256, 1024] a ≤ S256x1024.size a) (L : List (View.Piece (Elt F) S256x1024 e)) :
    v.readCov L (Rect.unit (s := S256x1024) off ![256, 1024] inb).toLoadRect = View.canon L :=
  (View.readCov_eq_canon' v L _).trans (funext fun y => congrArg (View.canon L) (Rect.emb_unit_full (s := S256x1024) inb y))
theorem rwF_S576x1024 (v : View sig κ sp S576x1024 e) (f : v.ty.Contents (Elt F)) {off : Fin 2 → ℕ} (inb : ∀ a, off a + ![576, 1024] a ≤ S576x1024.size a)
    (w : (Rect.unit (s := S576x1024) off ![576, 1024] inb).shape.Idx → Elt F e) (L : List (View.Piece (Elt F) S576x1024 e)) :
    v.read (Elt F) (v.writes (Elt F) f (⟨Rect.unit (s := S576x1024) off ![576, 1024] inb, w⟩ :: L)) = w := View.read_writes_full v f inb w L
theorem raF_S576x1024 (v : View sig κ sp S576x1024 e) (f : v.ty.Contents (Elt F)) {off : Fin 2 → ℕ} (inb : ∀ a, off a + ![576, 1024] a ≤ S576x1024.size a) :
    v.readAt (Elt F) (Rect.unit (s := S576x1024) off ![576, 1024] inb).toLoadRect f = v.read (Elt F) f := View.readAt_full v f inb
theorem rcF_S576x1024 (v : View sig κ sp S576x1024 e) {off off' : Fin 2 → ℕ} (inb : ∀ a, off a + ![576, 1024] a ≤ S576x1024.size a) (inb' : ∀ a, off' a + ![576, 1024] a ≤ S576x1024.size a)
    (w : (Rect.unit (s := S576x1024) off' ![576, 1024] inb').shape.Idx → Elt F e) (L : List (View.Piece (Elt F) S576x1024 e)) :
    v.readCov (⟨Rect.unit (s := S576x1024) off' ![576, 1024] inb', w⟩ :: L) (Rect.unit (s := S576x1024) off ![576, 1024] inb).toLoadRect = w := View.readCov_full v inb inb' w L
theorem cnF_S576x1024 {off : Fin 2 → ℕ} (inb : ∀ a, off a + ![576, 1024] a ≤ S576x1024.size a)
    (w : (Rect.unit (s := S576x1024) off ![576, 1024] inb).shape.Idx → Elt F e) (L : List (View.Piece (Elt F) S576x1024 e)) :
    View.canon (⟨Rect.unit (s := S576x1024) off ![576, 1024] inb, w⟩ :: L) = w := by
  funext y
  have e := View.canon_cons_emb (Val := Elt F) (Rect.unit (s := S576x1024) off ![576, 1024] inb) w L y
  rwa [Rect.emb_unit_full (s := S576x1024) inb y] at e
theorem rcC_S576x1024 (v : View sig κ sp S576x1024 e) {off : Fin 2 → ℕ} (inb : ∀ a, off a + ![576, 1024] a ≤ S576x1024.size a) (L : List (View.Piece (Elt F) S576x1024 e)) :
    v.readCov L (Rect.unit (s := S576x1024) off ![576, 1024] inb).toLoadRect = View.canon L :=
  (View.readCov_eq_canon' v L _).trans (funext fun y => congrArg (View.canon L) (Rect.emb_unit_full (s := S576x1024) inb y))
theorem rwF_S1x576x256 (v : View sig κ sp S1x576x256 e) (f : v.ty.Contents (Elt F)) {off : Fin 3 → ℕ} (inb : ∀ a, off a + ![1, 576, 256] a ≤ S1x576x256.size a)
    (w : (Rect.unit (s := S1x576x256) off ![1, 576, 256] inb).shape.Idx → Elt F e) (L : List (View.Piece (Elt F) S1x576x256 e)) :
    v.read (Elt F) (v.writes (Elt F) f (⟨Rect.unit (s := S1x576x256) off ![1, 576, 256] inb, w⟩ :: L)) = w := View.read_writes_full v f inb w L
theorem raF_S1x576x256 (v : View sig κ sp S1x576x256 e) (f : v.ty.Contents (Elt F)) {off : Fin 3 → ℕ} (inb : ∀ a, off a + ![1, 576, 256] a ≤ S1x576x256.size a) :
    v.readAt (Elt F) (Rect.unit (s := S1x576x256) off ![1, 576, 256] inb).toLoadRect f = v.read (Elt F) f := View.readAt_full v f inb
theorem rcF_S1x576x256 (v : View sig κ sp S1x576x256 e) {off off' : Fin 3 → ℕ} (inb : ∀ a, off a + ![1, 576, 256] a ≤ S1x576x256.size a) (inb' : ∀ a, off' a + ![1, 576, 256] a ≤ S1x576x256.size a)
    (w : (Rect.unit (s := S1x576x256) off' ![1, 576, 256] inb').shape.Idx → Elt F e) (L : List (View.Piece (Elt F) S1x576x256 e)) :
    v.readCov (⟨Rect.unit (s := S1x576x256) off' ![1, 576, 256] inb', w⟩ :: L) (Rect.unit (s := S1x576x256) off ![1, 576, 256] inb).toLoadRect = w := View.readCov_full v inb inb' w L
theorem cnF_S1x576x256 {off : Fin 3 → ℕ} (inb : ∀ a, off a + ![1, 576, 256] a ≤ S1x576x256.size a)
    (w : (Rect.unit (s := S1x576x256) off ![1, 576, 256] inb).shape.Idx → Elt F e) (L : List (View.Piece (Elt F) S1x576x256 e)) :
    View.canon (⟨Rect.unit (s := S1x576x256) off ![1, 576, 256] inb, w⟩ :: L) = w := by
  funext y
  have e := View.canon_cons_emb (Val := Elt F) (Rect.unit (s := S1x576x256) off ![1, 576, 256] inb) w L y
  rwa [Rect.emb_unit_full (s := S1x576x256) inb y] at e
theorem rcC_S1x576x256 (v : View sig κ sp S1x576x256 e) {off : Fin 3 → ℕ} (inb : ∀ a, off a + ![1, 576, 256] a ≤ S1x576x256.size a) (L : List (View.Piece (Elt F) S1x576x256 e)) :
    v.readCov L (Rect.unit (s := S1x576x256) off ![1, 576, 256] inb).toLoadRect = View.canon L :=
  (View.readCov_eq_canon' v L _).trans (funext fun y => congrArg (View.canon L) (Rect.emb_unit_full (s := S1x576x256) inb y))
theorem rwF_S1x1024x512 (v : View sig κ sp S1x1024x512 e) (f : v.ty.Contents (Elt F)) {off : Fin 3 → ℕ} (inb : ∀ a, off a + ![1, 1024, 512] a ≤ S1x1024x512.size a)
    (w : (Rect.unit (s := S1x1024x512) off ![1, 1024, 512] inb).shape.Idx → Elt F e) (L : List (View.Piece (Elt F) S1x1024x512 e)) :
    v.read (Elt F) (v.writes (Elt F) f (⟨Rect.unit (s := S1x1024x512) off ![1, 1024, 512] inb, w⟩ :: L)) = w := View.read_writes_full v f inb w L
theorem raF_S1x1024x512 (v : View sig κ sp S1x1024x512 e) (f : v.ty.Contents (Elt F)) {off : Fin 3 → ℕ} (inb : ∀ a, off a + ![1, 1024, 512] a ≤ S1x1024x512.size a) :
    v.readAt (Elt F) (Rect.unit (s := S1x1024x512) off ![1, 1024, 512] inb).toLoadRect f = v.read (Elt F) f := View.readAt_full v f inb
theorem rcF_S1x1024x512 (v : View sig κ sp S1x1024x512 e) {off off' : Fin 3 → ℕ} (inb : ∀ a, off a + ![1, 1024, 512] a ≤ S1x1024x512.size a) (inb' : ∀ a, off' a + ![1, 1024, 512] a ≤ S1x1024x512.size a)
    (w : (Rect.unit (s := S1x1024x512) off' ![1, 1024, 512] inb').shape.Idx → Elt F e) (L : List (View.Piece (Elt F) S1x1024x512 e)) :
    v.readCov (⟨Rect.unit (s := S1x1024x512) off' ![1, 1024, 512] inb', w⟩ :: L) (Rect.unit (s := S1x1024x512) off ![1, 1024, 512] inb).toLoadRect = w := View.readCov_full v inb inb' w L
theorem cnF_S1x1024x512 {off : Fin 3 → ℕ} (inb : ∀ a, off a + ![1, 1024, 512] a ≤ S1x1024x512.size a)
    (w : (Rect.unit (s := S1x1024x512) off ![1, 1024, 512] inb).shape.Idx → Elt F e) (L : List (View.Piece (Elt F) S1x1024x512 e)) :
    View.canon (⟨Rect.unit (s := S1x1024x512) off ![1, 1024, 512] inb, w⟩ :: L) = w := by
  funext y
  have e := View.canon_cons_emb (Val := Elt F) (Rect.unit (s := S1x1024x512) off ![1, 1024, 512] inb) w L y
  rwa [Rect.emb_unit_full (s := S1x1024x512) inb y] at e
theorem rcC_S1x1024x512 (v : View sig κ sp S1x1024x512 e) {off : Fin 3 → ℕ} (inb : ∀ a, off a + ![1, 1024, 512] a ≤ S1x1024x512.size a) (L : List (View.Piece (Elt F) S1x1024x512 e)) :
    v.readCov L (Rect.unit (s := S1x1024x512) off ![1, 1024, 512] inb).toLoadRect = View.canon L :=
  (View.readCov_eq_canon' v L _).trans (funext fun y => congrArg (View.canon L) (Rect.emb_unit_full (s := S1x1024x512) inb y))
theorem rwF_S1x1024x64 (v : View sig κ sp S1x1024x64 e) (f : v.ty.Contents (Elt F)) {off : Fin 3 → ℕ} (inb : ∀ a, off a + ![1, 1024, 64] a ≤ S1x1024x64.size a)
    (w : (Rect.unit (s := S1x1024x64) off ![1, 1024, 64] inb).shape.Idx → Elt F e) (L : List (View.Piece (Elt F) S1x1024x64 e)) :
    v.read (Elt F) (v.writes (Elt F) f (⟨Rect.unit (s := S1x1024x64) off ![1, 1024, 64] inb, w⟩ :: L)) = w := View.read_writes_full v f inb w L
theorem raF_S1x1024x64 (v : View sig κ sp S1x1024x64 e) (f : v.ty.Contents (Elt F)) {off : Fin 3 → ℕ} (inb : ∀ a, off a + ![1, 1024, 64] a ≤ S1x1024x64.size a) :
    v.readAt (Elt F) (Rect.unit (s := S1x1024x64) off ![1, 1024, 64] inb).toLoadRect f = v.read (Elt F) f := View.readAt_full v f inb
theorem rcF_S1x1024x64 (v : View sig κ sp S1x1024x64 e) {off off' : Fin 3 → ℕ} (inb : ∀ a, off a + ![1, 1024, 64] a ≤ S1x1024x64.size a) (inb' : ∀ a, off' a + ![1, 1024, 64] a ≤ S1x1024x64.size a)
    (w : (Rect.unit (s := S1x1024x64) off' ![1, 1024, 64] inb').shape.Idx → Elt F e) (L : List (View.Piece (Elt F) S1x1024x64 e)) :
    v.readCov (⟨Rect.unit (s := S1x1024x64) off' ![1, 1024, 64] inb', w⟩ :: L) (Rect.unit (s := S1x1024x64) off ![1, 1024, 64] inb).toLoadRect = w := View.readCov_full v inb inb' w L
theorem cnF_S1x1024x64 {off : Fin 3 → ℕ} (inb : ∀ a, off a + ![1, 1024, 64] a ≤ S1x1024x64.size a)
    (w : (Rect.unit (s := S1x1024x64) off ![1, 1024, 64] inb).shape.Idx → Elt F e) (L : List (View.Piece (Elt F) S1x1024x64 e)) :
    View.canon (⟨Rect.unit (s := S1x1024x64) off ![1, 1024, 64] inb, w⟩ :: L) = w := by
  funext y
  have e := View.canon_cons_emb (Val := Elt F) (Rect.unit (s := S1x1024x64) off ![1, 1024, 64] inb) w L y
  rwa [Rect.emb_unit_full (s := S1x1024x64) inb y] at e
theorem rcC_S1x1024x64 (v : View sig κ sp S1x1024x64 e) {off : Fin 3 → ℕ} (inb : ∀ a, off a + ![1, 1024, 64] a ≤ S1x1024x64.size a) (L : List (View.Piece (Elt F) S1x1024x64 e)) :
    v.readCov L (Rect.unit (s := S1x1024x64) off ![1, 1024, 64] inb).toLoadRect = View.canon L :=
  (View.readCov_eq_canon' v L _).trans (funext fun y => congrArg (View.canon L) (Rect.emb_unit_full (s := S1x1024x64) inb y))
theorem rwF_S1x1x1x1024 (v : View sig κ sp S1x1x1x1024 e) (f : v.ty.Contents (Elt F)) {off : Fin 4 → ℕ} (inb : ∀ a, off a + ![1, 1, 1, 1024] a ≤ S1x1x1x1024.size a)
    (w : (Rect.unit (s := S1x1x1x1024) off ![1, 1, 1, 1024] inb).shape.Idx → Elt F e) (L : List (View.Piece (Elt F) S1x1x1x1024 e)) :
    v.read (Elt F) (v.writes (Elt F) f (⟨Rect.unit (s := S1x1x1x1024) off ![1, 1, 1, 1024] inb, w⟩ :: L)) = w := View.read_writes_full v f inb w L
theorem raF_S1x1x1x1024 (v : View sig κ sp S1x1x1x1024 e) (f : v.ty.Contents (Elt F)) {off : Fin 4 → ℕ} (inb : ∀ a, off a + ![1, 1, 1, 1024] a ≤ S1x1x1x1024.size a) :
    v.readAt (Elt F) (Rect.unit (s := S1x1x1x1024) off ![1, 1, 1, 1024] inb).toLoadRect f = v.read (Elt F) f := View.readAt_full v f inb
theorem rcF_S1x1x1x1024 (v : View sig κ sp S1x1x1x1024 e) {off off' : Fin 4 → ℕ} (inb : ∀ a, off a + ![1, 1, 1, 1024] a ≤ S1x1x1x1024.size a) (inb' : ∀ a, off' a + ![1, 1, 1, 1024] a ≤ S1x1x1x1024.size a)
    (w : (Rect.unit (s := S1x1x1x1024) off' ![1, 1, 1, 1024] inb').shape.Idx → Elt F e) (L : List (View.Piece (Elt F) S1x1x1x1024 e)) :
    v.readCov (⟨Rect.unit (s := S1x1x1x1024) off' ![1, 1, 1, 1024] inb', w⟩ :: L) (Rect.unit (s := S1x1x1x1024) off ![1, 1, 1, 1024] inb).toLoadRect = w := View.readCov_full v inb inb' w L
theorem cnF_S1x1x1x1024 {off : Fin 4 → ℕ} (inb : ∀ a, off a + ![1, 1, 1, 1024] a ≤ S1x1x1x1024.size a)
    (w : (Rect.unit (s := S1x1x1x1024) off ![1, 1, 1, 1024] inb).shape.Idx → Elt F e) (L : List (View.Piece (Elt F) S1x1x1x1024 e)) :
    View.canon (⟨Rect.unit (s := S1x1x1x1024) off ![1, 1, 1, 1024] inb, w⟩ :: L) = w := by
  funext y
  have e := View.canon_cons_emb (Val := Elt F) (Rect.unit (s := S1x1x1x1024) off ![1, 1, 1, 1024] inb) w L y
  rwa [Rect.emb_unit_full (s := S1x1x1x1024) inb y] at e
theorem rcC_S1x1x1x1024 (v : View sig κ sp S1x1x1x1024 e) {off : Fin 4 → ℕ} (inb : ∀ a, off a + ![1, 1, 1, 1024] a ≤ S1x1x1x1024.size a) (L : List (View.Piece (Elt F) S1x1x1x1024 e)) :
    v.readCov L (Rect.unit (s := S1x1x1x1024) off ![1, 1, 1, 1024] inb).toLoadRect = View.canon L :=
  (View.readCov_eq_canon' v L _).trans (funext fun y => congrArg (View.canon L) (Rect.emb_unit_full (s := S1x1x1x1024) inb y))
theorem rcS {s : Shape} (v : View sig κ sp s e) (r : Rect s) (L : List (View.Piece (Elt F) s e)) :
    v.readCov L r.toLoadRect = View.ld (View.canon L) r := View.readCov_eq_canon' v L _

end

theorem qtPieces_cover (qi : BitVec 32) (xq : Vec F S1x1024x512 .bf16) (xqr : Vec F S1x1024x64 .bf16) (xlse : Vec F S1x1x1x1024 .f32)
    (y : S768x1024.Idx) : ∃ p ∈ qtPieces qi xq xqr xlse, y ∈ p.1.set := by
  have h0 : (y 0).val < 768 := (y 0).isLt
  have h1 : (y 1).val < 1024 := (y 1).isLt
  simp only [qtPieces, List.exists_mem_cons_iff, List.not_mem_nil, false_and, exists_false, or_false, Rect.mem_set_unit, Fin.forall_fin_two,
    Matrix.cons_val_zero, Matrix.cons_val_one]
  omega

/-- An inner point of a row of points: half `2j-1` of the keys is added to the gradients, the two halves of this point are formed, half `2j` is added. -/
theorem phaseC_run (c : Dev nD) (i : grid0.Coords) (h5 : k0_cond5 i = 1#1) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) {Q : PUnit → sProp 𝕄}
    (xk : Vec F S1x512x512 .bf16) (xkx : Vec F S1x512x128 .bf16) (xb : Vec F S1x1x512x128 .bf16) (qt : Vec F S768x1024 .bf16) (dot : Vec F S512x1024 .bf16) (dov q : Vec F S1024x512 .bf16) (delta : Vec F S8x1024 .f32) (kta ktb : Vec F S1x576x256 .bf16) (pa pb dsa dsb : Vec F S256x1024 .bf16) (acc : Vec F S576x1024 .f32) (fc1 fc0 : Buf (Elt F) (arg28.view.loc (c : Thread nD τ))) (fk1 fk0 : Buf (Elt F) (arg29.view.loc (c : Thread nD τ))) :
    iprop(owns (c : Thread nD τ) arg9 fullShare xk ∗ owns (c : Thread nD τ) arg10 fullShare xkx ∗ owns (c : Thread nD τ) arg11 fullShare xb ∗ owns (c : Thread nD τ) arg18 fullShare qt ∗ owns (c : Thread nD τ) arg19 fullShare dot ∗ owns (c : Thread nD τ) arg20 fullShare dov ∗ owns (c : Thread nD τ) arg21 fullShare q ∗ owns (c : Thread nD τ) arg22 fullShare delta ∗ owns (c : Thread nD τ) arg12 fullShare kta ∗ owns (c : Thread nD τ) arg13 fullShare ktb ∗ owns (c : Thread nD τ) arg23 fullShare pa ∗ owns (c : Thread nD τ) arg24 fullShare dsa ∗ owns (c : Thread nD τ) arg25 fullShare pb ∗ owns (c : Thread nD τ) arg26 fullShare dsb ∗ owns (c : Thread nD τ) arg27 fullShare acc ∗ (arg28.view.loc (c : Thread nD τ) ↦[arg28.view.setOn (Rect.unit (s := S12800x512) (k0_off10 i) S256x512.size (k0_off10_inb i h5)).set]{fullShare} fc1) ∗ (arg28.view.loc (c : Thread nD τ) ↦[arg28.view.setOn (Rect.unit (s := S12800x512) (k0_off12 i) S256x512.size (k0_off12_inb i h5)).set]{fullShare} fc0) ∗ (arg29.view.loc (c : Thread nD τ) ↦[arg29.view.setOn (Rect.unit (s := S64x12800) (k0_off11 i) S64x256.size (k0_off11_inb i h5)).set]{fullShare} fk1) ∗ (arg29.view.loc (c : Thread nD τ) ↦[arg29.view.setOn (Rect.unit (s := S64x12800) (k0_off13 i) S64x256.size (k0_off13_inb i h5)).set]{fullShare} fk0)
      ∗ (iprop(owns (c : Thread nD τ) arg9 fullShare xk ∗ owns (c : Thread nD τ) arg10 fullShare xkx ∗ owns (c : Thread nD τ) arg11 fullShare xb ∗ owns (c : Thread nD τ) arg18 fullShare qt ∗ owns (c : Thread nD τ) arg19 fullShare dot ∗ owns (c : Thread nD τ) arg20 fullShare dov ∗ owns (c : Thread nD τ) arg21 fullShare q ∗ owns (c : Thread nD τ) arg22 fullShare delta ∗ owns (c : Thread nD τ) arg12 fullShare kta ∗ owns (c : Thread nD τ) arg13 fullShare ktb ∗ owns (c : Thread nD τ) arg23 fullShare (pOf false xk xkx xb qt) ∗ owns (c : Thread nD τ) arg24 fullShare (dsOf false xk xkx xb qt dot delta) ∗ owns (c : Thread nD τ) arg25 fullShare (pOf true xk xkx xb qt) ∗ owns (c : Thread nD τ) arg26 fullShare (dsOf true xk xkx xb qt dot delta) ∗ owns (c : Thread nD τ) arg27 fullShare (dqStep (dqStep acc dsb ktb) (dsOf false xk xkx xb qt dot delta) kta) ∗ (arg28.view.loc (c : Thread nD τ) ↦[arg28.view.setOn (Rect.unit (s := S12800x512) (k0_off10 i) S256x512.size (k0_off10_inb i h5)).set]{fullShare} arg28.view.writes (Elt F) fc1 [⟨Rect.unit (s := S12800x512) (k0_off10 i) S256x512.size (k0_off10_inb i h5), dcStep (arg28.view.readAt (Elt F) (Rect.unit (s := S12800x512) (k0_off10 i) S256x512.size (k0_off10_inb i h5)).toLoadRect fc1) pb dsb dov q⟩]) ∗ (arg28.view.loc (c : Thread nD τ) ↦[arg28.view.setOn (Rect.unit (s := S12800x512) (k0_off12 i) S256x512.size (k0_off12_inb i h5)).set]{fullShare} arg28.view.writes (Elt F) fc0 [⟨Rect.unit (s := S12800x512) (k0_off12 i) S256x512.size (k0_off12_inb i h5), dcStep (arg28.view.readAt (Elt F) (Rect.unit (s := S12800x512) (k0_off12 i) S256x512.size (k0_off12_inb i h5)).toLoadRect fc0) (pOf false xk xkx xb qt) (dsOf false xk xkx xb qt dot delta) dov q⟩]) ∗ (arg29.view.loc (c : Thread nD τ) ↦[arg29.view.setOn (Rect.unit (s := S64x12800) (k0_off11 i) S64x256.size (k0_off11_inb i h5)).set]{fullShare} arg29.view.writes (Elt F) fk1 [⟨Rect.unit (s := S64x12800) (k0_off11 i) S64x256.size (k0_off11_inb i h5), dkStep (arg29.view.readAt (Elt F) (Rect.unit (s := S64x12800) (k0_off11 i) S64x256.size (k0_off11_inb i h5)).toLoadRect fk1) dsb qt⟩]) ∗ (arg29.view.loc (c : Thread nD τ) ↦[arg29.view.setOn (Rect.unit (s := S64x12800) (k0_off13 i) S64x256.size (k0_off13_inb i h5)).set]{fullShare} arg29.view.writes (Elt F) fk0 [⟨Rect.unit (s := S64x12800) (k0_off13 i) S64x256.size (k0_off13_inb i h5), dkStep (arg29.view.readAt (Elt F) (Rect.unit (s := S64x12800) (k0_off13 i) S64x256.size (k0_off13_inb i h5)).toLoadRect fk0) (dsOf false xk xkx xb qt dot delta) qt⟩])) -∗ wp frame (wpE (defs₀ (F := F)) Variants.none (c : Thread nD τ) none) Set.univ K Q))
    ⊢ wp frame (wpE (defs₀ (F := F)) Variants.none (c : Thread nD τ) none) Set.univ (phaseC i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 K) Q := by
  unfold phaseC
  simp only [k0_part7_eq_skeleton, k0_part8_eq_skeleton, k0_part9_eq_skeleton, k0_part10_eq_skeleton]
  unfold k0_part7_skel k0_part8_skel k0_part9_skel k0_part10_skel
  unfold owns
  iintro ⟨⟨%f9, %h9, H9⟩, ⟨%f10, %h10, H10⟩, ⟨%f11, %h11, H11⟩, ⟨%f18, %h18, H18⟩, ⟨%f19, %h19, H19⟩, ⟨%f20, %h20, H20⟩, ⟨%f21, %h21, H21⟩, ⟨%f22, %h22, H22⟩, ⟨%f12, %h12, H12⟩, ⟨%f13, %h13, H13⟩, ⟨%f23, %h23, H23⟩, ⟨%f24, %h24, H24⟩, ⟨%f25, %h25, H25⟩, ⟨%f26, %h26, H26⟩, ⟨%f27, %h27, H27⟩, Hc1, Hc0, Hk1, Hk0, HK⟩
  subst h9
  subst h10
  subst h11
  subst h18
  subst h19
  subst h20
  subst h21
  subst h22
  subst h12
  subst h13
  subst h23
  subst h24
  subst h25
  subst h26
  subst h27
  sl_exec
  iapply HK
  isplitl [H9]
  · iexists _; isplitr; swap; · iexact H9
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H10]
  · iexists _; isplitr; swap; · iexact H10
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H11]
  · iexists _; isplitr; swap; · iexact H11
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H18]
  · iexists _; isplitr; swap; · iexact H18
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H19]
  · iexists _; isplitr; swap; · iexact H19
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H20]
  · iexists _; isplitr; swap; · iexact H20
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H21]
  · iexists _; isplitr; swap; · iexact H21
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H22]
  · iexists _; isplitr; swap; · iexact H22
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H12]
  · iexists _; isplitr; swap; · iexact H12
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H13]
  · iexists _; isplitr; swap; · iexact H13
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H23]
  · iexists _; isplitr; swap; · iexact H23
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H24]
  · iexists _; isplitr; swap; · iexact H24
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H25]
  · iexists _; isplitr; swap; · iexact H25
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H26]
  · iexists _; isplitr; swap; · iexact H26
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H27]
  · iexists _; isplitr; swap; · iexact H27
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [Hc1]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [Hc0]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [Hk1]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)

/-- The first point of a row of points: the query tile is prepared, both halves of the point are formed, half 0 is added to the gradients. -/
theorem phaseB_run (c : Dev nD) (i : grid0.Coords) (h4 : k0_cond4 i = 1#1) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) {Q : PUnit → sProp 𝕄}
    (xq : Vec F S1x1024x512 .bf16) (xqr : Vec F S1x1024x64 .bf16) (xo : Vec F S1x1024x512 .bf16) (xdo : Vec F S1x1024x512 .fp8e5m2) (xdos xlse : Vec F S1x1x1x1024 .f32) (xk : Vec F S1x512x512 .bf16) (xkx : Vec F S1x512x128 .bf16) (xb : Vec F S1x1x512x128 .bf16) (kta : Vec F S1x576x256 .bf16) (fc0 : Buf (Elt F) (arg28.view.loc (c : Thread nD τ))) (fk0 : Buf (Elt F) (arg29.view.loc (c : Thread nD τ))) :
    iprop(owns (c : Thread nD τ) arg3 fullShare xq ∗ owns (c : Thread nD τ) arg4 fullShare xqr ∗ owns (c : Thread nD τ) arg5 fullShare xo ∗ owns (c : Thread nD τ) arg6 fullShare xdo ∗ owns (c : Thread nD τ) arg7 fullShare xdos ∗ owns (c : Thread nD τ) arg8 fullShare xlse ∗ owns (c : Thread nD τ) arg9 fullShare xk ∗ owns (c : Thread nD τ) arg10 fullShare xkx ∗ owns (c : Thread nD τ) arg11 fullShare xb ∗ owns (c : Thread nD τ) arg12 fullShare kta ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (arg28.view.loc (c : Thread nD τ) ↦[arg28.view.setOn (Rect.unit (s := S12800x512) ![0, 0] S256x512.size inb_S12800x512_S256x512_0_0).set]{fullShare} fc0) ∗ (arg29.view.loc (c : Thread nD τ) ↦[arg29.view.setOn (Rect.unit (s := S64x12800) ![0, 0] S64x256.size inb_S64x12800_S64x256_0_0).set]{fullShare} fk0)
      ∗ (iprop(owns (c : Thread nD τ) arg3 fullShare xq ∗ owns (c : Thread nD τ) arg4 fullShare xqr ∗ owns (c : Thread nD τ) arg5 fullShare xo ∗ owns (c : Thread nD τ) arg6 fullShare xdo ∗ owns (c : Thread nD τ) arg7 fullShare xdos ∗ owns (c : Thread nD τ) arg8 fullShare xlse ∗ owns (c : Thread nD τ) arg9 fullShare xk ∗ owns (c : Thread nD τ) arg10 fullShare xkx ∗ owns (c : Thread nD τ) arg11 fullShare xb ∗ owns (c : Thread nD τ) arg12 fullShare kta ∗ owns (c : Thread nD τ) arg18 fullShare (qtOf (BitVec.ofNat 32 (i 1).val) xq xqr xlse) ∗ owns (c : Thread nD τ) arg19 fullShare (dotOf xdos xdo) ∗ owns (c : Thread nD τ) arg20 fullShare (doOf xdos xdo) ∗ owns (c : Thread nD τ) arg21 fullShare (qOf xq) ∗ owns (c : Thread nD τ) arg22 fullShare (deltaOf xdos xdo xo) ∗ owns (c : Thread nD τ) arg23 fullShare (pOf false xk xkx xb (qtOf (BitVec.ofNat 32 (i 1).val) xq xqr xlse)) ∗ owns (c : Thread nD τ) arg24 fullShare (dsOf false xk xkx xb (qtOf (BitVec.ofNat 32 (i 1).val) xq xqr xlse) (dotOf xdos xdo) (deltaOf xdos xdo xo)) ∗ owns (c : Thread nD τ) arg25 fullShare (pOf true xk xkx xb (qtOf (BitVec.ofNat 32 (i 1).val) xq xqr xlse)) ∗ owns (c : Thread nD τ) arg26 fullShare (dsOf true xk xkx xb (qtOf (BitVec.ofNat 32 (i 1).val) xq xqr xlse) (dotOf xdos xdo) (deltaOf xdos xdo xo)) ∗ owns (c : Thread nD τ) arg27 fullShare (dqStep dqZero (dsOf false xk xkx xb (qtOf (BitVec.ofNat 32 (i 1).val) xq xqr xlse) (dotOf xdos xdo) (deltaOf xdos xdo xo)) kta) ∗ (arg28.view.loc (c : Thread nD τ) ↦[arg28.view.setOn (Rect.unit (s := S12800x512) ![0, 0] S256x512.size inb_S12800x512_S256x512_0_0).set]{fullShare} arg28.view.writes (Elt F) fc0 [⟨Rect.unit (s := S12800x512) ![0, 0] S256x512.size inb_S12800x512_S256x512_0_0, dcStep (arg28.view.readAt (Elt F) (Rect.unit (s := S12800x512) ![0, 0] S256x512.size inb_S12800x512_S256x512_0_0).toLoadRect fc0) (pOf false xk xkx xb (qtOf (BitVec.ofNat 32 (i 1).val) xq xqr xlse)) (dsOf false xk xkx xb (qtOf (BitVec.ofNat 32 (i 1).val) xq xqr xlse) (dotOf xdos xdo) (deltaOf xdos xdo xo)) (doOf xdos xdo) (qOf xq)⟩]) ∗ (arg29.view.loc (c : Thread nD τ) ↦[arg29.view.setOn (Rect.unit (s := S64x12800) ![0, 0] S64x256.size inb_S64x12800_S64x256_0_0).set]{fullShare} arg29.view.writes (Elt F) fk0 [⟨Rect.unit (s := S64x12800) ![0, 0] S64x256.size inb_S64x12800_S64x256_0_0, dkStep (arg29.view.readAt (Elt F) (Rect.unit (s := S64x12800) ![0, 0] S64x256.size inb_S64x12800_S64x256_0_0).toLoadRect fk0) (dsOf false xk xkx xb (qtOf (BitVec.ofNat 32 (i 1).val) xq xqr xlse) (dotOf xdos xdo) (deltaOf xdos xdo xo)) (qtOf (BitVec.ofNat 32 (i 1).val) xq xqr xlse)⟩])) -∗ wp frame (wpE (defs₀ (F := F)) Variants.none (c : Thread nD τ) none) Set.univ K Q))
    ⊢ wp frame (wpE (defs₀ (F := F)) Variants.none (c : Thread nD τ) none) Set.univ (phaseB i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 K) Q := by
  unfold phaseB
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d18, %f18, %h18, H18⟩, ⟨%d19, %f19, %h19, H19⟩, ⟨%d20, %f20, %h20, H20⟩, ⟨%d21, %f21, %h21, H21⟩, ⟨%d22, %f22, %h22, H22⟩, ⟨%d23, %f23, %h23, H23⟩, ⟨%d24, %f24, %h24, H24⟩, ⟨%d25, %f25, %h25, H25⟩, ⟨%d26, %f26, %h26, H26⟩, ⟨%d27, %f27, %h27, H27⟩, Hc0, Hk0, HK⟩
  subst h3
  subst h4
  subst h5
  subst h6
  subst h7
  subst h8
  subst h9
  subst h10
  subst h11
  subst h12
  subst h18
  subst h19
  subst h20
  subst h21
  subst h22
  subst h23
  subst h24
  subst h25
  subst h26
  subst h27
  sl_exec
  iapply HK
  isplitl [H3]
  · iexists _; isplitr; swap; · iexact H3
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H4]
  · iexists _; isplitr; swap; · iexact H4
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H5]
  · iexists _; isplitr; swap; · iexact H5
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H6]
  · iexists _; isplitr; swap; · iexact H6
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H7]
  · iexists _; isplitr; swap; · iexact H7
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H8]
  · iexists _; isplitr; swap; · iexact H8
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H9]
  · iexists _; isplitr; swap; · iexact H9
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H10]
  · iexists _; isplitr; swap; · iexact H10
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H11]
  · iexists _; isplitr; swap; · iexact H11
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H12]
  · iexists _; isplitr; swap; · iexact H12
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H18]
  · iexists _; isplitr; swap; · iexact H18
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H19]
  · iexists _; isplitr; swap; · iexact H19
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H20]
  · iexists _; isplitr; swap; · iexact H20
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H21]
  · iexists _; isplitr; swap; · iexact H21
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H22]
  · iexists _; isplitr; swap; · iexact H22
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H23]
  · iexists _; isplitr; swap; · iexact H23
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H24]
  · iexists _; isplitr; swap; · iexact H24
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H25]
  · iexists _; isplitr; swap; · iexact H25
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H26]
  · iexists _; isplitr; swap; · iexact H26
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H27]
  · iexists _; isplitr; swap; · iexact H27
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [Hc0]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))

/-- The last point of a row of points: the last half of the keys is added, and the query gradients are written out. -/
theorem phaseD_run (c : Dev nD) (i : grid0.Coords) (h6 : k0_cond6 i = 1#1) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) {Q : PUnit → sProp 𝕄}
    (ktb : Vec F S1x576x256 .bf16) (qt : Vec F S768x1024 .bf16) (dov q : Vec F S1024x512 .bf16) (pb dsb : Vec F S256x1024 .bf16) (acc : Vec F S576x1024 .f32) (fc1 : Buf (Elt F) (arg28.view.loc (c : Thread nD τ))) (fk1 : Buf (Elt F) (arg29.view.loc (c : Thread nD τ))) :
    iprop(owns (c : Thread nD τ) arg13 fullShare ktb ∗ owns (c : Thread nD τ) arg18 fullShare qt ∗ owns (c : Thread nD τ) arg20 fullShare dov ∗ owns (c : Thread nD τ) arg21 fullShare q ∗ owns (c : Thread nD τ) arg25 fullShare pb ∗ owns (c : Thread nD τ) arg26 fullShare dsb ∗ owns (c : Thread nD τ) arg27 fullShare acc ∗ (∃ d, owns (c : Thread nD τ) arg14 fullShare d) ∗ (∃ d, owns (c : Thread nD τ) arg15 fullShare d) ∗ (arg28.view.loc (c : Thread nD τ) ↦[arg28.view.setOn (Rect.unit (s := S12800x512) (k0_off14 i) S256x512.size (k0_off14_inb i h6)).set]{fullShare} fc1) ∗ (arg29.view.loc (c : Thread nD τ) ↦[arg29.view.setOn (Rect.unit (s := S64x12800) (k0_off15 i) S64x256.size (k0_off15_inb i h6)).set]{fullShare} fk1)
      ∗ (iprop(owns (c : Thread nD τ) arg13 fullShare ktb ∗ owns (c : Thread nD τ) arg18 fullShare qt ∗ owns (c : Thread nD τ) arg20 fullShare dov ∗ owns (c : Thread nD τ) arg21 fullShare q ∗ owns (c : Thread nD τ) arg25 fullShare pb ∗ owns (c : Thread nD τ) arg26 fullShare dsb ∗ owns (c : Thread nD τ) arg27 fullShare (dqStep acc dsb ktb) ∗ owns (c : Thread nD τ) arg14 fullShare (dqOut (dqStep acc dsb ktb)) ∗ owns (c : Thread nD τ) arg15 fullShare (dqrOut (dqStep acc dsb ktb)) ∗ (arg28.view.loc (c : Thread nD τ) ↦[arg28.view.setOn (Rect.unit (s := S12800x512) (k0_off14 i) S256x512.size (k0_off14_inb i h6)).set]{fullShare} arg28.view.writes (Elt F) fc1 [⟨Rect.unit (s := S12800x512) (k0_off14 i) S256x512.size (k0_off14_inb i h6), dcStep (arg28.view.readAt (Elt F) (Rect.unit (s := S12800x512) (k0_off14 i) S256x512.size (k0_off14_inb i h6)).toLoadRect fc1) pb dsb dov q⟩]) ∗ (arg29.view.loc (c : Thread nD τ) ↦[arg29.view.setOn (Rect.unit (s := S64x12800) (k0_off15 i) S64x256.size (k0_off15_inb i h6)).set]{fullShare} arg29.view.writes (Elt F) fk1 [⟨Rect.unit (s := S64x12800) (k0_off15 i) S64x256.size (k0_off15_inb i h6), dkStep (arg29.view.readAt (Elt F) (Rect.unit (s := S64x12800) (k0_off15 i) S64x256.size (k0_off15_inb i h6)).toLoadRect fk1) dsb qt⟩])) -∗ wp frame (wpE (defs₀ (F := F)) Variants.none (c : Thread nD τ) none) Set.univ K Q))
    ⊢ wp frame (wpE (defs₀ (F := F)) Variants.none (c : Thread nD τ) none) Set.univ (phaseD i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 K) Q := by
  unfold phaseD
  simp only [k0_part11_eq_skeleton]
  unfold k0_part11_skel
  unfold owns
  iintro ⟨⟨%f13, %h13, H13⟩, ⟨%f18, %h18, H18⟩, ⟨%f20, %h20, H20⟩, ⟨%f21, %h21, H21⟩, ⟨%f25, %h25, H25⟩, ⟨%f26, %h26, H26⟩, ⟨%f27, %h27, H27⟩, ⟨%d14, %f14, %h14, H14⟩, ⟨%d15, %f15, %h15, H15⟩, Hc1, Hk1, HK⟩
  subst h13
  subst h18
  subst h20
  subst h21
  subst h25
  subst h26
  subst h27
  subst h14
  subst h15
  sl_exec
  iapply HK
  isplitl [H13]
  · iexists _; isplitr; swap; · iexact H13
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H18]
  · iexists _; isplitr; swap; · iexact H18
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H20]
  · iexists _; isplitr; swap; · iexact H20
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H21]
  · iexists _; isplitr; swap; · iexact H21
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H25]
  · iexists _; isplitr; swap; · iexact H25
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H26]
  · iexists _; isplitr; swap; · iexact H26
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H27]
  · iexists _; isplitr; swap; · iexact H27
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H14]
  · iexists _; isplitr; swap; · iexact H14
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H15]
  · iexists _; isplitr; swap; · iexact H15
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [Hc1]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))

end Cert.Kernel.Gen

end
-- ==== Proof.Contents.lean ====
/-
  What the working buffers hold at each point of the grid, as functions of the argument arrays: the per-tile
  values a query tile starts from, the probabilities and score gradients of each half of a key block, the three
  accumulators as recursions over halves and over query tiles.
-/
module

public import proofs.«01_k».proof.Proof.Gen.Kernel.Frame
public import proofs.«01_k».proof.Proof.Model

@[expose] public section

noncomputable section

namespace Cert.Kernel.Gen

open Idealize.ShloMosaic Idealize.ShloMosaic.TcCoe
open Idealize.SL Idealize.SL.Sem

variable {F : FTy → Type} [FloatOps F]
variable (m : (ℓ : Loc nD τ sig) → Buf (Elt F) ℓ) (c : Dev nD)

/-- The grid point of batch `b`, query tile `qi`, step `j`, in the order the grid is run. -/
def pt (b qi j : ℕ) : Fin cfg0.N := ⟨((b * 12 + qi) * 26 + j) % 2496, by rw [show cfg0.N = 2496 from N_0]; exact Nat.mod_lt _ (by decide)⟩

/-! ## The query tile's values -/

def QT (b qi : ℕ) : Vec F S768x1024 .bf16 :=
  qtOf (BitVec.ofNat 32 qi) (iblk m c 0 (pt b qi 0)) (iblk m c 1 (pt b qi 0)) (iblk m c 5 (pt b qi 0))
def DOT (b qi : ℕ) : Vec F S512x1024 .bf16 := dotOf (iblk m c 4 (pt b qi 0)) (iblk m c 3 (pt b qi 0))
def DOV (b qi : ℕ) : Vec F S1024x512 .bf16 := doOf (iblk m c 4 (pt b qi 0)) (iblk m c 3 (pt b qi 0))
def QV (b qi : ℕ) : Vec F S1024x512 .bf16 := qOf (iblk m c 0 (pt b qi 0))
def DELTA (b qi : ℕ) : Vec F S8x1024 .f32 :=
  deltaOf (iblk m c 4 (pt b qi 0)) (iblk m c 3 (pt b qi 0)) (iblk m c 2 (pt b qi 0))

/-! ## The halves of key block `j` -/

def PV (b qi j : ℕ) (half : Bool) : Vec F S256x1024 .bf16 :=
  pOf half (iblk m c 6 (pt b qi j)) (iblk m c 7 (pt b qi j)) (iblk m c 8 (pt b qi j)) (QT m c b qi)
def DSV (b qi j : ℕ) (half : Bool) : Vec F S256x1024 .bf16 :=
  dsOf half (iblk m c 6 (pt b qi j)) (iblk m c 7 (pt b qi j)) (iblk m c 8 (pt b qi j)) (QT m c b qi) (DOT m c b qi) (DELTA m c b qi)

/-- The transposed key columns step `j` reads for the half it computes, and for the half the step before left. -/
def KTA (b qi j : ℕ) : Vec F S1x576x256 .bf16 := iblk m c 9 (pt b qi j)
def KTB (b qi j : ℕ) : Vec F S1x576x256 .bf16 := iblk m c 10 (pt b qi j)

/-- The query-gradient accumulator after step `j`. -/
def DQA (b qi : ℕ) : ℕ → Vec F S576x1024 .f32
  | 0 => dqStep dqZero (DSV m c b qi 0 false) (KTA m c b qi 0)
  | j + 1 => dqStep (dqStep (DQA b qi j) (DSV m c b qi j true) (KTB m c b qi (j + 1))) (DSV m c b qi (j + 1) false) (KTA m c b qi (j + 1))
/-- The accumulator the last step leaves. -/
def DQF (b qi : ℕ) : Vec F S576x1024 .f32 := dqStep (DQA m c b qi 24) (DSV m c b qi 24 true) (KTB m c b qi 25)

/-! ## The key gradients, half `h` of the fifty, after `n` query tiles -/

def DCH (b h : ℕ) : ℕ → Vec F S256x512 .f32
  | 0 => fun x => (k0_pay1 (F := F)) (fun a => ⟨(x a).val, by have := (x a).isLt; fin_cases a <;> simp_all [S256x512, S512x512] <;> omega⟩)
  | n + 1 => dcStep (DCH b h n) (PV m c b n (h / 2) (h % 2 == 1)) (DSV m c b n (h / 2) (h % 2 == 1)) (DOV m c b n) (QV m c b n)
def DKH (b h : ℕ) : ℕ → Vec F S64x256 .f32
  | 0 => fun x => (k0_pay2 (F := F)) (fun a => ⟨(x a).val, by have := (x a).isLt; fin_cases a <;> simp_all [S64x256, S64x512] <;> omega⟩)
  | n + 1 => dkStep (DKH b h n) (DSV m c b n (h / 2) (h % 2 == 1)) (QT m c b n)

/-- A row of the scratch array within its half; a column likewise. -/
def locC (x : S12800x512.Idx) : S256x512.Idx := fun
  | 0 => ⟨(x 0).val % 256, Nat.mod_lt _ (by decide)⟩
  | 1 => ⟨(x 1).val, (x 1).isLt⟩
def locK (x : S64x12800.Idx) : S64x256.Idx := fun
  | 0 => ⟨(x 0).val, (x 0).isLt⟩
  | 1 => ⟨(x 1).val % 256, Nat.mod_lt _ (by decide)⟩

/-- The two scratch arrays, every half after `n` query tiles. -/
def DCall (b n : ℕ) : Vec F S12800x512 .f32 := fun x => DCH m c b ((x 0).val / 256) n (locC x)
def DKall (b n : ℕ) : Vec F S64x12800 .f32 := fun x => DKH m c b ((x 1).val / 256) n (locK x)

/-- A result's element's place in the scratch array of its batch. -/
def inC (x : S8x12672x512.Idx) : S12800x512.Idx := fun
  | 0 => ⟨(x 1).val, by have := (x 1).isLt; simp [S8x12672x512, S12800x512] at this ⊢; omega⟩
  | 1 => ⟨(x 2).val, (x 2).isLt⟩
def inK (x : S8x64x12672.Idx) : S64x12800.Idx := fun
  | 0 => ⟨(x 1).val, (x 1).isLt⟩
  | 1 => ⟨(x 2).val, by have := (x 2).isLt; simp [S8x64x12672, S64x12800] at this ⊢; omega⟩

/-- The two results in HBM with the batches below `B` written. -/
def homeFC (B : ℕ) : Vec F S8x12672x512 .f32 :=
  fun x => if (x 0).val < B then DCall m c (x 0).val 12 (inC x) else (m ((c : Thread nD τ).loc main_v0_2) : S8x12672x512.Idx → Elt F .f32) x
def homeFK (B : ℕ) : Vec F S8x64x12672 .f32 :=
  fun x => if (x 0).val < B then DKall m c (x 0).val 12 (inK x) else (m ((c : Thread nD τ).loc main_v0_3) : S8x64x12672.Idx → Elt F .f32) x

end Cert.Kernel.Gen

end
-- ==== Proof.Pieces.lean ====
/-
  The scratch arrays and the results cut into row (column) bands, and the two steps by which the contents of a
  band move on: a half takes one more query tile, a whole tile is copied into its batch's place in a result.
-/
module

public import proofs.«01_k».proof.Proof.Contents
public import Idealize.ShloMosaic.Lib.WritesUnit

@[expose] public section

noncomputable section

namespace Cert.Kernel.Gen

open Idealize.ShloMosaic Idealize.ShloMosaic.TcCoe
open Idealize.SL Idealize.SL.Sem

variable {F : FTy → Type} [FloatOps F]

abbrev M28 : Memref sig .tc .vmem S12800x512 .f32 := Memref.whole cc0_scratch10
abbrev M29 : Memref sig .tc .vmem S64x12800 .f32 := Memref.whole cc0_scratch11
abbrev M16 : Memref sig .tc .hbm S8x12672x512 .f32 := Memref.whole main_v0_2
abbrev M17 : Memref sig .tc .hbm S8x64x12672 .f32 := Memref.whole main_v0_3

/-- Rows `a … a + n` of the first scratch array, columns `a … a + n` of the second. -/
def rowsC (a n : ℕ) : Finset S12800x512.Idx := Finset.univ.filter fun x => a ≤ (x 0).val ∧ (x 0).val < a + n
def colsK (a n : ℕ) : Finset S64x12800.Idx := Finset.univ.filter fun x => a ≤ (x 1).val ∧ (x 1).val < a + n
/-- The same bands of the results, in every batch. -/
def homeSC (a n : ℕ) : Finset S8x12672x512.Idx := Finset.univ.filter fun x => a ≤ (x 1).val ∧ (x 1).val < a + n
def homeSK (a n : ℕ) : Finset S8x64x12672.Idx := Finset.univ.filter fun x => a ≤ (x 2).val ∧ (x 2).val < a + n

theorem mem_rowsC {a n : ℕ} {x : S12800x512.Idx} : x ∈ rowsC a n ↔ a ≤ (x 0).val ∧ (x 0).val < a + n := by simp [rowsC]
theorem mem_colsK {a n : ℕ} {x : S64x12800.Idx} : x ∈ colsK a n ↔ a ≤ (x 1).val ∧ (x 1).val < a + n := by simp [colsK]
theorem mem_homeSC {a n : ℕ} {x : S8x12672x512.Idx} : x ∈ homeSC a n ↔ a ≤ (x 1).val ∧ (x 1).val < a + n := by simp [homeSC]
theorem mem_homeSK {a n : ℕ} {x : S8x64x12672.Idx} : x ∈ homeSK a n ↔ a ≤ (x 2).val ∧ (x 2).val < a + n := by simp [homeSK]

theorem rect_rowsC (a n : ℕ) (inb : ∀ x, (![a, 0] : Fin 2 → ℕ) x + (![n, 512] : Fin 2 → ℕ) x ≤ S12800x512.size x) :
    (Rect.unit (s := S12800x512) ![a, 0] ![n, 512] inb).set = rowsC a n := by
  ext x
  rw [Rect.mem_set_unit, mem_rowsC, Fin.forall_fin_two]
  have := (x 1).isLt
  simp [S12800x512] at this ⊢
  omega

theorem rect_colsK (a n : ℕ) (inb : ∀ x, (![0, a] : Fin 2 → ℕ) x + (![64, n] : Fin 2 → ℕ) x ≤ S64x12800.size x) :
    (Rect.unit (s := S64x12800) ![0, a] ![64, n] inb).set = colsK a n := by
  ext x
  rw [Rect.mem_set_unit, mem_colsK, Fin.forall_fin_two]
  have := (x 0).isLt
  simp [S64x12800] at this ⊢
  omega

variable (m : (ℓ : Loc nD τ sig) → Buf (Elt F) ℓ) (c : Dev nD)

/-- Reading a scratch array whole is its contents. -/
theorem rd28 (g : M28.view.ty.Contents (Elt F)) (y : S12800x512.Idx) : g y = M28.view.read (Elt F) g y := rfl
theorem rd29 (g : M29.view.ty.Contents (Elt F)) (y : S64x12800.Idx) : g y = M29.view.read (Elt F) g y := rfl

/-! ## One more query tile in a half -/

theorem readAt_DC (b h n : ℕ) (inb : ∀ x, (![256 * h, 0] : Fin 2 → ℕ) x + S256x512.size x ≤ S12800x512.size x) :
    M28.view.readAt (Elt F) (Rect.unit (s := S12800x512) ![256 * h, 0] S256x512.size inb).toLoadRect (DCall m c b n) = DCH m c b h n := by
  funext x
  have h0 : (x 0).val < 256 := (x 0).isLt
  have e0 : (((Rect.unit (s := S12800x512) ![256 * h, 0] S256x512.size inb).emb x) 0).val = 256 * h + 1 * (x 0).val := rfl
  have e1 : (((Rect.unit (s := S12800x512) ![256 * h, 0] S256x512.size inb).emb x) 1).val = 0 + 1 * (x 1).val := rfl
  show DCall m c b n ((Rect.unit (s := S12800x512) ![256 * h, 0] S256x512.size inb).emb x) = _
  unfold DCall
  rw [e0, show (256 * h + 1 * (x 0).val) / 256 = h by omega]
  congr 1
  funext a; apply Fin.ext
  match a with
  | 0 => show (((Rect.unit (s := S12800x512) ![256 * h, 0] S256x512.size inb).emb x) 0).val % 256 = _; rw [e0]; omega
  | 1 => show (((Rect.unit (s := S12800x512) ![256 * h, 0] S256x512.size inb).emb x) 1).val = _; rw [e1]; omega

theorem readAt_DK (b h n : ℕ) (inb : ∀ x, (![0, 256 * h] : Fin 2 → ℕ) x + S64x256.size x ≤ S64x12800.size x) :
    M29.view.readAt (Elt F) (Rect.unit (s := S64x12800) ![0, 256 * h] S64x256.size inb).toLoadRect (DKall m c b n) = DKH m c b h n := by
  funext x
  have h0 : (x 1).val < 256 := (x 1).isLt
  have e0 : (((Rect.unit (s := S64x12800) ![0, 256 * h] S64x256.size inb).emb x) 1).val = 256 * h + 1 * (x 1).val := rfl
  have e1 : (((Rect.unit (s := S64x12800) ![0, 256 * h] S64x256.size inb).emb x) 0).val = 0 + 1 * (x 0).val := rfl
  show DKall m c b n ((Rect.unit (s := S64x12800) ![0, 256 * h] S64x256.size inb).emb x) = _
  unfold DKall
  rw [e0, show (256 * h + 1 * (x 1).val) / 256 = h by omega]
  congr 1
  funext a; apply Fin.ext
  match a with
  | 1 => show (((Rect.unit (s := S64x12800) ![0, 256 * h] S64x256.size inb).emb x) 1).val % 256 = _; rw [e0]; omega
  | 0 => show (((Rect.unit (s := S64x12800) ![0, 256 * h] S64x256.size inb).emb x) 0).val = _; rw [e1]; omega

theorem writes_DC (b h n : ℕ) (inb : ∀ x, (![256 * h, 0] : Fin 2 → ℕ) x + S256x512.size x ≤ S12800x512.size x)
    (f : Vec F S12800x512 .f32) (y : S12800x512.Idx) (hy : y ∈ rowsC (256 * h) 256) :
    M28.view.writes (Elt F) f [⟨Rect.unit (s := S12800x512) ![256 * h, 0] S256x512.size inb, DCH m c b h n⟩] y = DCall m c b n y := by
  rw [mem_rowsC] at hy
  have key := View.read_writes_cons_unit_of_mem (Val := Elt F) (off' := ![256 * h, 0]) M28.view f inb (DCH m c b h n) [] y (locC y) rfl
  refine (rd28 _ y).trans ((key fun a => ?_).trans ?_)
  · match a with
    | 0 => show (y 0).val = 256 * h + (y 0).val % 256; omega
    | 1 => show (y 1).val = 0 + (y 1).val; omega
  · unfold DCall; rw [show (y 0).val / 256 = h by omega]

theorem writes_DK (b h n : ℕ) (inb : ∀ x, (![0, 256 * h] : Fin 2 → ℕ) x + S64x256.size x ≤ S64x12800.size x)
    (f : Vec F S64x12800 .f32) (y : S64x12800.Idx) (hy : y ∈ colsK (256 * h) 256) :
    M29.view.writes (Elt F) f [⟨Rect.unit (s := S64x12800) ![0, 256 * h] S64x256.size inb, DKH m c b h n⟩] y = DKall m c b n y := by
  rw [mem_colsK] at hy
  have key := View.read_writes_cons_unit_of_mem (Val := Elt F) (off' := ![0, 256 * h]) M29.view f inb (DKH m c b h n) [] y (locK y) rfl
  refine (rd29 _ y).trans ((key fun a => ?_).trans ?_)
  · match a with
    | 1 => show (y 1).val = 256 * h + (y 1).val % 256; omega
    | 0 => show (y 0).val = 0 + (y 0).val; omega
  · unfold DKall; rw [show (y 1).val / 256 = h by omega]

/-! ## A tile zeroed -/

theorem DC_zero (b k : ℕ) (y : S12800x512.Idx) (x : S512x512.Idx) : k0_pay1 (F := F) x = DCall m c b 0 y := by
  unfold DCall DCH k0_pay1; rfl
theorem DK_zero (b k : ℕ) (y : S64x12800.Idx) (x : S64x512.Idx) : k0_pay2 (F := F) x = DKall m c b 0 y := by
  unfold DKall DKH k0_pay2; rfl

theorem zero_DC (b k : ℕ) (inb : ∀ x, (![512 * k, 0] : Fin 2 → ℕ) x + S512x512.size x ≤ S12800x512.size x)
    (f : Vec F S12800x512 .f32) (y : S12800x512.Idx) (hy : y ∈ rowsC (512 * k) 512) :
    M28.view.writes (Elt F) f [⟨Rect.unit (s := S12800x512) ![512 * k, 0] S512x512.size inb, k0_pay1 (F := F)⟩] y = DCall m c b 0 y := by
  rw [mem_rowsC] at hy
  let x : S512x512.Idx := fun | 0 => ⟨(y 0).val % 512, Nat.mod_lt _ (by decide)⟩ | 1 => ⟨(y 1).val, (y 1).isLt⟩
  have key := View.read_writes_cons_unit_of_mem (Val := Elt F) (off' := ![512 * k, 0]) M28.view f inb (k0_pay1 (F := F)) [] y x rfl
  refine (rd28 _ y).trans ((key fun a => ?_).trans (DC_zero m c b k y x))
  match a with
  | 0 => show (y 0).val = 512 * k + (y 0).val % 512; omega
  | 1 => show (y 1).val = 0 + (y 1).val; omega

theorem zero_DK (b k : ℕ) (inb : ∀ x, (![0, 512 * k] : Fin 2 → ℕ) x + S64x512.size x ≤ S64x12800.size x)
    (f : Vec F S64x12800 .f32) (y : S64x12800.Idx) (hy : y ∈ colsK (512 * k) 512) :
    M29.view.writes (Elt F) f [⟨Rect.unit (s := S64x12800) ![0, 512 * k] S64x512.size inb, k0_pay2 (F := F)⟩] y = DKall m c b 0 y := by
  rw [mem_colsK] at hy
  let x : S64x512.Idx := fun | 1 => ⟨(y 1).val % 512, Nat.mod_lt _ (by decide)⟩ | 0 => ⟨(y 0).val, (y 0).isLt⟩
  have key := View.read_writes_cons_unit_of_mem (Val := Elt F) (off' := ![0, 512 * k]) M29.view f inb (k0_pay2 (F := F)) [] y x rfl
  refine (rd29 _ y).trans ((key fun a => ?_).trans (DK_zero m c b k y x))
  match a with
  | 1 => show (y 1).val = 512 * k + (y 1).val % 512; omega
  | 0 => show (y 0).val = 0 + (y 0).val; omega

/-! ## A tile copied into its batch's place -/

/-- The place of `n` rows from row `a` of batch `b`, as the transfer names it. -/
abbrev viewHC (b a n : ℕ) (inb : ∀ x, (![b, a, 0] : Fin 3 → ℕ) x + (![1, n, 512] : Fin 3 → ℕ) x ≤ S8x12672x512.size x)
    (hn : (⟨2, ![n, 512]⟩ : Shape).numel = (⟨3, ![1, n, 512]⟩ : Shape).numel) : View sig .tc .hbm ⟨2, ![n, 512]⟩ .f32 :=
  (M16.view.slice (Rect.unit (s := S8x12672x512) ![b, a, 0] ![1, n, 512] inb)).reshape ⟨2, ![n, 512]⟩ hn
abbrev viewHK (b a n : ℕ) (inb : ∀ x, (![b, 0, a] : Fin 3 → ℕ) x + (![1, 64, n] : Fin 3 → ℕ) x ≤ S8x64x12672.size x)
    (hn : (⟨2, ![64, n]⟩ : Shape).numel = (⟨3, ![1, 64, n]⟩ : Shape).numel) : View sig .tc .hbm ⟨2, ![64, n]⟩ .f32 :=
  (M17.view.slice (Rect.unit (s := S8x64x12672) ![b, 0, a] ![1, 64, n] inb)).reshape ⟨2, ![64, n]⟩ hn

theorem viewHC_emb (b a n : ℕ) (inb) (hn) (x : (⟨2, ![n, 512]⟩ : Shape).Idx) :
    ((viewHC b a n inb hn).emb x : S8x12672x512.Idx)
      = (Rect.unit (s := S8x12672x512) ![b, a, 0] ![1, n, 512] inb).emb (Fin.cons ⟨0, Nat.one_pos⟩ x) := by
  show (Rect.unit (s := S8x12672x512) ![b, a, 0] ![1, n, 512] inb).emb (Shape.reshapeEquiv hn x) = _
  rw [Shape.reshapeEquiv_cons_one (d := ![n, 512]) hn x]
theorem viewHK_emb (b a n : ℕ) (inb) (hn) (x : (⟨2, ![64, n]⟩ : Shape).Idx) :
    ((viewHK b a n inb hn).emb x : S8x64x12672.Idx)
      = (Rect.unit (s := S8x64x12672) ![b, 0, a] ![1, 64, n] inb).emb (Fin.cons ⟨0, Nat.one_pos⟩ x) := by
  show (Rect.unit (s := S8x64x12672) ![b, 0, a] ![1, 64, n] inb).emb (Shape.reshapeEquiv hn x) = _
  rw [Shape.reshapeEquiv_cons_one (d := ![64, n]) hn x]

theorem viewHC_set (b a n : ℕ) (inb) (hn) : ((viewHC b a n inb hn).set : Finset S8x12672x512.Idx) ⊆ homeSC a n := by
  intro y hy
  obtain ⟨x, -, rfl⟩ := Finset.mem_map.mp hy
  have h0 : (x 0).val < n := (x 0).isLt
  rw [mem_homeSC, viewHC_emb]
  show a ≤ a + 1 * (x 0).val ∧ a + 1 * (x 0).val < a + n
  omega
theorem viewHK_set (b a n : ℕ) (inb) (hn) : ((viewHK b a n inb hn).set : Finset S8x64x12672.Idx) ⊆ homeSK a n := by
  intro y hy
  obtain ⟨x, -, rfl⟩ := Finset.mem_map.mp hy
  have h0 : (x 1).val < n := (x 1).isLt
  rw [mem_homeSK, viewHK_emb]
  show a ≤ a + 1 * (x 1).val ∧ a + 1 * (x 1).val < a + n
  omega

theorem home_step_C (b a n : ℕ) (inb) (hn)
    (inb' : ∀ x, (![a, 0] : Fin 2 → ℕ) x + (![n, 512] : Fin 2 → ℕ) x ≤ S12800x512.size x)
    (y : S8x12672x512.Idx) (hy : y ∈ homeSC a n) :
    (viewHC b a n inb hn).write (Elt F) (homeFC m c b)
        ((M28.view.slice (Rect.unit (s := S12800x512) ![a, 0] ![n, 512] inb')).read (Elt F) (DCall m c b 12)) Finset.univ y
      = homeFC m c (b + 1) y := by
  rw [mem_homeSC] at hy
  by_cases hb : (y 0).val = b
  · have h1 : (y 2).val < 512 := (y 2).isLt
    have hx : (viewHC b a n inb hn).emb (fun | 0 => ⟨(y 1).val - a, by show _ < n; omega⟩ | 1 => ⟨(y 2).val, h1⟩) = y := by
      refine (viewHC_emb b a n inb hn _).trans ?_
      funext i; apply Fin.ext
      match i with
      | 0 => show b + 1 * 0 = (y 0).val; omega
      | 1 => show a + 1 * ((y 1).val - a) = (y 1).val; omega
      | 2 => show 0 + 1 * (y 2).val = (y 2).val; omega
    refine (congrArg _ hx.symm).trans ((View.write_emb_of_mem (v := viewHC b a n inb hn) _ _ (Finset.mem_univ _)).trans ?_)
    unfold homeFC
    rw [if_pos (by omega), hb]
    show DCall m c b 12 _ = DCall m c b 12 _
    congr 1
    funext i; apply Fin.ext
    match i with
    | 0 => show a + 1 * ((y 1).val - a) = (y 1).val; omega
    | 1 => show 0 + 1 * (y 2).val = (y 2).val; omega
  · rw [View.write_of_not_mem]
    · unfold homeFC
      split <;> split <;> first | rfl | omega
    · intro hm
      obtain ⟨x, -, rfl⟩ := Finset.mem_map.mp hm
      exact hb ((congrArg (fun z : S8x12672x512.Idx => (z 0).val) (viewHC_emb b a n inb hn x)).trans rfl)

theorem home_step_K (b a n : ℕ) (inb) (hn)
    (inb' : ∀ x, (![0, a] : Fin 2 → ℕ) x + (![64, n] : Fin 2 → ℕ) x ≤ S64x12800.size x)
    (y : S8x64x12672.Idx) (hy : y ∈ homeSK a n) :
    (viewHK b a n inb hn).write (Elt F) (homeFK m c b)
        ((M29.view.slice (Rect.unit (s := S64x12800) ![0, a] ![64, n] inb')).read (Elt F) (DKall m c b 12)) Finset.univ y
      = homeFK m c (b + 1) y := by
  rw [mem_homeSK] at hy
  by_cases hb : (y 0).val = b
  · have h1 : (y 1).val < 64 := (y 1).isLt
    have hx : (viewHK b a n inb hn).emb (fun | 1 => ⟨(y 2).val - a, by show _ < n; omega⟩ | 0 => ⟨(y 1).val, h1⟩) = y := by
      refine (viewHK_emb b a n inb hn _).trans ?_
      funext i; apply Fin.ext
      match i with
      | 0 => show b + 1 * 0 = (y 0).val; omega
      | 1 => show 0 + 1 * (y 1).val = (y 1).val; omega
      | 2 => show a + 1 * ((y 2).val - a) = (y 2).val; omega
    refine (congrArg _ hx.symm).trans ((View.write_emb_of_mem (v := viewHK b a n inb hn) _ _ (Finset.mem_univ _)).trans ?_)
    unfold homeFK
    rw [if_pos (by omega), hb]
    show DKall m c b 12 _ = DKall m c b 12 _
    congr 1
    funext i; apply Fin.ext
    match i with
    | 0 => show 0 + 1 * (y 1).val = (y 1).val; omega
    | 1 => show a + 1 * ((y 2).val - a) = (y 2).val; omega
  · rw [View.write_of_not_mem]
    · unfold homeFK
      split <;> split <;> first | rfl | omega
    · intro hm
      obtain ⟨x, -, rfl⟩ := Finset.mem_map.mp hm
      exact hb ((congrArg (fun z : S8x64x12672.Idx => (z 0).val) (viewHK_emb b a n inb hn x)).trans rfl)

end Cert.Kernel.Gen

end
-- ==== Proof.Coords.lean ====
/-
  The conditions and the offsets the kernel computes from the coordinates `(b, qi, j)` of a grid point, in
  plain arithmetic.
-/
module

public import proofs.«01_k».proof.Proof.Gen.Kernel.Skeleton

@[expose] public section

set_option maxRecDepth 8000

namespace Cert.Kernel.Gen

open Idealize.ShloMosaic Idealize.SL.Sem

/-- Zeroing runs at the first query tile of a batch, below the last block. -/
theorem cond1_iff (i : grid0.Coords) : k0_cond1 i = 1#1 ↔ (i 1).val = 0 ∧ (i 2).val < 25 := by
  unfold k0_cond1; generalize i 1 = a; generalize i 2 = d; revert a d
  show ∀ (a : Fin 12) (d : Fin 26), _
  decide
theorem cond2_iff (i : grid0.Coords) : k0_cond2 i = 1#1 ↔ 0 < (i 0).val ∧ (i 2).val < 24 := by
  unfold k0_cond2; generalize i 0 = a; generalize i 2 = d; revert a d
  show ∀ (a : Fin 8) (d : Fin 26), _
  decide
theorem cond3_iff (i : grid0.Coords) : k0_cond3 i = 1#1 ↔ 0 < (i 0).val ∧ (i 2).val = 24 := by
  unfold k0_cond3; generalize i 0 = a; generalize i 2 = d; revert a d
  show ∀ (a : Fin 8) (d : Fin 26), _
  decide
theorem cond4_iff (i : grid0.Coords) : k0_cond4 i = 1#1 ↔ (i 2).val = 0 := by
  unfold k0_cond4; generalize i 2 = d; revert d
  show ∀ (d : Fin 26), _
  decide
theorem cond5_iff (i : grid0.Coords) : k0_cond5 i = 1#1 ↔ 0 < (i 2).val ∧ (i 2).val < 25 := by
  unfold k0_cond5; generalize i 2 = d; revert d
  show ∀ (d : Fin 26), _
  decide
theorem cond6_iff (i : grid0.Coords) : k0_cond6 i = 1#1 ↔ (i 2).val = 25 := by
  unfold k0_cond6; generalize i 2 = d; revert d
  show ∀ (d : Fin 26), _
  decide
theorem cond7_iff (i : grid0.Coords) : k0_cond7 i = 1#1 ↔ (i 1).val = 11 ∧ 0 < (i 2).val ∧ (i 2).val < 25 := by
  unfold k0_cond7; generalize i 1 = a; generalize i 2 = d; revert a d
  show ∀ (a : Fin 12) (d : Fin 26), _
  decide
theorem cond8_iff (i : grid0.Coords) : k0_cond8 i = 1#1 ↔ (i 1).val = 11 ∧ (i 2).val = 25 := by
  unfold k0_cond8; generalize i 1 = a; generalize i 2 = d; revert a d
  show ∀ (a : Fin 12) (d : Fin 26), _
  decide
theorem cond9_iff (i : grid0.Coords) : k0_cond9 i = 1#1 ↔ (i 0).val = 7 := by
  unfold k0_cond9; generalize i 0 = a; revert a
  show ∀ (a : Fin 8), _
  decide

theorem off1_eq (i : grid0.Coords) : k0_off1 i = ![(i 2).val] := by
  unfold k0_off1; generalize i 2 = d; revert d
  show ∀ (d : Fin 26), _
  decide
theorem off8_eq (i : grid0.Coords) : k0_off8 i = ![512 * (i 2).val, 0] := by
  unfold k0_off8; generalize i 2 = d; revert d
  show ∀ (d : Fin 26), _
  decide
theorem off9_eq (i : grid0.Coords) : k0_off9 i = ![0, 512 * (i 2).val] := by
  unfold k0_off9; generalize i 2 = d; revert d
  show ∀ (d : Fin 26), _
  decide
theorem off10_eq (i : grid0.Coords) (h : 0 < (i 2).val) : k0_off10 i = ![256 * (2 * (i 2).val - 1), 0] := by
  unfold k0_off10; generalize i 2 = d at h ⊢; revert d
  show ∀ (d : Fin 26), _
  decide
theorem off11_eq (i : grid0.Coords) (h : 0 < (i 2).val) : k0_off11 i = ![0, 256 * (2 * (i 2).val - 1)] := by
  unfold k0_off11; generalize i 2 = d at h ⊢; revert d
  show ∀ (d : Fin 26), _
  decide
theorem off12_eq (i : grid0.Coords) : k0_off12 i = ![256 * (2 * (i 2).val), 0] := by
  unfold k0_off12; generalize i 2 = d; revert d
  show ∀ (d : Fin 26), _
  decide
theorem off13_eq (i : grid0.Coords) : k0_off13 i = ![0, 256 * (2 * (i 2).val)] := by
  unfold k0_off13; generalize i 2 = d; revert d
  show ∀ (d : Fin 26), _
  decide
theorem off14_eq (i : grid0.Coords) (h : 0 < (i 2).val) : k0_off14 i = ![256 * (2 * (i 2).val - 1), 0] := by
  unfold k0_off14; generalize i 2 = d at h ⊢; revert d
  show ∀ (d : Fin 26), _
  decide
theorem off15_eq (i : grid0.Coords) (h : 0 < (i 2).val) : k0_off15 i = ![0, 256 * (2 * (i 2).val - 1)] := by
  unfold k0_off15; generalize i 2 = d at h ⊢; revert d
  show ∀ (d : Fin 26), _
  decide
theorem off16_eq (i : grid0.Coords) (h : 0 < (i 2).val) : k0_off16 i = ![(i 2).val - 1] := by
  unfold k0_off16; generalize i 2 = d at h ⊢; revert d
  show ∀ (d : Fin 26), _
  decide
theorem off17_eq (i : grid0.Coords) (h : 0 < (i 2).val) : k0_off17 i = ![(i 0).val, 512 * ((i 2).val - 1), 0] := by
  unfold k0_off17; generalize i 2 = d at h ⊢; generalize i 0 = a; revert d; revert a
  show ∀ (a : Fin 8) (d : Fin 26), _
  decide
theorem off18_eq (i : grid0.Coords) (h : 0 < (i 2).val) : k0_off18 i = ![512 * ((i 2).val - 1), 0] := by
  unfold k0_off18; generalize i 2 = d at h ⊢; revert d
  show ∀ (d : Fin 26), _
  decide
theorem off19_eq (i : grid0.Coords) (h : 0 < (i 2).val) : k0_off19 i = ![(i 0).val, 0, 512 * ((i 2).val - 1)] := by
  unfold k0_off19; generalize i 2 = d at h ⊢; generalize i 0 = a; revert d; revert a
  show ∀ (a : Fin 8) (d : Fin 26), _
  decide
theorem off20_eq (i : grid0.Coords) (h : 0 < (i 2).val) : k0_off20 i = ![0, 512 * ((i 2).val - 1)] := by
  unfold k0_off20; generalize i 2 = d at h ⊢; revert d
  show ∀ (d : Fin 26), _
  decide
theorem off21_eq (i : grid0.Coords) : k0_off21 i = ![(i 0).val, 12288, 0] := by
  unfold k0_off21; generalize i 0 = a; revert a
  show ∀ (a : Fin 8), _
  decide
theorem off22_eq (i : grid0.Coords) : k0_off22 i = ![(i 0).val, 0, 12288] := by
  unfold k0_off22; generalize i 0 = a; revert a
  show ∀ (a : Fin 8), _
  decide

end Cert.Kernel.Gen

end
-- ==== Proof.Tiles.lean ====
/-
  The states a tile of the two key-gradient arrays goes through — idle, held by the running batch, in flight to
  its place in the results — and the transfers' two steps between them.
-/
module

public import proofs.«01_k».proof.Proof.Pieces
public import proofs.«01_k».proof.Proof.Coords
public import proofs.«01_k».proof.Proof.Phases
public import Idealize.ShloMosaic.Lib.Tactic
public import Idealize.ShloMosaic.Lib.Ring
public import Idealize.ShloMosaic.Lib.Pipeline.FrameBody

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

/-! ## The semaphores and the amounts -/

/-- The completion semaphore of tile `k`'s transfer, of the first array and of the second. -/
def cellC (k : Fin 25) : DmaSem sig := (⟨26 + k.val, by omega⟩ : Fin 76)
def cellK (k : Fin 25) : DmaSem sig := (⟨51 + k.val, by omega⟩ : Fin 76)
theorem cellC_eq (k : Fin 25) (inb : ∀ a, (![k.val] : Fin 1 → ℕ) a + S1.size a ≤ S25.size a) :
    ((cc0_scratch12.slice (Rect.unit (s := S25) ![k.val] S1.size inb)).squeeze S_ squeezes_S1_S_).sem = cellC k := by
  revert inb; revert k; decide
theorem cellK_eq (k : Fin 25) (inb : ∀ a, (![k.val] : Fin 1 → ℕ) a + S1.size a ≤ S25.size a) :
    ((cc0_scratch13.slice (Rect.unit (s := S25) ![k.val] S1.size inb)).squeeze S_ squeezes_S1_S_).sem = cellK k := by
  revert inb; revert k; decide

/-- A tile's rows (columns) that exist in the result, and the amounts its two transfers count. -/
def len (k : Fin 25) : ℕ := if k.val = 24 then 384 else 512
def amtC (k : Fin 25) : ℕ := if k.val = 24 then 24576 else 32768
def amtK (k : Fin 25) : ℕ := if k.val = 24 then 3072 else 4096

/-! ## The states -/

variable (m : (ℓ : Loc nD τ sig) → Buf (Elt F) ℓ) (c : Dev nD)

/-- Rows `a … a + n` of the first scratch array at contents `f`; columns of the second. -/
def pC (a n : ℕ) (f : Vec F S12800x512 .f32) : sProp 𝕄 :=
  M28.view.loc (c : Thread nD τ) ↦[M28.view.setOn (rowsC a n)]{fullShare} f
def pK (a n : ℕ) (f : Vec F S64x12800 .f32) : sProp 𝕄 :=
  M29.view.loc (c : Thread nD τ) ↦[M29.view.setOn (colsK a n)]{fullShare} f
/-- Tile `k`'s band of the results, the batches below `B` written. -/
def hC (B : ℕ) (k : Fin 25) : sProp 𝕄 :=
  M16.view.loc (c : Thread nD τ) ↦[M16.view.setOn (homeSC (512 * k.val) (len k))]{fullShare} homeFC m c B
def hK (B : ℕ) (k : Fin 25) : sProp 𝕄 :=
  M17.view.loc (c : Thread nD τ) ↦[M17.view.setOn (homeSK (512 * k.val) (len k))]{fullShare} homeFK m c B
def zC (k : Fin 25) : sProp 𝕄 := semVal ((c : Thread nD τ), SemLoc.dma (cellC k)) 0
def zK (k : Fin 25) : sProp 𝕄 := semVal ((c : Thread nD τ), SemLoc.dma (cellK k)) 0

def IdleC (B : ℕ) (k : Fin 25) : sProp 𝕄 := iprop((∃ f, pC c (512 * k.val) 512 f) ∗ hC m c B k ∗ zC c k)
def IdleK (B : ℕ) (k : Fin 25) : sProp 𝕄 := iprop((∃ f, pK c (512 * k.val) 512 f) ∗ hK m c B k ∗ zK c k)
/-- The first half after `n1` query tiles, the second after `n2`. -/
def HeldC (b : ℕ) (k : Fin 25) (n1 n2 : ℕ) : sProp 𝕄 :=
  iprop(pC c (256 * (2 * k.val)) 256 (DCall m c b n1) ∗ pC c (256 * (2 * k.val + 1)) 256 (DCall m c b n2) ∗ hC m c b k ∗ zC c k)
def HeldK (b : ℕ) (k : Fin 25) (n1 n2 : ℕ) : sProp 𝕄 :=
  iprop(pK c (256 * (2 * k.val)) 256 (DKall m c b n1) ∗ pK c (256 * (2 * k.val + 1)) 256 (DKall m c b n2) ∗ hK m c b k ∗ zK c k)
def FlyC (b : ℕ) (k : Fin 25) : sProp 𝕄 :=
  iprop(Transfers.Flight countersEmb (c : Thread nD τ) (SemLoc.dma (cellC k)) () (amtC k)
      iprop(hC m c (b + 1) k ∗ ∃ f, pC c (512 * k.val) (len k) f) ∗ ∃ f, pC c (512 * k.val + len k) (512 - len k) f)
def FlyK (b : ℕ) (k : Fin 25) : sProp 𝕄 :=
  iprop(Transfers.Flight countersEmb (c : Thread nD τ) (SemLoc.dma (cellK k)) () (amtK k)
      iprop(hK m c (b + 1) k ∗ ∃ f, pK c (512 * k.val) (len k) f) ∗ ∃ f, pK c (512 * k.val + len k) (512 - len k) f)

/-! ## Bands join and split -/

theorem pC_split (a n n' : ℕ) (f : Vec F S12800x512 .f32) :
    (pC c a (n + n') f : sProp 𝕄) ⊣⊢ iprop(pC c a n f ∗ pC c (a + n) n' f) := by
  have hd : Disjoint (rowsC a n) (rowsC (a + n) n') := by
    rw [Finset.disjoint_left]; intro x; rw [mem_rowsC, mem_rowsC]; omega
  have hu : rowsC a (n + n') = rowsC a n ∪ rowsC (a + n) n' := by
    ext x; rw [Finset.mem_union, mem_rowsC, mem_rowsC, mem_rowsC]; omega
  unfold pC
  rw [hu]; unfold View.setOn; rw [Finset.map_union]
  exact pointsTo_union ((Finset.disjoint_map _).mpr hd)
theorem pK_split (a n n' : ℕ) (f : Vec F S64x12800 .f32) :
    (pK c a (n + n') f : sProp 𝕄) ⊣⊢ iprop(pK c a n f ∗ pK c (a + n) n' f) := by
  have hd : Disjoint (colsK a n) (colsK (a + n) n') := by
    rw [Finset.disjoint_left]; intro x; rw [mem_colsK, mem_colsK]; omega
  have hu : colsK a (n + n') = colsK a n ∪ colsK (a + n) n' := by
    ext x; rw [Finset.mem_union, mem_colsK, mem_colsK, mem_colsK]; omega
  unfold pK
  rw [hu]; unfold View.setOn; rw [Finset.map_union]
  exact pointsTo_union ((Finset.disjoint_map _).mpr hd)
theorem pC_join (a n n' : ℕ) : iprop((∃ f, pC c a n f) ∗ ∃ f, pC c (a + n) n' f) ⊢ (iprop(∃ f, pC c a (n + n') f) : sProp 𝕄) := by
  have hu : rowsC a (n + n') = rowsC a n ∪ rowsC (a + n) n' := by
    ext x; rw [Finset.mem_union, mem_rowsC, mem_rowsC, mem_rowsC]; omega
  have hd : Disjoint (rowsC a n |>.map M28.view.emb) (rowsC (a + n) n' |>.map M28.view.emb) := by
    refine (Finset.disjoint_map _).mpr ?_
    rw [Finset.disjoint_left]; intro x; rw [mem_rowsC, mem_rowsC]; omega
  unfold pC
  rw [hu]; unfold View.setOn; rw [Finset.map_union]
  iintro ⟨⟨%f, H⟩, ⟨%g, G⟩⟩
  iexists _
  iapply (pointsTo_join hd)
  isplitl [H] <;> iassumption
theorem pK_join (a n n' : ℕ) : iprop((∃ f, pK c a n f) ∗ ∃ f, pK c (a + n) n' f) ⊢ (iprop(∃ f, pK c a (n + n') f) : sProp 𝕄) := by
  have hu : colsK a (n + n') = colsK a n ∪ colsK (a + n) n' := by
    ext x; rw [Finset.mem_union, mem_colsK, mem_colsK, mem_colsK]; omega
  have hd : Disjoint (colsK a n |>.map M29.view.emb) (colsK (a + n) n' |>.map M29.view.emb) := by
    refine (Finset.disjoint_map _).mpr ?_
    rw [Finset.disjoint_left]; intro x; rw [mem_colsK, mem_colsK]; omega
  unfold pK
  rw [hu]; unfold View.setOn; rw [Finset.map_union]
  iintro ⟨⟨%f, H⟩, ⟨%g, G⟩⟩
  iexists _
  iapply (pointsTo_join hd)
  isplitl [H] <;> iassumption
theorem pC_congr (a n : ℕ) (f g : Vec F S12800x512 .f32) (h : ∀ y ∈ rowsC a n, f y = g y) : (pC c a n f : sProp 𝕄) = pC c a n g := by
  unfold pC; refine pointsTo_congr fun i hi => ?_
  obtain ⟨y, hy, rfl⟩ := Finset.mem_map.mp hi
  exact h y hy
theorem pK_congr (a n : ℕ) (f g : Vec F S64x12800 .f32) (h : ∀ y ∈ colsK a n, f y = g y) : (pK c a n f : sProp 𝕄) = pK c a n g := by
  unfold pK; refine pointsTo_congr fun i hi => ?_
  obtain ⟨y, hy, rfl⟩ := Finset.mem_map.mp hi
  exact h y hy

/-! ## A transfer issued and a transfer awaited, with the program continuing at `K` -/

theorem enq {Q : PUnit → sProp 𝕄} {s : Shape} {src : Memref sig (c : Thread nD τ).2.kind .vmem s .f32} {dst : Memref sig (c : Thread nD τ).2.kind .hbm s .f32} {cell : DmaSem sig}
    {h1 : src.view.WordExact} {h2 : dst.view.WordExact} {h3 : DmaTarget.Typed (nD := nD) .vmem (.dma cell) (.here dst)}
    {fs : Buf (Elt F) (src.view.loc (c : Thread nD τ))} {fd : Buf (Elt F) (dst.view.loc (c : Thread nD τ))}
    {Sd : Finset (Idx (dst.view.loc (c : Thread nD τ)))} {D : sProp 𝕄} {N : ℕ} {K : PUnit → Prog (TpuEff nD τ sig (Elt F) Λ₀ (c : Thread nD τ).2) PUnit}
    (hN : dst.view.dmaCredit = N) (hN0 : 0 < N) (hSd : dst.view.set ⊆ Sd)
    (hD : iprop((dst.view.loc (c : Thread nD τ) ↦[Sd]{fullShare} dst.view.write (Elt F) fd (src.view.read (Elt F) fs) Finset.univ)
      ∗ (src.view.loc (c : Thread nD τ) ↦[src.view.set]{fullShare} fs)) ⊢ D) :
    iprop((src.view.loc (c : Thread nD τ) ↦[src.view.set]{fullShare} fs) ∗ (dst.view.loc (c : Thread nD τ) ↦[Sd]{fullShare} fd)
        ∗ semVal ((c : Thread nD τ), SemLoc.dma cell) 0
        ∗ (Transfers.Flight countersEmb (c : Thread nD τ) (SemLoc.dma cell) () N D
            -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs src (.here dst) ReadAs.same (.dma cell) h1 h2 h3) K) Q := by
  iintro ⟨Hs, Hd, Hz, HK⟩
  iapply (Transfers.wp_dmaLocal countersEmb Variants.none (c : Thread nD τ) none (via := ReadAs.same) (src := src) (dst := dst) (sm := .dma cell) () N hN hN0 hSd) $$ [Hs Hd Hz]
  · isplitl [Hs]; · iexact Hs
    isplitl [Hd] <;> iassumption
  iintro HF
  iapply HK
  iapply (Transfers.Flight_mono countersEmb (c : Thread nD τ) hD) $$ HF

theorem wt {Q : PUnit → sProp 𝕄} {sp : Space} {s s' : Shape} {srcw : Memref sig (c : Thread nD τ).2.kind sp s' .f32} {dstw : Memref sig (c : Thread nD τ).2.kind .hbm s .f32} {cell : DmaSem sig}
    {h1 : srcw.view.WordExact} {h2 : dstw.view.WordExact} {D : sProp 𝕄} {N : ℕ} {K : PUnit → Prog (TpuEff nD τ sig (Elt F) Λ₀ (c : Thread nD τ).2) PUnit}
    (hN : dstw.view.dmaCredit = N) :
    iprop(Transfers.Flight countersEmb (c : Thread nD τ) (SemLoc.dma cell) () N D ∗ (∃ W, owes (c : Thread nD τ) 0 W)
        ∗ (iprop(D ∗ semVal ((c : Thread nD τ), SemLoc.dma cell) 0 ∗ (∃ W, owes (c : Thread nD τ) 0 W))
            -∗ wp frame (wpE (defs₀ (F := F)) Variants.none (c : Thread nD τ) none) Set.univ (K ⟨⟩) Q))
      ⊢ wp frame (wpE (defs₀ (F := F)) Variants.none (c : Thread nD τ) none) Set.univ
          (.op (.waitDma2 cell srcw dstw h1 h2) K) Q := by
  iintro ⟨HF, ⟨%W, HW⟩, HK⟩
  iapply (Transfers.wp_waitLocal countersEmb Variants.none (c : Thread nD τ) none (srcw := srcw) (dstw := dstw) () hN) $$ [HF HW]
  · isplitl [HF] <;> iassumption
  iintro ⟨HD, Hz, HW⟩
  iapply HK
  isplitl [HD]; · iexact HD
  isplitl [Hz]; · iexact Hz
  iexists _; iexact HW

/-! ## A held tile, whole and in halves; what a transfer of it delivers -/

theorem len_le (k : Fin 25) : len k ≤ 512 := by unfold len; split <;> omega
theorem amtC_pos (k : Fin 25) : 0 < amtC k := by unfold amtC; split <;> omega
theorem amtK_pos (k : Fin 25) : 0 < amtK k := by unfold amtK; split <;> omega
theorem setOnM16 (S : Finset S8x12672x512.Idx) : M16.view.setOn S = S := Finset.map_refl
theorem setOnM17 (S : Finset S8x64x12672.Idx) : M17.view.setOn S = S := Finset.map_refl

theorem HeldC_whole (b : ℕ) (k : Fin 25) (n : ℕ) :
    HeldC m c b k n n ⊢ iprop(pC c (512 * k.val) 512 (DCall m c b n) ∗ hC m c b k ∗ zC c k) := by
  unfold HeldC
  have e := pC_split (F := F) c (512 * k.val) 256 256 (DCall m c b n)
  have e1 : 256 * (2 * k.val) = 512 * k.val := by omega
  have e2 : 256 * (2 * k.val + 1) = 512 * k.val + 256 := by omega
  rw [e1, e2]
  iintro ⟨H1, H2, Hh, Hz⟩
  isplitl [H1 H2]
  · iapply e.2 $$ [H1 H2]
    isplitl [H1] <;> iassumption
  isplitl [Hh] <;> iassumption
theorem HeldC_of_whole (b : ℕ) (k : Fin 25) (n : ℕ) :
    iprop(pC c (512 * k.val) 512 (DCall m c b n) ∗ hC m c b k ∗ zC c k) ⊢ HeldC m c b k n n := by
  unfold HeldC
  have e := pC_split (F := F) c (512 * k.val) 256 256 (DCall m c b n)
  have e1 : 256 * (2 * k.val) = 512 * k.val := by omega
  have e2 : 256 * (2 * k.val + 1) = 512 * k.val + 256 := by omega
  rw [e1, e2]
  iintro ⟨H, Hh, Hz⟩
  ihave H := e.1 $$ H
  icases H with ⟨H1, H2⟩
  isplitl [H1]; · iexact H1
  isplitl [H2]; · iexact H2
  isplitl [Hh] <;> iassumption
/-- A finished transfer and the part of the tile it left alone give the tile back. -/
theorem IdleC_of (b : ℕ) (k : Fin 25) :
    iprop((hC m c (b + 1) k ∗ ∃ f, pC c (512 * k.val) (len k) f) ∗ zC c k ∗ ∃ f, pC c (512 * k.val + len k) (512 - len k) f)
      ⊢ IdleC m c (b + 1) k := by
  unfold IdleC
  have e := pC_join (F := F) c (512 * k.val) (len k) (512 - len k)
  have h := len_le k
  rw [show len k + (512 - len k) = 512 by omega] at e
  iintro ⟨⟨Hh, H1⟩, Hz, H2⟩
  isplitl [H1 H2]
  · iapply e $$ [H1 H2]
    isplitl [H1] <;> iassumption
  isplitl [Hh] <;> iassumption
theorem deliverC (b n : ℕ) (k : Fin 25) (hn : n = len k) (inb) (hq) (inb') :
    iprop((M16.view.loc (c : Thread nD τ) ↦[M16.view.setOn (homeSC (512 * k.val) (len k))]{fullShare}
          (viewHC b (512 * k.val) n inb hq).write (Elt F) (homeFC m c b)
            ((M28.view.slice (Rect.unit (s := S12800x512) ![512 * k.val, 0] ![n, 512] inb')).read (Elt F) (DCall m c b 12)) Finset.univ)
        ∗ (M28.view.loc (c : Thread nD τ) ↦[(M28.view.slice (Rect.unit (s := S12800x512) ![512 * k.val, 0] ![n, 512] inb')).set]{fullShare} DCall m c b 12))
      ⊢ (iprop(hC m c (b + 1) k ∗ ∃ f, pC c (512 * k.val) (len k) f) : sProp 𝕄) := by
  subst hn
  unfold hC pC
  rw [View.set_slice, rect_rowsC]
  iintro ⟨Hd, Hs⟩
  isplitl [Hd]
  · rw [pointsTo_congr (g := homeFC m c (b + 1))]
    · exact .rfl
    intro i hi
    obtain ⟨y, hy, rfl⟩ := Finset.mem_map.mp hi
    exact home_step_C m c b (512 * k.val) (len k) inb hq inb' y hy
  · iexists _; iexact Hs

theorem credC (o3 : Fin 3 → ℕ) (i3) : (((M16).slice (Rect.unit (s := S8x12672x512) o3 S1x512x512.size i3) (fun _ => rfl)).squeeze S512x512 squeezes_S1x512x512_S512x512).view.dmaCredit = 32768 := by rfl
theorem startC {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x512x512.size a ≤ S8x12672x512.size a} {i2 : ∀ a, o2 a + S512x512.size a ≤ S12800x512.size a}
    (e1 : o1 = ![k.val]) (e3 : o3 = ![b, 512 * k.val, 0]) (e2 : o2 = ![512 * k.val, 0]) {h1 h2 h3} {K : PUnit → Prog (TpuEff nD τ sig (Elt F) Λ₀ (c : Thread nD τ).2) PUnit} :
    iprop(HeldC m c b k 12 12 ∗ (FlyC m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M28.slice (Rect.unit (s := S12800x512) o2 S512x512.size i2) (fun _ => rfl))
            (.here ((M16.slice (Rect.unit (s := S8x12672x512) o3 S1x512x512.size i3) (fun _ => rfl)).squeeze S512x512 squeezes_S1x512x512_S512x512)) ReadAs.same
            (.dma ((cc0_scratch12.slice (Rect.unit (s := S25) o1 S1.size i1)).squeeze S_ squeezes_S1_S_).sem) h1 h2 h3) K) Q := by
  subst e1 e2 e3
  have hl : 512 = len k := (if_neg hk).symm
  have ha : amtC k = 32768 := if_neg hk
  have hce := cellC_eq k i1
  generalize ((cc0_scratch12.slice (Rect.unit (s := S25) ![k.val] S1.size i1)).squeeze S_ squeezes_S1_S_).sem = ce at *
  subst hce
  have hset : M28.view.setOn (rowsC (512 * k.val) 512) = (M28.view.slice (Rect.unit (s := S12800x512) ![512 * k.val, 0] S512x512.size i2)).set := by
    rw [View.set_slice]; exact congrArg _ (rect_rowsC (512 * k.val) 512 i2).symm
  iintro ⟨H, HK⟩
  ihave H := HeldC_whole m c b k 12 $$ H
  icases H with ⟨Hp, Hh, Hz⟩
  have e := pC_split (F := F) c (512 * k.val) 512 (512 - 512) (DCall m c b 12)
  rw [show 512 + (512 - 512) = 512 by omega] at e
  ihave Hp := e.1 $$ Hp
  icases Hp with ⟨Hp, Hr⟩
  iapply (enq (F := F) c (src := M28.slice (Rect.unit (s := S12800x512) ![512 * k.val, 0] S512x512.size i2) (fun _ => rfl)) (dst := (M16.slice (Rect.unit (s := S8x12672x512) ![b, 512 * k.val, 0] S1x512x512.size i3) (fun _ => rfl)).squeeze S512x512 squeezes_S1x512x512_S512x512) (N := amtC k) (Sd := M16.view.setOn (homeSC (512 * k.val) (len k))) (fd := homeFC m c b) (fs := DCall m c b 12)
    (by rw [ha]; exact credC _ _) (amtC_pos k)
    (by rw [← hl, setOnM16]; exact viewHC_set b (512 * k.val) 512 i3 (squeezes_S1x512x512_S512x512).numel_eq) (deliverC m c b 512 k hl i3 (squeezes_S1x512x512_S512x512).numel_eq i2))
  unfold pC hC zC
  rw [hset]
  isplitl [Hp]; · iexact Hp
  isplitl [Hh]; · iexact Hh
  isplitl [Hz]; · iexact Hz
  iintro HF
  iapply HK
  unfold FlyC hC pC
  rw [← hl]
  isplitl [HF]; · iexact HF
  iexists _; iexact Hr

theorem waitC {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x512x512.size a ≤ S8x12672x512.size a} {i2 : ∀ a, o2 a + S512x512.size a ≤ S12800x512.size a}
    (e1 : o1 = ![k.val]) {h1 h2} {K : PUnit → Prog (TpuEff nD τ sig (Elt F) Λ₀ (c : Thread nD τ).2) PUnit} :
    iprop(FlyC m c b k ∗ (∃ W, owes (c : Thread nD τ) 0 W)
        ∗ (iprop(IdleC m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) o1 S1.size i1)).squeeze S_ squeezes_S1_S_).sem
            (M28.slice (Rect.unit (s := S12800x512) o2 S512x512.size i2) (fun _ => rfl))
            ((M16.slice (Rect.unit (s := S8x12672x512) o3 S1x512x512.size i3) (fun _ => rfl)).squeeze S512x512 squeezes_S1x512x512_S512x512) h1 h2) K) Q := by
  subst e1
  have ha : amtC k = 32768 := if_neg hk
  have hce := cellC_eq k i1
  generalize ((cc0_scratch12.slice (Rect.unit (s := S25) ![k.val] S1.size i1)).squeeze S_ squeezes_S1_S_).sem = ce at *
  subst hce
  unfold FlyC
  iintro ⟨⟨HF, Hr⟩, HW, HK⟩
  iapply (wt (F := F) c (N := amtC k) (by rw [ha]; rfl))
  isplitl [HF]; · iexact HF
  isplitl [HW]; · iexact HW
  iintro ⟨HD, Hz, HW⟩
  iapply HK
  isplitl [HD Hz Hr]
  · iapply IdleC_of m c b k
    isplitl [HD]; · iexact HD
    isplitl [Hz]
    · unfold zC; iexact Hz
    iexact Hr
  iexact HW

theorem credCLast (o3 : Fin 3 → ℕ) (i3) : (((M16).slice (Rect.unit (s := S8x12672x512) o3 S1x384x512.size i3) (fun _ => rfl)).squeeze S384x512 squeezes_S1x384x512_S384x512).view.dmaCredit = 24576 := by rfl
theorem startCLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x384x512.size a ≤ S8x12672x512.size a} {i2 : ∀ a, o2 a + S384x512.size a ≤ S12800x512.size a}
    (e1 : o1 = ![k.val]) (e3 : o3 = ![b, 512 * k.val, 0]) (e2 : o2 = ![512 * k.val, 0]) {h1 h2 h3} {K : PUnit → Prog (TpuEff nD τ sig (Elt F) Λ₀ (c : Thread nD τ).2) PUnit} :
    iprop(HeldC m c b k 12 12 ∗ (FlyC m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M28.slice (Rect.unit (s := S12800x512) o2 S384x512.size i2) (fun _ => rfl))
            (.here ((M16.slice (Rect.unit (s := S8x12672x512) o3 S1x384x512.size i3) (fun _ => rfl)).squeeze S384x512 squeezes_S1x384x512_S384x512)) ReadAs.same
            (.dma ((cc0_scratch12.slice (Rect.unit (s := S25) o1 S1.size i1)).squeeze S_ squeezes_S1_S_).sem) h1 h2 h3) K) Q := by
  subst e1 e2 e3
  have hl : 384 = len k := (if_pos hk).symm
  have ha : amtC k = 24576 := if_pos hk
  have hce := cellC_eq k i1
  generalize ((cc0_scratch12.slice (Rect.unit (s := S25) ![k.val] S1.size i1)).squeeze S_ squeezes_S1_S_).sem = ce at *
  subst hce
  have hset : M28.view.setOn (rowsC (512 * k.val) 384) = (M28.view.slice (Rect.unit (s := S12800x512) ![512 * k.val, 0] S384x512.size i2)).set := by
    rw [View.set_slice]; exact congrArg _ (rect_rowsC (512 * k.val) 384 i2).symm
  iintro ⟨H, HK⟩
  ihave H := HeldC_whole m c b k 12 $$ H
  icases H with ⟨Hp, Hh, Hz⟩
  have e := pC_split (F := F) c (512 * k.val) 384 (512 - 384) (DCall m c b 12)
  rw [show 384 + (512 - 384) = 512 by omega] at e
  ihave Hp := e.1 $$ Hp
  icases Hp with ⟨Hp, Hr⟩
  iapply (enq (F := F) c (src := M28.slice (Rect.unit (s := S12800x512) ![512 * k.val, 0] S384x512.size i2) (fun _ => rfl)) (dst := (M16.slice (Rect.unit (s := S8x12672x512) ![b, 512 * k.val, 0] S1x384x512.size i3) (fun _ => rfl)).squeeze S384x512 squeezes_S1x384x512_S384x512) (N := amtC k) (Sd := M16.view.setOn (homeSC (512 * k.val) (len k))) (fd := homeFC m c b) (fs := DCall m c b 12)
    (by rw [ha]; exact credCLast _ _) (amtC_pos k)
    (by rw [← hl, setOnM16]; exact viewHC_set b (512 * k.val) 384 i3 (squeezes_S1x384x512_S384x512).numel_eq) (deliverC m c b 384 k hl i3 (squeezes_S1x384x512_S384x512).numel_eq i2))
  unfold pC hC zC
  rw [hset]
  isplitl [Hp]; · iexact Hp
  isplitl [Hh]; · iexact Hh
  isplitl [Hz]; · iexact Hz
  iintro HF
  iapply HK
  unfold FlyC hC pC
  rw [← hl]
  isplitl [HF]; · iexact HF
  iexists _; iexact Hr

theorem waitCLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x384x512.size a ≤ S8x12672x512.size a} {i2 : ∀ a, o2 a + S384x512.size a ≤ S12800x512.size a}
    (e1 : o1 = ![k.val]) {h1 h2} {K : PUnit → Prog (TpuEff nD τ sig (Elt F) Λ₀ (c : Thread nD τ).2) PUnit} :
    iprop(FlyC m c b k ∗ (∃ W, owes (c : Thread nD τ) 0 W)
        ∗ (iprop(IdleC m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) o1 S1.size i1)).squeeze S_ squeezes_S1_S_).sem
            (M28.slice (Rect.unit (s := S12800x512) o2 S384x512.size i2) (fun _ => rfl))
            ((M16.slice (Rect.unit (s := S8x12672x512) o3 S1x384x512.size i3) (fun _ => rfl)).squeeze S384x512 squeezes_S1x384x512_S384x512) h1 h2) K) Q := by
  subst e1
  have ha : amtC k = 24576 := if_pos hk
  have hce := cellC_eq k i1
  generalize ((cc0_scratch12.slice (Rect.unit (s := S25) ![k.val] S1.size i1)).squeeze S_ squeezes_S1_S_).sem = ce at *
  subst hce
  unfold FlyC
  iintro ⟨⟨HF, Hr⟩, HW, HK⟩
  iapply (wt (F := F) c (N := amtC k) (by rw [ha]; rfl))
  isplitl [HF]; · iexact HF
  isplitl [HW]; · iexact HW
  iintro ⟨HD, Hz, HW⟩
  iapply HK
  isplitl [HD Hz Hr]
  · iapply IdleC_of m c b k
    isplitl [HD]; · iexact HD
    isplitl [Hz]
    · unfold zC; iexact Hz
    iexact Hr
  iexact HW

theorem HeldK_whole (b : ℕ) (k : Fin 25) (n : ℕ) :
    HeldK m c b k n n ⊢ iprop(pK c (512 * k.val) 512 (DKall m c b n) ∗ hK m c b k ∗ zK c k) := by
  unfold HeldK
  have e := pK_split (F := F) c (512 * k.val) 256 256 (DKall m c b n)
  have e1 : 256 * (2 * k.val) = 512 * k.val := by omega
  have e2 : 256 * (2 * k.val + 1) = 512 * k.val + 256 := by omega
  rw [e1, e2]
  iintro ⟨H1, H2, Hh, Hz⟩
  isplitl [H1 H2]
  · iapply e.2 $$ [H1 H2]
    isplitl [H1] <;> iassumption
  isplitl [Hh] <;> iassumption
theorem HeldK_of_whole (b : ℕ) (k : Fin 25) (n : ℕ) :
    iprop(pK c (512 * k.val) 512 (DKall m c b n) ∗ hK m c b k ∗ zK c k) ⊢ HeldK m c b k n n := by
  unfold HeldK
  have e := pK_split (F := F) c (512 * k.val) 256 256 (DKall m c b n)
  have e1 : 256 * (2 * k.val) = 512 * k.val := by omega
  have e2 : 256 * (2 * k.val + 1) = 512 * k.val + 256 := by omega
  rw [e1, e2]
  iintro ⟨H, Hh, Hz⟩
  ihave H := e.1 $$ H
  icases H with ⟨H1, H2⟩
  isplitl [H1]; · iexact H1
  isplitl [H2]; · iexact H2
  isplitl [Hh] <;> iassumption
/-- A finished transfer and the part of the tile it left alone give the tile back. -/
theorem IdleK_of (b : ℕ) (k : Fin 25) :
    iprop((hK m c (b + 1) k ∗ ∃ f, pK c (512 * k.val) (len k) f) ∗ zK c k ∗ ∃ f, pK c (512 * k.val + len k) (512 - len k) f)
      ⊢ IdleK m c (b + 1) k := by
  unfold IdleK
  have e := pK_join (F := F) c (512 * k.val) (len k) (512 - len k)
  have h := len_le k
  rw [show len k + (512 - len k) = 512 by omega] at e
  iintro ⟨⟨Hh, H1⟩, Hz, H2⟩
  isplitl [H1 H2]
  · iapply e $$ [H1 H2]
    isplitl [H1] <;> iassumption
  isplitl [Hh] <;> iassumption
theorem deliverK (b n : ℕ) (k : Fin 25) (hn : n = len k) (inb) (hq) (inb') :
    iprop((M17.view.loc (c : Thread nD τ) ↦[M17.view.setOn (homeSK (512 * k.val) (len k))]{fullShare}
          (viewHK b (512 * k.val) n inb hq).write (Elt F) (homeFK m c b)
            ((M29.view.slice (Rect.unit (s := S64x12800) ![0, 512 * k.val] ![64, n] inb')).read (Elt F) (DKall m c b 12)) Finset.univ)
        ∗ (M29.view.loc (c : Thread nD τ) ↦[(M29.view.slice (Rect.unit (s := S64x12800) ![0, 512 * k.val] ![64, n] inb')).set]{fullShare} DKall m c b 12))
      ⊢ (iprop(hK m c (b + 1) k ∗ ∃ f, pK c (512 * k.val) (len k) f) : sProp 𝕄) := by
  subst hn
  unfold hK pK
  rw [View.set_slice, rect_colsK]
  iintro ⟨Hd, Hs⟩
  isplitl [Hd]
  · rw [pointsTo_congr (g := homeFK m c (b + 1))]
    · exact .rfl
    intro i hi
    obtain ⟨y, hy, rfl⟩ := Finset.mem_map.mp hi
    exact home_step_K m c b (512 * k.val) (len k) inb hq inb' y hy
  · iexists _; iexact Hs

theorem credK (o3 : Fin 3 → ℕ) (i3) : (((M17).slice (Rect.unit (s := S8x64x12672) o3 S1x64x512.size i3) (fun _ => rfl)).squeeze S64x512 squeezes_S1x64x512_S64x512).view.dmaCredit = 4096 := by rfl
theorem startK {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x64x512.size a ≤ S8x64x12672.size a} {i2 : ∀ a, o2 a + S64x512.size a ≤ S64x12800.size a}
    (e1 : o1 = ![k.val]) (e3 : o3 = ![b, 0, 512 * k.val]) (e2 : o2 = ![0, 512 * k.val]) {h1 h2 h3} {K : PUnit → Prog (TpuEff nD τ sig (Elt F) Λ₀ (c : Thread nD τ).2) PUnit} :
    iprop(HeldK m c b k 12 12 ∗ (FlyK m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M29.slice (Rect.unit (s := S64x12800) o2 S64x512.size i2) (fun _ => rfl))
            (.here ((M17.slice (Rect.unit (s := S8x64x12672) o3 S1x64x512.size i3) (fun _ => rfl)).squeeze S64x512 squeezes_S1x64x512_S64x512)) ReadAs.same
            (.dma ((cc0_scratch13.slice (Rect.unit (s := S25) o1 S1.size i1)).squeeze S_ squeezes_S1_S_).sem) h1 h2 h3) K) Q := by
  subst e1 e2 e3
  have hl : 512 = len k := (if_neg hk).symm
  have ha : amtK k = 4096 := if_neg hk
  have hce := cellK_eq k i1
  generalize ((cc0_scratch13.slice (Rect.unit (s := S25) ![k.val] S1.size i1)).squeeze S_ squeezes_S1_S_).sem = ce at *
  subst hce
  have hset : M29.view.setOn (colsK (512 * k.val) 512) = (M29.view.slice (Rect.unit (s := S64x12800) ![0, 512 * k.val] S64x512.size i2)).set := by
    rw [View.set_slice]; exact congrArg _ (rect_colsK (512 * k.val) 512 i2).symm
  iintro ⟨H, HK⟩
  ihave H := HeldK_whole m c b k 12 $$ H
  icases H with ⟨Hp, Hh, Hz⟩
  have e := pK_split (F := F) c (512 * k.val) 512 (512 - 512) (DKall m c b 12)
  rw [show 512 + (512 - 512) = 512 by omega] at e
  ihave Hp := e.1 $$ Hp
  icases Hp with ⟨Hp, Hr⟩
  iapply (enq (F := F) c (src := M29.slice (Rect.unit (s := S64x12800) ![0, 512 * k.val] S64x512.size i2) (fun _ => rfl)) (dst := (M17.slice (Rect.unit (s := S8x64x12672) ![b, 0, 512 * k.val] S1x64x512.size i3) (fun _ => rfl)).squeeze S64x512 squeezes_S1x64x512_S64x512) (N := amtK k) (Sd := M17.view.setOn (homeSK (512 * k.val) (len k))) (fd := homeFK m c b) (fs := DKall m c b 12)
    (by rw [ha]; exact credK _ _) (amtK_pos k)
    (by rw [← hl, setOnM17]; exact viewHK_set b (512 * k.val) 512 i3 (squeezes_S1x64x512_S64x512).numel_eq) (deliverK m c b 512 k hl i3 (squeezes_S1x64x512_S64x512).numel_eq i2))
  unfold pK hK zK
  rw [hset]
  isplitl [Hp]; · iexact Hp
  isplitl [Hh]; · iexact Hh
  isplitl [Hz]; · iexact Hz
  iintro HF
  iapply HK
  unfold FlyK hK pK
  rw [← hl]
  isplitl [HF]; · iexact HF
  iexists _; iexact Hr

theorem waitK {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x64x512.size a ≤ S8x64x12672.size a} {i2 : ∀ a, o2 a + S64x512.size a ≤ S64x12800.size a}
    (e1 : o1 = ![k.val]) {h1 h2} {K : PUnit → Prog (TpuEff nD τ sig (Elt F) Λ₀ (c : Thread nD τ).2) PUnit} :
    iprop(FlyK m c b k ∗ (∃ W, owes (c : Thread nD τ) 0 W)
        ∗ (iprop(IdleK m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) o1 S1.size i1)).squeeze S_ squeezes_S1_S_).sem
            (M29.slice (Rect.unit (s := S64x12800) o2 S64x512.size i2) (fun _ => rfl))
            ((M17.slice (Rect.unit (s := S8x64x12672) o3 S1x64x512.size i3) (fun _ => rfl)).squeeze S64x512 squeezes_S1x64x512_S64x512) h1 h2) K) Q := by
  subst e1
  have ha : amtK k = 4096 := if_neg hk
  have hce := cellK_eq k i1
  generalize ((cc0_scratch13.slice (Rect.unit (s := S25) ![k.val] S1.size i1)).squeeze S_ squeezes_S1_S_).sem = ce at *
  subst hce
  unfold FlyK
  iintro ⟨⟨HF, Hr⟩, HW, HK⟩
  iapply (wt (F := F) c (N := amtK k) (by rw [ha]; rfl))
  isplitl [HF]; · iexact HF
  isplitl [HW]; · iexact HW
  iintro ⟨HD, Hz, HW⟩
  iapply HK
  isplitl [HD Hz Hr]
  · iapply IdleK_of m c b k
    isplitl [HD]; · iexact HD
    isplitl [Hz]
    · unfold zK; iexact Hz
    iexact Hr
  iexact HW

theorem credKLast (o3 : Fin 3 → ℕ) (i3) : (((M17).slice (Rect.unit (s := S8x64x12672) o3 S1x64x384.size i3) (fun _ => rfl)).squeeze S64x384 squeezes_S1x64x384_S64x384).view.dmaCredit = 3072 := by rfl
theorem startKLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x64x384.size a ≤ S8x64x12672.size a} {i2 : ∀ a, o2 a + S64x384.size a ≤ S64x12800.size a}
    (e1 : o1 = ![k.val]) (e3 : o3 = ![b, 0, 512 * k.val]) (e2 : o2 = ![0, 512 * k.val]) {h1 h2 h3} {K : PUnit → Prog (TpuEff nD τ sig (Elt F) Λ₀ (c : Thread nD τ).2) PUnit} :
    iprop(HeldK m c b k 12 12 ∗ (FlyK m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M29.slice (Rect.unit (s := S64x12800) o2 S64x384.size i2) (fun _ => rfl))
            (.here ((M17.slice (Rect.unit (s := S8x64x12672) o3 S1x64x384.size i3) (fun _ => rfl)).squeeze S64x384 squeezes_S1x64x384_S64x384)) ReadAs.same
            (.dma ((cc0_scratch13.slice (Rect.unit (s := S25) o1 S1.size i1)).squeeze S_ squeezes_S1_S_).sem) h1 h2 h3) K) Q := by
  subst e1 e2 e3
  have hl : 384 = len k := (if_pos hk).symm
  have ha : amtK k = 3072 := if_pos hk
  have hce := cellK_eq k i1
  generalize ((cc0_scratch13.slice (Rect.unit (s := S25) ![k.val] S1.size i1)).squeeze S_ squeezes_S1_S_).sem = ce at *
  subst hce
  have hset : M29.view.setOn (colsK (512 * k.val) 384) = (M29.view.slice (Rect.unit (s := S64x12800) ![0, 512 * k.val] S64x384.size i2)).set := by
    rw [View.set_slice]; exact congrArg _ (rect_colsK (512 * k.val) 384 i2).symm
  iintro ⟨H, HK⟩
  ihave H := HeldK_whole m c b k 12 $$ H
  icases H with ⟨Hp, Hh, Hz⟩
  have e := pK_split (F := F) c (512 * k.val) 384 (512 - 384) (DKall m c b 12)
  rw [show 384 + (512 - 384) = 512 by omega] at e
  ihave Hp := e.1 $$ Hp
  icases Hp with ⟨Hp, Hr⟩
  iapply (enq (F := F) c (src := M29.slice (Rect.unit (s := S64x12800) ![0, 512 * k.val] S64x384.size i2) (fun _ => rfl)) (dst := (M17.slice (Rect.unit (s := S8x64x12672) ![b, 0, 512 * k.val] S1x64x384.size i3) (fun _ => rfl)).squeeze S64x384 squeezes_S1x64x384_S64x384) (N := amtK k) (Sd := M17.view.setOn (homeSK (512 * k.val) (len k))) (fd := homeFK m c b) (fs := DKall m c b 12)
    (by rw [ha]; exact credKLast _ _) (amtK_pos k)
    (by rw [← hl, setOnM17]; exact viewHK_set b (512 * k.val) 384 i3 (squeezes_S1x64x384_S64x384).numel_eq) (deliverK m c b 384 k hl i3 (squeezes_S1x64x384_S64x384).numel_eq i2))
  unfold pK hK zK
  rw [hset]
  isplitl [Hp]; · iexact Hp
  isplitl [Hh]; · iexact Hh
  isplitl [Hz]; · iexact Hz
  iintro HF
  iapply HK
  unfold FlyK hK pK
  rw [← hl]
  isplitl [HF]; · iexact HF
  iexists _; iexact Hr

theorem waitKLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x64x384.size a ≤ S8x64x12672.size a} {i2 : ∀ a, o2 a + S64x384.size a ≤ S64x12800.size a}
    (e1 : o1 = ![k.val]) {h1 h2} {K : PUnit → Prog (TpuEff nD τ sig (Elt F) Λ₀ (c : Thread nD τ).2) PUnit} :
    iprop(FlyK m c b k ∗ (∃ W, owes (c : Thread nD τ) 0 W)
        ∗ (iprop(IdleK m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) o1 S1.size i1)).squeeze S_ squeezes_S1_S_).sem
            (M29.slice (Rect.unit (s := S64x12800) o2 S64x384.size i2) (fun _ => rfl))
            ((M17.slice (Rect.unit (s := S8x64x12672) o3 S1x64x384.size i3) (fun _ => rfl)).squeeze S64x384 squeezes_S1x64x384_S64x384) h1 h2) K) Q := by
  subst e1
  have ha : amtK k = 3072 := if_pos hk
  have hce := cellK_eq k i1
  generalize ((cc0_scratch13.slice (Rect.unit (s := S25) ![k.val] S1.size i1)).squeeze S_ squeezes_S1_S_).sem = ce at *
  subst hce
  unfold FlyK
  iintro ⟨⟨HF, Hr⟩, HW, HK⟩
  iapply (wt (F := F) c (N := amtK k) (by rw [ha]; rfl))
  isplitl [HF]; · iexact HF
  isplitl [HW]; · iexact HW
  iintro ⟨HD, Hz, HW⟩
  iapply HK
  isplitl [HD Hz Hr]
  · iapply IdleK_of m c b k
    isplitl [HD]; · iexact HD
    isplitl [Hz]
    · unfold zK; iexact Hz
    iexact Hr
  iexact HW

end Cert.Kernel.Gen

end
-- ==== Proof.Steps.lean ====
/-
  The phases that move tiles: a batch's tile is awaited and zeroed, a finished tile is sent, and after the last
  batch every tile is awaited.
-/
module

public import proofs.«01_k».proof.Proof.Tiles

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

theorem ent_of_eq {A B : sProp 𝕄} (h : A = B) : A ⊢ B := h ▸ .rfl

/-! ## A band as the rectangle a load or a store names -/

theorem pC_rect512 {a : ℕ} {o : Fin 2 → ℕ} (e : o = ![a, 0]) (inb : ∀ x, o x + S512x512.size x ≤ S12800x512.size x) (f : Vec F S12800x512 .f32) :
    (pC c a 512 f : sProp 𝕄) = (M28.view.loc (c : Thread nD τ) ↦[M28.view.setOn (Rect.unit (s := S12800x512) o S512x512.size inb).set]{fullShare} f) := by
  subst e
  unfold pC
  rw [show (Rect.unit (s := S12800x512) ![a, 0] S512x512.size inb).set = rowsC a 512 from rect_rowsC a 512 inb]
theorem pC_rect256 {a : ℕ} {o : Fin 2 → ℕ} (e : o = ![a, 0]) (inb : ∀ x, o x + S256x512.size x ≤ S12800x512.size x) (f : Vec F S12800x512 .f32) :
    (pC c a 256 f : sProp 𝕄) = (M28.view.loc (c : Thread nD τ) ↦[M28.view.setOn (Rect.unit (s := S12800x512) o S256x512.size inb).set]{fullShare} f) := by
  subst e
  unfold pC
  rw [show (Rect.unit (s := S12800x512) ![a, 0] S256x512.size inb).set = rowsC a 256 from rect_rowsC a 256 inb]
theorem zeroC (b k : ℕ) {o : Fin 2 → ℕ} (e : o = ![512 * k, 0]) (inb : ∀ x, o x + S512x512.size x ≤ S12800x512.size x) (f : Vec F S12800x512 .f32) :
    (M28.view.loc (c : Thread nD τ) ↦[M28.view.setOn (Rect.unit (s := S12800x512) o S512x512.size inb).set]{fullShare}
        M28.view.writes (Elt F) f [⟨Rect.unit (s := S12800x512) o S512x512.size inb, k0_pay1 (F := F)⟩])
      = (pC c (512 * k) 512 (DCall m c b 0) : sProp 𝕄) := by
  rw [← pC_rect512 c e]
  subst e
  exact pC_congr c _ _ _ _ fun y hy => zero_DC m c b k inb f y hy
/-- A half after one more query tile: what was read of it is its contents, what is stored the next ones. -/
theorem halfC (b h n : ℕ) {o : Fin 2 → ℕ} (e : o = ![256 * h, 0]) (inb : ∀ x, o x + S256x512.size x ≤ S12800x512.size x)
    (v : Vec F S256x512 .f32 → Vec F S256x512 .f32) (hv : v (DCH m c b h n) = DCH m c b h (n + 1)) :
    (M28.view.loc (c : Thread nD τ) ↦[M28.view.setOn (Rect.unit (s := S12800x512) o S256x512.size inb).set]{fullShare}
        M28.view.writes (Elt F) (DCall m c b n) [⟨Rect.unit (s := S12800x512) o S256x512.size inb,
          v (M28.view.readAt (Elt F) (Rect.unit (s := S12800x512) o S256x512.size inb).toLoadRect (DCall m c b n))⟩])
      = (pC c (256 * h) 256 (DCall m c b (n + 1)) : sProp 𝕄) := by
  rw [← pC_rect256 c e]
  subst e
  rw [readAt_DC m c b h n inb, hv]
  exact pC_congr c _ _ _ _ fun y hy => writes_DC m c b h (n + 1) inb _ y hy
theorem pK_rect512 {a : ℕ} {o : Fin 2 → ℕ} (e : o = ![0, a]) (inb : ∀ x, o x + S64x512.size x ≤ S64x12800.size x) (f : Vec F S64x12800 .f32) :
    (pK c a 512 f : sProp 𝕄) = (M29.view.loc (c : Thread nD τ) ↦[M29.view.setOn (Rect.unit (s := S64x12800) o S64x512.size inb).set]{fullShare} f) := by
  subst e
  unfold pK
  rw [show (Rect.unit (s := S64x12800) ![0, a] S64x512.size inb).set = colsK a 512 from rect_colsK a 512 inb]
theorem pK_rect256 {a : ℕ} {o : Fin 2 → ℕ} (e : o = ![0, a]) (inb : ∀ x, o x + S64x256.size x ≤ S64x12800.size x) (f : Vec F S64x12800 .f32) :
    (pK c a 256 f : sProp 𝕄) = (M29.view.loc (c : Thread nD τ) ↦[M29.view.setOn (Rect.unit (s := S64x12800) o S64x256.size inb).set]{fullShare} f) := by
  subst e
  unfold pK
  rw [show (Rect.unit (s := S64x12800) ![0, a] S64x256.size inb).set = colsK a 256 from rect_colsK a 256 inb]
theorem zeroK (b k : ℕ) {o : Fin 2 → ℕ} (e : o = ![0, 512 * k]) (inb : ∀ x, o x + S64x512.size x ≤ S64x12800.size x) (f : Vec F S64x12800 .f32) :
    (M29.view.loc (c : Thread nD τ) ↦[M29.view.setOn (Rect.unit (s := S64x12800) o S64x512.size inb).set]{fullShare}
        M29.view.writes (Elt F) f [⟨Rect.unit (s := S64x12800) o S64x512.size inb, k0_pay2 (F := F)⟩])
      = (pK c (512 * k) 512 (DKall m c b 0) : sProp 𝕄) := by
  rw [← pK_rect512 c e]
  subst e
  exact pK_congr c _ _ _ _ fun y hy => zero_DK m c b k inb f y hy
/-- A half after one more query tile: what was read of it is its contents, what is stored the next ones. -/
theorem halfK (b h n : ℕ) {o : Fin 2 → ℕ} (e : o = ![0, 256 * h]) (inb : ∀ x, o x + S64x256.size x ≤ S64x12800.size x)
    (v : Vec F S64x256 .f32 → Vec F S64x256 .f32) (hv : v (DKH m c b h n) = DKH m c b h (n + 1)) :
    (M29.view.loc (c : Thread nD τ) ↦[M29.view.setOn (Rect.unit (s := S64x12800) o S64x256.size inb).set]{fullShare}
        M29.view.writes (Elt F) (DKall m c b n) [⟨Rect.unit (s := S64x12800) o S64x256.size inb,
          v (M29.view.readAt (Elt F) (Rect.unit (s := S64x12800) o S64x256.size inb).toLoadRect (DKall m c b n))⟩])
      = (pK c (256 * h) 256 (DKall m c b (n + 1)) : sProp 𝕄) := by
  rw [← pK_rect256 c e]
  subst e
  rw [readAt_DK m c b h n inb, hv]
  exact pK_congr c _ _ _ _ fun y hy => writes_DK m c b h (n + 1) inb _ y hy

theorem phaseA_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond1 i = 1#1) :
    phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseA; rw [dif_neg h]

theorem phaseB_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond4 i = 1#1) :
    phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseB; rw [dif_neg h]

theorem phaseC_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond5 i = 1#1) :
    phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseC; rw [dif_neg h]

theorem phaseD_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond6 i = 1#1) :
    phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseD; rw [dif_neg h]

theorem phaseE_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond7 i = 1#1) :
    phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseE; rw [dif_neg h]

theorem phaseF_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond8 i = 1#1) :
    phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseF; rw [dif_neg h]

/-- A finished tile but the last is sent. -/
theorem phaseE_run (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h7 : k0_cond7 i = 1#1) (k : Fin 25) (hk : k.val + 1 = (i 2).val) (hk24 : k.val ≠ 24) :
    iprop(HeldC m c (i 0).val k 12 12 ∗ HeldK m c (i 0).val k 12 12
        ∗ (iprop(FlyC m c (i 0).val k ∗ FlyK m c (i 0).val k) -∗ wp frame (wpE (defs₀ (F := F)) Variants.none (c : Thread nD τ) none) Set.univ K Q))
      ⊢ wp frame (wpE (defs₀ (F := F)) Variants.none (c : Thread nD τ) none) Set.univ (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h : 0 < (i 2).val := by omega
  have hj : (i 2).val - 1 = k.val := by omega
  unfold phaseE
  rw [dif_pos h7]
  iintro ⟨HC, HD, HQ⟩
  iapply (startC m c (i 0).val k hk24 (by rw [off16_eq i h, hj]) (by rw [off17_eq i h, hj]) (by rw [off18_eq i h, hj]))
  isplitl [HC]; · iexact HC
  iintro HC
  iapply (startK m c (i 0).val k hk24 (by rw [off16_eq i h, hj]) (by rw [off19_eq i h, hj]) (by rw [off20_eq i h, hj]))
  isplitl [HD]; · iexact HD
  iintro HD
  iapply HQ
  isplitl [HC] <;> iassumption

/-- The last tile is sent. -/
theorem phaseF_run (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h8 : k0_cond8 i = 1#1) (h9 : ¬ k0_cond9 i = 1#1) (k : Fin 25) (hk : k.val = 24) :
    iprop(HeldC m c (i 0).val k 12 12 ∗ HeldK m c (i 0).val k 12 12
        ∗ (iprop(FlyC m c (i 0).val k ∗ FlyK m c (i 0).val k) -∗ wp frame (wpE (defs₀ (F := F)) Variants.none (c : Thread nD τ) none) Set.univ K Q))
      ⊢ wp frame (wpE (defs₀ (F := F)) Variants.none (c : Thread nD τ) none) Set.univ (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold phaseF
  rw [dif_pos h8]
  rw [dif_neg h9]
  iintro ⟨HC, HD, HQ⟩
  iapply (startCLast m c (i 0).val k hk (by rw [hk]) (by rw [off21_eq i, hk]) (by rw [hk]))
  isplitl [HC]; · iexact HC
  iintro HC
  iapply (startKLast m c (i 0).val k hk (by rw [hk]) (by rw [off22_eq i, hk]) (by rw [hk]))
  isplitl [HD]; · iexact HD
  iintro HD
  iapply HQ
  isplitl [HC] <;> iassumption

/-- A tile held by nobody is zeroed for batch `b`. -/
theorem zero_run (i : grid0.Coords) (h1 : k0_cond1 i = 1#1) (b : ℕ) (k : Fin 25) (hk : k.val = (i 2).val) (K : Prog (TpuEff nD τ sig (Elt F) Λ₀ .tc) PUnit) {Q : PUnit → sProp 𝕄} :
    iprop(IdleC m c b k ∗ IdleK m c b k ∗ (∃ W, owes (c : Thread nD τ) 0 W)
        ∗ (iprop(HeldC m c b k 0 0 ∗ HeldK m c b k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (do
        let _ ← Prog.lift (.load M28 (Rect.unit (s := S12800x512) (k0_off8 i) S512x512.size (k0_off8_inb i h1)).toLoadRect (View.loadsAt_vmem h_S512x512))
        Prog.lift (.store M28 (Rect.unit (s := S12800x512) (k0_off8 i) S512x512.size (k0_off8_inb i h1)) (k0_pay1 (F := F)) Finset.univ (View.stores_vmem_bits_univ h_S512x512 rfl) (.inl rfl))
        let _ ← Prog.lift (.load M29 (Rect.unit (s := S64x12800) (k0_off9 i) S64x512.size (k0_off9_inb i h1)).toLoadRect (View.loadsAt_vmem h_S64x512))
        Prog.lift (.store M29 (Rect.unit (s := S64x12800) (k0_off9 i) S64x512.size (k0_off9_inb i h1)) (k0_pay2 (F := F)) Finset.univ (View.stores_vmem_bits_univ h_S64x512 rfl) (.inl rfl))
        K) Q := by
  have e8 : k0_off8 i = ![512 * k.val, 0] := by rw [off8_eq i, hk]
  have e9 : k0_off9 i = ![0, 512 * k.val] := by rw [off9_eq i, hk]
  iintro ⟨HC, HD, HW, HQ⟩
  unfold IdleC IdleK
  icases HC with ⟨⟨%f, Hf⟩, Hh, Hz⟩
  icases HD with ⟨⟨%g, Hg⟩, Hh', Hz'⟩
  icases HW with ⟨%W, HW⟩
  ihave Hf := (ent_of_eq (pC_rect512 c e8 (k0_off8_inb i h1) f)) $$ Hf
  ihave Hg := (ent_of_eq (pK_rect512 c e9 (k0_off9_inb i h1) g)) $$ Hg
  sl_exec
  iapply HQ
  isplitl [Hf Hh Hz]
  · iapply HeldC_of_whole m c b k 0
    isplitl [Hf]; · iapply (ent_of_eq (zeroC m c b k e8 (k0_off8_inb i h1) f)); iexact Hf
    isplitl [Hh] <;> iassumption
  isplitl [Hg Hh' Hz']
  · iapply HeldK_of_whole m c b k 0
    isplitl [Hg]; · iapply (ent_of_eq (zeroK m c b k e9 (k0_off9_inb i h1) g)); iexact Hg
    isplitl [Hh'] <;> iassumption
  iexists W; iexact HW

/-- In the first batch a tile is zeroed. -/
theorem phaseA_first (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h1 : k0_cond1 i = 1#1) (k : Fin 25) (hk : k.val = (i 2).val) (hb : (i 0).val = 0) :
    iprop(IdleC m c 0 k ∗ IdleK m c 0 k ∗ (∃ W, owes (c : Thread nD τ) 0 W)
        ∗ (iprop(HeldC m c 0 k 0 0 ∗ HeldK m c 0 k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h2 : ¬ k0_cond2 i = 1#1 := by rw [cond2_iff]; omega
  have h3 : ¬ k0_cond3 i = 1#1 := by rw [cond3_iff]; omega
  unfold phaseA
  rw [dif_pos h1]
  rw [dif_neg h2]
  rw [dif_neg h3]
  iintro ⟨HC, HD, HW, HQ⟩
  iapply (zero_run m c i h1 0 k hk K)
  isplitl [HC]; · iexact HC
  isplitl [HD]; · iexact HD
  isplitl [HW] <;> iassumption

/-- In a later batch it is awaited first. -/
theorem phaseA_next (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h1 : k0_cond1 i = 1#1) (k : Fin 25) (hk : k.val = (i 2).val) (b : ℕ) (hb : (i 0).val = b + 1) (hk24 : k.val ≠ 24) :
    iprop(FlyC m c b k ∗ FlyK m c b k ∗ (∃ W, owes (c : Thread nD τ) 0 W)
        ∗ (iprop(HeldC m c (b + 1) k 0 0 ∗ HeldK m c (b + 1) k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h2 : k0_cond2 i = 1#1 := by rw [cond2_iff]; omega
  have h3 : ¬ k0_cond3 i = 1#1 := by rw [cond3_iff]; omega
  unfold phaseA
  rw [dif_pos h1]
  rw [dif_pos h2]
  rw [dif_neg h3]
  iintro ⟨HC, HD, HW, HQ⟩
  iapply (waitC m c b k hk24 (by rw [off1_eq i, hk]))
  isplitl [HC]; · iexact HC
  isplitl [HW]; · iexact HW
  iintro ⟨HC, HW⟩
  iapply (waitK m c b k hk24 (by rw [off1_eq i, hk]))
  isplitl [HD]; · iexact HD
  isplitl [HW]; · iexact HW
  iintro ⟨HD, HW⟩
  iapply (zero_run m c i h1 (b + 1) k hk K)
  isplitl [HC]; · iexact HC
  isplitl [HD]; · iexact HD
  isplitl [HW] <;> iassumption

/-- So is the last tile. -/
theorem phaseA_nextLast (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h1 : k0_cond1 i = 1#1) (k : Fin 25) (hk : k.val = (i 2).val) (b : ℕ) (hb : (i 0).val = b + 1) (hk24 : k.val = 24) :
    iprop(FlyC m c b k ∗ FlyK m c b k ∗ (∃ W, owes (c : Thread nD τ) 0 W)
        ∗ (iprop(HeldC m c (b + 1) k 0 0 ∗ HeldK m c (b + 1) k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h2 : ¬ k0_cond2 i = 1#1 := by rw [cond2_iff]; omega
  have h3 : k0_cond3 i = 1#1 := by rw [cond3_iff]; omega
  unfold phaseA
  rw [dif_pos h1]
  rw [dif_neg h2]
  rw [dif_pos h3]
  iintro ⟨HC, HD, HW, HQ⟩
  iapply (waitCLast m c b k hk24 (by rw [hk24]))
  isplitl [HC]; · iexact HC
  isplitl [HW]; · iexact HW
  iintro ⟨HC, HW⟩
  iapply (waitKLast m c b k hk24 (by rw [hk24]))
  isplitl [HD]; · iexact HD
  isplitl [HW]; · iexact HW
  iintro ⟨HD, HW⟩
  iapply (zero_run m c i h1 (b + 1) k hk K)
  isplitl [HC]; · iexact HC
  isplitl [HD]; · iexact HD
  isplitl [HW] <;> iassumption

end Cert.Kernel.Gen

end
-- ==== Proof.Last.lean ====
/-
  After the last batch every tile's transfers are awaited, one pair after another.
-/
module

public import proofs.«01_k».proof.Proof.Steps

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

/-- The tiles below `n` are back, the others still in flight. -/
def SomeC (b n : ℕ) : sProp 𝕄 := BI.bigSep (Finset.univ : Finset (Fin 25)) fun k => if k.val < n then IdleC m c (b + 1) k else FlyC m c b k
theorem SomeC_take (b n : ℕ) (h : n < 25) :
    SomeC m c b n ⊢ iprop(FlyC m c b ⟨n, h⟩ ∗ (IdleC m c (b + 1) ⟨n, h⟩ -∗ SomeC m c b (n + 1))) := by
  have hc : BI.bigSep (Finset.univ.erase (⟨n, h⟩ : Fin 25)) (fun k => if k.val < n then IdleC m c (b + 1) k else FlyC m c b k)
      = BI.bigSep (Finset.univ.erase (⟨n, h⟩ : Fin 25)) (fun k => if k.val < n + 1 then IdleC m c (b + 1) k else FlyC m c b k) := BI.bigSep_congr fun k hk => by
    have hne : k.val ≠ n := fun e => Finset.ne_of_mem_erase hk (Fin.ext e)
    by_cases hlt : k.val < n
    · rw [if_pos hlt, if_pos (by omega)]
    · rw [if_neg hlt, if_neg (by omega)]
  have e1 : SomeC m c b n = iprop(FlyC m c b ⟨n, h⟩ ∗ BI.bigSep (Finset.univ.erase (⟨n, h⟩ : Fin 25)) (fun k => if k.val < n + 1 then IdleC m c (b + 1) k else FlyC m c b k)) := by
    rw [← hc]; unfold SomeC; rw [BI.bigSep_univ_split (⟨n, h⟩ : Fin 25), if_neg (lt_irrefl n)]; rfl
  have e2 : SomeC m c b (n + 1) = iprop(IdleC m c (b + 1) ⟨n, h⟩ ∗ BI.bigSep (Finset.univ.erase (⟨n, h⟩ : Fin 25)) (fun k => if k.val < n + 1 then IdleC m c (b + 1) k else FlyC m c b k)) := by
    unfold SomeC; rw [BI.bigSep_univ_split (⟨n, h⟩ : Fin 25), if_pos (Nat.lt_succ_self n)]; rfl
  rw [e1, e2]
  iintro ⟨HF, HR⟩
  isplitl [HF]; · iexact HF
  iintro HI
  isplitl [HI] <;> iassumption

theorem nextC {Q : PUnit → sProp 𝕄} (b n : ℕ) (h : n < 24) {o3 : Fin 3 → ℕ} {o2 : Fin 2 → ℕ}
    {i1 : ∀ a, (![n] : Fin 1 → ℕ) a + S1.size a ≤ S25.size a} {i3 : ∀ a, o3 a + S1x512x512.size a ≤ S8x12672x512.size a} {i2 : ∀ a, o2 a + S512x512.size a ≤ S12800x512.size a}
    {h1 h2} {K : PUnit → Prog (TpuEff nD τ sig (Elt F) Λ₀ (c : Thread nD τ).2) PUnit} :
    iprop(SomeC m c b n ∗ (∃ W, owes (c : Thread nD τ) 0 W)
        ∗ (iprop(SomeC m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) ![n] S1.size i1)).squeeze S_ squeezes_S1_S_).sem
            (M28.slice (Rect.unit (s := S12800x512) o2 S512x512.size i2) (fun _ => rfl))
            ((M16.slice (Rect.unit (s := S8x12672x512) o3 S1x512x512.size i3) (fun _ => rfl)).squeeze S512x512 squeezes_S1x512x512_S512x512) h1 h2) K) Q := by
  iintro ⟨HS, HW, HK⟩
  ihave HS := SomeC_take m c b n (by omega) $$ HS
  icases HS with ⟨HF, HS⟩
  iapply (waitC m c b (⟨n, by omega⟩ : Fin 25) (by show n ≠ 24; omega) rfl)
  isplitl [HF]; · iexact HF
  isplitl [HW]; · iexact HW
  iintro ⟨HI, HW⟩
  iapply HK
  isplitl [HI HS]
  · iapply HS; iexact HI
  iexact HW

theorem nextCLast {Q : PUnit → sProp 𝕄} (b n : ℕ) (h : n = 24) {o3 : Fin 3 → ℕ} {o2 : Fin 2 → ℕ}
    {i1 : ∀ a, (![n] : Fin 1 → ℕ) a + S1.size a ≤ S25.size a} {i3 : ∀ a, o3 a + S1x384x512.size a ≤ S8x12672x512.size a} {i2 : ∀ a, o2 a + S384x512.size a ≤ S12800x512.size a}
    {h1 h2} {K : PUnit → Prog (TpuEff nD τ sig (Elt F) Λ₀ (c : Thread nD τ).2) PUnit} :
    iprop(SomeC m c b n ∗ (∃ W, owes (c : Thread nD τ) 0 W)
        ∗ (iprop(SomeC m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) ![n] S1.size i1)).squeeze S_ squeezes_S1_S_).sem
            (M28.slice (Rect.unit (s := S12800x512) o2 S384x512.size i2) (fun _ => rfl))
            ((M16.slice (Rect.unit (s := S8x12672x512) o3 S1x384x512.size i3) (fun _ => rfl)).squeeze S384x512 squeezes_S1x384x512_S384x512) h1 h2) K) Q := by
  iintro ⟨HS, HW, HK⟩
  ihave HS := SomeC_take m c b n (by omega) $$ HS
  icases HS with ⟨HF, HS⟩
  iapply (waitCLast m c b (⟨n, by omega⟩ : Fin 25) h rfl)
  isplitl [HF]; · iexact HF
  isplitl [HW]; · iexact HW
  iintro ⟨HI, HW⟩
  iapply HK
  isplitl [HI HS]
  · iapply HS; iexact HI
  iexact HW

/-- The tiles below `n` are back, the others still in flight. -/
def SomeK (b n : ℕ) : sProp 𝕄 := BI.bigSep (Finset.univ : Finset (Fin 25)) fun k => if k.val < n then IdleK m c (b + 1) k else FlyK m c b k
theorem SomeK_take (b n : ℕ) (h : n < 25) :
    SomeK m c b n ⊢ iprop(FlyK m c b ⟨n, h⟩ ∗ (IdleK m c (b + 1) ⟨n, h⟩ -∗ SomeK m c b (n + 1))) := by
  have hc : BI.bigSep (Finset.univ.erase (⟨n, h⟩ : Fin 25)) (fun k => if k.val < n then IdleK m c (b + 1) k else FlyK m c b k)
      = BI.bigSep (Finset.univ.erase (⟨n, h⟩ : Fin 25)) (fun k => if k.val < n + 1 then IdleK m c (b + 1) k else FlyK m c b k) := BI.bigSep_congr fun k hk => by
    have hne : k.val ≠ n := fun e => Finset.ne_of_mem_erase hk (Fin.ext e)
    by_cases hlt : k.val < n
    · rw [if_pos hlt, if_pos (by omega)]
    · rw [if_neg hlt, if_neg (by omega)]
  have e1 : SomeK m c b n = iprop(FlyK m c b ⟨n, h⟩ ∗ BI.bigSep (Finset.univ.erase (⟨n, h⟩ : Fin 25)) (fun k => if k.val < n + 1 then IdleK m c (b + 1) k else FlyK m c b k)) := by
    rw [← hc]; unfold SomeK; rw [BI.bigSep_univ_split (⟨n, h⟩ : Fin 25), if_neg (lt_irrefl n)]; rfl
  have e2 : SomeK m c b (n + 1) = iprop(IdleK m c (b + 1) ⟨n, h⟩ ∗ BI.bigSep (Finset.univ.erase (⟨n, h⟩ : Fin 25)) (fun k => if k.val < n + 1 then IdleK m c (b + 1) k else FlyK m c b k)) := by
    unfold SomeK; rw [BI.bigSep_univ_split (⟨n, h⟩ : Fin 25), if_pos (Nat.lt_succ_self n)]; rfl
  rw [e1, e2]
  iintro ⟨HF, HR⟩
  isplitl [HF]; · iexact HF
  iintro HI
  isplitl [HI] <;> iassumption

theorem nextK {Q : PUnit → sProp 𝕄} (b n : ℕ) (h : n < 24) {o3 : Fin 3 → ℕ} {o2 : Fin 2 → ℕ}
    {i1 : ∀ a, (![n] : Fin 1 → ℕ) a + S1.size a ≤ S25.size a} {i3 : ∀ a, o3 a + S1x64x512.size a ≤ S8x64x12672.size a} {i2 : ∀ a, o2 a + S64x512.size a ≤ S64x12800.size a}
    {h1 h2} {K : PUnit → Prog (TpuEff nD τ sig (Elt F) Λ₀ (c : Thread nD τ).2) PUnit} :
    iprop(SomeK m c b n ∗ (∃ W, owes (c : Thread nD τ) 0 W)
        ∗ (iprop(SomeK m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) ![n] S1.size i1)).squeeze S_ squeezes_S1_S_).sem
            (M29.slice (Rect.unit (s := S64x12800) o2 S64x512.size i2) (fun _ => rfl))
            ((M17.slice (Rect.unit (s := S8x64x12672) o3 S1x64x512.size i3) (fun _ => rfl)).squeeze S64x512 squeezes_S1x64x512_S64x512) h1 h2) K) Q := by
  iintro ⟨HS, HW, HK⟩
  ihave HS := SomeK_take m c b n (by omega) $$ HS
  icases HS with ⟨HF, HS⟩
  iapply (waitK m c b (⟨n, by omega⟩ : Fin 25) (by show n ≠ 24; omega) rfl)
  isplitl [HF]; · iexact HF
  isplitl [HW]; · iexact HW
  iintro ⟨HI, HW⟩
  iapply HK
  isplitl [HI HS]
  · iapply HS; iexact HI
  iexact HW

theorem nextKLast {Q : PUnit → sProp 𝕄} (b n : ℕ) (h : n = 24) {o3 : Fin 3 → ℕ} {o2 : Fin 2 → ℕ}
    {i1 : ∀ a, (![n] : Fin 1 → ℕ) a + S1.size a ≤ S25.size a} {i3 : ∀ a, o3 a + S1x64x384.size a ≤ S8x64x12672.size a} {i2 : ∀ a, o2 a + S64x384.size a ≤ S64x12800.size a}
    {h1 h2} {K : PUnit → Prog (TpuEff nD τ sig (Elt F) Λ₀ (c : Thread nD τ).2) PUnit} :
    iprop(SomeK m c b n ∗ (∃ W, owes (c : Thread nD τ) 0 W)
        ∗ (iprop(SomeK m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) ![n] S1.size i1)).squeeze S_ squeezes_S1_S_).sem
            (M29.slice (Rect.unit (s := S64x12800) o2 S64x384.size i2) (fun _ => rfl))
            ((M17.slice (Rect.unit (s := S8x64x12672) o3 S1x64x384.size i3) (fun _ => rfl)).squeeze S64x384 squeezes_S1x64x384_S64x384) h1 h2) K) Q := by
  iintro ⟨HS, HW, HK⟩
  ihave HS := SomeK_take m c b n (by omega) $$ HS
  icases HS with ⟨HF, HS⟩
  iapply (waitKLast m c b (⟨n, by omega⟩ : Fin 25) h rfl)
  isplitl [HF]; · iexact HF
  isplitl [HW]; · iexact HW
  iintro ⟨HI, HW⟩
  iapply HK
  isplitl [HI HS]
  · iapply HS; iexact HI
  iexact HW

theorem all_fly (b : ℕ) : iprop(BI.bigSep (Finset.univ : Finset (Fin 25)) (fun k => iprop(FlyC m c b k ∗ FlyK m c b k))) ⊢ iprop(SomeC m c b 0 ∗ SomeK m c b 0) := by
  refine BI.BIBase.Entails.trans (ent_of_eq (BI.bigSep_sep Finset.univ (FlyC m c b) (FlyK m c b))) (ent_of_eq ?_)
  unfold SomeC SomeK
  rw [BI.bigSep_congr (s := (Finset.univ : Finset (Fin 25))) (Φ := FlyC m c b) (Ψ := fun k => if k.val < 0 then IdleC m c (b + 1) k else FlyC m c b k) fun k _ => (if_neg (Nat.not_lt_zero _)).symm,
    BI.bigSep_congr (s := (Finset.univ : Finset (Fin 25))) (Φ := FlyK m c b) (Ψ := fun k => if k.val < 0 then IdleK m c (b + 1) k else FlyK m c b k) fun k _ => (if_neg (Nat.not_lt_zero _)).symm]
  rfl
theorem all_idle (b : ℕ) : iprop(SomeC m c b 25 ∗ SomeK m c b 25) ⊢ iprop(BI.bigSep (Finset.univ : Finset (Fin 25)) (fun k => iprop(IdleC m c (b + 1) k ∗ IdleK m c (b + 1) k))) := by
  refine BI.BIBase.Entails.trans (ent_of_eq ?_) (ent_of_eq (BI.bigSep_sep Finset.univ (IdleC m c (b + 1)) (IdleK m c (b + 1))).symm)
  unfold SomeC SomeK
  rw [BI.bigSep_congr (s := (Finset.univ : Finset (Fin 25))) (Ψ := IdleC m c (b + 1)) (Φ := fun k => if k.val < 25 then IdleC m c (b + 1) k else FlyC m c b k) fun k _ => if_pos k.isLt,
    BI.bigSep_congr (s := (Finset.univ : Finset (Fin 25))) (Ψ := IdleK m c (b + 1)) (Φ := fun k => if k.val < 25 then IdleK m c (b + 1) k else FlyK m c b k) fun k _ => if_pos k.isLt]
  rfl

set_option maxRecDepth 65536 in
theorem phaseF_last (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h8 : k0_cond8 i = 1#1) (h9 : k0_cond9 i = 1#1) :
    iprop(HeldC m c (i 0).val 24 12 12 ∗ HeldK m c (i 0).val 24 12 12 ∗ (∃ W, owes (c : Thread nD τ) 0 W)
        ∗ (iprop(FlyC m c (i 0).val 24 ∗ FlyK m c (i 0).val 24) -∗ iprop(SomeC m c (i 0).val 0 ∗ SomeK m c (i 0).val 0))
        ∗ (iprop(SomeC m c (i 0).val 25 ∗ SomeK m c (i 0).val 25 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold phaseF
  rw [dif_pos h8]
  rw [dif_pos h9]
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold k0_part12_skel k0_part13_skel k0_part14_skel k0_part15_skel k0_part16_skel k0_part17_skel k0_part18_skel k0_part19_skel k0_part20_skel
  iintro ⟨HC, HD, HW, HA, HQ⟩
  iapply (startCLast m c (i 0).val 24 rfl rfl (by rw [off21_eq i]; rfl) rfl)
  isplitl [HC]; · iexact HC
  iintro HC
  iapply (startKLast m c (i 0).val 24 rfl rfl (by rw [off22_eq i]; rfl) rfl)
  isplitl [HD]; · iexact HD
  iintro HD
  ihave HA := HA $$ [HC HD]
  · isplitl [HC] <;> iassumption
  icases HA with ⟨HC, HD⟩
  iterate 24
    iapply (nextC m c (i 0).val _ (by decide))
    isplitl [HC]; · iexact HC
    isplitl [HW]; · iexact HW
    iintro ⟨HC, HW⟩
    iapply (nextK m c (i 0).val _ (by decide))
    isplitl [HD]; · iexact HD
    isplitl [HW]; · iexact HW
    iintro ⟨HD, HW⟩

  iapply (nextCLast m c (i 0).val 24 (by decide))
  isplitl [HC]; · iexact HC
  isplitl [HW]; · iexact HW
  iintro ⟨HC, HW⟩
  iapply (nextKLast m c (i 0).val 24 (by decide))
  isplitl [HD]; · iexact HD
  isplitl [HW]; · iexact HW
  iintro ⟨HD, HW⟩
  iapply HQ
  isplitl [HC]; · iexact HC
  isplitl [HD] <;> iassumption

end Cert.Kernel.Gen

end
-- ==== Proof.States.lean ====
/-
  Every tile's state before each grid point, and the tile-moving phases as steps from a point to the next.
-/
module

public import proofs.«01_k».proof.Proof.Last

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

/-! ## The state of tile `k` after `n` grid points -/

universe u

/-- Untouched, then held for the first 287 points of a batch's 312, then in flight until the next batch reaches it. -/
def tile {P : Type u} (I0 I8 : P) (Fl : ℕ → P) (H : ℕ → ℕ → ℕ → P) (n k : ℕ) : P :=
  if n ≤ k then I0 else if 2496 ≤ n then I8
  else if 287 ≤ (n - 1 - k) % 312 then Fl ((n - 1 - k) / 312)
  else H ((n - 1 - k) / 312) ((n - 1 - k) % 312 / 26 + 1) (if 1 ≤ (n - 1 - k) % 26 then (n - 1 - k) % 312 / 26 + 1 else (n - 1 - k) % 312 / 26)

section
variable {P : Type u} (I0 I8 : P) (Fl : ℕ → P) (H : ℕ → ℕ → ℕ → P) (n k b qi j : ℕ)

theorem tile_first (hn : n = 312 * b + 26 * qi + j) (hq : qi = 0) (hb : b = 0) (hk : k = j) : tile I0 I8 Fl H n k = I0 := by
  unfold tile; rw [if_pos (by omega)]
theorem tile_next (b' : ℕ) (hn : n = 312 * b + 26 * qi + j) (hn' : n < 2496) (hq : qi = 0) (hb : b = b' + 1) (hk : k = j) (hj : j < 25) :
    tile I0 I8 Fl H n k = Fl b' := by
  unfold tile
  rw [if_neg (by omega), if_neg (by omega), if_pos (by omega), show (n - 1 - k) / 312 = b' by omega]
theorem tile_held (hn : n = 312 * b + 26 * qi + j) (hn' : n < 2496) (hq : 0 < qi) (hq' : qi < 12) (hk : k = j) (hj : j < 25) :
    tile I0 I8 Fl H n k = H b qi qi := by
  unfold tile
  rw [if_neg (by omega), if_neg (by omega), if_neg (by omega), if_pos (by omega), show (n - 1 - k) / 312 = b by omega,
    show (n - 1 - k) % 312 / 26 + 1 = qi by omega]
theorem tile_half (hn : n = 312 * b + 26 * qi + j) (hn' : n + 1 < 2496) (hq' : qi < 12) (hk : k = j) (hj : j < 25) :
    tile I0 I8 Fl H (n + 1) k = H b (qi + 1) qi := by
  unfold tile
  rw [if_neg (by omega), if_neg (by omega), if_neg (by omega), if_neg (by omega), show (n + 1 - 1 - k) / 312 = b by omega,
    show (n + 1 - 1 - k) % 312 / 26 = qi by omega]
theorem tile_half' (hn : n = 312 * b + 26 * qi + j) (hn' : n < 2496) (hq' : qi < 12) (hk : k + 1 = j) (hj : j < 26) :
    tile I0 I8 Fl H n k = H b (qi + 1) qi := by
  unfold tile
  rw [if_neg (by omega), if_neg (by omega), if_neg (by omega), if_neg (by omega), show (n - 1 - k) / 312 = b by omega,
    show (n - 1 - k) % 312 / 26 = qi by omega]
theorem tile_full (hn : n = 312 * b + 26 * qi + j) (hn' : n + 1 < 2496) (hq' : qi < 11) (hk : k + 1 = j) (hj : j < 26) :
    tile I0 I8 Fl H (n + 1) k = H b (qi + 1) (qi + 1) := by
  unfold tile
  rw [if_neg (by omega), if_neg (by omega), if_neg (by omega), if_pos (by omega), show (n + 1 - 1 - k) / 312 = b by omega,
    show (n + 1 - 1 - k) % 312 / 26 = qi by omega]
theorem tile_fly (hn : n = 312 * b + 26 * qi + j) (hn' : n + 1 < 2496) (hq' : qi = 11) (hk : k + 1 = j) (hj : j < 26) :
    tile I0 I8 Fl H (n + 1) k = Fl b := by
  unfold tile
  rw [if_neg (by omega), if_neg (by omega), if_pos (by omega), show (n + 1 - 1 - k) / 312 = b by omega]
theorem tile_same (hn : n = 312 * b + 26 * qi + j) (hn' : n + 1 < 2496) (hj : j < 26) (hk : k < 25) (h1 : k ≠ j) (h2 : k + 1 ≠ j) :
    tile I0 I8 Fl H (n + 1) k = tile I0 I8 Fl H n k := by
  unfold tile
  by_cases h : n ≤ k
  · rw [if_pos (by omega), if_pos h]
  have e1 : (n + 1 - 1 - k) / 312 = (n - 1 - k) / 312 := by omega
  have e2 : (n + 1 - 1 - k) % 312 / 26 = (n - 1 - k) % 312 / 26 := by omega
  have e3 : 287 ≤ (n + 1 - 1 - k) % 312 ↔ 287 ≤ (n - 1 - k) % 312 := by omega
  have e4 : 1 ≤ (n + 1 - 1 - k) % 26 ↔ 1 ≤ (n - 1 - k) % 26 := by omega
  rw [if_neg (show ¬ n + 1 ≤ k by omega), if_neg h, if_neg (show ¬ 2496 ≤ n + 1 by omega), if_neg (show ¬ 2496 ≤ n by omega), e1, e2]
  simp only [e3, e4]
theorem tile_last (hn : n = 2495) (hk : k < 24) : tile I0 I8 Fl H n k = Fl 7 := by
  unfold tile
  rw [if_neg (by omega), if_neg (by omega), if_pos (by omega), show (n - 1 - k) / 312 = 7 by omega]
theorem tile_end (hn : n = 2496) (hk : k < 25) : tile I0 I8 Fl H n k = I8 := by
  unfold tile
  rw [if_neg (by omega), if_pos (by omega)]
theorem tile_zero : tile I0 I8 Fl H 0 k = I0 := if_pos (Nat.zero_le _)
end

variable (m : (ℓ : Loc nD τ sig) → Buf (Elt F) ℓ) (c : Dev nD)

def tileC (n : ℕ) (k : Fin 25) : sProp 𝕄 := tile (IdleC m c 0 k) (IdleC m c 8 k) (fun b => FlyC m c b k) (fun b x y => HeldC m c b k x y) n k.val
def tileK (n : ℕ) (k : Fin 25) : sProp 𝕄 := tile (IdleK m c 0 k) (IdleK m c 8 k) (fun b => FlyK m c b k) (fun b x y => HeldK m c b k x y) n k.val
def tiles (n : ℕ) : sProp 𝕄 := BI.bigSep (Finset.univ : Finset (Fin 25)) fun k => iprop(tileC m c n k ∗ tileK m c n k)
/-- The tiles but `S`. -/
def rest (S : Finset (Fin 25)) (n : ℕ) : sProp 𝕄 := BI.bigSep (Finset.univ \ S) fun k => iprop(tileC m c n k ∗ tileK m c n k)

theorem tiles_one (n : ℕ) (k : Fin 25) : tiles m c n ⊣⊢ iprop((tileC m c n k ∗ tileK m c n k) ∗ rest m c {k} n) := by
  unfold tiles rest
  rw [BI.bigSep_univ_split k, Finset.sdiff_singleton_eq_erase]
  exact .rfl
theorem tiles_two (n : ℕ) (k k' : Fin 25) (h : k' ≠ k) :
    tiles m c n ⊣⊢ iprop((tileC m c n k ∗ tileK m c n k) ∗ (tileC m c n k' ∗ tileK m c n k') ∗ rest m c {k, k'} n) := by
  unfold tiles rest
  rw [BI.bigSep_univ_split k, BI.bigSep_erase (i := k') (Finset.mem_erase.mpr ⟨h, Finset.mem_univ _⟩),
    show Finset.univ \ ({k, k'} : Finset (Fin 25)) = (Finset.univ.erase k).erase k' by ext x; simp; tauto]
  exact .rfl
theorem rest_same (S : Finset (Fin 25)) (n b qi j : ℕ) (hn : n = 312 * b + 26 * qi + j) (hn' : n + 1 < 2496) (hj : j < 26)
    (hS : ∀ k : Fin 25, k.val = j ∨ k.val + 1 = j → k ∈ S) : rest m c S (n + 1) = rest m c S n := by
  unfold rest
  refine BI.bigSep_congr fun k hk => ?_
  have hk' := (Finset.mem_sdiff.mp hk).2
  have h1 : k.val ≠ j := fun e => hk' (hS k (Or.inl e))
  have h2 : k.val + 1 ≠ j := fun e => hk' (hS k (Or.inr e))
  unfold tileC tileK
  rw [tile_same _ _ _ _ n k.val b qi j hn hn' hj k.isLt h1 h2, tile_same _ _ _ _ n k.val b qi j hn hn' hj k.isLt h1 h2]

/-! ## The phases, whatever the point -/

/-- Before the products of step `j` tile `j` is at hand with the query tiles so far in it. -/
theorem phaseA_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hn' : n < 2496) (hq : (i 1).val < 12) (hj : (i 2).val < 25)
    (k : Fin 25) (hk : k.val = (i 2).val) :
    iprop((tileC m c n k ∗ tileK m c n k) ∗ (∃ W, owes (c : Thread nD τ) 0 W)
        ∗ (iprop(HeldC m c (i 0).val k (i 1).val (i 1).val ∗ HeldK m c (i 0).val k (i 1).val (i 1).val ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold tileC tileK
  by_cases h0 : (i 1).val = 0
  · have h1 : k0_cond1 i = 1#1 := by rw [cond1_iff]; omega
    rw [h0]
    by_cases hb : (i 0).val = 0
    · rw [tile_first _ _ _ _ n k.val _ _ _ hn h0 hb hk, tile_first _ _ _ _ n k.val _ _ _ hn h0 hb hk, hb]
      iintro ⟨⟨HC, HD⟩, HW, HQ⟩
      iapply (phaseA_first m c i (h1 := h1) (k := k) (hk := hk) (hb := hb))
      isplitl [HC]; · iexact HC
      isplitl [HD]; · iexact HD
      isplitl [HW] <;> iassumption
    · obtain ⟨b', hb'⟩ : ∃ b', (i 0).val = b' + 1 := ⟨(i 0).val - 1, by omega⟩
      rw [tile_next _ _ _ _ n k.val _ _ _ b' hn hn' h0 hb' hk hj, tile_next _ _ _ _ n k.val _ _ _ b' hn hn' h0 hb' hk hj, hb']
      by_cases h24 : k.val = 24
      · iintro ⟨⟨HC, HD⟩, HW, HQ⟩
        iapply (phaseA_nextLast m c i (h1 := h1) (k := k) (hk := hk) (b := b') (hb := hb') (hk24 := h24))
        isplitl [HC]; · iexact HC
        isplitl [HD]; · iexact HD
        isplitl [HW] <;> iassumption
      · iintro ⟨⟨HC, HD⟩, HW, HQ⟩
        iapply (phaseA_next m c i (h1 := h1) (k := k) (hk := hk) (b := b') (hb := hb') (hk24 := h24))
        isplitl [HC]; · iexact HC
        isplitl [HD]; · iexact HD
        isplitl [HW] <;> iassumption
  · rw [phaseA_skip (h := by rw [cond1_iff]; omega)]
    rw [tile_held _ _ _ _ n k.val _ _ _ hn hn' (by omega) hq hk hj, tile_held _ _ _ _ n k.val _ _ _ hn hn' (by omega) hq hk hj]
    iintro ⟨⟨HC, HD⟩, HW, HQ⟩
    iapply HQ
    isplitl [HC]; · iexact HC
    isplitl [HD] <;> iassumption

/-- After them the tile the step before began is complete, and sent if the batch is done with it. -/
theorem phaseE_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hn' : n + 1 < 2496) (hq : (i 1).val < 12) (hj : (i 2).val < 25)
    (k : Fin 25) (hk : k.val + 1 = (i 2).val) :
    iprop(HeldC m c (i 0).val k ((i 1).val + 1) ((i 1).val + 1) ∗ HeldK m c (i 0).val k ((i 1).val + 1) ((i 1).val + 1)
        ∗ (iprop(tileC m c (n + 1) k ∗ tileK m c (n + 1) k) -∗ wp frame (wpE (defs₀ (F := F)) Variants.none (c : Thread nD τ) none) Set.univ K Q))
      ⊢ wp frame (wpE (defs₀ (F := F)) Variants.none (c : Thread nD τ) none) Set.univ (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold tileC tileK
  by_cases h0 : (i 1).val = 11
  · rw [tile_fly _ _ _ _ n k.val _ _ _ hn hn' h0 hk (by omega), tile_fly _ _ _ _ n k.val _ _ _ hn hn' h0 hk (by omega), h0]
    iintro ⟨HC, HD, HQ⟩
    iapply (phaseE_run m c i (h7 := by rw [cond7_iff]; omega) (k := k) (hk := hk) (hk24 := by omega))
    isplitl [HC]; · iexact HC
    isplitl [HD] <;> iassumption
  · rw [tile_full _ _ _ _ n k.val _ _ _ hn hn' (by omega) hk (by omega), tile_full _ _ _ _ n k.val _ _ _ hn hn' (by omega) hk (by omega),
      phaseE_skip (h := by rw [cond7_iff]; omega)]
    iintro ⟨HC, HD, HQ⟩
    iapply HQ
    isplitl [HC] <;> iassumption

/-- So at the last step with the last tile; after the last batch every tile is awaited. -/
theorem phaseF_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj : (i 2).val = 25) :
    iprop(HeldC m c (i 0).val 24 ((i 1).val + 1) ((i 1).val + 1) ∗ HeldK m c (i 0).val 24 ((i 1).val + 1) ((i 1).val + 1)
        ∗ rest m c {24} n ∗ (∃ W, owes (c : Thread nD τ) 0 W)
        ∗ (iprop(tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  by_cases hl : n + 1 < 2496
  · have et := tiles_one m c (n + 1) 24
    rw [rest_same m c {24} n _ _ _ hn hl (by omega) (fun k hk => by rw [Finset.mem_singleton]; apply Fin.ext; show k.val = 24; omega)] at et
    unfold tileC tileK at et
    by_cases h0 : (i 1).val = 11
    · rw [tile_fly _ _ _ _ n (24 : Fin 25).val _ _ _ hn hl h0 (by rw [hj]; rfl) (by omega), tile_fly _ _ _ _ n (24 : Fin 25).val _ _ _ hn hl h0 (by rw [hj]; rfl) (by omega)] at et
      rw [h0]
      iintro ⟨HC, HD, HR, HW, HQ⟩
      iapply (phaseF_run m c i (h8 := by rw [cond8_iff]; omega) (h9 := by rw [cond9_iff]; omega) (k := 24) (hk := rfl))
      isplitl [HC]; · iexact HC
      isplitl [HD]; · iexact HD
      iintro ⟨HC, HD⟩
      iapply HQ
      isplitl [HC HD HR]
      · iapply et.2
        isplitl [HC HD]; · isplitl [HC] <;> iassumption
        iexact HR
      iexact HW
    · rw [tile_full _ _ _ _ n (24 : Fin 25).val _ _ _ hn hl (by omega) (by rw [hj]; rfl) (by omega), tile_full _ _ _ _ n (24 : Fin 25).val _ _ _ hn hl (by omega) (by rw [hj]; rfl) (by omega)] at et
      rw [phaseF_skip (h := by rw [cond8_iff]; omega)]
      iintro ⟨HC, HD, HR, HW, HQ⟩
      iapply HQ
      isplitl [HC HD HR]
      · iapply et.2
        isplitl [HC HD]; · isplitl [HC] <;> iassumption
        iexact HR
      iexact HW
  · have h7 : (i 0).val = 7 := by omega
    have h11 : (i 1).val = 11 := by omega
    rw [h11]
    have er : rest m c {24} n = BI.bigSep (Finset.univ \ {(24 : Fin 25)}) fun k => iprop(FlyC m c (i 0).val k ∗ FlyK m c (i 0).val k) := by
      unfold rest
      refine BI.bigSep_congr fun k hk => ?_
      have hk' : k.val < 24 := by
        have := (Finset.mem_sdiff.mp hk).2
        rw [Finset.mem_singleton] at this
        have h2 : k.val ≠ 24 := fun e => this (Fin.ext e)
        omega
      unfold tileC tileK
      rw [tile_last _ _ _ _ n k.val (by omega) hk', tile_last _ _ _ _ n k.val (by omega) hk', h7]
    have ee : (iprop(BI.bigSep (Finset.univ : Finset (Fin 25)) (fun k => iprop(IdleC m c ((i 0).val + 1) k ∗ IdleK m c ((i 0).val + 1) k))) : sProp 𝕄) = tiles m c (n + 1) := by
      unfold tiles
      refine BI.bigSep_congr fun k _ => ?_
      unfold tileC tileK
      rw [tile_end _ _ _ _ (n + 1) k.val (by omega) k.isLt, tile_end _ _ _ _ (n + 1) k.val (by omega) k.isLt, h7]
    have ef : iprop((FlyC m c (i 0).val 24 ∗ FlyK m c (i 0).val 24) ∗ rest m c {24} n) ⊢ iprop(SomeC m c (i 0).val 0 ∗ SomeK m c (i 0).val 0) := by
      refine BI.BIBase.Entails.trans (ent_of_eq ?_) (all_fly m c (i 0).val)
      rw [er, BI.bigSep_univ_split (24 : Fin 25), Finset.sdiff_singleton_eq_erase]
      rfl
    iintro ⟨HC, HD, HR, HW, HQ⟩
    iapply (phaseF_last m c i (h8 := by rw [cond8_iff]; omega) (h9 := by rw [cond9_iff]; omega))
    isplitl [HC]; · iexact HC
    isplitl [HD]; · iexact HD
    isplitl [HW]; · iexact HW
    isplitl [HR]
    · iintro ⟨HC, HD⟩
      iapply ef
      isplitl [HC HD]; · isplitl [HC] <;> iassumption
      iexact HR
    iintro ⟨HC, HD, HW⟩
    iapply HQ
    isplitl [HC HD]
    · iapply (ent_of_eq ee)
      iapply (all_idle m c (i 0).val)
      isplitl [HC] <;> iassumption
    iexact HW

end Cert.Kernel.Gen

end
-- ==== Proof.Body.lean ====
/-
  The body at one grid point: it takes the scratch and the tiles from one point to the next.
-/
module

public import proofs.«01_k».proof.Proof.Runs
public import proofs.«01_k».proof.Proof.States

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD)

/-- What the scratch holds before point `n`, unless a query tile begins there. -/
def Good (n : ℕ) (qt : Vec F S768x1024 .bf16) (dot : Vec F S512x1024 .bf16) (dov q : Vec F S1024x512 .bf16) (delta : Vec F S8x1024 .f32)
    (pb dsb : Vec F S256x1024 .bf16) (acc : Vec F S576x1024 .f32) : Prop :=
  ∀ b qi j, n = 312 * b + 26 * qi + (j + 1) → qi < 12 → j < 25 →
    qt = QT m c b qi ∧ dot = DOT m c b qi ∧ dov = DOV m c b qi ∧ q = QV m c b qi ∧ delta = DELTA m c b qi
      ∧ pb = PV m c b qi j true ∧ dsb = DSV m c b qi j true ∧ acc = DQA m c b qi j

def Scr (arg18 : Memref sig .tc .vmem S768x1024 .bf16) (arg19 : Memref sig .tc .vmem S512x1024 .bf16) (arg20 : Memref sig .tc .vmem S1024x512 .bf16) (arg21 : Memref sig .tc .vmem S1024x512 .bf16) (arg22 : Memref sig .tc .vmem S8x1024 .f32) (arg23 : Memref sig .tc .vmem S256x1024 .bf16) (arg24 : Memref sig .tc .vmem S256x1024 .bf16) (arg25 : Memref sig .tc .vmem S256x1024 .bf16) (arg26 : Memref sig .tc .vmem S256x1024 .bf16) (arg27 : Memref sig .tc .vmem S576x1024 .f32) (n : ℕ) : sProp 𝕄 :=
  iprop(∃ qt dot dov q delta pb dsb acc, ⌜Good m c n qt dot dov q delta pb dsb acc⌝
    ∗ owns (c : Thread nD τ) arg18 fullShare qt ∗ owns (c : Thread nD τ) arg19 fullShare dot ∗ owns (c : Thread nD τ) arg20 fullShare dov ∗ owns (c : Thread nD τ) arg21 fullShare q ∗ owns (c : Thread nD τ) arg22 fullShare delta
    ∗ (∃ d, owns (c : Thread nD τ) arg23 fullShare d) ∗ (∃ d, owns (c : Thread nD τ) arg24 fullShare d) ∗ owns (c : Thread nD τ) arg25 fullShare pb ∗ owns (c : Thread nD τ) arg26 fullShare dsb ∗ owns (c : Thread nD τ) arg27 fullShare acc)

theorem DCH_fst (b k n : ℕ) (p ds : Vec F S256x1024 .bf16) (dov q : Vec F S1024x512 .bf16) (hp : p = PV m c b n k false) (hd : ds = DSV m c b n k false)
    (ho : dov = DOV m c b n) (hq : q = QV m c b n) : dcStep (DCH m c b (2 * k) n) p ds dov q = DCH m c b (2 * k) (n + 1) := by
  subst hp hd ho hq
  show _ = dcStep _ _ _ _ _
  rw [show 2 * k / 2 = k by omega, show (2 * k % 2 == 1) = false by rw [show 2 * k % 2 = 0 by omega]; rfl]
theorem DCH_snd (b k n : ℕ) (p ds : Vec F S256x1024 .bf16) (dov q : Vec F S1024x512 .bf16) (hp : p = PV m c b n k true) (hd : ds = DSV m c b n k true)
    (ho : dov = DOV m c b n) (hq : q = QV m c b n) : dcStep (DCH m c b (2 * k + 1) n) p ds dov q = DCH m c b (2 * k + 1) (n + 1) := by
  subst hp hd ho hq
  show _ = dcStep _ _ _ _ _
  rw [show (2 * k + 1) / 2 = k by omega, show ((2 * k + 1) % 2 == 1) = true by rw [show (2 * k + 1) % 2 = 1 by omega]; rfl]
theorem DKH_fst (b k n : ℕ) (ds : Vec F S256x1024 .bf16) (qt : Vec F S768x1024 .bf16) (hd : ds = DSV m c b n k false) (hq : qt = QT m c b n) :
    dkStep (DKH m c b (2 * k) n) ds qt = DKH m c b (2 * k) (n + 1) := by
  subst hd hq
  show _ = dkStep _ _ _
  rw [show 2 * k / 2 = k by omega, show (2 * k % 2 == 1) = false by rw [show 2 * k % 2 = 0 by omega]; rfl]
theorem DKH_snd (b k n : ℕ) (ds : Vec F S256x1024 .bf16) (qt : Vec F S768x1024 .bf16) (hd : ds = DSV m c b n k true) (hq : qt = QT m c b n) :
    dkStep (DKH m c b (2 * k + 1) n) ds qt = DKH m c b (2 * k + 1) (n + 1) := by
  subst hd hq
  show _ = dkStep _ _ _
  rw [show (2 * k + 1) / 2 = k by omega, show ((2 * k + 1) % 2 == 1) = true by rw [show (2 * k + 1) % 2 = 1 by omega]; rfl]

/-- The products of a query tile's first step. -/
theorem phaseB_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (h4 : k0_cond4 i = 1#1) (hj : (i 2).val = 0) :
    iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
        ∗ Scr m c arg18 arg19 arg20 arg21 arg22 arg23 arg24 arg25 arg26 arg27 n ∗ HeldC m c (i 0).val 0 (i 1).val (i 1).val ∗ HeldK m c (i 0).val 0 (i 1).val (i 1).val
        ∗ (iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
            ∗ Scr m c arg18 arg19 arg20 arg21 arg22 arg23 arg24 arg25 arg26 arg27 (n + 1) ∗ HeldC m c (i 0).val 0 ((i 1).val + 1) (i 1).val ∗ HeldK m c (i 0).val 0 ((i 1).val + 1) (i 1).val) -∗ wp frame (wpE (defs₀ (F := F)) Variants.none (c : Thread nD τ) none) Set.univ K Q))
      ⊢ wp frame (wpE (defs₀ (F := F)) Variants.none (c : Thread nD τ) none) Set.univ (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold HeldC HeldK
  rw [pC_rect256 c (a := 256 * (2 * (0 : Fin 25).val)) (o := ![0, 0]) rfl inb_S12800x512_S256x512_0_0 (DCall m c (i 0).val (i 1).val),
    pK_rect256 c (a := 256 * (2 * (0 : Fin 25).val)) (o := ![0, 0]) rfl inb_S64x12800_S64x256_0_0 (DKall m c (i 0).val (i 1).val)]
  rw [hj]
  unfold Scr
  iintro ⟨H3, H4, H5, H6, H7, H8, H9, H10, H11, H12, ⟨%qt, %dot, %dov, %q, %delta, %pb, %dsb, %acc, -, H18, H19, H20, H21, H22, H23, H24, H25, H26, H27⟩, ⟨C0, C1, CH, CZ⟩, ⟨D0, D1, DH, DZ⟩, HQ⟩
  iapply (phaseB_run c i h4)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H18]; · iexists _; iexact H18
  isplitl [H19]; · iexists _; iexact H19
  isplitl [H20]; · iexists _; iexact H20
  isplitl [H21]; · iexists _; iexact H21
  isplitl [H22]; · iexists _; iexact H22
  isplitl [H23]; · iexact H23
  isplitl [H24]; · iexact H24
  isplitl [H25]; · iexists _; iexact H25
  isplitl [H26]; · iexists _; iexact H26
  isplitl [H27]; · iexists _; iexact H27
  isplitl [C0]; · iexact C0
  isplitl [D0]; · iexact D0
  iintro ⟨H3, H4, H5, H6, H7, H8, H9, H10, H11, H12, H18, H19, H20, H21, H22, H23, H24, H25, H26, H27, C0, D0⟩
  ihave C0 := (ent_of_eq (halfC m c (i 0).val (2 * 0) (i 1).val (o := ![0, 0]) rfl inb_S12800x512_S256x512_0_0
    (fun x => dcStep x (pOf false (iblk m c 6 (pt (i 0).val (i 1).val 0)) (iblk m c 7 (pt (i 0).val (i 1).val 0)) (iblk m c 8 (pt (i 0).val (i 1).val 0)) (qtOf (BitVec.ofNat 32 (i 1).val) (iblk m c 0 (pt (i 0).val (i 1).val 0)) (iblk m c 1 (pt (i 0).val (i 1).val 0)) (iblk m c 5 (pt (i 0).val (i 1).val 0)))) (dsOf false (iblk m c 6 (pt (i 0).val (i 1).val 0)) (iblk m c 7 (pt (i 0).val (i 1).val 0)) (iblk m c 8 (pt (i 0).val (i 1).val 0)) (qtOf (BitVec.ofNat 32 (i 1).val) (iblk m c 0 (pt (i 0).val (i 1).val 0)) (iblk m c 1 (pt (i 0).val (i 1).val 0)) (iblk m c 5 (pt (i 0).val (i 1).val 0))) (dotOf (iblk m c 4 (pt (i 0).val (i 1).val 0)) (iblk m c 3 (pt (i 0).val (i 1).val 0))) (deltaOf (iblk m c 4 (pt (i 0).val (i 1).val 0)) (iblk m c 3 (pt (i 0).val (i 1).val 0)) (iblk m c 2 (pt (i 0).val (i 1).val 0)))) (doOf (iblk m c 4 (pt (i 0).val (i 1).val 0)) (iblk m c 3 (pt (i 0).val (i 1).val 0))) (qOf (iblk m c 0 (pt (i 0).val (i 1).val 0))))
    (DCH_fst m c _ 0 _ _ _ _ _ rfl rfl rfl rfl))) $$ C0
  ihave D0 := (ent_of_eq (halfK m c (i 0).val (2 * 0) (i 1).val (o := ![0, 0]) rfl inb_S64x12800_S64x256_0_0
    (fun x => dkStep x (dsOf false (iblk m c 6 (pt (i 0).val (i 1).val 0)) (iblk m c 7 (pt (i 0).val (i 1).val 0)) (iblk m c 8 (pt (i 0).val (i 1).val 0)) (qtOf (BitVec.ofNat 32 (i 1).val) (iblk m c 0 (pt (i 0).val (i 1).val 0)) (iblk m c 1 (pt (i 0).val (i 1).val 0)) (iblk m c 5 (pt (i 0).val (i 1).val 0))) (dotOf (iblk m c 4 (pt (i 0).val (i 1).val 0)) (iblk m c 3 (pt (i 0).val (i 1).val 0))) (deltaOf (iblk m c 4 (pt (i 0).val (i 1).val 0)) (iblk m c 3 (pt (i 0).val (i 1).val 0)) (iblk m c 2 (pt (i 0).val (i 1).val 0)))) (qtOf (BitVec.ofNat 32 (i 1).val) (iblk m c 0 (pt (i 0).val (i 1).val 0)) (iblk m c 1 (pt (i 0).val (i 1).val 0)) (iblk m c 5 (pt (i 0).val (i 1).val 0))))
    (DKH_fst m c _ 0 _ _ _ rfl rfl))) $$ D0
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H18 H19 H20 H21 H22 H23 H24 H25 H26 H27]
  · iexists _, _, _, _, _, _, _, _
    isplitr; swap
    · isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexact H25
      isplitl [H26]; · iexact H26
      iexact H27
    · ipureintro
      intro b qi j e hqi hj'
      obtain rfl : (i 0).val = b := by omega
      obtain rfl : (i 1).val = qi := by omega
      obtain rfl : 0 = j := by omega
      exact ⟨rfl, rfl, rfl, rfl, rfl, rfl, rfl, rfl⟩
  isplitl [C0 C1 CH CZ]
  · isplitl [C0]; · iexact C0
    isplitl [C1]; · iexact C1
    isplitl [CH] <;> iassumption
  isplitl [D0]; · iexact D0
  isplitl [D1]; · iexact D1
  isplitl [DH] <;> iassumption

/-- The products of a later step `k`, which also finishes the step before. -/
theorem phaseC_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (h5 : k0_cond5 i = 1#1) (k k' : Fin 25) (hk : k.val = (i 2).val) (hk' : k'.val + 1 = (i 2).val) :
    iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
        ∗ Scr m c arg18 arg19 arg20 arg21 arg22 arg23 arg24 arg25 arg26 arg27 n ∗ HeldC m c (i 0).val k (i 1).val (i 1).val ∗ HeldK m c (i 0).val k (i 1).val (i 1).val
        ∗ HeldC m c (i 0).val k' ((i 1).val + 1) (i 1).val ∗ HeldK m c (i 0).val k' ((i 1).val + 1) (i 1).val
        ∗ (iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
            ∗ Scr m c arg18 arg19 arg20 arg21 arg22 arg23 arg24 arg25 arg26 arg27 (n + 1) ∗ HeldC m c (i 0).val k ((i 1).val + 1) (i 1).val ∗ HeldK m c (i 0).val k ((i 1).val + 1) (i 1).val
            ∗ HeldC m c (i 0).val k' ((i 1).val + 1) ((i 1).val + 1) ∗ HeldK m c (i 0).val k' ((i 1).val + 1) ((i 1).val + 1)) -∗ wp frame (wpE (defs₀ (F := F)) Variants.none (c : Thread nD τ) none) Set.univ K Q))
      ⊢ wp frame (wpE (defs₀ (F := F)) Variants.none (c : Thread nD τ) none) Set.univ (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have e10 : k0_off10 i = ![256 * (2 * k'.val + 1), 0] := by rw [off10_eq i (by omega), show 2 * (i 2).val - 1 = 2 * k'.val + 1 by omega]
  have e11 : k0_off11 i = ![0, 256 * (2 * k'.val + 1)] := by rw [off11_eq i (by omega), show 2 * (i 2).val - 1 = 2 * k'.val + 1 by omega]
  have e12 : k0_off12 i = ![256 * (2 * k.val), 0] := by rw [off12_eq i, hk]
  have e13 : k0_off13 i = ![0, 256 * (2 * k.val)] := by rw [off13_eq i, hk]
  have r10 := pC_rect256 c e10 (k0_off10_inb i h5) (DCall m c (i 0).val (i 1).val)
  have r12 := pC_rect256 c e12 (k0_off12_inb i h5) (DCall m c (i 0).val (i 1).val)
  have r11 := pK_rect256 c e11 (k0_off11_inb i h5) (DKall m c (i 0).val (i 1).val)
  have r13 := pK_rect256 c e13 (k0_off13_inb i h5) (DKall m c (i 0).val (i 1).val)
  have w12 := halfC m c (i 0).val (2 * k.val) (i 1).val e12 (k0_off12_inb i h5)
    (fun x => dcStep x (pOf false (iblk m c 6 (pt (i 0).val (i 1).val (i 2).val)) (iblk m c 7 (pt (i 0).val (i 1).val (i 2).val)) (iblk m c 8 (pt (i 0).val (i 1).val (i 2).val)) (QT m c (i 0).val (i 1).val)) (dsOf false (iblk m c 6 (pt (i 0).val (i 1).val (i 2).val)) (iblk m c 7 (pt (i 0).val (i 1).val (i 2).val)) (iblk m c 8 (pt (i 0).val (i 1).val (i 2).val)) (QT m c (i 0).val (i 1).val) (DOT m c (i 0).val (i 1).val) (DELTA m c (i 0).val (i 1).val)) (DOV m c (i 0).val (i 1).val) (QV m c (i 0).val (i 1).val))
    (DCH_fst m c _ k.val _ _ _ _ _ (by rw [hk]; rfl) (by rw [hk]; rfl) rfl rfl)
  have w13 := halfK m c (i 0).val (2 * k.val) (i 1).val e13 (k0_off13_inb i h5)
    (fun x => dkStep x (dsOf false (iblk m c 6 (pt (i 0).val (i 1).val (i 2).val)) (iblk m c 7 (pt (i 0).val (i 1).val (i 2).val)) (iblk m c 8 (pt (i 0).val (i 1).val (i 2).val)) (QT m c (i 0).val (i 1).val) (DOT m c (i 0).val (i 1).val) (DELTA m c (i 0).val (i 1).val)) (QT m c (i 0).val (i 1).val)) (DKH_fst m c _ k.val _ _ _ (by rw [hk]; rfl) rfl)
  have w10 := halfC m c (i 0).val (2 * k'.val + 1) (i 1).val e10 (k0_off10_inb i h5)
    (fun x => dcStep x (PV m c (i 0).val (i 1).val k'.val true) (DSV m c (i 0).val (i 1).val k'.val true) (DOV m c (i 0).val (i 1).val) (QV m c (i 0).val (i 1).val))
    (DCH_snd m c _ k'.val _ _ _ _ _ rfl rfl rfl rfl)
  have w11 := halfK m c (i 0).val (2 * k'.val + 1) (i 1).val e11 (k0_off11_inb i h5)
    (fun x => dkStep x (DSV m c (i 0).val (i 1).val k'.val true) (QT m c (i 0).val (i 1).val)) (DKH_snd m c _ k'.val _ _ _ rfl rfl)
  unfold HeldC HeldK Scr
  iintro ⟨H9, H10, H11, H12, H13, ⟨%qt, %dot, %dov, %q, %delta, %pb, %dsb, %acc, %hg, H18, H19, H20, H21, H22, ⟨%pa, H23⟩, ⟨%dsa, H24⟩, H25, H26, H27⟩, ⟨C0, C1, CH, CZ⟩, ⟨D0, D1, DH, DZ⟩, ⟨E0, E1, EH, EZ⟩, ⟨G0, G1, GH, GZ⟩, HQ⟩
  obtain ⟨rfl, rfl, rfl, rfl, rfl, rfl, rfl, rfl⟩ := hg (i 0).val (i 1).val k'.val (by omega) hq k'.isLt
  ihave C0 := (ent_of_eq r12) $$ C0
  ihave D0 := (ent_of_eq r13) $$ D0
  ihave E1 := (ent_of_eq r10) $$ E1
  ihave G1 := (ent_of_eq r11) $$ G1
  iapply (phaseC_run c i h5)
  isplitl [H9]; · iexact H9
  isplitl [H10]; · iexact H10
  isplitl [H11]; · iexact H11
  isplitl [H18]; · iexact H18
  isplitl [H19]; · iexact H19
  isplitl [H20]; · iexact H20
  isplitl [H21]; · iexact H21
  isplitl [H22]; · iexact H22
  isplitl [H12]; · iexact H12
  isplitl [H13]; · iexact H13
  isplitl [H23]; · iexact H23
  isplitl [H24]; · iexact H24
  isplitl [H25]; · iexact H25
  isplitl [H26]; · iexact H26
  isplitl [H27]; · iexact H27
  isplitl [E1]; · iexact E1
  isplitl [C0]; · iexact C0
  isplitl [G1]; · iexact G1
  isplitl [D0]; · iexact D0
  iintro ⟨H9, H10, H11, H18, H19, H20, H21, H22, H12, H13, H23, H24, H25, H26, H27, E1, C0, G1, D0⟩
  ihave C0 := (ent_of_eq w12) $$ C0
  ihave D0 := (ent_of_eq w13) $$ D0
  ihave E1 := (ent_of_eq w10) $$ E1
  ihave G1 := (ent_of_eq w11) $$ G1
  iapply HQ
  isplitl [H9]; · iexact H9
  isplitl [H10]; · iexact H10
  isplitl [H11]; · iexact H11
  isplitl [H12]; · iexact H12
  isplitl [H13]; · iexact H13
  isplitl [H18 H19 H20 H21 H22 H23 H24 H25 H26 H27]
  · iexists _, _, _, _, _, _, _, _
    isplitr; swap
    · isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexact H25
      isplitl [H26]; · iexact H26
      iexact H27
    · ipureintro
      intro b qi j e hqi hj'
      obtain rfl : (i 0).val = b := by omega
      obtain rfl : (i 1).val = qi := by omega
      obtain rfl : k'.val + 1 = j := by omega
      rw [← hk']
      exact ⟨rfl, rfl, rfl, rfl, rfl, rfl, rfl, rfl⟩
  isplitl [C0 C1 CH CZ]
  · isplitl [C0]; · iexact C0
    isplitl [C1]; · iexact C1
    isplitl [CH] <;> iassumption
  isplitl [D0 D1 DH DZ]
  · isplitl [D0]; · iexact D0
    isplitl [D1]; · iexact D1
    isplitl [DH] <;> iassumption
  isplitl [E0 E1 EH EZ]
  · isplitl [E0]; · iexact E0
    isplitl [E1]; · iexact E1
    isplitl [EH] <;> iassumption
  isplitl [G0]; · iexact G0
  isplitl [G1]; · iexact G1
  isplitl [GH] <;> iassumption

/-- The last step finishes tile 24 and writes the query tile's results. -/
theorem phaseD_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (h6 : k0_cond6 i = 1#1) (hj : (i 2).val = 25) :
    iprop(owns (c : Thread nD τ) arg13 fullShare (iblk m c 10 (pt (i 0).val (i 1).val (i 2).val)) ∗ (∃ d, owns (c : Thread nD τ) arg14 fullShare d) ∗ (∃ d, owns (c : Thread nD τ) arg15 fullShare d)
        ∗ Scr m c arg18 arg19 arg20 arg21 arg22 arg23 arg24 arg25 arg26 arg27 n ∗ HeldC m c (i 0).val 24 ((i 1).val + 1) (i 1).val ∗ HeldK m c (i 0).val 24 ((i 1).val + 1) (i 1).val
        ∗ (iprop(owns (c : Thread nD τ) arg13 fullShare (iblk m c 10 (pt (i 0).val (i 1).val (i 2).val)) ∗ owns (c : Thread nD τ) arg14 fullShare (dqOut (DQF m c (i 0).val (i 1).val)) ∗ owns (c : Thread nD τ) arg15 fullShare (dqrOut (DQF m c (i 0).val (i 1).val))
            ∗ Scr m c arg18 arg19 arg20 arg21 arg22 arg23 arg24 arg25 arg26 arg27 (n + 1)
            ∗ HeldC m c (i 0).val 24 ((i 1).val + 1) ((i 1).val + 1) ∗ HeldK m c (i 0).val 24 ((i 1).val + 1) ((i 1).val + 1)) -∗ wp frame (wpE (defs₀ (F := F)) Variants.none (c : Thread nD τ) none) Set.univ K Q))
      ⊢ wp frame (wpE (defs₀ (F := F)) Variants.none (c : Thread nD τ) none) Set.univ (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have e14 : k0_off14 i = ![256 * (2 * (24 : Fin 25).val + 1), 0] := by rw [off14_eq i (by omega), hj]; rfl
  have e15 : k0_off15 i = ![0, 256 * (2 * (24 : Fin 25).val + 1)] := by rw [off15_eq i (by omega), hj]; rfl
  have r14 := pC_rect256 c e14 (k0_off14_inb i h6) (DCall m c (i 0).val (i 1).val)
  have r15 := pK_rect256 c e15 (k0_off15_inb i h6) (DKall m c (i 0).val (i 1).val)
  have w14 := halfC m c (i 0).val (2 * (24 : Fin 25).val + 1) (i 1).val e14 (k0_off14_inb i h6)
    (fun x => dcStep x (PV m c (i 0).val (i 1).val 24 true) (DSV m c (i 0).val (i 1).val 24 true) (DOV m c (i 0).val (i 1).val) (QV m c (i 0).val (i 1).val))
    (DCH_snd m c _ 24 _ _ _ _ _ rfl rfl rfl rfl)
  have w15 := halfK m c (i 0).val (2 * (24 : Fin 25).val + 1) (i 1).val e15 (k0_off15_inb i h6)
    (fun x => dkStep x (DSV m c (i 0).val (i 1).val 24 true) (QT m c (i 0).val (i 1).val)) (DKH_snd m c _ 24 _ _ _ rfl rfl)
  unfold HeldC HeldK Scr
  iintro ⟨H13, H14, H15, ⟨%qt, %dot, %dov, %q, %delta, %pb, %dsb, %acc, %hg, H18, H19, H20, H21, H22, H23, H24, H25, H26, H27⟩, ⟨E0, E1, EH, EZ⟩, ⟨G0, G1, GH, GZ⟩, HQ⟩
  obtain ⟨rfl, rfl, rfl, rfl, rfl, rfl, rfl, rfl⟩ := hg (i 0).val (i 1).val 24 (by omega) hq (by decide)
  ihave E1 := (ent_of_eq r14) $$ E1
  ihave G1 := (ent_of_eq r15) $$ G1
  iapply (phaseD_run c i h6)
  isplitl [H13]; · iexact H13
  isplitl [H18]; · iexact H18
  isplitl [H20]; · iexact H20
  isplitl [H21]; · iexact H21
  isplitl [H25]; · iexact H25
  isplitl [H26]; · iexact H26
  isplitl [H27]; · iexact H27
  isplitl [H14]; · iexact H14
  isplitl [H15]; · iexact H15
  isplitl [E1]; · iexact E1
  isplitl [G1]; · iexact G1
  iintro ⟨H13, H18, H20, H21, H25, H26, H27, H14, H15, E1, G1⟩
  ihave E1 := (ent_of_eq w14) $$ E1
  ihave G1 := (ent_of_eq w15) $$ G1
  iapply HQ
  isplitl [H13]; · iexact H13
  rw [hj]
  isplitl [H14]; · iexact H14
  isplitl [H15]; · iexact H15
  isplitl [H18 H19 H20 H21 H22 H23 H24 H25 H26 H27]
  · iexists _, _, _, _, _, _, _, _
    isplitr; swap
    · isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
    · ipureintro
      intro b qi j e hqi hj'
      omega
  isplitl [E0 E1 EH EZ]
  · isplitl [E0]; · iexact E0
    isplitl [E1]; · iexact E1
    isplitl [EH] <;> iassumption
  isplitl [G0]; · iexact G0
  isplitl [G1]; · iexact G1
  isplitl [GH] <;> iassumption

/-! ## The whole body -/

theorem body_first (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj : (i 2).val = 0) :
    iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
        ∗ Scr m c arg18 arg19 arg20 arg21 arg22 arg23 arg24 arg25 arg26 arg27 n ∗ tiles m c n ∗ (∃ W, owes (c : Thread nD τ) 0 W)
        ∗ (iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
            ∗ Scr m c arg18 arg19 arg20 arg21 arg22 arg23 arg24 arg25 arg26 arg27 (n + 1) ∗ tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K)))))) Q := by
  rw [phaseC_skip (h := by rw [cond5_iff]; omega), phaseD_skip (h := by rw [cond6_iff]; omega), phaseE_skip (h := by rw [cond7_iff]; omega), phaseF_skip (h := by rw [cond8_iff]; omega)]
  have et := tiles_one m c n 0
  have et' := tiles_one m c (n + 1) 0
  rw [rest_same m c {0} n _ _ _ hn (by omega) (by omega) (fun k hk => by rw [Finset.mem_singleton]; apply Fin.ext; show k.val = 0; omega)] at et'
  unfold tileC tileK at et'
  rw [tile_half _ _ _ _ n (0 : Fin 25).val _ _ _ hn (by omega) hq hj.symm (by omega), tile_half _ _ _ _ n (0 : Fin 25).val _ _ _ hn (by omega) hq hj.symm (by omega)] at et'
  iintro ⟨H3, H4, H5, H6, H7, H8, H9, H10, H11, H12, HS, HT, HW, HQ⟩
  ihave HT := et.1 $$ HT
  icases HT with ⟨HT, HR⟩
  iapply (phaseA_any m c i (n := n) (hn := hn) (hn' := by omega) (hq := hq) (hj := by omega) (k := 0) (hk := hj.symm))
  isplitl [HT]; · iexact HT
  isplitl [HW]; · iexact HW
  iintro ⟨HC, HD, HW⟩
  iapply (phaseB_any m c i (n := n) (hn := hn) (hb := hb) (hq := hq) (h4 := by rw [cond4_iff]; omega) (hj := hj))
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [HC]; · iexact HC
  isplitl [HD]; · iexact HD
  iintro ⟨H3, H4, H5, H6, H7, H8, H9, H10, H11, H12, HS, HC, HD⟩
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [HC HD HR]
  · iapply et'.2
    isplitl [HC HD]; · isplitl [HC] <;> iassumption
    iexact HR
  iexact HW

theorem body_mid (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj0 : 0 < (i 2).val) (hj : (i 2).val < 25) :
    iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
        ∗ Scr m c arg18 arg19 arg20 arg21 arg22 arg23 arg24 arg25 arg26 arg27 n ∗ tiles m c n ∗ (∃ W, owes (c : Thread nD τ) 0 W)
        ∗ (iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
            ∗ Scr m c arg18 arg19 arg20 arg21 arg22 arg23 arg24 arg25 arg26 arg27 (n + 1) ∗ tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K)))))) Q := by
  rw [phaseB_skip (h := by rw [cond4_iff]; omega), phaseD_skip (h := by rw [cond6_iff]; omega), phaseF_skip (h := by rw [cond8_iff]; omega)]
  obtain ⟨k, hk⟩ : ∃ k : Fin 25, k.val = (i 2).val := ⟨⟨(i 2).val, hj⟩, rfl⟩
  obtain ⟨k', hk'⟩ : ∃ k' : Fin 25, k'.val + 1 = (i 2).val := ⟨⟨(i 2).val - 1, by omega⟩, by show (i 2).val - 1 + 1 = _; omega⟩
  have hne : k' ≠ k := fun e => by rw [e] at hk'; omega
  have et := tiles_two m c n k k' hne
  have et' := tiles_two m c (n + 1) k k' hne
  rw [rest_same m c {k, k'} n _ _ _ hn (by omega) (by omega) (fun x hx => by
    rw [Finset.mem_insert, Finset.mem_singleton]
    exact hx.imp (fun e => Fin.ext (by omega)) (fun e => Fin.ext (by omega)))] at et'
  have ek : (iprop(tileC m c n k' ∗ tileK m c n k') : sProp 𝕄) = iprop(HeldC m c (i 0).val k' ((i 1).val + 1) (i 1).val ∗ HeldK m c (i 0).val k' ((i 1).val + 1) (i 1).val) := by
    unfold tileC tileK
    rw [tile_half' _ _ _ _ n k'.val _ _ _ hn (by omega) hq hk' (by omega), tile_half' _ _ _ _ n k'.val _ _ _ hn (by omega) hq hk' (by omega)]
  have ek' : (iprop(tileC m c (n + 1) k ∗ tileK m c (n + 1) k) : sProp 𝕄) = iprop(HeldC m c (i 0).val k ((i 1).val + 1) (i 1).val ∗ HeldK m c (i 0).val k ((i 1).val + 1) (i 1).val) := by
    unfold tileC tileK
    rw [tile_half _ _ _ _ n k.val _ _ _ hn (by omega) hq hk hj, tile_half _ _ _ _ n k.val _ _ _ hn (by omega) hq hk hj]
  rw [ek] at et
  rw [ek'] at et'
  iintro ⟨H9, H10, H11, H12, H13, HS, HT, HW, HQ⟩
  ihave HT := et.1 $$ HT
  icases HT with ⟨HT, ⟨HE, HG⟩, HR⟩
  iapply (phaseA_any m c i (n := n) (hn := hn) (hn' := by omega) (hq := hq) (hj := hj) (k := k) (hk := hk))
  isplitl [HT]; · iexact HT
  isplitl [HW]; · iexact HW
  iintro ⟨HC, HD, HW⟩
  iapply (phaseC_any m c i (n := n) (hn := hn) (hb := hb) (hq := hq) (h5 := by rw [cond5_iff]; omega) (k := k) (k' := k') (hk := hk) (hk' := hk'))
  isplitl [H9]; · iexact H9
  isplitl [H10]; · iexact H10
  isplitl [H11]; · iexact H11
  isplitl [H12]; · iexact H12
  isplitl [H13]; · iexact H13
  isplitl [HS]; · iexact HS
  isplitl [HC]; · iexact HC
  isplitl [HD]; · iexact HD
  isplitl [HE]; · iexact HE
  isplitl [HG]; · iexact HG
  iintro ⟨H9, H10, H11, H12, H13, HS, HC, HD, HE, HG⟩
  iapply (phaseE_any m c i (n := n) (hn := hn) (hn' := by omega) (hq := hq) (hj := hj) (k := k') (hk := hk'))
  isplitl [HE]; · iexact HE
  isplitl [HG]; · iexact HG
  iintro HE
  iapply HQ
  isplitl [H9]; · iexact H9
  isplitl [H10]; · iexact H10
  isplitl [H11]; · iexact H11
  isplitl [H12]; · iexact H12
  isplitl [H13]; · iexact H13
  isplitl [HS]; · iexact HS
  isplitl [HC HD HR HE]
  · iapply et'.2
    isplitl [HC HD]; · isplitl [HC] <;> iassumption
    isplitl [HE] <;> iassumption
  iexact HW

theorem body_last (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj : (i 2).val = 25) :
    iprop(owns (c : Thread nD τ) arg13 fullShare (iblk m c 10 (pt (i 0).val (i 1).val (i 2).val)) ∗ (∃ d, owns (c : Thread nD τ) arg14 fullShare d) ∗ (∃ d, owns (c : Thread nD τ) arg15 fullShare d)
        ∗ Scr m c arg18 arg19 arg20 arg21 arg22 arg23 arg24 arg25 arg26 arg27 n ∗ tiles m c n ∗ (∃ W, owes (c : Thread nD τ) 0 W)
        ∗ (iprop(owns (c : Thread nD τ) arg13 fullShare (iblk m c 10 (pt (i 0).val (i 1).val (i 2).val)) ∗ owns (c : Thread nD τ) arg14 fullShare (dqOut (DQF m c (i 0).val (i 1).val)) ∗ owns (c : Thread nD τ) arg15 fullShare (dqrOut (DQF m c (i 0).val (i 1).val))
            ∗ Scr m c arg18 arg19 arg20 arg21 arg22 arg23 arg24 arg25 arg26 arg27 (n + 1) ∗ tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K)))))) Q := by
  rw [phaseA_skip (h := by rw [cond1_iff]; omega), phaseB_skip (h := by rw [cond4_iff]; omega), phaseC_skip (h := by rw [cond5_iff]; omega), phaseE_skip (h := by rw [cond7_iff]; omega)]
  have et := tiles_one m c n 24
  unfold tileC tileK at et
  rw [tile_half' _ _ _ _ n (24 : Fin 25).val _ _ _ hn (by omega) hq (by rw [hj]; rfl) (by omega), tile_half' _ _ _ _ n (24 : Fin 25).val _ _ _ hn (by omega) hq (by rw [hj]; rfl) (by omega)] at et
  iintro ⟨H13, H14, H15, HS, HT, HW, HQ⟩
  ihave HT := et.1 $$ HT
  icases HT with ⟨⟨HE, HG⟩, HR⟩
  iapply (phaseD_any m c i (n := n) (hn := hn) (hb := hb) (hq := hq) (h6 := by rw [cond6_iff]; omega) (hj := hj))
  isplitl [H13]; · iexact H13
  isplitl [H14]; · iexact H14
  isplitl [H15]; · iexact H15
  isplitl [HS]; · iexact HS
  isplitl [HE]; · iexact HE
  isplitl [HG]; · iexact HG
  iintro ⟨H13, H14, H15, HS, HE, HG⟩
  iapply (phaseF_any m c i (n := n) (hn := hn) (hb := hb) (hq := hq) (hj := hj))
  isplitl [HE]; · iexact HE
  isplitl [HG]; · iexact HG
  isplitl [HR]; · iexact HR
  isplitl [HW]; · iexact HW
  iintro ⟨HT, HW⟩
  iapply HQ
  isplitl [H13]; · iexact H13
  isplitl [H14]; · iexact H14
  isplitl [H15]; · iexact H15
  isplitl [HS]; · iexact HS
  isplitl [HT] <;> iassumption

end Cert.Kernel.Gen

end
-- ==== Proof.Data.lean ====
/-
  The call as the pipeline runs it: what each window's buffer holds, the invariant between grid points, and the run.
-/
module

public import proofs.«01_k».proof.Proof.Body
public import Idealize.ShloMosaic.Lib.Pipeline.FrameValue

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD) (ρ : Dev nD → PrngReg)

/-! ## The buffers in bands -/

theorem bands28 : ((Finset.univ : Finset (Fin 25)).biUnion fun k => M28.view.setOn (rowsC (512 * k.val) 512)) = Finset.univ := by
  refine Finset.eq_univ_of_forall fun x => Finset.mem_biUnion.mpr ?_
  have h : ((x : S12800x512.Idx) 0).val < 12800 := ((x : S12800x512.Idx) 0).isLt
  refine ⟨⟨((x : S12800x512.Idx) 0).val / 512, by omega⟩, Finset.mem_univ _, ?_⟩
  rw [show M28.view.setOn (rowsC (512 * (((x : S12800x512.Idx) 0).val / 512)) 512) = rowsC (512 * (((x : S12800x512.Idx) 0).val / 512)) 512 from Finset.map_refl]
  exact mem_rowsC.mpr ⟨by omega, by omega⟩
theorem bands29 : ((Finset.univ : Finset (Fin 25)).biUnion fun k => M29.view.setOn (colsK (512 * k.val) 512)) = Finset.univ := by
  refine Finset.eq_univ_of_forall fun x => Finset.mem_biUnion.mpr ?_
  have h : ((x : S64x12800.Idx) 1).val < 12800 := ((x : S64x12800.Idx) 1).isLt
  refine ⟨⟨((x : S64x12800.Idx) 1).val / 512, by omega⟩, Finset.mem_univ _, ?_⟩
  rw [show M29.view.setOn (colsK (512 * (((x : S64x12800.Idx) 1).val / 512)) 512) = colsK (512 * (((x : S64x12800.Idx) 1).val / 512)) 512 from Finset.map_refl]
  exact mem_colsK.mpr ⟨by omega, by omega⟩
theorem bands16 : ((Finset.univ : Finset (Fin 25)).biUnion fun k => M16.view.setOn (homeSC (512 * k.val) (len k))) = Finset.univ := by
  refine Finset.eq_univ_of_forall fun x => Finset.mem_biUnion.mpr ?_
  have h : ((x : S8x12672x512.Idx) 1).val < 12672 := ((x : S8x12672x512.Idx) 1).isLt
  refine ⟨⟨((x : S8x12672x512.Idx) 1).val / 512, by omega⟩, Finset.mem_univ _, ?_⟩
  rw [setOnM16]
  refine mem_homeSC.mpr ⟨?_, ?_⟩
  · show 512 * (((x : S8x12672x512.Idx) 1).val / 512) ≤ _; omega
  · show _ < 512 * (((x : S8x12672x512.Idx) 1).val / 512) + len _
    unfold len; split
    · rename_i h24
      have h24' : ((x : S8x12672x512.Idx) 1).val / 512 = 24 := h24
      omega
    · omega
theorem bands17 : ((Finset.univ : Finset (Fin 25)).biUnion fun k => M17.view.setOn (homeSK (512 * k.val) (len k))) = Finset.univ := by
  refine Finset.eq_univ_of_forall fun x => Finset.mem_biUnion.mpr ?_
  have h : ((x : S8x64x12672.Idx) 2).val < 12672 := ((x : S8x64x12672.Idx) 2).isLt
  refine ⟨⟨((x : S8x64x12672.Idx) 2).val / 512, by omega⟩, Finset.mem_univ _, ?_⟩
  rw [setOnM17]
  refine mem_homeSK.mpr ⟨?_, ?_⟩
  · show 512 * (((x : S8x64x12672.Idx) 2).val / 512) ≤ _; omega
  · show _ < 512 * (((x : S8x64x12672.Idx) 2).val / 512) + len _
    unfold len; split
    · rename_i h24
      have h24' : ((x : S8x64x12672.Idx) 2).val / 512 = 24 := h24
      omega
    · omega

theorem disj28 (k k' : Fin 25) (h : k ≠ k') : Disjoint (M28.view.setOn (rowsC (512 * k.val) 512)) (M28.view.setOn (rowsC (512 * k'.val) 512)) := by
  have h' : k.val ≠ k'.val := fun e => h (Fin.ext e)
  refine Finset.disjoint_left.mpr fun x h1 h2 => ?_
  rw [show M28.view.setOn (rowsC (512 * k.val) 512) = rowsC (512 * k.val) 512 from Finset.map_refl] at h1
  rw [show M28.view.setOn (rowsC (512 * k'.val) 512) = rowsC (512 * k'.val) 512 from Finset.map_refl] at h2
  have a := mem_rowsC.mp h1
  have b := mem_rowsC.mp h2
  omega
theorem disj29 (k k' : Fin 25) (h : k ≠ k') : Disjoint (M29.view.setOn (colsK (512 * k.val) 512)) (M29.view.setOn (colsK (512 * k'.val) 512)) := by
  have h' : k.val ≠ k'.val := fun e => h (Fin.ext e)
  refine Finset.disjoint_left.mpr fun x h1 h2 => ?_
  rw [show M29.view.setOn (colsK (512 * k.val) 512) = colsK (512 * k.val) 512 from Finset.map_refl] at h1
  rw [show M29.view.setOn (colsK (512 * k'.val) 512) = colsK (512 * k'.val) 512 from Finset.map_refl] at h2
  have a := mem_colsK.mp h1
  have b := mem_colsK.mp h2
  omega
theorem disj16 (k k' : Fin 25) (h : k ≠ k') : Disjoint (M16.view.setOn (homeSC (512 * k.val) (len k))) (M16.view.setOn (homeSC (512 * k'.val) (len k'))) := by
  have h' : k.val ≠ k'.val := fun e => h (Fin.ext e)
  refine Finset.disjoint_left.mpr fun x h1 h2 => ?_
  rw [setOnM16] at h1 h2
  have a := mem_homeSC.mp h1
  have b := mem_homeSC.mp h2
  have := len_le k; have := len_le k'
  omega
theorem disj17 (k k' : Fin 25) (h : k ≠ k') : Disjoint (M17.view.setOn (homeSK (512 * k.val) (len k))) (M17.view.setOn (homeSK (512 * k'.val) (len k'))) := by
  have h' : k.val ≠ k'.val := fun e => h (Fin.ext e)
  refine Finset.disjoint_left.mpr fun x h1 h2 => ?_
  rw [setOnM17] at h1 h2
  have a := mem_homeSK.mp h1
  have b := mem_homeSK.mp h2
  have := len_le k; have := len_le k'
  omega

theorem ex_intro {A : Type _} (Φ : A → sProp 𝕄) (a : A) : Φ a ⊢ iprop(∃ a, Φ a) := by
  iintro H; iexists a; iexact H
theorem sep_split (Φ Ψ : Fin 25 → sProp 𝕄) : (BI.bigSep Finset.univ fun k : Fin 25 => iprop(Φ k ∗ Ψ k)) = iprop((BI.bigSep Finset.univ Φ) ∗ (BI.bigSep Finset.univ Ψ)) :=
  BI.bigSep_sep _ _ _

theorem split28 (f) : ((c : Thread nD τ).loc cc0_scratch10 ↦{fullShare} f : sProp 𝕄) ⊢ BI.bigSep Finset.univ fun k : Fin 25 => iprop(∃ f, pC c (512 * k.val) 512 f) := by
  refine (ent_of_eq (Ring.pointsTo_blocks (fun k : Fin 25 => M28.view.setOn (rowsC (512 * k.val) 512)) disj28 bands28 f)).trans (BI.bigSep_mono fun k _ => ?_)
  exact ex_intro (fun f => pC c (512 * k.val) 512 f) f
theorem split29 (f) : ((c : Thread nD τ).loc cc0_scratch11 ↦{fullShare} f : sProp 𝕄) ⊢ BI.bigSep Finset.univ fun k : Fin 25 => iprop(∃ f, pK c (512 * k.val) 512 f) := by
  refine (ent_of_eq (Ring.pointsTo_blocks (fun k : Fin 25 => M29.view.setOn (colsK (512 * k.val) 512)) disj29 bands29 f)).trans (BI.bigSep_mono fun k _ => ?_)
  exact ex_intro (fun f => pK c (512 * k.val) 512 f) f
theorem join28 (f₀ : Buf (Elt F) ((c : Thread nD τ).loc cc0_scratch10)) : (BI.bigSep Finset.univ fun k : Fin 25 => iprop(∃ f, pC c (512 * k.val) 512 f)) ⊢ (iprop(∃ f, (c : Thread nD τ).loc cc0_scratch10 ↦{fullShare} f) : sProp 𝕄) := by
  have h := Ring.pointsTo_blocks_join_exists (Ix := Unit) (Name := ℕ) (U := Pipeline.UD sig nD τ) (Lvl := ℕ) (q := fullShare) (fun k : Fin 25 => M28.view.setOn (rowsC (512 * k.val) 512)) disj28 bands28 f₀
  unfold pC
  exact h
theorem join29 (f₀ : Buf (Elt F) ((c : Thread nD τ).loc cc0_scratch11)) : (BI.bigSep Finset.univ fun k : Fin 25 => iprop(∃ f, pK c (512 * k.val) 512 f)) ⊢ (iprop(∃ f, (c : Thread nD τ).loc cc0_scratch11 ↦{fullShare} f) : sProp 𝕄) := by
  have h := Ring.pointsTo_blocks_join_exists (Ix := Unit) (Name := ℕ) (U := Pipeline.UD sig nD τ) (Lvl := ℕ) (q := fullShare) (fun k : Fin 25 => M29.view.setOn (colsK (512 * k.val) 512)) disj29 bands29 f₀
  unfold pK
  exact h
theorem blocks16 (f : Buf (Elt F) ((c : Thread nD τ).loc main_v0_2)) : ((c : Thread nD τ).loc main_v0_2 ↦{fullShare} f : sProp 𝕄)
    = BI.bigSep Finset.univ fun k : Fin 25 => iprop(M16.view.loc (c : Thread nD τ) ↦[M16.view.setOn (homeSC (512 * k.val) (len k))]{fullShare} f) := by
  have h := Ring.pointsTo_blocks (Ix := Unit) (Name := ℕ) (U := Pipeline.UD sig nD τ) (Lvl := ℕ) (q := fullShare) (fun k : Fin 25 => M16.view.setOn (homeSC (512 * k.val) (len k))) disj16 bands16 f
  exact h
theorem blocks17 (f : Buf (Elt F) ((c : Thread nD τ).loc main_v0_3)) : ((c : Thread nD τ).loc main_v0_3 ↦{fullShare} f : sProp 𝕄)
    = BI.bigSep Finset.univ fun k : Fin 25 => iprop(M17.view.loc (c : Thread nD τ) ↦[M17.view.setOn (homeSK (512 * k.val) (len k))]{fullShare} f) := by
  have h := Ring.pointsTo_blocks (Ix := Unit) (Name := ℕ) (U := Pipeline.UD sig nD τ) (Lvl := ℕ) (q := fullShare) (fun k : Fin 25 => M17.view.setOn (homeSK (512 * k.val) (len k))) disj17 bands17 f
  exact h
theorem homes16 (B : ℕ) : ((c : Thread nD τ).loc main_v0_2 ↦{fullShare} homeFC m c B : sProp 𝕄) = BI.bigSep Finset.univ fun k : Fin 25 => hC m c B k :=
  blocks16 c (homeFC m c B)
theorem homes17 (B : ℕ) : ((c : Thread nD τ).loc main_v0_3 ↦{fullShare} homeFK m c B : sProp 𝕄) = BI.bigSep Finset.univ fun k : Fin 25 => hK m c B k :=
  blocks17 c (homeFK m c B)

/-! ## The transfers' cells -/

abbrev osem0 : Fin 25 ⊕ Fin 25 → SemLoc sig := fun | .inl k => SemLoc.dma (cellC k) | .inr k => SemLoc.dma (cellK k)
theorem ownSemFacts0 : Pipeline.OwnSemFacts spec0 osem0 where
  isScoped := by rintro (k | k) <;> revert k <;> decide
  inj := by
    rintro (k | k) (k' | k') h
    · have h' := congrArg Fin.val (SemLoc.dma.inj h); simp only [cellC] at h'; congr 1; exact Fin.ext (by omega)
    · have h' := congrArg Fin.val (SemLoc.dma.inj h); simp only [cellC, cellK] at h'; omega
    · have h' := congrArg Fin.val (SemLoc.dma.inj h); simp only [cellC, cellK] at h'; omega
    · have h' := congrArg Fin.val (SemLoc.dma.inj h); simp only [cellK] at h'; congr 1; exact Fin.ext (by omega)
  disj := by rintro (k | k) <;> revert k <;> decide
theorem ownSems00_eq :
    (Pipeline.ownSems0 (Ix := Unit) (Name := ℕ) (U := Pipeline.UD sig nD τ) (Lvl := ℕ) (Val := Elt F) (τ := τ) osem0 c : sProp 𝕄)
      = iprop((BI.bigSep Finset.univ fun k : Fin 25 => zC c k) ∗ (BI.bigSep Finset.univ fun k : Fin 25 => zK c k)) := by
  unfold Pipeline.ownSems0
  rw [← Finset.univ_disjSum_univ, ← Finset.map_inl_disjUnion_map_inr, Finset.disjUnion_eq_union, BI.bigSep_union (Finset.disjoint_map_inl_map_inr _ _), BI.bigSep_map, BI.bigSep_map]
  rfl

theorem idle_all (B : ℕ) : (BI.bigSep Finset.univ fun k : Fin 25 => iprop(IdleC m c B k ∗ IdleK m c B k))
    = (iprop(((BI.bigSep Finset.univ fun k : Fin 25 => iprop(∃ f, pC c (512 * k.val) 512 f)) ∗ (BI.bigSep Finset.univ fun k : Fin 25 => hC m c B k) ∗ (BI.bigSep Finset.univ fun k : Fin 25 => zC c k))
        ∗ ((BI.bigSep Finset.univ fun k : Fin 25 => iprop(∃ f, pK c (512 * k.val) 512 f)) ∗ (BI.bigSep Finset.univ fun k : Fin 25 => hK m c B k) ∗ (BI.bigSep Finset.univ fun k : Fin 25 => zK c k))) : sProp 𝕄) := by
  unfold IdleC IdleK
  rw [sep_split, sep_split, sep_split, sep_split, sep_split]
theorem tiles_zero : tiles m c 0 = BI.bigSep Finset.univ fun k : Fin 25 => iprop(IdleC m c 0 k ∗ IdleK m c 0 k) := by
  unfold tiles tileC tileK
  exact BI.bigSep_congr fun k _ => by rw [tile_zero, tile_zero]
theorem tiles_end : tiles m c 2496 = BI.bigSep Finset.univ fun k : Fin 25 => iprop(IdleC m c 8 k ∗ IdleK m c 8 k) := by
  unfold tiles tileC tileK
  exact BI.bigSep_congr fun k _ => by rw [tile_end _ _ _ _ 2496 k.val rfl k.isLt, tile_end _ _ _ _ 2496 k.val rfl k.isLt]

/-! ## The proof data -/

/-- The results the body's own transfers write. -/
def R0 : Finset (Ref sig .tc) := {main_v0_2, main_v0_3}
theorem R0_sub : R0 ⊆ Pipeline.restRefs sig spec0 \ (∅ : Finset (Ref sig .tc)) := by decide

/-- What they hold after `B` batches. -/
def G (B : ℕ) (c : Dev nD) (b : Ref sig .tc) : Buf (Elt F) ((c : Thread nD τ).loc b) :=
  if h : b = main_v0_2 then h ▸ homeFC m c B else if h : b = main_v0_3 then h ▸ homeFK m c B else V m c b

theorem routed_eq (W : (b : Ref sig .tc) → Buf (Elt F) ((c : Thread nD τ).loc b)) : (Pipeline.routed R0 c W : sProp 𝕄)
    = iprop(((c : Thread nD τ).loc main_v0_2 ↦{fullShare} W main_v0_2) ∗ ((c : Thread nD τ).loc main_v0_3 ↦{fullShare} W main_v0_3)) := by
  unfold Pipeline.routed R0
  rw [BI.bigSep_eq_bigSepL_of_eq [main_v0_2, main_v0_3] (by decide) (by decide)]; rfl

/-- Between points: the scratch, the generator's register, the tiles. -/
def Inv (n : ℕ) : sProp 𝕄 :=
  iprop(Scr m c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) n ∗ (∃ r, prngReg c r) ∗ tiles m c n)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dqOut (DQF m c (grid0.coords t 0).val (grid0.coords t 1).val)
    | ⟨12, _⟩ => dqrOut (DQF m c (grid0.coords t 0).val (grid0.coords t 1).val)
  Φ t := Inv m c t.val
  q := Pipeline.shareOf spec0
  owed _ := 0

theorem A_eq (w : Fin cfg0.W) : (dats m 0 c).A w = V m c (Pipeline.arrRef spec0 w) := by
  dsimp only [dats]

theorem pt_coords (t : Fin cfg0.N) : (pt (grid0.coords t 0).val (grid0.coords t 1).val (grid0.coords t 2).val) = t := by
  have hN : t.val < 2496 := lt_of_lt_of_eq t.isLt N_0
  have h0 : (grid0.coords t 0).val = t.val / 312 % 8 := grid0.coords_val t 0 (by decide) rfl
  have h1 : (grid0.coords t 1).val = t.val / 26 % 12 := grid0.coords_val t 1 (by decide) rfl
  have h2 : (grid0.coords t 2).val = t.val / 1 % 26 := grid0.coords_val t 2 (by decide) rfl
  refine Fin.ext ?_
  show (((grid0.coords t 0).val * 12 + (grid0.coords t 1).val) * 26 + (grid0.coords t 2).val) % 2496 = t.val
  rw [h0, h1, h2]; omega
theorem val_coords (t : Fin cfg0.N) : t.val = 312 * (grid0.coords t 0).val + 26 * (grid0.coords t 1).val + (grid0.coords t 2).val := by
  have hN : t.val < 2496 := lt_of_lt_of_eq t.isLt N_0
  have h0 : (grid0.coords t 0).val = t.val / 312 % 8 := grid0.coords_val t 0 (by decide) rfl
  have h1 : (grid0.coords t 1).val = t.val / 26 % 12 := grid0.coords_val t 1 (by decide) rfl
  have h2 : (grid0.coords t 2).val = t.val / 1 % 26 := grid0.coords_val t 2 (by decide) rfl
  rw [h0, h1, h2]; omega

theorem before_0 (t : Fin cfg0.N) (d) : (dats m 0 c).before 0 t d = (iblk m c 0 (pt (grid0.coords t 0).val (grid0.coords t 1).val (grid0.coords t 2).val) : Vec F S1x1024x512 .bf16) := by
  have h : (dats m 0 c).before 0 t d = (iblk m c 0 t : Vec F S1x1024x512 .bf16) :=
    ((dats m 0 c).before_in_eq_fetched 0 rfl (fun _ => rfl) (fun _ _ _ => rfl) (fun t => by dsimp only [dats]; unfold Dat.blockOf iblk; try rfl) t d).trans
      (by unfold Dat.fetched Dat.blockOf iblk; try rfl)
  rw [pt_coords]; exact h
theorem after_0 (t : Fin cfg0.N) : (dats m 0 c).after 0 t = (iblk m c 0 (pt (grid0.coords t 0).val (grid0.coords t 1).val (grid0.coords t 2).val) : Vec F S1x1024x512 .bf16) := by
  rw [pt_coords]; dsimp only [dats]
theorem before_1 (t : Fin cfg0.N) (d) : (dats m 0 c).before 1 t d = (iblk m c 1 (pt (grid0.coords t 0).val (grid0.coords t 1).val (grid0.coords t 2).val) : Vec F S1x1024x64 .bf16) := by
  have h : (dats m 0 c).before 1 t d = (iblk m c 1 t : Vec F S1x1024x64 .bf16) :=
    ((dats m 0 c).before_in_eq_fetched 1 rfl (fun _ => rfl) (fun _ _ _ => rfl) (fun t => by dsimp only [dats]; unfold Dat.blockOf iblk; try rfl) t d).trans
      (by unfold Dat.fetched Dat.blockOf iblk; try rfl)
  rw [pt_coords]; exact h
theorem after_1 (t : Fin cfg0.N) : (dats m 0 c).after 1 t = (iblk m c 1 (pt (grid0.coords t 0).val (grid0.coords t 1).val (grid0.coords t 2).val) : Vec F S1x1024x64 .bf16) := by
  rw [pt_coords]; dsimp only [dats]
theorem before_2 (t : Fin cfg0.N) (d) : (dats m 0 c).before 2 t d = (iblk m c 2 (pt (grid0.coords t 0).val (grid0.coords t 1).val (grid0.coords t 2).val) : Vec F S1x1024x512 .bf16) := by
  have h : (dats m 0 c).before 2 t d = (iblk m c 2 t : Vec F S1x1024x512 .bf16) :=
    ((dats m 0 c).before_in_eq_fetched 2 rfl (fun _ => rfl) (fun _ _ _ => rfl) (fun t => by dsimp only [dats]; unfold Dat.blockOf iblk; try rfl) t d).trans
      (by unfold Dat.fetched Dat.blockOf iblk; try rfl)
  rw [pt_coords]; exact h
theorem after_2 (t : Fin cfg0.N) : (dats m 0 c).after 2 t = (iblk m c 2 (pt (grid0.coords t 0).val (grid0.coords t 1).val (grid0.coords t 2).val) : Vec F S1x1024x512 .bf16) := by
  rw [pt_coords]; dsimp only [dats]
theorem before_3 (t : Fin cfg0.N) (d) : (dats m 0 c).before 3 t d = (iblk m c 3 (pt (grid0.coords t 0).val (grid0.coords t 1).val (grid0.coords t 2).val) : Vec F S1x1024x512 .fp8e5m2) := by
  have h : (dats m 0 c).before 3 t d = (iblk m c 3 t : Vec F S1x1024x512 .fp8e5m2) :=
    ((dats m 0 c).before_in_eq_fetched 3 rfl (fun _ => rfl) (fun _ _ _ => rfl) (fun t => by dsimp only [dats]; unfold Dat.blockOf iblk; try rfl) t d).trans
      (by unfold Dat.fetched Dat.blockOf iblk; try rfl)
  rw [pt_coords]; exact h
theorem after_3 (t : Fin cfg0.N) : (dats m 0 c).after 3 t = (iblk m c 3 (pt (grid0.coords t 0).val (grid0.coords t 1).val (grid0.coords t 2).val) : Vec F S1x1024x512 .fp8e5m2) := by
  rw [pt_coords]; dsimp only [dats]
theorem before_4 (t : Fin cfg0.N) (d) : (dats m 0 c).before 4 t d = (iblk m c 4 (pt (grid0.coords t 0).val (grid0.coords t 1).val (grid0.coords t 2).val) : Vec F S1x1x1x1024 .f32) := by
  have h : (dats m 0 c).before 4 t d = (iblk m c 4 t : Vec F S1x1x1x1024 .f32) :=
    ((dats m 0 c).before_in_eq_fetched 4 rfl (fun _ => rfl) (fun _ _ _ => rfl) (fun t => by dsimp only [dats]; unfold Dat.blockOf iblk; try rfl) t d).trans
      (by unfold Dat.fetched Dat.blockOf iblk; try rfl)
  rw [pt_coords]; exact h
theorem after_4 (t : Fin cfg0.N) : (dats m 0 c).after 4 t = (iblk m c 4 (pt (grid0.coords t 0).val (grid0.coords t 1).val (grid0.coords t 2).val) : Vec F S1x1x1x1024 .f32) := by
  rw [pt_coords]; dsimp only [dats]
theorem before_5 (t : Fin cfg0.N) (d) : (dats m 0 c).before 5 t d = (iblk m c 5 (pt (grid0.coords t 0).val (grid0.coords t 1).val (grid0.coords t 2).val) : Vec F S1x1x1x1024 .f32) := by
  have h : (dats m 0 c).before 5 t d = (iblk m c 5 t : Vec F S1x1x1x1024 .f32) :=
    ((dats m 0 c).before_in_eq_fetched 5 rfl (fun _ => rfl) (fun _ _ _ => rfl) (fun t => by dsimp only [dats]; unfold Dat.blockOf iblk; try rfl) t d).trans
      (by unfold Dat.fetched Dat.blockOf iblk; try rfl)
  rw [pt_coords]; exact h
theorem after_5 (t : Fin cfg0.N) : (dats m 0 c).after 5 t = (iblk m c 5 (pt (grid0.coords t 0).val (grid0.coords t 1).val (grid0.coords t 2).val) : Vec F S1x1x1x1024 .f32) := by
  rw [pt_coords]; dsimp only [dats]
theorem before_6 (t : Fin cfg0.N) (d) : (dats m 0 c).before 6 t d = (iblk m c 6 (pt (grid0.coords t 0).val (grid0.coords t 1).val (grid0.coords t 2).val) : Vec F S1x512x512 .bf16) := by
  have h : (dats m 0 c).before 6 t d = (iblk m c 6 t : Vec F S1x512x512 .bf16) :=
    ((dats m 0 c).before_in_eq_fetched 6 rfl (fun _ => rfl) (fun _ _ _ => rfl) (fun t => by dsimp only [dats]; unfold Dat.blockOf iblk; try rfl) t d).trans
      (by unfold Dat.fetched Dat.blockOf iblk; try rfl)
  rw [pt_coords]; exact h
theorem after_6 (t : Fin cfg0.N) : (dats m 0 c).after 6 t = (iblk m c 6 (pt (grid0.coords t 0).val (grid0.coords t 1).val (grid0.coords t 2).val) : Vec F S1x512x512 .bf16) := by
  rw [pt_coords]; dsimp only [dats]
theorem before_7 (t : Fin cfg0.N) (d) : (dats m 0 c).before 7 t d = (iblk m c 7 (pt (grid0.coords t 0).val (grid0.coords t 1).val (grid0.coords t 2).val) : Vec F S1x512x128 .bf16) := by
  have h : (dats m 0 c).before 7 t d = (iblk m c 7 t : Vec F S1x512x128 .bf16) :=
    ((dats m 0 c).before_in_eq_fetched 7 rfl (fun _ => rfl) (fun _ _ _ => rfl) (fun t => by dsimp only [dats]; unfold Dat.blockOf iblk; try rfl) t d).trans
      (by unfold Dat.fetched Dat.blockOf iblk; try rfl)
  rw [pt_coords]; exact h
theorem after_7 (t : Fin cfg0.N) : (dats m 0 c).after 7 t = (iblk m c 7 (pt (grid0.coords t 0).val (grid0.coords t 1).val (grid0.coords t 2).val) : Vec F S1x512x128 .bf16) := by
  rw [pt_coords]; dsimp only [dats]
theorem before_8 (t : Fin cfg0.N) (d) : (dats m 0 c).before 8 t d = (iblk m c 8 (pt (grid0.coords t 0).val (grid0.coords t 1).val (grid0.coords t 2).val) : Vec F S1x1x512x128 .bf16) := by
  have h : (dats m 0 c).before 8 t d = (iblk m c 8 t : Vec F S1x1x512x128 .bf16) :=
    ((dats m 0 c).before_in_eq_fetched 8 rfl (fun _ => rfl) (fun _ _ _ => rfl) (fun t => by dsimp only [dats]; unfold Dat.blockOf iblk; try rfl) t d).trans
      (by unfold Dat.fetched Dat.blockOf iblk; try rfl)
  rw [pt_coords]; exact h
theorem after_8 (t : Fin cfg0.N) : (dats m 0 c).after 8 t = (iblk m c 8 (pt (grid0.coords t 0).val (grid0.coords t 1).val (grid0.coords t 2).val) : Vec F S1x1x512x128 .bf16) := by
  rw [pt_coords]; dsimp only [dats]
theorem before_9 (t : Fin cfg0.N) (d) : (dats m 0 c).before 9 t d = (iblk m c 9 (pt (grid0.coords t 0).val (grid0.coords t 1).val (grid0.coords t 2).val) : Vec F S1x576x256 .bf16) := by
  have h : (dats m 0 c).before 9 t d = (iblk m c 9 t : Vec F S1x576x256 .bf16) :=
    ((dats m 0 c).before_in_eq_fetched 9 rfl (fun _ => rfl) (fun _ _ _ => rfl) (fun t => by dsimp only [dats]; unfold Dat.blockOf iblk; try rfl) t d).trans
      (by unfold Dat.fetched Dat.blockOf iblk; try rfl)
  rw [pt_coords]; exact h
theorem after_9 (t : Fin cfg0.N) : (dats m 0 c).after 9 t = (iblk m c 9 (pt (grid0.coords t 0).val (grid0.coords t 1).val (grid0.coords t 2).val) : Vec F S1x576x256 .bf16) := by
  rw [pt_coords]; dsimp only [dats]
theorem before_10 (t : Fin cfg0.N) (d) : (dats m 0 c).before 10 t d = (iblk m c 10 (pt (grid0.coords t 0).val (grid0.coords t 1).val (grid0.coords t 2).val) : Vec F S1x576x256 .bf16) := by
  have h : (dats m 0 c).before 10 t d = (iblk m c 10 t : Vec F S1x576x256 .bf16) :=
    ((dats m 0 c).before_in_eq_fetched 10 rfl (fun _ => rfl) (fun _ _ _ => rfl) (fun t => by dsimp only [dats]; unfold Dat.blockOf iblk; try rfl) t d).trans
      (by unfold Dat.fetched Dat.blockOf iblk; try rfl)
  rw [pt_coords]; exact h
theorem after_10 (t : Fin cfg0.N) : (dats m 0 c).after 10 t = (iblk m c 10 (pt (grid0.coords t 0).val (grid0.coords t 1).val (grid0.coords t 2).val) : Vec F S1x576x256 .bf16) := by
  rw [pt_coords]; dsimp only [dats]

theorem after_11 (t : Fin cfg0.N) : (dats m 0 c).after 11 t = dqOut (DQF m c (grid0.coords t 0).val (grid0.coords t 1).val) := by dsimp only [dats]
theorem after_12 (t : Fin cfg0.N) : (dats m 0 c).after 12 t = dqrOut (DQF m c (grid0.coords t 0).val (grid0.coords t 1).val) := by dsimp only [dats]

theorem live_11 (t : Fin cfg0.N) (h : (grid0.coords t 2).val = 25) : (dats m 0 c).leavesExact 11 t = owns (c : Thread nD τ) (st0_11 t) fullShare ((dats m 0 c).after 11 t) := by
  unfold Dat.leavesExact
  rw [show cfg0.idle 11 (cfg0.grid.coords t) = false from by
    show (!(k0_cond6 (grid0.coords t) == 1#1)) = false
    rw [(cond6_iff _).mpr h]; rfl]
theorem live_12 (t : Fin cfg0.N) (h : (grid0.coords t 2).val = 25) : (dats m 0 c).leavesExact 12 t = owns (c : Thread nD τ) (st0_12 t) fullShare ((dats m 0 c).after 12 t) := by
  unfold Dat.leavesExact
  rw [show cfg0.idle 12 (cfg0.grid.coords t) = false from by
    show (!(k0_cond6 (grid0.coords t) == 1#1)) = false
    rw [(cond6_iff _).mpr h]; rfl]
theorem idle_at (t : Fin cfg0.N) (h : (grid0.coords t 2).val ≠ 25) : (!(k0_cond6 (grid0.coords t) == 1#1)) = true := by
  have h' : ¬ k0_cond6 (grid0.coords t) = 1#1 := fun e => h ((cond6_iff _).mp e)
  rw [beq_eq_false_iff_ne.mpr h']; rfl
theorem not_last (t : Fin cfg0.N) (h : (grid0.coords t 2).val ≠ 25) : t.val % 26 ≠ 25 := by
  have := val_coords t
  have h2 : (grid0.coords t 2).val < 26 := (grid0.coords t 2).isLt
  omega
theorem idle_11 (t : Fin cfg0.N) (h : (grid0.coords t 2).val ≠ 25) :
    (dats m 0 c).leavesExact 11 t = iprop(∃ d, owns (c : Thread nD τ) (st0_11 t) fullShare ((dats m 0 c).before 11 t d)) :=
  (dats m 0 c).leavesExact_idle 11 t (idle_at t h) (Bool.eq_false_iff.mpr fun e => not_last t h ((flush0_11 t).mp e))
theorem idle_12 (t : Fin cfg0.N) (h : (grid0.coords t 2).val ≠ 25) :
    (dats m 0 c).leavesExact 12 t = iprop(∃ d, owns (c : Thread nD τ) (st0_12 t) fullShare ((dats m 0 c).before 12 t d)) :=
  (dats m 0 c).leavesExact_idle 12 t (idle_at t h) (Bool.eq_false_iff.mpr fun e => not_last t h ((flush0_12 t).mp e))

/-! ## The invariant at the two ends -/

theorem G0 (b) (h : b = main_v0_2 ∨ b = main_v0_3) : G m 0 c b = V m c b := by
  unfold G
  rcases h with rfl | rfl
  · rw [dif_pos rfl]; rfl
  · rw [dif_neg (by decide), dif_pos rfl]; rfl

theorem hin : Pipeline.ΦDRG osem0 spec0 ∅ R0 (V m) (V m) c ⊢ (dats m 0 c).Φ 0 := by
  show _ ⊢ Inv m c 0
  rw [Pipeline.ΦDRG_eq, scopedRest0_eq, ownSems00_eq, routed_eq, ← G0 m c main_v0_2 (.inl rfl), ← G0 m c main_v0_3 (.inr rfl)]
  rw [show G m 0 c main_v0_2 = homeFC m c 0 from by unfold G; rw [dif_pos rfl], show G m 0 c main_v0_3 = homeFK m c 0 from by unfold G; rw [dif_neg (by decide), dif_pos rfl],
    homes16, homes17]
  unfold Inv
  rw [tiles_zero, idle_all]
  unfold Scr
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩, Hg, ⟨ZC, ZK⟩, -, ⟨HC, HK⟩⟩
  isplitl [S0 S1 S2 S3 S4 S5 S6 S7 S8 S9]
  · iexists f0, f1, f2, f3, f4, f7, f8, f9
    isplitr
    · ipureintro; intro b qi j e; omega
    isplitl [S0]; · iexact S0
    isplitl [S1]; · iexact S1
    isplitl [S2]; · iexact S2
    isplitl [S3]; · iexact S3
    isplitl [S4]; · iexact S4
    isplitl [S5]; · iexists f5; iexact S5
    isplitl [S6]; · iexists f6; iexact S6
    isplitl [S7]; · iexact S7
    isplitl [S8]; · iexact S8
    iexact S9
  isplitl [Hg]; · iexact Hg
  isplitl [S10 HC ZC]
  · isplitl [S10]; · iapply (split28 c f10); iexact S10
    isplitl [HC] <;> iassumption
  isplitl [S11]; · iapply (split29 c f11); iexact S11
  isplitl [HK] <;> iassumption

theorem hout : (dats m 0 c).Φ (Fin.last cfg0.N) ⊢ Pipeline.ΦDRG osem0 spec0 ∅ R0 (V m) (G m 8) c := by
  show Inv m c cfg0.N ⊢ _
  rw [show cfg0.N = 2496 from N_0, Pipeline.ΦDRG_eq, scopedRest0_eq, ownSems00_eq, routed_eq]
  rw [show G m 8 c main_v0_2 = homeFC m c 8 from by unfold G; rw [dif_pos rfl], show G m 8 c main_v0_3 = homeFK m c 8 from by unfold G; rw [dif_neg (by decide), dif_pos rfl],
    homes16, homes17]
  unfold Inv
  rw [tiles_end, idle_all]
  unfold Scr
  simp only [owns_whole]
  iintro ⟨⟨%f0, %f1, %f2, %f3, %f4, %f7, %f8, %f9, -, S0, S1, S2, S3, S4, S5, S6, S7, S8, S9⟩, Hg, ⟨PC, HC, ZC⟩, ⟨PK, HK, ZK⟩⟩
  isplitl [S0 S1 S2 S3 S4 S5 S6 S7 S8 S9 PC PK]
  · isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexact S5
    isplitl [S6]; · iexact S6
    isplitl [S7]; · iexists f7; iexact S7
    isplitl [S8]; · iexists f8; iexact S8
    isplitl [S9]; · iexists f9; iexact S9
    isplitl [PC]; · iapply (join28 c (m _)); iexact PC
    iapply (join29 c (m _)); iexact PK
  isplitl [Hg]; · iexact Hg
  isplitl [ZC ZK]; · isplitl [ZC] <;> iassumption
  isplitr
  · rw [BI.bigSep_empty]; iempintro
  isplitl [HC] <;> iassumption

end Cert.Kernel.Gen

end
-- ==== Proof.Run.lean ====
/-
  The run of the call: the body's triple at each grid point, the launch, and what the call leaves — its arguments
  unchanged, its semaphores at zero, its results at the contents the model names.
-/
module

public import proofs.«01_k».proof.Proof.Data

@[expose] public section

noncomputable section

namespace Cert.Kernel.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (c : Dev nD) (ρ : Dev nD → PrngReg)

theorem body_phases (t : Fin cfg0.N) : bodyAt0 (F := F) t = phaseA (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseB (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseC (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseD (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseE (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseF (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (pure ⟨⟩)))))) :=
  body_eq_phases (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13

theorem sound_first (t : Fin cfg0.N) (hj : (grid0.coords t 2).val = 0) :
    iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))
      ⊢ wp frame (wpE (defs₀ (F := F)) Variants.none c none) Set.univ (bodyAt0 t) (fun _ => iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))) := by
  have hb : (grid0.coords t 0).val < 8 := (grid0.coords t 0).isLt
  have hq : (grid0.coords t 1).val < 12 := (grid0.coords t 1).isLt
  have hv := val_coords t
  rw [body_phases, show (dats m 0 c).Φ t.castSucc = Inv m c t.val from rfl, show (dats m 0 c).Φ t.succ = Inv m c (t.val + 1) from rfl]
  unfold Inv
  iintro ⟨⟨HS, Hg, HT⟩, HW, H0, H1, H2, H3, H4, H5, H6, H7, H8, H9, H10, H11, H12⟩
  iapply (body_first m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.isWhole_whole _) (Memref.isWhole_whole _) (pure ⟨⟩) t.val hv hb hq hj)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  isplitl [HT]; · iexact HT
  isplitl [HW]; · iexact HW
  iintro ⟨H0, H1, H2, H3, H4, H5, H6, H7, H8, H9, HS, HT, HW⟩
  sl_step
  isplitl [HS Hg HT]
  · isplitl [HS]; · iexact HS
    isplitl [Hg]; · iexact Hg
    iexact HT
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_mid (t : Fin cfg0.N) (hj0 : 0 < (grid0.coords t 2).val) (hj : (grid0.coords t 2).val < 25) :
    iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))
      ⊢ wp frame (wpE (defs₀ (F := F)) Variants.none c none) Set.univ (bodyAt0 t) (fun _ => iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))) := by
  have hb : (grid0.coords t 0).val < 8 := (grid0.coords t 0).isLt
  have hq : (grid0.coords t 1).val < 12 := (grid0.coords t 1).isLt
  have hv := val_coords t
  rw [body_phases, show (dats m 0 c).Φ t.castSucc = Inv m c t.val from rfl, show (dats m 0 c).Φ t.succ = Inv m c (t.val + 1) from rfl]
  unfold Inv
  iintro ⟨⟨HS, Hg, HT⟩, HW, H0, H1, H2, H3, H4, H5, H6, H7, H8, H9, H10, H11, H12⟩
  iapply (body_mid m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.isWhole_whole _) (Memref.isWhole_whole _) (pure ⟨⟩) t.val hv hb hq hj0 hj)
  isplitl [H6]; · iexact H6
  isplitl [H7]; · iexact H7
  isplitl [H8]; · iexact H8
  isplitl [H9]; · iexact H9
  isplitl [H10]; · iexact H10
  isplitl [HS]; · iexact HS
  isplitl [HT]; · iexact HT
  isplitl [HW]; · iexact HW
  iintro ⟨H6, H7, H8, H9, H10, HS, HT, HW⟩
  sl_step
  isplitl [HS Hg HT]
  · isplitl [HS]; · iexact HS
    isplitl [Hg]; · iexact Hg
    iexact HT
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_last (t : Fin cfg0.N) (hj : (grid0.coords t 2).val = 25) :
    iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))
      ⊢ wp frame (wpE (defs₀ (F := F)) Variants.none c none) Set.univ (bodyAt0 t) (fun _ => iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ owns (c : Thread nD τ) (st0_11 t) fullShare ((dats m 0 c).after 11 t) ∗ owns (c : Thread nD τ) (st0_12 t) fullShare ((dats m 0 c).after 12 t))) := by
  have hb : (grid0.coords t 0).val < 8 := (grid0.coords t 0).isLt
  have hq : (grid0.coords t 1).val < 12 := (grid0.coords t 1).isLt
  have hv := val_coords t
  rw [body_phases, show (dats m 0 c).Φ t.castSucc = Inv m c t.val from rfl, show (dats m 0 c).Φ t.succ = Inv m c (t.val + 1) from rfl]
  rw [after_11, after_12]
  unfold Inv
  iintro ⟨⟨HS, Hg, HT⟩, HW, H0, H1, H2, H3, H4, H5, H6, H7, H8, H9, H10, ⟨%d11, H11⟩, ⟨%d12, H12⟩⟩
  iapply (body_last m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.isWhole_whole _) (Memref.isWhole_whole _) (pure ⟨⟩) t.val hv hb hq hj)
  isplitl [H10]; · iexact H10
  isplitl [H11]; · iexists _; iexact H11
  isplitl [H12]; · iexists _; iexact H12
  isplitl [HS]; · iexact HS
  isplitl [HT]; · iexact HT
  isplitl [HW]; · iexact HW
  iintro ⟨H10, H11, H12, HS, HT, HW⟩
  sl_step
  isplitl [HS Hg HT]
  · isplitl [HS]; · iexact HS
    isplitl [Hg]; · iexact Hg
    iexact HT
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

def bodyPre (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))
def bodyPost (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (dats m 0 c).leavesExact 11 t ∗ (dats m 0 c).leavesExact 12 t)

theorem owes_in (t : Fin (cfg0.N + 1)) : (dats m 0 c).owesAt () t ⊢ (iprop((∃ W, owes (c : Thread nD τ) 0 W)) : sProp 𝕄) := by
  unfold Dat.owesAt Pipeline.owesWithin
  rw [show (dats m 0 c).owed t = 0 from rfl]
  iintro ⟨%W, -, H⟩; iexists W; iexact H
theorem owes_out (t : Fin (cfg0.N + 1)) : (iprop((∃ W, owes (c : Thread nD τ) 0 W)) : sProp 𝕄) ⊢ (dats m 0 c).owesAt () t := by
  unfold Dat.owesAt Pipeline.owesWithin
  rw [show (dats m 0 c).owed t = 0 from rfl]
  iintro ⟨%W, H⟩; iexists W; isplitr
  · ipureintro; exact fun _ _ => Or.inl trivial
  iexact H

theorem out_idle (t : Fin cfg0.N) (h : (grid0.coords t 2).val ≠ 25) :
    iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ (∃ d, owns (c : Thread nD τ) (st0_11 t) fullShare ((dats m 0 c).before 11 t d)) ∗ (∃ d, owns (c : Thread nD τ) (st0_12 t) fullShare ((dats m 0 c).before 12 t d)))
      ⊢ bodyPost m c t := by
  unfold bodyPost
  iintro ⟨HI, HW, H0, H1, H2, H3, H4, H5, H6, H7, H8, H9, H10, H11, H12⟩
  isplitl [HI]; · iexact HI
  isplitl [HW]; · iapply (owes_out m c t.succ); iexact HW
  isplitl [H0]; · iapply (ent_of_eq (congrArg (owns (c : Thread nD τ) (st0_0 t) fullShare) (after_0 m c t).symm)); iexact H0
  isplitl [H1]; · iapply (ent_of_eq (congrArg (owns (c : Thread nD τ) (st0_1 t) fullShare) (after_1 m c t).symm)); iexact H1
  isplitl [H2]; · iapply (ent_of_eq (congrArg (owns (c : Thread nD τ) (st0_2 t) fullShare) (after_2 m c t).symm)); iexact H2
  isplitl [H3]; · iapply (ent_of_eq (congrArg (owns (c : Thread nD τ) (st0_3 t) fullShare) (after_3 m c t).symm)); iexact H3
  isplitl [H4]; · iapply (ent_of_eq (congrArg (owns (c : Thread nD τ) (st0_4 t) fullShare) (after_4 m c t).symm)); iexact H4
  isplitl [H5]; · iapply (ent_of_eq (congrArg (owns (c : Thread nD τ) (st0_5 t) fullShare) (after_5 m c t).symm)); iexact H5
  isplitl [H6]; · iapply (ent_of_eq (congrArg (owns (c : Thread nD τ) (st0_6 t) fullShare) (after_6 m c t).symm)); iexact H6
  isplitl [H7]; · iapply (ent_of_eq (congrArg (owns (c : Thread nD τ) (st0_7 t) fullShare) (after_7 m c t).symm)); iexact H7
  isplitl [H8]; · iapply (ent_of_eq (congrArg (owns (c : Thread nD τ) (st0_8 t) fullShare) (after_8 m c t).symm)); iexact H8
  isplitl [H9]; · iapply (ent_of_eq (congrArg (owns (c : Thread nD τ) (st0_9 t) fullShare) (after_9 m c t).symm)); iexact H9
  isplitl [H10]; · iapply (ent_of_eq (congrArg (owns (c : Thread nD τ) (st0_10 t) fullShare) (after_10 m c t).symm)); iexact H10
  isplitl [H11]; · iapply (ent_of_eq (idle_11 m c t h).symm); iexact H11
  iapply (ent_of_eq (idle_12 m c t h).symm); iexact H12
theorem out_live (t : Fin cfg0.N) (h : (grid0.coords t 2).val = 25) :
    iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ owns (c : Thread nD τ) (st0_11 t) fullShare ((dats m 0 c).after 11 t) ∗ owns (c : Thread nD τ) (st0_12 t) fullShare ((dats m 0 c).after 12 t))
      ⊢ bodyPost m c t := by
  unfold bodyPost
  iintro ⟨HI, HW, H0, H1, H2, H3, H4, H5, H6, H7, H8, H9, H10, H11, H12⟩
  isplitl [HI]; · iexact HI
  isplitl [HW]; · iapply (owes_out m c t.succ); iexact HW
  isplitl [H0]; · iapply (ent_of_eq (congrArg (owns (c : Thread nD τ) (st0_0 t) fullShare) (after_0 m c t).symm)); iexact H0
  isplitl [H1]; · iapply (ent_of_eq (congrArg (owns (c : Thread nD τ) (st0_1 t) fullShare) (after_1 m c t).symm)); iexact H1
  isplitl [H2]; · iapply (ent_of_eq (congrArg (owns (c : Thread nD τ) (st0_2 t) fullShare) (after_2 m c t).symm)); iexact H2
  isplitl [H3]; · iapply (ent_of_eq (congrArg (owns (c : Thread nD τ) (st0_3 t) fullShare) (after_3 m c t).symm)); iexact H3
  isplitl [H4]; · iapply (ent_of_eq (congrArg (owns (c : Thread nD τ) (st0_4 t) fullShare) (after_4 m c t).symm)); iexact H4
  isplitl [H5]; · iapply (ent_of_eq (congrArg (owns (c : Thread nD τ) (st0_5 t) fullShare) (after_5 m c t).symm)); iexact H5
  isplitl [H6]; · iapply (ent_of_eq (congrArg (owns (c : Thread nD τ) (st0_6 t) fullShare) (after_6 m c t).symm)); iexact H6
  isplitl [H7]; · iapply (ent_of_eq (congrArg (owns (c : Thread nD τ) (st0_7 t) fullShare) (after_7 m c t).symm)); iexact H7
  isplitl [H8]; · iapply (ent_of_eq (congrArg (owns (c : Thread nD τ) (st0_8 t) fullShare) (after_8 m c t).symm)); iexact H8
  isplitl [H9]; · iapply (ent_of_eq (congrArg (owns (c : Thread nD τ) (st0_9 t) fullShare) (after_9 m c t).symm)); iexact H9
  isplitl [H10]; · iapply (ent_of_eq (congrArg (owns (c : Thread nD τ) (st0_10 t) fullShare) (after_10 m c t).symm)); iexact H10
  isplitl [H11]; · iapply (ent_of_eq (live_11 m c t h).symm); iexact H11
  iapply (ent_of_eq (live_12 m c t h).symm); iexact H12
theorem into (t : Fin cfg0.N) : bodyPre m c t
      ⊢ iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ (∃ d, owns (c : Thread nD τ) (st0_11 t) fullShare ((dats m 0 c).before 11 t d)) ∗ (∃ d, owns (c : Thread nD τ) (st0_12 t) fullShare ((dats m 0 c).before 12 t d))) := by
  unfold bodyPre
  iintro ⟨HI, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  ihave HW := (owes_in m c t.castSucc) $$ HW
  ihave H0 := (ent_of_eq (congrArg (owns (c : Thread nD τ) (st0_0 t) fullShare) (before_0 m c t d0))) $$ H0
  ihave H1 := (ent_of_eq (congrArg (owns (c : Thread nD τ) (st0_1 t) fullShare) (before_1 m c t d1))) $$ H1
  ihave H2 := (ent_of_eq (congrArg (owns (c : Thread nD τ) (st0_2 t) fullShare) (before_2 m c t d2))) $$ H2
  ihave H3 := (ent_of_eq (congrArg (owns (c : Thread nD τ) (st0_3 t) fullShare) (before_3 m c t d3))) $$ H3
  ihave H4 := (ent_of_eq (congrArg (owns (c : Thread nD τ) (st0_4 t) fullShare) (before_4 m c t d4))) $$ H4
  ihave H5 := (ent_of_eq (congrArg (owns (c : Thread nD τ) (st0_5 t) fullShare) (before_5 m c t d5))) $$ H5
  ihave H6 := (ent_of_eq (congrArg (owns (c : Thread nD τ) (st0_6 t) fullShare) (before_6 m c t d6))) $$ H6
  ihave H7 := (ent_of_eq (congrArg (owns (c : Thread nD τ) (st0_7 t) fullShare) (before_7 m c t d7))) $$ H7
  ihave H8 := (ent_of_eq (congrArg (owns (c : Thread nD τ) (st0_8 t) fullShare) (before_8 m c t d8))) $$ H8
  ihave H9 := (ent_of_eq (congrArg (owns (c : Thread nD τ) (st0_9 t) fullShare) (before_9 m c t d9))) $$ H9
  ihave H10 := (ent_of_eq (congrArg (owns (c : Thread nD τ) (st0_10 t) fullShare) (before_10 m c t d10))) $$ H10
  isplitl [HI]; · iexact HI
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (t : Fin cfg0.N) :
    bodyPre m c t ⊢ wp frame (wpE (defs₀ (F := F)) Variants.none c none) Set.univ (bodyAt0 t) (fun _ => bodyPost m c t) := by
  have hj : (grid0.coords t 2).val < 26 := (grid0.coords t 2).isLt
  by_cases h0 : (grid0.coords t 2).val = 0
  · exact (into m c t).trans ((sound_first m c t h0).trans ((wp frame (wpE (defs₀ (F := F)) Variants.none c none) Set.univ (bodyAt0 t)).mono fun _ => out_idle m c t (by omega)))
  by_cases h1 : (grid0.coords t 2).val = 25
  · exact (into m c t).trans ((sound_last m c t h1).trans ((wp frame (wpE (defs₀ (F := F)) Variants.none c none) Set.univ (bodyAt0 t)).mono fun _ => out_live m c t h1))
  · exact (into m c t).trans ((sound_mid m c t (by omega) (by omega)).trans ((wp frame (wpE (defs₀ (F := F)) Variants.none c none) Set.univ (bodyAt0 t)).mono fun _ => out_idle m c t h1))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main : θ_run defs (onTc (τ := τ) (main (F := F))) (s₀ m ρ)
    (fun r => Pipeline.FramePostRG cfgs (dats m) 0 R0 (V m) (G m 8) r ∧ r.2.sem = fun _ => 0) :=
  Pipeline.θ_run_frame_dmaRG_shared (Q' := _) cfgs (dats m) (0 : Fin 1) launch₀0 osem0 defs₀ Variants.none ownSemFacts0 ∅ R0 (Finset.empty_subset _) R0_sub m ρ main
    (hbody := fun c => (body_obligation m c).loose) (hq := fun _ _ _ => rfl)
    (howed := fun _ _ => rfl) (V := V m) (hmain := hmainD m Variants.none) (hA := A_eq m) (G := G m 8)
    (hin := fun c => hin m c) (hout := fun c => hout m c)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 4).trans (((dats m 0 c).arrAt_in 4 rfl _).trans ((A_eq m c 4).trans (V_main_arg4 m c))),
      ((h.1.1 c).1 5).trans (((dats m 0 c).arrAt_in 5 rfl _).trans ((A_eq m c 5).trans (V_main_arg5 m c))),
      ((h.1.1 c).1 6).trans (((dats m 0 c).arrAt_in 6 rfl _).trans ((A_eq m c 6).trans (V_main_arg6 m c))),
      ((h.1.1 c).1 10).trans (((dats m 0 c).arrAt_in 10 rfl _).trans ((A_eq m c 10).trans (V_main_arg7 m c))),
      ((h.1.1 c).1 7).trans (((dats m 0 c).arrAt_in 7 rfl _).trans ((A_eq m c 7).trans (V_main_arg8 m c))),
      ((h.1.1 c).1 8).trans (((dats m 0 c).arrAt_in 8 rfl _).trans ((A_eq m c 8).trans (V_main_arg9 m c)))⟩, h.2⟩) (run_main m ρ)

end Cert.Kernel.Gen

end
-- ==== Proof.Ideal.Phases.lean ====
module

public import proofs.«01_k».proof.Proof.Gen.KernelIdeal.Skeleton

@[expose] public section

noncomputable section

namespace Cert.KernelIdeal.Gen

open Idealize.ShloMosaic Idealize.SL.Sem

variable {F : FTy → Type} [FloatOps F] [Named F]

noncomputable def phaseA (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h1 : k0_cond1 i = 1#1 then do
    if k0_h2 : k0_cond2 i = 1#1 then do
      let v53 : DmaSems sig S1 := arg30.slice (Rect.unit (s := S25) (k0_off1 i) S1.size (k0_off1_inb i k0_h1 k0_h2))
      let v54 : DmaSems sig S_ := v53.squeeze S_ squeezes_S1_S_
      let v55 : Memref sig .tc .hbm S1x512x512 .f32 := arg16.slice (Rect.unit (s := S8x12672x512) (k0_off2 i) S1x512x512.size (k0_off2_inb i k0_h1 k0_h2)) (fun _ => rfl)
      let v56 : Memref sig .tc .hbm S512x512 .f32 := v55.squeeze S512x512 squeezes_S1x512x512_S512x512
      let v57 : Memref sig .tc .vmem S512x512 .f32 := arg28.slice (Rect.unit (s := S12800x512) (k0_off3 i) S512x512.size (k0_off3_inb i k0_h1 k0_h2)) (fun _ => rfl)
      Prog.lift (.waitDma2 v54.sem v57 v56 (View.wordExact_bits rfl) ((View.wordExact_bits rfl).reshape _ _))
      let v58 : DmaSems sig S1 := arg31.slice (Rect.unit (s := S25) (k0_off1 i) S1.size (k0_off1_inb i k0_h1 k0_h2))
      let v59 : DmaSems sig S_ := v58.squeeze S_ squeezes_S1_S_
      let v60 : Memref sig .tc .hbm S1x64x512 .f32 := arg17.slice (Rect.unit (s := S8x64x12672) (k0_off4 i) S1x64x512.size (k0_off4_inb i k0_h1 k0_h2)) (fun _ => rfl)
      let v61 : Memref sig .tc .hbm S64x512 .f32 := v60.squeeze S64x512 squeezes_S1x64x512_S64x512
      let v62 : Memref sig .tc .vmem S64x512 .f32 := arg29.slice (Rect.unit (s := S64x12800) (k0_off5 i) S64x512.size (k0_off5_inb i k0_h1 k0_h2)) (fun _ => rfl)
      Prog.lift (.waitDma2 v59.sem v62 v61 (View.wordExact_bits rfl) ((View.wordExact_bits rfl).reshape _ _))
      pure ⟨⟩
    else do
      pure ⟨⟩
    if k0_h3 : k0_cond3 i = 1#1 then do
      let v51 : DmaSems sig S1 := arg30.slice (Rect.unit (s := S25) ![24] S1.size inb_S25_S1_24)
      let v52 : DmaSems sig S_ := v51.squeeze S_ squeezes_S1_S_
      let v53 : Memref sig .tc .hbm S1x384x512 .f32 := arg16.slice (Rect.unit (s := S8x12672x512) (k0_off6 i) S1x384x512.size (k0_off6_inb i k0_h1 k0_h3)) (fun _ => rfl)
      let v54 : Memref sig .tc .hbm S384x512 .f32 := v53.squeeze S384x512 squeezes_S1x384x512_S384x512
      let v55 : Memref sig .tc .vmem S384x512 .f32 := arg28.slice (Rect.unit (s := S12800x512) ![12288, 0] S384x512.size inb_S12800x512_S384x512_12288_0) (fun _ => rfl)
      Prog.lift (.waitDma2 v52.sem v55 v54 (View.wordExact_bits rfl) ((View.wordExact_bits rfl).reshape _ _))
      let v56 : DmaSems sig S1 := arg31.slice (Rect.unit (s := S25) ![24] S1.size inb_S25_S1_24)
      let v57 : DmaSems sig S_ := v56.squeeze S_ squeezes_S1_S_
      let v58 : Memref sig .tc .hbm S1x64x384 .f32 := arg17.slice (Rect.unit (s := S8x64x12672) (k0_off7 i) S1x64x384.size (k0_off7_inb i k0_h1 k0_h3)) (fun _ => rfl)
      let v59 : Memref sig .tc .hbm S64x384 .f32 := v58.squeeze S64x384 squeezes_S1x64x384_S64x384
      let v60 : Memref sig .tc .vmem S64x384 .f32 := arg29.slice (Rect.unit (s := S64x12800) ![0, 12288] S64x384.size inb_S64x12800_S64x384_0_12288) (fun _ => rfl)
      Prog.lift (.waitDma2 v57.sem v60 v59 (View.wordExact_bits rfl) ((View.wordExact_bits rfl).reshape _ _))
      pure ⟨⟩
    else do
      pure ⟨⟩
    let v42 : Vec F S512x512 .f32 ← Prog.lift (.load arg28 (Rect.unit (s := S12800x512) (k0_off8 i) S512x512.size (k0_off8_inb i k0_h1)).toLoadRect (View.loadsAt_vmem h_S512x512))
    Prog.lift (.store arg28 (Rect.unit (s := S12800x512) (k0_off8 i) S512x512.size (k0_off8_inb i k0_h1)) (k0_pay1 (F := F)) Finset.univ (View.stores_vmem_bits_univ h_S512x512 rfl) (.inl rfl))
    let v47 : Vec F S64x512 .f32 ← Prog.lift (.load arg29 (Rect.unit (s := S64x12800) (k0_off9 i) S64x512.size (k0_off9_inb i k0_h1)).toLoadRect (View.loadsAt_vmem h_S64x512))
    Prog.lift (.store arg29 (Rect.unit (s := S64x12800) (k0_off9 i) S64x512.size (k0_off9_inb i k0_h1)) (k0_pay2 (F := F)) Finset.univ (View.stores_vmem_bits_univ h_S64x512 rfl) (.inl rfl))
    pure ⟨⟩
  else do
    pure ⟨⟩
  K

noncomputable def phaseB (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h4 : k0_cond4 i = 1#1 then do
    let ⟨v48, v51, v56, v58, v60, v62, v63⟩ : Σ' (v48 : FVec F S1x1024 .f32) (v51 : FVec F S1x1024 .f32) (v56 : IVec S16x1024 1) (v58 : IVec S16x1024 1) (v60 : IVec S16x1024 1) (v62 : FVec F S16x1024 .f32), FVec F S16x1024 .f32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
    let ⟨v106, v107, c128_i32⟩ : Σ' (v106 : IVec S128x1024 32) (v107 : IVec S128x1024 32), BitVec 32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 1).val) v48 v51 v56 v58 v60 v62 v63
    let ⟨v142, v147⟩ : Σ' (v142 : FVec F S1024x512 .f32), FVec F S1024x512 .bf16 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v106 v107 c128_i32
    let ⟨v169, v179⟩ : Σ' (v169 : FVec F S256x512 .bf16), FVec F S256x1024 .f32 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v142 v147
    let ⟨v205, v207, v208, v209⟩ : Σ' (v205 : FVec F S256x1024 .f32) (v207 : FVec F S256x1024 .f32) (v208 : FVec F S256x1024 .bf16), Vec F S256x1024 .bf16 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v169 v179
    let ⟨v221, v222, v240⟩ : Σ' (v221 : Vec F S256x1024 .bf16) (v222 : BitVec 32), FVec F S256x512 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 v205 v207 v208 v209
    let v242 : Vec F S256x512 .f32 ← Prog.lift (.load arg28 (Rect.unit (s := S12800x512) ![0, 0] S256x512.size inb_S12800x512_S256x512_0_0).toLoadRect (View.loadsAt_vmem h_S256x512))
    Prog.lift (.store arg28 (Rect.unit (s := S12800x512) ![0, 0] S256x512.size inb_S12800x512_S256x512_0_0) (k0_pay3 v240) Finset.univ (View.stores_vmem_bits_univ h_S256x512 rfl) (.inl rfl))
    let v246 : Vec F S64x256 .f32 ← Prog.lift (.load arg29 (Rect.unit (s := S64x12800) ![0, 0] S64x256.size inb_S64x12800_S64x256_0_0).toLoadRect (View.loadsAt_vmem h_S64x256))
    let v247 : Vec F S64x1024 .bf16 ← Prog.lift (.load arg18 (Rect.unit (s := S768x1024) ![512, 0] S64x1024.size inb_S768x1024_S64x1024_512_0).toLoadRect (View.loadsAt_vmem h_S64x1024))
    let v253 : Vec F S64x256 .f32 ← Prog.lift (.load arg29 (Rect.unit (s := S64x12800) ![0, 0] S64x256.size inb_S64x12800_S64x256_0_0).toLoadRect (View.loadsAt_vmem h_S64x256))
    Prog.lift (.store arg29 (Rect.unit (s := S64x12800) ![0, 0] S64x256.size inb_S64x12800_S64x256_0_0) (k0_pay4 v221 v246 v247) Finset.univ (View.stores_vmem_bits_univ h_S64x256 rfl) (.inl rfl))
    pure ⟨⟩
  else do
    pure ⟨⟩
  K

noncomputable def phaseC (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h5 : k0_cond5 i = 1#1 then do
    let ⟨v55, v56⟩ : Σ' (v55 : BitVec 32), Vec F S256x1024 .bf16 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 2).val)
    let v91 : FVec F S64x256 .f32 ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h5 v55 v56
    let ⟨v118, v119, v120⟩ : Σ' (v118 : BitVec 32) (v119 : Vec F S256x1024 .bf16), Vec F S256x1024 .bf16 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 2).val) k0_h5 v91
    k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h5 v118 v119 v120
    pure ⟨⟩
  else do
    pure ⟨⟩
  K

noncomputable def phaseD (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h6 : k0_cond6 i = 1#1 then do
    let ⟨v32, v56, v58⟩ : Σ' (v32 : BitVec 32) (v56 : Vec F S64x256 .f32), FVec F S64x256 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (BitVec.ofNat 32 (i 2).val) k0_h6
    let v63 : Vec F S64x256 .f32 ← Prog.lift (.load arg29 (Rect.unit (s := S64x12800) (k0_off15 i) S64x256.size (k0_off15_inb i k0_h6)).toLoadRect (View.loadsAt_vmem h_S64x256))
    Prog.lift (.store arg29 (Rect.unit (s := S64x12800) (k0_off15 i) S64x256.size (k0_off15_inb i k0_h6)) (k0_pay5 v56 v58) Finset.univ (View.stores_vmem_bits_univ h_S64x256 rfl) (.inl rfl))
    let v66 : Vec F S512x1024 .f32 ← Prog.lift (.load arg27 (Rect.unit (s := S576x1024) ![0, 0] S512x1024.size inb_S576x1024_S512x1024_0_0).toLoadRect (View.loadsAt_vmem h_S512x1024))
    let v71 : Vec F S1x1024x512 .bf16 ← Prog.lift (.load arg14 (Rect.unit (s := S1x1024x512) ![0, 0, 0] S1x1024x512.size inb_S1x1024x512_S1x1024x512_0_0_0).toLoadRect (View.loadsAt_vmem h_S1x1024x512))
    Prog.lift (.store arg14 (Rect.unit (s := S1x1024x512) ![0, 0, 0] S1x1024x512.size inb_S1x1024x512_S1x1024x512_0_0_0) (k0_pay6 v66) Finset.univ (View.stores_vmem h_S1x1024x512 (harg14.storeExact_slice rfl _ packedbf16_S1x1024x512_S1x1024x512_0_0_0) (fun _ => rfl)) (.inl rfl))
    let v74 : Vec F S64x1024 .f32 ← Prog.lift (.load arg27 (Rect.unit (s := S576x1024) ![512, 0] S64x1024.size inb_S576x1024_S64x1024_512_0).toLoadRect (View.loadsAt_vmem h_S64x1024))
    let v79 : Vec F S1x1024x64 .bf16 ← Prog.lift (.load arg15 (Rect.unit (s := S1x1024x64) ![0, 0, 0] S1x1024x64.size inb_S1x1024x64_S1x1024x64_0_0_0).toLoadRect (View.loadsAt_vmem h_S1x1024x64))
    Prog.lift (.store arg15 (Rect.unit (s := S1x1024x64) ![0, 0, 0] S1x1024x64.size inb_S1x1024x64_S1x1024x64_0_0_0) (k0_pay7 v74) Finset.univ (View.stores_vmem h_S1x1024x64 (harg15.storeExact_slice rfl _ packedbf16_S1x1024x64_S1x1024x64_0_0_0) (fun _ => rfl)) (.inl rfl))
    pure ⟨⟩
  else do
    pure ⟨⟩
  K

noncomputable def phaseE (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h7 : k0_cond7 i = 1#1 then do
    let v31 : DmaSems sig S1 := arg30.slice (Rect.unit (s := S25) (k0_off16 i) S1.size (k0_off16_inb i k0_h7))
    let v32 : DmaSems sig S_ := v31.squeeze S_ squeezes_S1_S_
    let v33 : Memref sig .tc .hbm S1x512x512 .f32 := arg16.slice (Rect.unit (s := S8x12672x512) (k0_off17 i) S1x512x512.size (k0_off17_inb i k0_h7)) (fun _ => rfl)
    let v34 : Memref sig .tc .hbm S512x512 .f32 := v33.squeeze S512x512 squeezes_S1x512x512_S512x512
    let v35 : Memref sig .tc .vmem S512x512 .f32 := arg28.slice (Rect.unit (s := S12800x512) (k0_off18 i) S512x512.size (k0_off18_inb i k0_h7)) (fun _ => rfl)
    Prog.lift (.enqueueDma v35 (.here v34) (.dma v32.sem) (View.wordExact_bits rfl) ((View.wordExact_bits rfl).reshape _ _) ⟨Or.inl rfl, trivial⟩)
    let v36 : DmaSems sig S1 := arg31.slice (Rect.unit (s := S25) (k0_off16 i) S1.size (k0_off16_inb i k0_h7))
    let v37 : DmaSems sig S_ := v36.squeeze S_ squeezes_S1_S_
    let v38 : Memref sig .tc .hbm S1x64x512 .f32 := arg17.slice (Rect.unit (s := S8x64x12672) (k0_off19 i) S1x64x512.size (k0_off19_inb i k0_h7)) (fun _ => rfl)
    let v39 : Memref sig .tc .hbm S64x512 .f32 := v38.squeeze S64x512 squeezes_S1x64x512_S64x512
    let v40 : Memref sig .tc .vmem S64x512 .f32 := arg29.slice (Rect.unit (s := S64x12800) (k0_off20 i) S64x512.size (k0_off20_inb i k0_h7)) (fun _ => rfl)
    Prog.lift (.enqueueDma v40 (.here v39) (.dma v37.sem) (View.wordExact_bits rfl) ((View.wordExact_bits rfl).reshape _ _) ⟨Or.inl rfl, trivial⟩)
    pure ⟨⟩
  else do
    pure ⟨⟩
  K

noncomputable def phaseF (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) :
    Prog (TpuEff nD τ sig (Elt F) Λ₀ .tc) PUnit := do
  if k0_h8 : k0_cond8 i = 1#1 then do
    let v28 : DmaSems sig S1 := arg30.slice (Rect.unit (s := S25) ![24] S1.size inb_S25_S1_24)
    let v29 : DmaSems sig S_ := v28.squeeze S_ squeezes_S1_S_
    let v30 : Memref sig .tc .hbm S1x384x512 .f32 := arg16.slice (Rect.unit (s := S8x12672x512) (k0_off21 i) S1x384x512.size (k0_off21_inb i k0_h8)) (fun _ => rfl)
    let v31 : Memref sig .tc .hbm S384x512 .f32 := v30.squeeze S384x512 squeezes_S1x384x512_S384x512
    let v32 : Memref sig .tc .vmem S384x512 .f32 := arg28.slice (Rect.unit (s := S12800x512) ![12288, 0] S384x512.size inb_S12800x512_S384x512_12288_0) (fun _ => rfl)
    Prog.lift (.enqueueDma v32 (.here v31) (.dma v29.sem) (View.wordExact_bits rfl) ((View.wordExact_bits rfl).reshape _ _) ⟨Or.inl rfl, trivial⟩)
    let v33 : DmaSems sig S1 := arg31.slice (Rect.unit (s := S25) ![24] S1.size inb_S25_S1_24)
    let v34 : DmaSems sig S_ := v33.squeeze S_ squeezes_S1_S_
    let v35 : Memref sig .tc .hbm S1x64x384 .f32 := arg17.slice (Rect.unit (s := S8x64x12672) (k0_off22 i) S1x64x384.size (k0_off22_inb i k0_h8)) (fun _ => rfl)
    let v36 : Memref sig .tc .hbm S64x384 .f32 := v35.squeeze S64x384 squeezes_S1x64x384_S64x384
    let v37 : Memref sig .tc .vmem S64x384 .f32 := arg29.slice (Rect.unit (s := S64x12800) ![0, 12288] S64x384.size inb_S64x12800_S64x384_0_12288) (fun _ => rfl)
    Prog.lift (.enqueueDma v37 (.here v36) (.dma v34.sem) (View.wordExact_bits rfl) ((View.wordExact_bits rfl).reshape _ _) ⟨Or.inl rfl, trivial⟩)
    if k0_h9 : k0_cond9 i = 1#1 then do
      k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 k0_h8 k0_h9
      let v286 : DmaSems sig S1 := arg31.slice (Rect.unit (s := S25) ![24] S1.size inb_S25_S1_24)
      let v287 : DmaSems sig S_ := v286.squeeze S_ squeezes_S1_S_
      let v288 : Memref sig .tc .hbm S1x64x384 .f32 := arg17.slice (Rect.unit (s := S8x64x12672) (k0_off72 i) S1x64x384.size (k0_off72_inb i k0_h8 k0_h9)) (fun _ => rfl)
      let v289 : Memref sig .tc .hbm S64x384 .f32 := v288.squeeze S64x384 squeezes_S1x64x384_S64x384
      let v290 : Memref sig .tc .vmem S64x384 .f32 := arg29.slice (Rect.unit (s := S64x12800) ![0, 12288] S64x384.size inb_S64x12800_S64x384_0_12288) (fun _ => rfl)
      Prog.lift (.waitDma2 v287.sem v290 v289 (View.wordExact_bits rfl) ((View.wordExact_bits rfl).reshape _ _))
      pure ⟨⟩
    else do
      pure ⟨⟩
    pure ⟨⟩
  else do
    pure ⟨⟩
  K

set_option maxRecDepth 65536 in
theorem body_eq_phases (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) :
    cc0_mla_backward_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 =
      phaseA (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseB (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseC (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseD (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseE (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31
      (phaseF (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 (pure ⟨⟩)))))) := rfl

end Cert.KernelIdeal.Gen

end
-- ==== Proof.Ideal.Model.lean ====
/-
  What the blocks of one grid point become in the working buffers, as functions of the values read: the
  forms in which every later module names the contents. No memory is mentioned here.
-/
module

public import proofs.«01_k».proof.Proof.Gen.KernelIdeal.Skeleton
public import Idealize.ShloMosaic.Lib.Pipeline.FrameBody

@[expose] public section

noncomputable section

namespace Cert.KernelIdeal.Gen

open Idealize.ShloMosaic Idealize.SL.Sem

variable {F : FTy → Type} [FloatOps F] [Named F]

/-- Rows 0–255 and rows 256–511 of a point's key block, of its extended columns and of its bias columns. -/
abbrev kR0 : Rect S1x512x512 := Rect.unit (s := S1x512x512) ![0, 0, 0] S1x256x512.size inb_S1x512x512_S1x256x512_0_0_0
abbrev kR1 : Rect S1x512x512 := Rect.unit (s := S1x512x512) ![0, 256, 0] S1x256x512.size inb_S1x512x512_S1x256x512_0_256_0
abbrev kxR0 : Rect S1x512x128 := Rect.unit (s := S1x512x128) ![0, 0, 0] S1x256x128.size inb_S1x512x128_S1x256x128_0_0_0
abbrev kxR1 : Rect S1x512x128 := Rect.unit (s := S1x512x128) ![0, 256, 0] S1x256x128.size inb_S1x512x128_S1x256x128_0_256_0
abbrev bR0 : Rect S1x1x512x128 := Rect.unit (s := S1x1x512x128) ![0, 0, 0, 0] S1x1x256x128.size inb_S1x1x512x128_S1x1x256x128_0_0_0_0
abbrev bR1 : Rect S1x1x512x128 := Rect.unit (s := S1x1x512x128) ![0, 0, 256, 0] S1x1x256x128.size inb_S1x1x512x128_S1x1x256x128_0_0_256_0
/-- The rows of the stacked transposed queries that the rotary part occupies. -/
abbrev qrR : Rect S768x1024 := Rect.unit (s := S768x1024) ![512, 0] S64x1024.size inb_S768x1024_S64x1024_512_0
/-- One row of the row-sum buffer (its eight rows are equal). -/
abbrev dR : Rect S8x1024 := Rect.unit (s := S8x1024) ![0, 0] S1x1024.size inb_S8x1024_S1x1024_0_0

/-- The probabilities of key half `0` or `1` of a block, transposed: keys by queries. -/
def pOf (half : Bool) (xk : Vec F S1x512x512 .bf16) (xkx : Vec F S1x512x128 .bf16) (xb : Vec F S1x1x512x128 .bf16)
    (qt : Vec F S768x1024 .bf16) : Vec F S256x1024 .bf16 :=
  match half with
  | false => k0_pay44 (View.ld xk kR0) (View.ld xkx kxR0) (View.ld xb bR0) qt
  | true => k0_pay44 (View.ld xk kR1) (View.ld xkx kxR1) (View.ld xb bR1) qt

/-- The score gradients of key half `0` or `1` of a block, transposed. -/
def dsOf (half : Bool) (xk : Vec F S1x512x512 .bf16) (xkx : Vec F S1x512x128 .bf16) (xb : Vec F S1x1x512x128 .bf16)
    (qt : Vec F S768x1024 .bf16) (dot : Vec F S512x1024 .bf16) (delta : Vec F S8x1024 .f32) : Vec F S256x1024 .bf16 :=
  match half with
  | false => k0_pay45 (View.ld xk kR0) (View.ld xkx kxR0) (View.ld xb bR0) qt dot (View.ld delta dR)
  | true => k0_pay45 (View.ld xk kR1) (View.ld xkx kxR1) (View.ld xb bR1) qt dot (View.ld delta dR)

/-- The query gradient (transposed) with one key half added. -/
def dqStep (acc : Vec F S576x1024 .f32) (ds : Vec F S256x1024 .bf16) (kt : Vec F S1x576x256 .bf16) : Vec F S576x1024 .f32 :=
  k0_pay46 ds acc kt

/-- A key half's compressed-key gradient with one query tile added. -/
def dcStep (acc : Vec F S256x512 .f32) (p ds : Vec F S256x1024 .bf16) (dov q : Vec F S1024x512 .bf16) : Vec F S256x512 .f32 :=
  k0_pay47 p ds acc dov q

/-- A key half's rotary-key gradient (transposed) with one query tile added. -/
def dkStep (acc : Vec F S64x256 .f32) (ds : Vec F S256x1024 .bf16) (qt : Vec F S768x1024 .bf16) : Vec F S64x256 .f32 :=
  k0_pay48 ds acc (View.ld qt qrR)

/-- The stacked transposed queries of a query tile: the queries, the rotary queries, the three parts of the scaled
    log-sum, zeros, and the rows that pick each query's token. -/
def qtPieces (qi : BitVec 32) (xq : Vec F S1x1024x512 .bf16) (xqr : Vec F S1x1024x64 .bf16) (xlse : Vec F S1x1x1x1024 .f32) :
    List (View.Piece (Elt F) S768x1024 .bf16) :=
  [⟨Rect.unit (s := S768x1024) ![640, 0] S128x1024.size inb_S768x1024_S128x1024_640_0,
      k0_pay23 (F := F) (k0_pay22 qi) (iota .tc S128x1024 32 [0] iota_S128x1024_d0_w32) 128#32⟩,
   ⟨Rect.unit (s := S768x1024) ![592, 0] S48x1024.size inb_S768x1024_S48x1024_592_0, k0_pay21 (F := F)⟩,
   ⟨Rect.unit (s := S768x1024) ![576, 0] S16x1024.size inb_S768x1024_S16x1024_576_0,
      k0_pay20 (k0_pay13 xlse) (k0_pay14 xlse) k0_pay15 k0_pay16 k0_pay17 (k0_pay18 xlse) (k0_pay19 (F := F))⟩,
   ⟨Rect.unit (s := S768x1024) ![512, 0] S64x1024.size inb_S768x1024_S64x1024_512_0, k0_pay11 xqr⟩,
   ⟨Rect.unit (s := S768x1024) ![0, 0] S512x1024.size inb_S768x1024_S512x1024_0_0, k0_pay9 xq⟩]

def qtOf [∀ e, Nonempty (Elt F e)] (qi : BitVec 32) (xq : Vec F S1x1024x512 .bf16) (xqr : Vec F S1x1024x64 .bf16) (xlse : Vec F S1x1x1x1024 .f32) :
    Vec F S768x1024 .bf16 := View.canon (qtPieces qi xq xqr xlse)

/-- The queries, the output gradient, its transpose and the row sums of a query tile. -/
def qOf (xq : Vec F S1x1024x512 .bf16) : Vec F S1024x512 .bf16 := k0_pay10 xq
def doOf (xdos : Vec F S1x1x1x1024 .f32) (xdo : Vec F S1x1024x512 .fp8e5m2) : Vec F S1024x512 .bf16 := k0_pay25 xdos xdo
def dotOf (xdos : Vec F S1x1x1x1024 .f32) (xdo : Vec F S1x1024x512 .fp8e5m2) : Vec F S512x1024 .bf16 := k0_pay27 (k0_pay26 xdos xdo)
def deltaOf (xdos : Vec F S1x1x1x1024 .f32) (xdo : Vec F S1x1024x512 .fp8e5m2) (xo : Vec F S1x1024x512 .bf16) : Vec F S8x1024 .f32 :=
  k0_pay28 (k0_pay24 xdos xdo) xo
def dqZero : Vec F S576x1024 .f32 := k0_pay29

/-- The blocks of query gradients a query tile ends with. -/
def dqOut (acc : Vec F S576x1024 .f32) : Vec F S1x1024x512 .bf16 :=
  k0_pay6 (View.ld acc (Rect.unit (s := S576x1024) ![0, 0] S512x1024.size inb_S576x1024_S512x1024_0_0))
def dqrOut (acc : Vec F S576x1024 .f32) : Vec F S1x1024x64 .bf16 :=
  k0_pay7 (View.ld acc (Rect.unit (s := S576x1024) ![512, 0] S64x1024.size inb_S576x1024_S64x1024_512_0))

/-! ## The payloads the program spells several times are one function -/

theorem pay51_eq : @k0_pay51 F _ = @k0_pay44 F _ := rfl
theorem pay52_eq : @k0_pay52 F _ = @k0_pay45 F _ := rfl
theorem pay53_eq : @k0_pay53 F _ = @k0_pay46 F _ := rfl
theorem pay54_eq : @k0_pay54 F _ = @k0_pay47 F _ := rfl
theorem pay55_eq : @k0_pay55 F _ = @k0_pay48 F _ := rfl
theorem pay56_eq : @k0_pay56 F _ = @k0_pay46 F _ := rfl
theorem pay57_eq : @k0_pay57 F _ = @k0_pay47 F _ := rfl
theorem pay5_58_eq (a : Vec F S256x1024 .bf16) (b : Vec F S64x256 .f32) (d : Vec F S64x1024 .bf16) : k0_pay5 b (k0_pay58 a d) = k0_pay48 a b d := rfl
theorem pay40_eq : @k0_pay40 F _ = @k0_pay46 F _ := rfl
theorem pay3_41_eq (a b : Vec F S256x1024 .bf16) (x : Vec F S256x512 .f32) (d e : Vec F S1024x512 .bf16) :
    k0_pay3 (k0_pay41 a b x d e) = k0_pay47 a b x d e := rfl
theorem pay4_eq : @k0_pay4 F _ = @k0_pay48 F _ := rfl
theorem pay32_eq (a : Vec F S1x256x512 .bf16) (b : Vec F S1x256x128 .bf16) (d : Vec F S1x1x256x128 .bf16) (e : Vec F S768x1024 .bf16) :
    k0_pay32 (k0_pay31 a b d e) = k0_pay44 a b d e := rfl
theorem pay33_eq (a : Vec F S1x256x512 .bf16) (b : Vec F S1x256x128 .bf16) (d : Vec F S1x1x256x128 .bf16) (e : Vec F S768x1024 .bf16)
    (x : Vec F S512x1024 .bf16) (y : Vec F S1x1024 .f32) :
    k0_pay33 (k0_pay30 a) (k0_pay31 a b d e) x y = k0_pay45 a b d e x y := rfl
theorem pay38_eq (a : Vec F S1x256x512 .bf16) (b : Vec F S1x256x128 .bf16) (d : Vec F S1x1x256x128 .bf16) (e : Vec F S768x1024 .bf16) :
    k0_pay38 (k0_pay37 a b d e) = k0_pay44 a b d e := rfl
theorem pay39_eq (a : Vec F S1x256x512 .bf16) (b : Vec F S1x256x128 .bf16) (d : Vec F S1x1x256x128 .bf16) (e : Vec F S768x1024 .bf16)
    (x : Vec F S512x1024 .bf16) (y : Vec F S1x1024 .f32) :
    k0_pay39 (k0_pay35 a b d e) (k0_pay36 a x) y = k0_pay45 a b d e x y := rfl

end Cert.KernelIdeal.Gen

end
-- ==== Proof.Ideal.Runs.lean ====
/-
  What each phase of the body does to the buffers it touches: the reads and stores of a phase run once, over
  any memory references, with the contents before and after named by the functions of Model.
-/
module

public import proofs.«01_k».proof.Proof.Ideal.Phases
public import proofs.«01_k».proof.Proof.Ideal.Model
public import Idealize.ShloMosaic.Lib.Tactic
public import Idealize.ShloMosaic.Lib.Pipeline.FrameBody
public import Idealize.ShloMosaic.Lib.VecWindow

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ
/-! ## Whole loads and whole stores, at the shapes of the buffers -/

section

variable {κ : Kind} {sp : Space} {e : EltTy}

theorem rwF_S768x1024 (v : View sig κ sp S768x1024 e) (f : v.ty.Contents (Elt F)) {off : Fin 2 → ℕ} (inb : ∀ a, off a + ![768, 1024] a ≤ S768x1024.size a)
    (w : (Rect.unit (s := S768x1024) off ![768, 1024] inb).shape.Idx → Elt F e) (L : List (View.Piece (Elt F) S768x1024 e)) :
    v.read (Elt F) (v.writes (Elt F) f (⟨Rect.unit (s := S768x1024) off ![768, 1024] inb, w⟩ :: L)) = w := View.read_writes_full v f inb w L
theorem raF_S768x1024 (v : View sig κ sp S768x1024 e) (f : v.ty.Contents (Elt F)) {off : Fin 2 → ℕ} (inb : ∀ a, off a + ![768, 1024] a ≤ S768x1024.size a) :
    v.readAt (Elt F) (Rect.unit (s := S768x1024) off ![768, 1024] inb).toLoadRect f = v.read (Elt F) f := View.readAt_full v f inb
theorem rcF_S768x1024 (v : View sig κ sp S768x1024 e) {off off' : Fin 2 → ℕ} (inb : ∀ a, off a + ![768, 1024] a ≤ S768x1024.size a) (inb' : ∀ a, off' a + ![768, 1024] a ≤ S768x1024.size a)
    (w : (Rect.unit (s := S768x1024) off' ![768, 1024] inb').shape.Idx → Elt F e) (L : List (View.Piece (Elt F) S768x1024 e)) :
    v.readCov (⟨Rect.unit (s := S768x1024) off' ![768, 1024] inb', w⟩ :: L) (Rect.unit (s := S768x1024) off ![768, 1024] inb).toLoadRect = w := View.readCov_full v inb inb' w L
theorem cnF_S768x1024 {off : Fin 2 → ℕ} (inb : ∀ a, off a + ![768, 1024] a ≤ S768x1024.size a)
    (w : (Rect.unit (s := S768x1024) off ![768, 1024] inb).shape.Idx → Elt F e) (L : List (View.Piece (Elt F) S768x1024 e)) :
    View.canon (⟨Rect.unit (s := S768x1024) off ![768, 1024] inb, w⟩ :: L) = w := by
  funext y
  have e := View.canon_cons_emb (Val := Elt F) (Rect.unit (s := S768x1024) off ![768, 1024] inb) w L y
  rwa [Rect.emb_unit_full (s := S768x1024) inb y] at e
theorem rcC_S768x1024 (v : View sig κ sp S768x1024 e) {off : Fin 2 → ℕ} (inb : ∀ a, off a + ![768, 1024] a ≤ S768x1024.size a) (L : List (View.Piece (Elt F) S768x1024 e)) :
    v.readCov L (Rect.unit (s := S768x1024) off ![768, 1024] inb).toLoadRect = View.canon L :=
  (View.readCov_eq_canon' v L _).trans (funext fun y => congrArg (View.canon L) (Rect.emb_unit_full (s := S768x1024) inb y))
theorem rwF_S512x1024 (v : View sig κ sp S512x1024 e) (f : v.ty.Contents (Elt F)) {off : Fin 2 → ℕ} (inb : ∀ a, off a + ![512, 1024] a ≤ S512x1024.size a)
    (w : (Rect.unit (s := S512x1024) off ![512, 1024] inb).shape.Idx → Elt F e) (L : List (View.Piece (Elt F) S512x1024 e)) :
    v.read (Elt F) (v.writes (Elt F) f (⟨Rect.unit (s := S512x1024) off ![512, 1024] inb, w⟩ :: L)) = w := View.read_writes_full v f inb w L
theorem raF_S512x1024 (v : View sig κ sp S512x1024 e) (f : v.ty.Contents (Elt F)) {off : Fin 2 → ℕ} (inb : ∀ a, off a + ![512, 1024] a ≤ S512x1024.size a) :
    v.readAt (Elt F) (Rect.unit (s := S512x1024) off ![512, 1024] inb).toLoadRect f = v.read (Elt F) f := View.readAt_full v f inb
theorem rcF_S512x1024 (v : View sig κ sp S512x1024 e) {off off' : Fin 2 → ℕ} (inb : ∀ a, off a + ![512, 1024] a ≤ S512x1024.size a) (inb' : ∀ a, off' a + ![512, 1024] a ≤ S512x1024.size a)
    (w : (Rect.unit (s := S512x1024) off' ![512, 1024] inb').shape.Idx → Elt F e) (L : List (View.Piece (Elt F) S512x1024 e)) :
    v.readCov (⟨Rect.unit (s := S512x1024) off' ![512, 1024] inb', w⟩ :: L) (Rect.unit (s := S512x1024) off ![512, 1024] inb).toLoadRect = w := View.readCov_full v inb inb' w L
theorem cnF_S512x1024 {off : Fin 2 → ℕ} (inb : ∀ a, off a + ![512, 1024] a ≤ S512x1024.size a)
    (w : (Rect.unit (s := S512x1024) off ![512, 1024] inb).shape.Idx → Elt F e) (L : List (View.Piece (Elt F) S512x1024 e)) :
    View.canon (⟨Rect.unit (s := S512x1024) off ![512, 1024] inb, w⟩ :: L) = w := by
  funext y
  have e := View.canon_cons_emb (Val := Elt F) (Rect.unit (s := S512x1024) off ![512, 1024] inb) w L y
  rwa [Rect.emb_unit_full (s := S512x1024) inb y] at e
theorem rcC_S512x1024 (v : View sig κ sp S512x1024 e) {off : Fin 2 → ℕ} (inb : ∀ a, off a + ![512, 1024] a ≤ S512x1024.size a) (L : List (View.Piece (Elt F) S512x1024 e)) :
    v.readCov L (Rect.unit (s := S512x1024) off ![512, 1024] inb).toLoadRect = View.canon L :=
  (View.readCov_eq_canon' v L _).trans (funext fun y => congrArg (View.canon L) (Rect.emb_unit_full (s := S512x1024) inb y))
theorem rwF_S1024x512 (v : View sig κ sp S1024x512 e) (f : v.ty.Contents (Elt F)) {off : Fin 2 → ℕ} (inb : ∀ a, off a + ![1024, 512] a ≤ S1024x512.size a)
    (w : (Rect.unit (s := S1024x512) off ![1024, 512] inb).shape.Idx → Elt F e) (L : List (View.Piece (Elt F) S1024x512 e)) :
    v.read (Elt F) (v.writes (Elt F) f (⟨Rect.unit (s := S1024x512) off ![1024, 512] inb, w⟩ :: L)) = w := View.read_writes_full v f inb w L
theorem raF_S1024x512 (v : View sig κ sp S1024x512 e) (f : v.ty.Contents (Elt F)) {off : Fin 2 → ℕ} (inb : ∀ a, off a + ![1024, 512] a ≤ S1024x512.size a) :
    v.readAt (Elt F) (Rect.unit (s := S1024x512) off ![1024, 512] inb).toLoadRect f = v.read (Elt F) f := View.readAt_full v f inb
theorem rcF_S1024x512 (v : View sig κ sp S1024x512 e) {off off' : Fin 2 → ℕ} (inb : ∀ a, off a + ![1024, 512] a ≤ S1024x512.size a) (inb' : ∀ a, off' a + ![1024, 512] a ≤ S1024x512.size a)
    (w : (Rect.unit (s := S1024x512) off' ![1024, 512] inb').shape.Idx → Elt F e) (L : List (View.Piece (Elt F) S1024x512 e)) :
    v.readCov (⟨Rect.unit (s := S1024x512) off' ![1024, 512] inb', w⟩ :: L) (Rect.unit (s := S1024x512) off ![1024, 512] inb).toLoadRect = w := View.readCov_full v inb inb' w L
theorem cnF_S1024x512 {off : Fin 2 → ℕ} (inb : ∀ a, off a + ![1024, 512] a ≤ S1024x512.size a)
    (w : (Rect.unit (s := S1024x512) off ![1024, 512] inb).shape.Idx → Elt F e) (L : List (View.Piece (Elt F) S1024x512 e)) :
    View.canon (⟨Rect.unit (s := S1024x512) off ![1024, 512] inb, w⟩ :: L) = w := by
  funext y
  have e := View.canon_cons_emb (Val := Elt F) (Rect.unit (s := S1024x512) off ![1024, 512] inb) w L y
  rwa [Rect.emb_unit_full (s := S1024x512) inb y] at e
theorem rcC_S1024x512 (v : View sig κ sp S1024x512 e) {off : Fin 2 → ℕ} (inb : ∀ a, off a + ![1024, 512] a ≤ S1024x512.size a) (L : List (View.Piece (Elt F) S1024x512 e)) :
    v.readCov L (Rect.unit (s := S1024x512) off ![1024, 512] inb).toLoadRect = View.canon L :=
  (View.readCov_eq_canon' v L _).trans (funext fun y => congrArg (View.canon L) (Rect.emb_unit_full (s := S1024x512) inb y))
theorem rwF_S8x1024 (v : View sig κ sp S8x1024 e) (f : v.ty.Contents (Elt F)) {off : Fin 2 → ℕ} (inb : ∀ a, off a + ![8, 1024] a ≤ S8x1024.size a)
    (w : (Rect.unit (s := S8x1024) off ![8, 1024] inb).shape.Idx → Elt F e) (L : List (View.Piece (Elt F) S8x1024 e)) :
    v.read (Elt F) (v.writes (Elt F) f (⟨Rect.unit (s := S8x1024) off ![8, 1024] inb, w⟩ :: L)) = w := View.read_writes_full v f inb w L
theorem raF_S8x1024 (v : View sig κ sp S8x1024 e) (f : v.ty.Contents (Elt F)) {off : Fin 2 → ℕ} (inb : ∀ a, off a + ![8, 1024] a ≤ S8x1024.size a) :
    v.readAt (Elt F) (Rect.unit (s := S8x1024) off ![8, 1024] inb).toLoadRect f = v.read (Elt F) f := View.readAt_full v f inb
theorem rcF_S8x1024 (v : View sig κ sp S8x1024 e) {off off' : Fin 2 → ℕ} (inb : ∀ a, off a + ![8, 1024] a ≤ S8x1024.size a) (inb' : ∀ a, off' a + ![8, 1024] a ≤ S8x1024.size a)
    (w : (Rect.unit (s := S8x1024) off' ![8, 1024] inb').shape.Idx → Elt F e) (L : List (View.Piece (Elt F) S8x1024 e)) :
    v.readCov (⟨Rect.unit (s := S8x1024) off' ![8, 1024] inb', w⟩ :: L) (Rect.unit (s := S8x1024) off ![8, 1024] inb).toLoadRect = w := View.readCov_full v inb inb' w L
theorem cnF_S8x1024 {off : Fin 2 → ℕ} (inb : ∀ a, off a + ![8, 1024] a ≤ S8x1024.size a)
    (w : (Rect.unit (s := S8x1024) off ![8, 1024] inb).shape.Idx → Elt F e) (L : List (View.Piece (Elt F) S8x1024 e)) :
    View.canon (⟨Rect.unit (s := S8x1024) off ![8, 1024] inb, w⟩ :: L) = w := by
  funext y
  have e := View.canon_cons_emb (Val := Elt F) (Rect.unit (s := S8x1024) off ![8, 1024] inb) w L y
  rwa [Rect.emb_unit_full (s := S8x1024) inb y] at e
theorem rcC_S8x1024 (v : View sig κ sp S8x1024 e) {off : Fin 2 → ℕ} (inb : ∀ a, off a + ![8, 1024] a ≤ S8x1024.size a) (L : List (View.Piece (Elt F) S8x1024 e)) :
    v.readCov L (Rect.unit (s := S8x1024) off ![8, 1024] inb).toLoadRect = View.canon L :=
  (View.readCov_eq_canon' v L _).trans (funext fun y => congrArg (View.canon L) (Rect.emb_unit_full (s := S8x1024) inb y))
theorem rwF_S256x1024 (v : View sig κ sp S256x1024 e) (f : v.ty.Contents (Elt F)) {off : Fin 2 → ℕ} (inb : ∀ a, off a + ![256, 1024] a ≤ S256x1024.size a)
    (w : (Rect.unit (s := S256x1024) off ![256, 1024] inb).shape.Idx → Elt F e) (L : List (View.Piece (Elt F) S256x1024 e)) :
    v.read (Elt F) (v.writes (Elt F) f (⟨Rect.unit (s := S256x1024) off ![256, 1024] inb, w⟩ :: L)) = w := View.read_writes_full v f inb w L
theorem raF_S256x1024 (v : View sig κ sp S256x1024 e) (f : v.ty.Contents (Elt F)) {off : Fin 2 → ℕ} (inb : ∀ a, off a + ![256, 1024] a ≤ S256x1024.size a) :
    v.readAt (Elt F) (Rect.unit (s := S256x1024) off ![256, 1024] inb).toLoadRect f = v.read (Elt F) f := View.readAt_full v f inb
theorem rcF_S256x1024 (v : View sig κ sp S256x1024 e) {off off' : Fin 2 → ℕ} (inb : ∀ a, off a + ![256, 1024] a ≤ S256x1024.size a) (inb' : ∀ a, off' a + ![256, 1024] a ≤ S256x1024.size a)
    (w : (Rect.unit (s := S256x1024) off' ![256, 1024] inb').shape.Idx → Elt F e) (L : List (View.Piece (Elt F) S256x1024 e)) :
    v.readCov (⟨Rect.unit (s := S256x1024) off' ![256, 1024] inb', w⟩ :: L) (Rect.unit (s := S256x1024) off ![256, 1024] inb).toLoadRect = w := View.readCov_full v inb inb' w L
theorem cnF_S256x1024 {off : Fin 2 → ℕ} (inb : ∀ a, off a + ![256, 1024] a ≤ S256x1024.size a)
    (w : (Rect.unit (s := S256x1024) off ![256, 1024] inb).shape.Idx → Elt F e) (L : List (View.Piece (Elt F) S256x1024 e)) :
    View.canon (⟨Rect.unit (s := S256x1024) off ![256, 1024] inb, w⟩ :: L) = w := by
  funext y
  have e := View.canon_cons_emb (Val := Elt F) (Rect.unit (s := S256x1024) off ![256, 1024] inb) w L y
  rwa [Rect.emb_unit_full (s := S256x1024) inb y] at e
theorem rcC_S256x1024 (v : View sig κ sp S256x1024 e) {off : Fin 2 → ℕ} (inb : ∀ a, off a + ![256, 1024] a ≤ S256x1024.size a) (L : List (View.Piece (Elt F) S256x1024 e)) :
    v.readCov L (Rect.unit (s := S256x1024) off ![256, 1024] inb).toLoadRect = View.canon L :=
  (View.readCov_eq_canon' v L _).trans (funext fun y => congrArg (View.canon L) (Rect.emb_unit_full (s := S256x1024) inb y))
theorem rwF_S576x1024 (v : View sig κ sp S576x1024 e) (f : v.ty.Contents (Elt F)) {off : Fin 2 → ℕ} (inb : ∀ a, off a + ![576, 1024] a ≤ S576x1024.size a)
    (w : (Rect.unit (s := S576x1024) off ![576, 1024] inb).shape.Idx → Elt F e) (L : List (View.Piece (Elt F) S576x1024 e)) :
    v.read (Elt F) (v.writes (Elt F) f (⟨Rect.unit (s := S576x1024) off ![576, 1024] inb, w⟩ :: L)) = w := View.read_writes_full v f inb w L
theorem raF_S576x1024 (v : View sig κ sp S576x1024 e) (f : v.ty.Contents (Elt F)) {off : Fin 2 → ℕ} (inb : ∀ a, off a + ![576, 1024] a ≤ S576x1024.size a) :
    v.readAt (Elt F) (Rect.unit (s := S576x1024) off ![576, 1024] inb).toLoadRect f = v.read (Elt F) f := View.readAt_full v f inb
theorem rcF_S576x1024 (v : View sig κ sp S576x1024 e) {off off' : Fin 2 → ℕ} (inb : ∀ a, off a + ![576, 1024] a ≤ S576x1024.size a) (inb' : ∀ a, off' a + ![576, 1024] a ≤ S576x1024.size a)
    (w : (Rect.unit (s := S576x1024) off' ![576, 1024] inb').shape.Idx → Elt F e) (L : List (View.Piece (Elt F) S576x1024 e)) :
    v.readCov (⟨Rect.unit (s := S576x1024) off' ![576, 1024] inb', w⟩ :: L) (Rect.unit (s := S576x1024) off ![576, 1024] inb).toLoadRect = w := View.readCov_full v inb inb' w L
theorem cnF_S576x1024 {off : Fin 2 → ℕ} (inb : ∀ a, off a + ![576, 1024] a ≤ S576x1024.size a)
    (w : (Rect.unit (s := S576x1024) off ![576, 1024] inb).shape.Idx → Elt F e) (L : List (View.Piece (Elt F) S576x1024 e)) :
    View.canon (⟨Rect.unit (s := S576x1024) off ![576, 1024] inb, w⟩ :: L) = w := by
  funext y
  have e := View.canon_cons_emb (Val := Elt F) (Rect.unit (s := S576x1024) off ![576, 1024] inb) w L y
  rwa [Rect.emb_unit_full (s := S576x1024) inb y] at e
theorem rcC_S576x1024 (v : View sig κ sp S576x1024 e) {off : Fin 2 → ℕ} (inb : ∀ a, off a + ![576, 1024] a ≤ S576x1024.size a) (L : List (View.Piece (Elt F) S576x1024 e)) :
    v.readCov L (Rect.unit (s := S576x1024) off ![576, 1024] inb).toLoadRect = View.canon L :=
  (View.readCov_eq_canon' v L _).trans (funext fun y => congrArg (View.canon L) (Rect.emb_unit_full (s := S576x1024) inb y))
theorem rwF_S1x576x256 (v : View sig κ sp S1x576x256 e) (f : v.ty.Contents (Elt F)) {off : Fin 3 → ℕ} (inb : ∀ a, off a + ![1, 576, 256] a ≤ S1x576x256.size a)
    (w : (Rect.unit (s := S1x576x256) off ![1, 576, 256] inb).shape.Idx → Elt F e) (L : List (View.Piece (Elt F) S1x576x256 e)) :
    v.read (Elt F) (v.writes (Elt F) f (⟨Rect.unit (s := S1x576x256) off ![1, 576, 256] inb, w⟩ :: L)) = w := View.read_writes_full v f inb w L
theorem raF_S1x576x256 (v : View sig κ sp S1x576x256 e) (f : v.ty.Contents (Elt F)) {off : Fin 3 → ℕ} (inb : ∀ a, off a + ![1, 576, 256] a ≤ S1x576x256.size a) :
    v.readAt (Elt F) (Rect.unit (s := S1x576x256) off ![1, 576, 256] inb).toLoadRect f = v.read (Elt F) f := View.readAt_full v f inb
theorem rcF_S1x576x256 (v : View sig κ sp S1x576x256 e) {off off' : Fin 3 → ℕ} (inb : ∀ a, off a + ![1, 576, 256] a ≤ S1x576x256.size a) (inb' : ∀ a, off' a + ![1, 576, 256] a ≤ S1x576x256.size a)
    (w : (Rect.unit (s := S1x576x256) off' ![1, 576, 256] inb').shape.Idx → Elt F e) (L : List (View.Piece (Elt F) S1x576x256 e)) :
    v.readCov (⟨Rect.unit (s := S1x576x256) off' ![1, 576, 256] inb', w⟩ :: L) (Rect.unit (s := S1x576x256) off ![1, 576, 256] inb).toLoadRect = w := View.readCov_full v inb inb' w L
theorem cnF_S1x576x256 {off : Fin 3 → ℕ} (inb : ∀ a, off a + ![1, 576, 256] a ≤ S1x576x256.size a)
    (w : (Rect.unit (s := S1x576x256) off ![1, 576, 256] inb).shape.Idx → Elt F e) (L : List (View.Piece (Elt F) S1x576x256 e)) :
    View.canon (⟨Rect.unit (s := S1x576x256) off ![1, 576, 256] inb, w⟩ :: L) = w := by
  funext y
  have e := View.canon_cons_emb (Val := Elt F) (Rect.unit (s := S1x576x256) off ![1, 576, 256] inb) w L y
  rwa [Rect.emb_unit_full (s := S1x576x256) inb y] at e
theorem rcC_S1x576x256 (v : View sig κ sp S1x576x256 e) {off : Fin 3 → ℕ} (inb : ∀ a, off a + ![1, 576, 256] a ≤ S1x576x256.size a) (L : List (View.Piece (Elt F) S1x576x256 e)) :
    v.readCov L (Rect.unit (s := S1x576x256) off ![1, 576, 256] inb).toLoadRect = View.canon L :=
  (View.readCov_eq_canon' v L _).trans (funext fun y => congrArg (View.canon L) (Rect.emb_unit_full (s := S1x576x256) inb y))
theorem rwF_S1x1024x512 (v : View sig κ sp S1x1024x512 e) (f : v.ty.Contents (Elt F)) {off : Fin 3 → ℕ} (inb : ∀ a, off a + ![1, 1024, 512] a ≤ S1x1024x512.size a)
    (w : (Rect.unit (s := S1x1024x512) off ![1, 1024, 512] inb).shape.Idx → Elt F e) (L : List (View.Piece (Elt F) S1x1024x512 e)) :
    v.read (Elt F) (v.writes (Elt F) f (⟨Rect.unit (s := S1x1024x512) off ![1, 1024, 512] inb, w⟩ :: L)) = w := View.read_writes_full v f inb w L
theorem raF_S1x1024x512 (v : View sig κ sp S1x1024x512 e) (f : v.ty.Contents (Elt F)) {off : Fin 3 → ℕ} (inb : ∀ a, off a + ![1, 1024, 512] a ≤ S1x1024x512.size a) :
    v.readAt (Elt F) (Rect.unit (s := S1x1024x512) off ![1, 1024, 512] inb).toLoadRect f = v.read (Elt F) f := View.readAt_full v f inb
theorem rcF_S1x1024x512 (v : View sig κ sp S1x1024x512 e) {off off' : Fin 3 → ℕ} (inb : ∀ a, off a + ![1, 1024, 512] a ≤ S1x1024x512.size a) (inb' : ∀ a, off' a + ![1, 1024, 512] a ≤ S1x1024x512.size a)
    (w : (Rect.unit (s := S1x1024x512) off' ![1, 1024, 512] inb').shape.Idx → Elt F e) (L : List (View.Piece (Elt F) S1x1024x512 e)) :
    v.readCov (⟨Rect.unit (s := S1x1024x512) off' ![1, 1024, 512] inb', w⟩ :: L) (Rect.unit (s := S1x1024x512) off ![1, 1024, 512] inb).toLoadRect = w := View.readCov_full v inb inb' w L
theorem cnF_S1x1024x512 {off : Fin 3 → ℕ} (inb : ∀ a, off a + ![1, 1024, 512] a ≤ S1x1024x512.size a)
    (w : (Rect.unit (s := S1x1024x512) off ![1, 1024, 512] inb).shape.Idx → Elt F e) (L : List (View.Piece (Elt F) S1x1024x512 e)) :
    View.canon (⟨Rect.unit (s := S1x1024x512) off ![1, 1024, 512] inb, w⟩ :: L) = w := by
  funext y
  have e := View.canon_cons_emb (Val := Elt F) (Rect.unit (s := S1x1024x512) off ![1, 1024, 512] inb) w L y
  rwa [Rect.emb_unit_full (s := S1x1024x512) inb y] at e
theorem rcC_S1x1024x512 (v : View sig κ sp S1x1024x512 e) {off : Fin 3 → ℕ} (inb : ∀ a, off a + ![1, 1024, 512] a ≤ S1x1024x512.size a) (L : List (View.Piece (Elt F) S1x1024x512 e)) :
    v.readCov L (Rect.unit (s := S1x1024x512) off ![1, 1024, 512] inb).toLoadRect = View.canon L :=
  (View.readCov_eq_canon' v L _).trans (funext fun y => congrArg (View.canon L) (Rect.emb_unit_full (s := S1x1024x512) inb y))
theorem rwF_S1x1024x64 (v : View sig κ sp S1x1024x64 e) (f : v.ty.Contents (Elt F)) {off : Fin 3 → ℕ} (inb : ∀ a, off a + ![1, 1024, 64] a ≤ S1x1024x64.size a)
    (w : (Rect.unit (s := S1x1024x64) off ![1, 1024, 64] inb).shape.Idx → Elt F e) (L : List (View.Piece (Elt F) S1x1024x64 e)) :
    v.read (Elt F) (v.writes (Elt F) f (⟨Rect.unit (s := S1x1024x64) off ![1, 1024, 64] inb, w⟩ :: L)) = w := View.read_writes_full v f inb w L
theorem raF_S1x1024x64 (v : View sig κ sp S1x1024x64 e) (f : v.ty.Contents (Elt F)) {off : Fin 3 → ℕ} (inb : ∀ a, off a + ![1, 1024, 64] a ≤ S1x1024x64.size a) :
    v.readAt (Elt F) (Rect.unit (s := S1x1024x64) off ![1, 1024, 64] inb).toLoadRect f = v.read (Elt F) f := View.readAt_full v f inb
theorem rcF_S1x1024x64 (v : View sig κ sp S1x1024x64 e) {off off' : Fin 3 → ℕ} (inb : ∀ a, off a + ![1, 1024, 64] a ≤ S1x1024x64.size a) (inb' : ∀ a, off' a + ![1, 1024, 64] a ≤ S1x1024x64.size a)
    (w : (Rect.unit (s := S1x1024x64) off' ![1, 1024, 64] inb').shape.Idx → Elt F e) (L : List (View.Piece (Elt F) S1x1024x64 e)) :
    v.readCov (⟨Rect.unit (s := S1x1024x64) off' ![1, 1024, 64] inb', w⟩ :: L) (Rect.unit (s := S1x1024x64) off ![1, 1024, 64] inb).toLoadRect = w := View.readCov_full v inb inb' w L
theorem cnF_S1x1024x64 {off : Fin 3 → ℕ} (inb : ∀ a, off a + ![1, 1024, 64] a ≤ S1x1024x64.size a)
    (w : (Rect.unit (s := S1x1024x64) off ![1, 1024, 64] inb).shape.Idx → Elt F e) (L : List (View.Piece (Elt F) S1x1024x64 e)) :
    View.canon (⟨Rect.unit (s := S1x1024x64) off ![1, 1024, 64] inb, w⟩ :: L) = w := by
  funext y
  have e := View.canon_cons_emb (Val := Elt F) (Rect.unit (s := S1x1024x64) off ![1, 1024, 64] inb) w L y
  rwa [Rect.emb_unit_full (s := S1x1024x64) inb y] at e
theorem rcC_S1x1024x64 (v : View sig κ sp S1x1024x64 e) {off : Fin 3 → ℕ} (inb : ∀ a, off a + ![1, 1024, 64] a ≤ S1x1024x64.size a) (L : List (View.Piece (Elt F) S1x1024x64 e)) :
    v.readCov L (Rect.unit (s := S1x1024x64) off ![1, 1024, 64] inb).toLoadRect = View.canon L :=
  (View.readCov_eq_canon' v L _).trans (funext fun y => congrArg (View.canon L) (Rect.emb_unit_full (s := S1x1024x64) inb y))
theorem rwF_S1x1x1x1024 (v : View sig κ sp S1x1x1x1024 e) (f : v.ty.Contents (Elt F)) {off : Fin 4 → ℕ} (inb : ∀ a, off a + ![1, 1, 1, 1024] a ≤ S1x1x1x1024.size a)
    (w : (Rect.unit (s := S1x1x1x1024) off ![1, 1, 1, 1024] inb).shape.Idx → Elt F e) (L : List (View.Piece (Elt F) S1x1x1x1024 e)) :
    v.read (Elt F) (v.writes (Elt F) f (⟨Rect.unit (s := S1x1x1x1024) off ![1, 1, 1, 1024] inb, w⟩ :: L)) = w := View.read_writes_full v f inb w L
theorem raF_S1x1x1x1024 (v : View sig κ sp S1x1x1x1024 e) (f : v.ty.Contents (Elt F)) {off : Fin 4 → ℕ} (inb : ∀ a, off a + ![1, 1, 1, 1024] a ≤ S1x1x1x1024.size a) :
    v.readAt (Elt F) (Rect.unit (s := S1x1x1x1024) off ![1, 1, 1, 1024] inb).toLoadRect f = v.read (Elt F) f := View.readAt_full v f inb
theorem rcF_S1x1x1x1024 (v : View sig κ sp S1x1x1x1024 e) {off off' : Fin 4 → ℕ} (inb : ∀ a, off a + ![1, 1, 1, 1024] a ≤ S1x1x1x1024.size a) (inb' : ∀ a, off' a + ![1, 1, 1, 1024] a ≤ S1x1x1x1024.size a)
    (w : (Rect.unit (s := S1x1x1x1024) off' ![1, 1, 1, 1024] inb').shape.Idx → Elt F e) (L : List (View.Piece (Elt F) S1x1x1x1024 e)) :
    v.readCov (⟨Rect.unit (s := S1x1x1x1024) off' ![1, 1, 1, 1024] inb', w⟩ :: L) (Rect.unit (s := S1x1x1x1024) off ![1, 1, 1, 1024] inb).toLoadRect = w := View.readCov_full v inb inb' w L
theorem cnF_S1x1x1x1024 {off : Fin 4 → ℕ} (inb : ∀ a, off a + ![1, 1, 1, 1024] a ≤ S1x1x1x1024.size a)
    (w : (Rect.unit (s := S1x1x1x1024) off ![1, 1, 1, 1024] inb).shape.Idx → Elt F e) (L : List (View.Piece (Elt F) S1x1x1x1024 e)) :
    View.canon (⟨Rect.unit (s := S1x1x1x1024) off ![1, 1, 1, 1024] inb, w⟩ :: L) = w := by
  funext y
  have e := View.canon_cons_emb (Val := Elt F) (Rect.unit (s := S1x1x1x1024) off ![1, 1, 1, 1024] inb) w L y
  rwa [Rect.emb_unit_full (s := S1x1x1x1024) inb y] at e
theorem rcC_S1x1x1x1024 (v : View sig κ sp S1x1x1x1024 e) {off : Fin 4 → ℕ} (inb : ∀ a, off a + ![1, 1, 1, 1024] a ≤ S1x1x1x1024.size a) (L : List (View.Piece (Elt F) S1x1x1x1024 e)) :
    v.readCov L (Rect.unit (s := S1x1x1x1024) off ![1, 1, 1, 1024] inb).toLoadRect = View.canon L :=
  (View.readCov_eq_canon' v L _).trans (funext fun y => congrArg (View.canon L) (Rect.emb_unit_full (s := S1x1x1x1024) inb y))
theorem rcS {s : Shape} (v : View sig κ sp s e) (r : Rect s) (L : List (View.Piece (Elt F) s e)) :
    v.readCov L r.toLoadRect = View.ld (View.canon L) r := View.readCov_eq_canon' v L _

end

theorem qtPieces_cover (qi : BitVec 32) (xq : Vec F S1x1024x512 .bf16) (xqr : Vec F S1x1024x64 .bf16) (xlse : Vec F S1x1x1x1024 .f32)
    (y : S768x1024.Idx) : ∃ p ∈ qtPieces qi xq xqr xlse, y ∈ p.1.set := by
  have h0 : (y 0).val < 768 := (y 0).isLt
  have h1 : (y 1).val < 1024 := (y 1).isLt
  simp only [qtPieces, List.exists_mem_cons_iff, List.not_mem_nil, false_and, exists_false, or_false, Rect.mem_set_unit, Fin.forall_fin_two,
    Matrix.cons_val_zero, Matrix.cons_val_one]
  omega

/-- An inner point of a row of points: half `2j-1` of the keys is added to the gradients, the two halves of this point are formed, half `2j` is added. -/
theorem phaseC_run (c : Dev nD) (i : grid0.Coords) (h5 : k0_cond5 i = 1#1) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) {Q : PUnit → sProp 𝕄}
    (xk : Vec F S1x512x512 .bf16) (xkx : Vec F S1x512x128 .bf16) (xb : Vec F S1x1x512x128 .bf16) (qt : Vec F S768x1024 .bf16) (dot : Vec F S512x1024 .bf16) (dov q : Vec F S1024x512 .bf16) (delta : Vec F S8x1024 .f32) (kta ktb : Vec F S1x576x256 .bf16) (pa pb dsa dsb : Vec F S256x1024 .bf16) (acc : Vec F S576x1024 .f32) (fc1 fc0 : Buf (Elt F) (arg28.view.loc (c : Thread nD τ))) (fk1 fk0 : Buf (Elt F) (arg29.view.loc (c : Thread nD τ))) :
    iprop(owns (c : Thread nD τ) arg9 fullShare xk ∗ owns (c : Thread nD τ) arg10 fullShare xkx ∗ owns (c : Thread nD τ) arg11 fullShare xb ∗ owns (c : Thread nD τ) arg18 fullShare qt ∗ owns (c : Thread nD τ) arg19 fullShare dot ∗ owns (c : Thread nD τ) arg20 fullShare dov ∗ owns (c : Thread nD τ) arg21 fullShare q ∗ owns (c : Thread nD τ) arg22 fullShare delta ∗ owns (c : Thread nD τ) arg12 fullShare kta ∗ owns (c : Thread nD τ) arg13 fullShare ktb ∗ owns (c : Thread nD τ) arg23 fullShare pa ∗ owns (c : Thread nD τ) arg24 fullShare dsa ∗ owns (c : Thread nD τ) arg25 fullShare pb ∗ owns (c : Thread nD τ) arg26 fullShare dsb ∗ owns (c : Thread nD τ) arg27 fullShare acc ∗ (arg28.view.loc (c : Thread nD τ) ↦[arg28.view.setOn (Rect.unit (s := S12800x512) (k0_off10 i) S256x512.size (k0_off10_inb i h5)).set]{fullShare} fc1) ∗ (arg28.view.loc (c : Thread nD τ) ↦[arg28.view.setOn (Rect.unit (s := S12800x512) (k0_off12 i) S256x512.size (k0_off12_inb i h5)).set]{fullShare} fc0) ∗ (arg29.view.loc (c : Thread nD τ) ↦[arg29.view.setOn (Rect.unit (s := S64x12800) (k0_off11 i) S64x256.size (k0_off11_inb i h5)).set]{fullShare} fk1) ∗ (arg29.view.loc (c : Thread nD τ) ↦[arg29.view.setOn (Rect.unit (s := S64x12800) (k0_off13 i) S64x256.size (k0_off13_inb i h5)).set]{fullShare} fk0)
      ∗ (iprop(owns (c : Thread nD τ) arg9 fullShare xk ∗ owns (c : Thread nD τ) arg10 fullShare xkx ∗ owns (c : Thread nD τ) arg11 fullShare xb ∗ owns (c : Thread nD τ) arg18 fullShare qt ∗ owns (c : Thread nD τ) arg19 fullShare dot ∗ owns (c : Thread nD τ) arg20 fullShare dov ∗ owns (c : Thread nD τ) arg21 fullShare q ∗ owns (c : Thread nD τ) arg22 fullShare delta ∗ owns (c : Thread nD τ) arg12 fullShare kta ∗ owns (c : Thread nD τ) arg13 fullShare ktb ∗ owns (c : Thread nD τ) arg23 fullShare (pOf false xk xkx xb qt) ∗ owns (c : Thread nD τ) arg24 fullShare (dsOf false xk xkx xb qt dot delta) ∗ owns (c : Thread nD τ) arg25 fullShare (pOf true xk xkx xb qt) ∗ owns (c : Thread nD τ) arg26 fullShare (dsOf true xk xkx xb qt dot delta) ∗ owns (c : Thread nD τ) arg27 fullShare (dqStep (dqStep acc dsb ktb) (dsOf false xk xkx xb qt dot delta) kta) ∗ (arg28.view.loc (c : Thread nD τ) ↦[arg28.view.setOn (Rect.unit (s := S12800x512) (k0_off10 i) S256x512.size (k0_off10_inb i h5)).set]{fullShare} arg28.view.writes (Elt F) fc1 [⟨Rect.unit (s := S12800x512) (k0_off10 i) S256x512.size (k0_off10_inb i h5), dcStep (arg28.view.readAt (Elt F) (Rect.unit (s := S12800x512) (k0_off10 i) S256x512.size (k0_off10_inb i h5)).toLoadRect fc1) pb dsb dov q⟩]) ∗ (arg28.view.loc (c : Thread nD τ) ↦[arg28.view.setOn (Rect.unit (s := S12800x512) (k0_off12 i) S256x512.size (k0_off12_inb i h5)).set]{fullShare} arg28.view.writes (Elt F) fc0 [⟨Rect.unit (s := S12800x512) (k0_off12 i) S256x512.size (k0_off12_inb i h5), dcStep (arg28.view.readAt (Elt F) (Rect.unit (s := S12800x512) (k0_off12 i) S256x512.size (k0_off12_inb i h5)).toLoadRect fc0) (pOf false xk xkx xb qt) (dsOf false xk xkx xb qt dot delta) dov q⟩]) ∗ (arg29.view.loc (c : Thread nD τ) ↦[arg29.view.setOn (Rect.unit (s := S64x12800) (k0_off11 i) S64x256.size (k0_off11_inb i h5)).set]{fullShare} arg29.view.writes (Elt F) fk1 [⟨Rect.unit (s := S64x12800) (k0_off11 i) S64x256.size (k0_off11_inb i h5), dkStep (arg29.view.readAt (Elt F) (Rect.unit (s := S64x12800) (k0_off11 i) S64x256.size (k0_off11_inb i h5)).toLoadRect fk1) dsb qt⟩]) ∗ (arg29.view.loc (c : Thread nD τ) ↦[arg29.view.setOn (Rect.unit (s := S64x12800) (k0_off13 i) S64x256.size (k0_off13_inb i h5)).set]{fullShare} arg29.view.writes (Elt F) fk0 [⟨Rect.unit (s := S64x12800) (k0_off13 i) S64x256.size (k0_off13_inb i h5), dkStep (arg29.view.readAt (Elt F) (Rect.unit (s := S64x12800) (k0_off13 i) S64x256.size (k0_off13_inb i h5)).toLoadRect fk0) (dsOf false xk xkx xb qt dot delta) qt⟩])) -∗ wp frame (wpE (defs₀ (F := F)) Variants.none (c : Thread nD τ) none) Set.univ K Q))
    ⊢ wp frame (wpE (defs₀ (F := F)) Variants.none (c : Thread nD τ) none) Set.univ (phaseC i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 K) Q := by
  unfold phaseC
  simp only [k0_part7_eq_skeleton, k0_part8_eq_skeleton, k0_part9_eq_skeleton, k0_part10_eq_skeleton]
  unfold k0_part7_skel k0_part8_skel k0_part9_skel k0_part10_skel
  unfold owns
  iintro ⟨⟨%f9, %h9, H9⟩, ⟨%f10, %h10, H10⟩, ⟨%f11, %h11, H11⟩, ⟨%f18, %h18, H18⟩, ⟨%f19, %h19, H19⟩, ⟨%f20, %h20, H20⟩, ⟨%f21, %h21, H21⟩, ⟨%f22, %h22, H22⟩, ⟨%f12, %h12, H12⟩, ⟨%f13, %h13, H13⟩, ⟨%f23, %h23, H23⟩, ⟨%f24, %h24, H24⟩, ⟨%f25, %h25, H25⟩, ⟨%f26, %h26, H26⟩, ⟨%f27, %h27, H27⟩, Hc1, Hc0, Hk1, Hk0, HK⟩
  subst h9
  subst h10
  subst h11
  subst h18
  subst h19
  subst h20
  subst h21
  subst h22
  subst h12
  subst h13
  subst h23
  subst h24
  subst h25
  subst h26
  subst h27
  sl_exec
  iapply HK
  isplitl [H9]
  · iexists _; isplitr; swap; · iexact H9
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H10]
  · iexists _; isplitr; swap; · iexact H10
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H11]
  · iexists _; isplitr; swap; · iexact H11
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H18]
  · iexists _; isplitr; swap; · iexact H18
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H19]
  · iexists _; isplitr; swap; · iexact H19
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H20]
  · iexists _; isplitr; swap; · iexact H20
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H21]
  · iexists _; isplitr; swap; · iexact H21
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H22]
  · iexists _; isplitr; swap; · iexact H22
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H12]
  · iexists _; isplitr; swap; · iexact H12
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H13]
  · iexists _; isplitr; swap; · iexact H13
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H23]
  · iexists _; isplitr; swap; · iexact H23
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H24]
  · iexists _; isplitr; swap; · iexact H24
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H25]
  · iexists _; isplitr; swap; · iexact H25
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H26]
  · iexists _; isplitr; swap; · iexact H26
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [H27]
  · iexists _; isplitr; swap; · iexact H27
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [Hc1]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [Hc0]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  isplitl [Hk1]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, View.read_writes_full, View.readAt_full, View.readCov_full, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf]; first | done | rfl)

/-- The first point of a row of points: the query tile is prepared, both halves of the point are formed, half 0 is added to the gradients. -/
theorem phaseB_run (c : Dev nD) (i : grid0.Coords) (h4 : k0_cond4 i = 1#1) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) {Q : PUnit → sProp 𝕄}
    (xq : Vec F S1x1024x512 .bf16) (xqr : Vec F S1x1024x64 .bf16) (xo : Vec F S1x1024x512 .bf16) (xdo : Vec F S1x1024x512 .fp8e5m2) (xdos xlse : Vec F S1x1x1x1024 .f32) (xk : Vec F S1x512x512 .bf16) (xkx : Vec F S1x512x128 .bf16) (xb : Vec F S1x1x512x128 .bf16) (kta : Vec F S1x576x256 .bf16) (fc0 : Buf (Elt F) (arg28.view.loc (c : Thread nD τ))) (fk0 : Buf (Elt F) (arg29.view.loc (c : Thread nD τ))) :
    iprop(owns (c : Thread nD τ) arg3 fullShare xq ∗ owns (c : Thread nD τ) arg4 fullShare xqr ∗ owns (c : Thread nD τ) arg5 fullShare xo ∗ owns (c : Thread nD τ) arg6 fullShare xdo ∗ owns (c : Thread nD τ) arg7 fullShare xdos ∗ owns (c : Thread nD τ) arg8 fullShare xlse ∗ owns (c : Thread nD τ) arg9 fullShare xk ∗ owns (c : Thread nD τ) arg10 fullShare xkx ∗ owns (c : Thread nD τ) arg11 fullShare xb ∗ owns (c : Thread nD τ) arg12 fullShare kta ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (arg28.view.loc (c : Thread nD τ) ↦[arg28.view.setOn (Rect.unit (s := S12800x512) ![0, 0] S256x512.size inb_S12800x512_S256x512_0_0).set]{fullShare} fc0) ∗ (arg29.view.loc (c : Thread nD τ) ↦[arg29.view.setOn (Rect.unit (s := S64x12800) ![0, 0] S64x256.size inb_S64x12800_S64x256_0_0).set]{fullShare} fk0)
      ∗ (iprop(owns (c : Thread nD τ) arg3 fullShare xq ∗ owns (c : Thread nD τ) arg4 fullShare xqr ∗ owns (c : Thread nD τ) arg5 fullShare xo ∗ owns (c : Thread nD τ) arg6 fullShare xdo ∗ owns (c : Thread nD τ) arg7 fullShare xdos ∗ owns (c : Thread nD τ) arg8 fullShare xlse ∗ owns (c : Thread nD τ) arg9 fullShare xk ∗ owns (c : Thread nD τ) arg10 fullShare xkx ∗ owns (c : Thread nD τ) arg11 fullShare xb ∗ owns (c : Thread nD τ) arg12 fullShare kta ∗ owns (c : Thread nD τ) arg18 fullShare (qtOf (BitVec.ofNat 32 (i 1).val) xq xqr xlse) ∗ owns (c : Thread nD τ) arg19 fullShare (dotOf xdos xdo) ∗ owns (c : Thread nD τ) arg20 fullShare (doOf xdos xdo) ∗ owns (c : Thread nD τ) arg21 fullShare (qOf xq) ∗ owns (c : Thread nD τ) arg22 fullShare (deltaOf xdos xdo xo) ∗ owns (c : Thread nD τ) arg23 fullShare (pOf false xk xkx xb (qtOf (BitVec.ofNat 32 (i 1).val) xq xqr xlse)) ∗ owns (c : Thread nD τ) arg24 fullShare (dsOf false xk xkx xb (qtOf (BitVec.ofNat 32 (i 1).val) xq xqr xlse) (dotOf xdos xdo) (deltaOf xdos xdo xo)) ∗ owns (c : Thread nD τ) arg25 fullShare (pOf true xk xkx xb (qtOf (BitVec.ofNat 32 (i 1).val) xq xqr xlse)) ∗ owns (c : Thread nD τ) arg26 fullShare (dsOf true xk xkx xb (qtOf (BitVec.ofNat 32 (i 1).val) xq xqr xlse) (dotOf xdos xdo) (deltaOf xdos xdo xo)) ∗ owns (c : Thread nD τ) arg27 fullShare (dqStep dqZero (dsOf false xk xkx xb (qtOf (BitVec.ofNat 32 (i 1).val) xq xqr xlse) (dotOf xdos xdo) (deltaOf xdos xdo xo)) kta) ∗ (arg28.view.loc (c : Thread nD τ) ↦[arg28.view.setOn (Rect.unit (s := S12800x512) ![0, 0] S256x512.size inb_S12800x512_S256x512_0_0).set]{fullShare} arg28.view.writes (Elt F) fc0 [⟨Rect.unit (s := S12800x512) ![0, 0] S256x512.size inb_S12800x512_S256x512_0_0, dcStep (arg28.view.readAt (Elt F) (Rect.unit (s := S12800x512) ![0, 0] S256x512.size inb_S12800x512_S256x512_0_0).toLoadRect fc0) (pOf false xk xkx xb (qtOf (BitVec.ofNat 32 (i 1).val) xq xqr xlse)) (dsOf false xk xkx xb (qtOf (BitVec.ofNat 32 (i 1).val) xq xqr xlse) (dotOf xdos xdo) (deltaOf xdos xdo xo)) (doOf xdos xdo) (qOf xq)⟩]) ∗ (arg29.view.loc (c : Thread nD τ) ↦[arg29.view.setOn (Rect.unit (s := S64x12800) ![0, 0] S64x256.size inb_S64x12800_S64x256_0_0).set]{fullShare} arg29.view.writes (Elt F) fk0 [⟨Rect.unit (s := S64x12800) ![0, 0] S64x256.size inb_S64x12800_S64x256_0_0, dkStep (arg29.view.readAt (Elt F) (Rect.unit (s := S64x12800) ![0, 0] S64x256.size inb_S64x12800_S64x256_0_0).toLoadRect fk0) (dsOf false xk xkx xb (qtOf (BitVec.ofNat 32 (i 1).val) xq xqr xlse) (dotOf xdos xdo) (deltaOf xdos xdo xo)) (qtOf (BitVec.ofNat 32 (i 1).val) xq xqr xlse)⟩])) -∗ wp frame (wpE (defs₀ (F := F)) Variants.none (c : Thread nD τ) none) Set.univ K Q))
    ⊢ wp frame (wpE (defs₀ (F := F)) Variants.none (c : Thread nD τ) none) Set.univ (phaseB i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 K) Q := by
  unfold phaseB
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d18, %f18, %h18, H18⟩, ⟨%d19, %f19, %h19, H19⟩, ⟨%d20, %f20, %h20, H20⟩, ⟨%d21, %f21, %h21, H21⟩, ⟨%d22, %f22, %h22, H22⟩, ⟨%d23, %f23, %h23, H23⟩, ⟨%d24, %f24, %h24, H24⟩, ⟨%d25, %f25, %h25, H25⟩, ⟨%d26, %f26, %h26, H26⟩, ⟨%d27, %f27, %h27, H27⟩, Hc0, Hk0, HK⟩
  subst h3
  subst h4
  subst h5
  subst h6
  subst h7
  subst h8
  subst h9
  subst h10
  subst h11
  subst h12
  subst h18
  subst h19
  subst h20
  subst h21
  subst h22
  subst h23
  subst h24
  subst h25
  subst h26
  subst h27
  sl_exec
  iapply HK
  isplitl [H3]
  · iexists _; isplitr; swap; · iexact H3
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H4]
  · iexists _; isplitr; swap; · iexact H4
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H5]
  · iexists _; isplitr; swap; · iexact H5
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H6]
  · iexists _; isplitr; swap; · iexact H6
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H7]
  · iexists _; isplitr; swap; · iexact H7
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H8]
  · iexists _; isplitr; swap; · iexact H8
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H9]
  · iexists _; isplitr; swap; · iexact H9
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H10]
  · iexists _; isplitr; swap; · iexact H10
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H11]
  · iexists _; isplitr; swap; · iexact H11
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H12]
  · iexists _; isplitr; swap; · iexact H12
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H18]
  · iexists _; isplitr; swap; · iexact H18
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H19]
  · iexists _; isplitr; swap; · iexact H19
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H20]
  · iexists _; isplitr; swap; · iexact H20
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H21]
  · iexists _; isplitr; swap; · iexact H21
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H22]
  · iexists _; isplitr; swap; · iexact H22
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H23]
  · iexists _; isplitr; swap; · iexact H23
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H24]
  · iexists _; isplitr; swap; · iexact H24
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H25]
  · iexists _; isplitr; swap; · iexact H25
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H26]
  · iexists _; isplitr; swap; · iexact H26
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H27]
  · iexists _; isplitr; swap; · iexact H27
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [Hc0]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))

/-- The last point of a row of points: the last half of the keys is added, and the query gradients are written out. -/
theorem phaseD_run (c : Dev nD) (i : grid0.Coords) (h6 : k0_cond6 i = 1#1) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (arg16 : Memref sig .tc .hbm S8x12672x512 .f32) (harg16 : arg16.IsWhole) (arg17 : Memref sig .tc .hbm S8x64x12672 .f32) (harg17 : arg17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (arg28 : Memref sig .tc .vmem S12800x512 .f32) (harg28 : arg28.IsWhole) (arg29 : Memref sig .tc .vmem S64x12800 .f32) (harg29 : arg29.IsWhole) (arg30 : DmaSems sig S25) (arg31 : DmaSems sig S25) (K : Prog (TpuEff nD τ sig (Elt F) Λ₀ .tc) PUnit) {Q : PUnit → sProp 𝕄}
    (ktb : Vec F S1x576x256 .bf16) (qt : Vec F S768x1024 .bf16) (dov q : Vec F S1024x512 .bf16) (pb dsb : Vec F S256x1024 .bf16) (acc : Vec F S576x1024 .f32) (fc1 : Buf (Elt F) (arg28.view.loc (c : Thread nD τ))) (fk1 : Buf (Elt F) (arg29.view.loc (c : Thread nD τ))) :
    iprop(owns (c : Thread nD τ) arg13 fullShare ktb ∗ owns (c : Thread nD τ) arg18 fullShare qt ∗ owns (c : Thread nD τ) arg20 fullShare dov ∗ owns (c : Thread nD τ) arg21 fullShare q ∗ owns (c : Thread nD τ) arg25 fullShare pb ∗ owns (c : Thread nD τ) arg26 fullShare dsb ∗ owns (c : Thread nD τ) arg27 fullShare acc ∗ (∃ d, owns (c : Thread nD τ) arg14 fullShare d) ∗ (∃ d, owns (c : Thread nD τ) arg15 fullShare d) ∗ (arg28.view.loc (c : Thread nD τ) ↦[arg28.view.setOn (Rect.unit (s := S12800x512) (k0_off14 i) S256x512.size (k0_off14_inb i h6)).set]{fullShare} fc1) ∗ (arg29.view.loc (c : Thread nD τ) ↦[arg29.view.setOn (Rect.unit (s := S64x12800) (k0_off15 i) S64x256.size (k0_off15_inb i h6)).set]{fullShare} fk1)
      ∗ (iprop(owns (c : Thread nD τ) arg13 fullShare ktb ∗ owns (c : Thread nD τ) arg18 fullShare qt ∗ owns (c : Thread nD τ) arg20 fullShare dov ∗ owns (c : Thread nD τ) arg21 fullShare q ∗ owns (c : Thread nD τ) arg25 fullShare pb ∗ owns (c : Thread nD τ) arg26 fullShare dsb ∗ owns (c : Thread nD τ) arg27 fullShare (dqStep acc dsb ktb) ∗ owns (c : Thread nD τ) arg14 fullShare (dqOut (dqStep acc dsb ktb)) ∗ owns (c : Thread nD τ) arg15 fullShare (dqrOut (dqStep acc dsb ktb)) ∗ (arg28.view.loc (c : Thread nD τ) ↦[arg28.view.setOn (Rect.unit (s := S12800x512) (k0_off14 i) S256x512.size (k0_off14_inb i h6)).set]{fullShare} arg28.view.writes (Elt F) fc1 [⟨Rect.unit (s := S12800x512) (k0_off14 i) S256x512.size (k0_off14_inb i h6), dcStep (arg28.view.readAt (Elt F) (Rect.unit (s := S12800x512) (k0_off14 i) S256x512.size (k0_off14_inb i h6)).toLoadRect fc1) pb dsb dov q⟩]) ∗ (arg29.view.loc (c : Thread nD τ) ↦[arg29.view.setOn (Rect.unit (s := S64x12800) (k0_off15 i) S64x256.size (k0_off15_inb i h6)).set]{fullShare} arg29.view.writes (Elt F) fk1 [⟨Rect.unit (s := S64x12800) (k0_off15 i) S64x256.size (k0_off15_inb i h6), dkStep (arg29.view.readAt (Elt F) (Rect.unit (s := S64x12800) (k0_off15 i) S64x256.size (k0_off15_inb i h6)).toLoadRect fk1) dsb qt⟩])) -∗ wp frame (wpE (defs₀ (F := F)) Variants.none (c : Thread nD τ) none) Set.univ K Q))
    ⊢ wp frame (wpE (defs₀ (F := F)) Variants.none (c : Thread nD τ) none) Set.univ (phaseD i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 K) Q := by
  unfold phaseD
  simp only [k0_part11_eq_skeleton]
  unfold k0_part11_skel
  unfold owns
  iintro ⟨⟨%f13, %h13, H13⟩, ⟨%f18, %h18, H18⟩, ⟨%f20, %h20, H20⟩, ⟨%f21, %h21, H21⟩, ⟨%f25, %h25, H25⟩, ⟨%f26, %h26, H26⟩, ⟨%f27, %h27, H27⟩, ⟨%d14, %f14, %h14, H14⟩, ⟨%d15, %f15, %h15, H15⟩, Hc1, Hk1, HK⟩
  subst h13
  subst h18
  subst h20
  subst h21
  subst h25
  subst h26
  subst h27
  subst h14
  subst h15
  sl_exec
  iapply HK
  isplitl [H13]
  · iexists _; isplitr; swap; · iexact H13
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H18]
  · iexists _; isplitr; swap; · iexact H18
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H20]
  · iexists _; isplitr; swap; · iexact H20
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H21]
  · iexists _; isplitr; swap; · iexact H21
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H25]
  · iexists _; isplitr; swap; · iexact H25
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H26]
  · iexists _; isplitr; swap; · iexact H26
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H27]
  · iexists _; isplitr; swap; · iexact H27
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H14]
  · iexists _; isplitr; swap; · iexact H14
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [H15]
  · iexists _; isplitr; swap; · iexact H15
    ipureintro; first | with_reducible rfl | (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  isplitl [Hc1]
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))
  · refine Entails.of_eq ?_
    (sl_unfold_words; simp only [rwF_S768x1024, raF_S768x1024, rcF_S768x1024, rwF_S512x1024, raF_S512x1024, rcF_S512x1024, rwF_S1024x512, raF_S1024x512, rcF_S1024x512, rwF_S8x1024, raF_S8x1024, rcF_S8x1024, rwF_S256x1024, raF_S256x1024, rcF_S256x1024, rwF_S576x1024, raF_S576x1024, rcF_S576x1024, rwF_S1x576x256, raF_S1x576x256, rcF_S1x576x256, rwF_S1x1024x512, raF_S1x1024x512, rcF_S1x1024x512, rwF_S1x1024x64, raF_S1x1024x64, rcF_S1x1024x64, rwF_S1x1x1x1024, raF_S1x1x1x1024, rcF_S1x1x1x1024, rcC_S768x1024, rcC_S512x1024, rcC_S1024x512, rcC_S8x1024, rcC_S256x1024, rcC_S576x1024, rcC_S1x576x256, rcC_S1x1024x512, rcC_S1x1024x64, rcC_S1x1x1x1024, cnF_S768x1024, cnF_S512x1024, cnF_S1024x512, cnF_S8x1024, cnF_S256x1024, cnF_S576x1024, cnF_S1x576x256, cnF_S1x1024x512, cnF_S1x1024x64, cnF_S1x1x1x1024]; simp only [rcS, View.readAt_eq_ld, cnF_S768x1024, cnF_S512x1024, cnF_S1024x512, cnF_S8x1024, cnF_S256x1024, cnF_S576x1024, cnF_S1x576x256, cnF_S1x1024x512, cnF_S1x1024x64, cnF_S1x1x1x1024, pay51_eq, pay52_eq, pay53_eq, pay54_eq, pay55_eq, pay56_eq, pay57_eq, pay5_58_eq, pay40_eq, pay3_41_eq, pay4_eq, pay32_eq, pay33_eq, pay38_eq, pay39_eq, dqStep, dcStep, dkStep, dsOf, pOf, dotOf, doOf, qOf, deltaOf, dqZero, qtOf, qtPieces, dqOut, dqrOut]; first | done | with_reducible rfl | exact View.read_writes_eq_canon _ _ _ (qtPieces_cover _ _ _ _))

end Cert.KernelIdeal.Gen

end
-- ==== Proof.Ideal.Contents.lean ====
/-
  What the working buffers hold at each point of the grid, as functions of the argument arrays: the per-tile
  values a query tile starts from, the probabilities and score gradients of each half of a key block, the three
  accumulators as recursions over halves and over query tiles.
-/
module

public import proofs.«01_k».proof.Proof.Gen.KernelIdeal.Frame
public import proofs.«01_k».proof.Proof.Ideal.Model

@[expose] public section

noncomputable section

namespace Cert.KernelIdeal.Gen

open Idealize.ShloMosaic Idealize.ShloMosaic.TcCoe
open Idealize.SL Idealize.SL.Sem

variable {F : FTy → Type} [FloatOps F] [Named F]
variable (m : (ℓ : Loc nD τ sig) → Buf (Elt F) ℓ) (c : Dev nD)

/-- The grid point of batch `b`, query tile `qi`, step `j`, in the order the grid is run. -/
def pt (b qi j : ℕ) : Fin cfg0.N := ⟨((b * 12 + qi) * 26 + j) % 2496, by rw [show cfg0.N = 2496 from N_0]; exact Nat.mod_lt _ (by decide)⟩

/-! ## The query tile's values -/

def QT (b qi : ℕ) : Vec F S768x1024 .bf16 :=
  qtOf (BitVec.ofNat 32 qi) (iblk m c 0 (pt b qi 0)) (iblk m c 1 (pt b qi 0)) (iblk m c 5 (pt b qi 0))
def DOT (b qi : ℕ) : Vec F S512x1024 .bf16 := dotOf (iblk m c 4 (pt b qi 0)) (iblk m c 3 (pt b qi 0))
def DOV (b qi : ℕ) : Vec F S1024x512 .bf16 := doOf (iblk m c 4 (pt b qi 0)) (iblk m c 3 (pt b qi 0))
def QV (b qi : ℕ) : Vec F S1024x512 .bf16 := qOf (iblk m c 0 (pt b qi 0))
def DELTA (b qi : ℕ) : Vec F S8x1024 .f32 :=
  deltaOf (iblk m c 4 (pt b qi 0)) (iblk m c 3 (pt b qi 0)) (iblk m c 2 (pt b qi 0))

/-! ## The halves of key block `j` -/

def PV (b qi j : ℕ) (half : Bool) : Vec F S256x1024 .bf16 :=
  pOf half (iblk m c 6 (pt b qi j)) (iblk m c 7 (pt b qi j)) (iblk m c 8 (pt b qi j)) (QT m c b qi)
def DSV (b qi j : ℕ) (half : Bool) : Vec F S256x1024 .bf16 :=
  dsOf half (iblk m c 6 (pt b qi j)) (iblk m c 7 (pt b qi j)) (iblk m c 8 (pt b qi j)) (QT m c b qi) (DOT m c b qi) (DELTA m c b qi)

/-- The transposed key columns step `j` reads for the half it computes, and for the half the step before left. -/
def KTA (b qi j : ℕ) : Vec F S1x576x256 .bf16 := iblk m c 9 (pt b qi j)
def KTB (b qi j : ℕ) : Vec F S1x576x256 .bf16 := iblk m c 10 (pt b qi j)

/-- The query-gradient accumulator after step `j`. -/
def DQA (b qi : ℕ) : ℕ → Vec F S576x1024 .f32
  | 0 => dqStep dqZero (DSV m c b qi 0 false) (KTA m c b qi 0)
  | j + 1 => dqStep (dqStep (DQA b qi j) (DSV m c b qi j true) (KTB m c b qi (j + 1))) (DSV m c b qi (j + 1) false) (KTA m c b qi (j + 1))
/-- The accumulator the last step leaves. -/
def DQF (b qi : ℕ) : Vec F S576x1024 .f32 := dqStep (DQA m c b qi 24) (DSV m c b qi 24 true) (KTB m c b qi 25)

/-! ## The key gradients, half `h` of the fifty, after `n` query tiles -/

def DCH (b h : ℕ) : ℕ → Vec F S256x512 .f32
  | 0 => fun x => (k0_pay1 (F := F)) (fun a => ⟨(x a).val, by have := (x a).isLt; fin_cases a <;> simp_all [S256x512, S512x512] <;> omega⟩)
  | n + 1 => dcStep (DCH b h n) (PV m c b n (h / 2) (h % 2 == 1)) (DSV m c b n (h / 2) (h % 2 == 1)) (DOV m c b n) (QV m c b n)
def DKH (b h : ℕ) : ℕ → Vec F S64x256 .f32
  | 0 => fun x => (k0_pay2 (F := F)) (fun a => ⟨(x a).val, by have := (x a).isLt; fin_cases a <;> simp_all [S64x256, S64x512] <;> omega⟩)
  | n + 1 => dkStep (DKH b h n) (DSV m c b n (h / 2) (h % 2 == 1)) (QT m c b n)

/-- A row of the scratch array within its half; a column likewise. -/
def locC (x : S12800x512.Idx) : S256x512.Idx := fun
  | 0 => ⟨(x 0).val % 256, Nat.mod_lt _ (by decide)⟩
  | 1 => ⟨(x 1).val, (x 1).isLt⟩
def locK (x : S64x12800.Idx) : S64x256.Idx := fun
  | 0 => ⟨(x 0).val, (x 0).isLt⟩
  | 1 => ⟨(x 1).val % 256, Nat.mod_lt _ (by decide)⟩

/-- The two scratch arrays, every half after `n` query tiles. -/
def DCall (b n : ℕ) : Vec F S12800x512 .f32 := fun x => DCH m c b ((x 0).val / 256) n (locC x)
def DKall (b n : ℕ) : Vec F S64x12800 .f32 := fun x => DKH m c b ((x 1).val / 256) n (locK x)

/-- A result's element's place in the scratch array of its batch. -/
def inC (x : S8x12672x512.Idx) : S12800x512.Idx := fun
  | 0 => ⟨(x 1).val, by have := (x 1).isLt; simp [S8x12672x512, S12800x512] at this ⊢; omega⟩
  | 1 => ⟨(x 2).val, (x 2).isLt⟩
def inK (x : S8x64x12672.Idx) : S64x12800.Idx := fun
  | 0 => ⟨(x 1).val, (x 1).isLt⟩
  | 1 => ⟨(x 2).val, by have := (x 2).isLt; simp [S8x64x12672, S64x12800] at this ⊢; omega⟩

/-- The two results in HBM with the batches below `B` written. -/
def homeFC (B : ℕ) : Vec F S8x12672x512 .f32 :=
  fun x => if (x 0).val < B then DCall m c (x 0).val 12 (inC x) else (m ((c : Thread nD τ).loc main_v0_2) : S8x12672x512.Idx → Elt F .f32) x
def homeFK (B : ℕ) : Vec F S8x64x12672 .f32 :=
  fun x => if (x 0).val < B then DKall m c (x 0).val 12 (inK x) else (m ((c : Thread nD τ).loc main_v0_3) : S8x64x12672.Idx → Elt F .f32) x

end Cert.KernelIdeal.Gen

end
-- ==== Proof.Ideal.Pieces.lean ====
/-
  The scratch arrays and the results cut into row (column) bands, and the two steps by which the contents of a
  band move on: a half takes one more query tile, a whole tile is copied into its batch's place in a result.
-/
module

public import proofs.«01_k».proof.Proof.Ideal.Contents
public import Idealize.ShloMosaic.Lib.WritesUnit

@[expose] public section

noncomputable section

namespace Cert.KernelIdeal.Gen

open Idealize.ShloMosaic Idealize.ShloMosaic.TcCoe
open Idealize.SL Idealize.SL.Sem

variable {F : FTy → Type} [FloatOps F] [Named F]

abbrev M28 : Memref sig .tc .vmem S12800x512 .f32 := Memref.whole cc0_scratch10
abbrev M29 : Memref sig .tc .vmem S64x12800 .f32 := Memref.whole cc0_scratch11
abbrev M16 : Memref sig .tc .hbm S8x12672x512 .f32 := Memref.whole main_v0_2
abbrev M17 : Memref sig .tc .hbm S8x64x12672 .f32 := Memref.whole main_v0_3

/-- Rows `a … a + n` of the first scratch array, columns `a … a + n` of the second. -/
def rowsC (a n : ℕ) : Finset S12800x512.Idx := Finset.univ.filter fun x => a ≤ (x 0).val ∧ (x 0).val < a + n
def colsK (a n : ℕ) : Finset S64x12800.Idx := Finset.univ.filter fun x => a ≤ (x 1).val ∧ (x 1).val < a + n
/-- The same bands of the results, in every batch. -/
def homeSC (a n : ℕ) : Finset S8x12672x512.Idx := Finset.univ.filter fun x => a ≤ (x 1).val ∧ (x 1).val < a + n
def homeSK (a n : ℕ) : Finset S8x64x12672.Idx := Finset.univ.filter fun x => a ≤ (x 2).val ∧ (x 2).val < a + n

theorem mem_rowsC {a n : ℕ} {x : S12800x512.Idx} : x ∈ rowsC a n ↔ a ≤ (x 0).val ∧ (x 0).val < a + n := by simp [rowsC]
theorem mem_colsK {a n : ℕ} {x : S64x12800.Idx} : x ∈ colsK a n ↔ a ≤ (x 1).val ∧ (x 1).val < a + n := by simp [colsK]
theorem mem_homeSC {a n : ℕ} {x : S8x12672x512.Idx} : x ∈ homeSC a n ↔ a ≤ (x 1).val ∧ (x 1).val < a + n := by simp [homeSC]
theorem mem_homeSK {a n : ℕ} {x : S8x64x12672.Idx} : x ∈ homeSK a n ↔ a ≤ (x 2).val ∧ (x 2).val < a + n := by simp [homeSK]

theorem rect_rowsC (a n : ℕ) (inb : ∀ x, (![a, 0] : Fin 2 → ℕ) x + (![n, 512] : Fin 2 → ℕ) x ≤ S12800x512.size x) :
    (Rect.unit (s := S12800x512) ![a, 0] ![n, 512] inb).set = rowsC a n := by
  ext x
  rw [Rect.mem_set_unit, mem_rowsC, Fin.forall_fin_two]
  have := (x 1).isLt
  simp [S12800x512] at this ⊢
  omega

theorem rect_colsK (a n : ℕ) (inb : ∀ x, (![0, a] : Fin 2 → ℕ) x + (![64, n] : Fin 2 → ℕ) x ≤ S64x12800.size x) :
    (Rect.unit (s := S64x12800) ![0, a] ![64, n] inb).set = colsK a n := by
  ext x
  rw [Rect.mem_set_unit, mem_colsK, Fin.forall_fin_two]
  have := (x 0).isLt
  simp [S64x12800] at this ⊢
  omega

variable (m : (ℓ : Loc nD τ sig) → Buf (Elt F) ℓ) (c : Dev nD)

/-- Reading a scratch array whole is its contents. -/
theorem rd28 (g : M28.view.ty.Contents (Elt F)) (y : S12800x512.Idx) : g y = M28.view.read (Elt F) g y := rfl
theorem rd29 (g : M29.view.ty.Contents (Elt F)) (y : S64x12800.Idx) : g y = M29.view.read (Elt F) g y := rfl

/-! ## One more query tile in a half -/

theorem readAt_DC (b h n : ℕ) (inb : ∀ x, (![256 * h, 0] : Fin 2 → ℕ) x + S256x512.size x ≤ S12800x512.size x) :
    M28.view.readAt (Elt F) (Rect.unit (s := S12800x512) ![256 * h, 0] S256x512.size inb).toLoadRect (DCall m c b n) = DCH m c b h n := by
  funext x
  have h0 : (x 0).val < 256 := (x 0).isLt
  have e0 : (((Rect.unit (s := S12800x512) ![256 * h, 0] S256x512.size inb).emb x) 0).val = 256 * h + 1 * (x 0).val := rfl
  have e1 : (((Rect.unit (s := S12800x512) ![256 * h, 0] S256x512.size inb).emb x) 1).val = 0 + 1 * (x 1).val := rfl
  show DCall m c b n ((Rect.unit (s := S12800x512) ![256 * h, 0] S256x512.size inb).emb x) = _
  unfold DCall
  rw [e0, show (256 * h + 1 * (x 0).val) / 256 = h by omega]
  congr 1
  funext a; apply Fin.ext
  match a with
  | 0 => show (((Rect.unit (s := S12800x512) ![256 * h, 0] S256x512.size inb).emb x) 0).val % 256 = _; rw [e0]; omega
  | 1 => show (((Rect.unit (s := S12800x512) ![256 * h, 0] S256x512.size inb).emb x) 1).val = _; rw [e1]; omega

theorem readAt_DK (b h n : ℕ) (inb : ∀ x, (![0, 256 * h] : Fin 2 → ℕ) x + S64x256.size x ≤ S64x12800.size x) :
    M29.view.readAt (Elt F) (Rect.unit (s := S64x12800) ![0, 256 * h] S64x256.size inb).toLoadRect (DKall m c b n) = DKH m c b h n := by
  funext x
  have h0 : (x 1).val < 256 := (x 1).isLt
  have e0 : (((Rect.unit (s := S64x12800) ![0, 256 * h] S64x256.size inb).emb x) 1).val = 256 * h + 1 * (x 1).val := rfl
  have e1 : (((Rect.unit (s := S64x12800) ![0, 256 * h] S64x256.size inb).emb x) 0).val = 0 + 1 * (x 0).val := rfl
  show DKall m c b n ((Rect.unit (s := S64x12800) ![0, 256 * h] S64x256.size inb).emb x) = _
  unfold DKall
  rw [e0, show (256 * h + 1 * (x 1).val) / 256 = h by omega]
  congr 1
  funext a; apply Fin.ext
  match a with
  | 1 => show (((Rect.unit (s := S64x12800) ![0, 256 * h] S64x256.size inb).emb x) 1).val % 256 = _; rw [e0]; omega
  | 0 => show (((Rect.unit (s := S64x12800) ![0, 256 * h] S64x256.size inb).emb x) 0).val = _; rw [e1]; omega

theorem writes_DC (b h n : ℕ) (inb : ∀ x, (![256 * h, 0] : Fin 2 → ℕ) x + S256x512.size x ≤ S12800x512.size x)
    (f : Vec F S12800x512 .f32) (y : S12800x512.Idx) (hy : y ∈ rowsC (256 * h) 256) :
    M28.view.writes (Elt F) f [⟨Rect.unit (s := S12800x512) ![256 * h, 0] S256x512.size inb, DCH m c b h n⟩] y = DCall m c b n y := by
  rw [mem_rowsC] at hy
  have key := View.read_writes_cons_unit_of_mem (Val := Elt F) (off' := ![256 * h, 0]) M28.view f inb (DCH m c b h n) [] y (locC y) rfl
  refine (rd28 _ y).trans ((key fun a => ?_).trans ?_)
  · match a with
    | 0 => show (y 0).val = 256 * h + (y 0).val % 256; omega
    | 1 => show (y 1).val = 0 + (y 1).val; omega
  · unfold DCall; rw [show (y 0).val / 256 = h by omega]

theorem writes_DK (b h n : ℕ) (inb : ∀ x, (![0, 256 * h] : Fin 2 → ℕ) x + S64x256.size x ≤ S64x12800.size x)
    (f : Vec F S64x12800 .f32) (y : S64x12800.Idx) (hy : y ∈ colsK (256 * h) 256) :
    M29.view.writes (Elt F) f [⟨Rect.unit (s := S64x12800) ![0, 256 * h] S64x256.size inb, DKH m c b h n⟩] y = DKall m c b n y := by
  rw [mem_colsK] at hy
  have key := View.read_writes_cons_unit_of_mem (Val := Elt F) (off' := ![0, 256 * h]) M29.view f inb (DKH m c b h n) [] y (locK y) rfl
  refine (rd29 _ y).trans ((key fun a => ?_).trans ?_)
  · match a with
    | 1 => show (y 1).val = 256 * h + (y 1).val % 256; omega
    | 0 => show (y 0).val = 0 + (y 0).val; omega
  · unfold DKall; rw [show (y 1).val / 256 = h by omega]

/-! ## A tile zeroed -/

theorem DC_zero (b k : ℕ) (y : S12800x512.Idx) (x : S512x512.Idx) : k0_pay1 (F := F) x = DCall m c b 0 y := by
  unfold DCall DCH k0_pay1; rfl
theorem DK_zero (b k : ℕ) (y : S64x12800.Idx) (x : S64x512.Idx) : k0_pay2 (F := F) x = DKall m c b 0 y := by
  unfold DKall DKH k0_pay2; rfl

theorem zero_DC (b k : ℕ) (inb : ∀ x, (![512 * k, 0] : Fin 2 → ℕ) x + S512x512.size x ≤ S12800x512.size x)
    (f : Vec F S12800x512 .f32) (y : S12800x512.Idx) (hy : y ∈ rowsC (512 * k) 512) :
    M28.view.writes (Elt F) f [⟨Rect.unit (s := S12800x512) ![512 * k, 0] S512x512.size inb, k0_pay1 (F := F)⟩] y = DCall m c b 0 y := by
  rw [mem_rowsC] at hy
  let x : S512x512.Idx := fun | 0 => ⟨(y 0).val % 512, Nat.mod_lt _ (by decide)⟩ | 1 => ⟨(y 1).val, (y 1).isLt⟩
  have key := View.read_writes_cons_unit_of_mem (Val := Elt F) (off' := ![512 * k, 0]) M28.view f inb (k0_pay1 (F := F)) [] y x rfl
  refine (rd28 _ y).trans ((key fun a => ?_).trans (DC_zero m c b k y x))
  match a with
  | 0 => show (y 0).val = 512 * k + (y 0).val % 512; omega
  | 1 => show (y 1).val = 0 + (y 1).val; omega

theorem zero_DK (b k : ℕ) (inb : ∀ x, (![0, 512 * k] : Fin 2 → ℕ) x + S64x512.size x ≤ S64x12800.size x)
    (f : Vec F S64x12800 .f32) (y : S64x12800.Idx) (hy : y ∈ colsK (512 * k) 512) :
    M29.view.writes (Elt F) f [⟨Rect.unit (s := S64x12800) ![0, 512 * k] S64x512.size inb, k0_pay2 (F := F)⟩] y = DKall m c b 0 y := by
  rw [mem_colsK] at hy
  let x : S64x512.Idx := fun | 1 => ⟨(y 1).val % 512, Nat.mod_lt _ (by decide)⟩ | 0 => ⟨(y 0).val, (y 0).isLt⟩
  have key := View.read_writes_cons_unit_of_mem (Val := Elt F) (off' := ![0, 512 * k]) M29.view f inb (k0_pay2 (F := F)) [] y x rfl
  refine (rd29 _ y).trans ((key fun a => ?_).trans (DK_zero m c b k y x))
  match a with
  | 1 => show (y 1).val = 512 * k + (y 1).val % 512; omega
  | 0 => show (y 0).val = 0 + (y 0).val; omega

/-! ## A tile copied into its batch's place -/

/-- The place of `n` rows from row `a` of batch `b`, as the transfer names it. -/
abbrev viewHC (b a n : ℕ) (inb : ∀ x, (![b, a, 0] : Fin 3 → ℕ) x + (![1, n, 512] : Fin 3 → ℕ) x ≤ S8x12672x512.size x)
    (hn : (⟨2, ![n, 512]⟩ : Shape).numel = (⟨3, ![1, n, 512]⟩ : Shape).numel) : View sig .tc .hbm ⟨2, ![n, 512]⟩ .f32 :=
  (M16.view.slice (Rect.unit (s := S8x12672x512) ![b, a, 0] ![1, n, 512] inb)).reshape ⟨2, ![n, 512]⟩ hn
abbrev viewHK (b a n : ℕ) (inb : ∀ x, (![b, 0, a] : Fin 3 → ℕ) x + (![1, 64, n] : Fin 3 → ℕ) x ≤ S8x64x12672.size x)
    (hn : (⟨2, ![64, n]⟩ : Shape).numel = (⟨3, ![1, 64, n]⟩ : Shape).numel) : View sig .tc .hbm ⟨2, ![64, n]⟩ .f32 :=
  (M17.view.slice (Rect.unit (s := S8x64x12672) ![b, 0, a] ![1, 64, n] inb)).reshape ⟨2, ![64, n]⟩ hn

theorem viewHC_emb (b a n : ℕ) (inb) (hn) (x : (⟨2, ![n, 512]⟩ : Shape).Idx) :
    ((viewHC b a n inb hn).emb x : S8x12672x512.Idx)
      = (Rect.unit (s := S8x12672x512) ![b, a, 0] ![1, n, 512] inb).emb (Fin.cons ⟨0, Nat.one_pos⟩ x) := by
  show (Rect.unit (s := S8x12672x512) ![b, a, 0] ![1, n, 512] inb).emb (Shape.reshapeEquiv hn x) = _
  rw [Shape.reshapeEquiv_cons_one (d := ![n, 512]) hn x]
theorem viewHK_emb (b a n : ℕ) (inb) (hn) (x : (⟨2, ![64, n]⟩ : Shape).Idx) :
    ((viewHK b a n inb hn).emb x : S8x64x12672.Idx)
      = (Rect.unit (s := S8x64x12672) ![b, 0, a] ![1, 64, n] inb).emb (Fin.cons ⟨0, Nat.one_pos⟩ x) := by
  show (Rect.unit (s := S8x64x12672) ![b, 0, a] ![1, 64, n] inb).emb (Shape.reshapeEquiv hn x) = _
  rw [Shape.reshapeEquiv_cons_one (d := ![64, n]) hn x]

theorem viewHC_set (b a n : ℕ) (inb) (hn) : ((viewHC b a n inb hn).set : Finset S8x12672x512.Idx) ⊆ homeSC a n := by
  intro y hy
  obtain ⟨x, -, rfl⟩ := Finset.mem_map.mp hy
  have h0 : (x 0).val < n := (x 0).isLt
  rw [mem_homeSC, viewHC_emb]
  show a ≤ a + 1 * (x 0).val ∧ a + 1 * (x 0).val < a + n
  omega
theorem viewHK_set (b a n : ℕ) (inb) (hn) : ((viewHK b a n inb hn).set : Finset S8x64x12672.Idx) ⊆ homeSK a n := by
  intro y hy
  obtain ⟨x, -, rfl⟩ := Finset.mem_map.mp hy
  have h0 : (x 1).val < n := (x 1).isLt
  rw [mem_homeSK, viewHK_emb]
  show a ≤ a + 1 * (x 1).val ∧ a + 1 * (x 1).val < a + n
  omega

theorem home_step_C (b a n : ℕ) (inb) (hn)
    (inb' : ∀ x, (![a, 0] : Fin 2 → ℕ) x + (![n, 512] : Fin 2 → ℕ) x ≤ S12800x512.size x)
    (y : S8x12672x512.Idx) (hy : y ∈ homeSC a n) :
    (viewHC b a n inb hn).write (Elt F) (homeFC m c b)
        ((M28.view.slice (Rect.unit (s := S12800x512) ![a, 0] ![n, 512] inb')).read (Elt F) (DCall m c b 12)) Finset.univ y
      = homeFC m c (b + 1) y := by
  rw [mem_homeSC] at hy
  by_cases hb : (y 0).val = b
  · have h1 : (y 2).val < 512 := (y 2).isLt
    have hx : (viewHC b a n inb hn).emb (fun | 0 => ⟨(y 1).val - a, by show _ < n; omega⟩ | 1 => ⟨(y 2).val, h1⟩) = y := by
      refine (viewHC_emb b a n inb hn _).trans ?_
      funext i; apply Fin.ext
      match i with
      | 0 => show b + 1 * 0 = (y 0).val; omega
      | 1 => show a + 1 * ((y 1).val - a) = (y 1).val; omega
      | 2 => show 0 + 1 * (y 2).val = (y 2).val; omega
    refine (congrArg _ hx.symm).trans ((View.write_emb_of_mem (v := viewHC b a n inb hn) _ _ (Finset.mem_univ _)).trans ?_)
    unfold homeFC
    rw [if_pos (by omega), hb]
    show DCall m c b 12 _ = DCall m c b 12 _
    congr 1
    funext i; apply Fin.ext
    match i with
    | 0 => show a + 1 * ((y 1).val - a) = (y 1).val; omega
    | 1 => show 0 + 1 * (y 2).val = (y 2).val; omega
  · rw [View.write_of_not_mem]
    · unfold homeFC
      split <;> split <;> first | rfl | omega
    · intro hm
      obtain ⟨x, -, rfl⟩ := Finset.mem_map.mp hm
      exact hb ((congrArg (fun z : S8x12672x512.Idx => (z 0).val) (viewHC_emb b a n inb hn x)).trans rfl)

theorem home_step_K (b a n : ℕ) (inb) (hn)
    (inb' : ∀ x, (![0, a] : Fin 2 → ℕ) x + (![64, n] : Fin 2 → ℕ) x ≤ S64x12800.size x)
    (y : S8x64x12672.Idx) (hy : y ∈ homeSK a n) :
    (viewHK b a n inb hn).write (Elt F) (homeFK m c b)
        ((M29.view.slice (Rect.unit (s := S64x12800) ![0, a] ![64, n] inb')).read (Elt F) (DKall m c b 12)) Finset.univ y
      = homeFK m c (b + 1) y := by
  rw [mem_homeSK] at hy
  by_cases hb : (y 0).val = b
  · have h1 : (y 1).val < 64 := (y 1).isLt
    have hx : (viewHK b a n inb hn).emb (fun | 1 => ⟨(y 2).val - a, by show _ < n; omega⟩ | 0 => ⟨(y 1).val, h1⟩) = y := by
      refine (viewHK_emb b a n inb hn _).trans ?_
      funext i; apply Fin.ext
      match i with
      | 0 => show b + 1 * 0 = (y 0).val; omega
      | 1 => show 0 + 1 * (y 1).val = (y 1).val; omega
      | 2 => show a + 1 * ((y 2).val - a) = (y 2).val; omega
    refine (congrArg _ hx.symm).trans ((View.write_emb_of_mem (v := viewHK b a n inb hn) _ _ (Finset.mem_univ _)).trans ?_)
    unfold homeFK
    rw [if_pos (by omega), hb]
    show DKall m c b 12 _ = DKall m c b 12 _
    congr 1
    funext i; apply Fin.ext
    match i with
    | 0 => show 0 + 1 * (y 1).val = (y 1).val; omega
    | 1 => show a + 1 * ((y 2).val - a) = (y 2).val; omega
  · rw [View.write_of_not_mem]
    · unfold homeFK
      split <;> split <;> first | rfl | omega
    · intro hm
      obtain ⟨x, -, rfl⟩ := Finset.mem_map.mp hm
      exact hb ((congrArg (fun z : S8x64x12672.Idx => (z 0).val) (viewHK_emb b a n inb hn x)).trans rfl)

end Cert.KernelIdeal.Gen

end
-- ==== Proof.Ideal.Coords.lean ====
/-
  The conditions and the offsets the kernel computes from the coordinates `(b, qi, j)` of a grid point, in
  plain arithmetic.
-/
module

public import proofs.«01_k».proof.Proof.Gen.KernelIdeal.Skeleton

@[expose] public section

set_option maxRecDepth 8000

namespace Cert.KernelIdeal.Gen

open Idealize.ShloMosaic Idealize.SL.Sem

/-- Zeroing runs at the first query tile of a batch, below the last block. -/
theorem cond1_iff (i : grid0.Coords) : k0_cond1 i = 1#1 ↔ (i 1).val = 0 ∧ (i 2).val < 25 := by
  unfold k0_cond1; generalize i 1 = a; generalize i 2 = d; revert a d
  show ∀ (a : Fin 12) (d : Fin 26), _
  decide
theorem cond2_iff (i : grid0.Coords) : k0_cond2 i = 1#1 ↔ 0 < (i 0).val ∧ (i 2).val < 24 := by
  unfold k0_cond2; generalize i 0 = a; generalize i 2 = d; revert a d
  show ∀ (a : Fin 8) (d : Fin 26), _
  decide
theorem cond3_iff (i : grid0.Coords) : k0_cond3 i = 1#1 ↔ 0 < (i 0).val ∧ (i 2).val = 24 := by
  unfold k0_cond3; generalize i 0 = a; generalize i 2 = d; revert a d
  show ∀ (a : Fin 8) (d : Fin 26), _
  decide
theorem cond4_iff (i : grid0.Coords) : k0_cond4 i = 1#1 ↔ (i 2).val = 0 := by
  unfold k0_cond4; generalize i 2 = d; revert d
  show ∀ (d : Fin 26), _
  decide
theorem cond5_iff (i : grid0.Coords) : k0_cond5 i = 1#1 ↔ 0 < (i 2).val ∧ (i 2).val < 25 := by
  unfold k0_cond5; generalize i 2 = d; revert d
  show ∀ (d : Fin 26), _
  decide
theorem cond6_iff (i : grid0.Coords) : k0_cond6 i = 1#1 ↔ (i 2).val = 25 := by
  unfold k0_cond6; generalize i 2 = d; revert d
  show ∀ (d : Fin 26), _
  decide
theorem cond7_iff (i : grid0.Coords) : k0_cond7 i = 1#1 ↔ (i 1).val = 11 ∧ 0 < (i 2).val ∧ (i 2).val < 25 := by
  unfold k0_cond7; generalize i 1 = a; generalize i 2 = d; revert a d
  show ∀ (a : Fin 12) (d : Fin 26), _
  decide
theorem cond8_iff (i : grid0.Coords) : k0_cond8 i = 1#1 ↔ (i 1).val = 11 ∧ (i 2).val = 25 := by
  unfold k0_cond8; generalize i 1 = a; generalize i 2 = d; revert a d
  show ∀ (a : Fin 12) (d : Fin 26), _
  decide
theorem cond9_iff (i : grid0.Coords) : k0_cond9 i = 1#1 ↔ (i 0).val = 7 := by
  unfold k0_cond9; generalize i 0 = a; revert a
  show ∀ (a : Fin 8), _
  decide

theorem off1_eq (i : grid0.Coords) : k0_off1 i = ![(i 2).val] := by
  unfold k0_off1; generalize i 2 = d; revert d
  show ∀ (d : Fin 26), _
  decide
theorem off8_eq (i : grid0.Coords) : k0_off8 i = ![512 * (i 2).val, 0] := by
  unfold k0_off8; generalize i 2 = d; revert d
  show ∀ (d : Fin 26), _
  decide
theorem off9_eq (i : grid0.Coords) : k0_off9 i = ![0, 512 * (i 2).val] := by
  unfold k0_off9; generalize i 2 = d; revert d
  show ∀ (d : Fin 26), _
  decide
theorem off10_eq (i : grid0.Coords) (h : 0 < (i 2).val) : k0_off10 i = ![256 * (2 * (i 2).val - 1), 0] := by
  unfold k0_off10; generalize i 2 = d at h ⊢; revert d
  show ∀ (d : Fin 26), _
  decide
theorem off11_eq (i : grid0.Coords) (h : 0 < (i 2).val) : k0_off11 i = ![0, 256 * (2 * (i 2).val - 1)] := by
  unfold k0_off11; generalize i 2 = d at h ⊢; revert d
  show ∀ (d : Fin 26), _
  decide
theorem off12_eq (i : grid0.Coords) : k0_off12 i = ![256 * (2 * (i 2).val), 0] := by
  unfold k0_off12; generalize i 2 = d; revert d
  show ∀ (d : Fin 26), _
  decide
theorem off13_eq (i : grid0.Coords) : k0_off13 i = ![0, 256 * (2 * (i 2).val)] := by
  unfold k0_off13; generalize i 2 = d; revert d
  show ∀ (d : Fin 26), _
  decide
theorem off14_eq (i : grid0.Coords) (h : 0 < (i 2).val) : k0_off14 i = ![256 * (2 * (i 2).val - 1), 0] := by
  unfold k0_off14; generalize i 2 = d at h ⊢; revert d
  show ∀ (d : Fin 26), _
  decide
theorem off15_eq (i : grid0.Coords) (h : 0 < (i 2).val) : k0_off15 i = ![0, 256 * (2 * (i 2).val - 1)] := by
  unfold k0_off15; generalize i 2 = d at h ⊢; revert d
  show ∀ (d : Fin 26), _
  decide
theorem off16_eq (i : grid0.Coords) (h : 0 < (i 2).val) : k0_off16 i = ![(i 2).val - 1] := by
  unfold k0_off16; generalize i 2 = d at h ⊢; revert d
  show ∀ (d : Fin 26), _
  decide
theorem off17_eq (i : grid0.Coords) (h : 0 < (i 2).val) : k0_off17 i = ![(i 0).val, 512 * ((i 2).val - 1), 0] := by
  unfold k0_off17; generalize i 2 = d at h ⊢; generalize i 0 = a; revert d; revert a
  show ∀ (a : Fin 8) (d : Fin 26), _
  decide
theorem off18_eq (i : grid0.Coords) (h : 0 < (i 2).val) : k0_off18 i = ![512 * ((i 2).val - 1), 0] := by
  unfold k0_off18; generalize i 2 = d at h ⊢; revert d
  show ∀ (d : Fin 26), _
  decide
theorem off19_eq (i : grid0.Coords) (h : 0 < (i 2).val) : k0_off19 i = ![(i 0).val, 0, 512 * ((i 2).val - 1)] := by
  unfold k0_off19; generalize i 2 = d at h ⊢; generalize i 0 = a; revert d; revert a
  show ∀ (a : Fin 8) (d : Fin 26), _
  decide
theorem off20_eq (i : grid0.Coords) (h : 0 < (i 2).val) : k0_off20 i = ![0, 512 * ((i 2).val - 1)] := by
  unfold k0_off20; generalize i 2 = d at h ⊢; revert d
  show ∀ (d : Fin 26), _
  decide
theorem off21_eq (i : grid0.Coords) : k0_off21 i = ![(i 0).val, 12288, 0] := by
  unfold k0_off21; generalize i 0 = a; revert a
  show ∀ (a : Fin 8), _
  decide
theorem off22_eq (i : grid0.Coords) : k0_off22 i = ![(i 0).val, 0, 12288] := by
  unfold k0_off22; generalize i 0 = a; revert a
  show ∀ (a : Fin 8), _
  decide

end Cert.KernelIdeal.Gen

end
-- ==== Proof.Ideal.Tiles.lean ====
/-
  The states a tile of the two key-gradient arrays goes through — idle, held by the running batch, in flight to
  its place in the results — and the transfers' two steps between them.
-/
module

public import proofs.«01_k».proof.Proof.Ideal.Pieces
public import proofs.«01_k».proof.Proof.Ideal.Coords
public import proofs.«01_k».proof.Proof.Ideal.Phases
public import Idealize.ShloMosaic.Lib.Tactic
public import Idealize.ShloMosaic.Lib.Ring
public import Idealize.ShloMosaic.Lib.Pipeline.FrameBody

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

/-! ## The semaphores and the amounts -/

/-- The completion semaphore of tile `k`'s transfer, of the first array and of the second. -/
def cellC (k : Fin 25) : DmaSem sig := (⟨26 + k.val, by omega⟩ : Fin 76)
def cellK (k : Fin 25) : DmaSem sig := (⟨51 + k.val, by omega⟩ : Fin 76)
theorem cellC_eq (k : Fin 25) (inb : ∀ a, (![k.val] : Fin 1 → ℕ) a + S1.size a ≤ S25.size a) :
    ((cc0_scratch12.slice (Rect.unit (s := S25) ![k.val] S1.size inb)).squeeze S_ squeezes_S1_S_).sem = cellC k := by
  revert inb; revert k; decide
theorem cellK_eq (k : Fin 25) (inb : ∀ a, (![k.val] : Fin 1 → ℕ) a + S1.size a ≤ S25.size a) :
    ((cc0_scratch13.slice (Rect.unit (s := S25) ![k.val] S1.size inb)).squeeze S_ squeezes_S1_S_).sem = cellK k := by
  revert inb; revert k; decide

/-- A tile's rows (columns) that exist in the result, and the amounts its two transfers count. -/
def len (k : Fin 25) : ℕ := if k.val = 24 then 384 else 512
def amtC (k : Fin 25) : ℕ := if k.val = 24 then 24576 else 32768
def amtK (k : Fin 25) : ℕ := if k.val = 24 then 3072 else 4096

/-! ## The states -/

variable (m : (ℓ : Loc nD τ sig) → Buf (Elt F) ℓ) (c : Dev nD)

/-- Rows `a … a + n` of the first scratch array at contents `f`; columns of the second. -/
def pC (a n : ℕ) (f : Vec F S12800x512 .f32) : sProp 𝕄 :=
  M28.view.loc (c : Thread nD τ) ↦[M28.view.setOn (rowsC a n)]{fullShare} f
def pK (a n : ℕ) (f : Vec F S64x12800 .f32) : sProp 𝕄 :=
  M29.view.loc (c : Thread nD τ) ↦[M29.view.setOn (colsK a n)]{fullShare} f
/-- Tile `k`'s band of the results, the batches below `B` written. -/
def hC (B : ℕ) (k : Fin 25) : sProp 𝕄 :=
  M16.view.loc (c : Thread nD τ) ↦[M16.view.setOn (homeSC (512 * k.val) (len k))]{fullShare} homeFC m c B
def hK (B : ℕ) (k : Fin 25) : sProp 𝕄 :=
  M17.view.loc (c : Thread nD τ) ↦[M17.view.setOn (homeSK (512 * k.val) (len k))]{fullShare} homeFK m c B
def zC (k : Fin 25) : sProp 𝕄 := semVal ((c : Thread nD τ), SemLoc.dma (cellC k)) 0
def zK (k : Fin 25) : sProp 𝕄 := semVal ((c : Thread nD τ), SemLoc.dma (cellK k)) 0

def IdleC (B : ℕ) (k : Fin 25) : sProp 𝕄 := iprop((∃ f, pC c (512 * k.val) 512 f) ∗ hC m c B k ∗ zC c k)
def IdleK (B : ℕ) (k : Fin 25) : sProp 𝕄 := iprop((∃ f, pK c (512 * k.val) 512 f) ∗ hK m c B k ∗ zK c k)
/-- The first half after `n1` query tiles, the second after `n2`. -/
def HeldC (b : ℕ) (k : Fin 25) (n1 n2 : ℕ) : sProp 𝕄 :=
  iprop(pC c (256 * (2 * k.val)) 256 (DCall m c b n1) ∗ pC c (256 * (2 * k.val + 1)) 256 (DCall m c b n2) ∗ hC m c b k ∗ zC c k)
def HeldK (b : ℕ) (k : Fin 25) (n1 n2 : ℕ) : sProp 𝕄 :=
  iprop(pK c (256 * (2 * k.val)) 256 (DKall m c b n1) ∗ pK c (256 * (2 * k.val + 1)) 256 (DKall m c b n2) ∗ hK m c b k ∗ zK c k)
def FlyC (b : ℕ) (k : Fin 25) : sProp 𝕄 :=
  iprop(Transfers.Flight countersEmb (c : Thread nD τ) (SemLoc.dma (cellC k)) () (amtC k)
      iprop(hC m c (b + 1) k ∗ ∃ f, pC c (512 * k.val) (len k) f) ∗ ∃ f, pC c (512 * k.val + len k) (512 - len k) f)
def FlyK (b : ℕ) (k : Fin 25) : sProp 𝕄 :=
  iprop(Transfers.Flight countersEmb (c : Thread nD τ) (SemLoc.dma (cellK k)) () (amtK k)
      iprop(hK m c (b + 1) k ∗ ∃ f, pK c (512 * k.val) (len k) f) ∗ ∃ f, pK c (512 * k.val + len k) (512 - len k) f)

/-! ## Bands join and split -/

theorem pC_split (a n n' : ℕ) (f : Vec F S12800x512 .f32) :
    (pC c a (n + n') f : sProp 𝕄) ⊣⊢ iprop(pC c a n f ∗ pC c (a + n) n' f) := by
  have hd : Disjoint (rowsC a n) (rowsC (a + n) n') := by
    rw [Finset.disjoint_left]; intro x; rw [mem_rowsC, mem_rowsC]; omega
  have hu : rowsC a (n + n') = rowsC a n ∪ rowsC (a + n) n' := by
    ext x; rw [Finset.mem_union, mem_rowsC, mem_rowsC, mem_rowsC]; omega
  unfold pC
  rw [hu]; unfold View.setOn; rw [Finset.map_union]
  exact pointsTo_union ((Finset.disjoint_map _).mpr hd)
theorem pK_split (a n n' : ℕ) (f : Vec F S64x12800 .f32) :
    (pK c a (n + n') f : sProp 𝕄) ⊣⊢ iprop(pK c a n f ∗ pK c (a + n) n' f) := by
  have hd : Disjoint (colsK a n) (colsK (a + n) n') := by
    rw [Finset.disjoint_left]; intro x; rw [mem_colsK, mem_colsK]; omega
  have hu : colsK a (n + n') = colsK a n ∪ colsK (a + n) n' := by
    ext x; rw [Finset.mem_union, mem_colsK, mem_colsK, mem_colsK]; omega
  unfold pK
  rw [hu]; unfold View.setOn; rw [Finset.map_union]
  exact pointsTo_union ((Finset.disjoint_map _).mpr hd)
theorem pC_join (a n n' : ℕ) : iprop((∃ f, pC c a n f) ∗ ∃ f, pC c (a + n) n' f) ⊢ (iprop(∃ f, pC c a (n + n') f) : sProp 𝕄) := by
  have hu : rowsC a (n + n') = rowsC a n ∪ rowsC (a + n) n' := by
    ext x; rw [Finset.mem_union, mem_rowsC, mem_rowsC, mem_rowsC]; omega
  have hd : Disjoint (rowsC a n |>.map M28.view.emb) (rowsC (a + n) n' |>.map M28.view.emb) := by
    refine (Finset.disjoint_map _).mpr ?_
    rw [Finset.disjoint_left]; intro x; rw [mem_rowsC, mem_rowsC]; omega
  unfold pC
  rw [hu]; unfold View.setOn; rw [Finset.map_union]
  iintro ⟨⟨%f, H⟩, ⟨%g, G⟩⟩
  iexists _
  iapply (pointsTo_join hd)
  isplitl [H] <;> iassumption
theorem pK_join (a n n' : ℕ) : iprop((∃ f, pK c a n f) ∗ ∃ f, pK c (a + n) n' f) ⊢ (iprop(∃ f, pK c a (n + n') f) : sProp 𝕄) := by
  have hu : colsK a (n + n') = colsK a n ∪ colsK (a + n) n' := by
    ext x; rw [Finset.mem_union, mem_colsK, mem_colsK, mem_colsK]; omega
  have hd : Disjoint (colsK a n |>.map M29.view.emb) (colsK (a + n) n' |>.map M29.view.emb) := by
    refine (Finset.disjoint_map _).mpr ?_
    rw [Finset.disjoint_left]; intro x; rw [mem_colsK, mem_colsK]; omega
  unfold pK
  rw [hu]; unfold View.setOn; rw [Finset.map_union]
  iintro ⟨⟨%f, H⟩, ⟨%g, G⟩⟩
  iexists _
  iapply (pointsTo_join hd)
  isplitl [H] <;> iassumption
theorem pC_congr (a n : ℕ) (f g : Vec F S12800x512 .f32) (h : ∀ y ∈ rowsC a n, f y = g y) : (pC c a n f : sProp 𝕄) = pC c a n g := by
  unfold pC; refine pointsTo_congr fun i hi => ?_
  obtain ⟨y, hy, rfl⟩ := Finset.mem_map.mp hi
  exact h y hy
theorem pK_congr (a n : ℕ) (f g : Vec F S64x12800 .f32) (h : ∀ y ∈ colsK a n, f y = g y) : (pK c a n f : sProp 𝕄) = pK c a n g := by
  unfold pK; refine pointsTo_congr fun i hi => ?_
  obtain ⟨y, hy, rfl⟩ := Finset.mem_map.mp hi
  exact h y hy

/-! ## A transfer issued and a transfer awaited, with the program continuing at `K` -/

theorem enq {Q : PUnit → sProp 𝕄} {s : Shape} {src : Memref sig (c : Thread nD τ).2.kind .vmem s .f32} {dst : Memref sig (c : Thread nD τ).2.kind .hbm s .f32} {cell : DmaSem sig}
    {h1 : src.view.WordExact} {h2 : dst.view.WordExact} {h3 : DmaTarget.Typed (nD := nD) .vmem (.dma cell) (.here dst)}
    {fs : Buf (Elt F) (src.view.loc (c : Thread nD τ))} {fd : Buf (Elt F) (dst.view.loc (c : Thread nD τ))}
    {Sd : Finset (Idx (dst.view.loc (c : Thread nD τ)))} {D : sProp 𝕄} {N : ℕ} {K : PUnit → Prog (TpuEff nD τ sig (Elt F) Λ₀ (c : Thread nD τ).2) PUnit}
    (hN : dst.view.dmaCredit = N) (hN0 : 0 < N) (hSd : dst.view.set ⊆ Sd)
    (hD : iprop((dst.view.loc (c : Thread nD τ) ↦[Sd]{fullShare} dst.view.write (Elt F) fd (src.view.read (Elt F) fs) Finset.univ)
      ∗ (src.view.loc (c : Thread nD τ) ↦[src.view.set]{fullShare} fs)) ⊢ D) :
    iprop((src.view.loc (c : Thread nD τ) ↦[src.view.set]{fullShare} fs) ∗ (dst.view.loc (c : Thread nD τ) ↦[Sd]{fullShare} fd)
        ∗ semVal ((c : Thread nD τ), SemLoc.dma cell) 0
        ∗ (Transfers.Flight countersEmb (c : Thread nD τ) (SemLoc.dma cell) () N D
            -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs src (.here dst) ReadAs.same (.dma cell) h1 h2 h3) K) Q := by
  iintro ⟨Hs, Hd, Hz, HK⟩
  iapply (Transfers.wp_dmaLocal countersEmb Variants.none (c : Thread nD τ) none (via := ReadAs.same) (src := src) (dst := dst) (sm := .dma cell) () N hN hN0 hSd) $$ [Hs Hd Hz]
  · isplitl [Hs]; · iexact Hs
    isplitl [Hd] <;> iassumption
  iintro HF
  iapply HK
  iapply (Transfers.Flight_mono countersEmb (c : Thread nD τ) hD) $$ HF

theorem wt {Q : PUnit → sProp 𝕄} {sp : Space} {s s' : Shape} {srcw : Memref sig (c : Thread nD τ).2.kind sp s' .f32} {dstw : Memref sig (c : Thread nD τ).2.kind .hbm s .f32} {cell : DmaSem sig}
    {h1 : srcw.view.WordExact} {h2 : dstw.view.WordExact} {D : sProp 𝕄} {N : ℕ} {K : PUnit → Prog (TpuEff nD τ sig (Elt F) Λ₀ (c : Thread nD τ).2) PUnit}
    (hN : dstw.view.dmaCredit = N) :
    iprop(Transfers.Flight countersEmb (c : Thread nD τ) (SemLoc.dma cell) () N D ∗ (∃ W, owes (c : Thread nD τ) 0 W)
        ∗ (iprop(D ∗ semVal ((c : Thread nD τ), SemLoc.dma cell) 0 ∗ (∃ W, owes (c : Thread nD τ) 0 W))
            -∗ wp frame (wpE (defs₀ (F := F)) Variants.none (c : Thread nD τ) none) Set.univ (K ⟨⟩) Q))
      ⊢ wp frame (wpE (defs₀ (F := F)) Variants.none (c : Thread nD τ) none) Set.univ
          (.op (.waitDma2 cell srcw dstw h1 h2) K) Q := by
  iintro ⟨HF, ⟨%W, HW⟩, HK⟩
  iapply (Transfers.wp_waitLocal countersEmb Variants.none (c : Thread nD τ) none (srcw := srcw) (dstw := dstw) () hN) $$ [HF HW]
  · isplitl [HF] <;> iassumption
  iintro ⟨HD, Hz, HW⟩
  iapply HK
  isplitl [HD]; · iexact HD
  isplitl [Hz]; · iexact Hz
  iexists _; iexact HW

/-! ## A held tile, whole and in halves; what a transfer of it delivers -/

theorem len_le (k : Fin 25) : len k ≤ 512 := by unfold len; split <;> omega
theorem amtC_pos (k : Fin 25) : 0 < amtC k := by unfold amtC; split <;> omega
theorem amtK_pos (k : Fin 25) : 0 < amtK k := by unfold amtK; split <;> omega
theorem setOnM16 (S : Finset S8x12672x512.Idx) : M16.view.setOn S = S := Finset.map_refl
theorem setOnM17 (S : Finset S8x64x12672.Idx) : M17.view.setOn S = S := Finset.map_refl

theorem HeldC_whole (b : ℕ) (k : Fin 25) (n : ℕ) :
    HeldC m c b k n n ⊢ iprop(pC c (512 * k.val) 512 (DCall m c b n) ∗ hC m c b k ∗ zC c k) := by
  unfold HeldC
  have e := pC_split (F := F) c (512 * k.val) 256 256 (DCall m c b n)
  have e1 : 256 * (2 * k.val) = 512 * k.val := by omega
  have e2 : 256 * (2 * k.val + 1) = 512 * k.val + 256 := by omega
  rw [e1, e2]
  iintro ⟨H1, H2, Hh, Hz⟩
  isplitl [H1 H2]
  · iapply e.2 $$ [H1 H2]
    isplitl [H1] <;> iassumption
  isplitl [Hh] <;> iassumption
theorem HeldC_of_whole (b : ℕ) (k : Fin 25) (n : ℕ) :
    iprop(pC c (512 * k.val) 512 (DCall m c b n) ∗ hC m c b k ∗ zC c k) ⊢ HeldC m c b k n n := by
  unfold HeldC
  have e := pC_split (F := F) c (512 * k.val) 256 256 (DCall m c b n)
  have e1 : 256 * (2 * k.val) = 512 * k.val := by omega
  have e2 : 256 * (2 * k.val + 1) = 512 * k.val + 256 := by omega
  rw [e1, e2]
  iintro ⟨H, Hh, Hz⟩
  ihave H := e.1 $$ H
  icases H with ⟨H1, H2⟩
  isplitl [H1]; · iexact H1
  isplitl [H2]; · iexact H2
  isplitl [Hh] <;> iassumption
/-- A finished transfer and the part of the tile it left alone give the tile back. -/
theorem IdleC_of (b : ℕ) (k : Fin 25) :
    iprop((hC m c (b + 1) k ∗ ∃ f, pC c (512 * k.val) (len k) f) ∗ zC c k ∗ ∃ f, pC c (512 * k.val + len k) (512 - len k) f)
      ⊢ IdleC m c (b + 1) k := by
  unfold IdleC
  have e := pC_join (F := F) c (512 * k.val) (len k) (512 - len k)
  have h := len_le k
  rw [show len k + (512 - len k) = 512 by omega] at e
  iintro ⟨⟨Hh, H1⟩, Hz, H2⟩
  isplitl [H1 H2]
  · iapply e $$ [H1 H2]
    isplitl [H1] <;> iassumption
  isplitl [Hh] <;> iassumption
theorem deliverC (b n : ℕ) (k : Fin 25) (hn : n = len k) (inb) (hq) (inb') :
    iprop((M16.view.loc (c : Thread nD τ) ↦[M16.view.setOn (homeSC (512 * k.val) (len k))]{fullShare}
          (viewHC b (512 * k.val) n inb hq).write (Elt F) (homeFC m c b)
            ((M28.view.slice (Rect.unit (s := S12800x512) ![512 * k.val, 0] ![n, 512] inb')).read (Elt F) (DCall m c b 12)) Finset.univ)
        ∗ (M28.view.loc (c : Thread nD τ) ↦[(M28.view.slice (Rect.unit (s := S12800x512) ![512 * k.val, 0] ![n, 512] inb')).set]{fullShare} DCall m c b 12))
      ⊢ (iprop(hC m c (b + 1) k ∗ ∃ f, pC c (512 * k.val) (len k) f) : sProp 𝕄) := by
  subst hn
  unfold hC pC
  rw [View.set_slice, rect_rowsC]
  iintro ⟨Hd, Hs⟩
  isplitl [Hd]
  · rw [pointsTo_congr (g := homeFC m c (b + 1))]
    · exact .rfl
    intro i hi
    obtain ⟨y, hy, rfl⟩ := Finset.mem_map.mp hi
    exact home_step_C m c b (512 * k.val) (len k) inb hq inb' y hy
  · iexists _; iexact Hs

theorem credC (o3 : Fin 3 → ℕ) (i3) : (((M16).slice (Rect.unit (s := S8x12672x512) o3 S1x512x512.size i3) (fun _ => rfl)).squeeze S512x512 squeezes_S1x512x512_S512x512).view.dmaCredit = 32768 := by rfl
theorem startC {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x512x512.size a ≤ S8x12672x512.size a} {i2 : ∀ a, o2 a + S512x512.size a ≤ S12800x512.size a}
    (e1 : o1 = ![k.val]) (e3 : o3 = ![b, 512 * k.val, 0]) (e2 : o2 = ![512 * k.val, 0]) {h1 h2 h3} {K : PUnit → Prog (TpuEff nD τ sig (Elt F) Λ₀ (c : Thread nD τ).2) PUnit} :
    iprop(HeldC m c b k 12 12 ∗ (FlyC m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M28.slice (Rect.unit (s := S12800x512) o2 S512x512.size i2) (fun _ => rfl))
            (.here ((M16.slice (Rect.unit (s := S8x12672x512) o3 S1x512x512.size i3) (fun _ => rfl)).squeeze S512x512 squeezes_S1x512x512_S512x512)) ReadAs.same
            (.dma ((cc0_scratch12.slice (Rect.unit (s := S25) o1 S1.size i1)).squeeze S_ squeezes_S1_S_).sem) h1 h2 h3) K) Q := by
  subst e1 e2 e3
  have hl : 512 = len k := (if_neg hk).symm
  have ha : amtC k = 32768 := if_neg hk
  have hce := cellC_eq k i1
  generalize ((cc0_scratch12.slice (Rect.unit (s := S25) ![k.val] S1.size i1)).squeeze S_ squeezes_S1_S_).sem = ce at *
  subst hce
  have hset : M28.view.setOn (rowsC (512 * k.val) 512) = (M28.view.slice (Rect.unit (s := S12800x512) ![512 * k.val, 0] S512x512.size i2)).set := by
    rw [View.set_slice]; exact congrArg _ (rect_rowsC (512 * k.val) 512 i2).symm
  iintro ⟨H, HK⟩
  ihave H := HeldC_whole m c b k 12 $$ H
  icases H with ⟨Hp, Hh, Hz⟩
  have e := pC_split (F := F) c (512 * k.val) 512 (512 - 512) (DCall m c b 12)
  rw [show 512 + (512 - 512) = 512 by omega] at e
  ihave Hp := e.1 $$ Hp
  icases Hp with ⟨Hp, Hr⟩
  iapply (enq (F := F) c (src := M28.slice (Rect.unit (s := S12800x512) ![512 * k.val, 0] S512x512.size i2) (fun _ => rfl)) (dst := (M16.slice (Rect.unit (s := S8x12672x512) ![b, 512 * k.val, 0] S1x512x512.size i3) (fun _ => rfl)).squeeze S512x512 squeezes_S1x512x512_S512x512) (N := amtC k) (Sd := M16.view.setOn (homeSC (512 * k.val) (len k))) (fd := homeFC m c b) (fs := DCall m c b 12)
    (by rw [ha]; exact credC _ _) (amtC_pos k)
    (by rw [← hl, setOnM16]; exact viewHC_set b (512 * k.val) 512 i3 (squeezes_S1x512x512_S512x512).numel_eq) (deliverC m c b 512 k hl i3 (squeezes_S1x512x512_S512x512).numel_eq i2))
  unfold pC hC zC
  rw [hset]
  isplitl [Hp]; · iexact Hp
  isplitl [Hh]; · iexact Hh
  isplitl [Hz]; · iexact Hz
  iintro HF
  iapply HK
  unfold FlyC hC pC
  rw [← hl]
  isplitl [HF]; · iexact HF
  iexists _; iexact Hr

theorem waitC {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x512x512.size a ≤ S8x12672x512.size a} {i2 : ∀ a, o2 a + S512x512.size a ≤ S12800x512.size a}
    (e1 : o1 = ![k.val]) {h1 h2} {K : PUnit → Prog (TpuEff nD τ sig (Elt F) Λ₀ (c : Thread nD τ).2) PUnit} :
    iprop(FlyC m c b k ∗ (∃ W, owes (c : Thread nD τ) 0 W)
        ∗ (iprop(IdleC m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) o1 S1.size i1)).squeeze S_ squeezes_S1_S_).sem
            (M28.slice (Rect.unit (s := S12800x512) o2 S512x512.size i2) (fun _ => rfl))
            ((M16.slice (Rect.unit (s := S8x12672x512) o3 S1x512x512.size i3) (fun _ => rfl)).squeeze S512x512 squeezes_S1x512x512_S512x512) h1 h2) K) Q := by
  subst e1
  have ha : amtC k = 32768 := if_neg hk
  have hce := cellC_eq k i1
  generalize ((cc0_scratch12.slice (Rect.unit (s := S25) ![k.val] S1.size i1)).squeeze S_ squeezes_S1_S_).sem = ce at *
  subst hce
  unfold FlyC
  iintro ⟨⟨HF, Hr⟩, HW, HK⟩
  iapply (wt (F := F) c (N := amtC k) (by rw [ha]; rfl))
  isplitl [HF]; · iexact HF
  isplitl [HW]; · iexact HW
  iintro ⟨HD, Hz, HW⟩
  iapply HK
  isplitl [HD Hz Hr]
  · iapply IdleC_of m c b k
    isplitl [HD]; · iexact HD
    isplitl [Hz]
    · unfold zC; iexact Hz
    iexact Hr
  iexact HW

theorem credCLast (o3 : Fin 3 → ℕ) (i3) : (((M16).slice (Rect.unit (s := S8x12672x512) o3 S1x384x512.size i3) (fun _ => rfl)).squeeze S384x512 squeezes_S1x384x512_S384x512).view.dmaCredit = 24576 := by rfl
theorem startCLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x384x512.size a ≤ S8x12672x512.size a} {i2 : ∀ a, o2 a + S384x512.size a ≤ S12800x512.size a}
    (e1 : o1 = ![k.val]) (e3 : o3 = ![b, 512 * k.val, 0]) (e2 : o2 = ![512 * k.val, 0]) {h1 h2 h3} {K : PUnit → Prog (TpuEff nD τ sig (Elt F) Λ₀ (c : Thread nD τ).2) PUnit} :
    iprop(HeldC m c b k 12 12 ∗ (FlyC m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M28.slice (Rect.unit (s := S12800x512) o2 S384x512.size i2) (fun _ => rfl))
            (.here ((M16.slice (Rect.unit (s := S8x12672x512) o3 S1x384x512.size i3) (fun _ => rfl)).squeeze S384x512 squeezes_S1x384x512_S384x512)) ReadAs.same
            (.dma ((cc0_scratch12.slice (Rect.unit (s := S25) o1 S1.size i1)).squeeze S_ squeezes_S1_S_).sem) h1 h2 h3) K) Q := by
  subst e1 e2 e3
  have hl : 384 = len k := (if_pos hk).symm
  have ha : amtC k = 24576 := if_pos hk
  have hce := cellC_eq k i1
  generalize ((cc0_scratch12.slice (Rect.unit (s := S25) ![k.val] S1.size i1)).squeeze S_ squeezes_S1_S_).sem = ce at *
  subst hce
  have hset : M28.view.setOn (rowsC (512 * k.val) 384) = (M28.view.slice (Rect.unit (s := S12800x512) ![512 * k.val, 0] S384x512.size i2)).set := by
    rw [View.set_slice]; exact congrArg _ (rect_rowsC (512 * k.val) 384 i2).symm
  iintro ⟨H, HK⟩
  ihave H := HeldC_whole m c b k 12 $$ H
  icases H with ⟨Hp, Hh, Hz⟩
  have e := pC_split (F := F) c (512 * k.val) 384 (512 - 384) (DCall m c b 12)
  rw [show 384 + (512 - 384) = 512 by omega] at e
  ihave Hp := e.1 $$ Hp
  icases Hp with ⟨Hp, Hr⟩
  iapply (enq (F := F) c (src := M28.slice (Rect.unit (s := S12800x512) ![512 * k.val, 0] S384x512.size i2) (fun _ => rfl)) (dst := (M16.slice (Rect.unit (s := S8x12672x512) ![b, 512 * k.val, 0] S1x384x512.size i3) (fun _ => rfl)).squeeze S384x512 squeezes_S1x384x512_S384x512) (N := amtC k) (Sd := M16.view.setOn (homeSC (512 * k.val) (len k))) (fd := homeFC m c b) (fs := DCall m c b 12)
    (by rw [ha]; exact credCLast _ _) (amtC_pos k)
    (by rw [← hl, setOnM16]; exact viewHC_set b (512 * k.val) 384 i3 (squeezes_S1x384x512_S384x512).numel_eq) (deliverC m c b 384 k hl i3 (squeezes_S1x384x512_S384x512).numel_eq i2))
  unfold pC hC zC
  rw [hset]
  isplitl [Hp]; · iexact Hp
  isplitl [Hh]; · iexact Hh
  isplitl [Hz]; · iexact Hz
  iintro HF
  iapply HK
  unfold FlyC hC pC
  rw [← hl]
  isplitl [HF]; · iexact HF
  iexists _; iexact Hr

theorem waitCLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x384x512.size a ≤ S8x12672x512.size a} {i2 : ∀ a, o2 a + S384x512.size a ≤ S12800x512.size a}
    (e1 : o1 = ![k.val]) {h1 h2} {K : PUnit → Prog (TpuEff nD τ sig (Elt F) Λ₀ (c : Thread nD τ).2) PUnit} :
    iprop(FlyC m c b k ∗ (∃ W, owes (c : Thread nD τ) 0 W)
        ∗ (iprop(IdleC m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) o1 S1.size i1)).squeeze S_ squeezes_S1_S_).sem
            (M28.slice (Rect.unit (s := S12800x512) o2 S384x512.size i2) (fun _ => rfl))
            ((M16.slice (Rect.unit (s := S8x12672x512) o3 S1x384x512.size i3) (fun _ => rfl)).squeeze S384x512 squeezes_S1x384x512_S384x512) h1 h2) K) Q := by
  subst e1
  have ha : amtC k = 24576 := if_pos hk
  have hce := cellC_eq k i1
  generalize ((cc0_scratch12.slice (Rect.unit (s := S25) ![k.val] S1.size i1)).squeeze S_ squeezes_S1_S_).sem = ce at *
  subst hce
  unfold FlyC
  iintro ⟨⟨HF, Hr⟩, HW, HK⟩
  iapply (wt (F := F) c (N := amtC k) (by rw [ha]; rfl))
  isplitl [HF]; · iexact HF
  isplitl [HW]; · iexact HW
  iintro ⟨HD, Hz, HW⟩
  iapply HK
  isplitl [HD Hz Hr]
  · iapply IdleC_of m c b k
    isplitl [HD]; · iexact HD
    isplitl [Hz]
    · unfold zC; iexact Hz
    iexact Hr
  iexact HW

theorem HeldK_whole (b : ℕ) (k : Fin 25) (n : ℕ) :
    HeldK m c b k n n ⊢ iprop(pK c (512 * k.val) 512 (DKall m c b n) ∗ hK m c b k ∗ zK c k) := by
  unfold HeldK
  have e := pK_split (F := F) c (512 * k.val) 256 256 (DKall m c b n)
  have e1 : 256 * (2 * k.val) = 512 * k.val := by omega
  have e2 : 256 * (2 * k.val + 1) = 512 * k.val + 256 := by omega
  rw [e1, e2]
  iintro ⟨H1, H2, Hh, Hz⟩
  isplitl [H1 H2]
  · iapply e.2 $$ [H1 H2]
    isplitl [H1] <;> iassumption
  isplitl [Hh] <;> iassumption
theorem HeldK_of_whole (b : ℕ) (k : Fin 25) (n : ℕ) :
    iprop(pK c (512 * k.val) 512 (DKall m c b n) ∗ hK m c b k ∗ zK c k) ⊢ HeldK m c b k n n := by
  unfold HeldK
  have e := pK_split (F := F) c (512 * k.val) 256 256 (DKall m c b n)
  have e1 : 256 * (2 * k.val) = 512 * k.val := by omega
  have e2 : 256 * (2 * k.val + 1) = 512 * k.val + 256 := by omega
  rw [e1, e2]
  iintro ⟨H, Hh, Hz⟩
  ihave H := e.1 $$ H
  icases H with ⟨H1, H2⟩
  isplitl [H1]; · iexact H1
  isplitl [H2]; · iexact H2
  isplitl [Hh] <;> iassumption
/-- A finished transfer and the part of the tile it left alone give the tile back. -/
theorem IdleK_of (b : ℕ) (k : Fin 25) :
    iprop((hK m c (b + 1) k ∗ ∃ f, pK c (512 * k.val) (len k) f) ∗ zK c k ∗ ∃ f, pK c (512 * k.val + len k) (512 - len k) f)
      ⊢ IdleK m c (b + 1) k := by
  unfold IdleK
  have e := pK_join (F := F) c (512 * k.val) (len k) (512 - len k)
  have h := len_le k
  rw [show len k + (512 - len k) = 512 by omega] at e
  iintro ⟨⟨Hh, H1⟩, Hz, H2⟩
  isplitl [H1 H2]
  · iapply e $$ [H1 H2]
    isplitl [H1] <;> iassumption
  isplitl [Hh] <;> iassumption
theorem deliverK (b n : ℕ) (k : Fin 25) (hn : n = len k) (inb) (hq) (inb') :
    iprop((M17.view.loc (c : Thread nD τ) ↦[M17.view.setOn (homeSK (512 * k.val) (len k))]{fullShare}
          (viewHK b (512 * k.val) n inb hq).write (Elt F) (homeFK m c b)
            ((M29.view.slice (Rect.unit (s := S64x12800) ![0, 512 * k.val] ![64, n] inb')).read (Elt F) (DKall m c b 12)) Finset.univ)
        ∗ (M29.view.loc (c : Thread nD τ) ↦[(M29.view.slice (Rect.unit (s := S64x12800) ![0, 512 * k.val] ![64, n] inb')).set]{fullShare} DKall m c b 12))
      ⊢ (iprop(hK m c (b + 1) k ∗ ∃ f, pK c (512 * k.val) (len k) f) : sProp 𝕄) := by
  subst hn
  unfold hK pK
  rw [View.set_slice, rect_colsK]
  iintro ⟨Hd, Hs⟩
  isplitl [Hd]
  · rw [pointsTo_congr (g := homeFK m c (b + 1))]
    · exact .rfl
    intro i hi
    obtain ⟨y, hy, rfl⟩ := Finset.mem_map.mp hi
    exact home_step_K m c b (512 * k.val) (len k) inb hq inb' y hy
  · iexists _; iexact Hs

theorem credK (o3 : Fin 3 → ℕ) (i3) : (((M17).slice (Rect.unit (s := S8x64x12672) o3 S1x64x512.size i3) (fun _ => rfl)).squeeze S64x512 squeezes_S1x64x512_S64x512).view.dmaCredit = 4096 := by rfl
theorem startK {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x64x512.size a ≤ S8x64x12672.size a} {i2 : ∀ a, o2 a + S64x512.size a ≤ S64x12800.size a}
    (e1 : o1 = ![k.val]) (e3 : o3 = ![b, 0, 512 * k.val]) (e2 : o2 = ![0, 512 * k.val]) {h1 h2 h3} {K : PUnit → Prog (TpuEff nD τ sig (Elt F) Λ₀ (c : Thread nD τ).2) PUnit} :
    iprop(HeldK m c b k 12 12 ∗ (FlyK m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M29.slice (Rect.unit (s := S64x12800) o2 S64x512.size i2) (fun _ => rfl))
            (.here ((M17.slice (Rect.unit (s := S8x64x12672) o3 S1x64x512.size i3) (fun _ => rfl)).squeeze S64x512 squeezes_S1x64x512_S64x512)) ReadAs.same
            (.dma ((cc0_scratch13.slice (Rect.unit (s := S25) o1 S1.size i1)).squeeze S_ squeezes_S1_S_).sem) h1 h2 h3) K) Q := by
  subst e1 e2 e3
  have hl : 512 = len k := (if_neg hk).symm
  have ha : amtK k = 4096 := if_neg hk
  have hce := cellK_eq k i1
  generalize ((cc0_scratch13.slice (Rect.unit (s := S25) ![k.val] S1.size i1)).squeeze S_ squeezes_S1_S_).sem = ce at *
  subst hce
  have hset : M29.view.setOn (colsK (512 * k.val) 512) = (M29.view.slice (Rect.unit (s := S64x12800) ![0, 512 * k.val] S64x512.size i2)).set := by
    rw [View.set_slice]; exact congrArg _ (rect_colsK (512 * k.val) 512 i2).symm
  iintro ⟨H, HK⟩
  ihave H := HeldK_whole m c b k 12 $$ H
  icases H with ⟨Hp, Hh, Hz⟩
  have e := pK_split (F := F) c (512 * k.val) 512 (512 - 512) (DKall m c b 12)
  rw [show 512 + (512 - 512) = 512 by omega] at e
  ihave Hp := e.1 $$ Hp
  icases Hp with ⟨Hp, Hr⟩
  iapply (enq (F := F) c (src := M29.slice (Rect.unit (s := S64x12800) ![0, 512 * k.val] S64x512.size i2) (fun _ => rfl)) (dst := (M17.slice (Rect.unit (s := S8x64x12672) ![b, 0, 512 * k.val] S1x64x512.size i3) (fun _ => rfl)).squeeze S64x512 squeezes_S1x64x512_S64x512) (N := amtK k) (Sd := M17.view.setOn (homeSK (512 * k.val) (len k))) (fd := homeFK m c b) (fs := DKall m c b 12)
    (by rw [ha]; exact credK _ _) (amtK_pos k)
    (by rw [← hl, setOnM17]; exact viewHK_set b (512 * k.val) 512 i3 (squeezes_S1x64x512_S64x512).numel_eq) (deliverK m c b 512 k hl i3 (squeezes_S1x64x512_S64x512).numel_eq i2))
  unfold pK hK zK
  rw [hset]
  isplitl [Hp]; · iexact Hp
  isplitl [Hh]; · iexact Hh
  isplitl [Hz]; · iexact Hz
  iintro HF
  iapply HK
  unfold FlyK hK pK
  rw [← hl]
  isplitl [HF]; · iexact HF
  iexists _; iexact Hr

theorem waitK {Q : PUnit → sProp 𝕄} (b : ℕ) (k : Fin 25) (hk : k.val ≠ 24) {o1 : Fin 1 → ℕ} {o3 : Fin 3 → ℕ} {o2 : Fin 2 → ℕ}
    {i1 : ∀ a, o1 a + S1.size a ≤ S25.size a} {i3 : ∀ a, o3 a + S1x64x512.size a ≤ S8x64x12672.size a} {i2 : ∀ a, o2 a + S64x512.size a ≤ S64x12800.size a}
    (e1 : o1 = ![k.val]) {h1 h2} {K : PUnit → Prog (TpuEff nD τ sig (Elt F) Λ₀ (c : Thread nD τ).2) PUnit} :
    iprop(FlyK m c b k ∗ (∃ W, owes (c : Thread nD τ) 0 W)
        ∗ (iprop(IdleK m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) o1 S1.size i1)).squeeze S_ squeezes_S1_S_).sem
            (M29.slice (Rect.unit (s := S64x12800) o2 S64x512.size i2) (fun _ => rfl))
            ((M17.slice (Rect.unit (s := S8x64x12672) o3 S1x64x512.size i3) (fun _ => rfl)).squeeze S64x512 squeezes_S1x64x512_S64x512) h1 h2) K) Q := by
  subst e1
  have ha : amtK k = 4096 := if_neg hk
  have hce := cellK_eq k i1
  generalize ((cc0_scratch13.slice (Rect.unit (s := S25) ![k.val] S1.size i1)).squeeze S_ squeezes_S1_S_).sem = ce at *
  subst hce
  unfold FlyK
  iintro ⟨⟨HF, Hr⟩, HW, HK⟩
  iapply (wt (F := F) c (N := amtK k) (by rw [ha]; rfl))
  isplitl [HF]; · iexact HF
  isplitl [HW]; · iexact HW
  iintro ⟨HD, Hz, HW⟩
  iapply HK
  isplitl [HD Hz Hr]
  · iapply IdleK_of m c b k
    isplitl [HD]; · iexact HD
    isplitl [Hz]
    · unfold zK; iexact Hz
    iexact Hr
  iexact HW

theorem credKLast (o3 : Fin 3 → ℕ) (i3) : (((M17).slice (Rect.unit (s := S8x64x12672) o3 S1x64x384.size i3) (fun _ => rfl)).squeeze S64x384 squeezes_S1x64x384_S64x384).view.dmaCredit = 3072 := by rfl
theorem startKLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x64x384.size a ≤ S8x64x12672.size a} {i2 : ∀ a, o2 a + S64x384.size a ≤ S64x12800.size a}
    (e1 : o1 = ![k.val]) (e3 : o3 = ![b, 0, 512 * k.val]) (e2 : o2 = ![0, 512 * k.val]) {h1 h2 h3} {K : PUnit → Prog (TpuEff nD τ sig (Elt F) Λ₀ (c : Thread nD τ).2) PUnit} :
    iprop(HeldK m c b k 12 12 ∗ (FlyK m c b k -∗ wp frame (wpE (defs₀ (F := F)) Variants.none (c : Thread nD τ) none) Set.univ (K ⟨⟩) Q))
      ⊢ wp frame (wpE (defs₀ (F := F)) Variants.none (c : Thread nD τ) none) Set.univ
          (.op (.enqueueDmaAs (M29.slice (Rect.unit (s := S64x12800) o2 S64x384.size i2) (fun _ => rfl))
            (.here ((M17.slice (Rect.unit (s := S8x64x12672) o3 S1x64x384.size i3) (fun _ => rfl)).squeeze S64x384 squeezes_S1x64x384_S64x384)) ReadAs.same
            (.dma ((cc0_scratch13.slice (Rect.unit (s := S25) o1 S1.size i1)).squeeze S_ squeezes_S1_S_).sem) h1 h2 h3) K) Q := by
  subst e1 e2 e3
  have hl : 384 = len k := (if_pos hk).symm
  have ha : amtK k = 3072 := if_pos hk
  have hce := cellK_eq k i1
  generalize ((cc0_scratch13.slice (Rect.unit (s := S25) ![k.val] S1.size i1)).squeeze S_ squeezes_S1_S_).sem = ce at *
  subst hce
  have hset : M29.view.setOn (colsK (512 * k.val) 384) = (M29.view.slice (Rect.unit (s := S64x12800) ![0, 512 * k.val] S64x384.size i2)).set := by
    rw [View.set_slice]; exact congrArg _ (rect_colsK (512 * k.val) 384 i2).symm
  iintro ⟨H, HK⟩
  ihave H := HeldK_whole m c b k 12 $$ H
  icases H with ⟨Hp, Hh, Hz⟩
  have e := pK_split (F := F) c (512 * k.val) 384 (512 - 384) (DKall m c b 12)
  rw [show 384 + (512 - 384) = 512 by omega] at e
  ihave Hp := e.1 $$ Hp
  icases Hp with ⟨Hp, Hr⟩
  iapply (enq (F := F) c (src := M29.slice (Rect.unit (s := S64x12800) ![0, 512 * k.val] S64x384.size i2) (fun _ => rfl)) (dst := (M17.slice (Rect.unit (s := S8x64x12672) ![b, 0, 512 * k.val] S1x64x384.size i3) (fun _ => rfl)).squeeze S64x384 squeezes_S1x64x384_S64x384) (N := amtK k) (Sd := M17.view.setOn (homeSK (512 * k.val) (len k))) (fd := homeFK m c b) (fs := DKall m c b 12)
    (by rw [ha]; exact credKLast _ _) (amtK_pos k)
    (by rw [← hl, setOnM17]; exact viewHK_set b (512 * k.val) 384 i3 (squeezes_S1x64x384_S64x384).numel_eq) (deliverK m c b 384 k hl i3 (squeezes_S1x64x384_S64x384).numel_eq i2))
  unfold pK hK zK
  rw [hset]
  isplitl [Hp]; · iexact Hp
  isplitl [Hh]; · iexact Hh
  isplitl [Hz]; · iexact Hz
  iintro HF
  iapply HK
  unfold FlyK hK pK
  rw [← hl]
  isplitl [HF]; · iexact HF
  iexists _; iexact Hr

theorem waitKLast {Q : PUnit → sProp 𝕄} (b : ℕ) (k : Fin 25) (hk : k.val = 24) {o1 : Fin 1 → ℕ} {o3 : Fin 3 → ℕ} {o2 : Fin 2 → ℕ}
    {i1 : ∀ a, o1 a + S1.size a ≤ S25.size a} {i3 : ∀ a, o3 a + S1x64x384.size a ≤ S8x64x12672.size a} {i2 : ∀ a, o2 a + S64x384.size a ≤ S64x12800.size a}
    (e1 : o1 = ![k.val]) {h1 h2} {K : PUnit → Prog (TpuEff nD τ sig (Elt F) Λ₀ (c : Thread nD τ).2) PUnit} :
    iprop(FlyK m c b k ∗ (∃ W, owes (c : Thread nD τ) 0 W)
        ∗ (iprop(IdleK m c (b + 1) k ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) o1 S1.size i1)).squeeze S_ squeezes_S1_S_).sem
            (M29.slice (Rect.unit (s := S64x12800) o2 S64x384.size i2) (fun _ => rfl))
            ((M17.slice (Rect.unit (s := S8x64x12672) o3 S1x64x384.size i3) (fun _ => rfl)).squeeze S64x384 squeezes_S1x64x384_S64x384) h1 h2) K) Q := by
  subst e1
  have ha : amtK k = 3072 := if_pos hk
  have hce := cellK_eq k i1
  generalize ((cc0_scratch13.slice (Rect.unit (s := S25) ![k.val] S1.size i1)).squeeze S_ squeezes_S1_S_).sem = ce at *
  subst hce
  unfold FlyK
  iintro ⟨⟨HF, Hr⟩, HW, HK⟩
  iapply (wt (F := F) c (N := amtK k) (by rw [ha]; rfl))
  isplitl [HF]; · iexact HF
  isplitl [HW]; · iexact HW
  iintro ⟨HD, Hz, HW⟩
  iapply HK
  isplitl [HD Hz Hr]
  · iapply IdleK_of m c b k
    isplitl [HD]; · iexact HD
    isplitl [Hz]
    · unfold zK; iexact Hz
    iexact Hr
  iexact HW

end Cert.KernelIdeal.Gen

end
-- ==== Proof.Ideal.Steps.lean ====
/-
  The phases that move tiles: a batch's tile is awaited and zeroed, a finished tile is sent, and after the last
  batch every tile is awaited.
-/
module

public import proofs.«01_k».proof.Proof.Ideal.Tiles

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (c : Dev nD)

theorem ent_of_eq {A B : sProp 𝕄} (h : A = B) : A ⊢ B := h ▸ .rfl

/-! ## A band as the rectangle a load or a store names -/

theorem pC_rect512 {a : ℕ} {o : Fin 2 → ℕ} (e : o = ![a, 0]) (inb : ∀ x, o x + S512x512.size x ≤ S12800x512.size x) (f : Vec F S12800x512 .f32) :
    (pC c a 512 f : sProp 𝕄) = (M28.view.loc (c : Thread nD τ) ↦[M28.view.setOn (Rect.unit (s := S12800x512) o S512x512.size inb).set]{fullShare} f) := by
  subst e
  unfold pC
  rw [show (Rect.unit (s := S12800x512) ![a, 0] S512x512.size inb).set = rowsC a 512 from rect_rowsC a 512 inb]
theorem pC_rect256 {a : ℕ} {o : Fin 2 → ℕ} (e : o = ![a, 0]) (inb : ∀ x, o x + S256x512.size x ≤ S12800x512.size x) (f : Vec F S12800x512 .f32) :
    (pC c a 256 f : sProp 𝕄) = (M28.view.loc (c : Thread nD τ) ↦[M28.view.setOn (Rect.unit (s := S12800x512) o S256x512.size inb).set]{fullShare} f) := by
  subst e
  unfold pC
  rw [show (Rect.unit (s := S12800x512) ![a, 0] S256x512.size inb).set = rowsC a 256 from rect_rowsC a 256 inb]
theorem zeroC (b k : ℕ) {o : Fin 2 → ℕ} (e : o = ![512 * k, 0]) (inb : ∀ x, o x + S512x512.size x ≤ S12800x512.size x) (f : Vec F S12800x512 .f32) :
    (M28.view.loc (c : Thread nD τ) ↦[M28.view.setOn (Rect.unit (s := S12800x512) o S512x512.size inb).set]{fullShare}
        M28.view.writes (Elt F) f [⟨Rect.unit (s := S12800x512) o S512x512.size inb, k0_pay1 (F := F)⟩])
      = (pC c (512 * k) 512 (DCall m c b 0) : sProp 𝕄) := by
  rw [← pC_rect512 c e]
  subst e
  exact pC_congr c _ _ _ _ fun y hy => zero_DC m c b k inb f y hy
/-- A half after one more query tile: what was read of it is its contents, what is stored the next ones. -/
theorem halfC (b h n : ℕ) {o : Fin 2 → ℕ} (e : o = ![256 * h, 0]) (inb : ∀ x, o x + S256x512.size x ≤ S12800x512.size x)
    (v : Vec F S256x512 .f32 → Vec F S256x512 .f32) (hv : v (DCH m c b h n) = DCH m c b h (n + 1)) :
    (M28.view.loc (c : Thread nD τ) ↦[M28.view.setOn (Rect.unit (s := S12800x512) o S256x512.size inb).set]{fullShare}
        M28.view.writes (Elt F) (DCall m c b n) [⟨Rect.unit (s := S12800x512) o S256x512.size inb,
          v (M28.view.readAt (Elt F) (Rect.unit (s := S12800x512) o S256x512.size inb).toLoadRect (DCall m c b n))⟩])
      = (pC c (256 * h) 256 (DCall m c b (n + 1)) : sProp 𝕄) := by
  rw [← pC_rect256 c e]
  subst e
  rw [readAt_DC m c b h n inb, hv]
  exact pC_congr c _ _ _ _ fun y hy => writes_DC m c b h (n + 1) inb _ y hy
theorem pK_rect512 {a : ℕ} {o : Fin 2 → ℕ} (e : o = ![0, a]) (inb : ∀ x, o x + S64x512.size x ≤ S64x12800.size x) (f : Vec F S64x12800 .f32) :
    (pK c a 512 f : sProp 𝕄) = (M29.view.loc (c : Thread nD τ) ↦[M29.view.setOn (Rect.unit (s := S64x12800) o S64x512.size inb).set]{fullShare} f) := by
  subst e
  unfold pK
  rw [show (Rect.unit (s := S64x12800) ![0, a] S64x512.size inb).set = colsK a 512 from rect_colsK a 512 inb]
theorem pK_rect256 {a : ℕ} {o : Fin 2 → ℕ} (e : o = ![0, a]) (inb : ∀ x, o x + S64x256.size x ≤ S64x12800.size x) (f : Vec F S64x12800 .f32) :
    (pK c a 256 f : sProp 𝕄) = (M29.view.loc (c : Thread nD τ) ↦[M29.view.setOn (Rect.unit (s := S64x12800) o S64x256.size inb).set]{fullShare} f) := by
  subst e
  unfold pK
  rw [show (Rect.unit (s := S64x12800) ![0, a] S64x256.size inb).set = colsK a 256 from rect_colsK a 256 inb]
theorem zeroK (b k : ℕ) {o : Fin 2 → ℕ} (e : o = ![0, 512 * k]) (inb : ∀ x, o x + S64x512.size x ≤ S64x12800.size x) (f : Vec F S64x12800 .f32) :
    (M29.view.loc (c : Thread nD τ) ↦[M29.view.setOn (Rect.unit (s := S64x12800) o S64x512.size inb).set]{fullShare}
        M29.view.writes (Elt F) f [⟨Rect.unit (s := S64x12800) o S64x512.size inb, k0_pay2 (F := F)⟩])
      = (pK c (512 * k) 512 (DKall m c b 0) : sProp 𝕄) := by
  rw [← pK_rect512 c e]
  subst e
  exact pK_congr c _ _ _ _ fun y hy => zero_DK m c b k inb f y hy
/-- A half after one more query tile: what was read of it is its contents, what is stored the next ones. -/
theorem halfK (b h n : ℕ) {o : Fin 2 → ℕ} (e : o = ![0, 256 * h]) (inb : ∀ x, o x + S64x256.size x ≤ S64x12800.size x)
    (v : Vec F S64x256 .f32 → Vec F S64x256 .f32) (hv : v (DKH m c b h n) = DKH m c b h (n + 1)) :
    (M29.view.loc (c : Thread nD τ) ↦[M29.view.setOn (Rect.unit (s := S64x12800) o S64x256.size inb).set]{fullShare}
        M29.view.writes (Elt F) (DKall m c b n) [⟨Rect.unit (s := S64x12800) o S64x256.size inb,
          v (M29.view.readAt (Elt F) (Rect.unit (s := S64x12800) o S64x256.size inb).toLoadRect (DKall m c b n))⟩])
      = (pK c (256 * h) 256 (DKall m c b (n + 1)) : sProp 𝕄) := by
  rw [← pK_rect256 c e]
  subst e
  rw [readAt_DK m c b h n inb, hv]
  exact pK_congr c _ _ _ _ fun y hy => writes_DK m c b h (n + 1) inb _ y hy

theorem phaseA_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond1 i = 1#1) :
    phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseA; rw [dif_neg h]

theorem phaseB_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond4 i = 1#1) :
    phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseB; rw [dif_neg h]

theorem phaseC_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond5 i = 1#1) :
    phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseC; rw [dif_neg h]

theorem phaseD_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond6 i = 1#1) :
    phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseD; rw [dif_neg h]

theorem phaseE_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond7 i = 1#1) :
    phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseE; rw [dif_neg h]

theorem phaseF_skip (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit)  (h : ¬ k0_cond8 i = 1#1) :
    phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K = K := by
  unfold phaseF; rw [dif_neg h]

/-- A finished tile but the last is sent. -/
theorem phaseE_run (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h7 : k0_cond7 i = 1#1) (k : Fin 25) (hk : k.val + 1 = (i 2).val) (hk24 : k.val ≠ 24) :
    iprop(HeldC m c (i 0).val k 12 12 ∗ HeldK m c (i 0).val k 12 12
        ∗ (iprop(FlyC m c (i 0).val k ∗ FlyK m c (i 0).val k) -∗ wp frame (wpE (defs₀ (F := F)) Variants.none (c : Thread nD τ) none) Set.univ K Q))
      ⊢ wp frame (wpE (defs₀ (F := F)) Variants.none (c : Thread nD τ) none) Set.univ (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h : 0 < (i 2).val := by omega
  have hj : (i 2).val - 1 = k.val := by omega
  unfold phaseE
  rw [dif_pos h7]
  iintro ⟨HC, HD, HQ⟩
  iapply (startC m c (i 0).val k hk24 (by rw [off16_eq i h, hj]) (by rw [off17_eq i h, hj]) (by rw [off18_eq i h, hj]))
  isplitl [HC]; · iexact HC
  iintro HC
  iapply (startK m c (i 0).val k hk24 (by rw [off16_eq i h, hj]) (by rw [off19_eq i h, hj]) (by rw [off20_eq i h, hj]))
  isplitl [HD]; · iexact HD
  iintro HD
  iapply HQ
  isplitl [HC] <;> iassumption

/-- The last tile is sent. -/
theorem phaseF_run (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h8 : k0_cond8 i = 1#1) (h9 : ¬ k0_cond9 i = 1#1) (k : Fin 25) (hk : k.val = 24) :
    iprop(HeldC m c (i 0).val k 12 12 ∗ HeldK m c (i 0).val k 12 12
        ∗ (iprop(FlyC m c (i 0).val k ∗ FlyK m c (i 0).val k) -∗ wp frame (wpE (defs₀ (F := F)) Variants.none (c : Thread nD τ) none) Set.univ K Q))
      ⊢ wp frame (wpE (defs₀ (F := F)) Variants.none (c : Thread nD τ) none) Set.univ (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold phaseF
  rw [dif_pos h8]
  rw [dif_neg h9]
  iintro ⟨HC, HD, HQ⟩
  iapply (startCLast m c (i 0).val k hk (by rw [hk]) (by rw [off21_eq i, hk]) (by rw [hk]))
  isplitl [HC]; · iexact HC
  iintro HC
  iapply (startKLast m c (i 0).val k hk (by rw [hk]) (by rw [off22_eq i, hk]) (by rw [hk]))
  isplitl [HD]; · iexact HD
  iintro HD
  iapply HQ
  isplitl [HC] <;> iassumption

/-- A tile held by nobody is zeroed for batch `b`. -/
theorem zero_run (i : grid0.Coords) (h1 : k0_cond1 i = 1#1) (b : ℕ) (k : Fin 25) (hk : k.val = (i 2).val) (K : Prog (TpuEff nD τ sig (Elt F) Λ₀ .tc) PUnit) {Q : PUnit → sProp 𝕄} :
    iprop(IdleC m c b k ∗ IdleK m c b k ∗ (∃ W, owes (c : Thread nD τ) 0 W)
        ∗ (iprop(HeldC m c b k 0 0 ∗ HeldK m c b k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (do
        let _ ← Prog.lift (.load M28 (Rect.unit (s := S12800x512) (k0_off8 i) S512x512.size (k0_off8_inb i h1)).toLoadRect (View.loadsAt_vmem h_S512x512))
        Prog.lift (.store M28 (Rect.unit (s := S12800x512) (k0_off8 i) S512x512.size (k0_off8_inb i h1)) (k0_pay1 (F := F)) Finset.univ (View.stores_vmem_bits_univ h_S512x512 rfl) (.inl rfl))
        let _ ← Prog.lift (.load M29 (Rect.unit (s := S64x12800) (k0_off9 i) S64x512.size (k0_off9_inb i h1)).toLoadRect (View.loadsAt_vmem h_S64x512))
        Prog.lift (.store M29 (Rect.unit (s := S64x12800) (k0_off9 i) S64x512.size (k0_off9_inb i h1)) (k0_pay2 (F := F)) Finset.univ (View.stores_vmem_bits_univ h_S64x512 rfl) (.inl rfl))
        K) Q := by
  have e8 : k0_off8 i = ![512 * k.val, 0] := by rw [off8_eq i, hk]
  have e9 : k0_off9 i = ![0, 512 * k.val] := by rw [off9_eq i, hk]
  iintro ⟨HC, HD, HW, HQ⟩
  unfold IdleC IdleK
  icases HC with ⟨⟨%f, Hf⟩, Hh, Hz⟩
  icases HD with ⟨⟨%g, Hg⟩, Hh', Hz'⟩
  icases HW with ⟨%W, HW⟩
  ihave Hf := (ent_of_eq (pC_rect512 c e8 (k0_off8_inb i h1) f)) $$ Hf
  ihave Hg := (ent_of_eq (pK_rect512 c e9 (k0_off9_inb i h1) g)) $$ Hg
  sl_exec
  iapply HQ
  isplitl [Hf Hh Hz]
  · iapply HeldC_of_whole m c b k 0
    isplitl [Hf]; · iapply (ent_of_eq (zeroC m c b k e8 (k0_off8_inb i h1) f)); iexact Hf
    isplitl [Hh] <;> iassumption
  isplitl [Hg Hh' Hz']
  · iapply HeldK_of_whole m c b k 0
    isplitl [Hg]; · iapply (ent_of_eq (zeroK m c b k e9 (k0_off9_inb i h1) g)); iexact Hg
    isplitl [Hh'] <;> iassumption
  iexists W; iexact HW

/-- In the first batch a tile is zeroed. -/
theorem phaseA_first (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h1 : k0_cond1 i = 1#1) (k : Fin 25) (hk : k.val = (i 2).val) (hb : (i 0).val = 0) :
    iprop(IdleC m c 0 k ∗ IdleK m c 0 k ∗ (∃ W, owes (c : Thread nD τ) 0 W)
        ∗ (iprop(HeldC m c 0 k 0 0 ∗ HeldK m c 0 k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h2 : ¬ k0_cond2 i = 1#1 := by rw [cond2_iff]; omega
  have h3 : ¬ k0_cond3 i = 1#1 := by rw [cond3_iff]; omega
  unfold phaseA
  rw [dif_pos h1]
  rw [dif_neg h2]
  rw [dif_neg h3]
  iintro ⟨HC, HD, HW, HQ⟩
  iapply (zero_run m c i h1 0 k hk K)
  isplitl [HC]; · iexact HC
  isplitl [HD]; · iexact HD
  isplitl [HW] <;> iassumption

/-- In a later batch it is awaited first. -/
theorem phaseA_next (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h1 : k0_cond1 i = 1#1) (k : Fin 25) (hk : k.val = (i 2).val) (b : ℕ) (hb : (i 0).val = b + 1) (hk24 : k.val ≠ 24) :
    iprop(FlyC m c b k ∗ FlyK m c b k ∗ (∃ W, owes (c : Thread nD τ) 0 W)
        ∗ (iprop(HeldC m c (b + 1) k 0 0 ∗ HeldK m c (b + 1) k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h2 : k0_cond2 i = 1#1 := by rw [cond2_iff]; omega
  have h3 : ¬ k0_cond3 i = 1#1 := by rw [cond3_iff]; omega
  unfold phaseA
  rw [dif_pos h1]
  rw [dif_pos h2]
  rw [dif_neg h3]
  iintro ⟨HC, HD, HW, HQ⟩
  iapply (waitC m c b k hk24 (by rw [off1_eq i, hk]))
  isplitl [HC]; · iexact HC
  isplitl [HW]; · iexact HW
  iintro ⟨HC, HW⟩
  iapply (waitK m c b k hk24 (by rw [off1_eq i, hk]))
  isplitl [HD]; · iexact HD
  isplitl [HW]; · iexact HW
  iintro ⟨HD, HW⟩
  iapply (zero_run m c i h1 (b + 1) k hk K)
  isplitl [HC]; · iexact HC
  isplitl [HD]; · iexact HD
  isplitl [HW] <;> iassumption

/-- So is the last tile. -/
theorem phaseA_nextLast (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h1 : k0_cond1 i = 1#1) (k : Fin 25) (hk : k.val = (i 2).val) (b : ℕ) (hb : (i 0).val = b + 1) (hk24 : k.val = 24) :
    iprop(FlyC m c b k ∗ FlyK m c b k ∗ (∃ W, owes (c : Thread nD τ) 0 W)
        ∗ (iprop(HeldC m c (b + 1) k 0 0 ∗ HeldK m c (b + 1) k 0 0 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have h2 : ¬ k0_cond2 i = 1#1 := by rw [cond2_iff]; omega
  have h3 : k0_cond3 i = 1#1 := by rw [cond3_iff]; omega
  unfold phaseA
  rw [dif_pos h1]
  rw [dif_neg h2]
  rw [dif_pos h3]
  iintro ⟨HC, HD, HW, HQ⟩
  iapply (waitCLast m c b k hk24 (by rw [hk24]))
  isplitl [HC]; · iexact HC
  isplitl [HW]; · iexact HW
  iintro ⟨HC, HW⟩
  iapply (waitKLast m c b k hk24 (by rw [hk24]))
  isplitl [HD]; · iexact HD
  isplitl [HW]; · iexact HW
  iintro ⟨HD, HW⟩
  iapply (zero_run m c i h1 (b + 1) k hk K)
  isplitl [HC]; · iexact HC
  isplitl [HD]; · iexact HD
  isplitl [HW] <;> iassumption

end Cert.KernelIdeal.Gen

end
-- ==== Proof.Ideal.Last.lean ====
/-
  After the last batch every tile's transfers are awaited, one pair after another.
-/
module

public import proofs.«01_k».proof.Proof.Ideal.Steps

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (c : Dev nD)

/-- The tiles below `n` are back, the others still in flight. -/
def SomeC (b n : ℕ) : sProp 𝕄 := BI.bigSep (Finset.univ : Finset (Fin 25)) fun k => if k.val < n then IdleC m c (b + 1) k else FlyC m c b k
theorem SomeC_take (b n : ℕ) (h : n < 25) :
    SomeC m c b n ⊢ iprop(FlyC m c b ⟨n, h⟩ ∗ (IdleC m c (b + 1) ⟨n, h⟩ -∗ SomeC m c b (n + 1))) := by
  have hc : BI.bigSep (Finset.univ.erase (⟨n, h⟩ : Fin 25)) (fun k => if k.val < n then IdleC m c (b + 1) k else FlyC m c b k)
      = BI.bigSep (Finset.univ.erase (⟨n, h⟩ : Fin 25)) (fun k => if k.val < n + 1 then IdleC m c (b + 1) k else FlyC m c b k) := BI.bigSep_congr fun k hk => by
    have hne : k.val ≠ n := fun e => Finset.ne_of_mem_erase hk (Fin.ext e)
    by_cases hlt : k.val < n
    · rw [if_pos hlt, if_pos (by omega)]
    · rw [if_neg hlt, if_neg (by omega)]
  have e1 : SomeC m c b n = iprop(FlyC m c b ⟨n, h⟩ ∗ BI.bigSep (Finset.univ.erase (⟨n, h⟩ : Fin 25)) (fun k => if k.val < n + 1 then IdleC m c (b + 1) k else FlyC m c b k)) := by
    rw [← hc]; unfold SomeC; rw [BI.bigSep_univ_split (⟨n, h⟩ : Fin 25), if_neg (lt_irrefl n)]; rfl
  have e2 : SomeC m c b (n + 1) = iprop(IdleC m c (b + 1) ⟨n, h⟩ ∗ BI.bigSep (Finset.univ.erase (⟨n, h⟩ : Fin 25)) (fun k => if k.val < n + 1 then IdleC m c (b + 1) k else FlyC m c b k)) := by
    unfold SomeC; rw [BI.bigSep_univ_split (⟨n, h⟩ : Fin 25), if_pos (Nat.lt_succ_self n)]; rfl
  rw [e1, e2]
  iintro ⟨HF, HR⟩
  isplitl [HF]; · iexact HF
  iintro HI
  isplitl [HI] <;> iassumption

theorem nextC {Q : PUnit → sProp 𝕄} (b n : ℕ) (h : n < 24) {o3 : Fin 3 → ℕ} {o2 : Fin 2 → ℕ}
    {i1 : ∀ a, (![n] : Fin 1 → ℕ) a + S1.size a ≤ S25.size a} {i3 : ∀ a, o3 a + S1x512x512.size a ≤ S8x12672x512.size a} {i2 : ∀ a, o2 a + S512x512.size a ≤ S12800x512.size a}
    {h1 h2} {K : PUnit → Prog (TpuEff nD τ sig (Elt F) Λ₀ (c : Thread nD τ).2) PUnit} :
    iprop(SomeC m c b n ∗ (∃ W, owes (c : Thread nD τ) 0 W)
        ∗ (iprop(SomeC m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) ![n] S1.size i1)).squeeze S_ squeezes_S1_S_).sem
            (M28.slice (Rect.unit (s := S12800x512) o2 S512x512.size i2) (fun _ => rfl))
            ((M16.slice (Rect.unit (s := S8x12672x512) o3 S1x512x512.size i3) (fun _ => rfl)).squeeze S512x512 squeezes_S1x512x512_S512x512) h1 h2) K) Q := by
  iintro ⟨HS, HW, HK⟩
  ihave HS := SomeC_take m c b n (by omega) $$ HS
  icases HS with ⟨HF, HS⟩
  iapply (waitC m c b (⟨n, by omega⟩ : Fin 25) (by show n ≠ 24; omega) rfl)
  isplitl [HF]; · iexact HF
  isplitl [HW]; · iexact HW
  iintro ⟨HI, HW⟩
  iapply HK
  isplitl [HI HS]
  · iapply HS; iexact HI
  iexact HW

theorem nextCLast {Q : PUnit → sProp 𝕄} (b n : ℕ) (h : n = 24) {o3 : Fin 3 → ℕ} {o2 : Fin 2 → ℕ}
    {i1 : ∀ a, (![n] : Fin 1 → ℕ) a + S1.size a ≤ S25.size a} {i3 : ∀ a, o3 a + S1x384x512.size a ≤ S8x12672x512.size a} {i2 : ∀ a, o2 a + S384x512.size a ≤ S12800x512.size a}
    {h1 h2} {K : PUnit → Prog (TpuEff nD τ sig (Elt F) Λ₀ (c : Thread nD τ).2) PUnit} :
    iprop(SomeC m c b n ∗ (∃ W, owes (c : Thread nD τ) 0 W)
        ∗ (iprop(SomeC m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch12.slice (Rect.unit (s := S25) ![n] S1.size i1)).squeeze S_ squeezes_S1_S_).sem
            (M28.slice (Rect.unit (s := S12800x512) o2 S384x512.size i2) (fun _ => rfl))
            ((M16.slice (Rect.unit (s := S8x12672x512) o3 S1x384x512.size i3) (fun _ => rfl)).squeeze S384x512 squeezes_S1x384x512_S384x512) h1 h2) K) Q := by
  iintro ⟨HS, HW, HK⟩
  ihave HS := SomeC_take m c b n (by omega) $$ HS
  icases HS with ⟨HF, HS⟩
  iapply (waitCLast m c b (⟨n, by omega⟩ : Fin 25) h rfl)
  isplitl [HF]; · iexact HF
  isplitl [HW]; · iexact HW
  iintro ⟨HI, HW⟩
  iapply HK
  isplitl [HI HS]
  · iapply HS; iexact HI
  iexact HW

/-- The tiles below `n` are back, the others still in flight. -/
def SomeK (b n : ℕ) : sProp 𝕄 := BI.bigSep (Finset.univ : Finset (Fin 25)) fun k => if k.val < n then IdleK m c (b + 1) k else FlyK m c b k
theorem SomeK_take (b n : ℕ) (h : n < 25) :
    SomeK m c b n ⊢ iprop(FlyK m c b ⟨n, h⟩ ∗ (IdleK m c (b + 1) ⟨n, h⟩ -∗ SomeK m c b (n + 1))) := by
  have hc : BI.bigSep (Finset.univ.erase (⟨n, h⟩ : Fin 25)) (fun k => if k.val < n then IdleK m c (b + 1) k else FlyK m c b k)
      = BI.bigSep (Finset.univ.erase (⟨n, h⟩ : Fin 25)) (fun k => if k.val < n + 1 then IdleK m c (b + 1) k else FlyK m c b k) := BI.bigSep_congr fun k hk => by
    have hne : k.val ≠ n := fun e => Finset.ne_of_mem_erase hk (Fin.ext e)
    by_cases hlt : k.val < n
    · rw [if_pos hlt, if_pos (by omega)]
    · rw [if_neg hlt, if_neg (by omega)]
  have e1 : SomeK m c b n = iprop(FlyK m c b ⟨n, h⟩ ∗ BI.bigSep (Finset.univ.erase (⟨n, h⟩ : Fin 25)) (fun k => if k.val < n + 1 then IdleK m c (b + 1) k else FlyK m c b k)) := by
    rw [← hc]; unfold SomeK; rw [BI.bigSep_univ_split (⟨n, h⟩ : Fin 25), if_neg (lt_irrefl n)]; rfl
  have e2 : SomeK m c b (n + 1) = iprop(IdleK m c (b + 1) ⟨n, h⟩ ∗ BI.bigSep (Finset.univ.erase (⟨n, h⟩ : Fin 25)) (fun k => if k.val < n + 1 then IdleK m c (b + 1) k else FlyK m c b k)) := by
    unfold SomeK; rw [BI.bigSep_univ_split (⟨n, h⟩ : Fin 25), if_pos (Nat.lt_succ_self n)]; rfl
  rw [e1, e2]
  iintro ⟨HF, HR⟩
  isplitl [HF]; · iexact HF
  iintro HI
  isplitl [HI] <;> iassumption

theorem nextK {Q : PUnit → sProp 𝕄} (b n : ℕ) (h : n < 24) {o3 : Fin 3 → ℕ} {o2 : Fin 2 → ℕ}
    {i1 : ∀ a, (![n] : Fin 1 → ℕ) a + S1.size a ≤ S25.size a} {i3 : ∀ a, o3 a + S1x64x512.size a ≤ S8x64x12672.size a} {i2 : ∀ a, o2 a + S64x512.size a ≤ S64x12800.size a}
    {h1 h2} {K : PUnit → Prog (TpuEff nD τ sig (Elt F) Λ₀ (c : Thread nD τ).2) PUnit} :
    iprop(SomeK m c b n ∗ (∃ W, owes (c : Thread nD τ) 0 W)
        ∗ (iprop(SomeK m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) ![n] S1.size i1)).squeeze S_ squeezes_S1_S_).sem
            (M29.slice (Rect.unit (s := S64x12800) o2 S64x512.size i2) (fun _ => rfl))
            ((M17.slice (Rect.unit (s := S8x64x12672) o3 S1x64x512.size i3) (fun _ => rfl)).squeeze S64x512 squeezes_S1x64x512_S64x512) h1 h2) K) Q := by
  iintro ⟨HS, HW, HK⟩
  ihave HS := SomeK_take m c b n (by omega) $$ HS
  icases HS with ⟨HF, HS⟩
  iapply (waitK m c b (⟨n, by omega⟩ : Fin 25) (by show n ≠ 24; omega) rfl)
  isplitl [HF]; · iexact HF
  isplitl [HW]; · iexact HW
  iintro ⟨HI, HW⟩
  iapply HK
  isplitl [HI HS]
  · iapply HS; iexact HI
  iexact HW

theorem nextKLast {Q : PUnit → sProp 𝕄} (b n : ℕ) (h : n = 24) {o3 : Fin 3 → ℕ} {o2 : Fin 2 → ℕ}
    {i1 : ∀ a, (![n] : Fin 1 → ℕ) a + S1.size a ≤ S25.size a} {i3 : ∀ a, o3 a + S1x64x384.size a ≤ S8x64x12672.size a} {i2 : ∀ a, o2 a + S64x384.size a ≤ S64x12800.size a}
    {h1 h2} {K : PUnit → Prog (TpuEff nD τ sig (Elt F) Λ₀ (c : Thread nD τ).2) PUnit} :
    iprop(SomeK m c b n ∗ (∃ W, owes (c : Thread nD τ) 0 W)
        ∗ (iprop(SomeK m c b (n + 1) ∗ (∃ W, owes (c : Thread nD τ) 0 W))
          -∗ wp frame (wpE (defs₀ (F := F)) Variants.none (c : Thread nD τ) none) Set.univ (K ⟨⟩) Q))
      ⊢ wp frame (wpE (defs₀ (F := F)) Variants.none (c : Thread nD τ) none) Set.univ
          (.op (.waitDma2 ((cc0_scratch13.slice (Rect.unit (s := S25) ![n] S1.size i1)).squeeze S_ squeezes_S1_S_).sem
            (M29.slice (Rect.unit (s := S64x12800) o2 S64x384.size i2) (fun _ => rfl))
            ((M17.slice (Rect.unit (s := S8x64x12672) o3 S1x64x384.size i3) (fun _ => rfl)).squeeze S64x384 squeezes_S1x64x384_S64x384) h1 h2) K) Q := by
  iintro ⟨HS, HW, HK⟩
  ihave HS := SomeK_take m c b n (by omega) $$ HS
  icases HS with ⟨HF, HS⟩
  iapply (waitKLast m c b (⟨n, by omega⟩ : Fin 25) h rfl)
  isplitl [HF]; · iexact HF
  isplitl [HW]; · iexact HW
  iintro ⟨HI, HW⟩
  iapply HK
  isplitl [HI HS]
  · iapply HS; iexact HI
  iexact HW

theorem all_fly (b : ℕ) : iprop(BI.bigSep (Finset.univ : Finset (Fin 25)) (fun k => iprop(FlyC m c b k ∗ FlyK m c b k))) ⊢ iprop(SomeC m c b 0 ∗ SomeK m c b 0) := by
  refine BI.BIBase.Entails.trans (ent_of_eq (BI.bigSep_sep Finset.univ (FlyC m c b) (FlyK m c b))) (ent_of_eq ?_)
  unfold SomeC SomeK
  rw [BI.bigSep_congr (s := (Finset.univ : Finset (Fin 25))) (Φ := FlyC m c b) (Ψ := fun k => if k.val < 0 then IdleC m c (b + 1) k else FlyC m c b k) fun k _ => (if_neg (Nat.not_lt_zero _)).symm,
    BI.bigSep_congr (s := (Finset.univ : Finset (Fin 25))) (Φ := FlyK m c b) (Ψ := fun k => if k.val < 0 then IdleK m c (b + 1) k else FlyK m c b k) fun k _ => (if_neg (Nat.not_lt_zero _)).symm]
  rfl
theorem all_idle (b : ℕ) : iprop(SomeC m c b 25 ∗ SomeK m c b 25) ⊢ iprop(BI.bigSep (Finset.univ : Finset (Fin 25)) (fun k => iprop(IdleC m c (b + 1) k ∗ IdleK m c (b + 1) k))) := by
  refine BI.BIBase.Entails.trans (ent_of_eq ?_) (ent_of_eq (BI.bigSep_sep Finset.univ (IdleC m c (b + 1)) (IdleK m c (b + 1))).symm)
  unfold SomeC SomeK
  rw [BI.bigSep_congr (s := (Finset.univ : Finset (Fin 25))) (Ψ := IdleC m c (b + 1)) (Φ := fun k => if k.val < 25 then IdleC m c (b + 1) k else FlyC m c b k) fun k _ => if_pos k.isLt,
    BI.bigSep_congr (s := (Finset.univ : Finset (Fin 25))) (Ψ := IdleK m c (b + 1)) (Φ := fun k => if k.val < 25 then IdleK m c (b + 1) k else FlyK m c b k) fun k _ => if_pos k.isLt]
  rfl

set_option maxRecDepth 65536 in
theorem phaseF_last (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (h8 : k0_cond8 i = 1#1) (h9 : k0_cond9 i = 1#1) :
    iprop(HeldC m c (i 0).val 24 12 12 ∗ HeldK m c (i 0).val 24 12 12 ∗ (∃ W, owes (c : Thread nD τ) 0 W)
        ∗ (iprop(FlyC m c (i 0).val 24 ∗ FlyK m c (i 0).val 24) -∗ iprop(SomeC m c (i 0).val 0 ∗ SomeK m c (i 0).val 0))
        ∗ (iprop(SomeC m c (i 0).val 25 ∗ SomeK m c (i 0).val 25 ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold phaseF
  rw [dif_pos h8]
  rw [dif_pos h9]
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold k0_part12_skel k0_part13_skel k0_part14_skel k0_part15_skel k0_part16_skel k0_part17_skel k0_part18_skel k0_part19_skel k0_part20_skel
  iintro ⟨HC, HD, HW, HA, HQ⟩
  iapply (startCLast m c (i 0).val 24 rfl rfl (by rw [off21_eq i]; rfl) rfl)
  isplitl [HC]; · iexact HC
  iintro HC
  iapply (startKLast m c (i 0).val 24 rfl rfl (by rw [off22_eq i]; rfl) rfl)
  isplitl [HD]; · iexact HD
  iintro HD
  ihave HA := HA $$ [HC HD]
  · isplitl [HC] <;> iassumption
  icases HA with ⟨HC, HD⟩
  iterate 24
    iapply (nextC m c (i 0).val _ (by decide))
    isplitl [HC]; · iexact HC
    isplitl [HW]; · iexact HW
    iintro ⟨HC, HW⟩
    iapply (nextK m c (i 0).val _ (by decide))
    isplitl [HD]; · iexact HD
    isplitl [HW]; · iexact HW
    iintro ⟨HD, HW⟩

  iapply (nextCLast m c (i 0).val 24 (by decide))
  isplitl [HC]; · iexact HC
  isplitl [HW]; · iexact HW
  iintro ⟨HC, HW⟩
  iapply (nextKLast m c (i 0).val 24 (by decide))
  isplitl [HD]; · iexact HD
  isplitl [HW]; · iexact HW
  iintro ⟨HD, HW⟩
  iapply HQ
  isplitl [HC]; · iexact HC
  isplitl [HD] <;> iassumption

end Cert.KernelIdeal.Gen

end
-- ==== Proof.Ideal.States.lean ====
/-
  Every tile's state before each grid point, and the tile-moving phases as steps from a point to the next.
-/
module

public import proofs.«01_k».proof.Proof.Ideal.Last

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

/-! ## The state of tile `k` after `n` grid points -/

universe u

/-- Untouched, then held for the first 287 points of a batch's 312, then in flight until the next batch reaches it. -/
def tile {P : Type u} (I0 I8 : P) (Fl : ℕ → P) (H : ℕ → ℕ → ℕ → P) (n k : ℕ) : P :=
  if n ≤ k then I0 else if 2496 ≤ n then I8
  else if 287 ≤ (n - 1 - k) % 312 then Fl ((n - 1 - k) / 312)
  else H ((n - 1 - k) / 312) ((n - 1 - k) % 312 / 26 + 1) (if 1 ≤ (n - 1 - k) % 26 then (n - 1 - k) % 312 / 26 + 1 else (n - 1 - k) % 312 / 26)

section
variable {P : Type u} (I0 I8 : P) (Fl : ℕ → P) (H : ℕ → ℕ → ℕ → P) (n k b qi j : ℕ)

theorem tile_first (hn : n = 312 * b + 26 * qi + j) (hq : qi = 0) (hb : b = 0) (hk : k = j) : tile I0 I8 Fl H n k = I0 := by
  unfold tile; rw [if_pos (by omega)]
theorem tile_next (b' : ℕ) (hn : n = 312 * b + 26 * qi + j) (hn' : n < 2496) (hq : qi = 0) (hb : b = b' + 1) (hk : k = j) (hj : j < 25) :
    tile I0 I8 Fl H n k = Fl b' := by
  unfold tile
  rw [if_neg (by omega), if_neg (by omega), if_pos (by omega), show (n - 1 - k) / 312 = b' by omega]
theorem tile_held (hn : n = 312 * b + 26 * qi + j) (hn' : n < 2496) (hq : 0 < qi) (hq' : qi < 12) (hk : k = j) (hj : j < 25) :
    tile I0 I8 Fl H n k = H b qi qi := by
  unfold tile
  rw [if_neg (by omega), if_neg (by omega), if_neg (by omega), if_pos (by omega), show (n - 1 - k) / 312 = b by omega,
    show (n - 1 - k) % 312 / 26 + 1 = qi by omega]
theorem tile_half (hn : n = 312 * b + 26 * qi + j) (hn' : n + 1 < 2496) (hq' : qi < 12) (hk : k = j) (hj : j < 25) :
    tile I0 I8 Fl H (n + 1) k = H b (qi + 1) qi := by
  unfold tile
  rw [if_neg (by omega), if_neg (by omega), if_neg (by omega), if_neg (by omega), show (n + 1 - 1 - k) / 312 = b by omega,
    show (n + 1 - 1 - k) % 312 / 26 = qi by omega]
theorem tile_half' (hn : n = 312 * b + 26 * qi + j) (hn' : n < 2496) (hq' : qi < 12) (hk : k + 1 = j) (hj : j < 26) :
    tile I0 I8 Fl H n k = H b (qi + 1) qi := by
  unfold tile
  rw [if_neg (by omega), if_neg (by omega), if_neg (by omega), if_neg (by omega), show (n - 1 - k) / 312 = b by omega,
    show (n - 1 - k) % 312 / 26 = qi by omega]
theorem tile_full (hn : n = 312 * b + 26 * qi + j) (hn' : n + 1 < 2496) (hq' : qi < 11) (hk : k + 1 = j) (hj : j < 26) :
    tile I0 I8 Fl H (n + 1) k = H b (qi + 1) (qi + 1) := by
  unfold tile
  rw [if_neg (by omega), if_neg (by omega), if_neg (by omega), if_pos (by omega), show (n + 1 - 1 - k) / 312 = b by omega,
    show (n + 1 - 1 - k) % 312 / 26 = qi by omega]
theorem tile_fly (hn : n = 312 * b + 26 * qi + j) (hn' : n + 1 < 2496) (hq' : qi = 11) (hk : k + 1 = j) (hj : j < 26) :
    tile I0 I8 Fl H (n + 1) k = Fl b := by
  unfold tile
  rw [if_neg (by omega), if_neg (by omega), if_pos (by omega), show (n + 1 - 1 - k) / 312 = b by omega]
theorem tile_same (hn : n = 312 * b + 26 * qi + j) (hn' : n + 1 < 2496) (hj : j < 26) (hk : k < 25) (h1 : k ≠ j) (h2 : k + 1 ≠ j) :
    tile I0 I8 Fl H (n + 1) k = tile I0 I8 Fl H n k := by
  unfold tile
  by_cases h : n ≤ k
  · rw [if_pos (by omega), if_pos h]
  have e1 : (n + 1 - 1 - k) / 312 = (n - 1 - k) / 312 := by omega
  have e2 : (n + 1 - 1 - k) % 312 / 26 = (n - 1 - k) % 312 / 26 := by omega
  have e3 : 287 ≤ (n + 1 - 1 - k) % 312 ↔ 287 ≤ (n - 1 - k) % 312 := by omega
  have e4 : 1 ≤ (n + 1 - 1 - k) % 26 ↔ 1 ≤ (n - 1 - k) % 26 := by omega
  rw [if_neg (show ¬ n + 1 ≤ k by omega), if_neg h, if_neg (show ¬ 2496 ≤ n + 1 by omega), if_neg (show ¬ 2496 ≤ n by omega), e1, e2]
  simp only [e3, e4]
theorem tile_last (hn : n = 2495) (hk : k < 24) : tile I0 I8 Fl H n k = Fl 7 := by
  unfold tile
  rw [if_neg (by omega), if_neg (by omega), if_pos (by omega), show (n - 1 - k) / 312 = 7 by omega]
theorem tile_end (hn : n = 2496) (hk : k < 25) : tile I0 I8 Fl H n k = I8 := by
  unfold tile
  rw [if_neg (by omega), if_pos (by omega)]
theorem tile_zero : tile I0 I8 Fl H 0 k = I0 := if_pos (Nat.zero_le _)
end

variable (m : (ℓ : Loc nD τ sig) → Buf (Elt F) ℓ) (c : Dev nD)

def tileC (n : ℕ) (k : Fin 25) : sProp 𝕄 := tile (IdleC m c 0 k) (IdleC m c 8 k) (fun b => FlyC m c b k) (fun b x y => HeldC m c b k x y) n k.val
def tileK (n : ℕ) (k : Fin 25) : sProp 𝕄 := tile (IdleK m c 0 k) (IdleK m c 8 k) (fun b => FlyK m c b k) (fun b x y => HeldK m c b k x y) n k.val
def tiles (n : ℕ) : sProp 𝕄 := BI.bigSep (Finset.univ : Finset (Fin 25)) fun k => iprop(tileC m c n k ∗ tileK m c n k)
/-- The tiles but `S`. -/
def rest (S : Finset (Fin 25)) (n : ℕ) : sProp 𝕄 := BI.bigSep (Finset.univ \ S) fun k => iprop(tileC m c n k ∗ tileK m c n k)

theorem tiles_one (n : ℕ) (k : Fin 25) : tiles m c n ⊣⊢ iprop((tileC m c n k ∗ tileK m c n k) ∗ rest m c {k} n) := by
  unfold tiles rest
  rw [BI.bigSep_univ_split k, Finset.sdiff_singleton_eq_erase]
  exact .rfl
theorem tiles_two (n : ℕ) (k k' : Fin 25) (h : k' ≠ k) :
    tiles m c n ⊣⊢ iprop((tileC m c n k ∗ tileK m c n k) ∗ (tileC m c n k' ∗ tileK m c n k') ∗ rest m c {k, k'} n) := by
  unfold tiles rest
  rw [BI.bigSep_univ_split k, BI.bigSep_erase (i := k') (Finset.mem_erase.mpr ⟨h, Finset.mem_univ _⟩),
    show Finset.univ \ ({k, k'} : Finset (Fin 25)) = (Finset.univ.erase k).erase k' by ext x; simp; tauto]
  exact .rfl
theorem rest_same (S : Finset (Fin 25)) (n b qi j : ℕ) (hn : n = 312 * b + 26 * qi + j) (hn' : n + 1 < 2496) (hj : j < 26)
    (hS : ∀ k : Fin 25, k.val = j ∨ k.val + 1 = j → k ∈ S) : rest m c S (n + 1) = rest m c S n := by
  unfold rest
  refine BI.bigSep_congr fun k hk => ?_
  have hk' := (Finset.mem_sdiff.mp hk).2
  have h1 : k.val ≠ j := fun e => hk' (hS k (Or.inl e))
  have h2 : k.val + 1 ≠ j := fun e => hk' (hS k (Or.inr e))
  unfold tileC tileK
  rw [tile_same _ _ _ _ n k.val b qi j hn hn' hj k.isLt h1 h2, tile_same _ _ _ _ n k.val b qi j hn hn' hj k.isLt h1 h2]

/-! ## The phases, whatever the point -/

/-- Before the products of step `j` tile `j` is at hand with the query tiles so far in it. -/
theorem phaseA_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hn' : n < 2496) (hq : (i 1).val < 12) (hj : (i 2).val < 25)
    (k : Fin 25) (hk : k.val = (i 2).val) :
    iprop((tileC m c n k ∗ tileK m c n k) ∗ (∃ W, owes (c : Thread nD τ) 0 W)
        ∗ (iprop(HeldC m c (i 0).val k (i 1).val (i 1).val ∗ HeldK m c (i 0).val k (i 1).val (i 1).val ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold tileC tileK
  by_cases h0 : (i 1).val = 0
  · have h1 : k0_cond1 i = 1#1 := by rw [cond1_iff]; omega
    rw [h0]
    by_cases hb : (i 0).val = 0
    · rw [tile_first _ _ _ _ n k.val _ _ _ hn h0 hb hk, tile_first _ _ _ _ n k.val _ _ _ hn h0 hb hk, hb]
      iintro ⟨⟨HC, HD⟩, HW, HQ⟩
      iapply (phaseA_first m c i (h1 := h1) (k := k) (hk := hk) (hb := hb))
      isplitl [HC]; · iexact HC
      isplitl [HD]; · iexact HD
      isplitl [HW] <;> iassumption
    · obtain ⟨b', hb'⟩ : ∃ b', (i 0).val = b' + 1 := ⟨(i 0).val - 1, by omega⟩
      rw [tile_next _ _ _ _ n k.val _ _ _ b' hn hn' h0 hb' hk hj, tile_next _ _ _ _ n k.val _ _ _ b' hn hn' h0 hb' hk hj, hb']
      by_cases h24 : k.val = 24
      · iintro ⟨⟨HC, HD⟩, HW, HQ⟩
        iapply (phaseA_nextLast m c i (h1 := h1) (k := k) (hk := hk) (b := b') (hb := hb') (hk24 := h24))
        isplitl [HC]; · iexact HC
        isplitl [HD]; · iexact HD
        isplitl [HW] <;> iassumption
      · iintro ⟨⟨HC, HD⟩, HW, HQ⟩
        iapply (phaseA_next m c i (h1 := h1) (k := k) (hk := hk) (b := b') (hb := hb') (hk24 := h24))
        isplitl [HC]; · iexact HC
        isplitl [HD]; · iexact HD
        isplitl [HW] <;> iassumption
  · rw [phaseA_skip (h := by rw [cond1_iff]; omega)]
    rw [tile_held _ _ _ _ n k.val _ _ _ hn hn' (by omega) hq hk hj, tile_held _ _ _ _ n k.val _ _ _ hn hn' (by omega) hq hk hj]
    iintro ⟨⟨HC, HD⟩, HW, HQ⟩
    iapply HQ
    isplitl [HC]; · iexact HC
    isplitl [HD] <;> iassumption

/-- After them the tile the step before began is complete, and sent if the batch is done with it. -/
theorem phaseE_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hn' : n + 1 < 2496) (hq : (i 1).val < 12) (hj : (i 2).val < 25)
    (k : Fin 25) (hk : k.val + 1 = (i 2).val) :
    iprop(HeldC m c (i 0).val k ((i 1).val + 1) ((i 1).val + 1) ∗ HeldK m c (i 0).val k ((i 1).val + 1) ((i 1).val + 1)
        ∗ (iprop(tileC m c (n + 1) k ∗ tileK m c (n + 1) k) -∗ wp frame (wpE (defs₀ (F := F)) Variants.none (c : Thread nD τ) none) Set.univ K Q))
      ⊢ wp frame (wpE (defs₀ (F := F)) Variants.none (c : Thread nD τ) none) Set.univ (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold tileC tileK
  by_cases h0 : (i 1).val = 11
  · rw [tile_fly _ _ _ _ n k.val _ _ _ hn hn' h0 hk (by omega), tile_fly _ _ _ _ n k.val _ _ _ hn hn' h0 hk (by omega), h0]
    iintro ⟨HC, HD, HQ⟩
    iapply (phaseE_run m c i (h7 := by rw [cond7_iff]; omega) (k := k) (hk := hk) (hk24 := by omega))
    isplitl [HC]; · iexact HC
    isplitl [HD] <;> iassumption
  · rw [tile_full _ _ _ _ n k.val _ _ _ hn hn' (by omega) hk (by omega), tile_full _ _ _ _ n k.val _ _ _ hn hn' (by omega) hk (by omega),
      phaseE_skip (h := by rw [cond7_iff]; omega)]
    iintro ⟨HC, HD, HQ⟩
    iapply HQ
    isplitl [HC] <;> iassumption

/-- So at the last step with the last tile; after the last batch every tile is awaited. -/
theorem phaseF_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj : (i 2).val = 25) :
    iprop(HeldC m c (i 0).val 24 ((i 1).val + 1) ((i 1).val + 1) ∗ HeldK m c (i 0).val 24 ((i 1).val + 1) ((i 1).val + 1)
        ∗ rest m c {24} n ∗ (∃ W, owes (c : Thread nD τ) 0 W)
        ∗ (iprop(tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  by_cases hl : n + 1 < 2496
  · have et := tiles_one m c (n + 1) 24
    rw [rest_same m c {24} n _ _ _ hn hl (by omega) (fun k hk => by rw [Finset.mem_singleton]; apply Fin.ext; show k.val = 24; omega)] at et
    unfold tileC tileK at et
    by_cases h0 : (i 1).val = 11
    · rw [tile_fly _ _ _ _ n (24 : Fin 25).val _ _ _ hn hl h0 (by rw [hj]; rfl) (by omega), tile_fly _ _ _ _ n (24 : Fin 25).val _ _ _ hn hl h0 (by rw [hj]; rfl) (by omega)] at et
      rw [h0]
      iintro ⟨HC, HD, HR, HW, HQ⟩
      iapply (phaseF_run m c i (h8 := by rw [cond8_iff]; omega) (h9 := by rw [cond9_iff]; omega) (k := 24) (hk := rfl))
      isplitl [HC]; · iexact HC
      isplitl [HD]; · iexact HD
      iintro ⟨HC, HD⟩
      iapply HQ
      isplitl [HC HD HR]
      · iapply et.2
        isplitl [HC HD]; · isplitl [HC] <;> iassumption
        iexact HR
      iexact HW
    · rw [tile_full _ _ _ _ n (24 : Fin 25).val _ _ _ hn hl (by omega) (by rw [hj]; rfl) (by omega), tile_full _ _ _ _ n (24 : Fin 25).val _ _ _ hn hl (by omega) (by rw [hj]; rfl) (by omega)] at et
      rw [phaseF_skip (h := by rw [cond8_iff]; omega)]
      iintro ⟨HC, HD, HR, HW, HQ⟩
      iapply HQ
      isplitl [HC HD HR]
      · iapply et.2
        isplitl [HC HD]; · isplitl [HC] <;> iassumption
        iexact HR
      iexact HW
  · have h7 : (i 0).val = 7 := by omega
    have h11 : (i 1).val = 11 := by omega
    rw [h11]
    have er : rest m c {24} n = BI.bigSep (Finset.univ \ {(24 : Fin 25)}) fun k => iprop(FlyC m c (i 0).val k ∗ FlyK m c (i 0).val k) := by
      unfold rest
      refine BI.bigSep_congr fun k hk => ?_
      have hk' : k.val < 24 := by
        have := (Finset.mem_sdiff.mp hk).2
        rw [Finset.mem_singleton] at this
        have h2 : k.val ≠ 24 := fun e => this (Fin.ext e)
        omega
      unfold tileC tileK
      rw [tile_last _ _ _ _ n k.val (by omega) hk', tile_last _ _ _ _ n k.val (by omega) hk', h7]
    have ee : (iprop(BI.bigSep (Finset.univ : Finset (Fin 25)) (fun k => iprop(IdleC m c ((i 0).val + 1) k ∗ IdleK m c ((i 0).val + 1) k))) : sProp 𝕄) = tiles m c (n + 1) := by
      unfold tiles
      refine BI.bigSep_congr fun k _ => ?_
      unfold tileC tileK
      rw [tile_end _ _ _ _ (n + 1) k.val (by omega) k.isLt, tile_end _ _ _ _ (n + 1) k.val (by omega) k.isLt, h7]
    have ef : iprop((FlyC m c (i 0).val 24 ∗ FlyK m c (i 0).val 24) ∗ rest m c {24} n) ⊢ iprop(SomeC m c (i 0).val 0 ∗ SomeK m c (i 0).val 0) := by
      refine BI.BIBase.Entails.trans (ent_of_eq ?_) (all_fly m c (i 0).val)
      rw [er, BI.bigSep_univ_split (24 : Fin 25), Finset.sdiff_singleton_eq_erase]
      rfl
    iintro ⟨HC, HD, HR, HW, HQ⟩
    iapply (phaseF_last m c i (h8 := by rw [cond8_iff]; omega) (h9 := by rw [cond9_iff]; omega))
    isplitl [HC]; · iexact HC
    isplitl [HD]; · iexact HD
    isplitl [HW]; · iexact HW
    isplitl [HR]
    · iintro ⟨HC, HD⟩
      iapply ef
      isplitl [HC HD]; · isplitl [HC] <;> iassumption
      iexact HR
    iintro ⟨HC, HD, HW⟩
    iapply HQ
    isplitl [HC HD]
    · iapply (ent_of_eq ee)
      iapply (all_idle m c (i 0).val)
      isplitl [HC] <;> iassumption
    iexact HW

end Cert.KernelIdeal.Gen

end
-- ==== Proof.Ideal.Body.lean ====
/-
  The body at one grid point: it takes the scratch and the tiles from one point to the next.
-/
module

public import proofs.«01_k».proof.Proof.Ideal.Runs
public import proofs.«01_k».proof.Proof.Ideal.States

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (c : Dev nD)

/-- What the scratch holds before point `n`, unless a query tile begins there. -/
def Good (n : ℕ) (qt : Vec F S768x1024 .bf16) (dot : Vec F S512x1024 .bf16) (dov q : Vec F S1024x512 .bf16) (delta : Vec F S8x1024 .f32)
    (pb dsb : Vec F S256x1024 .bf16) (acc : Vec F S576x1024 .f32) : Prop :=
  ∀ b qi j, n = 312 * b + 26 * qi + (j + 1) → qi < 12 → j < 25 →
    qt = QT m c b qi ∧ dot = DOT m c b qi ∧ dov = DOV m c b qi ∧ q = QV m c b qi ∧ delta = DELTA m c b qi
      ∧ pb = PV m c b qi j true ∧ dsb = DSV m c b qi j true ∧ acc = DQA m c b qi j

def Scr (arg18 : Memref sig .tc .vmem S768x1024 .bf16) (arg19 : Memref sig .tc .vmem S512x1024 .bf16) (arg20 : Memref sig .tc .vmem S1024x512 .bf16) (arg21 : Memref sig .tc .vmem S1024x512 .bf16) (arg22 : Memref sig .tc .vmem S8x1024 .f32) (arg23 : Memref sig .tc .vmem S256x1024 .bf16) (arg24 : Memref sig .tc .vmem S256x1024 .bf16) (arg25 : Memref sig .tc .vmem S256x1024 .bf16) (arg26 : Memref sig .tc .vmem S256x1024 .bf16) (arg27 : Memref sig .tc .vmem S576x1024 .f32) (n : ℕ) : sProp 𝕄 :=
  iprop(∃ qt dot dov q delta pb dsb acc, ⌜Good m c n qt dot dov q delta pb dsb acc⌝
    ∗ owns (c : Thread nD τ) arg18 fullShare qt ∗ owns (c : Thread nD τ) arg19 fullShare dot ∗ owns (c : Thread nD τ) arg20 fullShare dov ∗ owns (c : Thread nD τ) arg21 fullShare q ∗ owns (c : Thread nD τ) arg22 fullShare delta
    ∗ (∃ d, owns (c : Thread nD τ) arg23 fullShare d) ∗ (∃ d, owns (c : Thread nD τ) arg24 fullShare d) ∗ owns (c : Thread nD τ) arg25 fullShare pb ∗ owns (c : Thread nD τ) arg26 fullShare dsb ∗ owns (c : Thread nD τ) arg27 fullShare acc)

theorem DCH_fst (b k n : ℕ) (p ds : Vec F S256x1024 .bf16) (dov q : Vec F S1024x512 .bf16) (hp : p = PV m c b n k false) (hd : ds = DSV m c b n k false)
    (ho : dov = DOV m c b n) (hq : q = QV m c b n) : dcStep (DCH m c b (2 * k) n) p ds dov q = DCH m c b (2 * k) (n + 1) := by
  subst hp hd ho hq
  show _ = dcStep _ _ _ _ _
  rw [show 2 * k / 2 = k by omega, show (2 * k % 2 == 1) = false by rw [show 2 * k % 2 = 0 by omega]; rfl]
theorem DCH_snd (b k n : ℕ) (p ds : Vec F S256x1024 .bf16) (dov q : Vec F S1024x512 .bf16) (hp : p = PV m c b n k true) (hd : ds = DSV m c b n k true)
    (ho : dov = DOV m c b n) (hq : q = QV m c b n) : dcStep (DCH m c b (2 * k + 1) n) p ds dov q = DCH m c b (2 * k + 1) (n + 1) := by
  subst hp hd ho hq
  show _ = dcStep _ _ _ _ _
  rw [show (2 * k + 1) / 2 = k by omega, show ((2 * k + 1) % 2 == 1) = true by rw [show (2 * k + 1) % 2 = 1 by omega]; rfl]
theorem DKH_fst (b k n : ℕ) (ds : Vec F S256x1024 .bf16) (qt : Vec F S768x1024 .bf16) (hd : ds = DSV m c b n k false) (hq : qt = QT m c b n) :
    dkStep (DKH m c b (2 * k) n) ds qt = DKH m c b (2 * k) (n + 1) := by
  subst hd hq
  show _ = dkStep _ _ _
  rw [show 2 * k / 2 = k by omega, show (2 * k % 2 == 1) = false by rw [show 2 * k % 2 = 0 by omega]; rfl]
theorem DKH_snd (b k n : ℕ) (ds : Vec F S256x1024 .bf16) (qt : Vec F S768x1024 .bf16) (hd : ds = DSV m c b n k true) (hq : qt = QT m c b n) :
    dkStep (DKH m c b (2 * k + 1) n) ds qt = DKH m c b (2 * k + 1) (n + 1) := by
  subst hd hq
  show _ = dkStep _ _ _
  rw [show (2 * k + 1) / 2 = k by omega, show ((2 * k + 1) % 2 == 1) = true by rw [show (2 * k + 1) % 2 = 1 by omega]; rfl]

/-- The products of a query tile's first step. -/
theorem phaseB_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (h4 : k0_cond4 i = 1#1) (hj : (i 2).val = 0) :
    iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
        ∗ Scr m c arg18 arg19 arg20 arg21 arg22 arg23 arg24 arg25 arg26 arg27 n ∗ HeldC m c (i 0).val 0 (i 1).val (i 1).val ∗ HeldK m c (i 0).val 0 (i 1).val (i 1).val
        ∗ (iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
            ∗ Scr m c arg18 arg19 arg20 arg21 arg22 arg23 arg24 arg25 arg26 arg27 (n + 1) ∗ HeldC m c (i 0).val 0 ((i 1).val + 1) (i 1).val ∗ HeldK m c (i 0).val 0 ((i 1).val + 1) (i 1).val) -∗ wp frame (wpE (defs₀ (F := F)) Variants.none (c : Thread nD τ) none) Set.univ K Q))
      ⊢ wp frame (wpE (defs₀ (F := F)) Variants.none (c : Thread nD τ) none) Set.univ (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  unfold HeldC HeldK
  rw [pC_rect256 c (a := 256 * (2 * (0 : Fin 25).val)) (o := ![0, 0]) rfl inb_S12800x512_S256x512_0_0 (DCall m c (i 0).val (i 1).val),
    pK_rect256 c (a := 256 * (2 * (0 : Fin 25).val)) (o := ![0, 0]) rfl inb_S64x12800_S64x256_0_0 (DKall m c (i 0).val (i 1).val)]
  rw [hj]
  unfold Scr
  iintro ⟨H3, H4, H5, H6, H7, H8, H9, H10, H11, H12, ⟨%qt, %dot, %dov, %q, %delta, %pb, %dsb, %acc, -, H18, H19, H20, H21, H22, H23, H24, H25, H26, H27⟩, ⟨C0, C1, CH, CZ⟩, ⟨D0, D1, DH, DZ⟩, HQ⟩
  iapply (phaseB_run c i h4)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H18]; · iexists _; iexact H18
  isplitl [H19]; · iexists _; iexact H19
  isplitl [H20]; · iexists _; iexact H20
  isplitl [H21]; · iexists _; iexact H21
  isplitl [H22]; · iexists _; iexact H22
  isplitl [H23]; · iexact H23
  isplitl [H24]; · iexact H24
  isplitl [H25]; · iexists _; iexact H25
  isplitl [H26]; · iexists _; iexact H26
  isplitl [H27]; · iexists _; iexact H27
  isplitl [C0]; · iexact C0
  isplitl [D0]; · iexact D0
  iintro ⟨H3, H4, H5, H6, H7, H8, H9, H10, H11, H12, H18, H19, H20, H21, H22, H23, H24, H25, H26, H27, C0, D0⟩
  ihave C0 := (ent_of_eq (halfC m c (i 0).val (2 * 0) (i 1).val (o := ![0, 0]) rfl inb_S12800x512_S256x512_0_0
    (fun x => dcStep x (pOf false (iblk m c 6 (pt (i 0).val (i 1).val 0)) (iblk m c 7 (pt (i 0).val (i 1).val 0)) (iblk m c 8 (pt (i 0).val (i 1).val 0)) (qtOf (BitVec.ofNat 32 (i 1).val) (iblk m c 0 (pt (i 0).val (i 1).val 0)) (iblk m c 1 (pt (i 0).val (i 1).val 0)) (iblk m c 5 (pt (i 0).val (i 1).val 0)))) (dsOf false (iblk m c 6 (pt (i 0).val (i 1).val 0)) (iblk m c 7 (pt (i 0).val (i 1).val 0)) (iblk m c 8 (pt (i 0).val (i 1).val 0)) (qtOf (BitVec.ofNat 32 (i 1).val) (iblk m c 0 (pt (i 0).val (i 1).val 0)) (iblk m c 1 (pt (i 0).val (i 1).val 0)) (iblk m c 5 (pt (i 0).val (i 1).val 0))) (dotOf (iblk m c 4 (pt (i 0).val (i 1).val 0)) (iblk m c 3 (pt (i 0).val (i 1).val 0))) (deltaOf (iblk m c 4 (pt (i 0).val (i 1).val 0)) (iblk m c 3 (pt (i 0).val (i 1).val 0)) (iblk m c 2 (pt (i 0).val (i 1).val 0)))) (doOf (iblk m c 4 (pt (i 0).val (i 1).val 0)) (iblk m c 3 (pt (i 0).val (i 1).val 0))) (qOf (iblk m c 0 (pt (i 0).val (i 1).val 0))))
    (DCH_fst m c _ 0 _ _ _ _ _ rfl rfl rfl rfl))) $$ C0
  ihave D0 := (ent_of_eq (halfK m c (i 0).val (2 * 0) (i 1).val (o := ![0, 0]) rfl inb_S64x12800_S64x256_0_0
    (fun x => dkStep x (dsOf false (iblk m c 6 (pt (i 0).val (i 1).val 0)) (iblk m c 7 (pt (i 0).val (i 1).val 0)) (iblk m c 8 (pt (i 0).val (i 1).val 0)) (qtOf (BitVec.ofNat 32 (i 1).val) (iblk m c 0 (pt (i 0).val (i 1).val 0)) (iblk m c 1 (pt (i 0).val (i 1).val 0)) (iblk m c 5 (pt (i 0).val (i 1).val 0))) (dotOf (iblk m c 4 (pt (i 0).val (i 1).val 0)) (iblk m c 3 (pt (i 0).val (i 1).val 0))) (deltaOf (iblk m c 4 (pt (i 0).val (i 1).val 0)) (iblk m c 3 (pt (i 0).val (i 1).val 0)) (iblk m c 2 (pt (i 0).val (i 1).val 0)))) (qtOf (BitVec.ofNat 32 (i 1).val) (iblk m c 0 (pt (i 0).val (i 1).val 0)) (iblk m c 1 (pt (i 0).val (i 1).val 0)) (iblk m c 5 (pt (i 0).val (i 1).val 0))))
    (DKH_fst m c _ 0 _ _ _ rfl rfl))) $$ D0
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H18 H19 H20 H21 H22 H23 H24 H25 H26 H27]
  · iexists _, _, _, _, _, _, _, _
    isplitr; swap
    · isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexact H25
      isplitl [H26]; · iexact H26
      iexact H27
    · ipureintro
      intro b qi j e hqi hj'
      obtain rfl : (i 0).val = b := by omega
      obtain rfl : (i 1).val = qi := by omega
      obtain rfl : 0 = j := by omega
      exact ⟨rfl, rfl, rfl, rfl, rfl, rfl, rfl, rfl⟩
  isplitl [C0 C1 CH CZ]
  · isplitl [C0]; · iexact C0
    isplitl [C1]; · iexact C1
    isplitl [CH] <;> iassumption
  isplitl [D0]; · iexact D0
  isplitl [D1]; · iexact D1
  isplitl [DH] <;> iassumption

/-- The products of a later step `k`, which also finishes the step before. -/
theorem phaseC_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (h5 : k0_cond5 i = 1#1) (k k' : Fin 25) (hk : k.val = (i 2).val) (hk' : k'.val + 1 = (i 2).val) :
    iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
        ∗ Scr m c arg18 arg19 arg20 arg21 arg22 arg23 arg24 arg25 arg26 arg27 n ∗ HeldC m c (i 0).val k (i 1).val (i 1).val ∗ HeldK m c (i 0).val k (i 1).val (i 1).val
        ∗ HeldC m c (i 0).val k' ((i 1).val + 1) (i 1).val ∗ HeldK m c (i 0).val k' ((i 1).val + 1) (i 1).val
        ∗ (iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
            ∗ Scr m c arg18 arg19 arg20 arg21 arg22 arg23 arg24 arg25 arg26 arg27 (n + 1) ∗ HeldC m c (i 0).val k ((i 1).val + 1) (i 1).val ∗ HeldK m c (i 0).val k ((i 1).val + 1) (i 1).val
            ∗ HeldC m c (i 0).val k' ((i 1).val + 1) ((i 1).val + 1) ∗ HeldK m c (i 0).val k' ((i 1).val + 1) ((i 1).val + 1)) -∗ wp frame (wpE (defs₀ (F := F)) Variants.none (c : Thread nD τ) none) Set.univ K Q))
      ⊢ wp frame (wpE (defs₀ (F := F)) Variants.none (c : Thread nD τ) none) Set.univ (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have e10 : k0_off10 i = ![256 * (2 * k'.val + 1), 0] := by rw [off10_eq i (by omega), show 2 * (i 2).val - 1 = 2 * k'.val + 1 by omega]
  have e11 : k0_off11 i = ![0, 256 * (2 * k'.val + 1)] := by rw [off11_eq i (by omega), show 2 * (i 2).val - 1 = 2 * k'.val + 1 by omega]
  have e12 : k0_off12 i = ![256 * (2 * k.val), 0] := by rw [off12_eq i, hk]
  have e13 : k0_off13 i = ![0, 256 * (2 * k.val)] := by rw [off13_eq i, hk]
  have r10 := pC_rect256 c e10 (k0_off10_inb i h5) (DCall m c (i 0).val (i 1).val)
  have r12 := pC_rect256 c e12 (k0_off12_inb i h5) (DCall m c (i 0).val (i 1).val)
  have r11 := pK_rect256 c e11 (k0_off11_inb i h5) (DKall m c (i 0).val (i 1).val)
  have r13 := pK_rect256 c e13 (k0_off13_inb i h5) (DKall m c (i 0).val (i 1).val)
  have w12 := halfC m c (i 0).val (2 * k.val) (i 1).val e12 (k0_off12_inb i h5)
    (fun x => dcStep x (pOf false (iblk m c 6 (pt (i 0).val (i 1).val (i 2).val)) (iblk m c 7 (pt (i 0).val (i 1).val (i 2).val)) (iblk m c 8 (pt (i 0).val (i 1).val (i 2).val)) (QT m c (i 0).val (i 1).val)) (dsOf false (iblk m c 6 (pt (i 0).val (i 1).val (i 2).val)) (iblk m c 7 (pt (i 0).val (i 1).val (i 2).val)) (iblk m c 8 (pt (i 0).val (i 1).val (i 2).val)) (QT m c (i 0).val (i 1).val) (DOT m c (i 0).val (i 1).val) (DELTA m c (i 0).val (i 1).val)) (DOV m c (i 0).val (i 1).val) (QV m c (i 0).val (i 1).val))
    (DCH_fst m c _ k.val _ _ _ _ _ (by rw [hk]; rfl) (by rw [hk]; rfl) rfl rfl)
  have w13 := halfK m c (i 0).val (2 * k.val) (i 1).val e13 (k0_off13_inb i h5)
    (fun x => dkStep x (dsOf false (iblk m c 6 (pt (i 0).val (i 1).val (i 2).val)) (iblk m c 7 (pt (i 0).val (i 1).val (i 2).val)) (iblk m c 8 (pt (i 0).val (i 1).val (i 2).val)) (QT m c (i 0).val (i 1).val) (DOT m c (i 0).val (i 1).val) (DELTA m c (i 0).val (i 1).val)) (QT m c (i 0).val (i 1).val)) (DKH_fst m c _ k.val _ _ _ (by rw [hk]; rfl) rfl)
  have w10 := halfC m c (i 0).val (2 * k'.val + 1) (i 1).val e10 (k0_off10_inb i h5)
    (fun x => dcStep x (PV m c (i 0).val (i 1).val k'.val true) (DSV m c (i 0).val (i 1).val k'.val true) (DOV m c (i 0).val (i 1).val) (QV m c (i 0).val (i 1).val))
    (DCH_snd m c _ k'.val _ _ _ _ _ rfl rfl rfl rfl)
  have w11 := halfK m c (i 0).val (2 * k'.val + 1) (i 1).val e11 (k0_off11_inb i h5)
    (fun x => dkStep x (DSV m c (i 0).val (i 1).val k'.val true) (QT m c (i 0).val (i 1).val)) (DKH_snd m c _ k'.val _ _ _ rfl rfl)
  unfold HeldC HeldK Scr
  iintro ⟨H9, H10, H11, H12, H13, ⟨%qt, %dot, %dov, %q, %delta, %pb, %dsb, %acc, %hg, H18, H19, H20, H21, H22, ⟨%pa, H23⟩, ⟨%dsa, H24⟩, H25, H26, H27⟩, ⟨C0, C1, CH, CZ⟩, ⟨D0, D1, DH, DZ⟩, ⟨E0, E1, EH, EZ⟩, ⟨G0, G1, GH, GZ⟩, HQ⟩
  obtain ⟨rfl, rfl, rfl, rfl, rfl, rfl, rfl, rfl⟩ := hg (i 0).val (i 1).val k'.val (by omega) hq k'.isLt
  ihave C0 := (ent_of_eq r12) $$ C0
  ihave D0 := (ent_of_eq r13) $$ D0
  ihave E1 := (ent_of_eq r10) $$ E1
  ihave G1 := (ent_of_eq r11) $$ G1
  iapply (phaseC_run c i h5)
  isplitl [H9]; · iexact H9
  isplitl [H10]; · iexact H10
  isplitl [H11]; · iexact H11
  isplitl [H18]; · iexact H18
  isplitl [H19]; · iexact H19
  isplitl [H20]; · iexact H20
  isplitl [H21]; · iexact H21
  isplitl [H22]; · iexact H22
  isplitl [H12]; · iexact H12
  isplitl [H13]; · iexact H13
  isplitl [H23]; · iexact H23
  isplitl [H24]; · iexact H24
  isplitl [H25]; · iexact H25
  isplitl [H26]; · iexact H26
  isplitl [H27]; · iexact H27
  isplitl [E1]; · iexact E1
  isplitl [C0]; · iexact C0
  isplitl [G1]; · iexact G1
  isplitl [D0]; · iexact D0
  iintro ⟨H9, H10, H11, H18, H19, H20, H21, H22, H12, H13, H23, H24, H25, H26, H27, E1, C0, G1, D0⟩
  ihave C0 := (ent_of_eq w12) $$ C0
  ihave D0 := (ent_of_eq w13) $$ D0
  ihave E1 := (ent_of_eq w10) $$ E1
  ihave G1 := (ent_of_eq w11) $$ G1
  iapply HQ
  isplitl [H9]; · iexact H9
  isplitl [H10]; · iexact H10
  isplitl [H11]; · iexact H11
  isplitl [H12]; · iexact H12
  isplitl [H13]; · iexact H13
  isplitl [H18 H19 H20 H21 H22 H23 H24 H25 H26 H27]
  · iexists _, _, _, _, _, _, _, _
    isplitr; swap
    · isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexact H25
      isplitl [H26]; · iexact H26
      iexact H27
    · ipureintro
      intro b qi j e hqi hj'
      obtain rfl : (i 0).val = b := by omega
      obtain rfl : (i 1).val = qi := by omega
      obtain rfl : k'.val + 1 = j := by omega
      rw [← hk']
      exact ⟨rfl, rfl, rfl, rfl, rfl, rfl, rfl, rfl⟩
  isplitl [C0 C1 CH CZ]
  · isplitl [C0]; · iexact C0
    isplitl [C1]; · iexact C1
    isplitl [CH] <;> iassumption
  isplitl [D0 D1 DH DZ]
  · isplitl [D0]; · iexact D0
    isplitl [D1]; · iexact D1
    isplitl [DH] <;> iassumption
  isplitl [E0 E1 EH EZ]
  · isplitl [E0]; · iexact E0
    isplitl [E1]; · iexact E1
    isplitl [EH] <;> iassumption
  isplitl [G0]; · iexact G0
  isplitl [G1]; · iexact G1
  isplitl [GH] <;> iassumption

/-- The last step finishes tile 24 and writes the query tile's results. -/
theorem phaseD_any (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (h6 : k0_cond6 i = 1#1) (hj : (i 2).val = 25) :
    iprop(owns (c : Thread nD τ) arg13 fullShare (iblk m c 10 (pt (i 0).val (i 1).val (i 2).val)) ∗ (∃ d, owns (c : Thread nD τ) arg14 fullShare d) ∗ (∃ d, owns (c : Thread nD τ) arg15 fullShare d)
        ∗ Scr m c arg18 arg19 arg20 arg21 arg22 arg23 arg24 arg25 arg26 arg27 n ∗ HeldC m c (i 0).val 24 ((i 1).val + 1) (i 1).val ∗ HeldK m c (i 0).val 24 ((i 1).val + 1) (i 1).val
        ∗ (iprop(owns (c : Thread nD τ) arg13 fullShare (iblk m c 10 (pt (i 0).val (i 1).val (i 2).val)) ∗ owns (c : Thread nD τ) arg14 fullShare (dqOut (DQF m c (i 0).val (i 1).val)) ∗ owns (c : Thread nD τ) arg15 fullShare (dqrOut (DQF m c (i 0).val (i 1).val))
            ∗ Scr m c arg18 arg19 arg20 arg21 arg22 arg23 arg24 arg25 arg26 arg27 (n + 1)
            ∗ HeldC m c (i 0).val 24 ((i 1).val + 1) ((i 1).val + 1) ∗ HeldK m c (i 0).val 24 ((i 1).val + 1) ((i 1).val + 1)) -∗ wp frame (wpE (defs₀ (F := F)) Variants.none (c : Thread nD τ) none) Set.univ K Q))
      ⊢ wp frame (wpE (defs₀ (F := F)) Variants.none (c : Thread nD τ) none) Set.univ (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K) Q := by
  have e14 : k0_off14 i = ![256 * (2 * (24 : Fin 25).val + 1), 0] := by rw [off14_eq i (by omega), hj]; rfl
  have e15 : k0_off15 i = ![0, 256 * (2 * (24 : Fin 25).val + 1)] := by rw [off15_eq i (by omega), hj]; rfl
  have r14 := pC_rect256 c e14 (k0_off14_inb i h6) (DCall m c (i 0).val (i 1).val)
  have r15 := pK_rect256 c e15 (k0_off15_inb i h6) (DKall m c (i 0).val (i 1).val)
  have w14 := halfC m c (i 0).val (2 * (24 : Fin 25).val + 1) (i 1).val e14 (k0_off14_inb i h6)
    (fun x => dcStep x (PV m c (i 0).val (i 1).val 24 true) (DSV m c (i 0).val (i 1).val 24 true) (DOV m c (i 0).val (i 1).val) (QV m c (i 0).val (i 1).val))
    (DCH_snd m c _ 24 _ _ _ _ _ rfl rfl rfl rfl)
  have w15 := halfK m c (i 0).val (2 * (24 : Fin 25).val + 1) (i 1).val e15 (k0_off15_inb i h6)
    (fun x => dkStep x (DSV m c (i 0).val (i 1).val 24 true) (QT m c (i 0).val (i 1).val)) (DKH_snd m c _ 24 _ _ _ rfl rfl)
  unfold HeldC HeldK Scr
  iintro ⟨H13, H14, H15, ⟨%qt, %dot, %dov, %q, %delta, %pb, %dsb, %acc, %hg, H18, H19, H20, H21, H22, H23, H24, H25, H26, H27⟩, ⟨E0, E1, EH, EZ⟩, ⟨G0, G1, GH, GZ⟩, HQ⟩
  obtain ⟨rfl, rfl, rfl, rfl, rfl, rfl, rfl, rfl⟩ := hg (i 0).val (i 1).val 24 (by omega) hq (by decide)
  ihave E1 := (ent_of_eq r14) $$ E1
  ihave G1 := (ent_of_eq r15) $$ G1
  iapply (phaseD_run c i h6)
  isplitl [H13]; · iexact H13
  isplitl [H18]; · iexact H18
  isplitl [H20]; · iexact H20
  isplitl [H21]; · iexact H21
  isplitl [H25]; · iexact H25
  isplitl [H26]; · iexact H26
  isplitl [H27]; · iexact H27
  isplitl [H14]; · iexact H14
  isplitl [H15]; · iexact H15
  isplitl [E1]; · iexact E1
  isplitl [G1]; · iexact G1
  iintro ⟨H13, H18, H20, H21, H25, H26, H27, H14, H15, E1, G1⟩
  ihave E1 := (ent_of_eq w14) $$ E1
  ihave G1 := (ent_of_eq w15) $$ G1
  iapply HQ
  isplitl [H13]; · iexact H13
  rw [hj]
  isplitl [H14]; · iexact H14
  isplitl [H15]; · iexact H15
  isplitl [H18 H19 H20 H21 H22 H23 H24 H25 H26 H27]
  · iexists _, _, _, _, _, _, _, _
    isplitr; swap
    · isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
    · ipureintro
      intro b qi j e hqi hj'
      omega
  isplitl [E0 E1 EH EZ]
  · isplitl [E0]; · iexact E0
    isplitl [E1]; · iexact E1
    isplitl [EH] <;> iassumption
  isplitl [G0]; · iexact G0
  isplitl [G1]; · iexact G1
  isplitl [GH] <;> iassumption

/-! ## The whole body -/

theorem body_first (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj : (i 2).val = 0) :
    iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
        ∗ Scr m c arg18 arg19 arg20 arg21 arg22 arg23 arg24 arg25 arg26 arg27 n ∗ tiles m c n ∗ (∃ W, owes (c : Thread nD τ) 0 W)
        ∗ (iprop(owns (c : Thread nD τ) arg3 fullShare (iblk m c 0 (pt (i 0).val (i 1).val (i 2).val)) ∗ owns (c : Thread nD τ) arg4 fullShare (iblk m c 1 (pt (i 0).val (i 1).val (i 2).val)) ∗ owns (c : Thread nD τ) arg5 fullShare (iblk m c 2 (pt (i 0).val (i 1).val (i 2).val)) ∗ owns (c : Thread nD τ) arg6 fullShare (iblk m c 3 (pt (i 0).val (i 1).val (i 2).val)) ∗ owns (c : Thread nD τ) arg7 fullShare (iblk m c 4 (pt (i 0).val (i 1).val (i 2).val)) ∗ owns (c : Thread nD τ) arg8 fullShare (iblk m c 5 (pt (i 0).val (i 1).val (i 2).val)) ∗ owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val))
            ∗ Scr m c arg18 arg19 arg20 arg21 arg22 arg23 arg24 arg25 arg26 arg27 (n + 1) ∗ tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K)))))) Q := by
  rw [phaseC_skip (h := by rw [cond5_iff]; omega), phaseD_skip (h := by rw [cond6_iff]; omega), phaseE_skip (h := by rw [cond7_iff]; omega), phaseF_skip (h := by rw [cond8_iff]; omega)]
  have et := tiles_one m c n 0
  have et' := tiles_one m c (n + 1) 0
  rw [rest_same m c {0} n _ _ _ hn (by omega) (by omega) (fun k hk => by rw [Finset.mem_singleton]; apply Fin.ext; show k.val = 0; omega)] at et'
  unfold tileC tileK at et'
  rw [tile_half _ _ _ _ n (0 : Fin 25).val _ _ _ hn (by omega) hq hj.symm (by omega), tile_half _ _ _ _ n (0 : Fin 25).val _ _ _ hn (by omega) hq hj.symm (by omega)] at et'
  iintro ⟨H3, H4, H5, H6, H7, H8, H9, H10, H11, H12, HS, HT, HW, HQ⟩
  ihave HT := et.1 $$ HT
  icases HT with ⟨HT, HR⟩
  iapply (phaseA_any m c i (n := n) (hn := hn) (hn' := by omega) (hq := hq) (hj := by omega) (k := 0) (hk := hj.symm))
  isplitl [HT]; · iexact HT
  isplitl [HW]; · iexact HW
  iintro ⟨HC, HD, HW⟩
  iapply (phaseB_any m c i (n := n) (hn := hn) (hb := hb) (hq := hq) (h4 := by rw [cond4_iff]; omega) (hj := hj))
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [HC]; · iexact HC
  isplitl [HD]; · iexact HD
  iintro ⟨H3, H4, H5, H6, H7, H8, H9, H10, H11, H12, HS, HC, HD⟩
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [HC HD HR]
  · iapply et'.2
    isplitl [HC HD]; · isplitl [HC] <;> iassumption
    iexact HR
  iexact HW

theorem body_mid (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj0 : 0 < (i 2).val) (hj : (i 2).val < 25) :
    iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
        ∗ Scr m c arg18 arg19 arg20 arg21 arg22 arg23 arg24 arg25 arg26 arg27 n ∗ tiles m c n ∗ (∃ W, owes (c : Thread nD τ) 0 W)
        ∗ (iprop(owns (c : Thread nD τ) arg9 fullShare (iblk m c 6 (pt (i 0).val (i 1).val (i 2).val)) ∗ owns (c : Thread nD τ) arg10 fullShare (iblk m c 7 (pt (i 0).val (i 1).val (i 2).val)) ∗ owns (c : Thread nD τ) arg11 fullShare (iblk m c 8 (pt (i 0).val (i 1).val (i 2).val)) ∗ owns (c : Thread nD τ) arg12 fullShare (iblk m c 9 (pt (i 0).val (i 1).val (i 2).val)) ∗ owns (c : Thread nD τ) arg13 fullShare (iblk m c 10 (pt (i 0).val (i 1).val (i 2).val))
            ∗ Scr m c arg18 arg19 arg20 arg21 arg22 arg23 arg24 arg25 arg26 arg27 (n + 1) ∗ tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K)))))) Q := by
  rw [phaseB_skip (h := by rw [cond4_iff]; omega), phaseD_skip (h := by rw [cond6_iff]; omega), phaseF_skip (h := by rw [cond8_iff]; omega)]
  obtain ⟨k, hk⟩ : ∃ k : Fin 25, k.val = (i 2).val := ⟨⟨(i 2).val, hj⟩, rfl⟩
  obtain ⟨k', hk'⟩ : ∃ k' : Fin 25, k'.val + 1 = (i 2).val := ⟨⟨(i 2).val - 1, by omega⟩, by show (i 2).val - 1 + 1 = _; omega⟩
  have hne : k' ≠ k := fun e => by rw [e] at hk'; omega
  have et := tiles_two m c n k k' hne
  have et' := tiles_two m c (n + 1) k k' hne
  rw [rest_same m c {k, k'} n _ _ _ hn (by omega) (by omega) (fun x hx => by
    rw [Finset.mem_insert, Finset.mem_singleton]
    exact hx.imp (fun e => Fin.ext (by omega)) (fun e => Fin.ext (by omega)))] at et'
  have ek : (iprop(tileC m c n k' ∗ tileK m c n k') : sProp 𝕄) = iprop(HeldC m c (i 0).val k' ((i 1).val + 1) (i 1).val ∗ HeldK m c (i 0).val k' ((i 1).val + 1) (i 1).val) := by
    unfold tileC tileK
    rw [tile_half' _ _ _ _ n k'.val _ _ _ hn (by omega) hq hk' (by omega), tile_half' _ _ _ _ n k'.val _ _ _ hn (by omega) hq hk' (by omega)]
  have ek' : (iprop(tileC m c (n + 1) k ∗ tileK m c (n + 1) k) : sProp 𝕄) = iprop(HeldC m c (i 0).val k ((i 1).val + 1) (i 1).val ∗ HeldK m c (i 0).val k ((i 1).val + 1) (i 1).val) := by
    unfold tileC tileK
    rw [tile_half _ _ _ _ n k.val _ _ _ hn (by omega) hq hk hj, tile_half _ _ _ _ n k.val _ _ _ hn (by omega) hq hk hj]
  rw [ek] at et
  rw [ek'] at et'
  iintro ⟨H9, H10, H11, H12, H13, HS, HT, HW, HQ⟩
  ihave HT := et.1 $$ HT
  icases HT with ⟨HT, ⟨HE, HG⟩, HR⟩
  iapply (phaseA_any m c i (n := n) (hn := hn) (hn' := by omega) (hq := hq) (hj := hj) (k := k) (hk := hk))
  isplitl [HT]; · iexact HT
  isplitl [HW]; · iexact HW
  iintro ⟨HC, HD, HW⟩
  iapply (phaseC_any m c i (n := n) (hn := hn) (hb := hb) (hq := hq) (h5 := by rw [cond5_iff]; omega) (k := k) (k' := k') (hk := hk) (hk' := hk'))
  isplitl [H9]; · iexact H9
  isplitl [H10]; · iexact H10
  isplitl [H11]; · iexact H11
  isplitl [H12]; · iexact H12
  isplitl [H13]; · iexact H13
  isplitl [HS]; · iexact HS
  isplitl [HC]; · iexact HC
  isplitl [HD]; · iexact HD
  isplitl [HE]; · iexact HE
  isplitl [HG]; · iexact HG
  iintro ⟨H9, H10, H11, H12, H13, HS, HC, HD, HE, HG⟩
  iapply (phaseE_any m c i (n := n) (hn := hn) (hn' := by omega) (hq := hq) (hj := hj) (k := k') (hk := hk'))
  isplitl [HE]; · iexact HE
  isplitl [HG]; · iexact HG
  iintro HE
  iapply HQ
  isplitl [H9]; · iexact H9
  isplitl [H10]; · iexact H10
  isplitl [H11]; · iexact H11
  isplitl [H12]; · iexact H12
  isplitl [H13]; · iexact H13
  isplitl [HS]; · iexact HS
  isplitl [HC HD HR HE]
  · iapply et'.2
    isplitl [HC HD]; · isplitl [HC] <;> iassumption
    isplitl [HE] <;> iassumption
  iexact HW

theorem body_last (i : grid0.Coords) (arg3 : Memref sig .tc .vmem S1x1024x512 .bf16) (harg3 : arg3.IsWhole) (arg4 : Memref sig .tc .vmem S1x1024x64 .bf16) (harg4 : arg4.IsWhole) (arg5 : Memref sig .tc .vmem S1x1024x512 .bf16) (harg5 : arg5.IsWhole) (arg6 : Memref sig .tc .vmem S1x1024x512 .fp8e5m2) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S1x512x512 .bf16) (harg9 : arg9.IsWhole) (arg10 : Memref sig .tc .vmem S1x512x128 .bf16) (harg10 : arg10.IsWhole) (arg11 : Memref sig .tc .vmem S1x1x512x128 .bf16) (harg11 : arg11.IsWhole) (arg12 : Memref sig .tc .vmem S1x576x256 .bf16) (harg12 : arg12.IsWhole) (arg13 : Memref sig .tc .vmem S1x576x256 .bf16) (harg13 : arg13.IsWhole) (arg14 : Memref sig .tc .vmem S1x1024x512 .bf16) (harg14 : arg14.IsWhole) (arg15 : Memref sig .tc .vmem S1x1024x64 .bf16) (harg15 : arg15.IsWhole) (harg16 : M16.IsWhole) (harg17 : M17.IsWhole) (arg18 : Memref sig .tc .vmem S768x1024 .bf16) (harg18 : arg18.IsWhole) (arg19 : Memref sig .tc .vmem S512x1024 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S8x1024 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S576x1024 .f32) (harg27 : arg27.IsWhole) (harg28 : M28.IsWhole) (harg29 : M29.IsWhole)   (K : Prog (TpuEff nD τ sig (Elt F) Λ₀ .tc) PUnit) {Q : PUnit → sProp 𝕄} (n : ℕ) (hn : n = 312 * (i 0).val + 26 * (i 1).val + (i 2).val) (hb : (i 0).val < 8) (hq : (i 1).val < 12) (hj : (i 2).val = 25) :
    iprop(owns (c : Thread nD τ) arg13 fullShare (iblk m c 10 (pt (i 0).val (i 1).val (i 2).val)) ∗ (∃ d, owns (c : Thread nD τ) arg14 fullShare d) ∗ (∃ d, owns (c : Thread nD τ) arg15 fullShare d)
        ∗ Scr m c arg18 arg19 arg20 arg21 arg22 arg23 arg24 arg25 arg26 arg27 n ∗ tiles m c n ∗ (∃ W, owes (c : Thread nD τ) 0 W)
        ∗ (iprop(owns (c : Thread nD τ) arg13 fullShare (iblk m c 10 (pt (i 0).val (i 1).val (i 2).val)) ∗ owns (c : Thread nD τ) arg14 fullShare (dqOut (DQF m c (i 0).val (i 1).val)) ∗ owns (c : Thread nD τ) arg15 fullShare (dqrOut (DQF m c (i 0).val (i 1).val))
            ∗ Scr m c arg18 arg19 arg20 arg21 arg22 arg23 arg24 arg25 arg26 arg27 (n + 1) ∗ tiles m c (n + 1) ∗ (∃ W, owes (c : Thread nD τ) 0 W)) -∗ wp frame (wpE (defs₀ (F := F)) Variants.none (c : Thread nD τ) none) Set.univ K Q))
      ⊢ wp frame (wpE (defs₀ (F := F)) Variants.none (c : Thread nD τ) none) Set.univ (phaseA i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseB i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseC i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseD i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseE i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 (phaseF i arg3 harg3 arg4 harg4 arg5 harg5 arg6 harg6 arg7 harg7 arg8 harg8 arg9 harg9 arg10 harg10 arg11 harg11 arg12 harg12 arg13 harg13 arg14 harg14 arg15 harg15 M16 harg16 M17 harg17 arg18 harg18 arg19 harg19 arg20 harg20 arg21 harg21 arg22 harg22 arg23 harg23 arg24 harg24 arg25 harg25 arg26 harg26 arg27 harg27 M28 harg28 M29 harg29 cc0_scratch12 cc0_scratch13 K)))))) Q := by
  rw [phaseA_skip (h := by rw [cond1_iff]; omega), phaseB_skip (h := by rw [cond4_iff]; omega), phaseC_skip (h := by rw [cond5_iff]; omega), phaseE_skip (h := by rw [cond7_iff]; omega)]
  have et := tiles_one m c n 24
  unfold tileC tileK at et
  rw [tile_half' _ _ _ _ n (24 : Fin 25).val _ _ _ hn (by omega) hq (by rw [hj]; rfl) (by omega), tile_half' _ _ _ _ n (24 : Fin 25).val _ _ _ hn (by omega) hq (by rw [hj]; rfl) (by omega)] at et
  iintro ⟨H13, H14, H15, HS, HT, HW, HQ⟩
  ihave HT := et.1 $$ HT
  icases HT with ⟨⟨HE, HG⟩, HR⟩
  iapply (phaseD_any m c i (n := n) (hn := hn) (hb := hb) (hq := hq) (h6 := by rw [cond6_iff]; omega) (hj := hj))
  isplitl [H13]; · iexact H13
  isplitl [H14]; · iexact H14
  isplitl [H15]; · iexact H15
  isplitl [HS]; · iexact HS
  isplitl [HE]; · iexact HE
  isplitl [HG]; · iexact HG
  iintro ⟨H13, H14, H15, HS, HE, HG⟩
  iapply (phaseF_any m c i (n := n) (hn := hn) (hb := hb) (hq := hq) (hj := hj))
  isplitl [HE]; · iexact HE
  isplitl [HG]; · iexact HG
  isplitl [HR]; · iexact HR
  isplitl [HW]; · iexact HW
  iintro ⟨HT, HW⟩
  iapply HQ
  isplitl [H13]; · iexact H13
  isplitl [H14]; · iexact H14
  isplitl [H15]; · iexact H15
  isplitl [HS]; · iexact HS
  isplitl [HT] <;> iassumption

end Cert.KernelIdeal.Gen

end
-- ==== Proof.Ideal.Data.lean ====
/-
  The call as the pipeline runs it: what each window's buffer holds, the invariant between grid points, and the run.
-/
module

public import proofs.«01_k».proof.Proof.Ideal.Body
public import Idealize.ShloMosaic.Lib.Pipeline.FrameValue

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (c : Dev nD) (ρ : Dev nD → PrngReg)

/-! ## The buffers in bands -/

theorem bands28 : ((Finset.univ : Finset (Fin 25)).biUnion fun k => M28.view.setOn (rowsC (512 * k.val) 512)) = Finset.univ := by
  refine Finset.eq_univ_of_forall fun x => Finset.mem_biUnion.mpr ?_
  have h : ((x : S12800x512.Idx) 0).val < 12800 := ((x : S12800x512.Idx) 0).isLt
  refine ⟨⟨((x : S12800x512.Idx) 0).val / 512, by omega⟩, Finset.mem_univ _, ?_⟩
  rw [show M28.view.setOn (rowsC (512 * (((x : S12800x512.Idx) 0).val / 512)) 512) = rowsC (512 * (((x : S12800x512.Idx) 0).val / 512)) 512 from Finset.map_refl]
  exact mem_rowsC.mpr ⟨by omega, by omega⟩
theorem bands29 : ((Finset.univ : Finset (Fin 25)).biUnion fun k => M29.view.setOn (colsK (512 * k.val) 512)) = Finset.univ := by
  refine Finset.eq_univ_of_forall fun x => Finset.mem_biUnion.mpr ?_
  have h : ((x : S64x12800.Idx) 1).val < 12800 := ((x : S64x12800.Idx) 1).isLt
  refine ⟨⟨((x : S64x12800.Idx) 1).val / 512, by omega⟩, Finset.mem_univ _, ?_⟩
  rw [show M29.view.setOn (colsK (512 * (((x : S64x12800.Idx) 1).val / 512)) 512) = colsK (512 * (((x : S64x12800.Idx) 1).val / 512)) 512 from Finset.map_refl]
  exact mem_colsK.mpr ⟨by omega, by omega⟩
theorem bands16 : ((Finset.univ : Finset (Fin 25)).biUnion fun k => M16.view.setOn (homeSC (512 * k.val) (len k))) = Finset.univ := by
  refine Finset.eq_univ_of_forall fun x => Finset.mem_biUnion.mpr ?_
  have h : ((x : S8x12672x512.Idx) 1).val < 12672 := ((x : S8x12672x512.Idx) 1).isLt
  refine ⟨⟨((x : S8x12672x512.Idx) 1).val / 512, by omega⟩, Finset.mem_univ _, ?_⟩
  rw [setOnM16]
  refine mem_homeSC.mpr ⟨?_, ?_⟩
  · show 512 * (((x : S8x12672x512.Idx) 1).val / 512) ≤ _; omega
  · show _ < 512 * (((x : S8x12672x512.Idx) 1).val / 512) + len _
    unfold len; split
    · rename_i h24
      have h24' : ((x : S8x12672x512.Idx) 1).val / 512 = 24 := h24
      omega
    · omega
theorem bands17 : ((Finset.univ : Finset (Fin 25)).biUnion fun k => M17.view.setOn (homeSK (512 * k.val) (len k))) = Finset.univ := by
  refine Finset.eq_univ_of_forall fun x => Finset.mem_biUnion.mpr ?_
  have h : ((x : S8x64x12672.Idx) 2).val < 12672 := ((x : S8x64x12672.Idx) 2).isLt
  refine ⟨⟨((x : S8x64x12672.Idx) 2).val / 512, by omega⟩, Finset.mem_univ _, ?_⟩
  rw [setOnM17]
  refine mem_homeSK.mpr ⟨?_, ?_⟩
  · show 512 * (((x : S8x64x12672.Idx) 2).val / 512) ≤ _; omega
  · show _ < 512 * (((x : S8x64x12672.Idx) 2).val / 512) + len _
    unfold len; split
    · rename_i h24
      have h24' : ((x : S8x64x12672.Idx) 2).val / 512 = 24 := h24
      omega
    · omega

theorem disj28 (k k' : Fin 25) (h : k ≠ k') : Disjoint (M28.view.setOn (rowsC (512 * k.val) 512)) (M28.view.setOn (rowsC (512 * k'.val) 512)) := by
  have h' : k.val ≠ k'.val := fun e => h (Fin.ext e)
  refine Finset.disjoint_left.mpr fun x h1 h2 => ?_
  rw [show M28.view.setOn (rowsC (512 * k.val) 512) = rowsC (512 * k.val) 512 from Finset.map_refl] at h1
  rw [show M28.view.setOn (rowsC (512 * k'.val) 512) = rowsC (512 * k'.val) 512 from Finset.map_refl] at h2
  have a := mem_rowsC.mp h1
  have b := mem_rowsC.mp h2
  omega
theorem disj29 (k k' : Fin 25) (h : k ≠ k') : Disjoint (M29.view.setOn (colsK (512 * k.val) 512)) (M29.view.setOn (colsK (512 * k'.val) 512)) := by
  have h' : k.val ≠ k'.val := fun e => h (Fin.ext e)
  refine Finset.disjoint_left.mpr fun x h1 h2 => ?_
  rw [show M29.view.setOn (colsK (512 * k.val) 512) = colsK (512 * k.val) 512 from Finset.map_refl] at h1
  rw [show M29.view.setOn (colsK (512 * k'.val) 512) = colsK (512 * k'.val) 512 from Finset.map_refl] at h2
  have a := mem_colsK.mp h1
  have b := mem_colsK.mp h2
  omega
theorem disj16 (k k' : Fin 25) (h : k ≠ k') : Disjoint (M16.view.setOn (homeSC (512 * k.val) (len k))) (M16.view.setOn (homeSC (512 * k'.val) (len k'))) := by
  have h' : k.val ≠ k'.val := fun e => h (Fin.ext e)
  refine Finset.disjoint_left.mpr fun x h1 h2 => ?_
  rw [setOnM16] at h1 h2
  have a := mem_homeSC.mp h1
  have b := mem_homeSC.mp h2
  have := len_le k; have := len_le k'
  omega
theorem disj17 (k k' : Fin 25) (h : k ≠ k') : Disjoint (M17.view.setOn (homeSK (512 * k.val) (len k))) (M17.view.setOn (homeSK (512 * k'.val) (len k'))) := by
  have h' : k.val ≠ k'.val := fun e => h (Fin.ext e)
  refine Finset.disjoint_left.mpr fun x h1 h2 => ?_
  rw [setOnM17] at h1 h2
  have a := mem_homeSK.mp h1
  have b := mem_homeSK.mp h2
  have := len_le k; have := len_le k'
  omega

theorem ex_intro {A : Type _} (Φ : A → sProp 𝕄) (a : A) : Φ a ⊢ iprop(∃ a, Φ a) := by
  iintro H; iexists a; iexact H
theorem sep_split (Φ Ψ : Fin 25 → sProp 𝕄) : (BI.bigSep Finset.univ fun k : Fin 25 => iprop(Φ k ∗ Ψ k)) = iprop((BI.bigSep Finset.univ Φ) ∗ (BI.bigSep Finset.univ Ψ)) :=
  BI.bigSep_sep _ _ _

theorem split28 (f) : ((c : Thread nD τ).loc cc0_scratch10 ↦{fullShare} f : sProp 𝕄) ⊢ BI.bigSep Finset.univ fun k : Fin 25 => iprop(∃ f, pC c (512 * k.val) 512 f) := by
  refine (ent_of_eq (Ring.pointsTo_blocks (fun k : Fin 25 => M28.view.setOn (rowsC (512 * k.val) 512)) disj28 bands28 f)).trans (BI.bigSep_mono fun k _ => ?_)
  exact ex_intro (fun f => pC c (512 * k.val) 512 f) f
theorem split29 (f) : ((c : Thread nD τ).loc cc0_scratch11 ↦{fullShare} f : sProp 𝕄) ⊢ BI.bigSep Finset.univ fun k : Fin 25 => iprop(∃ f, pK c (512 * k.val) 512 f) := by
  refine (ent_of_eq (Ring.pointsTo_blocks (fun k : Fin 25 => M29.view.setOn (colsK (512 * k.val) 512)) disj29 bands29 f)).trans (BI.bigSep_mono fun k _ => ?_)
  exact ex_intro (fun f => pK c (512 * k.val) 512 f) f
theorem join28 (f₀ : Buf (Elt F) ((c : Thread nD τ).loc cc0_scratch10)) : (BI.bigSep Finset.univ fun k : Fin 25 => iprop(∃ f, pC c (512 * k.val) 512 f)) ⊢ (iprop(∃ f, (c : Thread nD τ).loc cc0_scratch10 ↦{fullShare} f) : sProp 𝕄) := by
  have h := Ring.pointsTo_blocks_join_exists (Ix := Unit) (Name := ℕ) (U := Pipeline.UD sig nD τ) (Lvl := ℕ) (q := fullShare) (fun k : Fin 25 => M28.view.setOn (rowsC (512 * k.val) 512)) disj28 bands28 f₀
  unfold pC
  exact h
theorem join29 (f₀ : Buf (Elt F) ((c : Thread nD τ).loc cc0_scratch11)) : (BI.bigSep Finset.univ fun k : Fin 25 => iprop(∃ f, pK c (512 * k.val) 512 f)) ⊢ (iprop(∃ f, (c : Thread nD τ).loc cc0_scratch11 ↦{fullShare} f) : sProp 𝕄) := by
  have h := Ring.pointsTo_blocks_join_exists (Ix := Unit) (Name := ℕ) (U := Pipeline.UD sig nD τ) (Lvl := ℕ) (q := fullShare) (fun k : Fin 25 => M29.view.setOn (colsK (512 * k.val) 512)) disj29 bands29 f₀
  unfold pK
  exact h
theorem blocks16 (f : Buf (Elt F) ((c : Thread nD τ).loc main_v0_2)) : ((c : Thread nD τ).loc main_v0_2 ↦{fullShare} f : sProp 𝕄)
    = BI.bigSep Finset.univ fun k : Fin 25 => iprop(M16.view.loc (c : Thread nD τ) ↦[M16.view.setOn (homeSC (512 * k.val) (len k))]{fullShare} f) := by
  have h := Ring.pointsTo_blocks (Ix := Unit) (Name := ℕ) (U := Pipeline.UD sig nD τ) (Lvl := ℕ) (q := fullShare) (fun k : Fin 25 => M16.view.setOn (homeSC (512 * k.val) (len k))) disj16 bands16 f
  exact h
theorem blocks17 (f : Buf (Elt F) ((c : Thread nD τ).loc main_v0_3)) : ((c : Thread nD τ).loc main_v0_3 ↦{fullShare} f : sProp 𝕄)
    = BI.bigSep Finset.univ fun k : Fin 25 => iprop(M17.view.loc (c : Thread nD τ) ↦[M17.view.setOn (homeSK (512 * k.val) (len k))]{fullShare} f) := by
  have h := Ring.pointsTo_blocks (Ix := Unit) (Name := ℕ) (U := Pipeline.UD sig nD τ) (Lvl := ℕ) (q := fullShare) (fun k : Fin 25 => M17.view.setOn (homeSK (512 * k.val) (len k))) disj17 bands17 f
  exact h
theorem homes16 (B : ℕ) : ((c : Thread nD τ).loc main_v0_2 ↦{fullShare} homeFC m c B : sProp 𝕄) = BI.bigSep Finset.univ fun k : Fin 25 => hC m c B k :=
  blocks16 c (homeFC m c B)
theorem homes17 (B : ℕ) : ((c : Thread nD τ).loc main_v0_3 ↦{fullShare} homeFK m c B : sProp 𝕄) = BI.bigSep Finset.univ fun k : Fin 25 => hK m c B k :=
  blocks17 c (homeFK m c B)

/-! ## The transfers' cells -/

abbrev osem0 : Fin 25 ⊕ Fin 25 → SemLoc sig := fun | .inl k => SemLoc.dma (cellC k) | .inr k => SemLoc.dma (cellK k)
theorem ownSemFacts0 : Pipeline.OwnSemFacts spec0 osem0 where
  isScoped := by rintro (k | k) <;> revert k <;> decide
  inj := by
    rintro (k | k) (k' | k') h
    · have h' := congrArg Fin.val (SemLoc.dma.inj h); simp only [cellC] at h'; congr 1; exact Fin.ext (by omega)
    · have h' := congrArg Fin.val (SemLoc.dma.inj h); simp only [cellC, cellK] at h'; omega
    · have h' := congrArg Fin.val (SemLoc.dma.inj h); simp only [cellC, cellK] at h'; omega
    · have h' := congrArg Fin.val (SemLoc.dma.inj h); simp only [cellK] at h'; congr 1; exact Fin.ext (by omega)
  disj := by rintro (k | k) <;> revert k <;> decide
theorem ownSems00_eq :
    (Pipeline.ownSems0 (Ix := Unit) (Name := ℕ) (U := Pipeline.UD sig nD τ) (Lvl := ℕ) (Val := Elt F) (τ := τ) osem0 c : sProp 𝕄)
      = iprop((BI.bigSep Finset.univ fun k : Fin 25 => zC c k) ∗ (BI.bigSep Finset.univ fun k : Fin 25 => zK c k)) := by
  unfold Pipeline.ownSems0
  rw [← Finset.univ_disjSum_univ, ← Finset.map_inl_disjUnion_map_inr, Finset.disjUnion_eq_union, BI.bigSep_union (Finset.disjoint_map_inl_map_inr _ _), BI.bigSep_map, BI.bigSep_map]
  rfl

theorem idle_all (B : ℕ) : (BI.bigSep Finset.univ fun k : Fin 25 => iprop(IdleC m c B k ∗ IdleK m c B k))
    = (iprop(((BI.bigSep Finset.univ fun k : Fin 25 => iprop(∃ f, pC c (512 * k.val) 512 f)) ∗ (BI.bigSep Finset.univ fun k : Fin 25 => hC m c B k) ∗ (BI.bigSep Finset.univ fun k : Fin 25 => zC c k))
        ∗ ((BI.bigSep Finset.univ fun k : Fin 25 => iprop(∃ f, pK c (512 * k.val) 512 f)) ∗ (BI.bigSep Finset.univ fun k : Fin 25 => hK m c B k) ∗ (BI.bigSep Finset.univ fun k : Fin 25 => zK c k))) : sProp 𝕄) := by
  unfold IdleC IdleK
  rw [sep_split, sep_split, sep_split, sep_split, sep_split]
theorem tiles_zero : tiles m c 0 = BI.bigSep Finset.univ fun k : Fin 25 => iprop(IdleC m c 0 k ∗ IdleK m c 0 k) := by
  unfold tiles tileC tileK
  exact BI.bigSep_congr fun k _ => by rw [tile_zero, tile_zero]
theorem tiles_end : tiles m c 2496 = BI.bigSep Finset.univ fun k : Fin 25 => iprop(IdleC m c 8 k ∗ IdleK m c 8 k) := by
  unfold tiles tileC tileK
  exact BI.bigSep_congr fun k _ => by rw [tile_end _ _ _ _ 2496 k.val rfl k.isLt, tile_end _ _ _ _ 2496 k.val rfl k.isLt]

/-! ## The proof data -/

/-- The results the body's own transfers write. -/
def R0 : Finset (Ref sig .tc) := {main_v0_2, main_v0_3}
theorem R0_sub : R0 ⊆ Pipeline.restRefs sig spec0 \ (∅ : Finset (Ref sig .tc)) := by decide

/-- What they hold after `B` batches. -/
def G (B : ℕ) (c : Dev nD) (b : Ref sig .tc) : Buf (Elt F) ((c : Thread nD τ).loc b) :=
  if h : b = main_v0_2 then h ▸ homeFC m c B else if h : b = main_v0_3 then h ▸ homeFK m c B else V m c b

theorem routed_eq (W : (b : Ref sig .tc) → Buf (Elt F) ((c : Thread nD τ).loc b)) : (Pipeline.routed R0 c W : sProp 𝕄)
    = iprop(((c : Thread nD τ).loc main_v0_2 ↦{fullShare} W main_v0_2) ∗ ((c : Thread nD τ).loc main_v0_3 ↦{fullShare} W main_v0_3)) := by
  unfold Pipeline.routed R0
  rw [BI.bigSep_eq_bigSepL_of_eq [main_v0_2, main_v0_3] (by decide) (by decide)]; rfl

/-- Between points: the scratch, the generator's register, the tiles. -/
def Inv (n : ℕ) : sProp 𝕄 :=
  iprop(Scr m c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) n ∗ (∃ r, prngReg c r) ∗ tiles m c n)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dqOut (DQF m c (grid0.coords t 0).val (grid0.coords t 1).val)
    | ⟨12, _⟩ => dqrOut (DQF m c (grid0.coords t 0).val (grid0.coords t 1).val)
  Φ t := Inv m c t.val
  q := Pipeline.shareOf spec0
  owed _ := 0

theorem A_eq (w : Fin cfg0.W) : (dats m 0 c).A w = V m c (Pipeline.arrRef spec0 w) := by
  dsimp only [dats]

theorem pt_coords (t : Fin cfg0.N) : (pt (grid0.coords t 0).val (grid0.coords t 1).val (grid0.coords t 2).val) = t := by
  have hN : t.val < 2496 := lt_of_lt_of_eq t.isLt N_0
  have h0 : (grid0.coords t 0).val = t.val / 312 % 8 := grid0.coords_val t 0 (by decide) rfl
  have h1 : (grid0.coords t 1).val = t.val / 26 % 12 := grid0.coords_val t 1 (by decide) rfl
  have h2 : (grid0.coords t 2).val = t.val / 1 % 26 := grid0.coords_val t 2 (by decide) rfl
  refine Fin.ext ?_
  show (((grid0.coords t 0).val * 12 + (grid0.coords t 1).val) * 26 + (grid0.coords t 2).val) % 2496 = t.val
  rw [h0, h1, h2]; omega
theorem val_coords (t : Fin cfg0.N) : t.val = 312 * (grid0.coords t 0).val + 26 * (grid0.coords t 1).val + (grid0.coords t 2).val := by
  have hN : t.val < 2496 := lt_of_lt_of_eq t.isLt N_0
  have h0 : (grid0.coords t 0).val = t.val / 312 % 8 := grid0.coords_val t 0 (by decide) rfl
  have h1 : (grid0.coords t 1).val = t.val / 26 % 12 := grid0.coords_val t 1 (by decide) rfl
  have h2 : (grid0.coords t 2).val = t.val / 1 % 26 := grid0.coords_val t 2 (by decide) rfl
  rw [h0, h1, h2]; omega

theorem before_0 (t : Fin cfg0.N) (d) : (dats m 0 c).before 0 t d = (iblk m c 0 (pt (grid0.coords t 0).val (grid0.coords t 1).val (grid0.coords t 2).val) : Vec F S1x1024x512 .bf16) := by
  have h : (dats m 0 c).before 0 t d = (iblk m c 0 t : Vec F S1x1024x512 .bf16) :=
    ((dats m 0 c).before_in_eq_fetched 0 rfl (fun _ => rfl) (fun _ _ _ => rfl) (fun t => by dsimp only [dats]; unfold Dat.blockOf iblk; try rfl) t d).trans
      (by unfold Dat.fetched Dat.blockOf iblk; try rfl)
  rw [pt_coords]; exact h
theorem after_0 (t : Fin cfg0.N) : (dats m 0 c).after 0 t = (iblk m c 0 (pt (grid0.coords t 0).val (grid0.coords t 1).val (grid0.coords t 2).val) : Vec F S1x1024x512 .bf16) := by
  rw [pt_coords]; dsimp only [dats]
theorem before_1 (t : Fin cfg0.N) (d) : (dats m 0 c).before 1 t d = (iblk m c 1 (pt (grid0.coords t 0).val (grid0.coords t 1).val (grid0.coords t 2).val) : Vec F S1x1024x64 .bf16) := by
  have h : (dats m 0 c).before 1 t d = (iblk m c 1 t : Vec F S1x1024x64 .bf16) :=
    ((dats m 0 c).before_in_eq_fetched 1 rfl (fun _ => rfl) (fun _ _ _ => rfl) (fun t => by dsimp only [dats]; unfold Dat.blockOf iblk; try rfl) t d).trans
      (by unfold Dat.fetched Dat.blockOf iblk; try rfl)
  rw [pt_coords]; exact h
theorem after_1 (t : Fin cfg0.N) : (dats m 0 c).after 1 t = (iblk m c 1 (pt (grid0.coords t 0).val (grid0.coords t 1).val (grid0.coords t 2).val) : Vec F S1x1024x64 .bf16) := by
  rw [pt_coords]; dsimp only [dats]
theorem before_2 (t : Fin cfg0.N) (d) : (dats m 0 c).before 2 t d = (iblk m c 2 (pt (grid0.coords t 0).val (grid0.coords t 1).val (grid0.coords t 2).val) : Vec F S1x1024x512 .bf16) := by
  have h : (dats m 0 c).before 2 t d = (iblk m c 2 t : Vec F S1x1024x512 .bf16) :=
    ((dats m 0 c).before_in_eq_fetched 2 rfl (fun _ => rfl) (fun _ _ _ => rfl) (fun t => by dsimp only [dats]; unfold Dat.blockOf iblk; try rfl) t d).trans
      (by unfold Dat.fetched Dat.blockOf iblk; try rfl)
  rw [pt_coords]; exact h
theorem after_2 (t : Fin cfg0.N) : (dats m 0 c).after 2 t = (iblk m c 2 (pt (grid0.coords t 0).val (grid0.coords t 1).val (grid0.coords t 2).val) : Vec F S1x1024x512 .bf16) := by
  rw [pt_coords]; dsimp only [dats]
theorem before_3 (t : Fin cfg0.N) (d) : (dats m 0 c).before 3 t d = (iblk m c 3 (pt (grid0.coords t 0).val (grid0.coords t 1).val (grid0.coords t 2).val) : Vec F S1x1024x512 .fp8e5m2) := by
  have h : (dats m 0 c).before 3 t d = (iblk m c 3 t : Vec F S1x1024x512 .fp8e5m2) :=
    ((dats m 0 c).before_in_eq_fetched 3 rfl (fun _ => rfl) (fun _ _ _ => rfl) (fun t => by dsimp only [dats]; unfold Dat.blockOf iblk; try rfl) t d).trans
      (by unfold Dat.fetched Dat.blockOf iblk; try rfl)
  rw [pt_coords]; exact h
theorem after_3 (t : Fin cfg0.N) : (dats m 0 c).after 3 t = (iblk m c 3 (pt (grid0.coords t 0).val (grid0.coords t 1).val (grid0.coords t 2).val) : Vec F S1x1024x512 .fp8e5m2) := by
  rw [pt_coords]; dsimp only [dats]
theorem before_4 (t : Fin cfg0.N) (d) : (dats m 0 c).before 4 t d = (iblk m c 4 (pt (grid0.coords t 0).val (grid0.coords t 1).val (grid0.coords t 2).val) : Vec F S1x1x1x1024 .f32) := by
  have h : (dats m 0 c).before 4 t d = (iblk m c 4 t : Vec F S1x1x1x1024 .f32) :=
    ((dats m 0 c).before_in_eq_fetched 4 rfl (fun _ => rfl) (fun _ _ _ => rfl) (fun t => by dsimp only [dats]; unfold Dat.blockOf iblk; try rfl) t d).trans
      (by unfold Dat.fetched Dat.blockOf iblk; try rfl)
  rw [pt_coords]; exact h
theorem after_4 (t : Fin cfg0.N) : (dats m 0 c).after 4 t = (iblk m c 4 (pt (grid0.coords t 0).val (grid0.coords t 1).val (grid0.coords t 2).val) : Vec F S1x1x1x1024 .f32) := by
  rw [pt_coords]; dsimp only [dats]
theorem before_5 (t : Fin cfg0.N) (d) : (dats m 0 c).before 5 t d = (iblk m c 5 (pt (grid0.coords t 0).val (grid0.coords t 1).val (grid0.coords t 2).val) : Vec F S1x1x1x1024 .f32) := by
  have h : (dats m 0 c).before 5 t d = (iblk m c 5 t : Vec F S1x1x1x1024 .f32) :=
    ((dats m 0 c).before_in_eq_fetched 5 rfl (fun _ => rfl) (fun _ _ _ => rfl) (fun t => by dsimp only [dats]; unfold Dat.blockOf iblk; try rfl) t d).trans
      (by unfold Dat.fetched Dat.blockOf iblk; try rfl)
  rw [pt_coords]; exact h
theorem after_5 (t : Fin cfg0.N) : (dats m 0 c).after 5 t = (iblk m c 5 (pt (grid0.coords t 0).val (grid0.coords t 1).val (grid0.coords t 2).val) : Vec F S1x1x1x1024 .f32) := by
  rw [pt_coords]; dsimp only [dats]
theorem before_6 (t : Fin cfg0.N) (d) : (dats m 0 c).before 6 t d = (iblk m c 6 (pt (grid0.coords t 0).val (grid0.coords t 1).val (grid0.coords t 2).val) : Vec F S1x512x512 .bf16) := by
  have h : (dats m 0 c).before 6 t d = (iblk m c 6 t : Vec F S1x512x512 .bf16) :=
    ((dats m 0 c).before_in_eq_fetched 6 rfl (fun _ => rfl) (fun _ _ _ => rfl) (fun t => by dsimp only [dats]; unfold Dat.blockOf iblk; try rfl) t d).trans
      (by unfold Dat.fetched Dat.blockOf iblk; try rfl)
  rw [pt_coords]; exact h
theorem after_6 (t : Fin cfg0.N) : (dats m 0 c).after 6 t = (iblk m c 6 (pt (grid0.coords t 0).val (grid0.coords t 1).val (grid0.coords t 2).val) : Vec F S1x512x512 .bf16) := by
  rw [pt_coords]; dsimp only [dats]
theorem before_7 (t : Fin cfg0.N) (d) : (dats m 0 c).before 7 t d = (iblk m c 7 (pt (grid0.coords t 0).val (grid0.coords t 1).val (grid0.coords t 2).val) : Vec F S1x512x128 .bf16) := by
  have h : (dats m 0 c).before 7 t d = (iblk m c 7 t : Vec F S1x512x128 .bf16) :=
    ((dats m 0 c).before_in_eq_fetched 7 rfl (fun _ => rfl) (fun _ _ _ => rfl) (fun t => by dsimp only [dats]; unfold Dat.blockOf iblk; try rfl) t d).trans
      (by unfold Dat.fetched Dat.blockOf iblk; try rfl)
  rw [pt_coords]; exact h
theorem after_7 (t : Fin cfg0.N) : (dats m 0 c).after 7 t = (iblk m c 7 (pt (grid0.coords t 0).val (grid0.coords t 1).val (grid0.coords t 2).val) : Vec F S1x512x128 .bf16) := by
  rw [pt_coords]; dsimp only [dats]
theorem before_8 (t : Fin cfg0.N) (d) : (dats m 0 c).before 8 t d = (iblk m c 8 (pt (grid0.coords t 0).val (grid0.coords t 1).val (grid0.coords t 2).val) : Vec F S1x1x512x128 .bf16) := by
  have h : (dats m 0 c).before 8 t d = (iblk m c 8 t : Vec F S1x1x512x128 .bf16) :=
    ((dats m 0 c).before_in_eq_fetched 8 rfl (fun _ => rfl) (fun _ _ _ => rfl) (fun t => by dsimp only [dats]; unfold Dat.blockOf iblk; try rfl) t d).trans
      (by unfold Dat.fetched Dat.blockOf iblk; try rfl)
  rw [pt_coords]; exact h
theorem after_8 (t : Fin cfg0.N) : (dats m 0 c).after 8 t = (iblk m c 8 (pt (grid0.coords t 0).val (grid0.coords t 1).val (grid0.coords t 2).val) : Vec F S1x1x512x128 .bf16) := by
  rw [pt_coords]; dsimp only [dats]
theorem before_9 (t : Fin cfg0.N) (d) : (dats m 0 c).before 9 t d = (iblk m c 9 (pt (grid0.coords t 0).val (grid0.coords t 1).val (grid0.coords t 2).val) : Vec F S1x576x256 .bf16) := by
  have h : (dats m 0 c).before 9 t d = (iblk m c 9 t : Vec F S1x576x256 .bf16) :=
    ((dats m 0 c).before_in_eq_fetched 9 rfl (fun _ => rfl) (fun _ _ _ => rfl) (fun t => by dsimp only [dats]; unfold Dat.blockOf iblk; try rfl) t d).trans
      (by unfold Dat.fetched Dat.blockOf iblk; try rfl)
  rw [pt_coords]; exact h
theorem after_9 (t : Fin cfg0.N) : (dats m 0 c).after 9 t = (iblk m c 9 (pt (grid0.coords t 0).val (grid0.coords t 1).val (grid0.coords t 2).val) : Vec F S1x576x256 .bf16) := by
  rw [pt_coords]; dsimp only [dats]
theorem before_10 (t : Fin cfg0.N) (d) : (dats m 0 c).before 10 t d = (iblk m c 10 (pt (grid0.coords t 0).val (grid0.coords t 1).val (grid0.coords t 2).val) : Vec F S1x576x256 .bf16) := by
  have h : (dats m 0 c).before 10 t d = (iblk m c 10 t : Vec F S1x576x256 .bf16) :=
    ((dats m 0 c).before_in_eq_fetched 10 rfl (fun _ => rfl) (fun _ _ _ => rfl) (fun t => by dsimp only [dats]; unfold Dat.blockOf iblk; try rfl) t d).trans
      (by unfold Dat.fetched Dat.blockOf iblk; try rfl)
  rw [pt_coords]; exact h
theorem after_10 (t : Fin cfg0.N) : (dats m 0 c).after 10 t = (iblk m c 10 (pt (grid0.coords t 0).val (grid0.coords t 1).val (grid0.coords t 2).val) : Vec F S1x576x256 .bf16) := by
  rw [pt_coords]; dsimp only [dats]

theorem after_11 (t : Fin cfg0.N) : (dats m 0 c).after 11 t = dqOut (DQF m c (grid0.coords t 0).val (grid0.coords t 1).val) := by dsimp only [dats]
theorem after_12 (t : Fin cfg0.N) : (dats m 0 c).after 12 t = dqrOut (DQF m c (grid0.coords t 0).val (grid0.coords t 1).val) := by dsimp only [dats]

theorem live_11 (t : Fin cfg0.N) (h : (grid0.coords t 2).val = 25) : (dats m 0 c).leavesExact 11 t = owns (c : Thread nD τ) (st0_11 t) fullShare ((dats m 0 c).after 11 t) := by
  unfold Dat.leavesExact
  rw [show cfg0.idle 11 (cfg0.grid.coords t) = false from by
    show (!(k0_cond6 (grid0.coords t) == 1#1)) = false
    rw [(cond6_iff _).mpr h]; rfl]
theorem live_12 (t : Fin cfg0.N) (h : (grid0.coords t 2).val = 25) : (dats m 0 c).leavesExact 12 t = owns (c : Thread nD τ) (st0_12 t) fullShare ((dats m 0 c).after 12 t) := by
  unfold Dat.leavesExact
  rw [show cfg0.idle 12 (cfg0.grid.coords t) = false from by
    show (!(k0_cond6 (grid0.coords t) == 1#1)) = false
    rw [(cond6_iff _).mpr h]; rfl]
theorem idle_at (t : Fin cfg0.N) (h : (grid0.coords t 2).val ≠ 25) : (!(k0_cond6 (grid0.coords t) == 1#1)) = true := by
  have h' : ¬ k0_cond6 (grid0.coords t) = 1#1 := fun e => h ((cond6_iff _).mp e)
  rw [beq_eq_false_iff_ne.mpr h']; rfl
theorem not_last (t : Fin cfg0.N) (h : (grid0.coords t 2).val ≠ 25) : t.val % 26 ≠ 25 := by
  have := val_coords t
  have h2 : (grid0.coords t 2).val < 26 := (grid0.coords t 2).isLt
  omega
theorem idle_11 (t : Fin cfg0.N) (h : (grid0.coords t 2).val ≠ 25) :
    (dats m 0 c).leavesExact 11 t = iprop(∃ d, owns (c : Thread nD τ) (st0_11 t) fullShare ((dats m 0 c).before 11 t d)) :=
  (dats m 0 c).leavesExact_idle 11 t (idle_at t h) (Bool.eq_false_iff.mpr fun e => not_last t h ((flush0_11 t).mp e))
theorem idle_12 (t : Fin cfg0.N) (h : (grid0.coords t 2).val ≠ 25) :
    (dats m 0 c).leavesExact 12 t = iprop(∃ d, owns (c : Thread nD τ) (st0_12 t) fullShare ((dats m 0 c).before 12 t d)) :=
  (dats m 0 c).leavesExact_idle 12 t (idle_at t h) (Bool.eq_false_iff.mpr fun e => not_last t h ((flush0_12 t).mp e))

/-! ## The invariant at the two ends -/

theorem G0 (b) (h : b = main_v0_2 ∨ b = main_v0_3) : G m 0 c b = V m c b := by
  unfold G
  rcases h with rfl | rfl
  · rw [dif_pos rfl]; rfl
  · rw [dif_neg (by decide), dif_pos rfl]; rfl

theorem hin : Pipeline.ΦDRG osem0 spec0 ∅ R0 (V m) (V m) c ⊢ (dats m 0 c).Φ 0 := by
  show _ ⊢ Inv m c 0
  rw [Pipeline.ΦDRG_eq, scopedRest0_eq, ownSems00_eq, routed_eq, ← G0 m c main_v0_2 (.inl rfl), ← G0 m c main_v0_3 (.inr rfl)]
  rw [show G m 0 c main_v0_2 = homeFC m c 0 from by unfold G; rw [dif_pos rfl], show G m 0 c main_v0_3 = homeFK m c 0 from by unfold G; rw [dif_neg (by decide), dif_pos rfl],
    homes16, homes17]
  unfold Inv
  rw [tiles_zero, idle_all]
  unfold Scr
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩, Hg, ⟨ZC, ZK⟩, -, ⟨HC, HK⟩⟩
  isplitl [S0 S1 S2 S3 S4 S5 S6 S7 S8 S9]
  · iexists f0, f1, f2, f3, f4, f7, f8, f9
    isplitr
    · ipureintro; intro b qi j e; omega
    isplitl [S0]; · iexact S0
    isplitl [S1]; · iexact S1
    isplitl [S2]; · iexact S2
    isplitl [S3]; · iexact S3
    isplitl [S4]; · iexact S4
    isplitl [S5]; · iexists f5; iexact S5
    isplitl [S6]; · iexists f6; iexact S6
    isplitl [S7]; · iexact S7
    isplitl [S8]; · iexact S8
    iexact S9
  isplitl [Hg]; · iexact Hg
  isplitl [S10 HC ZC]
  · isplitl [S10]; · iapply (split28 c f10); iexact S10
    isplitl [HC] <;> iassumption
  isplitl [S11]; · iapply (split29 c f11); iexact S11
  isplitl [HK] <;> iassumption

theorem hout : (dats m 0 c).Φ (Fin.last cfg0.N) ⊢ Pipeline.ΦDRG osem0 spec0 ∅ R0 (V m) (G m 8) c := by
  show Inv m c cfg0.N ⊢ _
  rw [show cfg0.N = 2496 from N_0, Pipeline.ΦDRG_eq, scopedRest0_eq, ownSems00_eq, routed_eq]
  rw [show G m 8 c main_v0_2 = homeFC m c 8 from by unfold G; rw [dif_pos rfl], show G m 8 c main_v0_3 = homeFK m c 8 from by unfold G; rw [dif_neg (by decide), dif_pos rfl],
    homes16, homes17]
  unfold Inv
  rw [tiles_end, idle_all]
  unfold Scr
  simp only [owns_whole]
  iintro ⟨⟨%f0, %f1, %f2, %f3, %f4, %f7, %f8, %f9, -, S0, S1, S2, S3, S4, S5, S6, S7, S8, S9⟩, Hg, ⟨PC, HC, ZC⟩, ⟨PK, HK, ZK⟩⟩
  isplitl [S0 S1 S2 S3 S4 S5 S6 S7 S8 S9 PC PK]
  · isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexact S5
    isplitl [S6]; · iexact S6
    isplitl [S7]; · iexists f7; iexact S7
    isplitl [S8]; · iexists f8; iexact S8
    isplitl [S9]; · iexists f9; iexact S9
    isplitl [PC]; · iapply (join28 c (m _)); iexact PC
    iapply (join29 c (m _)); iexact PK
  isplitl [Hg]; · iexact Hg
  isplitl [ZC ZK]; · isplitl [ZC] <;> iassumption
  isplitr
  · rw [BI.bigSep_empty]; iempintro
  isplitl [HC] <;> iassumption

end Cert.KernelIdeal.Gen

end
-- ==== Proof.Ideal.Run.lean ====
/-
  The run of the call: the body's triple at each grid point, the launch, and what the call leaves — its arguments
  unchanged, its semaphores at zero, its results at the contents the model names.
-/
module

public import proofs.«01_k».proof.Proof.Ideal.Data

@[expose] public section

noncomputable section

namespace Cert.KernelIdeal.Gen

open Idealize.ShloMosaic Idealize.ShloMosaic.TcCoe
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Tactic
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (c : Dev nD) (ρ : Dev nD → PrngReg)

theorem body_phases (t : Fin cfg0.N) : bodyAt0 (F := F) t = phaseA (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseB (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseC (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseD (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseE (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (phaseF (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13 (pure ⟨⟩)))))) :=
  body_eq_phases (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) M16 (Memref.isWhole_whole _) M17 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) M28 (Memref.isWhole_whole _) M29 (Memref.isWhole_whole _) cc0_scratch12 cc0_scratch13

theorem sound_first (t : Fin cfg0.N) (hj : (grid0.coords t 2).val = 0) :
    iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))
      ⊢ wp frame (wpE (defs₀ (F := F)) Variants.none c none) Set.univ (bodyAt0 t) (fun _ => iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))) := by
  have hb : (grid0.coords t 0).val < 8 := (grid0.coords t 0).isLt
  have hq : (grid0.coords t 1).val < 12 := (grid0.coords t 1).isLt
  have hv := val_coords t
  rw [body_phases, show (dats m 0 c).Φ t.castSucc = Inv m c t.val from rfl, show (dats m 0 c).Φ t.succ = Inv m c (t.val + 1) from rfl]
  unfold Inv
  iintro ⟨⟨HS, Hg, HT⟩, HW, H0, H1, H2, H3, H4, H5, H6, H7, H8, H9, H10, H11, H12⟩
  iapply (body_first m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.isWhole_whole _) (Memref.isWhole_whole _) (pure ⟨⟩) t.val hv hb hq hj)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  isplitl [HT]; · iexact HT
  isplitl [HW]; · iexact HW
  iintro ⟨H0, H1, H2, H3, H4, H5, H6, H7, H8, H9, HS, HT, HW⟩
  sl_step
  isplitl [HS Hg HT]
  · isplitl [HS]; · iexact HS
    isplitl [Hg]; · iexact Hg
    iexact HT
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_mid (t : Fin cfg0.N) (hj0 : 0 < (grid0.coords t 2).val) (hj : (grid0.coords t 2).val < 25) :
    iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))
      ⊢ wp frame (wpE (defs₀ (F := F)) Variants.none c none) Set.univ (bodyAt0 t) (fun _ => iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))) := by
  have hb : (grid0.coords t 0).val < 8 := (grid0.coords t 0).isLt
  have hq : (grid0.coords t 1).val < 12 := (grid0.coords t 1).isLt
  have hv := val_coords t
  rw [body_phases, show (dats m 0 c).Φ t.castSucc = Inv m c t.val from rfl, show (dats m 0 c).Φ t.succ = Inv m c (t.val + 1) from rfl]
  unfold Inv
  iintro ⟨⟨HS, Hg, HT⟩, HW, H0, H1, H2, H3, H4, H5, H6, H7, H8, H9, H10, H11, H12⟩
  iapply (body_mid m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.isWhole_whole _) (Memref.isWhole_whole _) (pure ⟨⟩) t.val hv hb hq hj0 hj)
  isplitl [H6]; · iexact H6
  isplitl [H7]; · iexact H7
  isplitl [H8]; · iexact H8
  isplitl [H9]; · iexact H9
  isplitl [H10]; · iexact H10
  isplitl [HS]; · iexact HS
  isplitl [HT]; · iexact HT
  isplitl [HW]; · iexact HW
  iintro ⟨H6, H7, H8, H9, H10, HS, HT, HW⟩
  sl_step
  isplitl [HS Hg HT]
  · isplitl [HS]; · iexact HS
    isplitl [Hg]; · iexact Hg
    iexact HT
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_last (t : Fin cfg0.N) (hj : (grid0.coords t 2).val = 25) :
    iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ iprop(∃ d, owns (c : Thread nD τ) (st0_11 t) fullShare ((dats m 0 c).before 11 t d)) ∗ iprop(∃ d, owns (c : Thread nD τ) (st0_12 t) fullShare ((dats m 0 c).before 12 t d)))
      ⊢ wp frame (wpE (defs₀ (F := F)) Variants.none c none) Set.univ (bodyAt0 t) (fun _ => iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ owns (c : Thread nD τ) (st0_11 t) fullShare ((dats m 0 c).after 11 t) ∗ owns (c : Thread nD τ) (st0_12 t) fullShare ((dats m 0 c).after 12 t))) := by
  have hb : (grid0.coords t 0).val < 8 := (grid0.coords t 0).isLt
  have hq : (grid0.coords t 1).val < 12 := (grid0.coords t 1).isLt
  have hv := val_coords t
  rw [body_phases, show (dats m 0 c).Φ t.castSucc = Inv m c t.val from rfl, show (dats m 0 c).Φ t.succ = Inv m c (t.val + 1) from rfl]
  rw [after_11, after_12]
  unfold Inv
  iintro ⟨⟨HS, Hg, HT⟩, HW, H0, H1, H2, H3, H4, H5, H6, H7, H8, H9, H10, ⟨%d11, H11⟩, ⟨%d12, H12⟩⟩
  iapply (body_last m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.isWhole_whole _) (Memref.isWhole_whole _) (pure ⟨⟩) t.val hv hb hq hj)
  isplitl [H10]; · iexact H10
  isplitl [H11]; · iexists _; iexact H11
  isplitl [H12]; · iexists _; iexact H12
  isplitl [HS]; · iexact HS
  isplitl [HT]; · iexact HT
  isplitl [HW]; · iexact HW
  iintro ⟨H10, H11, H12, HS, HT, HW⟩
  sl_step
  isplitl [HS Hg HT]
  · isplitl [HS]; · iexact HS
    isplitl [Hg]; · iexact Hg
    iexact HT
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

def bodyPre (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))
def bodyPost (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (dats m 0 c).leavesExact 11 t ∗ (dats m 0 c).leavesExact 12 t)

theorem owes_in (t : Fin (cfg0.N + 1)) : (dats m 0 c).owesAt () t ⊢ (iprop((∃ W, owes (c : Thread nD τ) 0 W)) : sProp 𝕄) := by
  unfold Dat.owesAt Pipeline.owesWithin
  rw [show (dats m 0 c).owed t = 0 from rfl]
  iintro ⟨%W, -, H⟩; iexists W; iexact H
theorem owes_out (t : Fin (cfg0.N + 1)) : (iprop((∃ W, owes (c : Thread nD τ) 0 W)) : sProp 𝕄) ⊢ (dats m 0 c).owesAt () t := by
  unfold Dat.owesAt Pipeline.owesWithin
  rw [show (dats m 0 c).owed t = 0 from rfl]
  iintro ⟨%W, H⟩; iexists W; isplitr
  · ipureintro; exact fun _ _ => Or.inl trivial
  iexact H

theorem out_idle (t : Fin cfg0.N) (h : (grid0.coords t 2).val ≠ 25) :
    iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ (∃ d, owns (c : Thread nD τ) (st0_11 t) fullShare ((dats m 0 c).before 11 t d)) ∗ (∃ d, owns (c : Thread nD τ) (st0_12 t) fullShare ((dats m 0 c).before 12 t d)))
      ⊢ bodyPost m c t := by
  unfold bodyPost
  iintro ⟨HI, HW, H0, H1, H2, H3, H4, H5, H6, H7, H8, H9, H10, H11, H12⟩
  isplitl [HI]; · iexact HI
  isplitl [HW]; · iapply (owes_out m c t.succ); iexact HW
  isplitl [H0]; · iapply (ent_of_eq (congrArg (owns (c : Thread nD τ) (st0_0 t) fullShare) (after_0 m c t).symm)); iexact H0
  isplitl [H1]; · iapply (ent_of_eq (congrArg (owns (c : Thread nD τ) (st0_1 t) fullShare) (after_1 m c t).symm)); iexact H1
  isplitl [H2]; · iapply (ent_of_eq (congrArg (owns (c : Thread nD τ) (st0_2 t) fullShare) (after_2 m c t).symm)); iexact H2
  isplitl [H3]; · iapply (ent_of_eq (congrArg (owns (c : Thread nD τ) (st0_3 t) fullShare) (after_3 m c t).symm)); iexact H3
  isplitl [H4]; · iapply (ent_of_eq (congrArg (owns (c : Thread nD τ) (st0_4 t) fullShare) (after_4 m c t).symm)); iexact H4
  isplitl [H5]; · iapply (ent_of_eq (congrArg (owns (c : Thread nD τ) (st0_5 t) fullShare) (after_5 m c t).symm)); iexact H5
  isplitl [H6]; · iapply (ent_of_eq (congrArg (owns (c : Thread nD τ) (st0_6 t) fullShare) (after_6 m c t).symm)); iexact H6
  isplitl [H7]; · iapply (ent_of_eq (congrArg (owns (c : Thread nD τ) (st0_7 t) fullShare) (after_7 m c t).symm)); iexact H7
  isplitl [H8]; · iapply (ent_of_eq (congrArg (owns (c : Thread nD τ) (st0_8 t) fullShare) (after_8 m c t).symm)); iexact H8
  isplitl [H9]; · iapply (ent_of_eq (congrArg (owns (c : Thread nD τ) (st0_9 t) fullShare) (after_9 m c t).symm)); iexact H9
  isplitl [H10]; · iapply (ent_of_eq (congrArg (owns (c : Thread nD τ) (st0_10 t) fullShare) (after_10 m c t).symm)); iexact H10
  isplitl [H11]; · iapply (ent_of_eq (idle_11 m c t h).symm); iexact H11
  iapply (ent_of_eq (idle_12 m c t h).symm); iexact H12
theorem out_live (t : Fin cfg0.N) (h : (grid0.coords t 2).val = 25) :
    iprop((dats m 0 c).Φ t.succ ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ owns (c : Thread nD τ) (st0_11 t) fullShare ((dats m 0 c).after 11 t) ∗ owns (c : Thread nD τ) (st0_12 t) fullShare ((dats m 0 c).after 12 t))
      ⊢ bodyPost m c t := by
  unfold bodyPost
  iintro ⟨HI, HW, H0, H1, H2, H3, H4, H5, H6, H7, H8, H9, H10, H11, H12⟩
  isplitl [HI]; · iexact HI
  isplitl [HW]; · iapply (owes_out m c t.succ); iexact HW
  isplitl [H0]; · iapply (ent_of_eq (congrArg (owns (c : Thread nD τ) (st0_0 t) fullShare) (after_0 m c t).symm)); iexact H0
  isplitl [H1]; · iapply (ent_of_eq (congrArg (owns (c : Thread nD τ) (st0_1 t) fullShare) (after_1 m c t).symm)); iexact H1
  isplitl [H2]; · iapply (ent_of_eq (congrArg (owns (c : Thread nD τ) (st0_2 t) fullShare) (after_2 m c t).symm)); iexact H2
  isplitl [H3]; · iapply (ent_of_eq (congrArg (owns (c : Thread nD τ) (st0_3 t) fullShare) (after_3 m c t).symm)); iexact H3
  isplitl [H4]; · iapply (ent_of_eq (congrArg (owns (c : Thread nD τ) (st0_4 t) fullShare) (after_4 m c t).symm)); iexact H4
  isplitl [H5]; · iapply (ent_of_eq (congrArg (owns (c : Thread nD τ) (st0_5 t) fullShare) (after_5 m c t).symm)); iexact H5
  isplitl [H6]; · iapply (ent_of_eq (congrArg (owns (c : Thread nD τ) (st0_6 t) fullShare) (after_6 m c t).symm)); iexact H6
  isplitl [H7]; · iapply (ent_of_eq (congrArg (owns (c : Thread nD τ) (st0_7 t) fullShare) (after_7 m c t).symm)); iexact H7
  isplitl [H8]; · iapply (ent_of_eq (congrArg (owns (c : Thread nD τ) (st0_8 t) fullShare) (after_8 m c t).symm)); iexact H8
  isplitl [H9]; · iapply (ent_of_eq (congrArg (owns (c : Thread nD τ) (st0_9 t) fullShare) (after_9 m c t).symm)); iexact H9
  isplitl [H10]; · iapply (ent_of_eq (congrArg (owns (c : Thread nD τ) (st0_10 t) fullShare) (after_10 m c t).symm)); iexact H10
  isplitl [H11]; · iapply (ent_of_eq (live_11 m c t h).symm); iexact H11
  iapply (ent_of_eq (live_12 m c t h).symm); iexact H12
theorem into (t : Fin cfg0.N) : bodyPre m c t
      ⊢ iprop((dats m 0 c).Φ t.castSucc ∗ (∃ W, owes (c : Thread nD τ) 0 W) ∗ owns (c : Thread nD τ) (st0_0 t) fullShare (iblk m c 0 (pt (grid0.coords t 0).val (grid0.coords t 1).val (grid0.coords t 2).val)) ∗ owns (c : Thread nD τ) (st0_1 t) fullShare (iblk m c 1 (pt (grid0.coords t 0).val (grid0.coords t 1).val (grid0.coords t 2).val)) ∗ owns (c : Thread nD τ) (st0_2 t) fullShare (iblk m c 2 (pt (grid0.coords t 0).val (grid0.coords t 1).val (grid0.coords t 2).val)) ∗ owns (c : Thread nD τ) (st0_3 t) fullShare (iblk m c 3 (pt (grid0.coords t 0).val (grid0.coords t 1).val (grid0.coords t 2).val)) ∗ owns (c : Thread nD τ) (st0_4 t) fullShare (iblk m c 4 (pt (grid0.coords t 0).val (grid0.coords t 1).val (grid0.coords t 2).val)) ∗ owns (c : Thread nD τ) (st0_5 t) fullShare (iblk m c 5 (pt (grid0.coords t 0).val (grid0.coords t 1).val (grid0.coords t 2).val)) ∗ owns (c : Thread nD τ) (st0_6 t) fullShare (iblk m c 6 (pt (grid0.coords t 0).val (grid0.coords t 1).val (grid0.coords t 2).val)) ∗ owns (c : Thread nD τ) (st0_7 t) fullShare (iblk m c 7 (pt (grid0.coords t 0).val (grid0.coords t 1).val (grid0.coords t 2).val)) ∗ owns (c : Thread nD τ) (st0_8 t) fullShare (iblk m c 8 (pt (grid0.coords t 0).val (grid0.coords t 1).val (grid0.coords t 2).val)) ∗ owns (c : Thread nD τ) (st0_9 t) fullShare (iblk m c 9 (pt (grid0.coords t 0).val (grid0.coords t 1).val (grid0.coords t 2).val)) ∗ owns (c : Thread nD τ) (st0_10 t) fullShare (iblk m c 10 (pt (grid0.coords t 0).val (grid0.coords t 1).val (grid0.coords t 2).val)) ∗ (∃ d, owns (c : Thread nD τ) (st0_11 t) fullShare ((dats m 0 c).before 11 t d)) ∗ (∃ d, owns (c : Thread nD τ) (st0_12 t) fullShare ((dats m 0 c).before 12 t d))) := by
  unfold bodyPre
  iintro ⟨HI, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  ihave HW := (owes_in m c t.castSucc) $$ HW
  ihave H0 := (ent_of_eq (congrArg (owns (c : Thread nD τ) (st0_0 t) fullShare) (before_0 m c t d0))) $$ H0
  ihave H1 := (ent_of_eq (congrArg (owns (c : Thread nD τ) (st0_1 t) fullShare) (before_1 m c t d1))) $$ H1
  ihave H2 := (ent_of_eq (congrArg (owns (c : Thread nD τ) (st0_2 t) fullShare) (before_2 m c t d2))) $$ H2
  ihave H3 := (ent_of_eq (congrArg (owns (c : Thread nD τ) (st0_3 t) fullShare) (before_3 m c t d3))) $$ H3
  ihave H4 := (ent_of_eq (congrArg (owns (c : Thread nD τ) (st0_4 t) fullShare) (before_4 m c t d4))) $$ H4
  ihave H5 := (ent_of_eq (congrArg (owns (c : Thread nD τ) (st0_5 t) fullShare) (before_5 m c t d5))) $$ H5
  ihave H6 := (ent_of_eq (congrArg (owns (c : Thread nD τ) (st0_6 t) fullShare) (before_6 m c t d6))) $$ H6
  ihave H7 := (ent_of_eq (congrArg (owns (c : Thread nD τ) (st0_7 t) fullShare) (before_7 m c t d7))) $$ H7
  ihave H8 := (ent_of_eq (congrArg (owns (c : Thread nD τ) (st0_8 t) fullShare) (before_8 m c t d8))) $$ H8
  ihave H9 := (ent_of_eq (congrArg (owns (c : Thread nD τ) (st0_9 t) fullShare) (before_9 m c t d9))) $$ H9
  ihave H10 := (ent_of_eq (congrArg (owns (c : Thread nD τ) (st0_10 t) fullShare) (before_10 m c t d10))) $$ H10
  isplitl [HI]; · iexact HI
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (t : Fin cfg0.N) :
    bodyPre m c t ⊢ wp frame (wpE (defs₀ (F := F)) Variants.none c none) Set.univ (bodyAt0 t) (fun _ => bodyPost m c t) := by
  have hj : (grid0.coords t 2).val < 26 := (grid0.coords t 2).isLt
  by_cases h0 : (grid0.coords t 2).val = 0
  · exact (into m c t).trans ((sound_first m c t h0).trans ((wp frame (wpE (defs₀ (F := F)) Variants.none c none) Set.univ (bodyAt0 t)).mono fun _ => out_idle m c t (by omega)))
  by_cases h1 : (grid0.coords t 2).val = 25
  · exact (into m c t).trans ((sound_last m c t h1).trans ((wp frame (wpE (defs₀ (F := F)) Variants.none c none) Set.univ (bodyAt0 t)).mono fun _ => out_live m c t h1))
  · exact (into m c t).trans ((sound_mid m c t (by omega) (by omega)).trans ((wp frame (wpE (defs₀ (F := F)) Variants.none c none) Set.univ (bodyAt0 t)).mono fun _ => out_idle m c t h1))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main : θ_run defs (onTc (τ := τ) (main (F := F))) (s₀ m ρ)
    (fun r => Pipeline.FramePostRG cfgs (dats m) 0 R0 (V m) (G m 8) r ∧ r.2.sem = fun _ => 0) :=
  Pipeline.θ_run_frame_dmaRG_shared (Q' := _) cfgs (dats m) (0 : Fin 1) launch₀0 osem0 defs₀ Variants.none ownSemFacts0 ∅ R0 (Finset.empty_subset _) R0_sub m ρ main
    (hbody := fun c => (body_obligation m c).loose) (hq := fun _ _ _ => rfl)
    (howed := fun _ _ => rfl) (V := V m) (hmain := hmainD m Variants.none) (hA := A_eq m) (G := G m 8)
    (hin := fun c => hin m c) (hout := fun c => hout m c)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 4).trans (((dats m 0 c).arrAt_in 4 rfl _).trans ((A_eq m c 4).trans (V_main_arg4 m c))),
      ((h.1.1 c).1 5).trans (((dats m 0 c).arrAt_in 5 rfl _).trans ((A_eq m c 5).trans (V_main_arg5 m c))),
      ((h.1.1 c).1 6).trans (((dats m 0 c).arrAt_in 6 rfl _).trans ((A_eq m c 6).trans (V_main_arg6 m c))),
      ((h.1.1 c).1 10).trans (((dats m 0 c).arrAt_in 10 rfl _).trans ((A_eq m c 10).trans (V_main_arg7 m c))),
      ((h.1.1 c).1 7).trans (((dats m 0 c).arrAt_in 7 rfl _).trans ((A_eq m c 7).trans (V_main_arg8 m c))),
      ((h.1.1 c).1 8).trans (((dats m 0 c).arrAt_in 8 rfl _).trans ((A_eq m c 8).trans (V_main_arg9 m c)))⟩, h.2⟩) (run_main m ρ)

end Cert.KernelIdeal.Gen

end
-- ==== Proof.Value.Spec.lean ====
/-
  The gradients of attention with compressed keys, over the extended reals, in plain coordinates: what both the
  kernel and the reference are shown to compute. Also the batched products both of them are read through.
-/
module

public import Idealize.ShloMosaic.PureOps.Ideal
public import Idealize.ShloMosaic.PureOps.Ideal.Laws
public import Idealize.ShloMosaic.Lib.ValueIdx
public import Idealize.ShloMosaic.Lib.ValueIdxCore
public import Idealize.ShloMosaic.Lib.Pipeline.Value
public import Idealize.ShloMosaic.Lib.Pointwise

@[expose] public section

noncomputable section

open Idealize.ShloMosaic hiding ix0 ix1 ix2 ix3 ix4 ix5
open ValueIdx

namespace Cert.Spec

/-- The ten arguments by coordinates: queries and rotary queries, outputs, the output gradient's codes and scales, the
    log-sums, the keys, the keys transposed, their rotary extension and the bias of a token's queries. -/
structure Args where
  q : Fin 8 → Fin 12288 → Fin 512 → EReal
  qr : Fin 8 → Fin 12288 → Fin 64 → EReal
  o : Fin 8 → Fin 12288 → Fin 512 → EReal
  g : Fin 8 → Fin 12288 → Fin 512 → EReal
  gs : Fin 8 → Fin 12288 → EReal
  lse : Fin 8 → Fin 12288 → EReal
  k : Fin 8 → Fin 12800 → Fin 512 → EReal
  kt : Fin 8 → Fin 576 → Fin 12800 → EReal
  kr : Fin 8 → Fin 12800 → Fin 64 → EReal
  bias : Fin 8 → Fin 12288 → Fin 12800 → EReal

variable (a : Args)

/-- The softmax scale, one over the square root of 192. -/
def sm : EReal := (((Real.sqrt 192)⁻¹ : ℝ) : EReal)

/-- The output gradient, its codes times their row's scale. -/
def gd (b : Fin 8) (r : Fin 12288) (c : Fin 512) : EReal := a.g b r c * a.gs b r
/-- The row sums of output gradient times output. -/
def delta (b : Fin 8) (r : Fin 12288) : EReal := ∑ c : Fin 512, gd a b r c * a.o b r c
/-- The unscaled scores. -/
def score (b : Fin 8) (r : Fin 12288) (k : Fin 12800) : EReal :=
  ((∑ c : Fin 512, a.q b r c * a.k b k c) + ∑ d : Fin 64, a.qr b r d * a.kr b k d) + a.bias b r k
/-- The probabilities. -/
def prob (b : Fin 8) (r : Fin 12288) (k : Fin 12800) : EReal := Ideal.exp (score a b r k * sm - a.lse b r)
/-- The gradients of the scaled scores. -/
def ds (b : Fin 8) (r : Fin 12288) (k : Fin 12800) : EReal :=
  prob a b r k * ((∑ c : Fin 512, gd a b r c * a.k b k c) - delta a b r)
/-- The gradient of the queries, compressed and rotary columns in one. -/
def dq (b : Fin 8) (r : Fin 12288) (c : Fin 576) : EReal := (∑ k : Fin 12800, ds a b r k * a.kt b c k) * sm
/-- The gradient of the compressed keys. -/
def dc (b : Fin 8) (k : Fin 12800) (c : Fin 512) : EReal :=
  (∑ r : Fin 12288, prob a b r k * gd a b r c) + sm * ∑ r : Fin 12288, ds a b r k * a.q b r c
/-- The gradient of the rotary keys. -/
def dk (b : Fin 8) (k : Fin 12800) (d : Fin 64) : EReal := sm * ∑ r : Fin 12288, ds a b r k * a.qr b r d

/-- The arguments by coordinates of the ten arrays. -/
def ofArrays (a0 : (⟨3, ![8, 12288, 512]⟩ : Shape).Idx → EReal) (a1 : (⟨3, ![8, 12288, 64]⟩ : Shape).Idx → EReal)
    (a2 a3 : (⟨3, ![8, 12288, 512]⟩ : Shape).Idx → EReal) (a4 a5 : (⟨4, ![8, 12, 1, 1024]⟩ : Shape).Idx → EReal)
    (a6 : (⟨3, ![8, 12800, 512]⟩ : Shape).Idx → EReal) (a7 : (⟨3, ![8, 576, 12800]⟩ : Shape).Idx → EReal)
    (a8 : (⟨3, ![8, 12800, 128]⟩ : Shape).Idx → EReal) (a9 : (⟨4, ![8, 3, 12800, 128]⟩ : Shape).Idx → EReal) : Args where
  q b r c := a0 (ix3 b r c)
  qr b r d := a1 (ix3 b r d)
  o b r c := a2 (ix3 b r c)
  g b r c := a3 (ix3 b r c)
  gs b r := a4 (ix4 b (⟨r.val / 1024, by omega⟩ : Fin 12) (0 : Fin 1) (⟨r.val % 1024, by omega⟩ : Fin 1024))
  lse b r := a5 (ix4 b (⟨r.val / 1024, by omega⟩ : Fin 12) (0 : Fin 1) (⟨r.val % 1024, by omega⟩ : Fin 1024))
  k b k c := a6 (ix3 b k c)
  kt b c k := a7 (ix3 b c k)
  kr b k d := a8 (ix3 b k (⟨d.val, by omega⟩ : Fin 128))
  bias b r k := a9 (ix4 b (⟨r.val / 32 / 128, by omega⟩ : Fin 3) k (⟨r.val / 32 % 128, by omega⟩ : Fin 128))

end Cert.Spec

namespace Cert.Dots

variable {G m n k : ℕ} {φ₁ φ₂ : FTy}

/-- A stack of products of a matrix with a transposed one, at an index: the sum over the shared last coordinate. -/
theorem nt_apply (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    FloatOps.matmul (⟨[2], [2], [1], [1], [0], [0], w⟩ : DotDims _ _ _) prec A B (constant (F := Ideal) _ .f32 0x00000000#32) (ix3 g a b)
      = ∑ c : Fin k, A (ix3 g a c) * B (ix3 g b c) := by
  rw [Ideal.matmul_constant_zero_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- A stack of products of a transposed matrix with a matrix, at an index: the sum over the shared middle coordinate. -/
theorem tn_apply (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    FloatOps.matmul (⟨[1], [1], [2], [2], [0], [0], w⟩ : DotDims _ _ _) prec A B (constant (F := Ideal) _ .f32 0x00000000#32) (ix3 g a b)
      = ∑ c : Fin k, A (ix3 g c a) * B (ix3 g c b) := by
  rw [Ideal.matmul_constant_zero_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- A sum over the last of three coordinates, at an index. -/
theorem sum3_apply (v : FVec Ideal ⟨3, ![G, m, n]⟩ .f32) (h : (⟨3, ![G, m, n]⟩ : Shape).Reduces [2] ⟨2, ![G, m]⟩)
    (hφ : FKind.Formats .f32) (hacc : (0x00000000#32 : BitVec 32) = FKind.add.neutral .f32 hφ) (g : Fin G) (a : Fin m) :
    multiReduction (F := Ideal) .add [2] ⟨2, ![G, m]⟩ v 0x00000000#32 h hφ hacc (ix2 g a) = ∑ c : Fin n, v (ix3 g a c) := by
  rw [multiReduction_add_apply, Ideal.reduceAdd_def, Ideal.reduceAdd_r3_a2]
  rfl

/-- A sum over the last of two coordinates, at an index. -/
theorem sum2_apply (v : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (a : Fin m) :
    multiReduction (F := Ideal) .add [1] ⟨1, ![m]⟩ v 0x00000000#32 h hφ hacc (ix1 a) = ∑ c : Fin n, v (ix2 a c) := by
  rw [multiReduction_add_apply, Ideal.reduceAdd_def, Ideal.reduceAdd_r2_a1]
  rfl

end Cert.Dots

end
-- ==== Proof.Value.Real.lean ====
/-
  Facts about the extended reals the kernel's arithmetic rests on: the base-two exponential of a scaled score with the
  log-sum folded in is the exponential of the scaled score minus the log-sum, and sums over blocks are sums over all.
-/
module

public import proofs.«01_k».proof.Proof.Value.Spec

@[expose] public section

noncomputable section

open Idealize.ShloMosaic hiding ix0 ix1 ix2 ix3 ix4 ix5
open ValueIdx

namespace Cert.Spec

/-- The square root of 192 is positive. -/
theorem sqrt_pos : (0 : ℝ) < Real.sqrt 192 := Real.sqrt_pos.mpr (by norm_num)

/-- The base-two exponential at the scale times one over the logarithm of two is the exponential at the scale. -/
theorem exp2_scaled (z : EReal) :
    Ideal.exp2 (z * (((Real.sqrt 192)⁻¹ * (Real.log 2)⁻¹ : ℝ) : EReal)) = Ideal.exp (z * sm) := by
  have h1 : (0 : ℝ) < (Real.sqrt 192)⁻¹ := inv_pos.mpr sqrt_pos
  have hl : (0 : ℝ) < Real.log 2 := Real.log_pos (by norm_num)
  have h2 : (0 : ℝ) < (Real.sqrt 192)⁻¹ * (Real.log 2)⁻¹ := mul_pos h1 (inv_pos.mpr hl)
  induction z using EReal.rec with
  | bot => rw [EReal.bot_mul_coe_of_pos h2, sm, EReal.bot_mul_coe_of_pos h1]; simp
  | top => rw [EReal.top_mul_coe_of_pos h2, sm, EReal.top_mul_coe_of_pos h1]; simp
  | coe x =>
    rw [sm, ← EReal.coe_mul, ← EReal.coe_mul, Ideal.exp2_coe, Ideal.exp_coe]
    congr 1
    show Real.rpow 2 _ = _
    rw [show Real.rpow 2 (x * ((Real.sqrt 192)⁻¹ * (Real.log 2)⁻¹)) = (2 : ℝ) ^ (x * ((Real.sqrt 192)⁻¹ * (Real.log 2)⁻¹)) from rfl,
      Real.rpow_def_of_pos (by norm_num)]
    congr 1
    field_simp

/-- A finite log-sum folded into the scores, scaled by minus one over the scale, comes out subtracted. -/
theorem exp2_folded (y : EReal) (l : ℝ) :
    Ideal.exp2 ((y + (l : EReal) * ((-(Real.sqrt 192) : ℝ) : EReal)) * (((Real.sqrt 192)⁻¹ * (Real.log 2)⁻¹ : ℝ) : EReal))
      = Ideal.exp (y * sm - (l : EReal)) := by
  rw [exp2_scaled]
  congr 1
  have h1 : (0 : ℝ) < (Real.sqrt 192)⁻¹ := inv_pos.mpr sqrt_pos
  rw [← EReal.coe_mul]
  induction y using EReal.rec with
  | bot => rw [EReal.bot_add, sm, EReal.bot_mul_coe_of_pos h1, EReal.bot_sub]
  | top => rw [EReal.top_add_coe, sm, EReal.top_mul_coe_of_pos h1, EReal.top_sub_coe]
  | coe x =>
    rw [sm, ← EReal.coe_add, ← EReal.coe_mul, ← EReal.coe_mul, ← EReal.coe_sub]
    congr 1
    have := sqrt_pos.ne'
    field_simp
    ring

/-- The scale over a sum: a positive finite factor distributes. -/
theorem sm_mul_add (x y : EReal) : sm * (x + y) = sm * x + sm * y := by
  have h1 : (0 : ℝ) < (Real.sqrt 192)⁻¹ := inv_pos.mpr sqrt_pos
  exact EReal.left_distrib_of_nonneg_of_ne_top (by unfold sm; exact_mod_cast h1.le) (by unfold sm; exact EReal.coe_ne_top _) x y

/-- A finite extended real minus itself is zero. -/
theorem coe_sub_self (x : ℝ) : (x : EReal) - (x : EReal) = 0 := by
  rw [← EReal.coe_sub, sub_self]; rfl

/-- A sum over 768 rows in the four parts the stacked queries have. -/
theorem sum768 (f : Fin 768 → EReal) :
    ∑ i, f i = (∑ i : Fin 512, f ⟨i.val, by omega⟩) + (∑ i : Fin 64, f ⟨512 + i.val, by omega⟩)
      + (∑ i : Fin 64, f ⟨576 + i.val, by omega⟩) + ∑ i : Fin 128, f ⟨640 + i.val, by omega⟩ := by
  have e1 := Fin.sum_univ_add (a := 640) (b := 128) f
  have e2 := Fin.sum_univ_add (a := 576) (b := 64) fun i : Fin 640 => f ⟨i.val, by omega⟩
  have e3 := Fin.sum_univ_add (a := 512) (b := 64) fun i : Fin 576 => f ⟨i.val, by omega⟩
  refine e1.trans ?_
  refine congrArg₂ (· + ·) (e2.trans (congrArg₂ (· + ·) (e3.trans ?_) ?_)) ?_ <;> rfl

/-- A sum over `M * N` indices as a running sum over `M` blocks of `N`. -/
theorem sum_blocks {M N T : ℕ} (hT : T = M * N) (f : Fin T → EReal) :
    ∑ i, f i = ∑ m : Fin M, ∑ n : Fin N, f ⟨m.val * N + n.val, by
      rw [hT]; calc m.val * N + n.val < m.val * N + N := by omega
        _ = (m.val + 1) * N := by ring
        _ ≤ M * N := Nat.mul_le_mul_right _ m.isLt⟩ := by
  subst hT
  rw [← Fintype.sum_prod_type']
  refine (Equiv.sum_comp finProdFinEquiv f).symm.trans (Finset.sum_congr rfl fun p _ => congrArg f (Fin.ext ?_))
  show p.2.val + N * p.1.val = p.1.val * N + p.2.val
  ring

end Cert.Spec

end
-- ==== Proof.Value.Words.lean ====
/-
  The 32-bit words by which the kernel finds a query's token.
-/
module

public import Idealize.ShloMosaic.PureOps.Float
public import Idealize.ShloMosaic.PureOps.Ideal

@[expose] public section

namespace Cert.KernelIdeal.Gen

open Idealize.ShloMosaic

/-- The quotient by 32 rounded down, and the remainder by 128 with the divisor's sign, on words, as the kernel spells them. -/
def fdiv32 (v : BitVec 32) : BitVec 32 :=
  Scalar.select (IntOp.andi (IntOp.cmpi .ne (IntOp.subi ((IntOp.cmpi .sgt v 0#32).setWidth 32) ((IntOp.cmpi .slt v 0#32).setWidth 32))
      (Scalar.subi (Scalar.extui (Scalar.cmpi .sgt 32#32 0#32)) (Scalar.extui (Scalar.cmpi .slt 32#32 0#32))))
    (IntOp.cmpi .ne (v.srem 32#32) 0#32)) (IntOp.subi (v.sdiv 32#32) 1#32) (v.sdiv 32#32)
/-- The remainder by 128 as the program spells it. -/
def fmod128 (v : BitVec 32) : BitVec 32 :=
  Scalar.select (IntOp.andi (IntOp.xori (IntOp.cmpi .slt (v.srem 128#32) 0#32) (Scalar.cmpi .slt 128#32 0#32)) (IntOp.cmpi .ne (v.srem 128#32) 0#32))
    (IntOp.addi (v.srem 128#32) 128#32) (v.srem 128#32)

/-- Division by 32 on vectors is division of words. -/
theorem div32 (v : BitVec 32) : IntOp.divsi .vector v 32#32 = v.sdiv 32#32 := by
  exact if_neg (by rintro (h | ⟨_, h⟩) <;> exact absurd h (by decide))
/-- The remainder by 32 on vectors is that of words. -/
theorem rem32 (v : BitVec 32) : IntOp.remsi .vector v 32#32 = v.srem 32#32 := by
  exact if_neg (by rintro (h | ⟨_, h⟩) <;> exact absurd h (by decide))
/-- The remainder by 128 on vectors is that of words. -/
theorem rem128 (v : BitVec 32) : IntOp.remsi .vector v 128#32 = v.srem 128#32 := by
  exact if_neg (by rintro (h | ⟨_, h⟩) <;> exact absurd h (by decide))

/-- On a word below 12288 the signed operations are the unsigned ones. -/
theorem word_facts (n : ℕ) (hn : n < 12288) :
    (BitVec.ofNat 32 n).sdiv 32#32 = BitVec.ofNat 32 (n / 32) ∧ (BitVec.ofNat 32 n).srem 32#32 = BitVec.ofNat 32 (n % 32)
      ∧ (BitVec.ofNat 32 n).srem 128#32 = BitVec.ofNat 32 (n % 128) ∧ (BitVec.ofNat 32 n).slt 0#32 = false
      ∧ (0#32).slt (BitVec.ofNat 32 n) = decide (0 < n) := by
  have ht : (BitVec.ofNat 32 n).toNat = n := by rw [BitVec.toNat_ofNat]; exact Nat.mod_eq_of_lt (by omega)
  have hm : (BitVec.ofNat 32 n).msb = false := by rw [BitVec.msb_eq_false_iff_two_mul_lt, ht]; omega
  have hi : (BitVec.ofNat 32 n).toInt = (n : Int) := by rw [BitVec.toInt_eq_toNat_of_msb hm, ht]
  have h32 : (32#32 : BitVec 32).msb = false := by decide
  have h128 : (128#32 : BitVec 32).msb = false := by decide
  refine ⟨?_, ?_, ?_, ?_, ?_⟩
  · rw [BitVec.sdiv_eq, hm, h32]
    apply BitVec.eq_of_toNat_eq
    show ((BitVec.ofNat 32 n) / 32#32).toNat = _
    rw [BitVec.toNat_udiv, ht, show (32#32 : BitVec 32).toNat = 32 from rfl, BitVec.toNat_ofNat]
    exact (Nat.mod_eq_of_lt (by omega)).symm
  · rw [BitVec.srem_eq, hm, h32]
    apply BitVec.eq_of_toNat_eq
    show ((BitVec.ofNat 32 n) % 32#32).toNat = _
    rw [BitVec.toNat_umod, ht, show (32#32 : BitVec 32).toNat = 32 from rfl, BitVec.toNat_ofNat]
    exact (Nat.mod_eq_of_lt (by omega)).symm
  · rw [BitVec.srem_eq, hm, h128]
    apply BitVec.eq_of_toNat_eq
    show ((BitVec.ofNat 32 n) % 128#32).toNat = _
    rw [BitVec.toNat_umod, ht, show (128#32 : BitVec 32).toNat = 128 from rfl, BitVec.toNat_ofNat]
    exact (Nat.mod_eq_of_lt (by omega)).symm
  · rw [BitVec.slt, hi]
    have h0 : (0#32 : BitVec 32).toInt = 0 := by decide
    rw [h0]
    exact decide_eq_false (by omega)
  · rw [BitVec.slt, hi]
    have h0 : (0#32 : BitVec 32).toInt = 0 := by decide
    rw [h0]
    congr 1
    apply propext
    omega

/-- The program's quotient by 32 of a small number. -/
theorem fdiv32_word (n : ℕ) (hn : n < 12288) : fdiv32 (BitVec.ofNat 32 n) = BitVec.ofNat 32 (n / 32) := by
  obtain ⟨h1, h2, -, h4, h5⟩ := word_facts n hn
  by_cases h0 : n = 0
  · subst h0; decide
  · have hp : 0 < n := Nat.pos_of_ne_zero h0
    unfold fdiv32 IntOp.cmpi
    simp only [h1, h2, h4, h5, hp, decide_true]
    generalize BitVec.ofNat 32 (n / 32) = d
    generalize BitVec.ofNat 32 (n % 32) = e
    have : IntOp.andi (BitVec.ofBool (IntOp.subi ((BitVec.ofBool true).setWidth 32) ((BitVec.ofBool false).setWidth 32)
        != Scalar.subi (Scalar.extui (Scalar.cmpi .sgt 32#32 0#32)) (Scalar.extui (Scalar.cmpi .slt 32#32 0#32)))) (BitVec.ofBool (e != 0#32)) = 0#1 := by
      rw [show BitVec.ofBool (IntOp.subi ((BitVec.ofBool true).setWidth 32) ((BitVec.ofBool false).setWidth 32)
        != Scalar.subi (Scalar.extui (Scalar.cmpi .sgt 32#32 0#32)) (Scalar.extui (Scalar.cmpi .slt 32#32 0#32))) = 0#1 from by decide]
      cases (e != 0#32) <;> decide
    rw [this]
    exact if_neg (by decide)

/-- The program's remainder by 128 of a small number. -/
theorem fmod128_word (n : ℕ) (hn : n < 12288) : fmod128 (BitVec.ofNat 32 n) = BitVec.ofNat 32 (n % 128) := by
  obtain ⟨-, -, h3, -, -⟩ := word_facts n hn
  obtain ⟨-, -, -, h4, -⟩ := word_facts (n % 128) (by omega)
  unfold fmod128 IntOp.cmpi
  simp only [h3, h4]
  generalize BitVec.ofNat 32 (n % 128) = e
  have : IntOp.andi (IntOp.xori (BitVec.ofBool false) (Scalar.cmpi .slt 128#32 0#32)) (BitVec.ofBool (e != 0#32)) = 0#1 := by
    rw [show IntOp.xori (BitVec.ofBool false) (Scalar.cmpi .slt 128#32 0#32) = 0#1 from by decide]
    cases (e != 0#32) <;> decide
  rw [this]
  exact if_neg (by decide)

/-- Of a query's number below 12288 they are the token's number within its block of 128 tokens. -/
theorem token_word (n : Fin 12288) : fmod128 (fdiv32 (BitVec.ofNat 32 n.val)) = BitVec.ofNat 32 (n.val / 32 % 128) := by
  rw [fdiv32_word _ n.isLt, fmod128_word _ (by omega)]

end Cert.KernelIdeal.Gen

end
-- ==== Proof.Value.Rows.lean ====
/-
  What the kernel's prepared blocks of a query tile hold, read at an index: the stacked transposed queries row by row,
  the output gradient and its transpose, the row sums.
-/
module

public import proofs.«01_k».proof.Proof.Ideal.Model
public import proofs.«01_k».proof.Proof.Value.Real
public import proofs.«01_k».proof.Proof.Value.Words
public import Idealize.ShloMosaic.Lib.ValueLayout

@[expose] public section

noncomputable section

namespace Cert.KernelIdeal.Gen

open Idealize.ShloMosaic hiding ix0 ix1 ix2 ix3 ix4 ix5
open Idealize.SL.Sem ValueIdx Cert.Spec

/-! ## The named constants -/

theorem sm_eq : Named.named (F := Ideal) Cert.KernelIdeal.κ "sm" (φ := .f32) 0x3D93CD3A#32 = sm :=
  IdealRules.named_const.ideal_named_scalar _ _ _ _ rfl
/-- The named exponent factor is the scale times log2 e. -/
theorem c2_eq : Named.named (F := Ideal) Cert.KernelIdeal.κ "sm_log2e" (φ := .f32) 0x3DD53B95#32
    = (((Real.sqrt 192)⁻¹ * (Real.log 2)⁻¹ : ℝ) : EReal) :=
  IdealRules.named_const.ideal_named_scalar _ _ _ _ rfl
/-- The named log-sum factor is minus the square root of 192. -/
theorem neg_eq : Named.named (F := Ideal) Cert.KernelIdeal.κ "neg_inv_sm" (φ := .f32) 0xC15DB3D7#32
    = ((-(Real.sqrt 192) : ℝ) : EReal) :=
  IdealRules.named_const.ideal_named_scalar _ _ _ _ rfl

/-! ## The rows that pick a query's token -/

theorem pay22_at (w : BitVec 32) (t : Fin 128) (r : Fin 1024) :
    k0_pay22 w (ix2 t r) = fdiv32 (w * 1024#32 + BitVec.ofNat 32 r.val) := by
  have hi : iota .tc S128x1024 32 [1] iota_S128x1024_d1_w32 (ix2 t r) = BitVec.ofNat 32 r.val := iota_single_apply _ _ _ _ _ _
  unfold fdiv32
  rw [← hi, ← div32, ← rem32]
  rfl

/-- The rows of the tokens: one where the row is the query's token, zero elsewhere. -/
theorem pay23_at (qi : Fin 12) (t : Fin 128) (r : Fin 1024) :
    k0_pay23 (F := Ideal) (k0_pay22 (BitVec.ofNat 32 qi.val)) (iota .tc S128x1024 32 [0] iota_S128x1024_d0_w32) 128#32 (ix2 t r)
      = if (qi.val * 1024 + r.val) / 32 % 128 = t.val then 1 else 0 := by
  have hi : iota .tc S128x1024 32 [0] iota_S128x1024_d0_w32 (ix2 t r) = BitVec.ofNat 32 t.val := iota_single_apply _ _ _ _ _ _
  have hw : BitVec.ofNat 32 qi.val * 1024#32 + BitVec.ofNat 32 r.val = BitVec.ofNat 32 (qi.val * 1024 + r.val) := by
    rw [BitVec.ofNat_add, BitVec.ofNat_mul]
  have e1 := pay22_at (BitVec.ofNat 32 qi.val) t r
  have e2 := token_word ⟨qi.val * 1024 + r.val, by omega⟩
  unfold k0_pay23
  rw [shapeCast_self]
  have e3 : fmod128 (k0_pay22 (BitVec.ofNat 32 qi.val) (ix2 t r)) = BitVec.ofNat 32 ((qi.val * 1024 + r.val) / 32 % 128) := by
    rw [e1, hw]; exact e2
  unfold fmod128 at e3
  rw [← rem128] at e3
  have e4 : (BitVec.ofNat 32 ((qi.val * 1024 + r.val) / 32 % 128) == BitVec.ofNat 32 t.val)
      = decide ((qi.val * 1024 + r.val) / 32 % 128 = t.val) := by
    have h1 : (qi.val * 1024 + r.val) / 32 % 128 < 2 ^ 32 := by omega
    have h2 : t.val < 2 ^ 32 := by omega
    rw [Bool.beq_eq_decide_eq]
    congr 1
    apply propext
    constructor
    · intro h; have := congrArg BitVec.toNat h
      rwa [BitVec.toNat_ofNat, BitVec.toNat_ofNat, Nat.mod_eq_of_lt h1, Nat.mod_eq_of_lt h2] at this
    · intro h; rw [h]
  have e5 : ∀ x y : BitVec 32, x = BitVec.ofNat 32 ((qi.val * 1024 + r.val) / 32 % 128) → y = BitVec.ofNat 32 t.val →
      Scalar.select (IntOp.cmpi .eq x y) (Ideal.ofBits .f32 0x3F800000#32) (Ideal.ofBits .f32 0x00000000#32)
        = if (qi.val * 1024 + r.val) / 32 % 128 = t.val then (1 : EReal) else 0 := by
    intro x y hx hy
    rw [hx, hy]
    unfold IntOp.cmpi Scalar.select
    simp only [e4, Ideal.ofBits_one_f32, Ideal.ofBits_zero_f32]
    by_cases h : (qi.val * 1024 + r.val) / 32 % 128 = t.val <;> simp [h]
  exact e5 _ _ e3 hi

/-! ## The other blocks -/

theorem pay8_at (x : Vec Ideal S1x1024x512 .bf16) (r : Fin 1024) (c : Fin 512) :
    k0_pay8 (F := Ideal) x (ix2 r c) = x (ix3 (0 : Fin 1) r c) := shapeCast_1ab_ab_apply x shapeCasts_S1x1024x512_S1024x512 r c

/-- The queries transposed, by coordinates. -/
theorem pay9_at (x : Vec Ideal S1x1024x512 .bf16) (c : Fin 512) (r : Fin 1024) :
    k0_pay9 (F := Ideal) x (ix2 c r) = x (ix3 (0 : Fin 1) r c) := by
  unfold k0_pay9
  rw [shapeCast_self]
  exact (transpose_ix2_apply _ _ c r).trans (pay8_at x r c)

/-- The queries, by coordinates. -/
theorem pay10_at (x : Vec Ideal S1x1024x512 .bf16) (r : Fin 1024) (c : Fin 512) :
    k0_pay10 (F := Ideal) x (ix2 r c) = x (ix3 (0 : Fin 1) r c) := by
  unfold k0_pay10
  rw [shapeCast_self]
  exact pay8_at x r c

/-- The rotary queries transposed, by coordinates. -/
theorem pay11_at (x : Vec Ideal S1x1024x64 .bf16) (d : Fin 64) (r : Fin 1024) :
    k0_pay11 (F := Ideal) x (ix2 d r) = x (ix3 (0 : Fin 1) r d) := by
  unfold k0_pay11
  rw [shapeCast_self]
  exact (transpose_ix2_apply _ _ d r).trans (shapeCast_1ab_ab_apply x shapeCasts_S1x1024x64_S1024x64 r d)

/-- A row tile as a row. -/
theorem row_at {α : Type} (x : S1x1x1x1024.Idx → α) (h : S1x1x1x1024.ShapeCasts S1x1024) (u : Fin 1) (r : Fin 1024) :
    shapeCast S1x1024 x h (ix2 u r) = x (ix4 (0 : Fin 1) (0 : Fin 1) (0 : Fin 1) r) :=
  shapeCast_apply x h _ _ (by
    have hu : u.val = 0 := by omega
    rw [Shape.rowMajor_val_four, Shape.rowMajor_val_two]
    show ((0 * 1 + 0) * 1 + 0) * 1024 + r.val = u.val * 1024 + r.val
    omega)

/-- The scaled log-sums, by coordinates. -/
theorem pay12_at (x : Vec Ideal S1x1x1x1024 .f32) (u : Fin 1) (r : Fin 1024) :
    k0_pay12 (F := Ideal) x (ix2 u r) = x (ix4 (0 : Fin 1) (0 : Fin 1) (0 : Fin 1) r) * ((-(Real.sqrt 192) : ℝ) : EReal) := by
  rw [← row_at x shapeCasts_S1x1x1x1024_S1x1024 u r, ← neg_eq]
  rfl

/-- A row repeated: a broadcast of one row, at an index. -/
theorem rowBroadcast_at {α : Type} {m n : ℕ} (hn : n ≠ 1) (x : (⟨2, ![1, n]⟩ : Shape).Idx → α)
    (h : (⟨2, ![1, n]⟩ : Shape).Broadcasts ⟨2, ![m, n]⟩) (s : Fin m) (r : Fin n) :
    broadcastTo ⟨2, ![m, n]⟩ x h (ix2 s r) = x (ix2 (0 : Fin 1) r) :=
  broadcastTo_apply x h _ _ (fun ax => by
    match ax with
    | ⟨0, _⟩ => rfl
    | ⟨1, _⟩ => show r.val = if n = 1 then 0 else r.val; rw [if_neg hn])

/-- A column spread along the second coordinate. -/
theorem colBroadcast_at {α : Type} {m n : ℕ} (hm : m ≠ 1) (x : (⟨2, ![m, 1]⟩ : Shape).Idx → α)
    (h : (⟨2, ![m, 1]⟩ : Shape).Broadcasts ⟨2, ![m, n]⟩) (s : Fin m) (r : Fin n) :
    broadcastTo ⟨2, ![m, n]⟩ x h (ix2 s r) = x (ix2 s (0 : Fin 1)) :=
  broadcastTo_apply x h _ _ (fun ax => by
    match ax with
    | ⟨0, _⟩ => show s.val = if m = 1 then 0 else s.val; rw [if_neg hm]
    | ⟨1, _⟩ => rfl)

/-- The sixteen rows of the scaled log-sum: itself in the first, and zeros, since what it loses to rounding is nothing. -/
theorem pay20_at (x : Vec Ideal S1x1x1x1024 .f32) (s : Fin 16) (r : Fin 1024) (l : ℝ)
    (hl : x (ix4 (0 : Fin 1) (0 : Fin 1) (0 : Fin 1) r) = (l : EReal)) :
    k0_pay20 (F := Ideal) (k0_pay13 x) (k0_pay14 x) k0_pay15 k0_pay16 k0_pay17 (k0_pay18 x) k0_pay19 (ix2 s r)
      = if s.val = 0 then (l : EReal) * ((-(Real.sqrt 192) : ℝ) : EReal) else 0 := by
  have hi : iota .tc S16x1024 32 [0] iota_S16x1024_d0_w32 (ix2 s r) = BitVec.ofNat 32 s.val := iota_single_apply _ _ _ _ _ _
  have h12 : ∀ u : Fin 1, k0_pay12 (F := Ideal) x (ix2 u r) = (l : EReal) * ((-(Real.sqrt 192) : ℝ) : EReal) := fun u => by
    rw [pay12_at, hl]
  have h13 : ∀ u : Fin 1, k0_pay13 (F := Ideal) x (ix2 u r) = (l : EReal) * ((-(Real.sqrt 192) : ℝ) : EReal) := h12
  have h14 : ∀ u : Fin 1, k0_pay14 (F := Ideal) x (ix2 u r) = 0 := fun u => by
    show k0_pay12 (F := Ideal) x (ix2 u r) - k0_pay13 (F := Ideal) x (ix2 u r) = 0
    rw [h12, h13, ← EReal.coe_mul, coe_sub_self]
  have h18 : k0_pay18 (F := Ideal) x (ix2 s r) = 0 := by
    unfold k0_pay18
    refine (rowBroadcast_at (by decide) _ _ s r).trans ?_
    rw [shapeCast_self]
    show (k0_pay12 (F := Ideal) x (ix2 0 r) - k0_pay13 (F := Ideal) x (ix2 0 r)) - k0_pay14 (F := Ideal) x (ix2 0 r) = 0
    rw [h14, h12, h13, ← EReal.coe_mul, coe_sub_self, sub_zero]
  have b13 : broadcastTo S16x1024 (shapeCast S1x1024 (k0_pay13 (F := Ideal) x) shapeCasts_S1x1024_S1x1024) broadcasts_S1x1024_S16x1024 (ix2 s r)
      = (l : EReal) * ((-(Real.sqrt 192) : ℝ) : EReal) := by
    refine (rowBroadcast_at (by decide) _ _ s r).trans ?_
    rw [shapeCast_self]; exact h13 0
  have b14 : broadcastTo S16x1024 (shapeCast S1x1024 (k0_pay14 (F := Ideal) x) shapeCasts_S1x1024_S1x1024) broadcasts_S1x1024_S16x1024 (ix2 s r)
      = 0 := by
    refine (rowBroadcast_at (by decide) _ _ s r).trans ?_
    rw [shapeCast_self]; exact h14 0
  unfold k0_pay20
  rw [shapeCast_self]
  have key : ∀ (A B C D : EReal) (w : BitVec 32), w = BitVec.ofNat 32 s.val → B = 0 → C = 0 → D = 0 →
      Scalar.select (IntOp.cmpi .eq w 0#32) A (Scalar.select (IntOp.cmpi .eq w 1#32) B (Scalar.select (IntOp.cmpi .eq w 2#32) C D))
        = if s.val = 0 then A else 0 := by
    intro A B C D w hw hB hC hD
    subst hw; rw [hB, hC, hD]
    have : ∀ s : Fin 16, (IntOp.cmpi .eq (BitVec.ofNat 32 s.val) 0#32 = 1) = (s.val = 0) := by decide
    unfold Scalar.select
    simp only [this, ite_self]
  refine (key (broadcastTo S16x1024 (shapeCast S1x1024 (k0_pay13 (F := Ideal) x) shapeCasts_S1x1024_S1x1024) broadcasts_S1x1024_S16x1024 (ix2 s r))
    (broadcastTo S16x1024 (shapeCast S1x1024 (k0_pay14 (F := Ideal) x) shapeCasts_S1x1024_S1x1024) broadcasts_S1x1024_S16x1024 (ix2 s r))
    (k0_pay18 (F := Ideal) x (ix2 s r)) (k0_pay19 (F := Ideal) (ix2 s r)) _ hi b14 h18 Ideal.ofBits_zero_f32).trans ?_
  rw [b13]

/-- The padding rows are zero. -/
theorem pay21_at (i : S48x1024.Idx) : k0_pay21 (F := Ideal) i = 0 := by
  unfold k0_pay21
  rw [shapeCast_self]
  exact Ideal.ofBits_zero_bf16

/-! ## The output gradient and the row sums -/

theorem pay24_at (x : Vec Ideal S1x1x1x1024 .f32) (y : Vec Ideal S1x1024x512 .fp8e5m2) (r : Fin 1024) (c : Fin 512) :
    k0_pay24 (F := Ideal) x y (ix2 r c) = y (ix3 (0 : Fin 1) r c) * x (ix4 (0 : Fin 1) (0 : Fin 1) (0 : Fin 1) r) := by
  rw [← shapeCast_1ab_ab_apply y shapeCasts_S1x1024x512_S1024x512 r c]
  unfold k0_pay24
  refine congrArg (shapeCast S1024x512 y shapeCasts_S1x1024x512_S1024x512 (ix2 r c) * ·) ?_
  refine (colBroadcast_at (by decide) _ _ r c).trans ?_
  refine (slice2_axis1_apply 0 _ _ r (0 : Fin 1) (0 : Fin 8) rfl).trans ?_
  refine (transpose_ix2_apply _ _ r (0 : Fin 8)).trans ?_
  refine (rowBroadcast_at (by decide) _ _ (0 : Fin 8) r).trans ?_
  rw [shapeCast_self]
  exact row_at x _ 0 r

/-- The output gradient of a query tile, by coordinates. -/
theorem doOf_at (x : Vec Ideal S1x1x1x1024 .f32) (y : Vec Ideal S1x1024x512 .fp8e5m2) (r : Fin 1024) (c : Fin 512) :
    doOf (F := Ideal) x y (ix2 r c) = y (ix3 (0 : Fin 1) r c) * x (ix4 (0 : Fin 1) (0 : Fin 1) (0 : Fin 1) r) := by
  unfold doOf k0_pay25
  rw [shapeCast_self]
  exact pay24_at x y r c

/-- The same transposed, by coordinates. -/
theorem dotOf_at (x : Vec Ideal S1x1x1x1024 .f32) (y : Vec Ideal S1x1024x512 .fp8e5m2) (c : Fin 512) (r : Fin 1024) :
    dotOf (F := Ideal) x y (ix2 c r) = y (ix3 (0 : Fin 1) r c) * x (ix4 (0 : Fin 1) (0 : Fin 1) (0 : Fin 1) r) := by
  unfold dotOf k0_pay27
  rw [shapeCast_self]
  exact (transpose_ix2_apply _ _ c r).trans (pay24_at x y r c)

/-- The row sums of a query tile, by coordinates. -/
theorem deltaOf_at (x : Vec Ideal S1x1x1x1024 .f32) (y : Vec Ideal S1x1024x512 .fp8e5m2) (z : Vec Ideal S1x1024x512 .bf16) (e : Fin 8) (r : Fin 1024) :
    deltaOf (F := Ideal) x y z (ix2 e r)
      = ∑ c : Fin 512, y (ix3 (0 : Fin 1) r c) * x (ix4 (0 : Fin 1) (0 : Fin 1) (0 : Fin 1) r) * z (ix3 (0 : Fin 1) r c) := by
  unfold deltaOf k0_pay28
  rw [shapeCast_self]
  refine (transpose_ix2_apply _ _ e r).trans ?_
  refine (colBroadcast_at (by decide) _ _ r e).trans ?_
  rw [shapeCast_self]
  refine (shapeCast_apply _ _ (ix2 r (0 : Fin 1)) (ix1 r) ?_).trans ?_
  · rw [Shape.rowMajor_val_one, Shape.rowMajor_val_two]
    show r.val = r.val * 1 + 0
    omega
  · refine (Cert.Dots.sum2_apply (mulf (k0_pay24 (F := Ideal) x y) (extf .f32 (shapeCast S1024x512 z shapeCasts_S1x1024x512_S1024x512) bitsLt_bf16_f32))
      reduces_S1024x512_S1024 _ _ r).trans (Finset.sum_congr rfl fun c _ => ?_)
    show k0_pay24 (F := Ideal) x y (ix2 r c) * shapeCast S1024x512 z shapeCasts_S1x1024x512_S1024x512 (ix2 r c) = _
    rw [pay24_at, shapeCast_1ab_ab_apply z shapeCasts_S1x1024x512_S1024x512 r c]

end Cert.KernelIdeal.Gen

end
-- ==== Proof.Value.Tile.lean ====
/-
  One tile of the kernel, read at an index: the probabilities and score gradients of a key half and a query tile are
  the specification's, and one step of each accumulator adds the sum over its half or its tile.
-/
module

public import proofs.«01_k».proof.Proof.Value.Rows
public import Idealize.ShloMosaic.Lib.MatmulPlain

@[expose] public section

noncomputable section

namespace Cert.KernelIdeal.Gen

open Idealize.ShloMosaic hiding ix0 ix1 ix2 ix3 ix4 ix5
open Idealize.SL.Sem ValueIdx Cert.Spec

/-! ## The stacked transposed queries, row by row -/

theorem not_mem_unit {s : Shape} {off size : Fin s.rank → Nat} (inb : ∀ a, off a + size a ≤ s.size a) (y : s.Idx) (a : Fin s.rank)
    (h : (y a).val < off a) : y ∉ (Rect.unit off size inb).set := fun hy => by
  obtain ⟨x, rfl⟩ := (Rect.unit off size inb).exists_idx_of_mem hy
  have : ((Rect.unit off size inb).idx x a).val = off a + 1 * (x a).val := rfl
  omega

section Qt
variable (qi : Fin 12) (xq : Vec Ideal S1x1024x512 .bf16) (xqr : Vec Ideal S1x1024x64 .bf16) (xlse : Vec Ideal S1x1x1x1024 .f32)

/-- A row inside the first piece of a stack is that piece's. -/
theorem canon_unit_at {m n M : ℕ} {off : Fin 2 → ℕ} (o : ℕ) (h0 : off 0 = o) (h1 : off 1 = 0)
    (inb : ∀ a, off a + (⟨2, ![m, n]⟩ : Shape).size a ≤ (⟨2, ![M, n]⟩ : Shape).size a)
    (w : (⟨2, ![m, n]⟩ : Shape).Idx → EReal) (L : List (View.Piece (Elt Ideal) (⟨2, ![M, n]⟩ : Shape) .bf16)) (i : Fin m) (r : Fin n) (k : Fin M)
    (hk : k.val = o + i.val) :
    View.canon (Val := Elt Ideal) (e := .bf16) (⟨Rect.unit (s := (⟨2, ![M, n]⟩ : Shape)) off (⟨2, ![m, n]⟩ : Shape).size inb, w⟩ :: L) (ix2 k r) = w (ix2 i r) := by
  have e : (Rect.unit (s := (⟨2, ![M, n]⟩ : Shape)) off (⟨2, ![m, n]⟩ : Shape).size inb).emb (ix2 i r) = ix2 k r := by
    funext a; apply Fin.ext
    match a with
    | ⟨0, _⟩ => show off 0 + 1 * i.val = k.val; omega
    | ⟨1, _⟩ => show off 1 + 1 * r.val = r.val; omega
  rw [← e]
  exact View.canon_cons_emb _ _ _ _

/-- A row before the first piece of a stack is the rest's. -/
theorem canon_unit_skip {m n M : ℕ} {off : Fin 2 → ℕ} (o : ℕ) (h0 : off 0 = o)
    (inb : ∀ a, off a + (⟨2, ![m, n]⟩ : Shape).size a ≤ (⟨2, ![M, n]⟩ : Shape).size a)
    (w : (⟨2, ![m, n]⟩ : Shape).Idx → EReal) (L : List (View.Piece (Elt Ideal) (⟨2, ![M, n]⟩ : Shape) .bf16)) (r : Fin n) (k : Fin M)
    (hk : k.val < o) :
    View.canon (Val := Elt Ideal) (e := .bf16) (⟨Rect.unit (s := (⟨2, ![M, n]⟩ : Shape)) off (⟨2, ![m, n]⟩ : Shape).size inb, w⟩ :: L) (ix2 k r)
      = View.canon (Val := Elt Ideal) (e := .bf16) L (ix2 k r) :=
  View.canon_cons_of_not_mem _ _ (not_mem_unit inb _ 0 (by show k.val < off 0; omega))

/-- The rows of the stacked queries that pick a query's token. -/
theorem qt_token (t : Fin 128) (r : Fin 1024) :
    qtOf (F := Ideal) (BitVec.ofNat 32 qi.val) xq xqr xlse (ix2 (⟨640 + t.val, by omega⟩ : Fin 768) r) = if (qi.val * 1024 + r.val) / 32 % 128 = t.val then 1 else 0 := by
  refine Eq.trans ?_ (pay23_at qi t r)
  exact canon_unit_at 640 rfl rfl _ _ _ t r _ rfl

/-- The rows of the stacked queries below the rotary part: minus the log-sum over the scale, then zeros. -/
theorem qt_lse (i : Fin 64) (r : Fin 1024) (l : ℝ) (hl : xlse (ix4 (0 : Fin 1) (0 : Fin 1) (0 : Fin 1) r) = (l : EReal)) :
    qtOf (F := Ideal) (BitVec.ofNat 32 qi.val) xq xqr xlse (ix2 (⟨576 + i.val, by omega⟩ : Fin 768) r) = if i.val = 0 then (l : EReal) * ((-(Real.sqrt 192) : ℝ) : EReal) else 0 := by
  refine (canon_unit_skip 640 rfl _ _ _ r _ (by show 576 + i.val < 640; omega)).trans ?_
  by_cases hi : i.val < 16
  · refine (canon_unit_skip 592 rfl _ _ _ r _ (by show 576 + i.val < 592; omega)).trans ?_
    refine Eq.trans ?_ (pay20_at xlse ⟨i.val, hi⟩ r l hl)
    exact canon_unit_at 576 rfl rfl _ _ _ (⟨i.val, hi⟩ : Fin 16) r _ rfl
  · rw [if_neg (by omega)]
    refine Eq.trans ?_ (pay21_at (ix2 (⟨i.val - 16, by omega⟩ : Fin 48) r))
    exact canon_unit_at 592 rfl rfl _ _ _ (⟨i.val - 16, by omega⟩ : Fin 48) r _ (by show 576 + i.val = 592 + (i.val - 16); omega)

/-- The rotary rows of the stacked queries. -/
theorem qt_rot (d : Fin 64) (r : Fin 1024) :
    qtOf (F := Ideal) (BitVec.ofNat 32 qi.val) xq xqr xlse (ix2 (⟨512 + d.val, by omega⟩ : Fin 768) r) = xqr (ix3 (0 : Fin 1) r d) := by
  refine (canon_unit_skip 640 rfl _ _ _ r _ (by show 512 + d.val < 640; omega)).trans ?_
  refine (canon_unit_skip 592 rfl _ _ _ r _ (by show 512 + d.val < 592; omega)).trans ?_
  refine (canon_unit_skip 576 rfl _ _ _ r _ (by show 512 + d.val < 576; omega)).trans ?_
  refine Eq.trans ?_ (pay11_at xqr d r)
  exact canon_unit_at 512 rfl rfl _ _ _ d r _ rfl

/-- The query rows of the stacked queries. -/
theorem qt_q (c : Fin 512) (r : Fin 1024) :
    qtOf (F := Ideal) (BitVec.ofNat 32 qi.val) xq xqr xlse (ix2 (⟨c.val, by omega⟩ : Fin 768) r) = xq (ix3 (0 : Fin 1) r c) := by
  refine (canon_unit_skip 640 rfl _ _ _ r _ (by show c.val < 640; omega)).trans ?_
  refine (canon_unit_skip 592 rfl _ _ _ r _ (by show c.val < 592; omega)).trans ?_
  refine (canon_unit_skip 576 rfl _ _ _ r _ (by show c.val < 576; omega)).trans ?_
  refine (canon_unit_skip 512 rfl _ _ _ r _ (by show c.val < 512; omega)).trans ?_
  refine Eq.trans ?_ (pay9_at xq c r)
  exact canon_unit_at 0 rfl rfl _ _ _ c r _ (Nat.zero_add _).symm

end Qt

/-! ## The probabilities and the score gradients of a key half -/

theorem pay43_at (u : Vec Ideal S1x256x512 .bf16) (v : Vec Ideal S1x256x128 .bf16) (w : Vec Ideal S1x1x256x128 .bf16) (qt : Vec Ideal S768x1024 .bf16)
    (s : Fin 256) (r : Fin 1024) :
    k0_pay43 (F := Ideal) u v w qt (ix2 s r) = Ideal.exp2 (((∑ i : Fin 512, u (ix3 (0 : Fin 1) s i) * qt (ix2 (⟨i.val, by omega⟩ : Fin 768) r))
      + (∑ i : Fin 64, v (ix3 (0 : Fin 1) s (⟨i.val, by omega⟩ : Fin 128)) * qt (ix2 (⟨512 + i.val, by omega⟩ : Fin 768) r))
      + (∑ i : Fin 64, v (ix3 (0 : Fin 1) s (⟨64 + i.val, by omega⟩ : Fin 128)) * qt (ix2 (⟨576 + i.val, by omega⟩ : Fin 768) r))
      + ∑ i : Fin 128, w (ix4 (0 : Fin 1) (0 : Fin 1) s i) * qt (ix2 (⟨640 + i.val, by omega⟩ : Fin 768) r))
      * (((Real.sqrt 192)⁻¹ * (Real.log 2)⁻¹ : ℝ) : EReal)) := by
  let cat : FVec Ideal S256x768 .bf16 := concatenate S256x768 1 [⟨S256x512, k0_pay42 u⟩, ⟨S256x128, shapeCast S256x128 v shapeCasts_S1x256x128_S256x128⟩,
    ⟨S256x128, shapeCast S256x128 w shapeCasts_S1x1x256x128_S256x128⟩] concatenates_S256x512_S256x128_S256x128_S256x768_d1
  have c1 : ∀ i : Fin 512, cat (ix2 s (⟨i.val, by omega⟩ : Fin 768)) = u (ix3 (0 : Fin 1) s i) := fun i => by
    refine Eq.trans ?_ (shapeCast_1ab_ab_apply u shapeCasts_S1x256x512_S256x512 s i)
    exact concatenate_apply_piece (t := S256x768) 1 _ _ _ 0 (by show 0 < 3; decide) S256x512 (k0_pay42 u) rfl rfl 0 rfl (ix2 s i)
      (fun b hb => by match b with | ⟨0, _⟩ => rfl | ⟨1, _⟩ => exact absurd rfl hb) (Nat.zero_add _)
  have c2 : ∀ i : Fin 128, cat (ix2 s (⟨512 + i.val, by omega⟩ : Fin 768)) = v (ix3 (0 : Fin 1) s i) := fun i => by
    refine Eq.trans ?_ (shapeCast_1ab_ab_apply v shapeCasts_S1x256x128_S256x128 s i)
    exact concatenate_apply_piece (t := S256x768) 1 _ _ _ 1 (by show 1 < 3; decide) S256x128 (shapeCast S256x128 v shapeCasts_S1x256x128_S256x128) rfl rfl 512 rfl (ix2 s i)
      (fun b hb => by match b with | ⟨0, _⟩ => rfl | ⟨1, _⟩ => exact absurd rfl hb) rfl
  have c3 : ∀ i : Fin 128, cat (ix2 s (⟨640 + i.val, by omega⟩ : Fin 768)) = w (ix4 (0 : Fin 1) (0 : Fin 1) s i) := fun i => by
    have e : shapeCast S256x128 w shapeCasts_S1x1x256x128_S256x128 (ix2 s i) = w (ix4 (0 : Fin 1) (0 : Fin 1) s i) :=
      shapeCast_apply w _ _ _ (by
        rw [Shape.rowMajor_val_four, Shape.rowMajor_val_two]
        show ((0 * 1 + 0) * 256 + s.val) * 128 + i.val = s.val * 128 + i.val
        omega)
    refine Eq.trans ?_ e
    exact concatenate_apply_piece (t := S256x768) 1 _ _ _ 2 (by show 2 < 3; decide) S256x128 (shapeCast S256x128 w shapeCasts_S1x1x256x128_S256x128) rfl rfl 640 rfl (ix2 s i)
      (fun b hb => by match b with | ⟨0, _⟩ => rfl | ⟨1, _⟩ => exact absurd rfl hb) rfl
  have m1 := Ideal.matmul_plain_apply (φ₁ := .bf16) (φ₂ := .bf16) (M := 256) (K := 768) (N := 1024) none cat qt (constant (F := Ideal) S256x1024 .f32 0x00000000#32) s r
  rw [sum768] at m1
  have m0 : constant (F := Ideal) S256x1024 .f32 0x00000000#32 (ix2 s r) = 0 := Ideal.ofBits_zero_f32
  rw [m0, zero_add] at m1
  simp only [c1, c3] at m1
  have c2a : ∀ i : Fin 64, cat (ix2 s (⟨512 + i.val, by omega⟩ : Fin 768)) = v (ix3 (0 : Fin 1) s (⟨i.val, by omega⟩ : Fin 128)) :=
    fun i => c2 ⟨i.val, by omega⟩
  have c2b : ∀ i : Fin 64, cat (ix2 s (⟨576 + i.val, by omega⟩ : Fin 768)) = v (ix3 (0 : Fin 1) s (⟨64 + i.val, by omega⟩ : Fin 128)) := fun i => by
    rw [← c2 ⟨64 + i.val, by omega⟩]
    exact congrArg (fun z => cat (ix2 s z)) (Fin.ext (by show 576 + i.val = 512 + (64 + i.val); omega))
  simp only [c2a, c2b] at m1
  rw [← m1, ← c2_eq]
  rfl

/-- Query row `r` of tile `qi`, and key `s` of half `half` of tile `j`, among all; the key's place in its tile. -/
def qrow (qi : Fin 12) (r : Fin 1024) : Fin 12288 := ⟨qi.val * 1024 + r.val, by omega⟩
/-- A half's row within its key block. -/
def inTile (half : Bool) (s : Fin 256) : Fin 512 := ⟨(if half then 256 else 0) + s.val, by split <;> omega⟩
/-- The key at a row of key block `j`. -/
def key (j : Fin 25) (s : Fin 512) : Fin 12800 := ⟨j.val * 512 + s.val, by omega⟩

/-- The blocks a tile is computed from are the arguments' at batch `b`, query tile `qi` and key tile `j`; the log-sums
    are finite and column 64 of the extension is one. -/
structure QBlocks (a : Args) (b : Fin 8) (qi : Fin 12) (xq : Vec Ideal S1x1024x512 .bf16) (xqr : Vec Ideal S1x1024x64 .bf16)
    (xo : Vec Ideal S1x1024x512 .bf16) (xdo : Vec Ideal S1x1024x512 .fp8e5m2) (xdos xlse : Vec Ideal S1x1x1x1024 .f32) : Prop where
  q : ∀ r c, xq (ix3 (0 : Fin 1) r c) = a.q b (qrow qi r) c
  qr : ∀ r d, xqr (ix3 (0 : Fin 1) r d) = a.qr b (qrow qi r) d
  o : ∀ r c, xo (ix3 (0 : Fin 1) r c) = a.o b (qrow qi r) c
  g : ∀ r c, xdo (ix3 (0 : Fin 1) r c) = a.g b (qrow qi r) c
  gs : ∀ r, xdos (ix4 (0 : Fin 1) (0 : Fin 1) (0 : Fin 1) r) = a.gs b (qrow qi r)
  lse : ∀ r, xlse (ix4 (0 : Fin 1) (0 : Fin 1) (0 : Fin 1) r) = a.lse b (qrow qi r)
  fin : ∀ r, ∃ l : ℝ, a.lse b (qrow qi r) = (l : EReal)

/-- The blocks of keys, extended columns and bias read at a step, by coordinates. -/
structure KBlocks (a : Args) (b : Fin 8) (qi : Fin 12) (j : Fin 25) (xk : Vec Ideal S1x512x512 .bf16) (xkx : Vec Ideal S1x512x128 .bf16)
    (xb : Vec Ideal S1x1x512x128 .bf16) : Prop where
  k : ∀ s c, xk (ix3 (0 : Fin 1) s c) = a.k b (key j s) c
  kr : ∀ (s : Fin 512) (d : Fin 64), xkx (ix3 (0 : Fin 1) s (⟨d.val, by omega⟩ : Fin 128)) = a.kr b (key j s) d
  one : ∀ s : Fin 512, xkx (ix3 (0 : Fin 1) s (64 : Fin 128)) = 1
  bias : ∀ (s : Fin 512) (r : Fin 1024), xb (ix4 (0 : Fin 1) (0 : Fin 1) s (⟨(qi.val * 1024 + r.val) / 32 % 128, by omega⟩ : Fin 128))
    = a.bias b (qrow qi r) (key j s)

section Tile
variable {a : Args} {b : Fin 8} {qi : Fin 12} {j : Fin 25} {xq : Vec Ideal S1x1024x512 .bf16} {xqr : Vec Ideal S1x1024x64 .bf16}
  {xo : Vec Ideal S1x1024x512 .bf16} {xdo : Vec Ideal S1x1024x512 .fp8e5m2} {xdos xlse : Vec Ideal S1x1x1x1024 .f32}
  {xk : Vec Ideal S1x512x512 .bf16} {xkx : Vec Ideal S1x512x128 .bf16} {xb : Vec Ideal S1x1x512x128 .bf16}

/-- The probabilities of a key half whose rows are `u`, `v`, `w`. -/
theorem prob_half (hq : QBlocks a b qi xq xqr xo xdo xdos xlse) (hk : KBlocks a b qi j xk xkx xb)
    (u : Vec Ideal S1x256x512 .bf16) (v : Vec Ideal S1x256x128 .bf16) (w : Vec Ideal S1x1x256x128 .bf16) (s : Fin 256) (s' : Fin 512)
    (hu : ∀ c : Fin 512, u (ix3 (0 : Fin 1) s c) = xk (ix3 (0 : Fin 1) s' c)) (hv : ∀ c : Fin 128, v (ix3 (0 : Fin 1) s c) = xkx (ix3 (0 : Fin 1) s' c))
    (hw : ∀ c : Fin 128, w (ix4 (0 : Fin 1) (0 : Fin 1) s c) = xb (ix4 (0 : Fin 1) (0 : Fin 1) s' c)) (r : Fin 1024) :
    k0_pay43 (F := Ideal) u v w (qtOf (BitVec.ofNat 32 qi.val) xq xqr xlse) (ix2 s r) = prob a b (qrow qi r) (key j s') := by
  obtain ⟨l, hl⟩ := hq.fin r
  have hl' : xlse (ix4 (0 : Fin 1) (0 : Fin 1) (0 : Fin 1) r) = (l : EReal) := (hq.lse r).trans hl
  rw [pay43_at]
  simp only [qt_q, qt_rot, qt_token, qt_lse qi xq xqr xlse _ r l hl', hu, hv, hw, hq.q, hq.qr, hk.k, hk.kr]
  have t3 : (∑ i : Fin 64, xkx (ix3 (0 : Fin 1) s' (⟨64 + i.val, by omega⟩ : Fin 128))
      * (if i.val = 0 then (l : EReal) * ((-(Real.sqrt 192) : ℝ) : EReal) else 0)) = (l : EReal) * ((-(Real.sqrt 192) : ℝ) : EReal) := by
    rw [Finset.sum_eq_single (0 : Fin 64)]
    · exact (congrArg₂ (· * ·) (hk.one s') (if_pos (show (0 : Fin 64).val = 0 from rfl))).trans (one_mul _)
    · intro i _ hi
      exact (congrArg _ (if_neg (show ¬ i.val = 0 from fun h => hi (Fin.ext h)))).trans (mul_zero _)
    · intro h; exact absurd (Finset.mem_univ _) h
  have t4 : (∑ i : Fin 128, xb (ix4 (0 : Fin 1) (0 : Fin 1) s' i) * (if (qi.val * 1024 + r.val) / 32 % 128 = i.val then (1 : EReal) else 0))
      = a.bias b (qrow qi r) (key j s') := by
    rw [← hk.bias s' r, Finset.sum_eq_single (⟨(qi.val * 1024 + r.val) / 32 % 128, by omega⟩ : Fin 128)]
    · rw [if_pos rfl, mul_one]
    · intro i _ hi
      rw [if_neg (fun h => hi (Fin.ext h.symm)), mul_zero]
    · intro h; exact absurd (Finset.mem_univ _) h
  rw [t3, t4, add_right_comm, exp2_folded, ← hl]
  unfold prob score
  congr 3
  congr 1
  exact congrArg₂ (· + ·) (Finset.sum_congr rfl fun c _ => mul_comm _ _) (Finset.sum_congr rfl fun c _ => mul_comm _ _)

/-- A row of the first half of a key block. -/
theorem ld_k0 (s : Fin 256) (c : Fin 512) :
    View.ld (Val := Elt Ideal) (e' := .bf16) xk kR0 (ix3 (0 : Fin 1) s c) = xk (ix3 (0 : Fin 1) (inTile false s) c) := by
  refine congrArg xk (funext fun ax => Fin.ext ?_)
  match ax with
  | ⟨0, _⟩ => rfl
  | ⟨1, _⟩ => show 0 + 1 * s.val = 0 + s.val; omega
  | ⟨2, _⟩ => show 0 + 1 * c.val = c.val; omega
/-- A row of the first half of the extended columns. -/
theorem ld_kx0 (s : Fin 256) (c : Fin 128) :
    View.ld (Val := Elt Ideal) (e' := .bf16) xkx kxR0 (ix3 (0 : Fin 1) s c) = xkx (ix3 (0 : Fin 1) (inTile false s) c) := by
  refine congrArg xkx (funext fun ax => Fin.ext ?_)
  match ax with
  | ⟨0, _⟩ => rfl
  | ⟨1, _⟩ => show 0 + 1 * s.val = 0 + s.val; omega
  | ⟨2, _⟩ => show 0 + 1 * c.val = c.val; omega
/-- A row of the first half of the bias. -/
theorem ld_b0 (s : Fin 256) (c : Fin 128) :
    View.ld (Val := Elt Ideal) (e' := .bf16) xb bR0 (ix4 (0 : Fin 1) (0 : Fin 1) s c) = xb (ix4 (0 : Fin 1) (0 : Fin 1) (inTile false s) c) := by
  refine congrArg xb (funext fun ax => Fin.ext ?_)
  match ax with
  | ⟨0, _⟩ => rfl
  | ⟨1, _⟩ => rfl
  | ⟨2, _⟩ => show 0 + 1 * s.val = 0 + s.val; omega
  | ⟨3, _⟩ => show 0 + 1 * c.val = c.val; omega
/-- A row of the second half of a key block. -/
theorem ld_k1 (s : Fin 256) (c : Fin 512) :
    View.ld (Val := Elt Ideal) (e' := .bf16) xk kR1 (ix3 (0 : Fin 1) s c) = xk (ix3 (0 : Fin 1) (inTile true s) c) := by
  refine congrArg xk (funext fun ax => Fin.ext ?_)
  match ax with
  | ⟨0, _⟩ => rfl
  | ⟨1, _⟩ => show 256 + 1 * s.val = 256 + s.val; omega
  | ⟨2, _⟩ => show 0 + 1 * c.val = c.val; omega
/-- A row of the second half of the extended columns. -/
theorem ld_kx1 (s : Fin 256) (c : Fin 128) :
    View.ld (Val := Elt Ideal) (e' := .bf16) xkx kxR1 (ix3 (0 : Fin 1) s c) = xkx (ix3 (0 : Fin 1) (inTile true s) c) := by
  refine congrArg xkx (funext fun ax => Fin.ext ?_)
  match ax with
  | ⟨0, _⟩ => rfl
  | ⟨1, _⟩ => show 256 + 1 * s.val = 256 + s.val; omega
  | ⟨2, _⟩ => show 0 + 1 * c.val = c.val; omega
/-- A row of the second half of the bias. -/
theorem ld_b1 (s : Fin 256) (c : Fin 128) :
    View.ld (Val := Elt Ideal) (e' := .bf16) xb bR1 (ix4 (0 : Fin 1) (0 : Fin 1) s c) = xb (ix4 (0 : Fin 1) (0 : Fin 1) (inTile true s) c) := by
  refine congrArg xb (funext fun ax => Fin.ext ?_)
  match ax with
  | ⟨0, _⟩ => rfl
  | ⟨1, _⟩ => rfl
  | ⟨2, _⟩ => show 256 + 1 * s.val = 256 + s.val; omega
  | ⟨3, _⟩ => show 0 + 1 * c.val = c.val; omega

/-- THE PROBABILITIES of a half are the specification's. -/
theorem pOf_at (hq : QBlocks a b qi xq xqr xo xdo xdos xlse) (hk : KBlocks a b qi j xk xkx xb) (half : Bool) (s : Fin 256) (r : Fin 1024) :
    pOf (F := Ideal) half xk xkx xb (qtOf (BitVec.ofNat 32 qi.val) xq xqr xlse) (ix2 s r) = prob a b (qrow qi r) (key j (inTile half s)) := by
  cases half
  · unfold pOf k0_pay44
    refine (congrFun (shapeCast_self _ _) (ix2 s r)).trans ?_
    exact prob_half hq hk (View.ld (Val := Elt Ideal) (e' := .bf16) xk kR0) (View.ld (Val := Elt Ideal) (e' := .bf16) xkx kxR0) (View.ld (Val := Elt Ideal) (e' := .bf16) xb bR0) s (inTile false s)
      (ld_k0 s) (ld_kx0 s) (ld_b0 s) r
  · unfold pOf k0_pay44
    refine (congrFun (shapeCast_self _ _) (ix2 s r)).trans ?_
    exact prob_half hq hk (View.ld (Val := Elt Ideal) (e' := .bf16) xk kR1) (View.ld (Val := Elt Ideal) (e' := .bf16) xkx kxR1) (View.ld (Val := Elt Ideal) (e' := .bf16) xb bR1) s (inTile true s)
      (ld_k1 s) (ld_kx1 s) (ld_b1 s) r

/-- The score gradients of a half block are the specification's. -/
theorem ds_half (hq : QBlocks a b qi xq xqr xo xdo xdos xlse) (hk : KBlocks a b qi j xk xkx xb)
    (u : Vec Ideal S1x256x512 .bf16) (v : Vec Ideal S1x256x128 .bf16) (w : Vec Ideal S1x1x256x128 .bf16) (s : Fin 256) (s' : Fin 512)
    (hu : ∀ c : Fin 512, u (ix3 (0 : Fin 1) s c) = xk (ix3 (0 : Fin 1) s' c)) (hv : ∀ c : Fin 128, v (ix3 (0 : Fin 1) s c) = xkx (ix3 (0 : Fin 1) s' c))
    (hw : ∀ c : Fin 128, w (ix4 (0 : Fin 1) (0 : Fin 1) s c) = xb (ix4 (0 : Fin 1) (0 : Fin 1) s' c)) (r : Fin 1024) :
    k0_pay45 (F := Ideal) u v w (qtOf (BitVec.ofNat 32 qi.val) xq xqr xlse) (dotOf xdos xdo) (View.ld (Val := Elt Ideal) (e' := .f32) (deltaOf xdos xdo xo) dR) (ix2 s r)
      = ds a b (qrow qi r) (key j s') := by
  have m1 := Ideal.matmul_plain_apply (φ₁ := .bf16) (φ₂ := .bf16) (M := 256) (K := 512) (N := 1024) none (k0_pay42 (F := Ideal) u) (dotOf (F := Ideal) xdos xdo) (constant (F := Ideal) S256x1024 .f32 0x00000000#32) s r
  have m0 : constant (F := Ideal) S256x1024 .f32 0x00000000#32 (ix2 s r) = 0 := Ideal.ofBits_zero_f32
  rw [m0, zero_add] at m1
  have c1 : ∀ i : Fin 512, k0_pay42 (F := Ideal) u (ix2 s i) = a.k b (key j s') i := fun i => by
    rw [← hk.k, ← hu]
    exact shapeCast_1ab_ab_apply u shapeCasts_S1x256x512_S256x512 s i
  simp only [c1, dotOf_at, hq.g, hq.gs] at m1
  have b1 : broadcastTo S256x1024 (View.ld (Val := Elt Ideal) (e' := .f32) (deltaOf (F := Ideal) xdos xdo xo) dR) broadcasts_S1x1024_S256x1024 (ix2 s r)
      = delta a b (qrow qi r) := by
    refine (rowBroadcast_at (by decide) _ _ s r).trans ?_
    refine Eq.trans (congrArg (deltaOf (F := Ideal) xdos xdo xo) ?_ : _ = deltaOf (F := Ideal) xdos xdo xo (ix2 (0 : Fin 8) r)) ?_
    · funext ax; apply Fin.ext
      match ax with
      | ⟨0, _⟩ => rfl
      | ⟨1, _⟩ => show 0 + 1 * r.val = r.val; omega
    · rw [deltaOf_at]
      simp only [hq.g, hq.gs, hq.o]
      rfl
  unfold k0_pay45
  simp only [shapeCast_self]
  have key2 : ∀ P M D : EReal, P = prob a b (qrow qi r) (key j s') → M = (∑ c : Fin 512, a.k b (key j s') c * (a.g b (qrow qi r) c * a.gs b (qrow qi r))) →
      D = delta a b (qrow qi r) → P * (M - D) = ds a b (qrow qi r) (key j s') := by
    intro P M D hP hM hD
    rw [hP, hM, hD]
    unfold ds gd
    congr 2
    exact Finset.sum_congr rfl fun c _ => mul_comm _ _
  exact key2 _ _ _ (prob_half hq hk u v w s s' hu hv hw r) m1 b1

/-- THE SCORE GRADIENTS of a half are the specification's. -/
theorem dsOf_at (hq : QBlocks a b qi xq xqr xo xdo xdos xlse) (hk : KBlocks a b qi j xk xkx xb) (half : Bool) (s : Fin 256) (r : Fin 1024) :
    dsOf (F := Ideal) half xk xkx xb (qtOf (BitVec.ofNat 32 qi.val) xq xqr xlse) (dotOf xdos xdo) (deltaOf xdos xdo xo) (ix2 s r)
      = ds a b (qrow qi r) (key j (inTile half s)) := by
  cases half
  · exact ds_half hq hk (View.ld (Val := Elt Ideal) (e' := .bf16) xk kR0) (View.ld (Val := Elt Ideal) (e' := .bf16) xkx kxR0) (View.ld (Val := Elt Ideal) (e' := .bf16) xb bR0) s (inTile false s)
      (ld_k0 s) (ld_kx0 s) (ld_b0 s) r
  · exact ds_half hq hk (View.ld (Val := Elt Ideal) (e' := .bf16) xk kR1) (View.ld (Val := Elt Ideal) (e' := .bf16) xkx kxR1) (View.ld (Val := Elt Ideal) (e' := .bf16) xb bR1) s (inTile true s)
      (ld_k1 s) (ld_kx1 s) (ld_b1 s) r

end Tile

/-! ## One step of each accumulator -/

theorem dqZero_at (i : S576x1024.Idx) : dqZero (F := Ideal) i = 0 := by
  unfold dqZero k0_pay29
  rw [shapeCast_self]
  exact Ideal.ofBits_zero_f32

/-- One half added to the query gradient, by coordinates. -/
theorem dqStep_at (acc : Vec Ideal S576x1024 .f32) (d : Vec Ideal S256x1024 .bf16) (kt : Vec Ideal S1x576x256 .bf16) (c : Fin 576) (r : Fin 1024) :
    dqStep (F := Ideal) acc d kt (ix2 c r) = acc (ix2 c r) + ∑ s : Fin 256, d (ix2 s r) * kt (ix3 (0 : Fin 1) c s) := by
  have m1 := Ideal.matmul_plain_apply (φ₁ := .bf16) (φ₂ := .bf16) (M := 576) (K := 256) (N := 1024) none (shapeCast S576x256 kt shapeCasts_S1x576x256_S576x256) d (constant (F := Ideal) S576x1024 .f32 0x00000000#32) c r
  have m0 : constant (F := Ideal) S576x1024 .f32 0x00000000#32 (ix2 c r) = 0 := Ideal.ofBits_zero_f32
  have e : ∀ s : Fin 256, shapeCast S576x256 kt shapeCasts_S1x576x256_S576x256 (ix2 c s) = kt (ix3 (0 : Fin 1) c s) := fun s =>
    shapeCast_1ab_ab_apply kt shapeCasts_S1x576x256_S576x256 c s
  rw [m0, zero_add] at m1
  simp only [e] at m1
  unfold dqStep k0_pay46
  rw [shapeCast_self]
  refine congrArg (acc (ix2 c r) + ·) (m1.trans (Finset.sum_congr rfl fun s _ => mul_comm _ _))

/-- One query tile added to the compressed-key gradient, by coordinates. -/
theorem dcStep_at (acc : Vec Ideal S256x512 .f32) (p d : Vec Ideal S256x1024 .bf16) (dov q : Vec Ideal S1024x512 .bf16) (s : Fin 256) (c : Fin 512) :
    dcStep (F := Ideal) acc p d dov q (ix2 s c)
      = acc (ix2 s c) + ((∑ r : Fin 1024, p (ix2 s r) * dov (ix2 r c)) + sm * ∑ r : Fin 1024, d (ix2 s r) * q (ix2 r c)) := by
  have m1 := Ideal.matmul_plain_apply (φ₁ := .bf16) (φ₂ := .bf16) (M := 256) (K := 1024) (N := 512) none p dov (constant (F := Ideal) S256x512 .f32 0x00000000#32) s c
  have m2 := Ideal.matmul_plain_apply (φ₁ := .bf16) (φ₂ := .bf16) (M := 256) (K := 1024) (N := 512) none d q (constant (F := Ideal) S256x512 .f32 0x00000000#32) s c
  have m0 : constant (F := Ideal) S256x512 .f32 0x00000000#32 (ix2 s c) = 0 := Ideal.ofBits_zero_f32
  rw [m0, zero_add] at m1 m2
  unfold dcStep k0_pay47
  rw [shapeCast_self, ← m1, ← m2, ← sm_eq]
  rfl

/-- One query tile added to the rotary-key gradient, by coordinates. -/
theorem dkStep_at (acc : Vec Ideal S64x256 .f32) (d : Vec Ideal S256x1024 .bf16) (qt : Vec Ideal S768x1024 .bf16) (e : Fin 64) (s : Fin 256) :
    dkStep (F := Ideal) acc d qt (ix2 e s)
      = acc (ix2 e s) + sm * ∑ r : Fin 1024, d (ix2 s r) * qt (ix2 (⟨512 + e.val, by omega⟩ : Fin 768) r) := by
  have m1 := Ideal.matmul_transposedRhs_apply (φ₁ := .bf16) (φ₂ := .bf16) (M := 64) (K := 1024) (N := 256) none (View.ld (Val := Elt Ideal) (e' := .bf16) qt qrR) d (constant (F := Ideal) S64x256 .f32 0x00000000#32) e s
  have m0 : constant (F := Ideal) S64x256 .f32 0x00000000#32 (ix2 e s) = 0 := Ideal.ofBits_zero_f32
  have g : ∀ r : Fin 1024, View.ld (Val := Elt Ideal) (e' := .bf16) qt qrR (ix2 e r) = qt (ix2 (⟨512 + e.val, by omega⟩ : Fin 768) r) := fun r => by
    refine congrArg qt (funext fun ax => Fin.ext ?_)
    match ax with
    | ⟨0, _⟩ => show 512 + 1 * e.val = 512 + e.val; omega
    | ⟨1, _⟩ => show 0 + 1 * r.val = r.val; omega
  rw [m0, zero_add] at m1
  simp only [g] at m1
  have m2 : (∑ r : Fin 1024, d (ix2 s r) * qt (ix2 (⟨512 + e.val, by omega⟩ : Fin 768) r))
      = ∑ r : Fin 1024, qt (ix2 (⟨512 + e.val, by omega⟩ : Fin 768) r) * d (ix2 s r) := Finset.sum_congr rfl fun r _ => mul_comm _ _
  unfold dkStep k0_pay48
  rw [shapeCast_self, m2, ← m1, ← sm_eq]
  rfl

/-- The query gradient written out, by coordinates. -/
theorem dqOut_at (acc : Vec Ideal S576x1024 .f32) (u : Fin 1) (r : Fin 1024) (c : Fin 512) :
    dqOut (F := Ideal) acc (ix3 u r c) = acc (ix2 (⟨c.val, by omega⟩ : Fin 576) r) * sm := by
  unfold dqOut k0_pay6
  refine (shapeCast_ab_1ab_apply _ _ u r c).trans ((transpose_ix2_apply _ _ r c).trans ?_)
  rw [← sm_eq]
  refine congrArg (· * _) (congrArg acc (funext fun ax => Fin.ext ?_))
  match ax with
  | ⟨0, _⟩ => show 0 + 1 * c.val = c.val; omega
  | ⟨1, _⟩ => show 0 + 1 * r.val = r.val; omega

/-- The rotary query gradient written out, by coordinates. -/
theorem dqrOut_at (acc : Vec Ideal S576x1024 .f32) (u : Fin 1) (r : Fin 1024) (d : Fin 64) :
    dqrOut (F := Ideal) acc (ix3 u r d) = acc (ix2 (⟨512 + d.val, by omega⟩ : Fin 576) r) * sm := by
  unfold dqrOut k0_pay7
  refine (shapeCast_ab_1ab_apply _ _ u r d).trans ((transpose_ix2_apply _ _ r d).trans ?_)
  rw [← sm_eq]
  refine congrArg (· * _) (congrArg acc (funext fun ax => Fin.ext ?_))
  match ax with
  | ⟨0, _⟩ => show 512 + 1 * d.val = 512 + d.val; omega
  | ⟨1, _⟩ => show 0 + 1 * r.val = r.val; omega

end Cert.KernelIdeal.Gen

end
-- ==== Proof.Value.Blocks.lean ====
/-
  The block of each window at a grid point, at an index: the argument array at the place the window's index map gives.
-/
module

public import proofs.«01_k».proof.Proof.Ideal.Data
public import proofs.«01_k».proof.Proof.Value.Tile

@[expose] public section

noncomputable section

namespace Cert.KernelIdeal.Gen

open Idealize.ShloMosaic hiding ix0 ix1 ix2 ix3 ix4 ix5
open Idealize.ShloMosaic.TcCoe Idealize.SL Idealize.SL.Sem ValueIdx Cert.Spec

/-! ## The index maps -/

/-- A point of the grid by its coordinates. -/
def at3 (x : Fin 8) (y : Fin 12) (z : Fin 26) : grid0.Coords := fun | 0 => x | 1 => y | 2 => z

/-- A batch number as a word and back. -/
theorem word8 : ∀ x : Fin 8, (BitVec.ofNat 32 x.val).toNat = x.val := by decide
/-- A query tile number as a word and back. -/
theorem word12 : ∀ x : Fin 12, (BitVec.ofNat 32 x.val).toNat = x.val := by decide
/-- The key block of a step, in words. -/
theorem tile_word : ∀ x : Fin 26, (Scalar.minsi (BitVec.ofNat 32 x.val) 24#32).toNat = min x.val 24 := by decide
/-- The half a step computes, in words. -/
theorem half_word : ∀ x : Fin 26, (Scalar.muli 2#32 (Scalar.minsi (BitVec.ofNat 32 x.val) 24#32)).toNat = 2 * min x.val 24 := by decide
/-- The half the step before left, in words. -/
theorem prev_word : ∀ x : Fin 26, (Scalar.maxsi (Scalar.subi (Scalar.muli 2#32 (BitVec.ofNat 32 x.val)) 1#32) 0#32).toNat = 2 * x.val - 1 := by decide
/-- The token group of a query tile, in words. -/
theorem seq_word : ∀ x : Fin 12, cc0_transform_8 (at3 0 x 0) 1 = x.val / 4 := by decide +kernel

section Coords
variable (b : Fin 8) (qi : Fin 12) (j : Fin 26)

/-- The number of a point. -/
theorem pt_val : (pt b.val qi.val j.val).val = (b.val * 12 + qi.val) * 26 + j.val := by
  show ((b.val * 12 + qi.val) * 26 + j.val) % 2496 = _
  omega
/-- A point's batch. -/
theorem pt_0 : (grid0.coords (pt b.val qi.val j.val) 0).val = b.val := by
  have h : (grid0.coords (pt b.val qi.val j.val) 0).val = (pt b.val qi.val j.val).val / 312 % 8 := grid0.coords_val _ 0 (by decide) rfl
  rw [h, pt_val]; omega
/-- A point's query tile. -/
theorem pt_1 : (grid0.coords (pt b.val qi.val j.val) 1).val = qi.val := by
  have h : (grid0.coords (pt b.val qi.val j.val) 1).val = (pt b.val qi.val j.val).val / 26 % 12 := grid0.coords_val _ 1 (by decide) rfl
  rw [h, pt_val]; omega
/-- A point's step. -/
theorem pt_2 : (grid0.coords (pt b.val qi.val j.val) 2).val = j.val := by
  have h : (grid0.coords (pt b.val qi.val j.val) 2).val = (pt b.val qi.val j.val).val / 1 % 26 := grid0.coords_val _ 2 (by decide) rfl
  rw [h, pt_val]; omega

end Coords

/-! ## The blocks -/

section Blocks
variable (m : (ℓ : Loc nD τ sig) → Buf (Elt Ideal) ℓ) (c : Dev nD) (b : Fin 8) (qi : Fin 12) (j : Fin 26)

/-- A point's block of argument window 0, by coordinates. -/
theorem iblk_0_at (x : Fin 1) (y : Fin 1024) (z : Fin 512) : (iblk (F := Ideal) m c 0 (pt b.val qi.val j.val) : S1x1024x512.Idx → EReal) (ix3 x y z)
    = (m ((c : Thread nD τ).loc main_arg0) : S8x12288x512.Idx → EReal) (ix3 b (⟨qi.val * 1024 + y.val, by omega⟩ : Fin 12288) z) := by
  have i0 : win0_0.index (pt b.val qi.val j.val) 0 = b.val := (word8 (grid0.coords (pt b.val qi.val j.val) 0)).trans (pt_0 b qi j)
  have i1 : win0_0.index (pt b.val qi.val j.val) 1 = qi.val := (word12 (grid0.coords (pt b.val qi.val j.val) 1)).trans (pt_1 b qi j)
  have i2 : win0_0.index (pt b.val qi.val j.val) 2 = 0 := rfl
  unfold iblk
  rw [View.read_apply]
  show V m c main_arg0 _ = m (c.tc.loc main_arg0) _
  unfold V
  refine congrArg (m (c.tc.loc main_arg0)) (funext fun ax => Fin.ext ?_)
  match ax with
  | ⟨0, _⟩ => show win0_0.index (pt b.val qi.val j.val) 0 * 1 + 1 * x.val = b.val; rw [i0]; omega
  | ⟨1, _⟩ => show win0_0.index (pt b.val qi.val j.val) 1 * 1024 + 1 * y.val = qi.val * 1024 + y.val; rw [i1]; omega
  | ⟨2, _⟩ => show win0_0.index (pt b.val qi.val j.val) 2 * 512 + 1 * z.val = z.val; rw [i2]; omega

/-- A point's block of argument window 1, by coordinates. -/
theorem iblk_1_at (x : Fin 1) (y : Fin 1024) (z : Fin 64) : (iblk (F := Ideal) m c 1 (pt b.val qi.val j.val) : S1x1024x64.Idx → EReal) (ix3 x y z)
    = (m ((c : Thread nD τ).loc main_arg1) : S8x12288x64.Idx → EReal) (ix3 b (⟨qi.val * 1024 + y.val, by omega⟩ : Fin 12288) z) := by
  have i0 : win0_1.index (pt b.val qi.val j.val) 0 = b.val := (word8 (grid0.coords (pt b.val qi.val j.val) 0)).trans (pt_0 b qi j)
  have i1 : win0_1.index (pt b.val qi.val j.val) 1 = qi.val := (word12 (grid0.coords (pt b.val qi.val j.val) 1)).trans (pt_1 b qi j)
  have i2 : win0_1.index (pt b.val qi.val j.val) 2 = 0 := rfl
  unfold iblk
  rw [View.read_apply]
  show V m c main_arg1 _ = m (c.tc.loc main_arg1) _
  unfold V
  refine congrArg (m (c.tc.loc main_arg1)) (funext fun ax => Fin.ext ?_)
  match ax with
  | ⟨0, _⟩ => show win0_1.index (pt b.val qi.val j.val) 0 * 1 + 1 * x.val = b.val; rw [i0]; omega
  | ⟨1, _⟩ => show win0_1.index (pt b.val qi.val j.val) 1 * 1024 + 1 * y.val = qi.val * 1024 + y.val; rw [i1]; omega
  | ⟨2, _⟩ => show win0_1.index (pt b.val qi.val j.val) 2 * 64 + 1 * z.val = z.val; rw [i2]; omega

/-- A point's block of argument window 2, by coordinates. -/
theorem iblk_2_at (x : Fin 1) (y : Fin 1024) (z : Fin 512) : (iblk (F := Ideal) m c 2 (pt b.val qi.val j.val) : S1x1024x512.Idx → EReal) (ix3 x y z)
    = (m ((c : Thread nD τ).loc main_arg2) : S8x12288x512.Idx → EReal) (ix3 b (⟨qi.val * 1024 + y.val, by omega⟩ : Fin 12288) z) := by
  have i0 : win0_2.index (pt b.val qi.val j.val) 0 = b.val := (word8 (grid0.coords (pt b.val qi.val j.val) 0)).trans (pt_0 b qi j)
  have i1 : win0_2.index (pt b.val qi.val j.val) 1 = qi.val := (word12 (grid0.coords (pt b.val qi.val j.val) 1)).trans (pt_1 b qi j)
  have i2 : win0_2.index (pt b.val qi.val j.val) 2 = 0 := rfl
  unfold iblk
  rw [View.read_apply]
  show V m c main_arg2 _ = m (c.tc.loc main_arg2) _
  unfold V
  refine congrArg (m (c.tc.loc main_arg2)) (funext fun ax => Fin.ext ?_)
  match ax with
  | ⟨0, _⟩ => show win0_2.index (pt b.val qi.val j.val) 0 * 1 + 1 * x.val = b.val; rw [i0]; omega
  | ⟨1, _⟩ => show win0_2.index (pt b.val qi.val j.val) 1 * 1024 + 1 * y.val = qi.val * 1024 + y.val; rw [i1]; omega
  | ⟨2, _⟩ => show win0_2.index (pt b.val qi.val j.val) 2 * 512 + 1 * z.val = z.val; rw [i2]; omega

/-- A point's block of argument window 3, by coordinates. -/
theorem iblk_3_at (x : Fin 1) (y : Fin 1024) (z : Fin 512) : (iblk (F := Ideal) m c 3 (pt b.val qi.val j.val) : S1x1024x512.Idx → EReal) (ix3 x y z)
    = (m ((c : Thread nD τ).loc main_arg3) : S8x12288x512.Idx → EReal) (ix3 b (⟨qi.val * 1024 + y.val, by omega⟩ : Fin 12288) z) := by
  have i0 : win0_3.index (pt b.val qi.val j.val) 0 = b.val := (word8 (grid0.coords (pt b.val qi.val j.val) 0)).trans (pt_0 b qi j)
  have i1 : win0_3.index (pt b.val qi.val j.val) 1 = qi.val := (word12 (grid0.coords (pt b.val qi.val j.val) 1)).trans (pt_1 b qi j)
  have i2 : win0_3.index (pt b.val qi.val j.val) 2 = 0 := rfl
  unfold iblk
  rw [View.read_apply]
  show V m c main_arg3 _ = m (c.tc.loc main_arg3) _
  unfold V
  refine congrArg (m (c.tc.loc main_arg3)) (funext fun ax => Fin.ext ?_)
  match ax with
  | ⟨0, _⟩ => show win0_3.index (pt b.val qi.val j.val) 0 * 1 + 1 * x.val = b.val; rw [i0]; omega
  | ⟨1, _⟩ => show win0_3.index (pt b.val qi.val j.val) 1 * 1024 + 1 * y.val = qi.val * 1024 + y.val; rw [i1]; omega
  | ⟨2, _⟩ => show win0_3.index (pt b.val qi.val j.val) 2 * 512 + 1 * z.val = z.val; rw [i2]; omega

/-- A point's block of argument window 4, by coordinates. -/
theorem iblk_4_at (x : Fin 1) (y : Fin 1) (z : Fin 1) (u : Fin 1024) : (iblk (F := Ideal) m c 4 (pt b.val qi.val j.val) : S1x1x1x1024.Idx → EReal) (ix4 x y z u)
    = (m ((c : Thread nD τ).loc main_arg4) : S8x12x1x1024.Idx → EReal) (ix4 b qi z u) := by
  have i0 : win0_4.index (pt b.val qi.val j.val) 0 = b.val := (word8 (grid0.coords (pt b.val qi.val j.val) 0)).trans (pt_0 b qi j)
  have i1 : win0_4.index (pt b.val qi.val j.val) 1 = qi.val := (word12 (grid0.coords (pt b.val qi.val j.val) 1)).trans (pt_1 b qi j)
  have i2 : win0_4.index (pt b.val qi.val j.val) 2 = 0 := rfl
  have i3 : win0_4.index (pt b.val qi.val j.val) 3 = 0 := rfl
  unfold iblk
  rw [View.read_apply]
  show V m c main_arg4 _ = m (c.tc.loc main_arg4) _
  unfold V
  refine congrArg (m (c.tc.loc main_arg4)) (funext fun ax => Fin.ext ?_)
  match ax with
  | ⟨0, _⟩ => show win0_4.index (pt b.val qi.val j.val) 0 * 1 + 1 * x.val = b.val; rw [i0]; omega
  | ⟨1, _⟩ => show win0_4.index (pt b.val qi.val j.val) 1 * 1 + 1 * y.val = qi.val; rw [i1]; omega
  | ⟨2, _⟩ => show win0_4.index (pt b.val qi.val j.val) 2 * 1 + 1 * z.val = z.val; rw [i2]; omega
  | ⟨3, _⟩ => show win0_4.index (pt b.val qi.val j.val) 3 * 1024 + 1 * u.val = u.val; rw [i3]; omega

/-- A point's block of argument window 5, by coordinates. -/
theorem iblk_5_at (x : Fin 1) (y : Fin 1) (z : Fin 1) (u : Fin 1024) : (iblk (F := Ideal) m c 5 (pt b.val qi.val j.val) : S1x1x1x1024.Idx → EReal) (ix4 x y z u)
    = (m ((c : Thread nD τ).loc main_arg5) : S8x12x1x1024.Idx → EReal) (ix4 b qi z u) := by
  have i0 : win0_5.index (pt b.val qi.val j.val) 0 = b.val := (word8 (grid0.coords (pt b.val qi.val j.val) 0)).trans (pt_0 b qi j)
  have i1 : win0_5.index (pt b.val qi.val j.val) 1 = qi.val := (word12 (grid0.coords (pt b.val qi.val j.val) 1)).trans (pt_1 b qi j)
  have i2 : win0_5.index (pt b.val qi.val j.val) 2 = 0 := rfl
  have i3 : win0_5.index (pt b.val qi.val j.val) 3 = 0 := rfl
  unfold iblk
  rw [View.read_apply]
  show V m c main_arg5 _ = m (c.tc.loc main_arg5) _
  unfold V
  refine congrArg (m (c.tc.loc main_arg5)) (funext fun ax => Fin.ext ?_)
  match ax with
  | ⟨0, _⟩ => show win0_5.index (pt b.val qi.val j.val) 0 * 1 + 1 * x.val = b.val; rw [i0]; omega
  | ⟨1, _⟩ => show win0_5.index (pt b.val qi.val j.val) 1 * 1 + 1 * y.val = qi.val; rw [i1]; omega
  | ⟨2, _⟩ => show win0_5.index (pt b.val qi.val j.val) 2 * 1 + 1 * z.val = z.val; rw [i2]; omega
  | ⟨3, _⟩ => show win0_5.index (pt b.val qi.val j.val) 3 * 1024 + 1 * u.val = u.val; rw [i3]; omega

/-- A point's block of argument window 6, by coordinates. -/
theorem iblk_6_at (x : Fin 1) (y : Fin 512) (z : Fin 512) : (iblk (F := Ideal) m c 6 (pt b.val qi.val j.val) : S1x512x512.Idx → EReal) (ix3 x y z)
    = (m ((c : Thread nD τ).loc main_arg6) : S8x12800x512.Idx → EReal) (ix3 b (⟨(min j.val 24) * 512 + y.val, by omega⟩ : Fin 12800) z) := by
  have i0 : win0_6.index (pt b.val qi.val j.val) 0 = b.val := (word8 (grid0.coords (pt b.val qi.val j.val) 0)).trans (pt_0 b qi j)
  have i1 : win0_6.index (pt b.val qi.val j.val) 1 = min j.val 24 := (tile_word (grid0.coords (pt b.val qi.val j.val) 2)).trans (congrArg (min · 24) (pt_2 b qi j))
  have i2 : win0_6.index (pt b.val qi.val j.val) 2 = 0 := rfl
  unfold iblk
  rw [View.read_apply]
  show V m c main_arg6 _ = m (c.tc.loc main_arg6) _
  unfold V
  refine congrArg (m (c.tc.loc main_arg6)) (funext fun ax => Fin.ext ?_)
  match ax with
  | ⟨0, _⟩ => show win0_6.index (pt b.val qi.val j.val) 0 * 1 + 1 * x.val = b.val; rw [i0]; omega
  | ⟨1, _⟩ => show win0_6.index (pt b.val qi.val j.val) 1 * 512 + 1 * y.val = (min j.val 24) * 512 + y.val; rw [i1]; omega
  | ⟨2, _⟩ => show win0_6.index (pt b.val qi.val j.val) 2 * 512 + 1 * z.val = z.val; rw [i2]; omega

/-- A point's block of argument window 7, by coordinates. -/
theorem iblk_7_at (x : Fin 1) (y : Fin 512) (z : Fin 128) : (iblk (F := Ideal) m c 7 (pt b.val qi.val j.val) : S1x512x128.Idx → EReal) (ix3 x y z)
    = (m ((c : Thread nD τ).loc main_arg8) : S8x12800x128.Idx → EReal) (ix3 b (⟨(min j.val 24) * 512 + y.val, by omega⟩ : Fin 12800) z) := by
  have i0 : win0_7.index (pt b.val qi.val j.val) 0 = b.val := (word8 (grid0.coords (pt b.val qi.val j.val) 0)).trans (pt_0 b qi j)
  have i1 : win0_7.index (pt b.val qi.val j.val) 1 = min j.val 24 := (tile_word (grid0.coords (pt b.val qi.val j.val) 2)).trans (congrArg (min · 24) (pt_2 b qi j))
  have i2 : win0_7.index (pt b.val qi.val j.val) 2 = 0 := rfl
  unfold iblk
  rw [View.read_apply]
  show V m c main_arg8 _ = m (c.tc.loc main_arg8) _
  unfold V
  refine congrArg (m (c.tc.loc main_arg8)) (funext fun ax => Fin.ext ?_)
  match ax with
  | ⟨0, _⟩ => show win0_7.index (pt b.val qi.val j.val) 0 * 1 + 1 * x.val = b.val; rw [i0]; omega
  | ⟨1, _⟩ => show win0_7.index (pt b.val qi.val j.val) 1 * 512 + 1 * y.val = (min j.val 24) * 512 + y.val; rw [i1]; omega
  | ⟨2, _⟩ => show win0_7.index (pt b.val qi.val j.val) 2 * 128 + 1 * z.val = z.val; rw [i2]; omega

/-- A point's block of argument window 8, by coordinates. -/
theorem iblk_8_at (x : Fin 1) (y : Fin 1) (z : Fin 512) (u : Fin 128) : (iblk (F := Ideal) m c 8 (pt b.val qi.val j.val) : S1x1x512x128.Idx → EReal) (ix4 x y z u)
    = (m ((c : Thread nD τ).loc main_arg9) : S8x3x12800x128.Idx → EReal) (ix4 b (⟨qi.val / 4, by omega⟩ : Fin 3) (⟨(min j.val 24) * 512 + z.val, by omega⟩ : Fin 12800) u) := by
  have i0 : win0_8.index (pt b.val qi.val j.val) 0 = b.val := (word8 (grid0.coords (pt b.val qi.val j.val) 0)).trans (pt_0 b qi j)
  have i1 : win0_8.index (pt b.val qi.val j.val) 1 = qi.val / 4 := (seq_word (grid0.coords (pt b.val qi.val j.val) 1)).trans (congrArg (· / 4) (pt_1 b qi j))
  have i2 : win0_8.index (pt b.val qi.val j.val) 2 = min j.val 24 := (tile_word (grid0.coords (pt b.val qi.val j.val) 2)).trans (congrArg (min · 24) (pt_2 b qi j))
  have i3 : win0_8.index (pt b.val qi.val j.val) 3 = 0 := rfl
  unfold iblk
  rw [View.read_apply]
  show V m c main_arg9 _ = m (c.tc.loc main_arg9) _
  unfold V
  refine congrArg (m (c.tc.loc main_arg9)) (funext fun ax => Fin.ext ?_)
  match ax with
  | ⟨0, _⟩ => show win0_8.index (pt b.val qi.val j.val) 0 * 1 + 1 * x.val = b.val; rw [i0]; omega
  | ⟨1, _⟩ => show win0_8.index (pt b.val qi.val j.val) 1 * 1 + 1 * y.val = qi.val / 4; rw [i1]; omega
  | ⟨2, _⟩ => show win0_8.index (pt b.val qi.val j.val) 2 * 512 + 1 * z.val = (min j.val 24) * 512 + z.val; rw [i2]; omega
  | ⟨3, _⟩ => show win0_8.index (pt b.val qi.val j.val) 3 * 128 + 1 * u.val = u.val; rw [i3]; omega

/-- A point's block of argument window 9, by coordinates. -/
theorem iblk_9_at (x : Fin 1) (y : Fin 576) (z : Fin 256) : (iblk (F := Ideal) m c 9 (pt b.val qi.val j.val) : S1x576x256.Idx → EReal) (ix3 x y z)
    = (m ((c : Thread nD τ).loc main_arg7) : S8x576x12800.Idx → EReal) (ix3 b y (⟨(2 * min j.val 24) * 256 + z.val, by omega⟩ : Fin 12800)) := by
  have i0 : win0_9.index (pt b.val qi.val j.val) 0 = b.val := (word8 (grid0.coords (pt b.val qi.val j.val) 0)).trans (pt_0 b qi j)
  have i1 : win0_9.index (pt b.val qi.val j.val) 1 = 0 := rfl
  have i2 : win0_9.index (pt b.val qi.val j.val) 2 = 2 * min j.val 24 := (half_word (grid0.coords (pt b.val qi.val j.val) 2)).trans (congrArg (fun z => 2 * min z 24) (pt_2 b qi j))
  unfold iblk
  rw [View.read_apply]
  show V m c main_arg7 _ = m (c.tc.loc main_arg7) _
  unfold V
  refine congrArg (m (c.tc.loc main_arg7)) (funext fun ax => Fin.ext ?_)
  match ax with
  | ⟨0, _⟩ => show win0_9.index (pt b.val qi.val j.val) 0 * 1 + 1 * x.val = b.val; rw [i0]; omega
  | ⟨1, _⟩ => show win0_9.index (pt b.val qi.val j.val) 1 * 576 + 1 * y.val = y.val; rw [i1]; omega
  | ⟨2, _⟩ => show win0_9.index (pt b.val qi.val j.val) 2 * 256 + 1 * z.val = (2 * min j.val 24) * 256 + z.val; rw [i2]; omega

/-- A point's block of argument window 10, by coordinates. -/
theorem iblk_10_at (x : Fin 1) (y : Fin 576) (z : Fin 256) : (iblk (F := Ideal) m c 10 (pt b.val qi.val j.val) : S1x576x256.Idx → EReal) (ix3 x y z)
    = (m ((c : Thread nD τ).loc main_arg7) : S8x576x12800.Idx → EReal) (ix3 b y (⟨(2 * j.val - 1) * 256 + z.val, by omega⟩ : Fin 12800)) := by
  have i0 : win0_10.index (pt b.val qi.val j.val) 0 = b.val := (word8 (grid0.coords (pt b.val qi.val j.val) 0)).trans (pt_0 b qi j)
  have i1 : win0_10.index (pt b.val qi.val j.val) 1 = 0 := rfl
  have i2 : win0_10.index (pt b.val qi.val j.val) 2 = 2 * j.val - 1 := (prev_word (grid0.coords (pt b.val qi.val j.val) 2)).trans (congrArg (fun z => 2 * z - 1) (pt_2 b qi j))
  unfold iblk
  rw [View.read_apply]
  show V m c main_arg7 _ = m (c.tc.loc main_arg7) _
  unfold V
  refine congrArg (m (c.tc.loc main_arg7)) (funext fun ax => Fin.ext ?_)
  match ax with
  | ⟨0, _⟩ => show win0_10.index (pt b.val qi.val j.val) 0 * 1 + 1 * x.val = b.val; rw [i0]; omega
  | ⟨1, _⟩ => show win0_10.index (pt b.val qi.val j.val) 1 * 576 + 1 * y.val = y.val; rw [i1]; omega
  | ⟨2, _⟩ => show win0_10.index (pt b.val qi.val j.val) 2 * 256 + 1 * z.val = (2 * j.val - 1) * 256 + z.val; rw [i2]; omega

end Blocks

end Cert.KernelIdeal.Gen

end
-- ==== Proof.Value.Acc.lean ====
/-
  The accumulators of the kernel are the specification's sums: the query gradients over the fifty halves of the keys, the
  key gradients over the twelve query tiles; so the four results.
-/
module

public import proofs.«01_k».proof.Proof.Value.Blocks

@[expose] public section

noncomputable section

namespace Cert.KernelIdeal.Gen

open Idealize.ShloMosaic hiding ix0 ix1 ix2 ix3 ix4 ix5
open Idealize.ShloMosaic.TcCoe Idealize.SL Idealize.SL.Sem ValueIdx Cert.Spec

variable (m : (ℓ : Loc nD τ sig) → Buf (Elt Ideal) ℓ) (c : Dev nD)

/-- The arguments core `c` was launched with, by coordinates. -/
def argsOf : Args := ofArrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

/-- Every log-sum is a real number and column 64 of the extension is one. -/
structure Given : Prop where
  fin : ∀ (b : Fin 8) (qi : Fin 12) (r : Fin 1024), ∃ l : ℝ,
    (m ((c : Thread nD τ).loc main_arg5) : S8x12x1x1024.Idx → EReal) (ix4 b qi (0 : Fin 1) r) = (l : EReal)
  one : ∀ (b : Fin 8) (k : Fin 12800), (m ((c : Thread nD τ).loc main_arg8) : S8x12800x128.Idx → EReal) (ix3 b k (64 : Fin 128)) = (1 : EReal)

variable {m c}

/-! ## The blocks are the arguments' -/

theorem scale_place (a : S8x12x1x1024.Idx → EReal) (b : Fin 8) (qi : Fin 12) (r : Fin 1024) :
    a (ix4 b (⟨(qrow qi r).val / 1024, by omega⟩ : Fin 12) (0 : Fin 1) (⟨(qrow qi r).val % 1024, by omega⟩ : Fin 1024)) = a (ix4 b qi (0 : Fin 1) r) := by
  have h1 : (⟨(qrow qi r).val / 1024, by omega⟩ : Fin 12) = qi := Fin.ext (by show (qi.val * 1024 + r.val) / 1024 = qi.val; omega)
  have h2 : (⟨(qrow qi r).val % 1024, by omega⟩ : Fin 1024) = r := Fin.ext (by show (qi.val * 1024 + r.val) % 1024 = r.val; omega)
  rw [h1, h2]

/-- At a query tile's first point the blocks read are the query tile's values. -/
theorem qblocks (hg : Given m c) (b : Fin 8) (qi : Fin 12) : QBlocks (argsOf m c) b qi (iblk m c 0 (pt b.val qi.val 0)) (iblk m c 1 (pt b.val qi.val 0))
    (iblk m c 2 (pt b.val qi.val 0)) (iblk m c 3 (pt b.val qi.val 0)) (iblk m c 4 (pt b.val qi.val 0)) (iblk m c 5 (pt b.val qi.val 0)) where
  q r d := iblk_0_at m c b qi 0 0 r d
  qr r d := iblk_1_at m c b qi 0 0 r d
  o r d := iblk_2_at m c b qi 0 0 r d
  g r d := iblk_3_at m c b qi 0 0 r d
  gs r := (iblk_4_at m c b qi 0 0 0 0 r).trans (scale_place _ b qi r).symm
  lse r := (iblk_5_at m c b qi 0 0 0 0 r).trans (scale_place _ b qi r).symm
  fin r := by
    obtain ⟨l, hl⟩ := hg.fin b qi r
    exact ⟨l, (scale_place _ b qi r).trans hl⟩

/-- At step `j` the blocks read are the rows of key block `j`. -/
theorem kblocks (hg : Given m c) (b : Fin 8) (qi : Fin 12) (j : Fin 25) : KBlocks (argsOf m c) b qi j (iblk m c 6 (pt b.val qi.val j.val))
    (iblk m c 7 (pt b.val qi.val j.val)) (iblk m c 8 (pt b.val qi.val j.val)) where
  k s d := (iblk_6_at m c b qi ⟨j.val, by omega⟩ 0 s d).trans
    (congrArg (fun z => (m ((c : Thread nD τ).loc main_arg6) : S8x12800x512.Idx → EReal) (ix3 b z d))
      (Fin.ext (by show min j.val 24 * 512 + s.val = j.val * 512 + s.val; omega)))
  kr s d := (iblk_7_at m c b qi ⟨j.val, by omega⟩ 0 s _).trans
    (congrArg (fun z => (m ((c : Thread nD τ).loc main_arg8) : S8x12800x128.Idx → EReal) (ix3 b z (⟨d.val, by omega⟩ : Fin 128)))
      (Fin.ext (by show min j.val 24 * 512 + s.val = j.val * 512 + s.val; omega)))
  one s := (iblk_7_at m c b qi ⟨j.val, by omega⟩ 0 s _).trans (hg.one b _)
  bias s r := (iblk_8_at m c b qi ⟨j.val, by omega⟩ 0 0 s _).trans (by
    have e1 : (⟨qi.val / 4, by omega⟩ : Fin 3) = (⟨(qrow qi r).val / 32 / 128, by omega⟩ : Fin 3) :=
      Fin.ext (by show qi.val / 4 = (qi.val * 1024 + r.val) / 32 / 128; omega)
    have e2 : (⟨min j.val 24 * 512 + s.val, by omega⟩ : Fin 12800) = key j s :=
      Fin.ext (by show min j.val 24 * 512 + s.val = j.val * 512 + s.val; omega)
    exact congrArg₂ (fun y z => (m ((c : Thread nD τ).loc main_arg9) : S8x3x12800x128.Idx → EReal)
      (ix4 b y z (⟨(qi.val * 1024 + r.val) / 32 % 128, by omega⟩ : Fin 128))) e1 e2)

/-! ## The halves -/

/-- Key `n` and query `n`, counted over all halves and tiles. -/
def kk (n : ℕ) : Fin 12800 := ⟨n % 12800, by omega⟩
/-- A query row by its number. -/
def qq (n : ℕ) : Fin 12288 := ⟨n % 12288, by omega⟩

/-- The key of a half's row, by its number. -/
theorem key_kk (j : Fin 25) (half : Bool) (s : Fin 256) : key j (inTile half s) = kk ((2 * j.val + (if half then 1 else 0)) * 256 + s.val) := by
  apply Fin.ext
  show j.val * 512 + ((if half then 256 else 0) + s.val) = ((2 * j.val + (if half then 1 else 0)) * 256 + s.val) % 12800
  cases half
  · show j.val * 512 + (0 + s.val) = ((2 * j.val + 0) * 256 + s.val) % 12800; omega
  · show j.val * 512 + (256 + s.val) = ((2 * j.val + 1) * 256 + s.val) % 12800; omega

/-- The probabilities of a half block are those of the specification. -/
theorem PV_at (hg : Given m c) (b : Fin 8) (qi : Fin 12) (j : Fin 25) (half : Bool) (s : Fin 256) (r : Fin 1024) :
    PV m c b.val qi.val j.val half (ix2 s r) = prob (argsOf m c) b (qrow qi r) (key j (inTile half s)) :=
  pOf_at (qblocks hg b qi) (kblocks hg b qi j) half s r
/-- The score gradients of a half block are those of the specification. -/
theorem DSV_at (hg : Given m c) (b : Fin 8) (qi : Fin 12) (j : Fin 25) (half : Bool) (s : Fin 256) (r : Fin 1024) :
    DSV m c b.val qi.val j.val half (ix2 s r) = ds (argsOf m c) b (qrow qi r) (key j (inTile half s)) :=
  dsOf_at (qblocks hg b qi) (kblocks hg b qi j) half s r

/-! ## The query gradients -/

/-- Half `h`'s part of the query gradient. -/
def dqHalf (a : Args) (b : Fin 8) (r : Fin 12288) (e : Fin 576) (h : ℕ) : EReal :=
  ∑ s : Fin 256, ds a b r (kk (h * 256 + s.val)) * a.kt b e (kk (h * 256 + s.val))

/-- Adding the half a step computes adds its keys' terms to the query gradient. -/
theorem step_A (hg : Given m c) (b : Fin 8) (qi : Fin 12) (j : Fin 25) (acc : Vec Ideal S576x1024 .f32) (e : Fin 576) (r : Fin 1024) :
    dqStep acc (DSV m c b.val qi.val j.val false) (KTA m c b.val qi.val j.val) (ix2 e r)
      = acc (ix2 e r) + dqHalf (argsOf m c) b (qrow qi r) e (2 * j.val) := by
  rw [dqStep_at]
  refine congrArg (acc (ix2 e r) + ·) (Finset.sum_congr rfl fun s _ => ?_)
  refine congrArg₂ (· * ·) ((DSV_at hg b qi j false s r).trans (congrArg _ (key_kk j false s)))
    ((iblk_9_at m c b qi ⟨j.val, by omega⟩ 0 e s).trans
      (congrArg (fun z => (m ((c : Thread nD τ).loc main_arg7) : S8x576x12800.Idx → EReal) (ix3 b e z))
        (Fin.ext (by show 2 * min j.val 24 * 256 + s.val = (2 * j.val * 256 + s.val) % 12800; omega))))

/-- Adding the half the step before left adds its keys' terms to the query gradient. -/
theorem step_B (hg : Given m c) (b : Fin 8) (qi : Fin 12) (j : Fin 25) (acc : Vec Ideal S576x1024 .f32) (e : Fin 576) (r : Fin 1024) :
    dqStep acc (DSV m c b.val qi.val j.val true) (KTB m c b.val qi.val (j.val + 1)) (ix2 e r)
      = acc (ix2 e r) + dqHalf (argsOf m c) b (qrow qi r) e (2 * j.val + 1) := by
  rw [dqStep_at]
  refine congrArg (acc (ix2 e r) + ·) (Finset.sum_congr rfl fun s _ => ?_)
  refine congrArg₂ (· * ·) ((DSV_at hg b qi j true s r).trans (congrArg _ (key_kk j true s)))
    ((iblk_10_at m c b qi ⟨j.val + 1, by omega⟩ 0 e s).trans
      (congrArg (fun z => (m ((c : Thread nD τ).loc main_arg7) : S8x576x12800.Idx → EReal) (ix3 b e z))
        (Fin.ext (by show (2 * (j.val + 1) - 1) * 256 + s.val = ((2 * j.val + 1) * 256 + s.val) % 12800; omega))))

/-- After step `j` the accumulator holds the halves up to `2 j`. -/
theorem DQA_at (hg : Given m c) (b : Fin 8) (qi : Fin 12) (e : Fin 576) (r : Fin 1024) : ∀ j : ℕ, j < 25 →
    DQA m c b.val qi.val j (ix2 e r) = ∑ h ∈ Finset.range (2 * j + 1), dqHalf (argsOf m c) b (qrow qi r) e h
  | 0, _ => by
    have h := step_A hg b qi 0 dqZero e r
    rw [dqZero_at, zero_add] at h
    rw [Finset.sum_range_one]
    exact h
  | j + 1, hj => by
    have h1 := step_B hg b qi ⟨j, by omega⟩ (DQA m c b.val qi.val j) e r
    have h2 := step_A hg b qi ⟨j + 1, hj⟩ (dqStep (DQA m c b.val qi.val j) (DSV m c b.val qi.val j true) (KTB m c b.val qi.val (j + 1))) e r
    rw [show 2 * (j + 1) + 1 = (2 * j + 1) + 1 + 1 from by omega, Finset.sum_range_succ, Finset.sum_range_succ, ← DQA_at hg b qi e r j (by omega)]
    exact h2.trans (congrArg (· + _) h1)

/-- The accumulator a query tile ends with holds the sum over all keys. -/
theorem DQF_at (hg : Given m c) (b : Fin 8) (qi : Fin 12) (e : Fin 576) (r : Fin 1024) :
    DQF m c b.val qi.val (ix2 e r) = ∑ k : Fin 12800, ds (argsOf m c) b (qrow qi r) k * (argsOf m c).kt b e k := by
  have h1 := step_B hg b qi 24 (DQA m c b.val qi.val 24) e r
  rw [DQA_at hg b qi e r 24 (by omega)] at h1
  refine h1.trans ?_
  refine (Finset.sum_range_succ (fun h => dqHalf (argsOf m c) b (qrow qi r) e h) 49).symm.trans ?_
  rw [Finset.sum_range, sum_blocks (M := 50) (N := 256) rfl]
  refine Finset.sum_congr rfl fun h _ => Finset.sum_congr rfl fun s _ => ?_
  rw [show kk (h.val * 256 + s.val) = (⟨h.val * 256 + s.val, by omega⟩ : Fin 12800) from Fin.ext (Nat.mod_eq_of_lt (by omega))]

/-! ## The key gradients -/

theorem qrow_qq (n : Fin 12) (r : Fin 1024) : qrow n r = qq (n.val * 1024 + r.val) :=
  Fin.ext (by show n.val * 1024 + r.val = (n.val * 1024 + r.val) % 12288; omega)

/-- The keys of half `h` of the fifty are the 256 from `256 h`. -/
theorem half_key (h : Fin 50) (s : Fin 256) : key ⟨h.val / 2, by omega⟩ (inTile (h.val % 2 == 1) s) = kk (h.val * 256 + s.val) := by
  rw [key_kk]
  refine congrArg (fun z => kk (z * 256 + s.val)) ?_
  rcases Nat.mod_two_eq_zero_or_one h.val with e | e
  · rw [e]; show 2 * (h.val / 2) + 0 = h.val; omega
  · rw [e]; show 2 * (h.val / 2) + 1 = h.val; omega

/-- A sum of sums with the scale on the second summand. -/
theorem sum_sm (f g : ℕ → EReal) : ∀ n : ℕ, ∑ i ∈ Finset.range n, (f i + sm * g i)
    = (∑ i ∈ Finset.range n, f i) + sm * ∑ i ∈ Finset.range n, g i
  | 0 => by simp
  | n + 1 => by
    rw [Finset.sum_range_succ, Finset.sum_range_succ, Finset.sum_range_succ, sum_sm f g n, sm_mul_add, add_add_add_comm]
/-- The scale comes out of a finite sum. -/
theorem sum_sm' (g : ℕ → EReal) : ∀ n : ℕ, ∑ i ∈ Finset.range n, sm * g i = sm * ∑ i ∈ Finset.range n, g i
  | 0 => by simp
  | n + 1 => by
    rw [Finset.sum_range_succ, Finset.sum_range_succ, sum_sm' g n, sm_mul_add]

/-- A sum over twelve tiles of 1024 rows is the sum over all rows. -/
theorem sum_tiles (f : Fin 12288 → EReal) : ∑ i ∈ Finset.range 12, ∑ r : Fin 1024, f (qq (i * 1024 + r.val)) = ∑ r : Fin 12288, f r := by
  rw [Finset.sum_range, sum_blocks (M := 12) (N := 1024) rfl]
  refine Finset.sum_congr rfl fun h _ => Finset.sum_congr rfl fun s _ => congrArg f ?_
  exact Fin.ext (Nat.mod_eq_of_lt (by omega))

/-- The queries kept of a query tile, by coordinates. -/
theorem QV_at (b n : ℕ) (r : Fin 1024) (e : Fin 512) :
    QV m c b n (ix2 r e) = (iblk (F := Ideal) m c 0 (pt b n 0) : S1x1024x512.Idx → EReal) (ix3 (0 : Fin 1) r e) := by
  unfold QV qOf
  exact pay10_at (iblk m c 0 (pt b n 0)) r e

/-- A half's compressed-key gradient after `n` query tiles: the terms of those tiles. -/
theorem DCH_at (hg : Given m c) (b : Fin 8) (h : Fin 50) (s : Fin 256) (e : Fin 512) : ∀ n : ℕ, n ≤ 12 →
    DCH m c b.val h.val n (ix2 s e) = ∑ i ∈ Finset.range n,
      ((∑ r : Fin 1024, prob (argsOf m c) b (qq (i * 1024 + r.val)) (kk (h.val * 256 + s.val)) * gd (argsOf m c) b (qq (i * 1024 + r.val)) e)
        + sm * ∑ r : Fin 1024, ds (argsOf m c) b (qq (i * 1024 + r.val)) (kk (h.val * 256 + s.val)) * (argsOf m c).q b (qq (i * 1024 + r.val)) e)
  | 0, _ => by
    rw [Finset.sum_range_zero]
    unfold DCH k0_pay1
    simp only [shapeCast_self]
    exact Ideal.ofBits_zero_f32
  | n + 1, hn => by
    have hq := qblocks hg b ⟨n, by omega⟩
    have h1 := dcStep_at (DCH m c b.val h.val n) (PV m c b.val n (h.val / 2) (h.val % 2 == 1)) (DSV m c b.val n (h.val / 2) (h.val % 2 == 1))
      (DOV m c b.val n) (QV m c b.val n) s e
    have hp : ∀ r : Fin 1024, PV m c b.val n (h.val / 2) (h.val % 2 == 1) (ix2 s r)
        = prob (argsOf m c) b (qq (n * 1024 + r.val)) (kk (h.val * 256 + s.val)) := fun r => by
      rw [← half_key h s, ← qrow_qq ⟨n, by omega⟩ r]
      exact PV_at hg b ⟨n, by omega⟩ ⟨h.val / 2, by omega⟩ _ s r
    have hd : ∀ r : Fin 1024, DSV m c b.val n (h.val / 2) (h.val % 2 == 1) (ix2 s r)
        = ds (argsOf m c) b (qq (n * 1024 + r.val)) (kk (h.val * 256 + s.val)) := fun r => by
      rw [← half_key h s, ← qrow_qq ⟨n, by omega⟩ r]
      exact DSV_at hg b ⟨n, by omega⟩ ⟨h.val / 2, by omega⟩ _ s r
    have hv : ∀ r : Fin 1024, DOV m c b.val n (ix2 r e) = gd (argsOf m c) b (qq (n * 1024 + r.val)) e := fun r => by
      rw [← qrow_qq ⟨n, by omega⟩ r]
      exact (doOf_at _ _ r e).trans (congrArg₂ (· * ·) (hq.g r e) (hq.gs r))
    have hw : ∀ r : Fin 1024, QV m c b.val n (ix2 r e) = (argsOf m c).q b (qq (n * 1024 + r.val)) e := fun r => by
      rw [← qrow_qq ⟨n, by omega⟩ r]
      exact (QV_at b.val n r e).trans (hq.q r e)
    simp only [hp, hd, hv, hw] at h1
    rw [Finset.sum_range_succ, ← DCH_at hg b h s e n (by omega)]
    exact h1

/-- A half's rotary-key gradient after `n` query tiles: the terms of those tiles. -/
theorem DKH_at (hg : Given m c) (b : Fin 8) (h : Fin 50) (s : Fin 256) (e : Fin 64) : ∀ n : ℕ, n ≤ 12 →
    DKH m c b.val h.val n (ix2 e s) = ∑ i ∈ Finset.range n,
      sm * ∑ r : Fin 1024, ds (argsOf m c) b (qq (i * 1024 + r.val)) (kk (h.val * 256 + s.val)) * (argsOf m c).qr b (qq (i * 1024 + r.val)) e
  | 0, _ => by
    rw [Finset.sum_range_zero]
    unfold DKH k0_pay2
    simp only [shapeCast_self]
    exact Ideal.ofBits_zero_f32
  | n + 1, hn => by
    have hq := qblocks hg b ⟨n, by omega⟩
    have h1 := dkStep_at (DKH m c b.val h.val n) (DSV m c b.val n (h.val / 2) (h.val % 2 == 1)) (QT m c b.val n) e s
    have hd : ∀ r : Fin 1024, DSV m c b.val n (h.val / 2) (h.val % 2 == 1) (ix2 s r)
        = ds (argsOf m c) b (qq (n * 1024 + r.val)) (kk (h.val * 256 + s.val)) := fun r => by
      rw [← half_key h s, ← qrow_qq ⟨n, by omega⟩ r]
      exact DSV_at hg b ⟨n, by omega⟩ ⟨h.val / 2, by omega⟩ _ s r
    have hw : ∀ r : Fin 1024, QT m c b.val n (ix2 (⟨512 + e.val, by omega⟩ : Fin 768) r) = (argsOf m c).qr b (qq (n * 1024 + r.val)) e := fun r => by
      rw [← qrow_qq ⟨n, by omega⟩ r]
      exact (qt_rot ⟨n, by omega⟩ _ _ _ e r).trans (hq.qr r e)
    simp only [hd, hw] at h1
    rw [Finset.sum_range_succ, ← DKH_at hg b h s e n (by omega)]
    exact h1

/-- THE COMPRESSED-KEY GRADIENT of a key, after all query tiles. -/
theorem DCH_final (hg : Given m c) (b : Fin 8) (h : Fin 50) (s : Fin 256) (e : Fin 512) :
    DCH m c b.val h.val 12 (ix2 s e) = dc (argsOf m c) b (kk (h.val * 256 + s.val)) e := by
  rw [DCH_at hg b h s e 12 le_rfl, sum_sm,
    sum_tiles (fun r => prob (argsOf m c) b r (kk (h.val * 256 + s.val)) * gd (argsOf m c) b r e),
    sum_tiles (fun r => ds (argsOf m c) b r (kk (h.val * 256 + s.val)) * (argsOf m c).q b r e)]
  rfl

/-- THE ROTARY-KEY GRADIENT of a key, after all query tiles. -/
theorem DKH_final (hg : Given m c) (b : Fin 8) (h : Fin 50) (s : Fin 256) (e : Fin 64) :
    DKH m c b.val h.val 12 (ix2 e s) = dk (argsOf m c) b (kk (h.val * 256 + s.val)) e := by
  rw [DKH_at hg b h s e 12 le_rfl, sum_sm',
    sum_tiles (fun r => ds (argsOf m c) b r (kk (h.val * 256 + s.val)) * (argsOf m c).qr b r e)]
  rfl

/-! ## The two results written by copies -/

theorem homeC_at (hg : Given m c) (b : Fin 8) (k : Fin 12672) (e : Fin 512) :
    homeFC m c 8 (ix3 b k e) = dc (argsOf m c) b ⟨k.val, by omega⟩ e := by
  have h1 : homeFC m c 8 (ix3 b k e) = DCall m c b.val 12 (inC (ix3 b k e)) := if_pos b.isLt
  have h2 : locC (inC (ix3 b k e)) = ix2 (⟨k.val % 256, by omega⟩ : Fin 256) e := by
    funext ax
    match ax with
    | ⟨0, _⟩ => rfl
    | ⟨1, _⟩ => rfl
  have h3 := DCH_final hg b ⟨k.val / 256, by omega⟩ ⟨k.val % 256, by omega⟩ e
  have h4 : kk (k.val / 256 * 256 + k.val % 256) = ⟨k.val, by omega⟩ := Fin.ext (by show (k.val / 256 * 256 + k.val % 256) % 12800 = k.val; omega)
  have h5 : DCall m c b.val 12 (inC (ix3 b k e)) = DCH m c b.val (k.val / 256) 12 (locC (inC (ix3 b k e))) := rfl
  rw [h1, h5, h2, ← h4]
  exact h3

/-- The rotary-key gradient in the result array is the specification's. -/
theorem homeK_at (hg : Given m c) (b : Fin 8) (e : Fin 64) (k : Fin 12672) :
    homeFK m c 8 (ix3 b e k) = dk (argsOf m c) b ⟨k.val, by omega⟩ e := by
  have h1 : homeFK m c 8 (ix3 b e k) = DKall m c b.val 12 (inK (ix3 b e k)) := if_pos b.isLt
  have h2 : locK (inK (ix3 b e k)) = ix2 e (⟨k.val % 256, by omega⟩ : Fin 256) := by
    funext ax
    match ax with
    | ⟨0, _⟩ => rfl
    | ⟨1, _⟩ => rfl
  have h3 := DKH_final hg b ⟨k.val / 256, by omega⟩ ⟨k.val % 256, by omega⟩ e
  have h4 : kk (k.val / 256 * 256 + k.val % 256) = ⟨k.val, by omega⟩ := Fin.ext (by show (k.val / 256 * 256 + k.val % 256) % 12800 = k.val; omega)
  have h5 : DKall m c b.val 12 (inK (ix3 b e k)) = DKH m c b.val (k.val / 256) 12 (locK (inK (ix3 b e k))) := rfl
  rw [h1, h5, h2, ← h4]
  exact h3

/-! ## The two results written by blocks -/

theorem dqOut_final (hg : Given m c) (b : Fin 8) (qi : Fin 12) (u : Fin 1) (r : Fin 1024) (e : Fin 512) :
    dqOut (DQF m c b.val qi.val) (ix3 u r e) = dq (argsOf m c) b (qrow qi r) ⟨e.val, by omega⟩ := by
  rw [dqOut_at, DQF_at hg]
  rfl
/-- The rotary query gradient a query tile ends with is the specification's. -/
theorem dqrOut_final (hg : Given m c) (b : Fin 8) (qi : Fin 12) (u : Fin 1) (r : Fin 1024) (e : Fin 64) :
    dqrOut (DQF m c b.val qi.val) (ix3 u r e) = dq (argsOf m c) b (qrow qi r) ⟨512 + e.val, by omega⟩ := by
  rw [dqrOut_at, DQF_at hg]
  rfl

end Cert.KernelIdeal.Gen

end
-- ==== Proof.Value.Ref.lean ====
/-
  What the reference's four results are, read at an index: the specification's gradients.
-/
module

public import proofs.«01_k».proof.Proof.Gen.ReferenceIdeal.Value
public import proofs.«01_k».proof.Proof.Value.Spec
public import Idealize.ShloMosaic.Lib.ValueLayout
public import Idealize.ShloMosaic.Lib.Pointwise

@[expose] public section

noncomputable section

namespace Cert.ReferenceIdeal.Value

open Idealize.ShloMosaic hiding ix0 ix1 ix2 ix3 ix4 ix5
open Idealize.SL.Sem ValueIdx Cert.ReferenceIdeal Cert.ReferenceIdeal.Gen Cert.Spec

/-- The named scale is one over the square root of 192. -/
theorem sm_eq : Named.named (F := Ideal) Cert.ReferenceIdeal.κ "sm" (φ := .f32) 0x3D93CD3A#32 = sm :=
  IdealRules.named_const.ideal_named_scalar _ _ _ _ rfl

/-- The rotary columns of the extended keys, by coordinates. -/
theorem pay2_at (x : Vec Ideal S8x12800x128 .bf16) (b : Fin 8) (k : Fin 12800) (d : Fin 64) :
    k0_pay2 (F := Ideal) x (ix3 b k d) = x (ix3 b k (⟨d.val, by omega⟩ : Fin 128)) :=
  extractStridedSlice_apply _ x slices_S8x12800x128_o0_0_0_S8x12800x64 _ _ (fun ax => by
    match ax with
    | ⟨0, _⟩ => exact (Nat.zero_add _).symm
    | ⟨1, _⟩ => exact (Nat.zero_add _).symm
    | ⟨2, _⟩ => exact (Nat.zero_add _).symm)

/-- Row tiles laid end to end. -/
theorem rows_at {α : Type} (x : S8x12x1x1024.Idx → α) (h : S8x12x1x1024.ShapeCasts S8x12288x1) (b : Fin 8) (r : Fin 12288) (u : Fin 1) :
    shapeCast S8x12288x1 x h (ix3 b r u)
      = x (ix4 b (⟨r.val / 1024, by omega⟩ : Fin 12) (0 : Fin 1) (⟨r.val % 1024, by omega⟩ : Fin 1024)) :=
  shapeCast_apply x h _ _ (by
    rw [Shape.rowMajor_val_four, Shape.rowMajor_val_three]
    show ((b.val * 12 + r.val / 1024) * 1 + 0) * 1024 + r.val % 1024 = (b.val * 12288 + r.val) * 1 + u.val
    omega)

/-- The log-sums by row, by coordinates. -/
theorem pay3_at (x : Vec Ideal S8x12x1x1024 .f32) (b : Fin 8) (r : Fin 12288) (u : Fin 1) :
    k0_pay3 (F := Ideal) x (ix3 b r u)
      = x (ix4 b (⟨r.val / 1024, by omega⟩ : Fin 12) (0 : Fin 1) (⟨r.val % 1024, by omega⟩ : Fin 1024)) :=
  rows_at x _ b r u

/-- A column spread along the last coordinate. -/
theorem lastBroadcast_at {α : Type} {G m n : ℕ} (hm : m ≠ 1) (hG : G ≠ 1) (x : (⟨3, ![G, m, 1]⟩ : Shape).Idx → α)
    (h : (⟨3, ![G, m, 1]⟩ : Shape).Broadcasts ⟨3, ![G, m, n]⟩) (b : Fin G) (r : Fin m) (c : Fin n) :
    broadcastTo ⟨3, ![G, m, n]⟩ x h (ix3 b r c) = x (ix3 b r (0 : Fin 1)) :=
  broadcastTo_apply x h _ _ (fun ax => by
    match ax with
    | ⟨0, _⟩ => show b.val = if G = 1 then 0 else b.val; rw [if_neg hG]
    | ⟨1, _⟩ => show r.val = if m = 1 then 0 else r.val; rw [if_neg hm]
    | ⟨2, _⟩ => rfl)

/-- The output gradient, by coordinates. -/
theorem pay4_at (x : Vec Ideal S8x12x1x1024 .f32) (y : Vec Ideal S8x12288x512 .fp8e5m2) (b : Fin 8) (r : Fin 12288) (c : Fin 512) :
    k0_pay4 (F := Ideal) x y (ix3 b r c)
      = y (ix3 b r c) * x (ix4 b (⟨r.val / 1024, by omega⟩ : Fin 12) (0 : Fin 1) (⟨r.val % 1024, by omega⟩ : Fin 1024)) := by
  show y (ix3 b r c) * broadcastTo S8x12288x512 _ _ (ix3 b r c) = _
  congr 1
  exact (lastBroadcast_at (by decide) (by decide) _ _ b r c).trans (rows_at x _ b r 0)

/-- The rounded output gradient, by coordinates. -/
theorem pay6_at (x : Vec Ideal S8x12x1x1024 .f32) (y : Vec Ideal S8x12288x512 .fp8e5m2) (b : Fin 8) (r : Fin 12288) (c : Fin 512) :
    k0_pay6 (F := Ideal) x y (ix3 b r c)
      = y (ix3 b r c) * x (ix4 b (⟨r.val / 1024, by omega⟩ : Fin 12) (0 : Fin 1) (⟨r.val % 1024, by omega⟩ : Fin 1024)) :=
  pay4_at x y b r c

/-- The row sums, by coordinates. -/
theorem pay5_at (x : Vec Ideal S8x12x1x1024 .f32) (y : Vec Ideal S8x12288x512 .fp8e5m2) (z : Vec Ideal S8x12288x512 .bf16)
    (b : Fin 8) (r : Fin 12288) (u : Fin 1) :
    k0_pay5 (F := Ideal) x y z (ix3 b r u)
      = ∑ c : Fin 512, y (ix3 b r c) * x (ix4 b (⟨r.val / 1024, by omega⟩ : Fin 12) (0 : Fin 1) (⟨r.val % 1024, by omega⟩ : Fin 1024)) * z (ix3 b r c) := by
  unfold k0_pay5
  refine (shapeCast_apply _ _ _ (ix2 b r) ?_).trans ?_
  · rw [Shape.rowMajor_val_two, Shape.rowMajor_val_three]
    show b.val * 12288 + r.val = (b.val * 12288 + r.val) * 1 + u.val
    omega
  · refine (Cert.Dots.sum3_apply (mulf (k0_pay4 (F := Ideal) x y) (extf .f32 z bitsLt_bf16_f32)) reduces_S8x12288x512_S8x12288 _ _ b r).trans (Finset.sum_congr rfl fun c _ => ?_)
    show k0_pay4 (F := Ideal) x y (ix3 b r c) * z (ix3 b r c) = _
    rw [pay4_at]

/-- The bias of a query row's token, by coordinates. -/
theorem pay7_at (x : Vec Ideal S8x3x12800x128 .bf16) (b : Fin 8) (t : Fin 384) (s : Fin 32) (k : Fin 12800) :
    k0_pay7 (F := Ideal) x (ix4 b t s k) = x (ix4 b (⟨t.val / 128, by omega⟩ : Fin 3) k (⟨t.val % 128, by omega⟩ : Fin 128)) := by
  unfold k0_pay7
  refine (broadcastTo_apply _ _ _ (ix4 b t (0 : Fin 1) k) (fun ax => by
    match ax with
    | ⟨0, _⟩ => rfl
    | ⟨1, _⟩ => rfl
    | ⟨2, _⟩ => rfl
    | ⟨3, _⟩ => rfl)).trans ?_
  rw [shapeCast_self]
  refine (shapeCast_apply (transpose S8x3x128x12800 [0, 1, 3, 2] x transposes_S8x3x12800x128_p0_1_3_2_S8x3x128x12800)
    shapeCasts_S8x3x128x12800_S8x384x1x12800 (ix4 b t (0 : Fin 1) k) (ix4 b (⟨t.val / 128, by omega⟩ : Fin 3) (⟨t.val % 128, by omega⟩ : Fin 128) k) ?_).trans ?_
  · rw [Shape.rowMajor_val_four, Shape.rowMajor_val_four]
    show ((b.val * 3 + t.val / 128) * 128 + t.val % 128) * 12800 + k.val = ((b.val * 384 + t.val) * 1 + 0) * 12800 + k.val
    have : (b.val * 3 + t.val / 128) * 128 + t.val % 128 = (b.val * 384 + t.val) * 1 + 0 := by omega
    rw [this]
  · exact transpose_apply _ x _ _ _ fun c => match c with | ⟨0, _⟩ => rfl | ⟨1, _⟩ => rfl | ⟨2, _⟩ => rfl | ⟨3, _⟩ => rfl

section Stage
variable (v0 : Vec Ideal S8x12288x512 .bf16) (v1 : Vec Ideal S8x12288x64 .bf16) (v2 : Vec Ideal S8x12800x512 .bf16)
  (v3 : Vec Ideal S8x576x12800 .bf16) (v5 : FVec Ideal S8x12800x64 .bf16) (v9 v18 : FVec Ideal S8x12288x1 .f32)
  (v19 : FVec Ideal S8x12288x512 .bf16) (v25 : FVec Ideal S8x384x32x12800 .f32)

/-- The probabilities, by coordinates. -/
theorem pay8_at (b : Fin 8) (r : Fin 12288) (k : Fin 12800) :
    k0_pay8 (F := Ideal) v0 v1 v2 v5 v9 v25 (ix3 b r k)
      = Ideal.exp ((((∑ c : Fin 512, v0 (ix3 b r c) * v2 (ix3 b k c)) + ∑ d : Fin 64, v1 (ix3 b r d) * v5 (ix3 b k d))
          + v25 (ix4 b (⟨r.val / 32, by omega⟩ : Fin 384) (⟨r.val % 32, by omega⟩ : Fin 32) k)) * sm - v9 (ix3 b r (0 : Fin 1))) := by
  have e1 := Cert.Dots.nt_apply (G := 8) (m := 12288) (n := 12800) (k := 512) (φ₁ := .bf16) (φ₂ := .bf16) dot_S8x12288x512_S8x12800x512_S8x12288x12800_2_2_1_1_0_0.wf none v0 v2 b r k
  have e2 := Cert.Dots.nt_apply (G := 8) (m := 12288) (n := 12800) (k := 64) (φ₁ := .bf16) (φ₂ := .bf16) dot_S8x12288x64_S8x12800x64_S8x12288x12800_2_2_1_1_0_0.wf none v1 v5 b r k
  have e3 := lastBroadcast_at (n := 12800) (by decide) (by decide) v9 broadcasts_S8x12288x1_S8x12288x12800 b r k
  have e4 : shapeCast S8x12288x12800 v25 shapeCasts_S8x384x32x12800_S8x12288x12800 (ix3 b r k)
      = v25 (ix4 b (⟨r.val / 32, by omega⟩ : Fin 384) (⟨r.val % 32, by omega⟩ : Fin 32) k) :=
    shapeCast_apply _ _ _ _ (by
      rw [Shape.rowMajor_val_four, Shape.rowMajor_val_three]
      show ((b.val * 384 + r.val / 32) * 32 + r.val % 32) * 12800 + k.val = (b.val * 12288 + r.val) * 12800 + k.val
      have : (b.val * 384 + r.val / 32) * 32 + r.val % 32 = b.val * 12288 + r.val := by omega
      rw [this])
  rw [← e1, ← e2, ← e3, ← e4, ← sm_eq]
  rfl

/-- The score gradients, by coordinates. -/
theorem pay9_at (b : Fin 8) (r : Fin 12288) (k : Fin 12800) :
    k0_pay9 (F := Ideal) v0 v1 v2 v5 v9 v18 v19 v25 (ix3 b r k)
      = k0_pay8 (F := Ideal) v0 v1 v2 v5 v9 v25 (ix3 b r k) * ((∑ c : Fin 512, v19 (ix3 b r c) * v2 (ix3 b k c)) - v18 (ix3 b r (0 : Fin 1))) := by
  have e1 := Cert.Dots.nt_apply (G := 8) (m := 12288) (n := 12800) (k := 512) (φ₁ := .bf16) (φ₂ := .bf16) dot_S8x12288x512_S8x12800x512_S8x12288x12800_2_2_1_1_0_0.wf none v19 v2 b r k
  have e3 := lastBroadcast_at (n := 12800) (by decide) (by decide) v18 broadcasts_S8x12288x1_S8x12288x12800 b r k
  rw [← e1, ← e3]
  rfl

/-- The query gradient, by coordinates. -/
theorem pay10_at (b : Fin 8) (r : Fin 12288) (c : Fin 512) :
    k0_pay10 (F := Ideal) v0 v1 v2 v3 v5 v9 v18 v19 v25 (ix3 b r c)
      = (∑ k : Fin 12800, k0_pay9 (F := Ideal) v0 v1 v2 v5 v9 v18 v19 v25 (ix3 b r k) * v3 (ix3 b (⟨c.val, by omega⟩ : Fin 576) k)) * sm := by
  have e0 : ∀ k : Fin 12800, extractStridedSlice S8x512x12800 ![0, 0, 0] v3 slices_S8x576x12800_o0_0_0_S8x512x12800 (ix3 b c k)
      = v3 (ix3 b (⟨c.val, by omega⟩ : Fin 576) k) := fun k => slice3_axis1_apply 0 v3 _ b c k _ (Nat.zero_add _).symm
  have e1 := Cert.Dots.nt_apply (G := 8) (m := 12288) (n := 512) (k := 12800) (φ₁ := .bf16) (φ₂ := .bf16) dot_S8x12288x12800_S8x512x12800_S8x12288x512_2_2_1_1_0_0.wf none
    (k0_pay9 (F := Ideal) v0 v1 v2 v5 v9 v18 v19 v25) (extractStridedSlice S8x512x12800 ![0, 0, 0] v3 slices_S8x576x12800_o0_0_0_S8x512x12800) b r c
  simp only [e0] at e1
  rw [← e1, ← sm_eq]
  rfl

/-- The rotary query gradient, by coordinates. -/
theorem pay11_at (b : Fin 8) (r : Fin 12288) (d : Fin 64) :
    k0_pay11 (F := Ideal) v0 v1 v2 v3 v5 v9 v18 v19 v25 (ix3 b r d)
      = (∑ k : Fin 12800, k0_pay9 (F := Ideal) v0 v1 v2 v5 v9 v18 v19 v25 (ix3 b r k) * v3 (ix3 b (⟨512 + d.val, by omega⟩ : Fin 576) k)) * sm := by
  have e0 : ∀ k : Fin 12800, extractStridedSlice S8x64x12800 ![0, 512, 0] v3 slices_S8x576x12800_o0_512_0_S8x64x12800 (ix3 b d k)
      = v3 (ix3 b (⟨512 + d.val, by omega⟩ : Fin 576) k) := fun k => slice3_axis1_apply 512 v3 _ b d k _ rfl
  have e1 := Cert.Dots.nt_apply (G := 8) (m := 12288) (n := 64) (k := 12800) (φ₁ := .bf16) (φ₂ := .bf16) dot_S8x12288x12800_S8x64x12800_S8x12288x64_2_2_1_1_0_0.wf none
    (k0_pay9 (F := Ideal) v0 v1 v2 v5 v9 v18 v19 v25) (extractStridedSlice S8x64x12800 ![0, 512, 0] v3 slices_S8x576x12800_o0_512_0_S8x64x12800) b r d
  simp only [e0] at e1
  rw [← e1, ← sm_eq]
  rfl

/-- The rotary-key gradient, by coordinates. -/
theorem pay12_at (b : Fin 8) (k : Fin 12800) (d : Fin 64) :
    k0_pay12 (F := Ideal) v0 v1 v2 v5 v9 v18 v19 v25 (ix3 b k d)
      = sm * ∑ r : Fin 12288, k0_pay9 (F := Ideal) v0 v1 v2 v5 v9 v18 v19 v25 (ix3 b r k) * v1 (ix3 b r d) := by
  have e1 := Cert.Dots.tn_apply (G := 8) (m := 12800) (n := 64) (k := 12288) (φ₁ := .bf16) (φ₂ := .bf16) dot_S8x12288x12800_S8x12288x64_S8x12800x64_1_1_2_2_0_0.wf none
    (k0_pay9 (F := Ideal) v0 v1 v2 v5 v9 v18 v19 v25) v1 b k d
  rw [← e1, ← sm_eq]
  rfl

/-- The compressed-key gradient without the padding, by coordinates. -/
theorem pay13_at (b : Fin 8) (k : Fin 12672) (c : Fin 512) :
    k0_pay13 (F := Ideal) v0 v1 v2 v5 v9 v18 v19 v25 (ix3 b k c)
      = (∑ r : Fin 12288, k0_pay8 (F := Ideal) v0 v1 v2 v5 v9 v25 (ix3 b r (⟨k.val, by omega⟩ : Fin 12800)) * v19 (ix3 b r c))
        + sm * ∑ r : Fin 12288, k0_pay9 (F := Ideal) v0 v1 v2 v5 v9 v18 v19 v25 (ix3 b r (⟨k.val, by omega⟩ : Fin 12800)) * v0 (ix3 b r c) := by
  have e1 := Cert.Dots.tn_apply (G := 8) (m := 12800) (n := 512) (k := 12288) (φ₁ := .bf16) (φ₂ := .bf16) dot_S8x12288x12800_S8x12288x512_S8x12800x512_1_1_2_2_0_0.wf none
    (k0_pay9 (F := Ideal) v0 v1 v2 v5 v9 v18 v19 v25) v0 b (⟨k.val, by omega⟩ : Fin 12800) c
  have e2 := Cert.Dots.tn_apply (G := 8) (m := 12800) (n := 512) (k := 12288) (φ₁ := .bf16) (φ₂ := .bf16) dot_S8x12288x12800_S8x12288x512_S8x12800x512_1_1_2_2_0_0.wf none
    (k0_pay8 (F := Ideal) v0 v1 v2 v5 v9 v25) v19 b (⟨k.val, by omega⟩ : Fin 12800) c
  rw [← e1, ← e2, ← sm_eq]
  unfold k0_pay13
  exact slice3_axis1_apply 0 _ _ b k c (⟨k.val, by omega⟩ : Fin 12800) (Nat.zero_add _).symm

/-- The rotary-key gradient without the padding, transposed, by coordinates. -/
theorem pay1_at (x : FVec Ideal S8x12800x64 .f32) (b : Fin 8) (d : Fin 64) (k : Fin 12672) :
    k0_pay1 (F := Ideal) x (ix3 b d k) = x (ix3 b (⟨k.val, by omega⟩ : Fin 12800) d) := by
  unfold k0_pay1
  exact (transpose_ix3_021_apply _ _ b d k).trans (slice3_axis1_apply 0 _ _ b k d (⟨k.val, by omega⟩ : Fin 12800) (Nat.zero_add _).symm)

end Stage

section Args
variable (a0 : Vec Ideal S8x12288x512 .bf16) (a1 : Vec Ideal S8x12288x64 .bf16) (a2 : Vec Ideal S8x12288x512 .bf16) (a3 : Vec Ideal S8x12288x512 .fp8e5m2) (a4 : Vec Ideal S8x12x1x1024 .f32) (a5 : Vec Ideal S8x12x1x1024 .f32) (a6 : Vec Ideal S8x12800x512 .bf16) (a7 : Vec Ideal S8x576x12800 .bf16) (a8 : Vec Ideal S8x12800x128 .bf16) (a9 : Vec Ideal S8x3x12800x128 .bf16)

/-- The rotary columns, as spelled within the whole. -/
theorem pay14_eq : k0_pay14 (F := Ideal) a0 a1 a2 a3 a4 a5 a6 a7 a8 a9 = k0_pay2 a8 := by
  unfold k0_pay14; rw [show View.ld a8 r0_4 = a8 from View.ld_unit_zero (S := S8x12800x128) (funext fun a => by fin_cases a <;> rfl) _ a8]
/-- The log-sums by row, as spelled within the whole. -/
theorem pay15_eq : k0_pay15 (F := Ideal) a0 a1 a2 a3 a4 a5 a6 a7 a8 a9 = k0_pay3 a5 := by
  unfold k0_pay15; rw [show View.ld a5 r0_5 = a5 from View.ld_unit_zero (S := S8x12x1x1024) (funext fun a => by fin_cases a <;> rfl) _ a5]
/-- The row sums, as spelled within the whole. -/
theorem pay16_eq : k0_pay16 (F := Ideal) a0 a1 a2 a3 a4 a5 a6 a7 a8 a9 = k0_pay5 a4 a3 a2 := by
  unfold k0_pay16; rw [show View.ld a4 r0_5 = a4 from View.ld_unit_zero (S := S8x12x1x1024) (funext fun a => by fin_cases a <;> rfl) _ a4, show View.ld a3 r0_0 = a3 from View.ld_unit_zero (S := S8x12288x512) (funext fun a => by fin_cases a <;> rfl) _ a3, show View.ld a2 r0_0 = a2 from View.ld_unit_zero (S := S8x12288x512) (funext fun a => by fin_cases a <;> rfl) _ a2]
/-- The rounded output gradient, as spelled within the whole. -/
theorem pay17_eq : k0_pay17 (F := Ideal) a0 a1 a2 a3 a4 a5 a6 a7 a8 a9 = k0_pay6 a4 a3 := by
  unfold k0_pay17; rw [show View.ld a4 r0_5 = a4 from View.ld_unit_zero (S := S8x12x1x1024) (funext fun a => by fin_cases a <;> rfl) _ a4, show View.ld a3 r0_0 = a3 from View.ld_unit_zero (S := S8x12288x512) (funext fun a => by fin_cases a <;> rfl) _ a3]
/-- The bias, as spelled within the whole. -/
theorem pay18_eq : k0_pay18 (F := Ideal) a0 a1 a2 a3 a4 a5 a6 a7 a8 a9 = k0_pay7 a9 := by
  unfold k0_pay18; rw [show View.ld a9 r0_6 = a9 from View.ld_unit_zero (S := S8x3x12800x128) (funext fun a => by fin_cases a <;> rfl) _ a9]

/-- The stages over the arguments. -/
theorem prob_at (b : Fin 8) (r : Fin 12288) (k : Fin 12800) :
    k0_pay8 (F := Ideal) a0 a1 a6 (k0_pay2 a8) (k0_pay3 a5) (k0_pay7 a9) (ix3 b r k) = prob (ofArrays a0 a1 a2 a3 a4 a5 a6 a7 a8 a9) b r k := by
  rw [pay8_at, pay7_at, pay3_at]
  simp only [pay2_at]
  rfl

/-- The reference's score gradients, by coordinates. -/
theorem ds_at (b : Fin 8) (r : Fin 12288) (k : Fin 12800) :
    k0_pay9 (F := Ideal) a0 a1 a6 (k0_pay2 a8) (k0_pay3 a5) (k0_pay5 a4 a3 a2) (k0_pay6 a4 a3) (k0_pay7 a9) (ix3 b r k)
      = ds (ofArrays a0 a1 a2 a3 a4 a5 a6 a7 a8 a9) b r k := by
  rw [pay9_at, prob_at a0 a1 a2 a3 a4 a5 a6 a7 a8 a9, pay5_at]
  simp only [pay6_at]
  rfl

/-- The reference's query gradient, by coordinates. -/
theorem G10_at (b : Fin 8) (r : Fin 12288) (c : Fin 512) :
    G10 (F := Ideal) a0 a1 a2 a3 a4 a5 a6 a7 a8 a9 (ix3 b r c) = dq (ofArrays a0 a1 a2 a3 a4 a5 a6 a7 a8 a9) b r (⟨c.val, by omega⟩ : Fin 576) := by
  unfold G10
  rw [pay14_eq, pay15_eq, pay16_eq, pay17_eq, pay18_eq, pay10_at]
  simp only [ds_at a0 a1 a2 a3 a4 a5 a6 a7 a8 a9]
  rfl

/-- The reference's rotary query gradient, by coordinates. -/
theorem G11_at (b : Fin 8) (r : Fin 12288) (d : Fin 64) :
    G11 (F := Ideal) a0 a1 a2 a3 a4 a5 a6 a7 a8 a9 (ix3 b r d) = dq (ofArrays a0 a1 a2 a3 a4 a5 a6 a7 a8 a9) b r (⟨512 + d.val, by omega⟩ : Fin 576) := by
  unfold G11
  rw [pay14_eq, pay15_eq, pay16_eq, pay17_eq, pay18_eq, pay11_at]
  simp only [ds_at a0 a1 a2 a3 a4 a5 a6 a7 a8 a9]
  rfl

/-- The reference's compressed-key gradient, by coordinates. -/
theorem G12_at (b : Fin 8) (k : Fin 12672) (c : Fin 512) :
    G12 (F := Ideal) a0 a1 a2 a3 a4 a5 a6 a7 a8 a9 (ix3 b k c) = dc (ofArrays a0 a1 a2 a3 a4 a5 a6 a7 a8 a9) b (⟨k.val, by omega⟩ : Fin 12800) c := by
  unfold G12
  rw [pay14_eq, pay15_eq, pay16_eq, pay17_eq, pay18_eq, pay13_at]
  simp only [ds_at a0 a1 a2 a3 a4 a5 a6 a7 a8 a9, prob_at a0 a1 a2 a3 a4 a5 a6 a7 a8 a9, pay6_at]
  rfl

/-- The reference's rotary-key gradient, by coordinates. -/
theorem G13_at (b : Fin 8) (d : Fin 64) (k : Fin 12672) :
    G13 (F := Ideal) a0 a1 a2 a3 a4 a5 a6 a7 a8 a9 (ix3 b d k) = dk (ofArrays a0 a1 a2 a3 a4 a5 a6 a7 a8 a9) b (⟨k.val, by omega⟩ : Fin 12800) d := by
  unfold G13
  rw [pay14_eq, pay15_eq, pay16_eq, pay17_eq, pay18_eq, pay1_at, pay12_at]
  simp only [ds_at a0 a1 a2 a3 a4 a5 a6 a7 a8 a9]
  rfl

end Args

end Cert.ReferenceIdeal.Value

end
-- ==== Proof.Value.Algebraic.lean ====
/-
  The kernel over the reals against the plain mathematics: both leave the specification's four gradients of arguments that
  agree, when the log-sums are finite and the column of ones is one.
-/
module

public import proofs.«01_k».proof.Defs
public import proofs.«01_k».proof.Proof.Ideal.Run
public import proofs.«01_k».proof.Proof.Value.Acc
public import proofs.«01_k».proof.Proof.Value.Ref

@[expose] public section

noncomputable section

/-! ## The kernel's results -/

namespace Cert.KernelIdeal.Gen

open Idealize.ShloMosaic hiding ix0 ix1 ix2 ix3 ix4 ix5
open Idealize.ShloMosaic.TcCoe Idealize.SL Idealize.SL.Sem ValueIdx Cert.Spec
open Idealize.ShloMosaic.Pipeline (Dat)

variable (m : (ℓ : Loc nD τ sig) → Buf (Elt Ideal) ℓ) (c : Dev nD) (ρ : Dev nD → PrngReg)

/-- The four gradients of arguments `a`, as arrays. -/
def arr0 (a : Args) : S8x12288x512.Idx → EReal := fun x => dq a (x 0) (x 1) (⟨(x 2).val, lt_trans (x 2).isLt (by show 512 < 576; decide)⟩ : Fin 576)
/-- The rotary query gradient as an array. -/
def arr1 (a : Args) : S8x12288x64.Idx → EReal := fun x => dq a (x 0) (x 1) (⟨512 + (x 2).val, by have : (x 2).val < 64 := (x 2).isLt; omega⟩ : Fin 576)
/-- The compressed-key gradient as an array. -/
def arr2 (a : Args) : S8x12672x512.Idx → EReal := fun x => dc a (x 0) (⟨(x 1).val, lt_trans (x 1).isLt (by show 12672 < 12800; decide)⟩ : Fin 12800) (x 2)
/-- The rotary-key gradient as an array. -/
def arr3 (a : Args) : S8x64x12672.Idx → EReal := fun x => dk a (x 0) (⟨(x 2).val, lt_trans (x 2).isLt (by show 12672 < 12800; decide)⟩ : Fin 12800) (x 1)

/-- A flushing point is the last step of a batch and a query tile. -/
theorem coords_of_flush (t : Fin cfg0.N) : ∃ (b : Fin 8) (qi : Fin 12), (grid0.coords t 0).val = b.val ∧ (grid0.coords t 1).val = qi.val :=
  ⟨⟨_, (grid0.coords t 0).isLt⟩, ⟨_, (grid0.coords t 1).isLt⟩, rfl, rfl⟩

/-- Which block of the query gradient a point writes. -/
theorem index_11 (t : Fin cfg0.N) : win0_11.index t 0 = (grid0.coords t 0).val ∧ win0_11.index t 1 = (grid0.coords t 1).val ∧ win0_11.index t 2 = 0 :=
  ⟨word8 (grid0.coords t 0), word12 (grid0.coords t 1), rfl⟩
/-- Which block of the rotary query gradient a point writes. -/
theorem index_12 (t : Fin cfg0.N) : win0_12.index t 0 = (grid0.coords t 0).val ∧ win0_12.index t 1 = (grid0.coords t 1).val ∧ win0_12.index t 2 = 0 :=
  ⟨word8 (grid0.coords t 0), word12 (grid0.coords t 1), rfl⟩

/-- Where in the query gradient a point's block lies. -/
theorem place_11 (t : Fin cfg0.N) (b : Fin 8) (qi : Fin 12) (h0 : (grid0.coords t 0).val = b.val) (h1 : (grid0.coords t 1).val = qi.val)
    (u : Fin 1) (r : Fin 1024) (e : Fin 512) :
    (((cfg0.win 11).blk t).view.emb (ix3 u r e) : S8x12288x512.Idx) = ix3 b (qrow qi r) e := by
  obtain ⟨i0, i1, i2⟩ := index_11 t
  funext ax; apply Fin.ext
  match ax with
  | ⟨0, _⟩ => show win0_11.index t 0 * 1 + 1 * u.val = b.val; rw [i0, h0]; omega
  | ⟨1, _⟩ => show win0_11.index t 1 * 1024 + 1 * r.val = qi.val * 1024 + r.val; rw [i1, h1]; omega
  | ⟨2, _⟩ => show win0_11.index t 2 * 512 + 1 * e.val = e.val; rw [i2]; omega
/-- Where in the rotary query gradient a point's block lies. -/
theorem place_12 (t : Fin cfg0.N) (b : Fin 8) (qi : Fin 12) (h0 : (grid0.coords t 0).val = b.val) (h1 : (grid0.coords t 1).val = qi.val)
    (u : Fin 1) (r : Fin 1024) (e : Fin 64) :
    (((cfg0.win 12).blk t).view.emb (ix3 u r e) : S8x12288x64.Idx) = ix3 b (qrow qi r) e := by
  obtain ⟨i0, i1, i2⟩ := index_12 t
  funext ax; apply Fin.ext
  match ax with
  | ⟨0, _⟩ => show win0_12.index t 0 * 1 + 1 * u.val = b.val; rw [i0, h0]; omega
  | ⟨1, _⟩ => show win0_12.index t 1 * 1024 + 1 * r.val = qi.val * 1024 + r.val; rw [i1, h1]; omega
  | ⟨2, _⟩ => show win0_12.index t 2 * 64 + 1 * e.val = e.val; rw [i2]; omega

/-- The last step of batch `b` and query tile `qi`. -/
theorem last_flush (b : Fin 8) (qi : Fin 12) : (pt b.val qi.val 25).val % 26 = 25 := by
  have h : (pt b.val qi.val 25).val = (b.val * 12 + qi.val) * 26 + 25 := pt_val b qi 25
  rw [h]; omega

/-- The query gradient the kernel leaves is the specification's. -/
theorem result_11 (hg : Given m c) : (dats m 0 c).arrAt 11 cfg0.N = arr0 (argsOf m c) := by
  refine (dats m 0 c).arrAt_eq_of_cover 11 _ (fun t hf => ?_) (fun i => ?_)
  · obtain ⟨b, qi, h0, h1⟩ := coords_of_flush t
    show (dats m 0 c).after 11 t = _
    rw [after_11, h0, h1]
    funext x
    rw [View.read_apply]
    obtain ⟨u, r, e, rfl⟩ : ∃ (u : Fin 1) (r : Fin 1024) (e : Fin 512), (x : S1x1024x512.Idx) = ix3 u r e :=
      ⟨x 0, x 1, x 2, by funext ax; match ax with | ⟨0, _⟩ => rfl | ⟨1, _⟩ => rfl | ⟨2, _⟩ => rfl⟩
    refine (dqOut_final hg b qi u r e).trans ?_
    exact (congrArg (arr0 (argsOf m c)) (place_11 t b qi h0 h1 u r e)).symm
  · have hi1 : (i 1).val < 12288 := (i 1).isLt
    let b : Fin 8 := i 0
    let qi : Fin 12 := ⟨(i 1).val / 1024, by omega⟩
    let r : Fin 1024 := ⟨(i 1).val % 1024, by omega⟩
    refine ⟨pt b.val qi.val 25, (flush0_11 _).mpr (last_flush b qi), ?_⟩
    have hp := place_11 (pt b.val qi.val 25) b qi (pt_0 b qi 25) (pt_1 b qi 25) 0 r (i 2)
    have hi : (ix3 b (qrow qi r) (i 2) : S8x12288x512.Idx) = i := by
      funext ax
      match ax with
      | ⟨0, _⟩ => rfl
      | ⟨1, _⟩ => exact Fin.ext (by show (i 1).val / 1024 * 1024 + (i 1).val % 1024 = (i 1).val; omega)
      | ⟨2, _⟩ => rfl
    rw [← hi, ← hp]
    exact View.emb_mem_set _ _

/-- The rotary query gradient the kernel leaves is the specification's. -/
theorem result_12 (hg : Given m c) : (dats m 0 c).arrAt 12 cfg0.N = arr1 (argsOf m c) := by
  refine (dats m 0 c).arrAt_eq_of_cover 12 _ (fun t hf => ?_) (fun i => ?_)
  · obtain ⟨b, qi, h0, h1⟩ := coords_of_flush t
    show (dats m 0 c).after 12 t = _
    rw [after_12, h0, h1]
    funext x
    rw [View.read_apply]
    obtain ⟨u, r, e, rfl⟩ : ∃ (u : Fin 1) (r : Fin 1024) (e : Fin 64), (x : S1x1024x64.Idx) = ix3 u r e :=
      ⟨x 0, x 1, x 2, by funext ax; match ax with | ⟨0, _⟩ => rfl | ⟨1, _⟩ => rfl | ⟨2, _⟩ => rfl⟩
    refine (dqrOut_final hg b qi u r e).trans ?_
    exact (congrArg (arr1 (argsOf m c)) (place_12 t b qi h0 h1 u r e)).symm
  · have hi1 : (i 1).val < 12288 := (i 1).isLt
    let b : Fin 8 := i 0
    let qi : Fin 12 := ⟨(i 1).val / 1024, by omega⟩
    let r : Fin 1024 := ⟨(i 1).val % 1024, by omega⟩
    refine ⟨pt b.val qi.val 25, (flush0_12 _).mpr (last_flush b qi), ?_⟩
    have hp := place_12 (pt b.val qi.val 25) b qi (pt_0 b qi 25) (pt_1 b qi 25) 0 r (i 2)
    have hi : (ix3 b (qrow qi r) (i 2) : S8x12288x64.Idx) = i := by
      funext ax
      match ax with
      | ⟨0, _⟩ => rfl
      | ⟨1, _⟩ => exact Fin.ext (by show (i 1).val / 1024 * 1024 + (i 1).val % 1024 = (i 1).val; omega)
      | ⟨2, _⟩ => rfl
    rw [← hi, ← hp]
    exact View.emb_mem_set _ _

/-- The compressed-key gradient the kernel leaves is the specification's. -/
theorem result_16 (hg : Given m c) : homeFC m c 8 = arr2 (argsOf m c) := funext fun x => by
  obtain ⟨b, k, e, rfl⟩ : ∃ (b : Fin 8) (k : Fin 12672) (e : Fin 512), (x : S8x12672x512.Idx) = ix3 b k e :=
    ⟨x 0, x 1, x 2, by funext ax; match ax with | ⟨0, _⟩ => rfl | ⟨1, _⟩ => rfl | ⟨2, _⟩ => rfl⟩
  exact homeC_at hg b k e
/-- The rotary-key gradient the kernel leaves is the specification's. -/
theorem result_17 (hg : Given m c) : homeFK m c 8 = arr3 (argsOf m c) := funext fun x => by
  obtain ⟨b, e, k, rfl⟩ : ∃ (b : Fin 8) (e : Fin 64) (k : Fin 12672), (x : S8x64x12672.Idx) = ix3 b e k :=
    ⟨x 0, x 1, x 2, by funext ax; match ax with | ⟨0, _⟩ => rfl | ⟨1, _⟩ => rfl | ⟨2, _⟩ => rfl⟩
  exact homeK_at hg b e k

/-- THE KERNEL over the reals leaves the four gradients of its arguments, and the arguments as they were. -/
theorem run_value (hg : ∀ c, Given m c) : θ_run defs (onTc (τ := τ) (main (F := Ideal))) ⟨m, fun _ => 0, ρ⟩ fun r => ∀ c : Dev nD,
      r.2.mem ((c.tc : Thread nD τ).loc main_v0_0) = arr0 (argsOf m c)
      ∧ r.2.mem ((c.tc : Thread nD τ).loc main_v0_1) = arr1 (argsOf m c)
      ∧ r.2.mem ((c.tc : Thread nD τ).loc main_v0_2) = arr2 (argsOf m c)
      ∧ r.2.mem ((c.tc : Thread nD τ).loc main_v0_3) = arr3 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1.1 c).1 11).trans (result_11 m c (hg c)),
      ((h.1.1 c).1 12).trans (result_12 m c (hg c)),
      ((h.1.2 c main_v0_2 (by decide)).trans (by unfold G; rw [dif_pos rfl])).trans (result_16 m c (hg c)),
      ((h.1.2 c main_v0_3 (by decide)).trans (by unfold G; rw [dif_neg (by decide), dif_pos rfl])).trans (result_17 m c (hg c)),
      ((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 4).trans (((dats m 0 c).arrAt_in 4 rfl _).trans ((A_eq m c 4).trans (V_main_arg4 m c))),
      ((h.1.1 c).1 5).trans (((dats m 0 c).arrAt_in 5 rfl _).trans ((A_eq m c 5).trans (V_main_arg5 m c))),
      ((h.1.1 c).1 6).trans (((dats m 0 c).arrAt_in 6 rfl _).trans ((A_eq m c 6).trans (V_main_arg6 m c))),
      ((h.1.1 c).1 10).trans (((dats m 0 c).arrAt_in 10 rfl _).trans ((A_eq m c 10).trans (V_main_arg7 m c))),
      ((h.1.1 c).1 7).trans (((dats m 0 c).arrAt_in 7 rfl _).trans ((A_eq m c 7).trans (V_main_arg8 m c))),
      ((h.1.1 c).1 8).trans (((dats m 0 c).arrAt_in 8 rfl _).trans ((A_eq m c 8).trans (V_main_arg9 m c)))⟩) (run_main m ρ)

end Cert.KernelIdeal.Gen

/-! ## The reference's results -/

namespace Cert.ReferenceIdeal.Value

open Idealize.ShloMosaic hiding ix0 ix1 ix2 ix3 ix4 ix5
open ValueIdx Cert.Spec

variable (a0 : FVec Ideal S8x12288x512 .bf16) (a1 : FVec Ideal S8x12288x64 .bf16) (a2 : FVec Ideal S8x12288x512 .bf16)
  (a3 : FVec Ideal S8x12288x512 .fp8e5m2) (a4 a5 : FVec Ideal S8x12x1x1024 .f32) (a6 : FVec Ideal S8x12800x512 .bf16)
  (a7 : FVec Ideal S8x576x12800 .bf16) (a8 : FVec Ideal S8x12800x128 .bf16) (a9 : FVec Ideal S8x3x12800x128 .bf16)

/-- The reference's query gradient is the specification's. -/
theorem ref_0 : G10 (F := Ideal) a0 a1 a2 a3 a4 a5 a6 a7 a8 a9 = Cert.KernelIdeal.Gen.arr0 (ofArrays a0 a1 a2 a3 a4 a5 a6 a7 a8 a9) := funext fun x => by
  obtain ⟨b, r, e, rfl⟩ : ∃ (b : Fin 8) (r : Fin 12288) (e : Fin 512), x = ix3 b r e :=
    ⟨x 0, x 1, x 2, by funext ax; match ax with | ⟨0, _⟩ => rfl | ⟨1, _⟩ => rfl | ⟨2, _⟩ => rfl⟩
  exact G10_at a0 a1 a2 a3 a4 a5 a6 a7 a8 a9 b r e
/-- The reference's rotary query gradient is the specification's. -/
theorem ref_1 : G11 (F := Ideal) a0 a1 a2 a3 a4 a5 a6 a7 a8 a9 = Cert.KernelIdeal.Gen.arr1 (ofArrays a0 a1 a2 a3 a4 a5 a6 a7 a8 a9) := funext fun x => by
  obtain ⟨b, r, e, rfl⟩ : ∃ (b : Fin 8) (r : Fin 12288) (e : Fin 64), x = ix3 b r e :=
    ⟨x 0, x 1, x 2, by funext ax; match ax with | ⟨0, _⟩ => rfl | ⟨1, _⟩ => rfl | ⟨2, _⟩ => rfl⟩
  exact G11_at a0 a1 a2 a3 a4 a5 a6 a7 a8 a9 b r e
/-- The reference's compressed-key gradient is the specification's. -/
theorem ref_2 : G12 (F := Ideal) a0 a1 a2 a3 a4 a5 a6 a7 a8 a9 = Cert.KernelIdeal.Gen.arr2 (ofArrays a0 a1 a2 a3 a4 a5 a6 a7 a8 a9) := funext fun x => by
  obtain ⟨b, k, e, rfl⟩ : ∃ (b : Fin 8) (k : Fin 12672) (e : Fin 512), x = ix3 b k e :=
    ⟨x 0, x 1, x 2, by funext ax; match ax with | ⟨0, _⟩ => rfl | ⟨1, _⟩ => rfl | ⟨2, _⟩ => rfl⟩
  exact G12_at a0 a1 a2 a3 a4 a5 a6 a7 a8 a9 b k e
/-- The reference's rotary-key gradient is the specification's. -/
theorem ref_3 : G13 (F := Ideal) a0 a1 a2 a3 a4 a5 a6 a7 a8 a9 = Cert.KernelIdeal.Gen.arr3 (ofArrays a0 a1 a2 a3 a4 a5 a6 a7 a8 a9) := funext fun x => by
  obtain ⟨b, d, k, rfl⟩ : ∃ (b : Fin 8) (d : Fin 64) (k : Fin 12672), x = ix3 b d k :=
    ⟨x 0, x 1, x 2, by funext ax; match ax with | ⟨0, _⟩ => rfl | ⟨1, _⟩ => rfl | ⟨2, _⟩ => rfl⟩
  exact G13_at a0 a1 a2 a3 a4 a5 a6 a7 a8 a9 b d k

end Cert.ReferenceIdeal.Value

/-! ## The claim -/

namespace Cert.Proof

open Idealize.ShloMosaic hiding ix0 ix1 ix2 ix3 ix4 ix5
open Idealize.ShloMosaic.TcCoe Idealize.SL.Sem ValueIdx

instance preFacts : Cert.Pre_lse_finite.Facts := ⟨by decide, by decide, by decide⟩

/-- A number whose absolute value is below infinity is real. -/
theorem real_of_abs_lt (z : EReal) (h : Ideal.cmp .olt (max z (-z)) ⊤ = 1#1) : ∃ l : ℝ, z = (l : EReal) := by
  induction z with
  | bot => simp [Ideal.cmp] at h
  | top => simp [Ideal.cmp] at h
  | coe l => exact ⟨l, rfl⟩

/-- Two numbers that compare equal are equal. -/
theorem eq_of_cmp (z w : EReal) (h : Ideal.cmp .oeq z w = 1#1) : z = w := by
  by_contra hne
  simp [Ideal.cmp, hne] at h

/-- The bit pattern of infinity denotes infinity. -/
theorem inf_f32 : Ideal.ofBits .f32 0x7F800000#32 = ⊤ := by simp [Ideal.ofBits, Ideal.ieee]

/-- What the precondition says of the log-sums and of the column of ones. -/
theorem given_of_pre (m : (ℓ : Loc Cert.KernelIdeal.nD Cert.KernelIdeal.τ Cert.KernelIdeal.sig) → Buf (Elt Ideal) ℓ)
    (h : Cert.Pre_KernelIdeal_lse_finite m) (c : Dev Cert.KernelIdeal.nD) : Cert.KernelIdeal.Gen.Given m c where
  fin b qi r := by
    have h1 := congrFun (h c).1 (ix4 b qi (0 : Fin 1) r)
    refine real_of_abs_lt _ ?_
    rw [← inf_f32]
    exact h1
  one b k := by
    have h1 := congrFun (h c).2 (ix3 b k (0 : Fin 1))
    have e : extractStridedSlice Cert.Pre_lse_finite.S8x12800x1 ![0, 0, 64]
        (m ((c : Thread Cert.KernelIdeal.nD Cert.KernelIdeal.τ).loc Cert.KernelIdeal.main_arg8) : Cert.Pre_lse_finite.S8x12800x128.Idx → EReal)
        preFacts.slices_S8x12800x128_S8x12800x1_0_0_64 (ix3 b k (0 : Fin 1))
        = (m ((c : Thread Cert.KernelIdeal.nD Cert.KernelIdeal.τ).loc Cert.KernelIdeal.main_arg8) : Cert.Pre_lse_finite.S8x12800x128.Idx → EReal)
          (ix3 b k (64 : Fin 128)) :=
      congrArg (m ((c : Thread Cert.KernelIdeal.nD Cert.KernelIdeal.τ).loc Cert.KernelIdeal.main_arg8) : Cert.Pre_lse_finite.S8x12800x128.Idx → EReal)
        (funext fun ax => by
          apply Fin.ext
          match ax with
          | ⟨0, _⟩ => show 0 + b.val = b.val; omega
          | ⟨1, _⟩ => show 0 + k.val = k.val; omega
          | ⟨2, _⟩ => rfl)
    rw [← Ideal.ofBits_one_bf16, ← e]
    exact eq_of_cmp _ _ h1

/-- Over the extended reals the kernel's four results are the reference's, when the log-sums are finite and the column
    of ones holds ones. -/
theorem algebraic : Cert.algebraic_KernelIdeal_ReferenceIdeal_pre_lse_finite := by
  intro m ρ m' ρ' hpre hagree
  refine ⟨_, _, _, _, Cert.KernelIdeal.Gen.run_value m ρ (given_of_pre m hpre), ?_⟩
  refine (θ_run Cert.ReferenceIdeal.defs _ _).mono (fun _ h c => ⟨(h c).1.trans ?_, (h c).2.1.trans ?_, (h c).2.2.1.trans ?_, (h c).2.2.2.1.trans ?_, (h c).2.2.2.2⟩)
    (Cert.ReferenceIdeal.Value.run (F := Ideal) m' ρ')
  all_goals
    obtain ⟨e0, e1, e2, e3, e4, e5, e6, e7, e8, e9⟩ := hagree c
    rw [e0, e1, e2, e3, e4, e5, e6, e7, e8, e9]
  · exact Cert.ReferenceIdeal.Value.ref_0 _ _ _ _ _ _ _ _ _ _
  · exact Cert.ReferenceIdeal.Value.ref_1 _ _ _ _ _ _ _ _ _ _
  · exact Cert.ReferenceIdeal.Value.ref_2 _ _ _ _ _ _ _ _ _ _
  · exact Cert.ReferenceIdeal.Value.ref_3 _ _ _ _ _ _ _ _ _ _

end Cert.Proof

end
-- ==== Proof.lean ====
/-
  The claims assembled: the kernel and the reference leave their arguments as they were and every semaphore at zero, the
  kernel's constants are named, and over the reals the kernel's four results are the reference's.
-/
module

public import proofs.«01_k».proof.Defs
public import proofs.«01_k».proof.Proof.Gen.Kernel
public import proofs.«01_k».proof.Proof.Gen.KernelIdeal
public import proofs.«01_k».proof.Proof.Run
public import proofs.«01_k».proof.Proof.Ideal.Run
public import proofs.«01_k».proof.Proof.Gen.ReferenceIdeal.Value
public import proofs.«01_k».proof.Proof.Value.Algebraic
public import Idealize.ShloMosaic.Adequacy
public import Idealize.ShloMosaic.Init

@[expose] public section

noncomputable section

namespace Cert.Proof

open Idealize.ShloMosaic Idealize.SL.Sem

/-- The kernel on bits leaves its arguments and ends with every semaphore at zero. -/
theorem frame_p : Cert.quiescent_Kernel := fun m g _ => Cert.Kernel.Gen.frame m g
/-- So does the kernel over the reals. -/
theorem frame_pi : Cert.quiescent_KernelIdeal := fun m g _ => Cert.KernelIdeal.Gen.frame m g
/-- So does the reference over the reals. -/
theorem frame_ri : Cert.quiescent_ReferenceIdeal := fun m g _ => Cert.ReferenceIdeal.Gen.frame m g

/-- The three named constants are the numbers they stand for. -/
theorem preserves : Cert.preserves_Kernel_KernelIdeal :=
  ⟨IdealRules.named_const.statement Cert.KernelIdeal.κ "neg_inv_sm" .f32 0xC15DB3D7#32 ((-(Real.sqrt 192) : ℝ) : EReal) rfl,
    IdealRules.named_const.statement Cert.KernelIdeal.κ "sm_log2e" .f32 0x3DD53B95#32 (((Real.sqrt 192)⁻¹ * (Real.log 2)⁻¹ : ℝ) : EReal) rfl,
    IdealRules.named_const.statement Cert.KernelIdeal.κ "sm" .f32 0x3D93CD3A#32 (((Real.sqrt 192)⁻¹ : ℝ) : EReal) rfl⟩

/-- All the claims, with the printed programs' side facts. -/
theorem claim : Cert.Claim :=
  ⟨Cert.Kernel.Gen.facts, Cert.KernelIdeal.Gen.facts, Cert.ReferenceIdeal.Gen.facts, preFacts, frame_p, frame_pi,
    fun m g _ => Cert.KernelIdeal.Gen.frame m g, frame_ri, fun m g _ => Cert.ReferenceIdeal.Gen.frame m g, preserves, algebraic⟩

end Cert.Proof

end
